-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelGu (m : (ℓ : Loc Cert.KernelGu.nD Cert.KernelGu.τ Cert.KernelGu.sig) → Buf (Elt Bits) ℓ) : Prop :=
  True

def Pre_KernelGuIdeal (m : (ℓ : Loc Cert.KernelGuIdeal.nD Cert.KernelGuIdeal.τ Cert.KernelGuIdeal.sig) → Buf (Elt Ideal) ℓ) : Prop :=
  True

def Pre_ReferenceGuIdeal (m : (ℓ : Loc Cert.ReferenceGuIdeal.nD Cert.ReferenceGuIdeal.τ Cert.ReferenceGuIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelDh (m : (ℓ : Loc Cert.KernelDh.nD Cert.KernelDh.τ Cert.KernelDh.sig) → Buf (Elt Bits) ℓ) : Prop :=
  True

def Pre_KernelDhIdeal (m : (ℓ : Loc Cert.KernelDhIdeal.nD Cert.KernelDhIdeal.τ Cert.KernelDhIdeal.sig) → Buf (Elt Ideal) ℓ) : Prop :=
  True

def Pre_ReferenceDhIdeal (m : (ℓ : Loc Cert.ReferenceDhIdeal.nD Cert.ReferenceDhIdeal.τ Cert.ReferenceDhIdeal.sig) → Buf (Elt Ideal) ℓ) : Prop :=
  True

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def Pre_KernelDout (m : (ℓ : Loc Cert.KernelDout.nD Cert.KernelDout.τ Cert.KernelDout.sig) → Buf (Elt Bits) ℓ) : Prop :=
  True

def Pre_KernelDoutIdeal (m : (ℓ : Loc Cert.KernelDoutIdeal.nD Cert.KernelDoutIdeal.τ Cert.KernelDoutIdeal.sig) → Buf (Elt Ideal) ℓ) : Prop :=
  True

def Pre_ReferenceDoutIdeal (m : (ℓ : Loc Cert.ReferenceDoutIdeal.nD Cert.ReferenceDoutIdeal.τ Cert.ReferenceDoutIdeal.sig) → Buf (Elt Ideal) ℓ) : Prop :=
  True

def Pre_KernelDatt (m : (ℓ : Loc Cert.KernelDatt.nD Cert.KernelDatt.τ Cert.KernelDatt.sig) → Buf (Elt Bits) ℓ) : Prop :=
  True

def Pre_KernelDattIdeal (m : (ℓ : Loc Cert.KernelDattIdeal.nD Cert.KernelDattIdeal.τ Cert.KernelDattIdeal.sig) → Buf (Elt Ideal) ℓ) : Prop :=
  True

def Pre_ReferenceDattIdeal (m : (ℓ : Loc Cert.ReferenceDattIdeal.nD Cert.ReferenceDattIdeal.τ Cert.ReferenceDattIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelAtt (m : (ℓ : Loc Cert.KernelAtt.nD Cert.KernelAtt.τ Cert.KernelAtt.sig) → Buf (Elt Bits) ℓ) : Prop :=
  True

def Pre_KernelAttIdeal (m : (ℓ : Loc Cert.KernelAttIdeal.nD Cert.KernelAttIdeal.τ Cert.KernelAttIdeal.sig) → Buf (Elt Ideal) ℓ) : Prop :=
  True

def Pre_ReferenceAttIdeal (m : (ℓ : Loc Cert.ReferenceAttIdeal.nD Cert.ReferenceAttIdeal.τ Cert.ReferenceAttIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelSeen (m : (ℓ : Loc Cert.KernelSeen.nD Cert.KernelSeen.τ Cert.KernelSeen.sig) → Buf (Elt Bits) ℓ) : Prop :=
  True

def Pre_KernelSeenIdeal (m : (ℓ : Loc Cert.KernelSeenIdeal.nD Cert.KernelSeenIdeal.τ Cert.KernelSeenIdeal.sig) → Buf (Elt Ideal) ℓ) : Prop :=
  True

def Pre_ReferenceSeenIdeal (m : (ℓ : Loc Cert.ReferenceSeenIdeal.nD Cert.ReferenceSeenIdeal.τ Cert.ReferenceSeenIdeal.sig) → Buf (Elt Ideal) ℓ) : Prop :=
  True

def Pre_KernelFed (m : (ℓ : Loc Cert.KernelFed.nD Cert.KernelFed.τ Cert.KernelFed.sig) → Buf (Elt Bits) ℓ) : Prop :=
  True

def Pre_KernelFedIdeal (m : (ℓ : Loc Cert.KernelFedIdeal.nD Cert.KernelFedIdeal.τ Cert.KernelFedIdeal.sig) → Buf (Elt Ideal) ℓ) : Prop :=
  True

def Pre_ReferenceFedIdeal (m : (ℓ : Loc Cert.ReferenceFedIdeal.nD Cert.ReferenceFedIdeal.τ Cert.ReferenceFedIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelGate (m : (ℓ : Loc Cert.KernelGate.nD Cert.KernelGate.τ Cert.KernelGate.sig) → Buf (Elt Bits) ℓ) : Prop :=
  True

def Pre_KernelGateIdeal (m : (ℓ : Loc Cert.KernelGateIdeal.nD Cert.KernelGateIdeal.τ Cert.KernelGateIdeal.sig) → Buf (Elt Ideal) ℓ) : Prop :=
  True

def Pre_ReferenceGateIdeal (m : (ℓ : Loc Cert.ReferenceGateIdeal.nD Cert.ReferenceGateIdeal.τ Cert.ReferenceGateIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelGu [hKernelGu : Cert.KernelGu.Facts] : Prop :=
  ∀ (m : (ℓ : Loc Cert.KernelGu.nD Cert.KernelGu.τ Cert.KernelGu.sig) → Buf (Elt Bits) ℓ) (g : Dev Cert.KernelGu.nD → PrngReg), Pre_KernelGu m →
    θ_run (Cert.KernelGu.defs (F := Bits)) (onTc (τ := Cert.KernelGu.τ) (Cert.KernelGu.main (F := Bits))) ⟨m, fun _ => 0, g⟩ (fun r => (∀ c : Dev Cert.KernelGu.nD,
      r.2.mem ((c.tc : Thread Cert.KernelGu.nD Cert.KernelGu.τ).loc Cert.KernelGu.main_arg0) = m ((c.tc : Thread Cert.KernelGu.nD Cert.KernelGu.τ).loc Cert.KernelGu.main_arg0)
      ∧ r.2.mem ((c.tc : Thread Cert.KernelGu.nD Cert.KernelGu.τ).loc Cert.KernelGu.main_arg1) = m ((c.tc : Thread Cert.KernelGu.nD Cert.KernelGu.τ).loc Cert.KernelGu.main_arg1)
      ∧ r.2.mem ((c.tc : Thread Cert.KernelGu.nD Cert.KernelGu.τ).loc Cert.KernelGu.main_arg2) = m ((c.tc : Thread Cert.KernelGu.nD Cert.KernelGu.τ).loc Cert.KernelGu.main_arg2))
      ∧ r.2.sem = fun _ => 0)

def quiescent_KernelGuIdeal [hKernelGuIdeal : Cert.KernelGuIdeal.Facts] : Prop :=
  ∀ (m : (ℓ : Loc Cert.KernelGuIdeal.nD Cert.KernelGuIdeal.τ Cert.KernelGuIdeal.sig) → Buf (Elt Ideal) ℓ) (g : Dev Cert.KernelGuIdeal.nD → PrngReg), Pre_KernelGuIdeal m →
    θ_run (Cert.KernelGuIdeal.defs (F := Ideal)) (onTc (τ := Cert.KernelGuIdeal.τ) (Cert.KernelGuIdeal.main (F := Ideal))) ⟨m, fun _ => 0, g⟩ (fun r => (∀ c : Dev Cert.KernelGuIdeal.nD,
      r.2.mem ((c.tc : Thread Cert.KernelGuIdeal.nD Cert.KernelGuIdeal.τ).loc Cert.KernelGuIdeal.main_arg0) = m ((c.tc : Thread Cert.KernelGuIdeal.nD Cert.KernelGuIdeal.τ).loc Cert.KernelGuIdeal.main_arg0)
      ∧ r.2.mem ((c.tc : Thread Cert.KernelGuIdeal.nD Cert.KernelGuIdeal.τ).loc Cert.KernelGuIdeal.main_arg1) = m ((c.tc : Thread Cert.KernelGuIdeal.nD Cert.KernelGuIdeal.τ).loc Cert.KernelGuIdeal.main_arg1)
      ∧ r.2.mem ((c.tc : Thread Cert.KernelGuIdeal.nD Cert.KernelGuIdeal.τ).loc Cert.KernelGuIdeal.main_arg2) = m ((c.tc : Thread Cert.KernelGuIdeal.nD Cert.KernelGuIdeal.τ).loc Cert.KernelGuIdeal.main_arg2))
      ∧ r.2.sem = fun _ => 0)

def quiescent_ReferenceGuIdeal [hReferenceGuIdeal : Cert.ReferenceGuIdeal.Facts] : Prop :=
  ∀ (m : (ℓ : Loc Cert.ReferenceGuIdeal.nD Cert.ReferenceGuIdeal.τ Cert.ReferenceGuIdeal.sig) → Buf (Elt Ideal) ℓ) (g : Dev Cert.ReferenceGuIdeal.nD → PrngReg), Pre_ReferenceGuIdeal m →
    θ_run (Cert.ReferenceGuIdeal.defs (F := Ideal)) (onTc (τ := Cert.ReferenceGuIdeal.τ) (Cert.ReferenceGuIdeal.main (F := Ideal))) ⟨m, fun _ => 0, g⟩ (fun r => (∀ c : Dev Cert.ReferenceGuIdeal.nD,
      r.2.mem ((c.tc : Thread Cert.ReferenceGuIdeal.nD Cert.ReferenceGuIdeal.τ).loc Cert.ReferenceGuIdeal.main_arg0) = m ((c.tc : Thread Cert.ReferenceGuIdeal.nD Cert.ReferenceGuIdeal.τ).loc Cert.ReferenceGuIdeal.main_arg0)
      ∧ r.2.mem ((c.tc : Thread Cert.ReferenceGuIdeal.nD Cert.ReferenceGuIdeal.τ).loc Cert.ReferenceGuIdeal.main_arg1) = m ((c.tc : Thread Cert.ReferenceGuIdeal.nD Cert.ReferenceGuIdeal.τ).loc Cert.ReferenceGuIdeal.main_arg1)
      ∧ r.2.mem ((c.tc : Thread Cert.ReferenceGuIdeal.nD Cert.ReferenceGuIdeal.τ).loc Cert.ReferenceGuIdeal.main_arg2) = m ((c.tc : Thread Cert.ReferenceGuIdeal.nD Cert.ReferenceGuIdeal.τ).loc Cert.ReferenceGuIdeal.main_arg2))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelDh [hKernelDh : Cert.KernelDh.Facts] : Prop :=
  ∀ (m : (ℓ : Loc Cert.KernelDh.nD Cert.KernelDh.τ Cert.KernelDh.sig) → Buf (Elt Bits) ℓ) (g : Dev Cert.KernelDh.nD → PrngReg), Pre_KernelDh m →
    θ_run (Cert.KernelDh.defs (F := Bits)) (onTc (τ := Cert.KernelDh.τ) (Cert.KernelDh.main (F := Bits))) ⟨m, fun _ => 0, g⟩ (fun r => (∀ c : Dev Cert.KernelDh.nD,
      r.2.mem ((c.tc : Thread Cert.KernelDh.nD Cert.KernelDh.τ).loc Cert.KernelDh.main_arg0) = m ((c.tc : Thread Cert.KernelDh.nD Cert.KernelDh.τ).loc Cert.KernelDh.main_arg0)
      ∧ r.2.mem ((c.tc : Thread Cert.KernelDh.nD Cert.KernelDh.τ).loc Cert.KernelDh.main_arg1) = m ((c.tc : Thread Cert.KernelDh.nD Cert.KernelDh.τ).loc Cert.KernelDh.main_arg1)
      ∧ r.2.mem ((c.tc : Thread Cert.KernelDh.nD Cert.KernelDh.τ).loc Cert.KernelDh.main_arg2) = m ((c.tc : Thread Cert.KernelDh.nD Cert.KernelDh.τ).loc Cert.KernelDh.main_arg2)
      ∧ r.2.mem ((c.tc : Thread Cert.KernelDh.nD Cert.KernelDh.τ).loc Cert.KernelDh.main_arg3) = m ((c.tc : Thread Cert.KernelDh.nD Cert.KernelDh.τ).loc Cert.KernelDh.main_arg3)
      ∧ r.2.mem ((c.tc : Thread Cert.KernelDh.nD Cert.KernelDh.τ).loc Cert.KernelDh.main_arg4) = m ((c.tc : Thread Cert.KernelDh.nD Cert.KernelDh.τ).loc Cert.KernelDh.main_arg4))
      ∧ r.2.sem = fun _ => 0)

def quiescent_KernelDhIdeal [hKernelDhIdeal : Cert.KernelDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg), Pre_KernelDhIdeal m →
    θ_run (Cert.KernelDhIdeal.defs (F := Ideal)) (onTc (τ := Cert.KernelDhIdeal.τ) (Cert.KernelDhIdeal.main (F := Ideal))) ⟨m, fun _ => 0, g⟩ (fun r => (∀ c : Dev Cert.KernelDhIdeal.nD,
      r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
      ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
      ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
      ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
      ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4))
      ∧ r.2.sem = fun _ => 0)

def quiescent_ReferenceDhIdeal [hReferenceDhIdeal : Cert.ReferenceDhIdeal.Facts] : Prop :=
  ∀ (m : (ℓ : Loc Cert.ReferenceDhIdeal.nD Cert.ReferenceDhIdeal.τ Cert.ReferenceDhIdeal.sig) → Buf (Elt Ideal) ℓ) (g : Dev Cert.ReferenceDhIdeal.nD → PrngReg), Pre_ReferenceDhIdeal m →
    θ_run (Cert.ReferenceDhIdeal.defs (F := Ideal)) (onTc (τ := Cert.ReferenceDhIdeal.τ) (Cert.ReferenceDhIdeal.main (F := Ideal))) ⟨m, fun _ => 0, g⟩ (fun r => (∀ c : Dev Cert.ReferenceDhIdeal.nD,
      r.2.mem ((c.tc : Thread Cert.ReferenceDhIdeal.nD Cert.ReferenceDhIdeal.τ).loc Cert.ReferenceDhIdeal.main_arg0) = m ((c.tc : Thread Cert.ReferenceDhIdeal.nD Cert.ReferenceDhIdeal.τ).loc Cert.ReferenceDhIdeal.main_arg0)
      ∧ r.2.mem ((c.tc : Thread Cert.ReferenceDhIdeal.nD Cert.ReferenceDhIdeal.τ).loc Cert.ReferenceDhIdeal.main_arg1) = m ((c.tc : Thread Cert.ReferenceDhIdeal.nD Cert.ReferenceDhIdeal.τ).loc Cert.ReferenceDhIdeal.main_arg1)
      ∧ r.2.mem ((c.tc : Thread Cert.ReferenceDhIdeal.nD Cert.ReferenceDhIdeal.τ).loc Cert.ReferenceDhIdeal.main_arg2) = m ((c.tc : Thread Cert.ReferenceDhIdeal.nD Cert.ReferenceDhIdeal.τ).loc Cert.ReferenceDhIdeal.main_arg2)
      ∧ r.2.mem ((c.tc : Thread Cert.ReferenceDhIdeal.nD Cert.ReferenceDhIdeal.τ).loc Cert.ReferenceDhIdeal.main_arg3) = m ((c.tc : Thread Cert.ReferenceDhIdeal.nD Cert.ReferenceDhIdeal.τ).loc Cert.ReferenceDhIdeal.main_arg3)
      ∧ r.2.mem ((c.tc : Thread Cert.ReferenceDhIdeal.nD Cert.ReferenceDhIdeal.τ).loc Cert.ReferenceDhIdeal.main_arg4) = m ((c.tc : Thread Cert.ReferenceDhIdeal.nD Cert.ReferenceDhIdeal.τ).loc Cert.ReferenceDhIdeal.main_arg4))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3)
      ∧ r.2.mem ((c.tc : Thread Cert.KernelDx.nD Cert.KernelDx.τ).loc Cert.KernelDx.main_arg4) = m ((c.tc : Thread Cert.KernelDx.nD Cert.KernelDx.τ).loc Cert.KernelDx.main_arg4))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4))
      ∧ r.2.sem = fun _ => 0)

def quiescent_KernelDout [hKernelDout : Cert.KernelDout.Facts] : Prop :=
  ∀ (m : (ℓ : Loc Cert.KernelDout.nD Cert.KernelDout.τ Cert.KernelDout.sig) → Buf (Elt Bits) ℓ) (g : Dev Cert.KernelDout.nD → PrngReg), Pre_KernelDout m →
    θ_run (Cert.KernelDout.defs (F := Bits)) (onTc (τ := Cert.KernelDout.τ) (Cert.KernelDout.main (F := Bits))) ⟨m, fun _ => 0, g⟩ (fun r => (∀ c : Dev Cert.KernelDout.nD,
      r.2.mem ((c.tc : Thread Cert.KernelDout.nD Cert.KernelDout.τ).loc Cert.KernelDout.main_arg0) = m ((c.tc : Thread Cert.KernelDout.nD Cert.KernelDout.τ).loc Cert.KernelDout.main_arg0)
      ∧ r.2.mem ((c.tc : Thread Cert.KernelDout.nD Cert.KernelDout.τ).loc Cert.KernelDout.main_arg1) = m ((c.tc : Thread Cert.KernelDout.nD Cert.KernelDout.τ).loc Cert.KernelDout.main_arg1))
      ∧ r.2.sem = fun _ => 0)

def quiescent_KernelDoutIdeal [hKernelDoutIdeal : Cert.KernelDoutIdeal.Facts] : Prop :=
  ∀ (m : (ℓ : Loc Cert.KernelDoutIdeal.nD Cert.KernelDoutIdeal.τ Cert.KernelDoutIdeal.sig) → Buf (Elt Ideal) ℓ) (g : Dev Cert.KernelDoutIdeal.nD → PrngReg), Pre_KernelDoutIdeal m →
    θ_run (Cert.KernelDoutIdeal.defs (F := Ideal)) (onTc (τ := Cert.KernelDoutIdeal.τ) (Cert.KernelDoutIdeal.main (F := Ideal))) ⟨m, fun _ => 0, g⟩ (fun r => (∀ c : Dev Cert.KernelDoutIdeal.nD,
      r.2.mem ((c.tc : Thread Cert.KernelDoutIdeal.nD Cert.KernelDoutIdeal.τ).loc Cert.KernelDoutIdeal.main_arg0) = m ((c.tc : Thread Cert.KernelDoutIdeal.nD Cert.KernelDoutIdeal.τ).loc Cert.KernelDoutIdeal.main_arg0)
      ∧ r.2.mem ((c.tc : Thread Cert.KernelDoutIdeal.nD Cert.KernelDoutIdeal.τ).loc Cert.KernelDoutIdeal.main_arg1) = m ((c.tc : Thread Cert.KernelDoutIdeal.nD Cert.KernelDoutIdeal.τ).loc Cert.KernelDoutIdeal.main_arg1))
      ∧ r.2.sem = fun _ => 0)

def quiescent_ReferenceDoutIdeal [hReferenceDoutIdeal : Cert.ReferenceDoutIdeal.Facts] : Prop :=
  ∀ (m : (ℓ : Loc Cert.ReferenceDoutIdeal.nD Cert.ReferenceDoutIdeal.τ Cert.ReferenceDoutIdeal.sig) → Buf (Elt Ideal) ℓ) (g : Dev Cert.ReferenceDoutIdeal.nD → PrngReg), Pre_ReferenceDoutIdeal m →
    θ_run (Cert.ReferenceDoutIdeal.defs (F := Ideal)) (onTc (τ := Cert.ReferenceDoutIdeal.τ) (Cert.ReferenceDoutIdeal.main (F := Ideal))) ⟨m, fun _ => 0, g⟩ (fun r => (∀ c : Dev Cert.ReferenceDoutIdeal.nD,
      r.2.mem ((c.tc : Thread Cert.ReferenceDoutIdeal.nD Cert.ReferenceDoutIdeal.τ).loc Cert.ReferenceDoutIdeal.main_arg0) = m ((c.tc : Thread Cert.ReferenceDoutIdeal.nD Cert.ReferenceDoutIdeal.τ).loc Cert.ReferenceDoutIdeal.main_arg0)
      ∧ r.2.mem ((c.tc : Thread Cert.ReferenceDoutIdeal.nD Cert.ReferenceDoutIdeal.τ).loc Cert.ReferenceDoutIdeal.main_arg1) = m ((c.tc : Thread Cert.ReferenceDoutIdeal.nD Cert.ReferenceDoutIdeal.τ).loc Cert.ReferenceDoutIdeal.main_arg1))
      ∧ r.2.sem = fun _ => 0)

def quiescent_KernelDatt [hKernelDatt : Cert.KernelDatt.Facts] : Prop :=
  ∀ (m : (ℓ : Loc Cert.KernelDatt.nD Cert.KernelDatt.τ Cert.KernelDatt.sig) → Buf (Elt Bits) ℓ) (g : Dev Cert.KernelDatt.nD → PrngReg), Pre_KernelDatt m →
    θ_run (Cert.KernelDatt.defs (F := Bits)) (onTc (τ := Cert.KernelDatt.τ) (Cert.KernelDatt.main (F := Bits))) ⟨m, fun _ => 0, g⟩ (fun r => (∀ c : Dev Cert.KernelDatt.nD,
      r.2.mem ((c.tc : Thread Cert.KernelDatt.nD Cert.KernelDatt.τ).loc Cert.KernelDatt.main_arg0) = m ((c.tc : Thread Cert.KernelDatt.nD Cert.KernelDatt.τ).loc Cert.KernelDatt.main_arg0)
      ∧ r.2.mem ((c.tc : Thread Cert.KernelDatt.nD Cert.KernelDatt.τ).loc Cert.KernelDatt.main_arg1) = m ((c.tc : Thread Cert.KernelDatt.nD Cert.KernelDatt.τ).loc Cert.KernelDatt.main_arg1))
      ∧ r.2.sem = fun _ => 0)

def quiescent_KernelDattIdeal [hKernelDattIdeal : Cert.KernelDattIdeal.Facts] : Prop :=
  ∀ (m : (ℓ : Loc Cert.KernelDattIdeal.nD Cert.KernelDattIdeal.τ Cert.KernelDattIdeal.sig) → Buf (Elt Ideal) ℓ) (g : Dev Cert.KernelDattIdeal.nD → PrngReg), Pre_KernelDattIdeal m →
    θ_run (Cert.KernelDattIdeal.defs (F := Ideal)) (onTc (τ := Cert.KernelDattIdeal.τ) (Cert.KernelDattIdeal.main (F := Ideal))) ⟨m, fun _ => 0, g⟩ (fun r => (∀ c : Dev Cert.KernelDattIdeal.nD,
      r.2.mem ((c.tc : Thread Cert.KernelDattIdeal.nD Cert.KernelDattIdeal.τ).loc Cert.KernelDattIdeal.main_arg0) = m ((c.tc : Thread Cert.KernelDattIdeal.nD Cert.KernelDattIdeal.τ).loc Cert.KernelDattIdeal.main_arg0)
      ∧ r.2.mem ((c.tc : Thread Cert.KernelDattIdeal.nD Cert.KernelDattIdeal.τ).loc Cert.KernelDattIdeal.main_arg1) = m ((c.tc : Thread Cert.KernelDattIdeal.nD Cert.KernelDattIdeal.τ).loc Cert.KernelDattIdeal.main_arg1))
      ∧ r.2.sem = fun _ => 0)

def quiescent_ReferenceDattIdeal [hReferenceDattIdeal : Cert.ReferenceDattIdeal.Facts] : Prop :=
  ∀ (m : (ℓ : Loc Cert.ReferenceDattIdeal.nD Cert.ReferenceDattIdeal.τ Cert.ReferenceDattIdeal.sig) → Buf (Elt Ideal) ℓ) (g : Dev Cert.ReferenceDattIdeal.nD → PrngReg), Pre_ReferenceDattIdeal m →
    θ_run (Cert.ReferenceDattIdeal.defs (F := Ideal)) (onTc (τ := Cert.ReferenceDattIdeal.τ) (Cert.ReferenceDattIdeal.main (F := Ideal))) ⟨m, fun _ => 0, g⟩ (fun r => (∀ c : Dev Cert.ReferenceDattIdeal.nD,
      r.2.mem ((c.tc : Thread Cert.ReferenceDattIdeal.nD Cert.ReferenceDattIdeal.τ).loc Cert.ReferenceDattIdeal.main_arg0) = m ((c.tc : Thread Cert.ReferenceDattIdeal.nD Cert.ReferenceDattIdeal.τ).loc Cert.ReferenceDattIdeal.main_arg0)
      ∧ r.2.mem ((c.tc : Thread Cert.ReferenceDattIdeal.nD Cert.ReferenceDattIdeal.τ).loc Cert.ReferenceDattIdeal.main_arg1) = m ((c.tc : Thread Cert.ReferenceDattIdeal.nD Cert.ReferenceDattIdeal.τ).loc Cert.ReferenceDattIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelAtt [hKernelAtt : Cert.KernelAtt.Facts] : Prop :=
  ∀ (m : (ℓ : Loc Cert.KernelAtt.nD Cert.KernelAtt.τ Cert.KernelAtt.sig) → Buf (Elt Bits) ℓ) (g : Dev Cert.KernelAtt.nD → PrngReg), Pre_KernelAtt m →
    θ_run (Cert.KernelAtt.defs (F := Bits)) (onTc (τ := Cert.KernelAtt.τ) (Cert.KernelAtt.main (F := Bits))) ⟨m, fun _ => 0, g⟩ (fun r => (∀ c : Dev Cert.KernelAtt.nD,
      r.2.mem ((c.tc : Thread Cert.KernelAtt.nD Cert.KernelAtt.τ).loc Cert.KernelAtt.main_arg0) = m ((c.tc : Thread Cert.KernelAtt.nD Cert.KernelAtt.τ).loc Cert.KernelAtt.main_arg0)
      ∧ r.2.mem ((c.tc : Thread Cert.KernelAtt.nD Cert.KernelAtt.τ).loc Cert.KernelAtt.main_arg1) = m ((c.tc : Thread Cert.KernelAtt.nD Cert.KernelAtt.τ).loc Cert.KernelAtt.main_arg1))
      ∧ r.2.sem = fun _ => 0)

def quiescent_KernelAttIdeal [hKernelAttIdeal : Cert.KernelAttIdeal.Facts] : Prop :=
  ∀ (m : (ℓ : Loc Cert.KernelAttIdeal.nD Cert.KernelAttIdeal.τ Cert.KernelAttIdeal.sig) → Buf (Elt Ideal) ℓ) (g : Dev Cert.KernelAttIdeal.nD → PrngReg), Pre_KernelAttIdeal m →
    θ_run (Cert.KernelAttIdeal.defs (F := Ideal)) (onTc (τ := Cert.KernelAttIdeal.τ) (Cert.KernelAttIdeal.main (F := Ideal))) ⟨m, fun _ => 0, g⟩ (fun r => (∀ c : Dev Cert.KernelAttIdeal.nD,
      r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
      ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1))
      ∧ r.2.sem = fun _ => 0)

def quiescent_ReferenceAttIdeal [hReferenceAttIdeal : Cert.ReferenceAttIdeal.Facts] : Prop :=
  ∀ (m : (ℓ : Loc Cert.ReferenceAttIdeal.nD Cert.ReferenceAttIdeal.τ Cert.ReferenceAttIdeal.sig) → Buf (Elt Ideal) ℓ) (g : Dev Cert.ReferenceAttIdeal.nD → PrngReg), Pre_ReferenceAttIdeal m →
    θ_run (Cert.ReferenceAttIdeal.defs (F := Ideal)) (onTc (τ := Cert.ReferenceAttIdeal.τ) (Cert.ReferenceAttIdeal.main (F := Ideal))) ⟨m, fun _ => 0, g⟩ (fun r => (∀ c : Dev Cert.ReferenceAttIdeal.nD,
      r.2.mem ((c.tc : Thread Cert.ReferenceAttIdeal.nD Cert.ReferenceAttIdeal.τ).loc Cert.ReferenceAttIdeal.main_arg0) = m ((c.tc : Thread Cert.ReferenceAttIdeal.nD Cert.ReferenceAttIdeal.τ).loc Cert.ReferenceAttIdeal.main_arg0)
      ∧ r.2.mem ((c.tc : Thread Cert.ReferenceAttIdeal.nD Cert.ReferenceAttIdeal.τ).loc Cert.ReferenceAttIdeal.main_arg1) = m ((c.tc : Thread Cert.ReferenceAttIdeal.nD Cert.ReferenceAttIdeal.τ).loc Cert.ReferenceAttIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2))
      ∧ r.2.sem = fun _ => 0)

def quiescent_KernelSeen [hKernelSeen : Cert.KernelSeen.Facts] : Prop :=
  ∀ (m : (ℓ : Loc Cert.KernelSeen.nD Cert.KernelSeen.τ Cert.KernelSeen.sig) → Buf (Elt Bits) ℓ) (g : Dev Cert.KernelSeen.nD → PrngReg), Pre_KernelSeen m →
    θ_run (Cert.KernelSeen.defs (F := Bits)) (onTc (τ := Cert.KernelSeen.τ) (Cert.KernelSeen.main (F := Bits))) ⟨m, fun _ => 0, g⟩ (fun r => (∀ c : Dev Cert.KernelSeen.nD,
      r.2.mem ((c.tc : Thread Cert.KernelSeen.nD Cert.KernelSeen.τ).loc Cert.KernelSeen.main_arg0) = m ((c.tc : Thread Cert.KernelSeen.nD Cert.KernelSeen.τ).loc Cert.KernelSeen.main_arg0)
      ∧ r.2.mem ((c.tc : Thread Cert.KernelSeen.nD Cert.KernelSeen.τ).loc Cert.KernelSeen.main_arg1) = m ((c.tc : Thread Cert.KernelSeen.nD Cert.KernelSeen.τ).loc Cert.KernelSeen.main_arg1)
      ∧ r.2.mem ((c.tc : Thread Cert.KernelSeen.nD Cert.KernelSeen.τ).loc Cert.KernelSeen.main_arg2) = m ((c.tc : Thread Cert.KernelSeen.nD Cert.KernelSeen.τ).loc Cert.KernelSeen.main_arg2))
      ∧ r.2.sem = fun _ => 0)

def quiescent_KernelSeenIdeal [hKernelSeenIdeal : Cert.KernelSeenIdeal.Facts] : Prop :=
  ∀ (m : (ℓ : Loc Cert.KernelSeenIdeal.nD Cert.KernelSeenIdeal.τ Cert.KernelSeenIdeal.sig) → Buf (Elt Ideal) ℓ) (g : Dev Cert.KernelSeenIdeal.nD → PrngReg), Pre_KernelSeenIdeal m →
    θ_run (Cert.KernelSeenIdeal.defs (F := Ideal)) (onTc (τ := Cert.KernelSeenIdeal.τ) (Cert.KernelSeenIdeal.main (F := Ideal))) ⟨m, fun _ => 0, g⟩ (fun r => (∀ c : Dev Cert.KernelSeenIdeal.nD,
      r.2.mem ((c.tc : Thread Cert.KernelSeenIdeal.nD Cert.KernelSeenIdeal.τ).loc Cert.KernelSeenIdeal.main_arg0) = m ((c.tc : Thread Cert.KernelSeenIdeal.nD Cert.KernelSeenIdeal.τ).loc Cert.KernelSeenIdeal.main_arg0)
      ∧ r.2.mem ((c.tc : Thread Cert.KernelSeenIdeal.nD Cert.KernelSeenIdeal.τ).loc Cert.KernelSeenIdeal.main_arg1) = m ((c.tc : Thread Cert.KernelSeenIdeal.nD Cert.KernelSeenIdeal.τ).loc Cert.KernelSeenIdeal.main_arg1)
      ∧ r.2.mem ((c.tc : Thread Cert.KernelSeenIdeal.nD Cert.KernelSeenIdeal.τ).loc Cert.KernelSeenIdeal.main_arg2) = m ((c.tc : Thread Cert.KernelSeenIdeal.nD Cert.KernelSeenIdeal.τ).loc Cert.KernelSeenIdeal.main_arg2))
      ∧ r.2.sem = fun _ => 0)

def quiescent_ReferenceSeenIdeal [hReferenceSeenIdeal : Cert.ReferenceSeenIdeal.Facts] : Prop :=
  ∀ (m : (ℓ : Loc Cert.ReferenceSeenIdeal.nD Cert.ReferenceSeenIdeal.τ Cert.ReferenceSeenIdeal.sig) → Buf (Elt Ideal) ℓ) (g : Dev Cert.ReferenceSeenIdeal.nD → PrngReg), Pre_ReferenceSeenIdeal m →
    θ_run (Cert.ReferenceSeenIdeal.defs (F := Ideal)) (onTc (τ := Cert.ReferenceSeenIdeal.τ) (Cert.ReferenceSeenIdeal.main (F := Ideal))) ⟨m, fun _ => 0, g⟩ (fun r => (∀ c : Dev Cert.ReferenceSeenIdeal.nD,
      r.2.mem ((c.tc : Thread Cert.ReferenceSeenIdeal.nD Cert.ReferenceSeenIdeal.τ).loc Cert.ReferenceSeenIdeal.main_arg0) = m ((c.tc : Thread Cert.ReferenceSeenIdeal.nD Cert.ReferenceSeenIdeal.τ).loc Cert.ReferenceSeenIdeal.main_arg0)
      ∧ r.2.mem ((c.tc : Thread Cert.ReferenceSeenIdeal.nD Cert.ReferenceSeenIdeal.τ).loc Cert.ReferenceSeenIdeal.main_arg1) = m ((c.tc : Thread Cert.ReferenceSeenIdeal.nD Cert.ReferenceSeenIdeal.τ).loc Cert.ReferenceSeenIdeal.main_arg1)
      ∧ r.2.mem ((c.tc : Thread Cert.ReferenceSeenIdeal.nD Cert.ReferenceSeenIdeal.τ).loc Cert.ReferenceSeenIdeal.main_arg2) = m ((c.tc : Thread Cert.ReferenceSeenIdeal.nD Cert.ReferenceSeenIdeal.τ).loc Cert.ReferenceSeenIdeal.main_arg2))
      ∧ r.2.sem = fun _ => 0)

def quiescent_KernelFed [hKernelFed : Cert.KernelFed.Facts] : Prop :=
  ∀ (m : (ℓ : Loc Cert.KernelFed.nD Cert.KernelFed.τ Cert.KernelFed.sig) → Buf (Elt Bits) ℓ) (g : Dev Cert.KernelFed.nD → PrngReg), Pre_KernelFed m →
    θ_run (Cert.KernelFed.defs (F := Bits)) (onTc (τ := Cert.KernelFed.τ) (Cert.KernelFed.main (F := Bits))) ⟨m, fun _ => 0, g⟩ (fun r => (∀ c : Dev Cert.KernelFed.nD,
      r.2.mem ((c.tc : Thread Cert.KernelFed.nD Cert.KernelFed.τ).loc Cert.KernelFed.main_arg0) = m ((c.tc : Thread Cert.KernelFed.nD Cert.KernelFed.τ).loc Cert.KernelFed.main_arg0)
      ∧ r.2.mem ((c.tc : Thread Cert.KernelFed.nD Cert.KernelFed.τ).loc Cert.KernelFed.main_arg1) = m ((c.tc : Thread Cert.KernelFed.nD Cert.KernelFed.τ).loc Cert.KernelFed.main_arg1)
      ∧ r.2.mem ((c.tc : Thread Cert.KernelFed.nD Cert.KernelFed.τ).loc Cert.KernelFed.main_arg2) = m ((c.tc : Thread Cert.KernelFed.nD Cert.KernelFed.τ).loc Cert.KernelFed.main_arg2))
      ∧ r.2.sem = fun _ => 0)

def quiescent_KernelFedIdeal [hKernelFedIdeal : Cert.KernelFedIdeal.Facts] : Prop :=
  ∀ (m : (ℓ : Loc Cert.KernelFedIdeal.nD Cert.KernelFedIdeal.τ Cert.KernelFedIdeal.sig) → Buf (Elt Ideal) ℓ) (g : Dev Cert.KernelFedIdeal.nD → PrngReg), Pre_KernelFedIdeal m →
    θ_run (Cert.KernelFedIdeal.defs (F := Ideal)) (onTc (τ := Cert.KernelFedIdeal.τ) (Cert.KernelFedIdeal.main (F := Ideal))) ⟨m, fun _ => 0, g⟩ (fun r => (∀ c : Dev Cert.KernelFedIdeal.nD,
      r.2.mem ((c.tc : Thread Cert.KernelFedIdeal.nD Cert.KernelFedIdeal.τ).loc Cert.KernelFedIdeal.main_arg0) = m ((c.tc : Thread Cert.KernelFedIdeal.nD Cert.KernelFedIdeal.τ).loc Cert.KernelFedIdeal.main_arg0)
      ∧ r.2.mem ((c.tc : Thread Cert.KernelFedIdeal.nD Cert.KernelFedIdeal.τ).loc Cert.KernelFedIdeal.main_arg1) = m ((c.tc : Thread Cert.KernelFedIdeal.nD Cert.KernelFedIdeal.τ).loc Cert.KernelFedIdeal.main_arg1)
      ∧ r.2.mem ((c.tc : Thread Cert.KernelFedIdeal.nD Cert.KernelFedIdeal.τ).loc Cert.KernelFedIdeal.main_arg2) = m ((c.tc : Thread Cert.KernelFedIdeal.nD Cert.KernelFedIdeal.τ).loc Cert.KernelFedIdeal.main_arg2))
      ∧ r.2.sem = fun _ => 0)

def quiescent_ReferenceFedIdeal [hReferenceFedIdeal : Cert.ReferenceFedIdeal.Facts] : Prop :=
  ∀ (m : (ℓ : Loc Cert.ReferenceFedIdeal.nD Cert.ReferenceFedIdeal.τ Cert.ReferenceFedIdeal.sig) → Buf (Elt Ideal) ℓ) (g : Dev Cert.ReferenceFedIdeal.nD → PrngReg), Pre_ReferenceFedIdeal m →
    θ_run (Cert.ReferenceFedIdeal.defs (F := Ideal)) (onTc (τ := Cert.ReferenceFedIdeal.τ) (Cert.ReferenceFedIdeal.main (F := Ideal))) ⟨m, fun _ => 0, g⟩ (fun r => (∀ c : Dev Cert.ReferenceFedIdeal.nD,
      r.2.mem ((c.tc : Thread Cert.ReferenceFedIdeal.nD Cert.ReferenceFedIdeal.τ).loc Cert.ReferenceFedIdeal.main_arg0) = m ((c.tc : Thread Cert.ReferenceFedIdeal.nD Cert.ReferenceFedIdeal.τ).loc Cert.ReferenceFedIdeal.main_arg0)
      ∧ r.2.mem ((c.tc : Thread Cert.ReferenceFedIdeal.nD Cert.ReferenceFedIdeal.τ).loc Cert.ReferenceFedIdeal.main_arg1) = m ((c.tc : Thread Cert.ReferenceFedIdeal.nD Cert.ReferenceFedIdeal.τ).loc Cert.ReferenceFedIdeal.main_arg1)
      ∧ r.2.mem ((c.tc : Thread Cert.ReferenceFedIdeal.nD Cert.ReferenceFedIdeal.τ).loc Cert.ReferenceFedIdeal.main_arg2) = m ((c.tc : Thread Cert.ReferenceFedIdeal.nD Cert.ReferenceFedIdeal.τ).loc Cert.ReferenceFedIdeal.main_arg2))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1)
      ∧ r.2.mem ((c.tc : Thread Cert.KernelQ.nD Cert.KernelQ.τ).loc Cert.KernelQ.main_arg2) = m ((c.tc : Thread Cert.KernelQ.nD Cert.KernelQ.τ).loc Cert.KernelQ.main_arg2))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
      ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1)
      ∧ r.2.mem ((c.tc : Thread Cert.ReferenceQIdeal.nD Cert.ReferenceQIdeal.τ).loc Cert.ReferenceQIdeal.main_arg2) = m ((c.tc : Thread Cert.ReferenceQIdeal.nD Cert.ReferenceQIdeal.τ).loc Cert.ReferenceQIdeal.main_arg2))
      ∧ r.2.sem = fun _ => 0)

def quiescent_KernelGate [hKernelGate : Cert.KernelGate.Facts] : Prop :=
  ∀ (m : (ℓ : Loc Cert.KernelGate.nD Cert.KernelGate.τ Cert.KernelGate.sig) → Buf (Elt Bits) ℓ) (g : Dev Cert.KernelGate.nD → PrngReg), Pre_KernelGate m →
    θ_run (Cert.KernelGate.defs (F := Bits)) (onTc (τ := Cert.KernelGate.τ) (Cert.KernelGate.main (F := Bits))) ⟨m, fun _ => 0, g⟩ (fun r => (∀ c : Dev Cert.KernelGate.nD,
      r.2.mem ((c.tc : Thread Cert.KernelGate.nD Cert.KernelGate.τ).loc Cert.KernelGate.main_arg0) = m ((c.tc : Thread Cert.KernelGate.nD Cert.KernelGate.τ).loc Cert.KernelGate.main_arg0)
      ∧ r.2.mem ((c.tc : Thread Cert.KernelGate.nD Cert.KernelGate.τ).loc Cert.KernelGate.main_arg1) = m ((c.tc : Thread Cert.KernelGate.nD Cert.KernelGate.τ).loc Cert.KernelGate.main_arg1)
      ∧ r.2.mem ((c.tc : Thread Cert.KernelGate.nD Cert.KernelGate.τ).loc Cert.KernelGate.main_arg2) = m ((c.tc : Thread Cert.KernelGate.nD Cert.KernelGate.τ).loc Cert.KernelGate.main_arg2))
      ∧ r.2.sem = fun _ => 0)

def quiescent_KernelGateIdeal [hKernelGateIdeal : Cert.KernelGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg), Pre_KernelGateIdeal m →
    θ_run (Cert.KernelGateIdeal.defs (F := Ideal)) (onTc (τ := Cert.KernelGateIdeal.τ) (Cert.KernelGateIdeal.main (F := Ideal))) ⟨m, fun _ => 0, g⟩ (fun r => (∀ c : Dev Cert.KernelGateIdeal.nD,
      r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
      ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
      ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ r.2.sem = fun _ => 0)

def quiescent_ReferenceGateIdeal [hReferenceGateIdeal : Cert.ReferenceGateIdeal.Facts] : Prop :=
  ∀ (m : (ℓ : Loc Cert.ReferenceGateIdeal.nD Cert.ReferenceGateIdeal.τ Cert.ReferenceGateIdeal.sig) → Buf (Elt Ideal) ℓ) (g : Dev Cert.ReferenceGateIdeal.nD → PrngReg), Pre_ReferenceGateIdeal m →
    θ_run (Cert.ReferenceGateIdeal.defs (F := Ideal)) (onTc (τ := Cert.ReferenceGateIdeal.τ) (Cert.ReferenceGateIdeal.main (F := Ideal))) ⟨m, fun _ => 0, g⟩ (fun r => (∀ c : Dev Cert.ReferenceGateIdeal.nD,
      r.2.mem ((c.tc : Thread Cert.ReferenceGateIdeal.nD Cert.ReferenceGateIdeal.τ).loc Cert.ReferenceGateIdeal.main_arg0) = m ((c.tc : Thread Cert.ReferenceGateIdeal.nD Cert.ReferenceGateIdeal.τ).loc Cert.ReferenceGateIdeal.main_arg0)
      ∧ r.2.mem ((c.tc : Thread Cert.ReferenceGateIdeal.nD Cert.ReferenceGateIdeal.τ).loc Cert.ReferenceGateIdeal.main_arg1) = m ((c.tc : Thread Cert.ReferenceGateIdeal.nD Cert.ReferenceGateIdeal.τ).loc Cert.ReferenceGateIdeal.main_arg1)
      ∧ r.2.mem ((c.tc : Thread Cert.ReferenceGateIdeal.nD Cert.ReferenceGateIdeal.τ).loc Cert.ReferenceGateIdeal.main_arg2) = m ((c.tc : Thread Cert.ReferenceGateIdeal.nD Cert.ReferenceGateIdeal.τ).loc Cert.ReferenceGateIdeal.main_arg2))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3))
      ∧ r.2.sem = fun _ => 0)

def preserves_Kernel_KernelIdeal : Prop :=
  IdealRules.named_const.Statement Cert.KernelIdeal.κ "s_dec0" .f32 0x3E063AE5#32 ((279993793990258235750468749959300213014699042596341116563305503247751586492770004816505534904321 / 2135987035920910082395021706169552114602704522356652769947041607822219725780640550022962086936576 : ℝ) : EReal)
  ∧ IdealRules.named_const.Statement Cert.KernelIdeal.κ "s_dec1" .f32 0x3EBADF84#32 ((14381201289858923833733732277241427911251598557516928831287151963615866190845260542210496569296551598609485715599361 / 39402006196394479212279040100143613805079739270465446667948293404245721771497210611414266254884915640806627990306816 : ℝ) : EReal)
  ∧ IdealRules.named_const.Statement Cert.KernelIdeal.κ "s_dec2" .f32 0x3F1AF7A1#32 ((439985273984774139364885786774155225074372621425249766976946157772109425125407741241214744259687760072793219732307971501512893104906241 / 726838724295606890549323807888004534353641360687318060281490199180639288113397923326191050713763565560762521606266177933534601628614656 : ℝ) : EReal)
  ∧ IdealRules.named_const.Statement Cert.KernelIdeal.κ "s_dec3" .f32 0x3F474682#32 ((10436900611138725869172867285320967420499386398293333045633692797639857278619179096472846825397665828940838712011497657616843071082257665693759918212890625 / 13407807929942597099574024998205846127479365820592393377723561443721764030073546976801874298166903427690031858186486050853753882811946569946433649006084096 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v267) = v0 c
          ∧ r.2.mem ((c.tc : Thread Cert.ReferenceIdeal.nD Cert.ReferenceIdeal.τ).loc Cert.ReferenceIdeal.main_v222) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v7) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelGu_KernelGuIdeal : Prop :=
  True

def algebraic_KernelGuIdeal_ReferenceGuIdeal [hKernelGuIdeal : Cert.KernelGuIdeal.Facts] [hReferenceGuIdeal : Cert.ReferenceGuIdeal.Facts] : Prop :=
  ∀ (m : (ℓ : Loc Cert.KernelGuIdeal.nD Cert.KernelGuIdeal.τ Cert.KernelGuIdeal.sig) → Buf (Elt Ideal) ℓ) (g : Dev Cert.KernelGuIdeal.nD → PrngReg)
    (m' : (ℓ : Loc Cert.ReferenceGuIdeal.nD Cert.ReferenceGuIdeal.τ Cert.ReferenceGuIdeal.sig) → Buf (Elt Ideal) ℓ) (g' : Dev Cert.ReferenceGuIdeal.nD → PrngReg), Pre_KernelGuIdeal m →
    (∀ c : Dev Cert.KernelGuIdeal.nD,
      m' ((c.tc : Thread Cert.ReferenceGuIdeal.nD Cert.ReferenceGuIdeal.τ).loc Cert.ReferenceGuIdeal.main_arg0) = m ((c.tc : Thread Cert.KernelGuIdeal.nD Cert.KernelGuIdeal.τ).loc Cert.KernelGuIdeal.main_arg0)
      ∧ m' ((c.tc : Thread Cert.ReferenceGuIdeal.nD Cert.ReferenceGuIdeal.τ).loc Cert.ReferenceGuIdeal.main_arg1) = m ((c.tc : Thread Cert.KernelGuIdeal.nD Cert.KernelGuIdeal.τ).loc Cert.KernelGuIdeal.main_arg1)
      ∧ m' ((c.tc : Thread Cert.ReferenceGuIdeal.nD Cert.ReferenceGuIdeal.τ).loc Cert.ReferenceGuIdeal.main_arg2) = m ((c.tc : Thread Cert.KernelGuIdeal.nD Cert.KernelGuIdeal.τ).loc Cert.KernelGuIdeal.main_arg2)) →
    ∃ (v0 : (c : Dev Cert.KernelGuIdeal.nD) → Buf (Elt Ideal) ((c.tc : Thread Cert.KernelGuIdeal.nD Cert.KernelGuIdeal.τ).loc Cert.KernelGuIdeal.main_v0)),
      θ_run (Cert.KernelGuIdeal.defs (F := Ideal)) (onTc (τ := Cert.KernelGuIdeal.τ) (Cert.KernelGuIdeal.main (F := Ideal))) ⟨m, fun _ => 0, g⟩ (fun r => ∀ c : Dev Cert.KernelGuIdeal.nD,
          r.2.mem ((c.tc : Thread Cert.KernelGuIdeal.nD Cert.KernelGuIdeal.τ).loc Cert.KernelGuIdeal.main_v0) = v0 c
          ∧ r.2.mem ((c.tc : Thread Cert.KernelGuIdeal.nD Cert.KernelGuIdeal.τ).loc Cert.KernelGuIdeal.main_arg0) = m ((c.tc : Thread Cert.KernelGuIdeal.nD Cert.KernelGuIdeal.τ).loc Cert.KernelGuIdeal.main_arg0)
          ∧ r.2.mem ((c.tc : Thread Cert.KernelGuIdeal.nD Cert.KernelGuIdeal.τ).loc Cert.KernelGuIdeal.main_arg1) = m ((c.tc : Thread Cert.KernelGuIdeal.nD Cert.KernelGuIdeal.τ).loc Cert.KernelGuIdeal.main_arg1)
          ∧ r.2.mem ((c.tc : Thread Cert.KernelGuIdeal.nD Cert.KernelGuIdeal.τ).loc Cert.KernelGuIdeal.main_arg2) = m ((c.tc : Thread Cert.KernelGuIdeal.nD Cert.KernelGuIdeal.τ).loc Cert.KernelGuIdeal.main_arg2))
      ∧ θ_run (Cert.ReferenceGuIdeal.defs (F := Ideal)) (onTc (τ := Cert.ReferenceGuIdeal.τ) (Cert.ReferenceGuIdeal.main (F := Ideal))) ⟨m', fun _ => 0, g'⟩ (fun r => ∀ c : Dev Cert.ReferenceGuIdeal.nD,
          r.2.mem ((c.tc : Thread Cert.ReferenceGuIdeal.nD Cert.ReferenceGuIdeal.τ).loc Cert.ReferenceGuIdeal.main_v20) = v0 c
          ∧ r.2.mem ((c.tc : Thread Cert.ReferenceGuIdeal.nD Cert.ReferenceGuIdeal.τ).loc Cert.ReferenceGuIdeal.main_arg0) = m' ((c.tc : Thread Cert.ReferenceGuIdeal.nD Cert.ReferenceGuIdeal.τ).loc Cert.ReferenceGuIdeal.main_arg0)
          ∧ r.2.mem ((c.tc : Thread Cert.ReferenceGuIdeal.nD Cert.ReferenceGuIdeal.τ).loc Cert.ReferenceGuIdeal.main_arg1) = m' ((c.tc : Thread Cert.ReferenceGuIdeal.nD Cert.ReferenceGuIdeal.τ).loc Cert.ReferenceGuIdeal.main_arg1)
          ∧ r.2.mem ((c.tc : Thread Cert.ReferenceGuIdeal.nD Cert.ReferenceGuIdeal.τ).loc Cert.ReferenceGuIdeal.main_arg2) = m' ((c.tc : Thread Cert.ReferenceGuIdeal.nD Cert.ReferenceGuIdeal.τ).loc Cert.ReferenceGuIdeal.main_arg2))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v19) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelDh_KernelDhIdeal : Prop :=
  True

def algebraic_KernelDhIdeal_ReferenceDhIdeal [hKernelDhIdeal : Cert.KernelDhIdeal.Facts] [hReferenceDhIdeal : Cert.ReferenceDhIdeal.Facts] : Prop :=
  ∀ (m : (ℓ : Loc Cert.KernelDhIdeal.nD Cert.KernelDhIdeal.τ Cert.KernelDhIdeal.sig) → Buf (Elt Ideal) ℓ) (g : Dev Cert.KernelDhIdeal.nD → PrngReg)
    (m' : (ℓ : Loc Cert.ReferenceDhIdeal.nD Cert.ReferenceDhIdeal.τ Cert.ReferenceDhIdeal.sig) → Buf (Elt Ideal) ℓ) (g' : Dev Cert.ReferenceDhIdeal.nD → PrngReg), Pre_KernelDhIdeal m →
    (∀ c : Dev Cert.KernelDhIdeal.nD,
      m' ((c.tc : Thread Cert.ReferenceDhIdeal.nD Cert.ReferenceDhIdeal.τ).loc Cert.ReferenceDhIdeal.main_arg0) = m ((c.tc : Thread Cert.KernelDhIdeal.nD Cert.KernelDhIdeal.τ).loc Cert.KernelDhIdeal.main_arg0)
      ∧ m' ((c.tc : Thread Cert.ReferenceDhIdeal.nD Cert.ReferenceDhIdeal.τ).loc Cert.ReferenceDhIdeal.main_arg1) = m ((c.tc : Thread Cert.KernelDhIdeal.nD Cert.KernelDhIdeal.τ).loc Cert.KernelDhIdeal.main_arg1)
      ∧ m' ((c.tc : Thread Cert.ReferenceDhIdeal.nD Cert.ReferenceDhIdeal.τ).loc Cert.ReferenceDhIdeal.main_arg2) = m ((c.tc : Thread Cert.KernelDhIdeal.nD Cert.KernelDhIdeal.τ).loc Cert.KernelDhIdeal.main_arg2)
      ∧ m' ((c.tc : Thread Cert.ReferenceDhIdeal.nD Cert.ReferenceDhIdeal.τ).loc Cert.ReferenceDhIdeal.main_arg3) = m ((c.tc : Thread Cert.KernelDhIdeal.nD Cert.KernelDhIdeal.τ).loc Cert.KernelDhIdeal.main_arg3)
      ∧ m' ((c.tc : Thread Cert.ReferenceDhIdeal.nD Cert.ReferenceDhIdeal.τ).loc Cert.ReferenceDhIdeal.main_arg4) = m ((c.tc : Thread Cert.KernelDhIdeal.nD Cert.KernelDhIdeal.τ).loc Cert.KernelDhIdeal.main_arg4)) →
    ∃ (v0 : (c : Dev Cert.KernelDhIdeal.nD) → Buf (Elt Ideal) ((c.tc : Thread Cert.KernelDhIdeal.nD Cert.KernelDhIdeal.τ).loc Cert.KernelDhIdeal.main_v0_0)) (v1 : (c : Dev Cert.KernelDhIdeal.nD) → Buf (Elt Ideal) ((c.tc : Thread Cert.KernelDhIdeal.nD Cert.KernelDhIdeal.τ).loc Cert.KernelDhIdeal.main_v0_1)),
      θ_run (Cert.KernelDhIdeal.defs (F := Ideal)) (onTc (τ := Cert.KernelDhIdeal.τ) (Cert.KernelDhIdeal.main (F := Ideal))) ⟨m, fun _ => 0, g⟩ (fun r => ∀ c : Dev Cert.KernelDhIdeal.nD,
          r.2.mem ((c.tc : Thread Cert.KernelDhIdeal.nD Cert.KernelDhIdeal.τ).loc Cert.KernelDhIdeal.main_v0_0) = v0 c
          ∧ r.2.mem ((c.tc : Thread Cert.KernelDhIdeal.nD Cert.KernelDhIdeal.τ).loc Cert.KernelDhIdeal.main_v0_1) = v1 c
          ∧ r.2.mem ((c.tc : Thread Cert.KernelDhIdeal.nD Cert.KernelDhIdeal.τ).loc Cert.KernelDhIdeal.main_arg0) = m ((c.tc : Thread Cert.KernelDhIdeal.nD Cert.KernelDhIdeal.τ).loc Cert.KernelDhIdeal.main_arg0)
          ∧ r.2.mem ((c.tc : Thread Cert.KernelDhIdeal.nD Cert.KernelDhIdeal.τ).loc Cert.KernelDhIdeal.main_arg1) = m ((c.tc : Thread Cert.KernelDhIdeal.nD Cert.KernelDhIdeal.τ).loc Cert.KernelDhIdeal.main_arg1)
          ∧ r.2.mem ((c.tc : Thread Cert.KernelDhIdeal.nD Cert.KernelDhIdeal.τ).loc Cert.KernelDhIdeal.main_arg2) = m ((c.tc : Thread Cert.KernelDhIdeal.nD Cert.KernelDhIdeal.τ).loc Cert.KernelDhIdeal.main_arg2)
          ∧ r.2.mem ((c.tc : Thread Cert.KernelDhIdeal.nD Cert.KernelDhIdeal.τ).loc Cert.KernelDhIdeal.main_arg3) = m ((c.tc : Thread Cert.KernelDhIdeal.nD Cert.KernelDhIdeal.τ).loc Cert.KernelDhIdeal.main_arg3)
          ∧ r.2.mem ((c.tc : Thread Cert.KernelDhIdeal.nD Cert.KernelDhIdeal.τ).loc Cert.KernelDhIdeal.main_arg4) = m ((c.tc : Thread Cert.KernelDhIdeal.nD Cert.KernelDhIdeal.τ).loc Cert.KernelDhIdeal.main_arg4))
      ∧ θ_run (Cert.ReferenceDhIdeal.defs (F := Ideal)) (onTc (τ := Cert.ReferenceDhIdeal.τ) (Cert.ReferenceDhIdeal.main (F := Ideal))) ⟨m', fun _ => 0, g'⟩ (fun r => ∀ c : Dev Cert.ReferenceDhIdeal.nD,
          r.2.mem ((c.tc : Thread Cert.ReferenceDhIdeal.nD Cert.ReferenceDhIdeal.τ).loc Cert.ReferenceDhIdeal.main_v41) = v0 c
          ∧ r.2.mem ((c.tc : Thread Cert.ReferenceDhIdeal.nD Cert.ReferenceDhIdeal.τ).loc Cert.ReferenceDhIdeal.main_v24) = v1 c
          ∧ r.2.mem ((c.tc : Thread Cert.ReferenceDhIdeal.nD Cert.ReferenceDhIdeal.τ).loc Cert.ReferenceDhIdeal.main_arg0) = m' ((c.tc : Thread Cert.ReferenceDhIdeal.nD Cert.ReferenceDhIdeal.τ).loc Cert.ReferenceDhIdeal.main_arg0)
          ∧ r.2.mem ((c.tc : Thread Cert.ReferenceDhIdeal.nD Cert.ReferenceDhIdeal.τ).loc Cert.ReferenceDhIdeal.main_arg1) = m' ((c.tc : Thread Cert.ReferenceDhIdeal.nD Cert.ReferenceDhIdeal.τ).loc Cert.ReferenceDhIdeal.main_arg1)
          ∧ r.2.mem ((c.tc : Thread Cert.ReferenceDhIdeal.nD Cert.ReferenceDhIdeal.τ).loc Cert.ReferenceDhIdeal.main_arg2) = m' ((c.tc : Thread Cert.ReferenceDhIdeal.nD Cert.ReferenceDhIdeal.τ).loc Cert.ReferenceDhIdeal.main_arg2)
          ∧ r.2.mem ((c.tc : Thread Cert.ReferenceDhIdeal.nD Cert.ReferenceDhIdeal.τ).loc Cert.ReferenceDhIdeal.main_arg3) = m' ((c.tc : Thread Cert.ReferenceDhIdeal.nD Cert.ReferenceDhIdeal.τ).loc Cert.ReferenceDhIdeal.main_arg3)
          ∧ r.2.mem ((c.tc : Thread Cert.ReferenceDhIdeal.nD Cert.ReferenceDhIdeal.τ).loc Cert.ReferenceDhIdeal.main_arg4) = m' ((c.tc : Thread Cert.ReferenceDhIdeal.nD Cert.ReferenceDhIdeal.τ).loc Cert.ReferenceDhIdeal.main_arg4))

def preserves_KernelDx_KernelDxIdeal : Prop :=
  True

def algebraic_KernelDxIdeal_ReferenceDxIdeal [hKernelDxIdeal : Cert.KernelDxIdeal.Facts] [hReferenceDxIdeal : Cert.ReferenceDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)
      ∧ m' ((c.tc : Thread Cert.ReferenceDxIdeal.nD Cert.ReferenceDxIdeal.τ).loc Cert.ReferenceDxIdeal.main_arg3) = m ((c.tc : Thread Cert.KernelDxIdeal.nD Cert.KernelDxIdeal.τ).loc Cert.KernelDxIdeal.main_arg3)
      ∧ m' ((c.tc : Thread Cert.ReferenceDxIdeal.nD Cert.ReferenceDxIdeal.τ).loc Cert.ReferenceDxIdeal.main_arg4) = m ((c.tc : Thread Cert.KernelDxIdeal.nD Cert.KernelDxIdeal.τ).loc Cert.KernelDxIdeal.main_arg4)) →
    ∃ (v0 : (c : Dev Cert.KernelDxIdeal.nD) → Buf (Elt Ideal) ((c.tc : Thread Cert.KernelDxIdeal.nD Cert.KernelDxIdeal.τ).loc Cert.KernelDxIdeal.main_v0_0)) (v1 : (c : Dev Cert.KernelDxIdeal.nD) → Buf (Elt Ideal) ((c.tc : Thread Cert.KernelDxIdeal.nD Cert.KernelDxIdeal.τ).loc Cert.KernelDxIdeal.main_v0_1)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v0_0) = v0 c
          ∧ r.2.mem ((c.tc : Thread Cert.KernelDxIdeal.nD Cert.KernelDxIdeal.τ).loc Cert.KernelDxIdeal.main_v0_1) = v1 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
          ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v40) = v0 c
          ∧ r.2.mem ((c.tc : Thread Cert.ReferenceDxIdeal.nD Cert.ReferenceDxIdeal.τ).loc Cert.ReferenceDxIdeal.main_v23) = v1 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2)
          ∧ r.2.mem ((c.tc : Thread Cert.ReferenceDxIdeal.nD Cert.ReferenceDxIdeal.τ).loc Cert.ReferenceDxIdeal.main_arg3) = m' ((c.tc : Thread Cert.ReferenceDxIdeal.nD Cert.ReferenceDxIdeal.τ).loc Cert.ReferenceDxIdeal.main_arg3)
          ∧ r.2.mem ((c.tc : Thread Cert.ReferenceDxIdeal.nD Cert.ReferenceDxIdeal.τ).loc Cert.ReferenceDxIdeal.main_arg4) = m' ((c.tc : Thread Cert.ReferenceDxIdeal.nD Cert.ReferenceDxIdeal.τ).loc Cert.ReferenceDxIdeal.main_arg4))

def preserves_KernelDout_KernelDoutIdeal : Prop :=
  True

def algebraic_KernelDoutIdeal_ReferenceDoutIdeal [hKernelDoutIdeal : Cert.KernelDoutIdeal.Facts] [hReferenceDoutIdeal : Cert.ReferenceDoutIdeal.Facts] : Prop :=
  ∀ (m : (ℓ : Loc Cert.KernelDoutIdeal.nD Cert.KernelDoutIdeal.τ Cert.KernelDoutIdeal.sig) → Buf (Elt Ideal) ℓ) (g : Dev Cert.KernelDoutIdeal.nD → PrngReg)
    (m' : (ℓ : Loc Cert.ReferenceDoutIdeal.nD Cert.ReferenceDoutIdeal.τ Cert.ReferenceDoutIdeal.sig) → Buf (Elt Ideal) ℓ) (g' : Dev Cert.ReferenceDoutIdeal.nD → PrngReg), Pre_KernelDoutIdeal m →
    (∀ c : Dev Cert.KernelDoutIdeal.nD,
      m' ((c.tc : Thread Cert.ReferenceDoutIdeal.nD Cert.ReferenceDoutIdeal.τ).loc Cert.ReferenceDoutIdeal.main_arg0) = m ((c.tc : Thread Cert.KernelDoutIdeal.nD Cert.KernelDoutIdeal.τ).loc Cert.KernelDoutIdeal.main_arg0)
      ∧ m' ((c.tc : Thread Cert.ReferenceDoutIdeal.nD Cert.ReferenceDoutIdeal.τ).loc Cert.ReferenceDoutIdeal.main_arg1) = m ((c.tc : Thread Cert.KernelDoutIdeal.nD Cert.KernelDoutIdeal.τ).loc Cert.KernelDoutIdeal.main_arg1)) →
    ∃ (v0 : (c : Dev Cert.KernelDoutIdeal.nD) → Buf (Elt Ideal) ((c.tc : Thread Cert.KernelDoutIdeal.nD Cert.KernelDoutIdeal.τ).loc Cert.KernelDoutIdeal.main_v0)),
      θ_run (Cert.KernelDoutIdeal.defs (F := Ideal)) (onTc (τ := Cert.KernelDoutIdeal.τ) (Cert.KernelDoutIdeal.main (F := Ideal))) ⟨m, fun _ => 0, g⟩ (fun r => ∀ c : Dev Cert.KernelDoutIdeal.nD,
          r.2.mem ((c.tc : Thread Cert.KernelDoutIdeal.nD Cert.KernelDoutIdeal.τ).loc Cert.KernelDoutIdeal.main_v0) = v0 c
          ∧ r.2.mem ((c.tc : Thread Cert.KernelDoutIdeal.nD Cert.KernelDoutIdeal.τ).loc Cert.KernelDoutIdeal.main_arg0) = m ((c.tc : Thread Cert.KernelDoutIdeal.nD Cert.KernelDoutIdeal.τ).loc Cert.KernelDoutIdeal.main_arg0)
          ∧ r.2.mem ((c.tc : Thread Cert.KernelDoutIdeal.nD Cert.KernelDoutIdeal.τ).loc Cert.KernelDoutIdeal.main_arg1) = m ((c.tc : Thread Cert.KernelDoutIdeal.nD Cert.KernelDoutIdeal.τ).loc Cert.KernelDoutIdeal.main_arg1))
      ∧ θ_run (Cert.ReferenceDoutIdeal.defs (F := Ideal)) (onTc (τ := Cert.ReferenceDoutIdeal.τ) (Cert.ReferenceDoutIdeal.main (F := Ideal))) ⟨m', fun _ => 0, g'⟩ (fun r => ∀ c : Dev Cert.ReferenceDoutIdeal.nD,
          r.2.mem ((c.tc : Thread Cert.ReferenceDoutIdeal.nD Cert.ReferenceDoutIdeal.τ).loc Cert.ReferenceDoutIdeal.main_v3) = v0 c
          ∧ r.2.mem ((c.tc : Thread Cert.ReferenceDoutIdeal.nD Cert.ReferenceDoutIdeal.τ).loc Cert.ReferenceDoutIdeal.main_arg0) = m' ((c.tc : Thread Cert.ReferenceDoutIdeal.nD Cert.ReferenceDoutIdeal.τ).loc Cert.ReferenceDoutIdeal.main_arg0)
          ∧ r.2.mem ((c.tc : Thread Cert.ReferenceDoutIdeal.nD Cert.ReferenceDoutIdeal.τ).loc Cert.ReferenceDoutIdeal.main_arg1) = m' ((c.tc : Thread Cert.ReferenceDoutIdeal.nD Cert.ReferenceDoutIdeal.τ).loc Cert.ReferenceDoutIdeal.main_arg1))

def preserves_KernelDatt_KernelDattIdeal : Prop :=
  True

def algebraic_KernelDattIdeal_ReferenceDattIdeal [hKernelDattIdeal : Cert.KernelDattIdeal.Facts] [hReferenceDattIdeal : Cert.ReferenceDattIdeal.Facts] : Prop :=
  ∀ (m : (ℓ : Loc Cert.KernelDattIdeal.nD Cert.KernelDattIdeal.τ Cert.KernelDattIdeal.sig) → Buf (Elt Ideal) ℓ) (g : Dev Cert.KernelDattIdeal.nD → PrngReg)
    (m' : (ℓ : Loc Cert.ReferenceDattIdeal.nD Cert.ReferenceDattIdeal.τ Cert.ReferenceDattIdeal.sig) → Buf (Elt Ideal) ℓ) (g' : Dev Cert.ReferenceDattIdeal.nD → PrngReg), Pre_KernelDattIdeal m →
    (∀ c : Dev Cert.KernelDattIdeal.nD,
      m' ((c.tc : Thread Cert.ReferenceDattIdeal.nD Cert.ReferenceDattIdeal.τ).loc Cert.ReferenceDattIdeal.main_arg0) = m ((c.tc : Thread Cert.KernelDattIdeal.nD Cert.KernelDattIdeal.τ).loc Cert.KernelDattIdeal.main_arg0)
      ∧ m' ((c.tc : Thread Cert.ReferenceDattIdeal.nD Cert.ReferenceDattIdeal.τ).loc Cert.ReferenceDattIdeal.main_arg1) = m ((c.tc : Thread Cert.KernelDattIdeal.nD Cert.KernelDattIdeal.τ).loc Cert.KernelDattIdeal.main_arg1)) →
    ∃ (v0 : (c : Dev Cert.KernelDattIdeal.nD) → Buf (Elt Ideal) ((c.tc : Thread Cert.KernelDattIdeal.nD Cert.KernelDattIdeal.τ).loc Cert.KernelDattIdeal.main_v0)),
      θ_run (Cert.KernelDattIdeal.defs (F := Ideal)) (onTc (τ := Cert.KernelDattIdeal.τ) (Cert.KernelDattIdeal.main (F := Ideal))) ⟨m, fun _ => 0, g⟩ (fun r => ∀ c : Dev Cert.KernelDattIdeal.nD,
          r.2.mem ((c.tc : Thread Cert.KernelDattIdeal.nD Cert.KernelDattIdeal.τ).loc Cert.KernelDattIdeal.main_v0) = v0 c
          ∧ r.2.mem ((c.tc : Thread Cert.KernelDattIdeal.nD Cert.KernelDattIdeal.τ).loc Cert.KernelDattIdeal.main_arg0) = m ((c.tc : Thread Cert.KernelDattIdeal.nD Cert.KernelDattIdeal.τ).loc Cert.KernelDattIdeal.main_arg0)
          ∧ r.2.mem ((c.tc : Thread Cert.KernelDattIdeal.nD Cert.KernelDattIdeal.τ).loc Cert.KernelDattIdeal.main_arg1) = m ((c.tc : Thread Cert.KernelDattIdeal.nD Cert.KernelDattIdeal.τ).loc Cert.KernelDattIdeal.main_arg1))
      ∧ θ_run (Cert.ReferenceDattIdeal.defs (F := Ideal)) (onTc (τ := Cert.ReferenceDattIdeal.τ) (Cert.ReferenceDattIdeal.main (F := Ideal))) ⟨m', fun _ => 0, g'⟩ (fun r => ∀ c : Dev Cert.ReferenceDattIdeal.nD,
          r.2.mem ((c.tc : Thread Cert.ReferenceDattIdeal.nD Cert.ReferenceDattIdeal.τ).loc Cert.ReferenceDattIdeal.main_v4) = v0 c
          ∧ r.2.mem ((c.tc : Thread Cert.ReferenceDattIdeal.nD Cert.ReferenceDattIdeal.τ).loc Cert.ReferenceDattIdeal.main_arg0) = m' ((c.tc : Thread Cert.ReferenceDattIdeal.nD Cert.ReferenceDattIdeal.τ).loc Cert.ReferenceDattIdeal.main_arg0)
          ∧ r.2.mem ((c.tc : Thread Cert.ReferenceDattIdeal.nD Cert.ReferenceDattIdeal.τ).loc Cert.ReferenceDattIdeal.main_arg1) = m' ((c.tc : Thread Cert.ReferenceDattIdeal.nD Cert.ReferenceDattIdeal.τ).loc Cert.ReferenceDattIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v5) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelAtt_KernelAttIdeal : Prop :=
  True

def algebraic_KernelAttIdeal_ReferenceAttIdeal [hKernelAttIdeal : Cert.KernelAttIdeal.Facts] [hReferenceAttIdeal : Cert.ReferenceAttIdeal.Facts] : Prop :=
  ∀ (m : (ℓ : Loc Cert.KernelAttIdeal.nD Cert.KernelAttIdeal.τ Cert.KernelAttIdeal.sig) → Buf (Elt Ideal) ℓ) (g : Dev Cert.KernelAttIdeal.nD → PrngReg)
    (m' : (ℓ : Loc Cert.ReferenceAttIdeal.nD Cert.ReferenceAttIdeal.τ Cert.ReferenceAttIdeal.sig) → Buf (Elt Ideal) ℓ) (g' : Dev Cert.ReferenceAttIdeal.nD → PrngReg), Pre_KernelAttIdeal m →
    (∀ c : Dev Cert.KernelAttIdeal.nD,
      m' ((c.tc : Thread Cert.ReferenceAttIdeal.nD Cert.ReferenceAttIdeal.τ).loc Cert.ReferenceAttIdeal.main_arg0) = m ((c.tc : Thread Cert.KernelAttIdeal.nD Cert.KernelAttIdeal.τ).loc Cert.KernelAttIdeal.main_arg0)
      ∧ m' ((c.tc : Thread Cert.ReferenceAttIdeal.nD Cert.ReferenceAttIdeal.τ).loc Cert.ReferenceAttIdeal.main_arg1) = m ((c.tc : Thread Cert.KernelAttIdeal.nD Cert.KernelAttIdeal.τ).loc Cert.KernelAttIdeal.main_arg1)) →
    ∃ (v0 : (c : Dev Cert.KernelAttIdeal.nD) → Buf (Elt Ideal) ((c.tc : Thread Cert.KernelAttIdeal.nD Cert.KernelAttIdeal.τ).loc Cert.KernelAttIdeal.main_v0)),
      θ_run (Cert.KernelAttIdeal.defs (F := Ideal)) (onTc (τ := Cert.KernelAttIdeal.τ) (Cert.KernelAttIdeal.main (F := Ideal))) ⟨m, fun _ => 0, g⟩ (fun r => ∀ c : Dev Cert.KernelAttIdeal.nD,
          r.2.mem ((c.tc : Thread Cert.KernelAttIdeal.nD Cert.KernelAttIdeal.τ).loc Cert.KernelAttIdeal.main_v0) = v0 c
          ∧ r.2.mem ((c.tc : Thread Cert.KernelAttIdeal.nD Cert.KernelAttIdeal.τ).loc Cert.KernelAttIdeal.main_arg0) = m ((c.tc : Thread Cert.KernelAttIdeal.nD Cert.KernelAttIdeal.τ).loc Cert.KernelAttIdeal.main_arg0)
          ∧ r.2.mem ((c.tc : Thread Cert.KernelAttIdeal.nD Cert.KernelAttIdeal.τ).loc Cert.KernelAttIdeal.main_arg1) = m ((c.tc : Thread Cert.KernelAttIdeal.nD Cert.KernelAttIdeal.τ).loc Cert.KernelAttIdeal.main_arg1))
      ∧ θ_run (Cert.ReferenceAttIdeal.defs (F := Ideal)) (onTc (τ := Cert.ReferenceAttIdeal.τ) (Cert.ReferenceAttIdeal.main (F := Ideal))) ⟨m', fun _ => 0, g'⟩ (fun r => ∀ c : Dev Cert.ReferenceAttIdeal.nD,
          r.2.mem ((c.tc : Thread Cert.ReferenceAttIdeal.nD Cert.ReferenceAttIdeal.τ).loc Cert.ReferenceAttIdeal.main_v5) = v0 c
          ∧ r.2.mem ((c.tc : Thread Cert.ReferenceAttIdeal.nD Cert.ReferenceAttIdeal.τ).loc Cert.ReferenceAttIdeal.main_arg0) = m' ((c.tc : Thread Cert.ReferenceAttIdeal.nD Cert.ReferenceAttIdeal.τ).loc Cert.ReferenceAttIdeal.main_arg0)
          ∧ r.2.mem ((c.tc : Thread Cert.ReferenceAttIdeal.nD Cert.ReferenceAttIdeal.τ).loc Cert.ReferenceAttIdeal.main_arg1) = m' ((c.tc : Thread Cert.ReferenceAttIdeal.nD Cert.ReferenceAttIdeal.τ).loc Cert.ReferenceAttIdeal.main_arg1))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)) →
    ∃ (v0 : (c : Dev Cert.KernelMixIdeal.nD) → Buf (Elt Ideal) ((c.tc : Thread Cert.KernelMixIdeal.nD Cert.KernelMixIdeal.τ).loc Cert.KernelMixIdeal.main_v0)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v0) = v0 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v3) = v0 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2))

def preserves_KernelSeen_KernelSeenIdeal : Prop :=
  True

def algebraic_KernelSeenIdeal_ReferenceSeenIdeal [hKernelSeenIdeal : Cert.KernelSeenIdeal.Facts] [hReferenceSeenIdeal : Cert.ReferenceSeenIdeal.Facts] : Prop :=
  ∀ (m : (ℓ : Loc Cert.KernelSeenIdeal.nD Cert.KernelSeenIdeal.τ Cert.KernelSeenIdeal.sig) → Buf (Elt Ideal) ℓ) (g : Dev Cert.KernelSeenIdeal.nD → PrngReg)
    (m' : (ℓ : Loc Cert.ReferenceSeenIdeal.nD Cert.ReferenceSeenIdeal.τ Cert.ReferenceSeenIdeal.sig) → Buf (Elt Ideal) ℓ) (g' : Dev Cert.ReferenceSeenIdeal.nD → PrngReg), Pre_KernelSeenIdeal m →
    (∀ c : Dev Cert.KernelSeenIdeal.nD,
      m' ((c.tc : Thread Cert.ReferenceSeenIdeal.nD Cert.ReferenceSeenIdeal.τ).loc Cert.ReferenceSeenIdeal.main_arg0) = m ((c.tc : Thread Cert.KernelSeenIdeal.nD Cert.KernelSeenIdeal.τ).loc Cert.KernelSeenIdeal.main_arg0)
      ∧ m' ((c.tc : Thread Cert.ReferenceSeenIdeal.nD Cert.ReferenceSeenIdeal.τ).loc Cert.ReferenceSeenIdeal.main_arg1) = m ((c.tc : Thread Cert.KernelSeenIdeal.nD Cert.KernelSeenIdeal.τ).loc Cert.KernelSeenIdeal.main_arg1)
      ∧ m' ((c.tc : Thread Cert.ReferenceSeenIdeal.nD Cert.ReferenceSeenIdeal.τ).loc Cert.ReferenceSeenIdeal.main_arg2) = m ((c.tc : Thread Cert.KernelSeenIdeal.nD Cert.KernelSeenIdeal.τ).loc Cert.KernelSeenIdeal.main_arg2)) →
    ∃ (v0 : (c : Dev Cert.KernelSeenIdeal.nD) → Buf (Elt Ideal) ((c.tc : Thread Cert.KernelSeenIdeal.nD Cert.KernelSeenIdeal.τ).loc Cert.KernelSeenIdeal.main_v0)),
      θ_run (Cert.KernelSeenIdeal.defs (F := Ideal)) (onTc (τ := Cert.KernelSeenIdeal.τ) (Cert.KernelSeenIdeal.main (F := Ideal))) ⟨m, fun _ => 0, g⟩ (fun r => ∀ c : Dev Cert.KernelSeenIdeal.nD,
          r.2.mem ((c.tc : Thread Cert.KernelSeenIdeal.nD Cert.KernelSeenIdeal.τ).loc Cert.KernelSeenIdeal.main_v0) = v0 c
          ∧ r.2.mem ((c.tc : Thread Cert.KernelSeenIdeal.nD Cert.KernelSeenIdeal.τ).loc Cert.KernelSeenIdeal.main_arg0) = m ((c.tc : Thread Cert.KernelSeenIdeal.nD Cert.KernelSeenIdeal.τ).loc Cert.KernelSeenIdeal.main_arg0)
          ∧ r.2.mem ((c.tc : Thread Cert.KernelSeenIdeal.nD Cert.KernelSeenIdeal.τ).loc Cert.KernelSeenIdeal.main_arg1) = m ((c.tc : Thread Cert.KernelSeenIdeal.nD Cert.KernelSeenIdeal.τ).loc Cert.KernelSeenIdeal.main_arg1)
          ∧ r.2.mem ((c.tc : Thread Cert.KernelSeenIdeal.nD Cert.KernelSeenIdeal.τ).loc Cert.KernelSeenIdeal.main_arg2) = m ((c.tc : Thread Cert.KernelSeenIdeal.nD Cert.KernelSeenIdeal.τ).loc Cert.KernelSeenIdeal.main_arg2))
      ∧ θ_run (Cert.ReferenceSeenIdeal.defs (F := Ideal)) (onTc (τ := Cert.ReferenceSeenIdeal.τ) (Cert.ReferenceSeenIdeal.main (F := Ideal))) ⟨m', fun _ => 0, g'⟩ (fun r => ∀ c : Dev Cert.ReferenceSeenIdeal.nD,
          r.2.mem ((c.tc : Thread Cert.ReferenceSeenIdeal.nD Cert.ReferenceSeenIdeal.τ).loc Cert.ReferenceSeenIdeal.main_v3) = v0 c
          ∧ r.2.mem ((c.tc : Thread Cert.ReferenceSeenIdeal.nD Cert.ReferenceSeenIdeal.τ).loc Cert.ReferenceSeenIdeal.main_arg0) = m' ((c.tc : Thread Cert.ReferenceSeenIdeal.nD Cert.ReferenceSeenIdeal.τ).loc Cert.ReferenceSeenIdeal.main_arg0)
          ∧ r.2.mem ((c.tc : Thread Cert.ReferenceSeenIdeal.nD Cert.ReferenceSeenIdeal.τ).loc Cert.ReferenceSeenIdeal.main_arg1) = m' ((c.tc : Thread Cert.ReferenceSeenIdeal.nD Cert.ReferenceSeenIdeal.τ).loc Cert.ReferenceSeenIdeal.main_arg1)
          ∧ r.2.mem ((c.tc : Thread Cert.ReferenceSeenIdeal.nD Cert.ReferenceSeenIdeal.τ).loc Cert.ReferenceSeenIdeal.main_arg2) = m' ((c.tc : Thread Cert.ReferenceSeenIdeal.nD Cert.ReferenceSeenIdeal.τ).loc Cert.ReferenceSeenIdeal.main_arg2))

def preserves_KernelFed_KernelFedIdeal : Prop :=
  True

def algebraic_KernelFedIdeal_ReferenceFedIdeal [hKernelFedIdeal : Cert.KernelFedIdeal.Facts] [hReferenceFedIdeal : Cert.ReferenceFedIdeal.Facts] : Prop :=
  ∀ (m : (ℓ : Loc Cert.KernelFedIdeal.nD Cert.KernelFedIdeal.τ Cert.KernelFedIdeal.sig) → Buf (Elt Ideal) ℓ) (g : Dev Cert.KernelFedIdeal.nD → PrngReg)
    (m' : (ℓ : Loc Cert.ReferenceFedIdeal.nD Cert.ReferenceFedIdeal.τ Cert.ReferenceFedIdeal.sig) → Buf (Elt Ideal) ℓ) (g' : Dev Cert.ReferenceFedIdeal.nD → PrngReg), Pre_KernelFedIdeal m →
    (∀ c : Dev Cert.KernelFedIdeal.nD,
      m' ((c.tc : Thread Cert.ReferenceFedIdeal.nD Cert.ReferenceFedIdeal.τ).loc Cert.ReferenceFedIdeal.main_arg0) = m ((c.tc : Thread Cert.KernelFedIdeal.nD Cert.KernelFedIdeal.τ).loc Cert.KernelFedIdeal.main_arg0)
      ∧ m' ((c.tc : Thread Cert.ReferenceFedIdeal.nD Cert.ReferenceFedIdeal.τ).loc Cert.ReferenceFedIdeal.main_arg1) = m ((c.tc : Thread Cert.KernelFedIdeal.nD Cert.KernelFedIdeal.τ).loc Cert.KernelFedIdeal.main_arg1)
      ∧ m' ((c.tc : Thread Cert.ReferenceFedIdeal.nD Cert.ReferenceFedIdeal.τ).loc Cert.ReferenceFedIdeal.main_arg2) = m ((c.tc : Thread Cert.KernelFedIdeal.nD Cert.KernelFedIdeal.τ).loc Cert.KernelFedIdeal.main_arg2)) →
    ∃ (v0 : (c : Dev Cert.KernelFedIdeal.nD) → Buf (Elt Ideal) ((c.tc : Thread Cert.KernelFedIdeal.nD Cert.KernelFedIdeal.τ).loc Cert.KernelFedIdeal.main_v0)),
      θ_run (Cert.KernelFedIdeal.defs (F := Ideal)) (onTc (τ := Cert.KernelFedIdeal.τ) (Cert.KernelFedIdeal.main (F := Ideal))) ⟨m, fun _ => 0, g⟩ (fun r => ∀ c : Dev Cert.KernelFedIdeal.nD,
          r.2.mem ((c.tc : Thread Cert.KernelFedIdeal.nD Cert.KernelFedIdeal.τ).loc Cert.KernelFedIdeal.main_v0) = v0 c
          ∧ r.2.mem ((c.tc : Thread Cert.KernelFedIdeal.nD Cert.KernelFedIdeal.τ).loc Cert.KernelFedIdeal.main_arg0) = m ((c.tc : Thread Cert.KernelFedIdeal.nD Cert.KernelFedIdeal.τ).loc Cert.KernelFedIdeal.main_arg0)
          ∧ r.2.mem ((c.tc : Thread Cert.KernelFedIdeal.nD Cert.KernelFedIdeal.τ).loc Cert.KernelFedIdeal.main_arg1) = m ((c.tc : Thread Cert.KernelFedIdeal.nD Cert.KernelFedIdeal.τ).loc Cert.KernelFedIdeal.main_arg1)
          ∧ r.2.mem ((c.tc : Thread Cert.KernelFedIdeal.nD Cert.KernelFedIdeal.τ).loc Cert.KernelFedIdeal.main_arg2) = m ((c.tc : Thread Cert.KernelFedIdeal.nD Cert.KernelFedIdeal.τ).loc Cert.KernelFedIdeal.main_arg2))
      ∧ θ_run (Cert.ReferenceFedIdeal.defs (F := Ideal)) (onTc (τ := Cert.ReferenceFedIdeal.τ) (Cert.ReferenceFedIdeal.main (F := Ideal))) ⟨m', fun _ => 0, g'⟩ (fun r => ∀ c : Dev Cert.ReferenceFedIdeal.nD,
          r.2.mem ((c.tc : Thread Cert.ReferenceFedIdeal.nD Cert.ReferenceFedIdeal.τ).loc Cert.ReferenceFedIdeal.main_v5) = v0 c
          ∧ r.2.mem ((c.tc : Thread Cert.ReferenceFedIdeal.nD Cert.ReferenceFedIdeal.τ).loc Cert.ReferenceFedIdeal.main_arg0) = m' ((c.tc : Thread Cert.ReferenceFedIdeal.nD Cert.ReferenceFedIdeal.τ).loc Cert.ReferenceFedIdeal.main_arg0)
          ∧ r.2.mem ((c.tc : Thread Cert.ReferenceFedIdeal.nD Cert.ReferenceFedIdeal.τ).loc Cert.ReferenceFedIdeal.main_arg1) = m' ((c.tc : Thread Cert.ReferenceFedIdeal.nD Cert.ReferenceFedIdeal.τ).loc Cert.ReferenceFedIdeal.main_arg1)
          ∧ r.2.mem ((c.tc : Thread Cert.ReferenceFedIdeal.nD Cert.ReferenceFedIdeal.τ).loc Cert.ReferenceFedIdeal.main_arg2) = m' ((c.tc : Thread Cert.ReferenceFedIdeal.nD Cert.ReferenceFedIdeal.τ).loc Cert.ReferenceFedIdeal.main_arg2))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)) →
    ∃ (v0 : (c : Dev Cert.KernelKvIdeal.nD) → Buf (Elt Ideal) ((c.tc : Thread Cert.KernelKvIdeal.nD Cert.KernelKvIdeal.τ).loc Cert.KernelKvIdeal.main_v0)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v0) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v15) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)
      ∧ m' ((c.tc : Thread Cert.ReferenceQIdeal.nD Cert.ReferenceQIdeal.τ).loc Cert.ReferenceQIdeal.main_arg2) = m ((c.tc : Thread Cert.KernelQIdeal.nD Cert.KernelQIdeal.τ).loc Cert.KernelQIdeal.main_arg2)) →
    ∃ (v0 : (c : Dev Cert.KernelQIdeal.nD) → Buf (Elt Ideal) ((c.tc : Thread Cert.KernelQIdeal.nD Cert.KernelQIdeal.τ).loc Cert.KernelQIdeal.main_v0)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v0) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1)
          ∧ r.2.mem ((c.tc : Thread Cert.KernelQIdeal.nD Cert.KernelQIdeal.τ).loc Cert.KernelQIdeal.main_arg2) = m ((c.tc : Thread Cert.KernelQIdeal.nD Cert.KernelQIdeal.τ).loc Cert.KernelQIdeal.main_arg2))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v13) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1)
          ∧ r.2.mem ((c.tc : Thread Cert.ReferenceQIdeal.nD Cert.ReferenceQIdeal.τ).loc Cert.ReferenceQIdeal.main_arg2) = m' ((c.tc : Thread Cert.ReferenceQIdeal.nD Cert.ReferenceQIdeal.τ).loc Cert.ReferenceQIdeal.main_arg2))

def preserves_KernelGate_KernelGateIdeal : Prop :=
  True

def algebraic_KernelGateIdeal_ReferenceGateIdeal [hKernelGateIdeal : Cert.KernelGateIdeal.Facts] [hReferenceGateIdeal : Cert.ReferenceGateIdeal.Facts] : Prop :=
  ∀ (m : (ℓ : Loc Cert.KernelGateIdeal.nD Cert.KernelGateIdeal.τ Cert.KernelGateIdeal.sig) → Buf (Elt Ideal) ℓ) (g : Dev Cert.KernelGateIdeal.nD → PrngReg)
    (m' : (ℓ : Loc Cert.ReferenceGateIdeal.nD Cert.ReferenceGateIdeal.τ Cert.ReferenceGateIdeal.sig) → Buf (Elt Ideal) ℓ) (g' : Dev Cert.ReferenceGateIdeal.nD → PrngReg), Pre_KernelGateIdeal m →
    (∀ c : Dev Cert.KernelGateIdeal.nD,
      m' ((c.tc : Thread Cert.ReferenceGateIdeal.nD Cert.ReferenceGateIdeal.τ).loc Cert.ReferenceGateIdeal.main_arg0) = m ((c.tc : Thread Cert.KernelGateIdeal.nD Cert.KernelGateIdeal.τ).loc Cert.KernelGateIdeal.main_arg0)
      ∧ m' ((c.tc : Thread Cert.ReferenceGateIdeal.nD Cert.ReferenceGateIdeal.τ).loc Cert.ReferenceGateIdeal.main_arg1) = m ((c.tc : Thread Cert.KernelGateIdeal.nD Cert.KernelGateIdeal.τ).loc Cert.KernelGateIdeal.main_arg1)
      ∧ m' ((c.tc : Thread Cert.ReferenceGateIdeal.nD Cert.ReferenceGateIdeal.τ).loc Cert.ReferenceGateIdeal.main_arg2) = m ((c.tc : Thread Cert.KernelGateIdeal.nD Cert.KernelGateIdeal.τ).loc Cert.KernelGateIdeal.main_arg2)) →
    ∃ (v0 : (c : Dev Cert.KernelGateIdeal.nD) → Buf (Elt Ideal) ((c.tc : Thread Cert.KernelGateIdeal.nD Cert.KernelGateIdeal.τ).loc Cert.KernelGateIdeal.main_v1_0)) (v1 : (c : Dev Cert.KernelGateIdeal.nD) → Buf (Elt Ideal) ((c.tc : Thread Cert.KernelGateIdeal.nD Cert.KernelGateIdeal.τ).loc Cert.KernelGateIdeal.main_v1_1)),
      θ_run (Cert.KernelGateIdeal.defs (F := Ideal)) (onTc (τ := Cert.KernelGateIdeal.τ) (Cert.KernelGateIdeal.main (F := Ideal))) ⟨m, fun _ => 0, g⟩ (fun r => ∀ c : Dev Cert.KernelGateIdeal.nD,
          r.2.mem ((c.tc : Thread Cert.KernelGateIdeal.nD Cert.KernelGateIdeal.τ).loc Cert.KernelGateIdeal.main_v1_0) = v0 c
          ∧ r.2.mem ((c.tc : Thread Cert.KernelGateIdeal.nD Cert.KernelGateIdeal.τ).loc Cert.KernelGateIdeal.main_v1_1) = v1 c
          ∧ r.2.mem ((c.tc : Thread Cert.KernelGateIdeal.nD Cert.KernelGateIdeal.τ).loc Cert.KernelGateIdeal.main_arg0) = m ((c.tc : Thread Cert.KernelGateIdeal.nD Cert.KernelGateIdeal.τ).loc Cert.KernelGateIdeal.main_arg0)
          ∧ r.2.mem ((c.tc : Thread Cert.KernelGateIdeal.nD Cert.KernelGateIdeal.τ).loc Cert.KernelGateIdeal.main_arg1) = m ((c.tc : Thread Cert.KernelGateIdeal.nD Cert.KernelGateIdeal.τ).loc Cert.KernelGateIdeal.main_arg1)
          ∧ r.2.mem ((c.tc : Thread Cert.KernelGateIdeal.nD Cert.KernelGateIdeal.τ).loc Cert.KernelGateIdeal.main_arg2) = m ((c.tc : Thread Cert.KernelGateIdeal.nD Cert.KernelGateIdeal.τ).loc Cert.KernelGateIdeal.main_arg2))
      ∧ θ_run (Cert.ReferenceGateIdeal.defs (F := Ideal)) (onTc (τ := Cert.ReferenceGateIdeal.τ) (Cert.ReferenceGateIdeal.main (F := Ideal))) ⟨m', fun _ => 0, g'⟩ (fun r => ∀ c : Dev Cert.ReferenceGateIdeal.nD,
          r.2.mem ((c.tc : Thread Cert.ReferenceGateIdeal.nD Cert.ReferenceGateIdeal.τ).loc Cert.ReferenceGateIdeal.main_v25) = v0 c
          ∧ r.2.mem ((c.tc : Thread Cert.ReferenceGateIdeal.nD Cert.ReferenceGateIdeal.τ).loc Cert.ReferenceGateIdeal.main_v30) = v1 c
          ∧ r.2.mem ((c.tc : Thread Cert.ReferenceGateIdeal.nD Cert.ReferenceGateIdeal.τ).loc Cert.ReferenceGateIdeal.main_arg0) = m' ((c.tc : Thread Cert.ReferenceGateIdeal.nD Cert.ReferenceGateIdeal.τ).loc Cert.ReferenceGateIdeal.main_arg0)
          ∧ r.2.mem ((c.tc : Thread Cert.ReferenceGateIdeal.nD Cert.ReferenceGateIdeal.τ).loc Cert.ReferenceGateIdeal.main_arg1) = m' ((c.tc : Thread Cert.ReferenceGateIdeal.nD Cert.ReferenceGateIdeal.τ).loc Cert.ReferenceGateIdeal.main_arg1)
          ∧ r.2.mem ((c.tc : Thread Cert.ReferenceGateIdeal.nD Cert.ReferenceGateIdeal.τ).loc Cert.ReferenceGateIdeal.main_arg2) = m' ((c.tc : Thread Cert.ReferenceGateIdeal.nD Cert.ReferenceGateIdeal.τ).loc Cert.ReferenceGateIdeal.main_arg2))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v20) = v0 c
          ∧ r.2.mem ((c.tc : Thread Cert.ReferenceLossIdeal.nD Cert.ReferenceLossIdeal.τ).loc Cert.ReferenceLossIdeal.main_v21) = v1 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3))

def Claim : Prop :=
  ∃ (hKernel : Cert.Kernel.Facts) (hKernelIdeal : Cert.KernelIdeal.Facts) (hReferenceIdeal : Cert.ReferenceIdeal.Facts) (hKernelDown : Cert.KernelDown.Facts) (hKernelDownIdeal : Cert.KernelDownIdeal.Facts) (hReferenceDownIdeal : Cert.ReferenceDownIdeal.Facts) (hKernelGu : Cert.KernelGu.Facts) (hKernelGuIdeal : Cert.KernelGuIdeal.Facts) (hReferenceGuIdeal : Cert.ReferenceGuIdeal.Facts) (hKernelIn : Cert.KernelIn.Facts) (hKernelInIdeal : Cert.KernelInIdeal.Facts) (hReferenceInIdeal : Cert.ReferenceInIdeal.Facts) (hKernelDh : Cert.KernelDh.Facts) (hKernelDhIdeal : Cert.KernelDhIdeal.Facts) (hReferenceDhIdeal : Cert.ReferenceDhIdeal.Facts) (hKernelDx : Cert.KernelDx.Facts) (hKernelDxIdeal : Cert.KernelDxIdeal.Facts) (hReferenceDxIdeal : Cert.ReferenceDxIdeal.Facts) (hKernelDout : Cert.KernelDout.Facts) (hKernelDoutIdeal : Cert.KernelDoutIdeal.Facts) (hReferenceDoutIdeal : Cert.ReferenceDoutIdeal.Facts) (hKernelDatt : Cert.KernelDatt.Facts) (hKernelDattIdeal : Cert.KernelDattIdeal.Facts) (hReferenceDattIdeal : Cert.ReferenceDattIdeal.Facts) (hKernelOut : Cert.KernelOut.Facts) (hKernelOutIdeal : Cert.KernelOutIdeal.Facts) (hReferenceOutIdeal : Cert.ReferenceOutIdeal.Facts) (hKernelAtt : Cert.KernelAtt.Facts) (hKernelAttIdeal : Cert.KernelAttIdeal.Facts) (hReferenceAttIdeal : Cert.ReferenceAttIdeal.Facts) (hKernelMix : Cert.KernelMix.Facts) (hKernelMixIdeal : Cert.KernelMixIdeal.Facts) (hReferenceMixIdeal : Cert.ReferenceMixIdeal.Facts) (hKernelSeen : Cert.KernelSeen.Facts) (hKernelSeenIdeal : Cert.KernelSeenIdeal.Facts) (hReferenceSeenIdeal : Cert.ReferenceSeenIdeal.Facts) (hKernelFed : Cert.KernelFed.Facts) (hKernelFedIdeal : Cert.KernelFedIdeal.Facts) (hReferenceFedIdeal : Cert.ReferenceFedIdeal.Facts) (hKernelKv : Cert.KernelKv.Facts) (hKernelKvIdeal : Cert.KernelKvIdeal.Facts) (hReferenceKvIdeal : Cert.ReferenceKvIdeal.Facts) (hKernelQ : Cert.KernelQ.Facts) (hKernelQIdeal : Cert.KernelQIdeal.Facts) (hReferenceQIdeal : Cert.ReferenceQIdeal.Facts) (hKernelGate : Cert.KernelGate.Facts) (hKernelGateIdeal : Cert.KernelGateIdeal.Facts) (hReferenceGateIdeal : Cert.ReferenceGateIdeal.Facts) (hKernelLoss : Cert.KernelLoss.Facts) (hKernelLossIdeal : Cert.KernelLossIdeal.Facts) (hReferenceLossIdeal : Cert.ReferenceLossIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelGu (hKernelGu := hKernelGu)
    ∧ quiescent_KernelGuIdeal (hKernelGuIdeal := hKernelGuIdeal)
    ∧ quiescent_ReferenceGuIdeal (hReferenceGuIdeal := hReferenceGuIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelDh (hKernelDh := hKernelDh)
    ∧ quiescent_KernelDhIdeal (hKernelDhIdeal := hKernelDhIdeal)
    ∧ quiescent_ReferenceDhIdeal (hReferenceDhIdeal := hReferenceDhIdeal)
    ∧ quiescent_KernelDx (hKernelDx := hKernelDx)
    ∧ quiescent_KernelDxIdeal (hKernelDxIdeal := hKernelDxIdeal)
    ∧ quiescent_ReferenceDxIdeal (hReferenceDxIdeal := hReferenceDxIdeal)
    ∧ quiescent_KernelDout (hKernelDout := hKernelDout)
    ∧ quiescent_KernelDoutIdeal (hKernelDoutIdeal := hKernelDoutIdeal)
    ∧ quiescent_ReferenceDoutIdeal (hReferenceDoutIdeal := hReferenceDoutIdeal)
    ∧ quiescent_KernelDatt (hKernelDatt := hKernelDatt)
    ∧ quiescent_KernelDattIdeal (hKernelDattIdeal := hKernelDattIdeal)
    ∧ quiescent_ReferenceDattIdeal (hReferenceDattIdeal := hReferenceDattIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelAtt (hKernelAtt := hKernelAtt)
    ∧ quiescent_KernelAttIdeal (hKernelAttIdeal := hKernelAttIdeal)
    ∧ quiescent_ReferenceAttIdeal (hReferenceAttIdeal := hReferenceAttIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelSeen (hKernelSeen := hKernelSeen)
    ∧ quiescent_KernelSeenIdeal (hKernelSeenIdeal := hKernelSeenIdeal)
    ∧ quiescent_ReferenceSeenIdeal (hReferenceSeenIdeal := hReferenceSeenIdeal)
    ∧ quiescent_KernelFed (hKernelFed := hKernelFed)
    ∧ quiescent_KernelFedIdeal (hKernelFedIdeal := hKernelFedIdeal)
    ∧ quiescent_ReferenceFedIdeal (hReferenceFedIdeal := hReferenceFedIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelGate (hKernelGate := hKernelGate)
    ∧ quiescent_KernelGateIdeal (hKernelGateIdeal := hKernelGateIdeal)
    ∧ quiescent_ReferenceGateIdeal (hReferenceGateIdeal := hReferenceGateIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDown_KernelDownIdeal
    ∧ algebraic_KernelDownIdeal_ReferenceDownIdeal (hKernelDownIdeal := hKernelDownIdeal) (hReferenceDownIdeal := hReferenceDownIdeal)
    ∧ preserves_KernelGu_KernelGuIdeal
    ∧ algebraic_KernelGuIdeal_ReferenceGuIdeal (hKernelGuIdeal := hKernelGuIdeal) (hReferenceGuIdeal := hReferenceGuIdeal)
    ∧ preserves_KernelIn_KernelInIdeal
    ∧ algebraic_KernelInIdeal_ReferenceInIdeal (hKernelInIdeal := hKernelInIdeal) (hReferenceInIdeal := hReferenceInIdeal)
    ∧ preserves_KernelDh_KernelDhIdeal
    ∧ algebraic_KernelDhIdeal_ReferenceDhIdeal (hKernelDhIdeal := hKernelDhIdeal) (hReferenceDhIdeal := hReferenceDhIdeal)
    ∧ preserves_KernelDx_KernelDxIdeal
    ∧ algebraic_KernelDxIdeal_ReferenceDxIdeal (hKernelDxIdeal := hKernelDxIdeal) (hReferenceDxIdeal := hReferenceDxIdeal)
    ∧ preserves_KernelDout_KernelDoutIdeal
    ∧ algebraic_KernelDoutIdeal_ReferenceDoutIdeal (hKernelDoutIdeal := hKernelDoutIdeal) (hReferenceDoutIdeal := hReferenceDoutIdeal)
    ∧ preserves_KernelDatt_KernelDattIdeal
    ∧ algebraic_KernelDattIdeal_ReferenceDattIdeal (hKernelDattIdeal := hKernelDattIdeal) (hReferenceDattIdeal := hReferenceDattIdeal)
    ∧ preserves_KernelOut_KernelOutIdeal
    ∧ algebraic_KernelOutIdeal_ReferenceOutIdeal (hKernelOutIdeal := hKernelOutIdeal) (hReferenceOutIdeal := hReferenceOutIdeal)
    ∧ preserves_KernelAtt_KernelAttIdeal
    ∧ algebraic_KernelAttIdeal_ReferenceAttIdeal (hKernelAttIdeal := hKernelAttIdeal) (hReferenceAttIdeal := hReferenceAttIdeal)
    ∧ preserves_KernelMix_KernelMixIdeal
    ∧ algebraic_KernelMixIdeal_ReferenceMixIdeal (hKernelMixIdeal := hKernelMixIdeal) (hReferenceMixIdeal := hReferenceMixIdeal)
    ∧ preserves_KernelSeen_KernelSeenIdeal
    ∧ algebraic_KernelSeenIdeal_ReferenceSeenIdeal (hKernelSeenIdeal := hKernelSeenIdeal) (hReferenceSeenIdeal := hReferenceSeenIdeal)
    ∧ preserves_KernelFed_KernelFedIdeal
    ∧ algebraic_KernelFedIdeal_ReferenceFedIdeal (hKernelFedIdeal := hKernelFedIdeal) (hReferenceFedIdeal := hReferenceFedIdeal)
    ∧ preserves_KernelKv_KernelKvIdeal
    ∧ algebraic_KernelKvIdeal_ReferenceKvIdeal (hKernelKvIdeal := hKernelKvIdeal) (hReferenceKvIdeal := hReferenceKvIdeal)
    ∧ preserves_KernelQ_KernelQIdeal
    ∧ algebraic_KernelQIdeal_ReferenceQIdeal (hKernelQIdeal := hKernelQIdeal) (hReferenceQIdeal := hReferenceQIdeal)
    ∧ preserves_KernelGate_KernelGateIdeal
    ∧ algebraic_KernelGateIdeal_ReferenceGateIdeal (hKernelGateIdeal := hKernelGateIdeal) (hReferenceGateIdeal := hReferenceGateIdeal)
    ∧ preserves_KernelLoss_KernelLossIdeal
    ∧ algebraic_KernelLossIdeal_ReferenceLossIdeal (hKernelLossIdeal := hKernelLossIdeal) (hReferenceLossIdeal := hReferenceLossIdeal)
-- ==== Pre_finite.lean ====
abbrev S4096x6144 : Shape := ⟨2, ![4096, 6144]⟩
abbrev S1x2048 : Shape := ⟨2, ![1, 2048]⟩
abbrev S4096x2048 : Shape := ⟨2, ![4096, 2048]⟩
abbrev S64x4x256x512 : Shape := ⟨4, ![64, 4, 256, 512]⟩
abbrev S_ : Shape := ⟨0, ![]⟩

class Facts : Prop where
  slices_S4096x6144_S4096x2048_0_4096 : S4096x6144.Slices ![0, 4096] S4096x2048
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v14 : IVec S_ 1) (main_v15 : FVec F S4096x2048 .f32) (main_v16 : FVec F S4096x2048 .f32) : IVec S_ 1 :=
  let main_v17 : IVec S4096x2048 1 := cmpf .olt main_v15 main_v16
  let main_c_5 : IVec S_ 1 := constantI S_ 1 1#1
  let main_v18 : IVec S_ 1 := (fun x v => Host.reduce IntOp.andi x v reducesTo_S4096x2048_S_d0_1 h_S_) main_v17 main_c_5
  let main_v19 : IVec S_ 1 := andi main_v14 main_v18
  main_v19

def fn {F : FTy → Type} [FloatOps F] (main_arg0 : FVec F S4096x6144 .f32) (main_arg1 : FVec F S1x2048 .f32) (main_arg2 : FVec F S4096x2048 .f32) (main_arg3 : FVec F S64x4x256x512 .bf16) (main_arg4 : FVec F S4096x2048 .f32) : IVec S_ 1 :=
  let main_v0 : FVec F S4096x2048 .f32 := (extractStridedSlice S4096x2048 ![0, 4096] · slices_S4096x6144_S4096x2048_0_4096) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S1x2048 .f32 := Host.absf main_arg1
  let main_cst_0 : FVec F S_ .f32 := constant S_ .f32 0x7F800000#32
  let main_v6 : FVec F S1x2048 .f32 := broadcastInDim S1x2048 ![] bcast_S_S1x2048 main_cst_0
  let main_v7 : IVec S1x2048 1 := cmpf .olt main_v5 main_v6
  let main_c_1 : IVec S_ 1 := constantI S_ 1 1#1
  let main_v8 : IVec S_ 1 := (fun x v => Host.reduce IntOp.andi x v reducesTo_S1x2048_S_d0_1 h_S_) main_v7 main_c_1
  let main_v9 : IVec S_ 1 := andi main_v4 main_v8
  let main_v10 : FVec F S4096x2048 .f32 := Host.absf main_arg2
  let main_cst_2 : FVec F S_ .f32 := constant S_ .f32 0x7F800000#32
  let main_v11 : FVec F S4096x2048 .f32 := broadcastInDim S4096x2048 ![] bcast_S_S4096x2048 main_cst_2
  let main_v12 : IVec S4096x2048 1 := cmpf .olt main_v10 main_v11
  let main_c_3 : IVec S_ 1 := constantI S_ 1 1#1
  let main_v13 : IVec S_ 1 := (fun x v => Host.reduce IntOp.andi x v reducesTo_S4096x2048_S_d0_1 h_S_) main_v12 main_c_3
  let main_v14 : IVec S_ 1 := andi main_v9 main_v13
  let main_v15 : FVec F S4096x2048 .f32 := Host.absf main_arg4
  let main_cst_4 : FVec F S_ .f32 := constant S_ .f32 0x7F800000#32
  let main_v16 : FVec F S4096x2048 .f32 := broadcastInDim S4096x2048 ![] bcast_S_S4096x2048 main_cst_4
  fn_part1 (F := F) main_v14 main_v15 main_v16
-- ==== Kernel.lean ====
abbrev S4096x6144 : Shape := ⟨2, ![4096, 6144]⟩
abbrev S1x2048 : Shape := ⟨2, ![1, 2048]⟩
abbrev S4096x2048 : Shape := ⟨2, ![4096, 2048]⟩
abbrev S64x4x256x512 : Shape := ⟨4, ![64, 4, 256, 512]⟩
abbrev S4 : Shape := ⟨1, ![4]⟩
abbrev S_ : Shape := ⟨0, ![]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S4x64x1 : Shape := ⟨3, ![4, 64, 1]⟩
abbrev S4x64x256 : Shape := ⟨3, ![4, 64, 256]⟩
abbrev S128 : Shape := ⟨1, ![128]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S256x6144 : Shape := ⟨2, ![256, 6144]⟩
abbrev S256x128 : Shape := ⟨2, ![256, 128]⟩
abbrev S256x2048 : Shape := ⟨2, ![256, 2048]⟩
abbrev S4x4x256x512 : Shape := ⟨4, ![4, 4, 256, 512]⟩
abbrev S4x256x512 : Shape := ⟨3, ![4, 256, 512]⟩
abbrev S64x128 : Shape := ⟨2, ![64, 128]⟩
abbrev S64x256 : Shape := ⟨2, ![64, 256]⟩
abbrev S64x512 : Shape := ⟨2, ![64, 512]⟩
abbrev S1x512 : Shape := ⟨2, ![1, 512]⟩
abbrev S512 : Shape := ⟨1, ![512]⟩
abbrev S1x256x512 : Shape := ⟨3, ![1, 256, 512]⟩
abbrev S256x512 : Shape := ⟨2, ![256, 512]⟩
abbrev S1x1x256x512 : Shape := ⟨4, ![1, 1, 256, 512]⟩
abbrev S1x64x256 : Shape := ⟨3, ![1, 64, 256]⟩

abbrev nBuf : Space → Nat
  | .hbm => 69
  | .vmem => 20
  | .smem => 0
  | _ => 0

abbrev bufTy : (tb : Table) → Fin (tcTables nBuf tb) → BufTy
  | .hbm, ⟨0, _⟩ => ⟨S4096x6144, .f32⟩
  | .hbm, ⟨1, _⟩ => ⟨S1x2048, .f32⟩
  | .hbm, ⟨2, _⟩ => ⟨S4096x2048, .f32⟩
  | .hbm, ⟨3, _⟩ => ⟨S64x4x256x512, .bf16⟩
  | .hbm, ⟨4, _⟩ => ⟨S4096x2048, .f32⟩
  | .hbm, ⟨5, _⟩ => ⟨S4, .f32⟩
  | .hbm, ⟨6, _⟩ => ⟨S_, .f32⟩
  | .hbm, ⟨7, _⟩ => ⟨S4, .f32⟩
  | .hbm, ⟨8, _⟩ => ⟨S4, .f32⟩
  | .hbm, ⟨9, _⟩ => ⟨S_, .f32⟩
  | .hbm, ⟨10, _⟩ => ⟨S4, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S4, .f32⟩
  | .hbm, ⟨16, _⟩ => ⟨S64, .f32⟩
  | .hbm, ⟨17, _⟩ => ⟨S4x1x1, .f32⟩
  | .hbm, ⟨18, _⟩ => ⟨S64x1, .f32⟩
  | .hbm, ⟨19, _⟩ => ⟨S1x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S1x64x64, .f32⟩
  | .hbm, ⟨25, _⟩ => ⟨S4x64x64, .f32⟩
  | .hbm, ⟨26, _⟩ => ⟨S4x64x64, .f32⟩
  | .hbm, ⟨27, _⟩ => ⟨S4x64x64, .f32⟩
  | .hbm, ⟨28, _⟩ => ⟨S4x64x64, .f32⟩
  | .hbm, ⟨29, _⟩ => ⟨S4x1, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S1x64, .f32⟩
  | .hbm, ⟨34, _⟩ => ⟨S4x64, .f32⟩
  | .hbm, ⟨35, _⟩ => ⟨S4x64, .f32⟩
  | .hbm, ⟨36, _⟩ => ⟨S4x64, .f32⟩
  | .hbm, ⟨37, _⟩ => ⟨S4x64, .f32⟩
  | .hbm, ⟨38, _⟩ => ⟨S4x1, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S1x64, .f32⟩
  | .hbm, ⟨43, _⟩ => ⟨S4x64, .f32⟩
  | .hbm, ⟨44, _⟩ => ⟨S4x64, .f32⟩
  | .hbm, ⟨45, _⟩ => ⟨S4x64, .f32⟩
  | .hbm, ⟨46, _⟩ => ⟨S4x64, .f32⟩
  | .hbm, ⟨47, _⟩ => ⟨S4x64x1, .f32⟩
  | .hbm, ⟨48, _⟩ => ⟨S4x64x256, .f32⟩
  | .hbm, ⟨49, _⟩ => ⟨S4x64x1, .f32⟩
  | .hbm, ⟨50, _⟩ => ⟨S4x64x256, .f32⟩
  | .hbm, ⟨51, _⟩ => ⟨S128, .f32⟩
  | .hbm, ⟨52, _⟩ => ⟨S128, .f32⟩
  | .hbm, ⟨53, _⟩ => ⟨S_, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S4096, .f32⟩
  | .hbm, ⟨60, _⟩ => ⟨S4096x1, .f32⟩
  | .hbm, ⟨61, _⟩ => ⟨S1x128, .f32⟩
  | .hbm, ⟨62, _⟩ => ⟨S4096x128, .f32⟩
  | .hbm, ⟨63, _⟩ => ⟨S4096x128, .f32⟩
  | .hbm, ⟨64, _⟩ => ⟨S4096x128, .f32⟩
  | .hbm, ⟨65, _⟩ => ⟨S4096x128, .f32⟩
  | .hbm, ⟨66, _⟩ => ⟨S4096x128, .f32⟩
  | .hbm, ⟨67, _⟩ => ⟨S4096x6144, .bf16⟩
  | .hbm, ⟨68, _⟩ => ⟨S1x2048, .f32⟩
  | .local _ .vmem, ⟨0, _⟩ => ⟨S256x6144, .f32⟩
  | .local _ .vmem, ⟨1, _⟩ => ⟨S256x6144, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S4x64x64, .f32⟩
  | .local _ .vmem, ⟨7, _⟩ => ⟨S4x64x256, .f32⟩
  | .local _ .vmem, ⟨8, _⟩ => ⟨S4x64x256, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S4x4x256x512, .bf16⟩
  | .local _ .vmem, ⟨13, _⟩ => ⟨S4x4x256x512, .bf16⟩
  | .local _ .vmem, ⟨14, _⟩ => ⟨S256x2048, .f32⟩
  | .local _ .vmem, ⟨15, _⟩ => ⟨S256x2048, .f32⟩
  | .local _ .vmem, ⟨16, _⟩ => ⟨S256x6144, .bf16⟩
  | .local _ .vmem, ⟨17, _⟩ => ⟨S256x6144, .bf16⟩
  | .local _ .vmem, ⟨18, _⟩ => ⟨S1x2048, .f32⟩
  | .local _ .vmem, ⟨19, _⟩ => ⟨S4x256x512, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_cst_5 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55_0 : Ref sig .tc := ⟨.hbm, 67, rfl⟩
abbrev main_v55_1 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_1018 : BitVec 32 := 0#32
  let v2298 : BitVec 1 := Scalar.cmpi .eq arg0 c0_i32_1018
  let v2299 : BitVec 32 := Scalar.extui v2298
  let c0_i32_1019 : BitVec 32 := 0#32
  let v2300 : BitVec 1 := Scalar.cmpi .ne v2299 c0_i32_1019
  v2300

def k0_cond3 (i : grid0.Coords) : BitVec 1 :=
  let arg0 : BitVec 32 := BitVec.ofNat 32 (i 0).val
  let c0_i32_1020 : BitVec 32 := 0#32
  let v2301 : BitVec 1 := Scalar.cmpi .sgt arg0 c0_i32_1020
  let v2302 : BitVec 32 := Scalar.extui v2301
  let c0_i32_1021 : BitVec 32 := 0#32
  let v2303 : BitVec 1 := Scalar.cmpi .ne v2302 c0_i32_1021
  v2303

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x4x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x6144 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "s_dec0" => some ((279993793990258235750468749959300213014699042596341116563305503247751586492770004816505534904321 / 2135987035920910082395021706169552114602704522356652769947041607822219725780640550022962086936576 : ℝ) : EReal)
  | "s_dec1" => some ((14381201289858923833733732277241427911251598557516928831287151963615866190845260542210496569296551598609485715599361 / 39402006196394479212279040100143613805079739270465446667948293404245721771497210611414266254884915640806627990306816 : ℝ) : EReal)
  | "s_dec2" => some ((439985273984774139364885786774155225074372621425249766976946157772109425125407741241214744259687760072793219732307971501512893104906241 / 726838724295606890549323807888004534353641360687318060281490199180639288113397923326191050713763565560762521606266177933534601628614656 : ℝ) : EReal)
  | "s_dec3" => some ((10436900611138725869172867285320967420499386398293333045633692797639857278619179096472846825397665828940838712011497657616843071082257665693759918212890625 / 13407807929942597099574024998205846127479365820592393377723561443721764030073546976801874298166903427690031858186486050853753882811946569946433649006084096 : ℝ) : EReal)
  | _ => none
-- ==== ReferenceIdeal.lean ====
abbrev S4096x6144 : Shape := ⟨2, ![4096, 6144]⟩
abbrev S1x2048 : Shape := ⟨2, ![1, 2048]⟩
abbrev S4096x2048 : Shape := ⟨2, ![4096, 2048]⟩
abbrev S64x4x256x512 : Shape := ⟨4, ![64, 4, 256, 512]⟩
abbrev S4096x1024 : Shape := ⟨2, ![4096, 1024]⟩
abbrev S4096 : Shape := ⟨1, ![4096]⟩
abbrev S4096x4x256 : Shape := ⟨3, ![4096, 4, 256]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S4096x1x128 : Shape := ⟨3, ![4096, 1, 128]⟩
abbrev S4096x4x128 : Shape := ⟨3, ![4096, 4, 128]⟩
abbrev S64x64x4x256 : Shape := ⟨4, ![64, 64, 4, 256]⟩
abbrev S64x4x64x256 : Shape := ⟨4, ![64, 4, 64, 256]⟩
abbrev S4096x4x512 : Shape := ⟨3, ![4096, 4, 512]⟩
abbrev S64x64x4x512 : Shape := ⟨4, ![64, 64, 4, 512]⟩
abbrev S64x4x64x512 : Shape := ⟨4, ![64, 4, 64, 512]⟩
abbrev S4x512 : Shape := ⟨2, ![4, 512]⟩
abbrev S4096x4 : Shape := ⟨2, ![4096, 4]⟩
abbrev S4096x4x1 : Shape := ⟨3, ![4096, 4, 1]⟩
abbrev S1x4x512 : Shape := ⟨3, ![1, 4, 512]⟩
abbrev S4x256x512 : Shape := ⟨3, ![4, 256, 512]⟩
abbrev S1x4x256x512 : Shape := ⟨4, ![1, 4, 256, 512]⟩
abbrev S1x4x64x256 : Shape := ⟨4, ![1, 4, 64, 256]⟩
abbrev S4x64x256 : Shape := ⟨3, ![4, 64, 256]⟩
abbrev S1x4x64x512 : Shape := ⟨4, ![1, 4, 64, 512]⟩
abbrev S4x64x512 : Shape := ⟨3, ![4, 64, 512]⟩
abbrev S4 : Shape := ⟨1, ![4]⟩
abbrev S4x1 : Shape := ⟨2, ![4, 1]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S4x64 : Shape := ⟨2, ![4, 64]⟩
abbrev S4x64x1 : Shape := ⟨3, ![4, 64, 1]⟩
abbrev S4x512x64 : Shape := ⟨3, ![4, 512, 64]⟩
abbrev S4x256x64 : Shape := ⟨3, ![4, 256, 64]⟩
abbrev S4x512x256 : Shape := ⟨3, ![4, 512, 256]⟩

abbrev nBuf : Space → Nat
  | .hbm => 470
  | .vmem => 0
  | .smem => 0
  | _ => 0

abbrev hbmTy0_0 (i : Nat) : BufTy := match i % 128 with
  | 0 => ⟨S4096x6144, .f32⟩
  | 1 => ⟨S1x2048, .f32⟩
  | 2 => ⟨S4096x2048, .f32⟩
  | 3 => ⟨S64x4x256x512, .bf16⟩
  | 4 => ⟨S4096x2048, .f32⟩
  | 5 => ⟨S4096x1024, .f32⟩
  | 6 => ⟨S4096x1024, .f32⟩
  | 7 => ⟨S4096x2048, .f32⟩
  | 8 => ⟨S4096x2048, .f32⟩
  | 9 => ⟨S4096, .i32⟩
  | 10 => ⟨S4096x4x256, .f32⟩
  | 11 => ⟨S128, .f32⟩
  | 12 => ⟨S128, .f32⟩
  | 13 => ⟨S_, .f32⟩
  | 14 => ⟨S128, .f32⟩
  | 15 => ⟨S128, .f32⟩
  | 16 => ⟨S_, .f32⟩
  | 17 => ⟨S128, .f32⟩
  | 18 => ⟨S128, .f32⟩
  | 19 => ⟨S4096, .f32⟩
  | 20 => ⟨S4096x1, .f32⟩
  | 21 => ⟨S1x128, .f32⟩
  | 22 => ⟨S4096x128, .f32⟩
  | 23 => ⟨S4096x128, .f32⟩
  | 24 => ⟨S4096x128, .f32⟩
  | 25 => ⟨S4096x128, .f32⟩
  | 26 => ⟨S4096x1x128, .f32⟩
  | 27 => ⟨S4096x128, .f32⟩
  | 28 => ⟨S4096x1x128, .f32⟩
  | 29 => ⟨S4096x4x128, .f32⟩
  | 30 => ⟨S4096x4x128, .f32⟩
  | 31 => ⟨S4096x4x128, .f32⟩
  | 32 => ⟨S4096x4x128, .f32⟩
  | 33 => ⟨S4096x4x128, .f32⟩
  | 34 => ⟨S4096x4x128, .f32⟩
  | 35 => ⟨S4096x4x128, .f32⟩
  | 36 => ⟨S4096x4x128, .f32⟩
  | 37 => ⟨S4096x4x128, .f32⟩
  | 38 => ⟨S4096x4x128, .f32⟩
  | 39 => ⟨S4096x4x128, .f32⟩
  | 40 => ⟨S4096x4x128, .f32⟩
  | 41 => ⟨S4096x4x256, .f32⟩
  | 42 => ⟨S4096x4x256, .f32⟩
  | 43 => ⟨S128, .f32⟩
  | 44 => ⟨S128, .f32⟩
  | 45 => ⟨S_, .f32⟩
  | 46 => ⟨S128, .f32⟩
  | 47 => ⟨S128, .f32⟩
  | 48 => ⟨S_, .f32⟩
  | 49 => ⟨S128, .f32⟩
  | 50 => ⟨S128, .f32⟩
  | 51 => ⟨S4096, .f32⟩
  | 52 => ⟨S4096x1, .f32⟩
  | 53 => ⟨S1x128, .f32⟩
  | 54 => ⟨S4096x128, .f32⟩
  | 55 => ⟨S4096x128, .f32⟩
  | 56 => ⟨S4096x128, .f32⟩
  | 57 => ⟨S4096x128, .f32⟩
  | 58 => ⟨S4096x1x128, .f32⟩
  | 59 => ⟨S4096x128, .f32⟩
  | 60 => ⟨S4096x1x128, .f32⟩
  | 61 => ⟨S4096x4x128, .f32⟩
  | 62 => ⟨S4096x4x128, .f32⟩
  | 63 => ⟨S4096x4x128, .f32⟩
  | 64 => ⟨S4096x4x128, .f32⟩
  | 65 => ⟨S4096x4x128, .f32⟩
  | 66 => ⟨S4096x4x128, .f32⟩
  | 67 => ⟨S4096x4x128, .f32⟩
  | 68 => ⟨S4096x4x128, .f32⟩
  | 69 => ⟨S4096x4x128, .f32⟩
  | 70 => ⟨S4096x4x128, .f32⟩
  | 71 => ⟨S4096x4x128, .f32⟩
  | 72 => ⟨S4096x4x128, .f32⟩
  | 73 => ⟨S4096x4x256, .f32⟩
  | 74 => ⟨S_, .f32⟩
  | 75 => ⟨S4096x4x256, .f32⟩
  | 76 => ⟨S4096x4x256, .f32⟩
  | 77 => ⟨S64x64x4x256, .f32⟩
  | 78 => ⟨S64x4x64x256, .f32⟩
  | 79 => ⟨S64x64x4x256, .f32⟩
  | 80 => ⟨S64x4x64x256, .f32⟩
  | 81 => ⟨S4096x4x512, .f32⟩
  | 82 => ⟨S64x64x4x512, .f32⟩
  | 83 => ⟨S64x4x64x512, .f32⟩
  | 84 => ⟨S4096x4x512, .f32⟩
  | 85 => ⟨S4x512, .f32⟩
  | 86 => ⟨S4096x4x512, .f32⟩
  | 87 => ⟨S_, .f32⟩
  | 88 => ⟨S4096x4, .f32⟩
  | 89 => ⟨S4096x4x1, .f32⟩
  | 90 => ⟨S_, .f32⟩
  | 91 => ⟨S4096x4x1, .f32⟩
  | 92 => ⟨S4096x4x1, .f32⟩
  | 93 => ⟨S_, .f32⟩
  | 94 => ⟨S4096x4x1, .f32⟩
  | 95 => ⟨S4096x4x1, .f32⟩
  | 96 => ⟨S4096x4x1, .f32⟩
  | 97 => ⟨S4096x4x1, .f32⟩
  | 98 => ⟨S_, .f32⟩
  | 99 => ⟨S4096x4x1, .f32⟩
  | 100 => ⟨S4096x4x1, .f32⟩
  | 101 => ⟨S4096x4x512, .f32⟩
  | 102 => ⟨S4096x4x512, .f32⟩
  | 103 => ⟨S1x4x512, .f32⟩
  | 104 => ⟨S4096x4x512, .f32⟩
  | 105 => ⟨S4096x4x512, .f32⟩
  | 106 => ⟨S4096x2048, .f32⟩
  | 107 => ⟨S4096x2048, .f32⟩
  | 108 => ⟨S4096x2048, .f32⟩
  | 109 => ⟨S_, .f32⟩
  | 110 => ⟨S4096x2048, .f32⟩
  | 111 => ⟨S4096x2048, .f32⟩
  | 112 => ⟨S_, .f32⟩
  | 113 => ⟨S4096x2048, .f32⟩
  | 114 => ⟨S4096x2048, .f32⟩
  | 115 => ⟨S4096x2048, .f32⟩
  | 116 => ⟨S4096x2048, .f32⟩
  | 117 => ⟨S4096x2048, .f32⟩
  | 118 => ⟨S4096x4x512, .f32⟩
  | 119 => ⟨S4096x4x512, .f32⟩
  | 120 => ⟨S4096x4x512, .f32⟩
  | 121 => ⟨S4096x4x512, .f32⟩
  | 122 => ⟨S_, .f32⟩
  | 123 => ⟨S4096x4, .f32⟩
  | 124 => ⟨S4096x4x1, .f32⟩
  | 125 => ⟨S4096x4x512, .f32⟩
  | 126 => ⟨S4096x4x512, .f32⟩
  | 127 => ⟨S4096x4x1, .f32⟩
  | _ => ⟨S4096x6144, .f32⟩

abbrev hbmTy0_1 (i : Nat) : BufTy := match i % 128 with
  | 0 => ⟨S_, .f32⟩
  | 1 => ⟨S4096x4x1, .f32⟩
  | 2 => ⟨S4096x4x1, .f32⟩
  | 3 => ⟨S_, .f32⟩
  | 4 => ⟨S4096x4, .f32⟩
  | 5 => ⟨S4096x4x512, .f32⟩
  | 6 => ⟨S4096x4x512, .f32⟩
  | 7 => ⟨S4096x4x512, .f32⟩
  | 8 => ⟨S4096x4x512, .f32⟩
  | 9 => ⟨S4096x4x512, .f32⟩
  | 10 => ⟨S4096x2048, .f32⟩
  | 11 => ⟨S4096x4x512, .f32⟩
  | 12 => ⟨S64x64x4x512, .f32⟩
  | 13 => ⟨S64x4x64x512, .f32⟩
  | 14 => ⟨S_, .f32⟩
  | 15 => ⟨S4x256x512, .f32⟩
  | 16 => ⟨S_, .f32⟩
  | 17 => ⟨S64x4x64x256, .f32⟩
  | 18 => ⟨S_, .f32⟩
  | 19 => ⟨S64x4x64x256, .f32⟩
  | 20 => ⟨S_, .f32⟩
  | 21 => ⟨S64x4x64x512, .f32⟩
  | 22 => ⟨S_, .i32⟩
  | 23 => ⟨S64x4x256x512, .bf16⟩
  | 24 => ⟨S64x4x64x256, .f32⟩
  | 25 => ⟨S64x4x64x256, .f32⟩
  | 26 => ⟨S64x4x64x512, .f32⟩
  | 27 => ⟨S64x4x64x512, .f32⟩
  | 28 => ⟨S_, .i32⟩
  | 29 => ⟨S4x256x512, .f32⟩
  | 30 => ⟨S64x4x64x256, .f32⟩
  | 31 => ⟨S64x4x64x256, .f32⟩
  | 32 => ⟨S64x4x64x512, .f32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S1x4x256x512, .bf16⟩
  | 43 => ⟨S4x256x512, .bf16⟩
  | 44 => ⟨S_, .i32⟩
  | 45 => ⟨S_, .i32⟩
  | 46 => ⟨S_, .i32⟩
  | 47 => ⟨S1x4x64x256, .f32⟩
  | 48 => ⟨S4x64x256, .f32⟩
  | 49 => ⟨S_, .i32⟩
  | 50 => ⟨S_, .i32⟩
  | 51 => ⟨S_, .i32⟩
  | 52 => ⟨S1x4x64x256, .f32⟩
  | 53 => ⟨S4x64x256, .f32⟩
  | 54 => ⟨S_, .i32⟩
  | 55 => ⟨S_, .i32⟩
  | 56 => ⟨S_, .i32⟩
  | 57 => ⟨S1x4x64x512, .f32⟩
  | 58 => ⟨S4x64x512, .f32⟩
  | 59 => ⟨S_, .i32⟩
  | 60 => ⟨S_, .i32⟩
  | 61 => ⟨S_, .i32⟩
  | 62 => ⟨S1x4x64x512, .f32⟩
  | 63 => ⟨S4x64x512, .f32⟩
  | 64 => ⟨S4x256x512, .f32⟩
  | 65 => ⟨S4, .f32⟩
  | 66 => ⟨S_, .f32⟩
  | 67 => ⟨S4, .f32⟩
  | 68 => ⟨S4, .f32⟩
  | 69 => ⟨S_, .f32⟩
  | 70 => ⟨S4, .f32⟩
  | 71 => ⟨S4, .f32⟩
  | 72 => ⟨S_, .f32⟩
  | 73 => ⟨S4, .f32⟩
  | 74 => ⟨S4, .f32⟩
  | 75 => ⟨S4, .f32⟩
  | 76 => ⟨S4x1, .f32⟩
  | 77 => ⟨S64, .f32⟩
  | 78 => ⟨S4x1x1, .f32⟩
  | 79 => ⟨S64x1, .f32⟩
  | 80 => ⟨S1x64, .f32⟩
  | 81 => ⟨S64x64, .f32⟩
  | 82 => ⟨S64x64, .f32⟩
  | 83 => ⟨S64x64, .f32⟩
  | 84 => ⟨S64x64, .f32⟩
  | 85 => ⟨S1x64x64, .f32⟩
  | 86 => ⟨S4x64x64, .f32⟩
  | 87 => ⟨S4x64x64, .f32⟩
  | 88 => ⟨S4x64x64, .f32⟩
  | 89 => ⟨S4x64x64, .f32⟩
  | 90 => ⟨S_, .f32⟩
  | 91 => ⟨S64, .f32⟩
  | 92 => ⟨S64, .f32⟩
  | 93 => ⟨S1x64, .f32⟩
  | 94 => ⟨S4x64, .f32⟩
  | 95 => ⟨S4x64, .f32⟩
  | 96 => ⟨S4x64, .f32⟩
  | 97 => ⟨S4x64, .f32⟩
  | 98 => ⟨S4x64x1, .f32⟩
  | 99 => ⟨S_, .f32⟩
  | 100 => ⟨S64, .f32⟩
  | 101 => ⟨S64, .f32⟩
  | 102 => ⟨S1x64, .f32⟩
  | 103 => ⟨S4x64, .f32⟩
  | 104 => ⟨S4x64, .f32⟩
  | 105 => ⟨S4x64, .f32⟩
  | 106 => ⟨S4x64, .f32⟩
  | 107 => ⟨S4x64x1, .f32⟩
  | 108 => ⟨S_, .f32⟩
  | 109 => ⟨S4x1, .f32⟩
  | 110 => ⟨S4x1, .f32⟩
  | 111 => ⟨S4x1, .f32⟩
  | 112 => ⟨S4x1x1, .f32⟩
  | 113 => ⟨S4x64x64, .f32⟩
  | 114 => ⟨S4x64x64, .f32⟩
  | 115 => ⟨S4x64x512, .f32⟩
  | 116 => ⟨S4x64x256, .f32⟩
  | 117 => ⟨S4x64x256, .f32⟩
  | 118 => ⟨S4x64x512, .f32⟩
  | 119 => ⟨S4x64x512, .f32⟩
  | 120 => ⟨S4x256x512, .f32⟩
  | 121 => ⟨S4x256x512, .f32⟩
  | 122 => ⟨S4x64x256, .f32⟩
  | 123 => ⟨S4x64x256, .f32⟩
  | 124 => ⟨S4x256x512, .f32⟩
  | 125 => ⟨S4x256x512, .f32⟩
  | 126 => ⟨S4x512x64, .f32⟩
  | 127 => ⟨S4x64x512, .f32⟩
  | _ => ⟨S4096x6144, .f32⟩

abbrev hbmTy0_2 (i : Nat) : BufTy := match i % 128 with
  | 0 => ⟨S4x256x64, .f32⟩
  | 1 => ⟨S4x64x256, .f32⟩
  | 2 => ⟨S4x64x256, .f32⟩
  | 3 => ⟨S4x64x256, .f32⟩
  | 4 => ⟨S4x256x512, .f32⟩
  | 5 => ⟨S4x256x512, .f32⟩
  | 6 => ⟨S4x512x256, .f32⟩
  | 7 => ⟨S4x256x512, .f32⟩
  | 8 => ⟨S4x256x512, .f32⟩
  | 9 => ⟨S4x64x256, .f32⟩
  | 10 => ⟨S4x64x256, .f32⟩
  | 11 => ⟨S4x64x256, .f32⟩
  | 12 => ⟨S4x512x64, .f32⟩
  | 13 => ⟨S4x64x512, .f32⟩
  | 14 => ⟨S4x64x512, .f32⟩
  | 15 => ⟨S4x64x64, .f32⟩
  | 16 => ⟨S4x64x64, .f32⟩
  | 17 => ⟨S4x64x256, .f32⟩
  | 18 => ⟨S4x64x256, .f32⟩
  | 19 => ⟨S4x64x256, .f32⟩
  | 20 => ⟨S4x64x256, .f32⟩
  | 21 => ⟨S1x4x64x256, .f32⟩
  | 22 => ⟨S_, .i32⟩
  | 23 => ⟨S_, .i32⟩
  | 24 => ⟨S_, .i32⟩
  | 25 => ⟨S64x4x64x256, .f32⟩
  | 26 => ⟨S1x4x64x256, .f32⟩
  | 27 => ⟨S_, .i32⟩
  | 28 => ⟨S_, .i32⟩
  | 29 => ⟨S_, .i32⟩
  | 30 => ⟨S64x4x64x256, .f32⟩
  | 31 => ⟨S1x4x64x512, .f32⟩
  | 32 => ⟨S_, .i32⟩
  | 33 => ⟨S_, .i32⟩
  | 34 => ⟨S_, .i32⟩
  | 35 => ⟨S64x4x64x512, .f32⟩
  | 36 => ⟨S_, .i32⟩
  | 37 => ⟨S_, .i32⟩
  | 38 => ⟨S4096x1024, .f32⟩
  | 39 => ⟨S4096x1024, .f32⟩
  | 40 => ⟨S4096x2048, .f32⟩
  | 41 => ⟨S4096x2048, .f32⟩
  | 42 => ⟨S4096, .i32⟩
  | 43 => ⟨S4096x4x256, .f32⟩
  | 44 => ⟨S128, .f32⟩
  | 45 => ⟨S128, .f32⟩
  | 46 => ⟨S_, .f32⟩
  | 47 => ⟨S128, .f32⟩
  | 48 => ⟨S128, .f32⟩
  | 49 => ⟨S_, .f32⟩
  | 50 => ⟨S128, .f32⟩
  | 51 => ⟨S128, .f32⟩
  | 52 => ⟨S4096, .f32⟩
  | 53 => ⟨S4096x1, .f32⟩
  | 54 => ⟨S1x128, .f32⟩
  | 55 => ⟨S4096x128, .f32⟩
  | 56 => ⟨S4096x128, .f32⟩
  | 57 => ⟨S4096x128, .f32⟩
  | 58 => ⟨S4096x128, .f32⟩
  | 59 => ⟨S4096x1x128, .f32⟩
  | 60 => ⟨S4096x128, .f32⟩
  | 61 => ⟨S4096x1x128, .f32⟩
  | 62 => ⟨S4096x4x128, .f32⟩
  | 63 => ⟨S4096x4x128, .f32⟩
  | 64 => ⟨S4096x4x128, .f32⟩
  | 65 => ⟨S4096x4x128, .f32⟩
  | 66 => ⟨S4096x4x128, .f32⟩
  | 67 => ⟨S4096x4x128, .f32⟩
  | 68 => ⟨S4096x4x128, .f32⟩
  | 69 => ⟨S4096x4x128, .f32⟩
  | 70 => ⟨S4096x4x128, .f32⟩
  | 71 => ⟨S4096x4x128, .f32⟩
  | 72 => ⟨S4096x4x128, .f32⟩
  | 73 => ⟨S4096x4x128, .f32⟩
  | 74 => ⟨S4096x4x256, .f32⟩
  | 75 => ⟨S4096x4x256, .f32⟩
  | 76 => ⟨S128, .f32⟩
  | 77 => ⟨S128, .f32⟩
  | 78 => ⟨S_, .f32⟩
  | 79 => ⟨S128, .f32⟩
  | 80 => ⟨S128, .f32⟩
  | 81 => ⟨S_, .f32⟩
  | 82 => ⟨S128, .f32⟩
  | 83 => ⟨S128, .f32⟩
  | 84 => ⟨S4096, .f32⟩
  | 85 => ⟨S4096x1, .f32⟩
  | 86 => ⟨S1x128, .f32⟩
  | 87 => ⟨S4096x128, .f32⟩
  | 88 => ⟨S4096x128, .f32⟩
  | 89 => ⟨S4096x128, .f32⟩
  | 90 => ⟨S4096x128, .f32⟩
  | 91 => ⟨S4096x1x128, .f32⟩
  | 92 => ⟨S4096x128, .f32⟩
  | 93 => ⟨S4096x1x128, .f32⟩
  | 94 => ⟨S4096x4x128, .f32⟩
  | 95 => ⟨S4096x4x128, .f32⟩
  | 96 => ⟨S4096x4x128, .f32⟩
  | 97 => ⟨S4096x4x128, .f32⟩
  | 98 => ⟨S4096x4x128, .f32⟩
  | 99 => ⟨S4096x4x128, .f32⟩
  | 100 => ⟨S4096x4x128, .f32⟩
  | 101 => ⟨S4096x4x128, .f32⟩
  | 102 => ⟨S4096x4x128, .f32⟩
  | 103 => ⟨S4096x4x128, .f32⟩
  | 104 => ⟨S4096x4x128, .f32⟩
  | 105 => ⟨S4096x4x128, .f32⟩
  | 106 => ⟨S4096x4x256, .f32⟩
  | 107 => ⟨S_, .f32⟩
  | 108 => ⟨S4096x4x256, .f32⟩
  | 109 => ⟨S4096x4x256, .f32⟩
  | 110 => ⟨S64x64x4x256, .f32⟩
  | 111 => ⟨S64x4x64x256, .f32⟩
  | 112 => ⟨S64x64x4x256, .f32⟩
  | 113 => ⟨S64x4x64x256, .f32⟩
  | 114 => ⟨S4096x4x512, .f32⟩
  | 115 => ⟨S64x64x4x512, .f32⟩
  | 116 => ⟨S64x4x64x512, .f32⟩
  | 117 => ⟨S4096x4x512, .f32⟩
  | 118 => ⟨S4x512, .f32⟩
  | 119 => ⟨S4096x4x512, .f32⟩
  | 120 => ⟨S_, .f32⟩
  | 121 => ⟨S4096x4, .f32⟩
  | 122 => ⟨S4096x4x1, .f32⟩
  | 123 => ⟨S_, .f32⟩
  | 124 => ⟨S4096x4x1, .f32⟩
  | 125 => ⟨S4096x4x1, .f32⟩
  | 126 => ⟨S_, .f32⟩
  | 127 => ⟨S4096x4x1, .f32⟩
  | _ => ⟨S4096x6144, .f32⟩

abbrev hbmTy0_3 (i : Nat) : BufTy := match i % 128 with
  | 0 => ⟨S4096x4x1, .f32⟩
  | 1 => ⟨S4096x4x1, .f32⟩
  | 2 => ⟨S4096x4x512, .f32⟩
  | 3 => ⟨S4096x4x512, .f32⟩
  | 4 => ⟨S1x4x512, .f32⟩
  | 5 => ⟨S4096x4x512, .f32⟩
  | 6 => ⟨S4096x4x512, .f32⟩
  | 7 => ⟨S4096x2048, .f32⟩
  | 8 => ⟨S4096x2048, .f32⟩
  | 9 => ⟨S4096x2048, .f32⟩
  | 10 => ⟨S_, .f32⟩
  | 11 => ⟨S4096x2048, .f32⟩
  | 12 => ⟨S4096x2048, .f32⟩
  | 13 => ⟨S_, .f32⟩
  | 14 => ⟨S4096x2048, .f32⟩
  | 15 => ⟨S4096x2048, .f32⟩
  | 16 => ⟨S_, .f32⟩
  | 17 => ⟨S4096x2048, .f32⟩
  | 18 => ⟨S4096x2048, .f32⟩
  | 19 => ⟨S4096x2048, .f32⟩
  | 20 => ⟨S4096x2048, .f32⟩
  | 21 => ⟨S4096x2048, .f32⟩
  | 22 => ⟨S4096x2048, .f32⟩
  | 23 => ⟨S4096x2048, .f32⟩
  | 24 => ⟨S4096x2048, .f32⟩
  | 25 => ⟨S4096x2048, .f32⟩
  | 26 => ⟨S4096x2048, .f32⟩
  | 27 => ⟨S4096x2048, .f32⟩
  | 28 => ⟨S4096x4x512, .f32⟩
  | 29 => ⟨S4096x4x512, .f32⟩
  | 30 => ⟨S_, .f32⟩
  | 31 => ⟨S4x512, .f32⟩
  | 32 => ⟨S1x4x512, .f32⟩
  | 33 => ⟨S_, .f32⟩
  | 34 => ⟨S4x512, .f32⟩
  | 35 => ⟨S1x2048, .f32⟩
  | 36 => ⟨S64x64x4x512, .f32⟩
  | 37 => ⟨S4096x4x512, .f32⟩
  | 38 => ⟨S4096x2048, .f32⟩
  | 39 => ⟨S64x64x4x256, .f32⟩
  | 40 => ⟨S4096x4x256, .f32⟩
  | 41 => ⟨S64x64x4x256, .f32⟩
  | 42 => ⟨S4096x4x256, .f32⟩
  | 43 => ⟨S_, .f32⟩
  | 44 => ⟨S4096x4x256, .f32⟩
  | 45 => ⟨S4096x4x256, .f32⟩
  | 46 => ⟨S4096x4x128, .f32⟩
  | 47 => ⟨S4096x4x128, .f32⟩
  | 48 => ⟨S4096x4x128, .f32⟩
  | 49 => ⟨S4096x4x128, .f32⟩
  | 50 => ⟨S4096x4x128, .f32⟩
  | 51 => ⟨S4096x4x128, .f32⟩
  | 52 => ⟨S4096x4x128, .f32⟩
  | 53 => ⟨S4096x4x128, .f32⟩
  | 54 => ⟨S4096x4x128, .f32⟩
  | 55 => ⟨S4096x4x128, .f32⟩
  | 56 => ⟨S4096x4x128, .f32⟩
  | 57 => ⟨S4096x4x128, .f32⟩
  | 58 => ⟨S4096x4x128, .f32⟩
  | 59 => ⟨S_, .f32⟩
  | 60 => ⟨S4096x4x256, .f32⟩
  | 61 => ⟨S_, .f32⟩
  | 62 => ⟨S4096x4x256, .f32⟩
  | 63 => ⟨S4096x4x256, .f32⟩
  | 64 => ⟨S4096x1024, .f32⟩
  | 65 => ⟨S4096x4x128, .f32⟩
  | 66 => ⟨S4096x4x128, .f32⟩
  | 67 => ⟨S4096x4x128, .f32⟩
  | 68 => ⟨S4096x4x128, .f32⟩
  | 69 => ⟨S4096x4x128, .f32⟩
  | 70 => ⟨S4096x4x128, .f32⟩
  | 71 => ⟨S4096x4x128, .f32⟩
  | 72 => ⟨S4096x4x128, .f32⟩
  | 73 => ⟨S4096x4x128, .f32⟩
  | 74 => ⟨S4096x4x128, .f32⟩
  | 75 => ⟨S4096x4x128, .f32⟩
  | 76 => ⟨S4096x4x128, .f32⟩
  | 77 => ⟨S4096x4x128, .f32⟩
  | 78 => ⟨S_, .f32⟩
  | 79 => ⟨S4096x4x256, .f32⟩
  | 80 => ⟨S_, .f32⟩
  | 81 => ⟨S4096x4x256, .f32⟩
  | 82 => ⟨S4096x4x256, .f32⟩
  | 83 => ⟨S4096x1024, .f32⟩
  | 84 => ⟨S4096x6144, .f32⟩
  | 85 => ⟨S4096x6144, .bf16⟩
  | _ => ⟨S4096x6144, .f32⟩

abbrev hbmTy (i : Nat) : BufTy := match i / 128 with
  | 0 => hbmTy0_0 i
  | 1 => hbmTy0_1 i
  | 2 => hbmTy0_2 i
  | 3 => hbmTy0_3 i
  | _ => ⟨S4096x6144, .f32⟩

abbrev bufTy : (tb : Table) → Fin (tcTables nBuf tb) → BufTy
  | .hbm, ⟨i, _⟩ => hbmTy i
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_1 : Ref sig .tc := ⟨.hbm, 45, rfl⟩
abbrev main_v38 : Ref sig .tc := ⟨.hbm, 46, rfl⟩
abbrev main_v39 : Ref sig .tc := ⟨.hbm, 47, rfl⟩
abbrev main_cst_2 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_cst_3 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_cst_4 : Ref sig .tc := ⟨.hbm, 87, rfl⟩
abbrev main_v77 : Ref sig .tc := ⟨.hbm, 88, rfl⟩
abbrev main_v78 : Ref sig .tc := ⟨.hbm, 89, rfl⟩
abbrev main_cst_5 : Ref sig .tc := ⟨.hbm, 90, rfl⟩
abbrev main_v79 : Ref sig .tc := ⟨.hbm, 91, rfl⟩
abbrev main_v80 : Ref sig .tc := ⟨.hbm, 92, rfl⟩
abbrev main_cst_6 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_cst_7 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_call0_v0 : Ref sig .tc := ⟨.hbm, 107, rfl⟩
abbrev main_call0_v1 : Ref sig .tc := ⟨.hbm, 108, rfl⟩
abbrev main_call0_cst : Ref sig .tc := ⟨.hbm, 109, rfl⟩
abbrev main_call0_v2 : Ref sig .tc := ⟨.hbm, 110, rfl⟩
abbrev main_call0_v3 : Ref sig .tc := ⟨.hbm, 111, rfl⟩
abbrev main_call0_cst_0 : Ref sig .tc := ⟨.hbm, 112, rfl⟩
abbrev main_call0_v4 : Ref sig .tc := ⟨.hbm, 113, rfl⟩
abbrev main_call0_v5 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_cst_8 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_9 : Ref sig .tc := ⟨.hbm, 128, rfl⟩
abbrev main_v105 : Ref sig .tc := ⟨.hbm, 129, rfl⟩
abbrev main_v106 : Ref sig .tc := ⟨.hbm, 130, rfl⟩
abbrev main_cst_10 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_11 : Ref sig .tc := ⟨.hbm, 142, rfl⟩
abbrev main_v117 : Ref sig .tc := ⟨.hbm, 143, rfl⟩
abbrev main_cst_12 : Ref sig .tc := ⟨.hbm, 144, rfl⟩
abbrev main_v118 : Ref sig .tc := ⟨.hbm, 145, rfl⟩
abbrev main_cst_13 : Ref sig .tc := ⟨.hbm, 146, rfl⟩
abbrev main_v119 : Ref sig .tc := ⟨.hbm, 147, rfl⟩
abbrev main_cst_14 : Ref sig .tc := ⟨.hbm, 148, rfl⟩
abbrev main_v120 : Ref sig .tc := ⟨.hbm, 149, rfl⟩
abbrev main_c : Ref sig .tc := ⟨.hbm, 150, rfl⟩
abbrev main_v121_0 : Ref sig .tc := ⟨.hbm, 151, rfl⟩
abbrev main_v121_1 : Ref sig .tc := ⟨.hbm, 152, rfl⟩
abbrev main_v121_2 : Ref sig .tc := ⟨.hbm, 153, rfl⟩
abbrev main_v121_3 : Ref sig .tc := ⟨.hbm, 154, rfl⟩
abbrev main_v121_4 : Ref sig .tc := ⟨.hbm, 155, rfl⟩
abbrev main_v121_5 : Ref sig .tc := ⟨.hbm, 156, rfl⟩
abbrev main_v121_6 : Ref sig .tc := ⟨.hbm, 157, rfl⟩
abbrev main_v121_7 : Ref sig .tc := ⟨.hbm, 158, rfl⟩
abbrev main_v121_8 : Ref sig .tc := ⟨.hbm, 159, rfl⟩
abbrev main_v121_9 : Ref sig .tc := ⟨.hbm, 160, rfl⟩
abbrev main_while0c_c_39 : Ref sig .tc := ⟨.hbm, 161, rfl⟩
abbrev main_while0c_v268 : Ref sig .tc := ⟨.hbm, 162, rfl⟩
abbrev main_while0b_c_39 : Ref sig .tc := ⟨.hbm, 163, rfl⟩
abbrev main_while0b_v268 : Ref sig .tc := ⟨.hbm, 164, rfl⟩
abbrev main_while0b_c_40 : Ref sig .tc := ⟨.hbm, 165, rfl⟩
abbrev main_while0b_v269 : Ref sig .tc := ⟨.hbm, 166, rfl⟩
abbrev main_while0b_call1_c : Ref sig .tc := ⟨.hbm, 167, rfl⟩
abbrev main_while0b_call1_c_0 : Ref sig .tc := ⟨.hbm, 168, rfl⟩
abbrev main_while0b_call1_c_1 : Ref sig .tc := ⟨.hbm, 169, rfl⟩
abbrev main_while0b_call1_v0 : Ref sig .tc := ⟨.hbm, 170, rfl⟩
abbrev main_while0b_v270 : Ref sig .tc := ⟨.hbm, 171, rfl⟩
abbrev main_while0b_call2_c : Ref sig .tc := ⟨.hbm, 172, rfl⟩
abbrev main_while0b_call2_c_0 : Ref sig .tc := ⟨.hbm, 173, rfl⟩
abbrev main_while0b_call2_c_1 : Ref sig .tc := ⟨.hbm, 174, rfl⟩
abbrev main_while0b_call2_v0 : Ref sig .tc := ⟨.hbm, 175, rfl⟩
abbrev main_while0b_v271 : Ref sig .tc := ⟨.hbm, 176, rfl⟩
abbrev main_while0b_call3_c : Ref sig .tc := ⟨.hbm, 177, rfl⟩
abbrev main_while0b_call3_c_0 : Ref sig .tc := ⟨.hbm, 178, rfl⟩
abbrev main_while0b_call3_c_1 : Ref sig .tc := ⟨.hbm, 179, rfl⟩
abbrev main_while0b_call3_v0 : Ref sig .tc := ⟨.hbm, 180, rfl⟩
abbrev main_while0b_v272 : Ref sig .tc := ⟨.hbm, 181, rfl⟩
abbrev main_while0b_call4_c : Ref sig .tc := ⟨.hbm, 182, rfl⟩
abbrev main_while0b_call4_c_0 : Ref sig .tc := ⟨.hbm, 183, rfl⟩
abbrev main_while0b_call4_c_1 : Ref sig .tc := ⟨.hbm, 184, rfl⟩
abbrev main_while0b_call4_v0 : Ref sig .tc := ⟨.hbm, 185, rfl⟩
abbrev main_while0b_v273 : Ref sig .tc := ⟨.hbm, 186, rfl⟩
abbrev main_while0b_call5_c : Ref sig .tc := ⟨.hbm, 187, rfl⟩
abbrev main_while0b_call5_c_0 : Ref sig .tc := ⟨.hbm, 188, rfl⟩
abbrev main_while0b_call5_c_1 : Ref sig .tc := ⟨.hbm, 189, rfl⟩
abbrev main_while0b_call5_v0 : Ref sig .tc := ⟨.hbm, 190, rfl⟩
abbrev main_while0b_v274 : Ref sig .tc := ⟨.hbm, 191, rfl⟩
abbrev main_while0b_v275 : Ref sig .tc := ⟨.hbm, 192, rfl⟩
abbrev main_while0b_v276 : Ref sig .tc := ⟨.hbm, 193, rfl⟩
abbrev main_while0b_cst_41 : Ref sig .tc := ⟨.hbm, 194, rfl⟩
abbrev main_while0b_v277 : Ref sig .tc := ⟨.hbm, 195, rfl⟩
abbrev main_while0b_v278 : Ref sig .tc := ⟨.hbm, 196, rfl⟩
abbrev main_while0b_cst_42 : Ref sig .tc := ⟨.hbm, 197, rfl⟩
abbrev main_while0b_v279 : Ref sig .tc := ⟨.hbm, 198, rfl⟩
abbrev main_while0b_v280 : Ref sig .tc := ⟨.hbm, 199, rfl⟩
abbrev main_while0b_cst_43 : Ref sig .tc := ⟨.hbm, 200, rfl⟩
abbrev main_while0b_v281 : Ref sig .tc := ⟨.hbm, 201, rfl⟩
abbrev main_while0b_v282 : Ref sig .tc := ⟨.hbm, 202, rfl⟩
abbrev main_while0b_v283 : Ref sig .tc := ⟨.hbm, 203, rfl⟩
abbrev main_while0b_v284 : Ref sig .tc := ⟨.hbm, 204, rfl⟩
abbrev main_while0b_v285 : Ref sig .tc := ⟨.hbm, 205, rfl⟩
abbrev main_while0b_v286 : Ref sig .tc := ⟨.hbm, 206, rfl⟩
abbrev main_while0b_v287 : Ref sig .tc := ⟨.hbm, 207, rfl⟩
abbrev main_while0b_v288 : Ref sig .tc := ⟨.hbm, 208, rfl⟩
abbrev main_while0b_v289 : Ref sig .tc := ⟨.hbm, 209, rfl⟩
abbrev main_while0b_v290 : Ref sig .tc := ⟨.hbm, 210, rfl⟩
abbrev main_while0b_v291 : Ref sig .tc := ⟨.hbm, 211, rfl⟩
abbrev main_while0b_v292 : Ref sig .tc := ⟨.hbm, 212, rfl⟩
abbrev main_while0b_v293 : Ref sig .tc := ⟨.hbm, 213, rfl⟩
abbrev main_while0b_v294 : Ref sig .tc := ⟨.hbm, 214, rfl⟩
abbrev main_while0b_v295 : Ref sig .tc := ⟨.hbm, 215, rfl⟩
abbrev main_while0b_v296 : Ref sig .tc := ⟨.hbm, 216, rfl⟩
abbrev main_while0b_v297 : Ref sig .tc := ⟨.hbm, 217, rfl⟩
abbrev main_while0b_cst_44 : Ref sig .tc := ⟨.hbm, 218, rfl⟩
abbrev main_while0b_v298 : Ref sig .tc := ⟨.hbm, 219, rfl⟩
abbrev main_while0b_v299 : Ref sig .tc := ⟨.hbm, 220, rfl⟩
abbrev main_while0b_v300 : Ref sig .tc := ⟨.hbm, 221, rfl⟩
abbrev main_while0b_v301 : Ref sig .tc := ⟨.hbm, 222, rfl⟩
abbrev main_while0b_v302 : Ref sig .tc := ⟨.hbm, 223, rfl⟩
abbrev main_while0b_v303 : Ref sig .tc := ⟨.hbm, 224, rfl⟩
abbrev main_while0b_v304 : Ref sig .tc := ⟨.hbm, 225, rfl⟩
abbrev main_while0b_v305 : Ref sig .tc := ⟨.hbm, 226, rfl⟩
abbrev main_while0b_cst_45 : Ref sig .tc := ⟨.hbm, 227, rfl⟩
abbrev main_while0b_v306 : Ref sig .tc := ⟨.hbm, 228, rfl⟩
abbrev main_while0b_v307 : Ref sig .tc := ⟨.hbm, 229, rfl⟩
abbrev main_while0b_v308 : Ref sig .tc := ⟨.hbm, 230, rfl⟩
abbrev main_while0b_v309 : Ref sig .tc := ⟨.hbm, 231, rfl⟩
abbrev main_while0b_v310 : Ref sig .tc := ⟨.hbm, 232, rfl⟩
abbrev main_while0b_v311 : Ref sig .tc := ⟨.hbm, 233, rfl⟩
abbrev main_while0b_v312 : Ref sig .tc := ⟨.hbm, 234, rfl⟩
abbrev main_while0b_v313 : Ref sig .tc := ⟨.hbm, 235, rfl⟩
abbrev main_while0b_cst_46 : Ref sig .tc := ⟨.hbm, 236, rfl⟩
abbrev main_while0b_v314 : Ref sig .tc := ⟨.hbm, 237, rfl⟩
abbrev main_while0b_v315 : Ref sig .tc := ⟨.hbm, 238, rfl⟩
abbrev main_while0b_v316 : Ref sig .tc := ⟨.hbm, 239, rfl⟩
abbrev main_while0b_v317 : Ref sig .tc := ⟨.hbm, 240, rfl⟩
abbrev main_while0b_v318 : Ref sig .tc := ⟨.hbm, 241, rfl⟩
abbrev main_while0b_v319 : Ref sig .tc := ⟨.hbm, 242, rfl⟩
abbrev main_while0b_v320 : Ref sig .tc := ⟨.hbm, 243, rfl⟩
abbrev main_while0b_v321 : Ref sig .tc := ⟨.hbm, 244, rfl⟩
abbrev main_while0b_v322 : Ref sig .tc := ⟨.hbm, 245, rfl⟩
abbrev main_while0b_v323 : Ref sig .tc := ⟨.hbm, 246, rfl⟩
abbrev main_while0b_v324 : Ref sig .tc := ⟨.hbm, 247, rfl⟩
abbrev main_while0b_v325 : Ref sig .tc := ⟨.hbm, 248, rfl⟩
abbrev main_while0b_v326 : Ref sig .tc := ⟨.hbm, 249, rfl⟩
abbrev main_while0b_v327 : Ref sig .tc := ⟨.hbm, 250, rfl⟩
abbrev main_while0b_v328 : Ref sig .tc := ⟨.hbm, 251, rfl⟩
abbrev main_while0b_v329 : Ref sig .tc := ⟨.hbm, 252, rfl⟩
abbrev main_while0b_v330 : Ref sig .tc := ⟨.hbm, 253, rfl⟩
abbrev main_while0b_v331 : Ref sig .tc := ⟨.hbm, 254, rfl⟩
abbrev main_while0b_v332 : Ref sig .tc := ⟨.hbm, 255, rfl⟩
abbrev main_while0b_v333 : Ref sig .tc := ⟨.hbm, 256, rfl⟩
abbrev main_while0b_v334 : Ref sig .tc := ⟨.hbm, 257, rfl⟩
abbrev main_while0b_v335 : Ref sig .tc := ⟨.hbm, 258, rfl⟩
abbrev main_while0b_v336 : Ref sig .tc := ⟨.hbm, 259, rfl⟩
abbrev main_while0b_v337 : Ref sig .tc := ⟨.hbm, 260, rfl⟩
abbrev main_while0b_v338 : Ref sig .tc := ⟨.hbm, 261, rfl⟩
abbrev main_while0b_v339 : Ref sig .tc := ⟨.hbm, 262, rfl⟩
abbrev main_while0b_v340 : Ref sig .tc := ⟨.hbm, 263, rfl⟩
abbrev main_while0b_v341 : Ref sig .tc := ⟨.hbm, 264, rfl⟩
abbrev main_while0b_v342 : Ref sig .tc := ⟨.hbm, 265, rfl⟩
abbrev main_while0b_v343 : Ref sig .tc := ⟨.hbm, 266, rfl⟩
abbrev main_while0b_v344 : Ref sig .tc := ⟨.hbm, 267, rfl⟩
abbrev main_while0b_v345 : Ref sig .tc := ⟨.hbm, 268, rfl⟩
abbrev main_while0b_v346 : Ref sig .tc := ⟨.hbm, 269, rfl⟩
abbrev main_while0b_v347 : Ref sig .tc := ⟨.hbm, 270, rfl⟩
abbrev main_while0b_v348 : Ref sig .tc := ⟨.hbm, 271, rfl⟩
abbrev main_while0b_v349 : Ref sig .tc := ⟨.hbm, 272, rfl⟩
abbrev main_while0b_v350 : Ref sig .tc := ⟨.hbm, 273, rfl⟩
abbrev main_while0b_v351 : Ref sig .tc := ⟨.hbm, 274, rfl⟩
abbrev main_while0b_v352 : Ref sig .tc := ⟨.hbm, 275, rfl⟩
abbrev main_while0b_v353 : Ref sig .tc := ⟨.hbm, 276, rfl⟩
abbrev main_while0b_call6_v0 : Ref sig .tc := ⟨.hbm, 277, rfl⟩
abbrev main_while0b_call6_c : Ref sig .tc := ⟨.hbm, 278, rfl⟩
abbrev main_while0b_call6_c_0 : Ref sig .tc := ⟨.hbm, 279, rfl⟩
abbrev main_while0b_call6_c_1 : Ref sig .tc := ⟨.hbm, 280, rfl⟩
abbrev main_while0b_v354 : Ref sig .tc := ⟨.hbm, 281, rfl⟩
abbrev main_while0b_call7_v0 : Ref sig .tc := ⟨.hbm, 282, rfl⟩
abbrev main_while0b_call7_c : Ref sig .tc := ⟨.hbm, 283, rfl⟩
abbrev main_while0b_call7_c_0 : Ref sig .tc := ⟨.hbm, 284, rfl⟩
abbrev main_while0b_call7_c_1 : Ref sig .tc := ⟨.hbm, 285, rfl⟩
abbrev main_while0b_v355 : Ref sig .tc := ⟨.hbm, 286, rfl⟩
abbrev main_while0b_call8_v0 : Ref sig .tc := ⟨.hbm, 287, rfl⟩
abbrev main_while0b_call8_c : Ref sig .tc := ⟨.hbm, 288, rfl⟩
abbrev main_while0b_call8_c_0 : Ref sig .tc := ⟨.hbm, 289, rfl⟩
abbrev main_while0b_call8_c_1 : Ref sig .tc := ⟨.hbm, 290, rfl⟩
abbrev main_while0b_v356 : Ref sig .tc := ⟨.hbm, 291, rfl⟩
abbrev main_while0b_c_47 : Ref sig .tc := ⟨.hbm, 292, rfl⟩
abbrev main_while0b_v357 : Ref sig .tc := ⟨.hbm, 293, rfl⟩
abbrev main_v122 : Ref sig .tc := ⟨.hbm, 294, rfl⟩
abbrev main_v123 : Ref sig .tc := ⟨.hbm, 295, rfl⟩
abbrev main_v124 : Ref sig .tc := ⟨.hbm, 296, rfl⟩
abbrev main_v125 : Ref sig .tc := ⟨.hbm, 297, rfl⟩
abbrev main_v126 : Ref sig .tc := ⟨.hbm, 298, rfl⟩
abbrev main_v127 : Ref sig .tc := ⟨.hbm, 299, rfl⟩
abbrev main_v128 : Ref sig .tc := ⟨.hbm, 300, rfl⟩
abbrev main_v129 : Ref sig .tc := ⟨.hbm, 301, rfl⟩
abbrev main_cst_15 : Ref sig .tc := ⟨.hbm, 302, rfl⟩
abbrev main_v130 : Ref sig .tc := ⟨.hbm, 303, rfl⟩
abbrev main_v131 : Ref sig .tc := ⟨.hbm, 304, rfl⟩
abbrev main_cst_16 : Ref sig .tc := ⟨.hbm, 305, rfl⟩
abbrev main_v132 : Ref sig .tc := ⟨.hbm, 306, rfl⟩
abbrev main_v133 : Ref sig .tc := ⟨.hbm, 307, rfl⟩
abbrev main_v134 : Ref sig .tc := ⟨.hbm, 308, rfl⟩
abbrev main_v135 : Ref sig .tc := ⟨.hbm, 309, rfl⟩
abbrev main_v136 : Ref sig .tc := ⟨.hbm, 310, rfl⟩
abbrev main_v137 : Ref sig .tc := ⟨.hbm, 311, rfl⟩
abbrev main_v138 : Ref sig .tc := ⟨.hbm, 312, rfl⟩
abbrev main_v139 : Ref sig .tc := ⟨.hbm, 313, rfl⟩
abbrev main_v140 : Ref sig .tc := ⟨.hbm, 314, rfl⟩
abbrev main_v141 : Ref sig .tc := ⟨.hbm, 315, rfl⟩
abbrev main_v142 : Ref sig .tc := ⟨.hbm, 316, rfl⟩
abbrev main_v143 : Ref sig .tc := ⟨.hbm, 317, rfl⟩
abbrev main_v144 : Ref sig .tc := ⟨.hbm, 318, rfl⟩
abbrev main_v145 : Ref sig .tc := ⟨.hbm, 319, rfl⟩
abbrev main_v146 : Ref sig .tc := ⟨.hbm, 320, rfl⟩
abbrev main_v147 : Ref sig .tc := ⟨.hbm, 321, rfl⟩
abbrev main_v148 : Ref sig .tc := ⟨.hbm, 322, rfl⟩
abbrev main_v149 : Ref sig .tc := ⟨.hbm, 323, rfl⟩
abbrev main_v150 : Ref sig .tc := ⟨.hbm, 324, rfl⟩
abbrev main_v151 : Ref sig .tc := ⟨.hbm, 325, rfl⟩
abbrev main_v152 : Ref sig .tc := ⟨.hbm, 326, rfl⟩
abbrev main_v153 : Ref sig .tc := ⟨.hbm, 327, rfl⟩
abbrev main_v154 : Ref sig .tc := ⟨.hbm, 328, rfl⟩
abbrev main_v155 : Ref sig .tc := ⟨.hbm, 329, rfl⟩
abbrev main_v156 : Ref sig .tc := ⟨.hbm, 330, rfl⟩
abbrev main_v157 : Ref sig .tc := ⟨.hbm, 331, rfl⟩
abbrev main_v158 : Ref sig .tc := ⟨.hbm, 332, rfl⟩
abbrev main_v159 : Ref sig .tc := ⟨.hbm, 333, rfl⟩
abbrev main_cst_17 : Ref sig .tc := ⟨.hbm, 334, rfl⟩
abbrev main_v160 : Ref sig .tc := ⟨.hbm, 335, rfl⟩
abbrev main_v161 : Ref sig .tc := ⟨.hbm, 336, rfl⟩
abbrev main_cst_18 : Ref sig .tc := ⟨.hbm, 337, rfl⟩
abbrev main_v162 : Ref sig .tc := ⟨.hbm, 338, rfl⟩
abbrev main_v163 : Ref sig .tc := ⟨.hbm, 339, rfl⟩
abbrev main_v164 : Ref sig .tc := ⟨.hbm, 340, rfl⟩
abbrev main_v165 : Ref sig .tc := ⟨.hbm, 341, rfl⟩
abbrev main_v166 : Ref sig .tc := ⟨.hbm, 342, rfl⟩
abbrev main_v167 : Ref sig .tc := ⟨.hbm, 343, rfl⟩
abbrev main_v168 : Ref sig .tc := ⟨.hbm, 344, rfl⟩
abbrev main_v169 : Ref sig .tc := ⟨.hbm, 345, rfl⟩
abbrev main_v170 : Ref sig .tc := ⟨.hbm, 346, rfl⟩
abbrev main_v171 : Ref sig .tc := ⟨.hbm, 347, rfl⟩
abbrev main_v172 : Ref sig .tc := ⟨.hbm, 348, rfl⟩
abbrev main_v173 : Ref sig .tc := ⟨.hbm, 349, rfl⟩
abbrev main_v174 : Ref sig .tc := ⟨.hbm, 350, rfl⟩
abbrev main_v175 : Ref sig .tc := ⟨.hbm, 351, rfl⟩
abbrev main_v176 : Ref sig .tc := ⟨.hbm, 352, rfl⟩
abbrev main_v177 : Ref sig .tc := ⟨.hbm, 353, rfl⟩
abbrev main_v178 : Ref sig .tc := ⟨.hbm, 354, rfl⟩
abbrev main_v179 : Ref sig .tc := ⟨.hbm, 355, rfl⟩
abbrev main_v180 : Ref sig .tc := ⟨.hbm, 356, rfl⟩
abbrev main_v181 : Ref sig .tc := ⟨.hbm, 357, rfl⟩
abbrev main_v182 : Ref sig .tc := ⟨.hbm, 358, rfl⟩
abbrev main_v183 : Ref sig .tc := ⟨.hbm, 359, rfl⟩
abbrev main_v184 : Ref sig .tc := ⟨.hbm, 360, rfl⟩
abbrev main_v185 : Ref sig .tc := ⟨.hbm, 361, rfl⟩
abbrev main_v186 : Ref sig .tc := ⟨.hbm, 362, rfl⟩
abbrev main_cst_19 : Ref sig .tc := ⟨.hbm, 363, rfl⟩
abbrev main_v187 : Ref sig .tc := ⟨.hbm, 364, rfl⟩
abbrev main_v188 : Ref sig .tc := ⟨.hbm, 365, rfl⟩
abbrev main_v189 : Ref sig .tc := ⟨.hbm, 366, rfl⟩
abbrev main_v190 : Ref sig .tc := ⟨.hbm, 367, rfl⟩
abbrev main_v191 : Ref sig .tc := ⟨.hbm, 368, rfl⟩
abbrev main_v192 : Ref sig .tc := ⟨.hbm, 369, rfl⟩
abbrev main_v193 : Ref sig .tc := ⟨.hbm, 370, rfl⟩
abbrev main_v194 : Ref sig .tc := ⟨.hbm, 371, rfl⟩
abbrev main_v195 : Ref sig .tc := ⟨.hbm, 372, rfl⟩
abbrev main_v196 : Ref sig .tc := ⟨.hbm, 373, rfl⟩
abbrev main_v197 : Ref sig .tc := ⟨.hbm, 374, rfl⟩
abbrev main_v198 : Ref sig .tc := ⟨.hbm, 375, rfl⟩
abbrev main_cst_20 : Ref sig .tc := ⟨.hbm, 376, rfl⟩
abbrev main_v199 : Ref sig .tc := ⟨.hbm, 377, rfl⟩
abbrev main_v200 : Ref sig .tc := ⟨.hbm, 378, rfl⟩
abbrev main_cst_21 : Ref sig .tc := ⟨.hbm, 379, rfl⟩
abbrev main_v201 : Ref sig .tc := ⟨.hbm, 380, rfl⟩
abbrev main_v202 : Ref sig .tc := ⟨.hbm, 381, rfl⟩
abbrev main_cst_22 : Ref sig .tc := ⟨.hbm, 382, rfl⟩
abbrev main_v203 : Ref sig .tc := ⟨.hbm, 383, rfl⟩
abbrev main_v204 : Ref sig .tc := ⟨.hbm, 384, rfl⟩
abbrev main_v205 : Ref sig .tc := ⟨.hbm, 385, rfl⟩
abbrev main_v206 : Ref sig .tc := ⟨.hbm, 386, rfl⟩
abbrev main_v207 : Ref sig .tc := ⟨.hbm, 387, rfl⟩
abbrev main_v208 : Ref sig .tc := ⟨.hbm, 388, rfl⟩
abbrev main_v209 : Ref sig .tc := ⟨.hbm, 389, rfl⟩
abbrev main_v210 : Ref sig .tc := ⟨.hbm, 390, rfl⟩
abbrev main_v211 : Ref sig .tc := ⟨.hbm, 391, rfl⟩
abbrev main_call9_v0 : Ref sig .tc := ⟨.hbm, 392, rfl⟩
abbrev main_call9_v1 : Ref sig .tc := ⟨.hbm, 393, rfl⟩
abbrev main_call9_cst : Ref sig .tc := ⟨.hbm, 394, rfl⟩
abbrev main_call9_v2 : Ref sig .tc := ⟨.hbm, 395, rfl⟩
abbrev main_call9_v3 : Ref sig .tc := ⟨.hbm, 396, rfl⟩
abbrev main_call9_cst_0 : Ref sig .tc := ⟨.hbm, 397, rfl⟩
abbrev main_call9_v4 : Ref sig .tc := ⟨.hbm, 398, rfl⟩
abbrev main_v212_2 : Ref sig .tc := ⟨.hbm, 399, rfl⟩
abbrev main_call9_cst_1 : Ref sig .tc := ⟨.hbm, 400, rfl⟩
abbrev main_call9_v6 : Ref sig .tc := ⟨.hbm, 401, rfl⟩
abbrev main_call9_v7 : Ref sig .tc := ⟨.hbm, 402, rfl⟩
abbrev main_v212_1 : Ref sig .tc := ⟨.hbm, 403, rfl⟩
abbrev main_v212_0 : Ref sig .tc := ⟨.hbm, 404, rfl⟩
abbrev main_v213 : Ref sig .tc := ⟨.hbm, 405, rfl⟩
abbrev main_v214 : Ref sig .tc := ⟨.hbm, 406, rfl⟩
abbrev main_v215 : Ref sig .tc := ⟨.hbm, 407, rfl⟩
abbrev main_call10_v0 : Ref sig .tc := ⟨.hbm, 408, rfl⟩
abbrev main_call10_v1 : Ref sig .tc := ⟨.hbm, 409, rfl⟩
abbrev main_call10_v2 : Ref sig .tc := ⟨.hbm, 410, rfl⟩
abbrev main_v216 : Ref sig .tc := ⟨.hbm, 411, rfl⟩
abbrev main_v217 : Ref sig .tc := ⟨.hbm, 412, rfl⟩
abbrev main_v218 : Ref sig .tc := ⟨.hbm, 413, rfl⟩
abbrev main_cst_23 : Ref sig .tc := ⟨.hbm, 414, rfl⟩
abbrev main_v219 : Ref sig .tc := ⟨.hbm, 415, rfl⟩
abbrev main_v220 : Ref sig .tc := ⟨.hbm, 416, rfl⟩
abbrev main_cst_24 : Ref sig .tc := ⟨.hbm, 417, rfl⟩
abbrev main_v221 : Ref sig .tc := ⟨.hbm, 418, rfl⟩
abbrev main_v222 : Ref sig .tc := ⟨.hbm, 419, rfl⟩
abbrev main_v223 : Ref sig .tc := ⟨.hbm, 420, rfl⟩
abbrev main_v224 : Ref sig .tc := ⟨.hbm, 421, rfl⟩
abbrev main_v225 : Ref sig .tc := ⟨.hbm, 422, rfl⟩
abbrev main_v226 : Ref sig .tc := ⟨.hbm, 423, rfl⟩
abbrev main_v227 : Ref sig .tc := ⟨.hbm, 424, rfl⟩
abbrev main_v228 : Ref sig .tc := ⟨.hbm, 425, rfl⟩
abbrev main_v229 : Ref sig .tc := ⟨.hbm, 426, rfl⟩
abbrev main_cst_25 : Ref sig .tc := ⟨.hbm, 427, rfl⟩
abbrev main_v230 : Ref sig .tc := ⟨.hbm, 428, rfl⟩
abbrev main_v231 : Ref sig .tc := ⟨.hbm, 429, rfl⟩
abbrev main_v232 : Ref sig .tc := ⟨.hbm, 430, rfl⟩
abbrev main_v233 : Ref sig .tc := ⟨.hbm, 431, rfl⟩
abbrev main_v234 : Ref sig .tc := ⟨.hbm, 432, rfl⟩
abbrev main_v235 : Ref sig .tc := ⟨.hbm, 433, rfl⟩
abbrev main_v236 : Ref sig .tc := ⟨.hbm, 434, rfl⟩
abbrev main_v237 : Ref sig .tc := ⟨.hbm, 435, rfl⟩
abbrev main_v238 : Ref sig .tc := ⟨.hbm, 436, rfl⟩
abbrev main_v239 : Ref sig .tc := ⟨.hbm, 437, rfl⟩
abbrev main_v240 : Ref sig .tc := ⟨.hbm, 438, rfl⟩
abbrev main_v241 : Ref sig .tc := ⟨.hbm, 439, rfl⟩
abbrev main_v242 : Ref sig .tc := ⟨.hbm, 440, rfl⟩
abbrev main_v243 : Ref sig .tc := ⟨.hbm, 441, rfl⟩
abbrev main_v244 : Ref sig .tc := ⟨.hbm, 442, rfl⟩
abbrev main_cst_26 : Ref sig .tc := ⟨.hbm, 443, rfl⟩
abbrev main_v245 : Ref sig .tc := ⟨.hbm, 444, rfl⟩
abbrev main_cst_27 : Ref sig .tc := ⟨.hbm, 445, rfl⟩
abbrev main_v246 : Ref sig .tc := ⟨.hbm, 446, rfl⟩
abbrev main_v247 : Ref sig .tc := ⟨.hbm, 447, rfl⟩
abbrev main_v248 : Ref sig .tc := ⟨.hbm, 448, rfl⟩
abbrev main_v249 : Ref sig .tc := ⟨.hbm, 449, rfl⟩
abbrev main_v250 : Ref sig .tc := ⟨.hbm, 450, rfl⟩
abbrev main_v251 : Ref sig .tc := ⟨.hbm, 451, rfl⟩
abbrev main_v252 : Ref sig .tc := ⟨.hbm, 452, rfl⟩
abbrev main_v253 : Ref sig .tc := ⟨.hbm, 453, rfl⟩
abbrev main_v254 : Ref sig .tc := ⟨.hbm, 454, rfl⟩
abbrev main_v255 : Ref sig .tc := ⟨.hbm, 455, rfl⟩
abbrev main_v256 : Ref sig .tc := ⟨.hbm, 456, rfl⟩
abbrev main_v257 : Ref sig .tc := ⟨.hbm, 457, rfl⟩
abbrev main_v258 : Ref sig .tc := ⟨.hbm, 458, rfl⟩
abbrev main_v259 : Ref sig .tc := ⟨.hbm, 459, rfl⟩
abbrev main_v260 : Ref sig .tc := ⟨.hbm, 460, rfl⟩
abbrev main_v261 : Ref sig .tc := ⟨.hbm, 461, rfl⟩
abbrev main_cst_28 : Ref sig .tc := ⟨.hbm, 462, rfl⟩
abbrev main_v262 : Ref sig .tc := ⟨.hbm, 463, rfl⟩
abbrev main_cst_29 : Ref sig .tc := ⟨.hbm, 464, rfl⟩
abbrev main_v263 : Ref sig .tc := ⟨.hbm, 465, rfl⟩
abbrev main_v264 : Ref sig .tc := ⟨.hbm, 466, rfl⟩
abbrev main_v265 : Ref sig .tc := ⟨.hbm, 467, rfl⟩
abbrev main_v266 : Ref sig .tc := ⟨.hbm, 468, rfl⟩
abbrev main_v267 : Ref sig .tc := ⟨.hbm, 469, rfl⟩

abbrev nD : Nat := 1
abbrev τ : Topo := Topo.v7x

variable {F : FTy → Type} [FloatOps F]

abbrev main_while0_count : Scf.Loop 32 := ⟨0#32, 64#32, 1#32⟩
-- ==== KernelDown.lean ====
abbrev S4x4096x704 : Shape := ⟨3, ![4, 4096, 704]⟩
abbrev S4096x1024 : Shape := ⟨2, ![4096, 1024]⟩
abbrev S2816x1024 : Shape := ⟨2, ![2816, 1024]⟩
abbrev S2x2048x704 : Shape := ⟨3, ![2, 2048, 704]⟩
abbrev S2048x1024 : Shape := ⟨2, ![2048, 1024]⟩
abbrev S1408x1024 : Shape := ⟨2, ![1408, 1024]⟩
abbrev S2x704x1024 : Shape := ⟨3, ![2, 704, 1024]⟩
abbrev S1x2048x704 : Shape := ⟨3, ![1, 2048, 704]⟩
abbrev S2048x704 : Shape := ⟨2, ![2048, 704]⟩
abbrev S704x1024 : Shape := ⟨2, ![704, 1024]⟩
abbrev S1x704x1024 : Shape := ⟨3, ![1, 704, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .f32⟩
  | .hbm, ⟨2, _⟩ => ⟨S2816x1024, .bf16⟩
  | .local _ .vmem, ⟨0, _⟩ => ⟨S2x2048x704, .bf16⟩
  | .local _ .vmem, ⟨1, _⟩ => ⟨S2x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S2x704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_12 : BitVec 32 := 1#32
  let v18 : BitVec 1 := Scalar.cmpi .eq arg2 c1_i32_12
  let v19 : BitVec 32 := Scalar.extui v18
  let c0_i32_13 : BitVec 32 := 0#32
  let v20 : BitVec 1 := Scalar.cmpi .ne v19 c0_i32_13
  v20

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S4x4096x704 : Shape := ⟨3, ![4, 4096, 704]⟩
abbrev S4096x1024 : Shape := ⟨2, ![4096, 1024]⟩
abbrev S4096x4x704 : Shape := ⟨3, ![4096, 4, 704]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .f32⟩
  | .hbm, ⟨2, _⟩ => ⟨S4096x4x704, .bf16⟩
  | .hbm, ⟨3, _⟩ => ⟨S4096x2816, .bf16⟩
  | .hbm, ⟨4, _⟩ => ⟨S4096x2816, .f32⟩
  | .hbm, ⟨5, _⟩ => ⟨S_, .f32⟩
  | .hbm, ⟨6, _⟩ => ⟨S2816x1024, .f32⟩
  | .hbm, ⟨7, _⟩ => ⟨S4096x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelGu.lean ====
abbrev S8x4096x704 : Shape := ⟨3, ![8, 4096, 704]⟩
abbrev S4096x1024 : Shape := ⟨2, ![4096, 1024]⟩
abbrev S1x1024 : Shape := ⟨2, ![1, 1024]⟩
abbrev S5632x1024 : Shape := ⟨2, ![5632, 1024]⟩
abbrev S2x2048x704 : Shape := ⟨3, ![2, 2048, 704]⟩
abbrev S2048x1024 : Shape := ⟨2, ![2048, 1024]⟩
abbrev S1408x1024 : Shape := ⟨2, ![1408, 1024]⟩
abbrev S2x704x1024 : Shape := ⟨3, ![2, 704, 1024]⟩
abbrev S1x2048x704 : Shape := ⟨3, ![1, 2048, 704]⟩
abbrev S2048x704 : Shape := ⟨2, ![2048, 704]⟩
abbrev S256x1024 : Shape := ⟨2, ![256, 1024]⟩
abbrev S256 : Shape := ⟨1, ![256]⟩
abbrev S256x1 : Shape := ⟨2, ![256, 1]⟩
abbrev S704x1024 : Shape := ⟨2, ![704, 1024]⟩
abbrev S1x704x1024 : Shape := ⟨3, ![1, 704, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8x4096x704, .bf16⟩
  | .hbm, ⟨1, _⟩ => ⟨S4096x1024, .f32⟩
  | .hbm, ⟨2, _⟩ => ⟨S1x1024, .f32⟩
  | .hbm, ⟨3, _⟩ => ⟨S5632x1024, .bf16⟩
  | .local _ .vmem, ⟨0, _⟩ => ⟨S2x2048x704, .bf16⟩
  | .local _ .vmem, ⟨1, _⟩ => ⟨S2x2048x704, .bf16⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1408x1024, .bf16⟩
  | .local _ .vmem, ⟨6, _⟩ => ⟨S1408x1024, .bf16⟩
  | .local _ .vmem, ⟨7, _⟩ => ⟨S2x704x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_113 : BitVec 32 := 1#32
  let v256 : BitVec 1 := Scalar.cmpi .eq arg2 c1_i32_113
  let v257 : BitVec 32 := Scalar.extui v256
  let c0_i32_114 : BitVec 32 := 0#32
  let v258 : BitVec 1 := Scalar.cmpi .ne v257 c0_i32_114
  v258

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceGuIdeal.lean ====
abbrev S8x4096x704 : Shape := ⟨3, ![8, 4096, 704]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x8x704 : Shape := ⟨3, ![4096, 8, 704]⟩
abbrev S4096x5632 : Shape := ⟨2, ![4096, 5632]⟩
abbrev S1024x5632 : Shape := ⟨2, ![1024, 5632]⟩
abbrev S5632x1024 : Shape := ⟨2, ![5632, 1024]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x8x704, .bf16⟩
  | .hbm, ⟨19, _⟩ => ⟨S4096x5632, .bf16⟩
  | .hbm, ⟨20, _⟩ => ⟨S4096x5632, .f32⟩
  | .hbm, ⟨21, _⟩ => ⟨S_, .f32⟩
  | .hbm, ⟨22, _⟩ => ⟨S1024x5632, .f32⟩
  | .hbm, ⟨23, _⟩ => ⟨S4096x5632, .f32⟩
  | .hbm, ⟨24, _⟩ => ⟨S5632x1024, .f32⟩
  | .hbm, ⟨25, _⟩ => ⟨S1024x5632, .f32⟩
  | .hbm, ⟨26, _⟩ => ⟨S5632x1024, .f32⟩
  | .hbm, ⟨27, _⟩ => ⟨S5632x1024, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== KernelIn.lean ====
abbrev S4096x1024 : Shape := ⟨2, ![4096, 1024]⟩
abbrev S4096x6144 : Shape := ⟨2, ![4096, 6144]⟩
abbrev S1x1024 : Shape := ⟨2, ![1, 1024]⟩
abbrev S8x1024x768 : Shape := ⟨3, ![8, 1024, 768]⟩
abbrev S2048x1024 : Shape := ⟨2, ![2048, 1024]⟩
abbrev S2048x1536 : Shape := ⟨2, ![2048, 1536]⟩
abbrev S2x1024x768 : Shape := ⟨3, ![2, 1024, 768]⟩
abbrev S256x1024 : Shape := ⟨2, ![256, 1024]⟩
abbrev S256 : Shape := ⟨1, ![256]⟩
abbrev S256x1 : Shape := ⟨2, ![256, 1]⟩
abbrev S2048x768 : Shape := ⟨2, ![2048, 768]⟩
abbrev S1024x768 : Shape := ⟨2, ![1024, 768]⟩
abbrev S1x1024x768 : Shape := ⟨3, ![1, 1024, 768]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x6144, .bf16⟩
  | .hbm, ⟨2, _⟩ => ⟨S1x1024, .f32⟩
  | .hbm, ⟨3, _⟩ => ⟨S8x1024x768, .bf16⟩
  | .local _ .vmem, ⟨0, _⟩ => ⟨S2048x1024, .f32⟩
  | .local _ .vmem, ⟨1, _⟩ => ⟨S2048x1024, .f32⟩
  | .local _ .vmem, ⟨2, _⟩ => ⟨S2048x1536, .bf16⟩
  | .local _ .vmem, ⟨3, _⟩ => ⟨S2048x1536, .bf16⟩
  | .local _ .vmem, ⟨4, _⟩ => ⟨S1x1024, .f32⟩
  | .local _ .vmem, ⟨5, _⟩ => ⟨S2x1024x768, .bf16⟩
  | .local _ .vmem, ⟨6, _⟩ => ⟨S2x1024x768, .bf16⟩
  | .local _ .vmem, ⟨7, _⟩ => ⟨S2x1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_112 : BitVec 32 := 1#32
  let v254 : BitVec 1 := Scalar.cmpi .eq arg2 c1_i32_112
  let v255 : BitVec 32 := Scalar.extui v254
  let c0_i32_113 : BitVec 32 := 0#32
  let v256 : BitVec 1 := Scalar.cmpi .ne v255 c0_i32_113
  v256

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2x1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceInIdeal.lean ====
abbrev S4096x1024 : Shape := ⟨2, ![4096, 1024]⟩
abbrev S4096x6144 : Shape := ⟨2, ![4096, 6144]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x6144 : Shape := ⟨2, ![1024, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x6144, .bf16⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x6144, .f32⟩
  | .hbm, ⟨19, _⟩ => ⟨S_, .f32⟩
  | .hbm, ⟨20, _⟩ => ⟨S1024x6144, .f32⟩
  | .hbm, ⟨21, _⟩ => ⟨S4096x6144, .f32⟩
  | .hbm, ⟨22, _⟩ => ⟨S6144x1024, .f32⟩
  | .hbm, ⟨23, _⟩ => ⟨S1024x6144, .f32⟩
  | .hbm, ⟨24, _⟩ => ⟨S1024x8x768, .f32⟩
  | .hbm, ⟨25, _⟩ => ⟨S8x1024x768, .f32⟩
  | .hbm, ⟨26, _⟩ => ⟨S8x1024x768, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== KernelDh.lean ====
abbrev S8x4096x704 : Shape := ⟨3, ![8, 4096, 704]⟩
abbrev S5632x1024 : Shape := ⟨2, ![5632, 1024]⟩
abbrev S4096x1024 : Shape := ⟨2, ![4096, 1024]⟩
abbrev S1x1024 : Shape := ⟨2, ![1, 1024]⟩
abbrev S8x512x704 : Shape := ⟨3, ![8, 512, 704]⟩
abbrev S512x1024 : Shape := ⟨2, ![512, 1024]⟩
abbrev S1x512x1024 : Shape := ⟨3, ![1, 512, 1024]⟩
abbrev S1x512x704 : Shape := ⟨3, ![1, 512, 704]⟩
abbrev S512x704 : Shape := ⟨2, ![512, 704]⟩
abbrev S704x1024 : Shape := ⟨2, ![704, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8x4096x704, .bf16⟩
  | .hbm, ⟨1, _⟩ => ⟨S5632x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S8x512x704, .bf16⟩
  | .local _ .vmem, ⟨1, _⟩ => ⟨S8x512x704, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x512x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v102 : BitVec 1 := Scalar.cmpi .eq arg0 c0_i32
  let v103 : BitVec 32 := Scalar.extui v102
  let c0_i32_59 : BitVec 32 := 0#32
  let v104 : BitVec 1 := Scalar.cmpi .ne v103 c0_i32_59
  v104

def k0_cond2 (i : grid0.Coords) : BitVec 1 :=
  let arg0 : BitVec 32 := BitVec.ofNat 32 (i 0).val
  let c0_i32_60 : BitVec 32 := 0#32
  let v105 : BitVec 1 := Scalar.cmpi .sgt arg0 c0_i32_60
  let v106 : BitVec 32 := Scalar.extui v105
  let c0_i32_61 : BitVec 32 := 0#32
  let v107 : BitVec 1 := Scalar.cmpi .ne v106 c0_i32_61
  v107

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== ReferenceDhIdeal.lean ====
abbrev S8x4096x704 : Shape := ⟨3, ![8, 4096, 704]⟩
abbrev S5632x1024 : Shape := ⟨2, ![5632, 1024]⟩
abbrev S4096x1024 : Shape := ⟨2, ![4096, 1024]⟩
abbrev S1x1024 : Shape := ⟨2, ![1, 1024]⟩
abbrev S1024x5632 : Shape := ⟨2, ![1024, 5632]⟩
abbrev S4096x8x704 : Shape := ⟨3, ![4096, 8, 704]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S5632x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S5632x1024, .f32⟩
  | .hbm, ⟨6, _⟩ => ⟨S1024x5632, .f32⟩
  | .hbm, ⟨7, _⟩ => ⟨S4096x8x704, .bf16⟩
  | .hbm, ⟨8, _⟩ => ⟨S4096x5632, .bf16⟩
  | .hbm, ⟨9, _⟩ => ⟨S4096x5632, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x5632, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== KernelDx.lean ====
abbrev S4096x6144 : Shape := ⟨2, ![4096, 6144]⟩
abbrev S8x1024x768 : Shape := ⟨3, ![8, 1024, 768]⟩
abbrev S4096x1024 : Shape := ⟨2, ![4096, 1024]⟩
abbrev S1x1024 : Shape := ⟨2, ![1, 1024]⟩
abbrev S512x6144 : Shape := ⟨2, ![512, 6144]⟩
abbrev S512x1024 : Shape := ⟨2, ![512, 1024]⟩
abbrev S1x512x1024 : Shape := ⟨3, ![1, 512, 1024]⟩
abbrev S512x768 : Shape := ⟨2, ![512, 768]⟩
abbrev S1x1024x768 : Shape := ⟨3, ![1, 1024, 768]⟩
abbrev S1024x768 : Shape := ⟨2, ![1024, 768]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4096x6144, .bf16⟩
  | .hbm, ⟨1, _⟩ => ⟨S8x1024x768, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S8x1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x512x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v102 : BitVec 1 := Scalar.cmpi .eq arg0 c0_i32
  let v103 : BitVec 32 := Scalar.extui v102
  let c0_i32_59 : BitVec 32 := 0#32
  let v104 : BitVec 1 := Scalar.cmpi .ne v103 c0_i32_59
  v104

def k0_cond2 (i : grid0.Coords) : BitVec 1 :=
  let arg0 : BitVec 32 := BitVec.ofNat 32 (i 0).val
  let c0_i32_60 : BitVec 32 := 0#32
  let v105 : BitVec 1 := Scalar.cmpi .sgt arg0 c0_i32_60
  let v106 : BitVec 32 := Scalar.extui v105
  let c0_i32_61 : BitVec 32 := 0#32
  let v107 : BitVec 1 := Scalar.cmpi .ne v106 c0_i32_61
  v107

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== ReferenceDxIdeal.lean ====
abbrev S4096x6144 : Shape := ⟨2, ![4096, 6144]⟩
abbrev S8x1024x768 : Shape := ⟨3, ![8, 1024, 768]⟩
abbrev S4096x1024 : Shape := ⟨2, ![4096, 1024]⟩
abbrev S1x1024 : Shape := ⟨2, ![1, 1024]⟩
abbrev S1024x8x768 : Shape := ⟨3, ![1024, 8, 768]⟩
abbrev S1024x6144 : Shape := ⟨2, ![1024, 6144]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S8x1024x768, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x8x768, .bf16⟩
  | .hbm, ⟨6, _⟩ => ⟨S1024x6144, .bf16⟩
  | .hbm, ⟨7, _⟩ => ⟨S1024x6144, .f32⟩
  | .hbm, ⟨8, _⟩ => ⟨S4096x6144, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x6144, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== KernelDout.lean ====
abbrev S4096x1024 : Shape := ⟨2, ![4096, 1024]⟩
abbrev S2048x1024 : Shape := ⟨2, ![2048, 1024]⟩
abbrev S4096x2048 : Shape := ⟨2, ![4096, 2048]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDoutIdeal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDatt.lean ====
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDattIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelOut.lean ====
abbrev S4096x2048 : Shape := ⟨2, ![4096, 2048]⟩
abbrev S4096x1024 : Shape := ⟨2, ![4096, 1024]⟩
abbrev S2048x1024 : Shape := ⟨2, ![2048, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1x1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutIdeal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .f32⟩
  | .hbm, ⟨2, _⟩ => ⟨S4096x2048, .f32⟩
  | .hbm, ⟨3, _⟩ => ⟨S_, .f32⟩
  | .hbm, ⟨4, _⟩ => ⟨S2048x1024, .f32⟩
  | .hbm, ⟨5, _⟩ => ⟨S4096x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelAtt.lean ====
abbrev S4096x1024 : Shape := ⟨2, ![4096, 1024]⟩
abbrev S1024x1024 : Shape := ⟨2, ![1024, 1024]⟩
abbrev S2048x1024 : Shape := ⟨2, ![2048, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceAttIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelMix.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S1024x1024 : Shape := ⟨2, ![1024, 1024]⟩
abbrev S1x1024x1024 : Shape := ⟨3, ![1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceMixIdeal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelSeen.lean ====
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceSeenIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelFed.lean ====
abbrev S4x4096x704 : Shape := ⟨3, ![4, 4096, 704]⟩
abbrev S2816x1024 : Shape := ⟨2, ![2816, 1024]⟩
abbrev S4096x1024 : Shape := ⟨2, ![4096, 1024]⟩
abbrev S4x1024x704 : Shape := ⟨3, ![4, 1024, 704]⟩
abbrev S1024x1024 : Shape := ⟨2, ![1024, 1024]⟩
abbrev S1x1024x1024 : Shape := ⟨3, ![1, 1024, 1024]⟩
abbrev S1x1024x704 : Shape := ⟨3, ![1, 1024, 704]⟩
abbrev S1024x704 : Shape := ⟨2, ![1024, 704]⟩
abbrev S704x1024 : Shape := ⟨2, ![704, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4x4096x704, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceFedIdeal.lean ====
abbrev S4x4096x704 : Shape := ⟨3, ![4, 4096, 704]⟩
abbrev S2816x1024 : Shape := ⟨2, ![2816, 1024]⟩
abbrev S4096x1024 : Shape := ⟨2, ![4096, 1024]⟩
abbrev S4096x4x704 : Shape := ⟨3, ![4096, 4, 704]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S2816x1024, .bf16⟩
  | .hbm, ⟨2, _⟩ => ⟨S4096x1024, .f32⟩
  | .hbm, ⟨3, _⟩ => ⟨S4096x4x704, .bf16⟩
  | .hbm, ⟨4, _⟩ => ⟨S4096x2816, .bf16⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelKv.lean ====
abbrev S4096x1024 : Shape := ⟨2, ![4096, 1024]⟩
abbrev S8x1024x256 : Shape := ⟨3, ![8, 1024, 256]⟩
abbrev S1x1024 : Shape := ⟨2, ![1, 1024]⟩
abbrev S4096x2048 : Shape := ⟨2, ![4096, 2048]⟩
abbrev S1024x1024 : Shape := ⟨2, ![1024, 1024]⟩
abbrev S4x1024x256 : Shape := ⟨3, ![4, 1024, 256]⟩
abbrev S256x1024 : Shape := ⟨2, ![256, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S8x1024x256, .bf16⟩
  | .hbm, ⟨2, _⟩ => ⟨S1x1024, .f32⟩
  | .hbm, ⟨3, _⟩ => ⟨S4096x2048, .f32⟩
  | .local _ .vmem, ⟨0, _⟩ => ⟨S1024x1024, .f32⟩
  | .local _ .vmem, ⟨1, _⟩ => ⟨S1024x1024, .f32⟩
  | .local _ .vmem, ⟨2, _⟩ => ⟨S4x1024x256, .bf16⟩
  | .local _ .vmem, ⟨3, _⟩ => ⟨S4x1024x256, .bf16⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | .local _ .vmem, ⟨7, _⟩ => ⟨S4x1024x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceKvIdeal.lean ====
abbrev S4096x1024 : Shape := ⟨2, ![4096, 1024]⟩
abbrev S8x1024x256 : Shape := ⟨3, ![8, 1024, 256]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x8x256 : Shape := ⟨3, ![1024, 8, 256]⟩
abbrev S1024x2048 : Shape := ⟨2, ![1024, 2048]⟩
abbrev S4096x2048 : Shape := ⟨2, ![4096, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8x1024x256, .bf16⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x8x256, .bf16⟩
  | .hbm, ⟨19, _⟩ => ⟨S1024x2048, .bf16⟩
  | .hbm, ⟨20, _⟩ => ⟨S1024x2048, .f32⟩
  | .hbm, ⟨21, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelQ.lean ====
abbrev S4096x1024 : Shape := ⟨2, ![4096, 1024]⟩
abbrev S1024x1024 : Shape := ⟨2, ![1024, 1024]⟩
abbrev S1x1024 : Shape := ⟨2, ![1, 1024]⟩
abbrev S1x1024x1024 : Shape := ⟨3, ![1, 1024, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1x1024, .f32⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceQIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x1024, .f32⟩
  | .hbm, ⟨19, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KernelGate.lean ====
abbrev S4096x1024 : Shape := ⟨2, ![4096, 1024]⟩
abbrev S5632x1024 : Shape := ⟨2, ![5632, 1024]⟩
abbrev S1x1024 : Shape := ⟨2, ![1, 1024]⟩
abbrev S2x4x704x1024 : Shape := ⟨4, ![2, 4, 704, 1024]⟩
abbrev S2x4x4096x704 : Shape := ⟨4, ![2, 4, 4096, 704]⟩
abbrev S4x4096x704 : Shape := ⟨3, ![4, 4096, 704]⟩
abbrev S1024x1024 : Shape := ⟨2, ![1024, 1024]⟩
abbrev S2x1x704x1024 : Shape := ⟨4, ![2, 1, 704, 1024]⟩
abbrev S2x1x1024x704 : Shape := ⟨4, ![2, 1, 1024, 704]⟩
abbrev S1x1024x704 : Shape := ⟨3, ![1, 1024, 704]⟩
abbrev S2x1024x704 : Shape := ⟨3, ![2, 1024, 704]⟩
abbrev S256x1024 : Shape := ⟨2, ![256, 1024]⟩
abbrev S256 : Shape := ⟨1, ![256]⟩
abbrev S256x1 : Shape := ⟨2, ![256, 1]⟩
abbrev S1x1x704x1024 : Shape := ⟨4, ![1, 1, 704, 1024]⟩
abbrev S704x1024 : Shape := ⟨2, ![704, 1024]⟩
abbrev S1024x704 : Shape := ⟨2, ![1024, 704]⟩
abbrev S1x1x1024x704 : Shape := ⟨4, ![1, 1, 1024, 704]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S5632x1024, .bf16⟩
  | .hbm, ⟨2, _⟩ => ⟨S1x1024, .f32⟩
  | .hbm, ⟨3, _⟩ => ⟨S2x4x704x1024, .bf16⟩
  | .hbm, ⟨4, _⟩ => ⟨S2x4x4096x704, .bf16⟩
  | .hbm, ⟨5, _⟩ => ⟨S4x4096x704, .bf16⟩
  | .local _ .vmem, ⟨0, _⟩ => ⟨S1024x1024, .f32⟩
  | .local _ .vmem, ⟨1, _⟩ => ⟨S1024x1024, .f32⟩
  | .local _ .vmem, ⟨2, _⟩ => ⟨S2x1x704x1024, .bf16⟩
  | .local _ .vmem, ⟨3, _⟩ => ⟨S2x1x704x1024, .bf16⟩
  | .local _ .vmem, ⟨4, _⟩ => ⟨S1x1024, .f32⟩
  | .local _ .vmem, ⟨5, _⟩ => ⟨S2x1x1024x704, .bf16⟩
  | .local _ .vmem, ⟨6, _⟩ => ⟨S2x1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S2x1024x704, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S2x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceGateIdeal.lean ====
abbrev S4096x1024 : Shape := ⟨2, ![4096, 1024]⟩
abbrev S5632x1024 : Shape := ⟨2, ![5632, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩
abbrev S1x4x4096x704 : Shape := ⟨4, ![1, 4, 4096, 704]⟩
abbrev S2x4x4096x704 : Shape := ⟨4, ![2, 4, 4096, 704]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S5632x1024, .bf16⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S5632x1024, .f32⟩
  | .hbm, ⟨19, _⟩ => ⟨S1024x5632, .f32⟩
  | .hbm, ⟨20, _⟩ => ⟨S4096x5632, .f32⟩
  | .hbm, ⟨21, _⟩ => ⟨S4096x2816, .f32⟩
  | .hbm, ⟨22, _⟩ => ⟨S4096x2816, .f32⟩
  | .hbm, ⟨23, _⟩ => ⟨S4096x4x704, .f32⟩
  | .hbm, ⟨24, _⟩ => ⟨S4x4096x704, .f32⟩
  | .hbm, ⟨25, _⟩ => ⟨S4x4096x704, .bf16⟩
  | .hbm, ⟨26, _⟩ => ⟨S4096x4x704, .f32⟩
  | .hbm, ⟨27, _⟩ => ⟨S4x4096x704, .f32⟩
  | .hbm, ⟨28, _⟩ => ⟨S4x4096x704, .bf16⟩
  | .hbm, ⟨29, _⟩ => ⟨S1x4x4096x704, .bf16⟩
  | .hbm, ⟨30, _⟩ => ⟨S1x4x4096x704, .bf16⟩
  | .hbm, ⟨31, _⟩ => ⟨S2x4x4096x704, .bf16⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x4x704, .f32⟩
  | .hbm, ⟨43, _⟩ => ⟨S4x4096x704, .f32⟩
  | .hbm, ⟨44, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== KernelLoss.lean ====
abbrev S4x4096x704 : Shape := ⟨3, ![4, 4096, 704]⟩
abbrev S2816x1024 : Shape := ⟨2, ![2816, 1024]⟩
abbrev S4096x1024 : Shape := ⟨2, ![4096, 1024]⟩
abbrev S1x1 : Shape := ⟨2, ![1, 1]⟩
abbrev S4x1024x704 : Shape := ⟨3, ![4, 1024, 704]⟩
abbrev S1024x1024 : Shape := ⟨2, ![1024, 1024]⟩
abbrev S1x1024x1024 : Shape := ⟨3, ![1, 1024, 1024]⟩
abbrev S1x1024x704 : Shape := ⟨3, ![1, 1024, 704]⟩
abbrev S1024x704 : Shape := ⟨2, ![1024, 704]⟩
abbrev S704x1024 : Shape := ⟨2, ![704, 1024]⟩
abbrev S1024 : Shape := ⟨1, ![1024]⟩
abbrev S1024x1 : Shape := ⟨2, ![1024, 1]⟩
abbrev S1 : Shape := ⟨1, ![1]⟩

abbrev nBuf : Space → Nat
  | .hbm => 6
  | .vmem => 11
  | .smem => 0
  | _ => 0

abbrev bufTy : (tb : Table) → Fin (tcTables nBuf tb) → BufTy
  | .hbm, ⟨0, _⟩ => ⟨S4x4096x704, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1, .f32⟩
  | .local _ .vmem, ⟨0, _⟩ => ⟨S4x1024x704, .bf16⟩
  | .local _ .vmem, ⟨1, _⟩ => ⟨S4x1024x704, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1, .f32⟩
  | .local _ .vmem, ⟨10, _⟩ => ⟨S1x1024x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨3, ![4, 1, 1], ![false, false, false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_26 : BitVec 32 := 0#32
  let v35 : BitVec 1 := Scalar.cmpi .ne v34 c0_i32_26
  v35

def k0_cond2 (i : grid0.Coords) : BitVec 1 :=
  let arg0 : BitVec 32 := BitVec.ofNat 32 (i 0).val
  let c0_i32_27 : BitVec 32 := 0#32
  let v36 : BitVec 1 := Scalar.cmpi .sgt arg0 c0_i32_27
  let v37 : BitVec 32 := Scalar.extui v36
  let c0_i32_28 : BitVec 32 := 0#32
  let v38 : BitVec 1 := Scalar.cmpi .ne v37 c0_i32_28
  v38

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]
-- ==== ReferenceLossIdeal.lean ====
abbrev S4x4096x704 : Shape := ⟨3, ![4, 4096, 704]⟩
abbrev S2816x1024 : Shape := ⟨2, ![2816, 1024]⟩
abbrev S4096x1024 : Shape := ⟨2, ![4096, 1024]⟩
abbrev S4096x4x704 : Shape := ⟨3, ![4096, 4, 704]⟩
abbrev S4096x2816 : Shape := ⟨2, ![4096, 2816]⟩
abbrev S_ : Shape := ⟨0, ![]⟩
abbrev S4096 : Shape := ⟨1, ![4096]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S4096x4x704, .bf16⟩
  | .hbm, ⟨5, _⟩ => ⟨S4096x2816, .bf16⟩
  | .hbm, ⟨6, _⟩ => ⟨S4096x2816, .f32⟩
  | .hbm, ⟨7, _⟩ => ⟨S2816x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S4096x1024, .f32⟩
  | .hbm, ⟨32, _⟩ => ⟨S4096x1024, .f32⟩
  | .hbm, ⟨33, _⟩ => ⟨S1x1, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_cst_4 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Proof.Weights.lean ====
module

public import Idealize.ShloMosaic.Lib.Pointwise
public import Idealize.ShloMosaic.Lib.Pipeline.ReadBack
public import Idealize.ShloMosaic.Lib.WholeRead
public import Idealize.ShloMosaic.Lib.Pipeline.ValueKit

@[expose] public section

noncomputable section

namespace Cert.Weights

open Idealize.ShloMosaic Idealize.SL.Sem

/-! ## What the proofs of the products share -/

variable {F : FTy → Type} [FloatOps F]

/-- A load of a staging buffer that holds a block gives the block's entries. -/
theorem loaded {sig : RefSig} {s : Shape} {e : EltTy} (a : Memref sig .tc .vmem s e) (h : a.IsWhole)
    (X : s.Idx → Elt F e) (r : LoadRect s) :
    View.readAt (Elt F) a.view r (h.unread X) = fun j => X (r.idx j) :=
  funext fun j => h.readAt_unread X r j

/-- An index under the last store reads what was stored. -/
theorem under {S : Shape} {e : EltTy} (R : Rect S) (w : R.shape.Idx → Elt F e)
    (L : List (View.Piece (Elt F) S e)) (x : R.shape.Idx) (y : S.Idx) (hy : y = R.emb x) :
    View.canon ((⟨R, w⟩ : View.Piece (Elt F) S e) :: L) y = w x := by
  rw [hy]
  exact View.canon_cons_emb R w L x

/-- A sum over the tokens, by halves. -/
theorem halves (f : Fin 4096 → EReal) :
    (∑ k : Fin 2048, f ⟨k.val, by omega⟩) + ∑ k : Fin 2048, f ⟨2048 + k.val, by omega⟩ =
      ∑ k, f k :=
  (Fin.sum_univ_add (a := 2048) (b := 2048) f).symm

/-- An entry of a row of the normalised activations. -/
def normS (x : Fin 1024 → EReal) (g : EReal) (l : Fin 1024) : EReal :=
  x l * Ideal.rsqrt (Ideal.div (∑ e, x e * x e) (Ideal.ofBits .f32 0x44800000#32) +
    Ideal.ofBits .f32 0x358637BD#32) * g

theorem pair_one {α β : Type} {p : α × β} {x : α} {y : β} (h : p = (x, y)) : p.1 = x := by rw [h]
theorem pair_two {α β : Type} {p : α × β} {x : α} {y : β} (h : p = (x, y)) : p.2 = y := by rw [h]

end Cert.Weights
-- ==== Proof.Down.lean ====
module

public import proofs.«01_k».proof.Proof.Weights
public import proofs.«01_k».proof.Proof.Gen.KernelDownIdeal.Value

@[expose] public section

set_option maxRecDepth 16384
set_option maxHeartbeats 1000000

noncomputable section

namespace Cert.Down

open Cert.KernelDownIdeal Cert.KernelDownIdeal.Gen Idealize.ShloMosaic Idealize.ShloMosaic.TcCoe
  Idealize.SL.Sem

/-! ## What the kernel stores at a point, entry by entry -/

section
variable {F : FTy → Type} [FloatOps F]

/-- The rectangle of a block of the activations. -/
abbrev actRect (h : Fin 2) : Rect S2x2048x704 :=
  Rect.unit (s := S2x2048x704) ![h.val, 0, 0] S1x2048x704.size
    (match h with
      | ⟨0, _⟩ => inb_S2x2048x704_S1x2048x704_0_0_0
      | ⟨1, _⟩ => inb_S2x2048x704_S1x2048x704_1_0_0)

/-- The rectangle of the whole of the gradient. -/
abbrev dyRect : Rect S2048x1024 :=
  Rect.unit (s := S2048x1024) ![0, 0] S2048x1024.size inb_S2048x1024_S2048x1024_0_0

/-- The rectangle of a block of the accumulator. -/
abbrev accRect (h : Fin 2) : Rect S2x704x1024 :=
  Rect.unit (s := S2x704x1024) ![h.val, 0, 0] S1x704x1024.size
    (match h with
      | ⟨0, _⟩ => inb_S2x704x1024_S1x704x1024_0_0_0
      | ⟨1, _⟩ => inb_S2x704x1024_S1x704x1024_1_0_0)

variable (c : Dev nD) (i : grid0.Coords) (arg3 : Memref sig .tc .vmem S2x2048x704 .bf16) (harg3 : arg3.IsWhole) (arg4 : Memref sig .tc .vmem S2048x1024 .f32) (harg4 : arg4.IsWhole) (arg5 : Memref sig .tc .vmem S1408x1024 .bf16) (harg5 : arg5.IsWhole) (arg6 : Memref sig .tc .vmem S2x704x1024 .f32) (harg6 : arg6.IsWhole)
  (x0 : Vec F S2x2048x704 .bf16) (x1 : Vec F S2048x1024 .f32) (xs0 : Vec F S2x704x1024 .f32)

/-- What the first point of a block of rows stores in the accumulator. -/
theorem stores_first (hc0 : cond0_0 i) (hc1 : ¬cond0_1 i) (hc2 : ¬cond0_2 i) :
    (kernelRun0_A c i arg3 harg3 arg4 harg4 arg5 harg5 arg6 harg6 hc0 hc1 hc2 x0 x1).2.1 =
      [⟨accRect 1, k0_pay4 (View.readAt (Elt F) arg3.view (actRect 1).toLoadRect (harg3.unread x0))
          (View.readAt (Elt F) arg4.view dyRect.toLoadRect (harg4.unread x1))⟩,
       ⟨accRect 0, k0_pay3 (View.readAt (Elt F) arg3.view (actRect 0).toLoadRect (harg3.unread x0))
          (View.readAt (Elt F) arg4.view dyRect.toLoadRect (harg4.unread x1))⟩] := rfl

/-- What the second point of a block of rows stores in the output. -/
theorem stores_second (hc0 : ¬cond0_0 i) (hc1 : ¬cond0_1 i) (hc2 : cond0_2 i) :
    (kernelRun0_B c i arg3 harg3 arg4 harg4 arg5 harg5 arg6 harg6 hc0 hc1 hc2 x0 x1 xs0).1 =
      [⟨Rect.unit (s := S1408x1024) ![704, 0] S704x1024.size inb_S1408x1024_S704x1024_704_0,
          k0_pay8 (View.readAt (Elt F) arg3.view (actRect 1).toLoadRect (harg3.unread x0))
          (View.readAt (Elt F) arg4.view dyRect.toLoadRect (harg4.unread x1))
          (View.readAt (Elt F) arg6.view (accRect 1).toLoadRect (harg6.unread xs0))⟩,
       ⟨Rect.unit (s := S1408x1024) ![0, 0] S704x1024.size inb_S1408x1024_S704x1024_0_0,
          k0_pay7 (View.readAt (Elt F) arg3.view (actRect 0).toLoadRect (harg3.unread x0))
          (View.readAt (Elt F) arg4.view dyRect.toLoadRect (harg4.unread x1))
          (View.readAt (Elt F) arg6.view (accRect 0).toLoadRect (harg6.unread xs0))⟩] := rfl

end

section
variable (x0 : Vec Ideal S2x2048x704 .bf16) (x1 : Vec Ideal S2048x1024 .f32)
  (xs0 : Vec Ideal S2x704x1024 .f32)

/-- A load of a block of the activations at an index. -/
theorem act_at (h : Fin 2) (k : Fin 2048) (r : Fin 704) :
    x0 ((actRect h).toLoadRect.idx (ix3 0 k r)) = x0 (ix3 h k r) := by
  refine congrArg x0 ?_
  funext a
  match a with
  | ⟨0, _⟩ | ⟨1, _⟩ | ⟨2, _⟩ => exact Fin.ext (by simp [Rect.idx_unit_val, LoadRect.idx, Rect.toLoadRect, Rect.unit, ix3])

/-- A load of the gradient at an index. -/
theorem dy_at (k : Fin 2048) (l : Fin 1024) : x1 (dyRect.toLoadRect.idx (ix2 k l)) = x1 (ix2 k l) := by
  refine congrArg x1 ?_
  funext a
  match a with
  | ⟨0, _⟩ | ⟨1, _⟩ => exact Fin.ext (by simp [Rect.idx_unit_val, LoadRect.idx, Rect.toLoadRect, Rect.unit, ix2])

/-- A load of a block of the accumulator at an index. -/
theorem acc_at (h : Fin 2) (r : Fin 704) (l : Fin 1024) :
    xs0 ((accRect h).toLoadRect.idx (ix3 0 r l)) = xs0 (ix3 h r l) := by
  refine congrArg xs0 ?_
  funext a
  match a with
  | ⟨0, _⟩ | ⟨1, _⟩ | ⟨2, _⟩ => exact Fin.ext (by simp [Rect.idx_unit_val, LoadRect.idx, Rect.toLoadRect, Rect.unit, ix3])

/-- The product of the first half of the tokens. -/
theorem pay3_at (v0 : Vec Ideal S1x2048x704 .bf16) (v2 : Vec Ideal S2048x1024 .f32) (r : Fin 704)
    (l : Fin 1024) : k0_pay3 v0 v2 (ix3 0 r l) = ∑ k, v0 (ix3 0 k r) * v2 (ix2 k l) := by
  pointwise [k0_pay3, k0_pay1]
theorem pay4_at (v0 : Vec Ideal S1x2048x704 .bf16) (v2 : Vec Ideal S2048x1024 .f32) (r : Fin 704)
    (l : Fin 1024) : k0_pay4 v0 v2 (ix3 0 r l) = ∑ k, v0 (ix3 0 k r) * v2 (ix2 k l) := by
  pointwise [k0_pay4, k0_pay2]
/-- The product of the second half of the tokens, added to the first. -/
theorem pay7_at (v0 : Vec Ideal S1x2048x704 .bf16) (v2 : Vec Ideal S2048x1024 .f32)
    (v : Vec Ideal S1x704x1024 .f32) (r : Fin 704) (l : Fin 1024) :
    k0_pay7 v0 v2 v (ix2 r l) = v (ix3 0 r l) + ∑ k, v0 (ix3 0 k r) * v2 (ix2 k l) := by
  pointwise [k0_pay7, k0_pay1]
theorem pay8_at (v0 : Vec Ideal S1x2048x704 .bf16) (v2 : Vec Ideal S2048x1024 .f32)
    (v : Vec Ideal S1x704x1024 .f32) (r : Fin 704) (l : Fin 1024) :
    k0_pay8 v0 v2 v (ix2 r l) = v (ix3 0 r l) + ∑ k, v0 (ix3 0 k r) * v2 (ix2 k l) := by
  pointwise [k0_pay8, k0_pay2]

/-- The product of one block over half of the tokens. -/
def half (h : Fin 2) (r : Fin 704) (l : Fin 1024) : EReal :=
  ∑ k, x0 (ix3 h k r) * x1 (ix2 k l)

theorem half_eq (h : Fin 2) (r : Fin 704) (l : Fin 1024) :
    ∑ k, x0 ((actRect h).toLoadRect.idx (ix3 0 k r)) * x1 (dyRect.toLoadRect.idx (ix2 k l)) =
      half x0 x1 h r l :=
  Finset.sum_congr rfl fun k _ => congrArg₂ (· * ·) (act_at x0 h k r) (dy_at x1 k l)

variable (c : Dev nD) (i : grid0.Coords) (arg3 : Memref sig .tc .vmem S2x2048x704 .bf16) (harg3 : arg3.IsWhole) (arg4 : Memref sig .tc .vmem S2048x1024 .f32) (harg4 : arg4.IsWhole) (arg5 : Memref sig .tc .vmem S1408x1024 .bf16) (harg5 : arg5.IsWhole) (arg6 : Memref sig .tc .vmem S2x704x1024 .f32) (harg6 : arg6.IsWhole)

/-- What the first point leaves in the accumulator. -/
theorem left_first (hc0 : cond0_0 i) (hc1 : ¬cond0_1 i) (hc2 : ¬cond0_2 i) (h : Fin 2) (r : Fin 704)
    (l : Fin 1024) :
    sout0_A_0 c i arg3 harg3 arg4 harg4 arg5 harg5 arg6 harg6 hc0 hc1 hc2 x0 x1 (ix3 h r l) =
      half x0 x1 h r l := by
  delta sout0_A_0
  refine (congrFun (View.read_writes_junk_eq_canon VS0_0 _) _).trans ?_
  rw [stores_first]
  match h with
  | ⟨1, _⟩ =>
    refine (Weights.under (accRect 1) _ _ (ix3 0 r l) _ ?_).trans ?_
    · funext a
      match a with
      | ⟨0, _⟩ | ⟨1, _⟩ | ⟨2, _⟩ => exact Fin.ext (by simp [Rect.emb, Rect.idx_unit_val, Rect.unit, ix3])
    · rw [pay4_at, Weights.loaded, Weights.loaded]
      exact half_eq x0 x1 1 r l
  | ⟨0, _⟩ =>
    refine (View.canon_cons_of_not_mem _ _ ?_).trans ?_
    · intro hy
      obtain ⟨x, hx⟩ := (accRect 1).exists_idx_of_mem hy
      have e := congrArg (fun z : S2x704x1024.Idx => (z 0 : Nat)) hx
      simp only [Rect.idx_unit_val] at e
      simp [ix3] at e
    refine (Weights.under (accRect 0) _ _ (ix3 0 r l) _ ?_).trans ?_
    · funext a
      match a with
      | ⟨0, _⟩ | ⟨1, _⟩ | ⟨2, _⟩ => exact Fin.ext (by simp [Rect.emb, Rect.idx_unit_val, Rect.unit, ix3])
    · rw [pay3_at, Weights.loaded, Weights.loaded]
      exact half_eq x0 x1 0 r l

/-- A row of the output's block. -/
def rowIn (h : Fin 2) (r : Fin 704) : Fin 1408 := ⟨704 * h.val + r.val, by omega⟩

/-- What the second point leaves in the output. -/
theorem left_second (hc0 : ¬cond0_0 i) (hc1 : ¬cond0_1 i) (hc2 : cond0_2 i) (h : Fin 2) (r : Fin 704)
    (l : Fin 1024) :
    out0_B_2 c i arg3 harg3 arg4 harg4 arg5 harg5 arg6 harg6 hc0 hc1 hc2 x0 x1 xs0 (ix2 (rowIn h r) l) =
      xs0 (ix3 h r l) + half x0 x1 h r l := by
  delta out0_B_2
  refine (congrFun (View.read_writes_junk_eq_canon VO0_2 _) _).trans ?_
  rw [stores_second]
  match h with
  | ⟨1, _⟩ =>
    refine (Weights.under _ _ _ (ix2 r l) _ ?_).trans ?_
    · funext a
      match a with
      | ⟨0, _⟩ | ⟨1, _⟩ => exact Fin.ext (by simp [Rect.emb, Rect.idx_unit_val, Rect.unit, ix2, rowIn])
    · rw [pay8_at, Weights.loaded, Weights.loaded, Weights.loaded]
      exact congrArg₂ (· + ·) (acc_at xs0 1 r l) (half_eq x0 x1 1 r l)
  | ⟨0, _⟩ =>
    refine (View.canon_cons_of_not_mem _ _ ?_).trans ?_
    · intro hy
      obtain ⟨x, hx⟩ := (Rect.unit (s := S1408x1024) ![704, 0] S704x1024.size
        inb_S1408x1024_S704x1024_704_0).exists_idx_of_mem hy
      have e := congrArg (fun z : S1408x1024.Idx => (z 0 : Nat)) hx
      simp only [Rect.idx_unit_val] at e
      simp [ix2, rowIn] at e
      omega
    refine (Weights.under _ _ _ (ix2 r l) _ ?_).trans ?_
    · funext a
      match a with
      | ⟨0, _⟩ | ⟨1, _⟩ => exact Fin.ext (by simp [Rect.emb, Rect.idx_unit_val, Rect.unit, ix2, rowIn])
    · rw [pay7_at, Weights.loaded, Weights.loaded, Weights.loaded]
      exact congrArg₂ (· + ·) (acc_at xs0 0 r l) (half_eq x0 x1 0 r l)

end

/-! ## The array the kernel ends with -/

section
variable (m : (ℓ : Loc nD τ sig) → Buf (Elt Ideal) ℓ) (c : Dev nD)

/-- The activations. -/
def act (b : Fin 4) (k : Fin 4096) (r : Fin 704) : EReal :=
  (m ((c : Thread nD τ).loc main_arg0) : Vec Ideal S4x4096x704 .bf16) (ix3 b k r)
/-- The gradient. -/
def dy (k : Fin 4096) (l : Fin 1024) : EReal :=
  (m ((c : Thread nD τ).loc main_arg1) : Vec Ideal S4096x1024 .f32) (ix2 k l)

/-- The block of columns of the activations. -/
def blk (i h : Fin 2) : Fin 4 := ⟨2 * i.val + h.val, by omega⟩
/-- A token of a half. -/
def tok (s : Fin 2) (k : Fin 2048) : Fin 4096 := ⟨2048 * s.val + k.val, by omega⟩
/-- A point of the grid. -/
def pt (i s : Fin 2) : Fin cfg0.N := ⟨2 * i.val + s.val, lt_of_lt_of_eq (by omega) N_0.symm⟩

theorem index_0 : ∀ i s : Fin 2, win0_0.index (pt i s) 0 = i.val ∧ win0_0.index (pt i s) 1 = s.val ∧
    win0_0.index (pt i s) 2 = 0 := by decide +kernel
theorem index_1 : ∀ i s : Fin 2, win0_1.index (pt i s) 0 = s.val ∧ win0_1.index (pt i s) 1 = 0 := by
  decide +kernel
theorem index_2 : ∀ i s : Fin 2, win0_2.index (pt i s) 0 = i.val ∧ win0_2.index (pt i s) 1 = 0 := by
  decide +kernel

/-- The block of the activations at a point. -/
theorem iblk_0 (i s h : Fin 2) (k : Fin 2048) (r : Fin 704) :
    (iblk m c 0 (pt i s) : Vec Ideal S2x2048x704 .bf16) (ix3 h k r) = act m c (blk i h) (tok s k) r := by
  have hi := index_0 i s
  refine congrArg (m ((c : Thread nD τ).loc main_arg0)) ?_
  funext a
  apply Fin.ext
  match a with
  | ⟨0, _⟩ =>
    show win0_0.index (pt i s) 0 * 2 + 1 * h.val = 2 * i.val + h.val
    rw [hi.1]; omega
  | ⟨1, _⟩ =>
    show win0_0.index (pt i s) 1 * 2048 + 1 * k.val = 2048 * s.val + k.val
    rw [hi.2.1]; omega
  | ⟨2, _⟩ =>
    show win0_0.index (pt i s) 2 * 704 + 1 * r.val = r.val
    rw [hi.2.2]; omega

/-- The block of the gradient at a point. -/
theorem iblk_1 (i s : Fin 2) (k : Fin 2048) (l : Fin 1024) :
    (iblk m c 1 (pt i s) : Vec Ideal S2048x1024 .f32) (ix2 k l) = dy m c (tok s k) l := by
  have hi := index_1 i s
  refine congrArg (m ((c : Thread nD τ).loc main_arg1)) ?_
  funext a
  apply Fin.ext
  match a with
  | ⟨0, _⟩ =>
    show win0_1.index (pt i s) 0 * 2048 + 1 * k.val = 2048 * s.val + k.val
    rw [hi.1]; omega
  | ⟨1, _⟩ =>
    show win0_1.index (pt i s) 1 * 1024 + 1 * l.val = l.val
    rw [hi.2]; omega

/-- The product over half of the tokens, of the arguments. -/
def part (b : Fin 4) (s : Fin 2) (r : Fin 704) (l : Fin 1024) : EReal :=
  ∑ k, act m c b (tok s k) r * dy m c (tok s k) l

theorem half_pt (i s h : Fin 2) (r : Fin 704) (l : Fin 1024) :
    half (iblk m c 0 (pt i s)) (iblk m c 1 (pt i s)) h r l = part m c (blk i h) s r l :=
  Finset.sum_congr rfl fun k _ => congrArg₂ (· * ·) (iblk_0 m c i s h k r) (iblk_1 m c i s k l)

/-- The accumulator after the first point of a block of rows. -/
theorem first_pt (i h : Fin 2) (r : Fin 704) (l : Fin 1024) :
    (outsAt0 m c (pt i 0).val (pt i 0).isLt).2 (ix3 h r l) = part m c (blk i h) 0 r l := by
  have h0 : (pt i 0).val % 2 = 0 := by show (2 * i.val + 0) % 2 = 0; omega
  have h2 : ¬(pt i 0).val % 2 = 1 := by omega
  rw [Weights.pair_two (outsAt0_A m c (pt i 0) h0 h2), left_first, half_pt]

/-- The output after the second point of a block of rows. -/
theorem second_pt (i h : Fin 2) (r : Fin 704) (l : Fin 1024) :
    (outsAt0 m c (pt i 1).val (pt i 1).isLt).1 (ix2 (rowIn h r) l) =
      part m c (blk i h) 0 r l + part m c (blk i h) 1 r l := by
  have h0 : ¬(pt i 1).val % 2 = 0 := by show ¬(2 * i.val + 1) % 2 = 0; omega
  have h2 : (pt i 1).val % 2 = 1 := by omega
  rw [Weights.pair_one (outsAt0_B m c (pt i 1) h0 h2), left_second, half_pt]
  exact congrArg (· + part m c (blk i h) 1 r l) (first_pt m c i h r l)

theorem flush_pt (i : Fin 2) : (cfg0.win 2).flush (pt i 1) = true :=
  (flush0_2 (pt i 1)).2 (by show (2 * i.val + 1) % 2 = 1; omega)

/-- A row of the result. -/
def row (b : Fin 4) (r : Fin 704) : Fin 2816 := ⟨704 * b.val + r.val, by omega⟩

/-- Only the second point of a block of rows writes it back. -/
theorem apart : ∀ t₁ t₂ : Fin cfg0.N, (cfg0.win 2).flush t₁ = true → (cfg0.win 2).flush t₂ = true →
    t₁ ≠ t₂ → Disjoint ((cfg0.win 2).blk t₁).view.set ((cfg0.win 2).blk t₂).view.set := by
  intro t₁ t₂ h₁ h₂ hne
  rw [Finset.disjoint_left]
  intro y hy₁ hy₂
  rw [Value.mem_blk2] at hy₁ hy₂
  have a₁ : win0_2.index t₁ (0 : Fin 2) * 1408 ≤ (y 0).val ∧
      (y 0).val < win0_2.index t₁ (0 : Fin 2) * 1408 + 1408 := hy₁ 0
  have a₂ : win0_2.index t₂ (0 : Fin 2) * 1408 ≤ (y 0).val ∧
      (y 0).val < win0_2.index t₂ (0 : Fin 2) * 1408 + 1408 := hy₂ 0
  have m₁ : t₁.val % 2 = 1 := (flush0_2 t₁).mp h₁
  have m₂ : t₂.val % 2 = 1 := (flush0_2 t₂).mp h₂
  obtain ⟨-, -, -, e₁, f₁⟩ := Value.idx_facts2 t₁
  obtain ⟨-, -, -, e₂, f₂⟩ := Value.idx_facts2 t₂
  exact hne (Fin.ext (by omega))

/-- The result at an index. -/
theorem result_at (i h : Fin 2) (r : Fin 704) (l : Fin 1024) :
    ((dats m 0 c).arrAt 2 cfg0.N : Vec Ideal S2816x1024 .bf16) (ix2 (row (blk i h) r) l) =
      part m c (blk i h) 0 r l + part m c (blk i h) 1 r l := by
  have hi := index_2 i 1
  have hb := congrFun ((dats m 0 c).read_blk_arrAt_eq_flushed 2 apart cfg0.N (pt i 1) (pt i 1).isLt
    (flush_pt i)) (ix2 (rowIn h r) l)
  rw [Value.flushed2, View.read_apply] at hb
  have e : (ix2 (row (blk i h) r) l : S2816x1024.Idx) =
      ((cfg0.win 2).blk (pt i 1)).view.emb (ix2 (rowIn h r) l) := by
    funext a
    apply Fin.ext
    match a with
    | ⟨0, _⟩ =>
      show 704 * (2 * i.val + h.val) + r.val = win0_2.index (pt i 1) 0 * 1408 + 1 * (704 * h.val + r.val)
      rw [hi.1]; omega
    | ⟨1, _⟩ =>
      show l.val = win0_2.index (pt i 1) 1 * 1024 + 1 * l.val
      rw [hi.2]; omega
  rw [e]
  exact (show _ = _ from hb).trans (second_pt m c i h r l)

end

end Cert.Down
-- ==== Proof.DownEnds.lean ====
module

public import proofs.«01_k».proof.Proof.Down
public import proofs.«01_k».proof.Defs
public import proofs.«01_k».proof.Proof.Gen.ReferenceDownIdeal.Run
public import Idealize.ShloMosaic.Lib.Quiescent

@[expose] public section

set_option maxRecDepth 16384
set_option maxHeartbeats 1000000

noncomputable section

namespace Cert.Down

open Idealize.ShloMosaic Idealize.ShloMosaic.TcCoe Idealize.ShloMosaic.StableHlo Idealize.SL.Sem

/-! ## The kernel's result and the reference's, side by side -/

open Cert.ReferenceDownIdeal Cert.ReferenceDownIdeal.Gen in
/-- What the reference computes. -/
def refOut (x : FVec Ideal S4x4096x704 .bf16) (d : FVec Ideal S4096x1024 .f32) :
    FVec Ideal S2816x1024 .bf16 :=
  truncf .bf16 (transpose S2816x1024 [1, 0] (Host.dotGeneral dot_S4096x1024_S4096x2816_S1024x2816_0_0_1_1_n_n none d
    (extf .f32 (shapeCast _ (transpose S4096x4x704 [1, 0, 2] x transposes_S4x4096x704_S4096x4x704_1_0_2)
      shapeCasts_S4096x4x704_S4096x2816) bitsLt_bf16_f32)) transposes_S1024x2816_S2816x1024_1_0) bitsLt_bf16_f32

/-- The reference at an index. -/
theorem ref_at (x : FVec Ideal Cert.ReferenceDownIdeal.S4x4096x704 .bf16)
    (d : FVec Ideal Cert.ReferenceDownIdeal.S4096x1024 .f32) (b : Fin 4) (r : Fin 704) (l : Fin 1024) :
    refOut x d (ix2 (row b r) l) = ∑ k : Fin 4096, x (ix3 b k r) * d (ix2 k l) := by
  pointwise [refOut]
  refine Finset.sum_congr rfl fun k _ => ?_
  rw [mul_comm]
  refine congrArg₂ (· * ·) (congrArg x ?_) rfl
  have e₁ : (row b r).val / 704 = b.val := by show (704 * b.val + r.val) / 704 = b.val; omega
  have e₂ : (row b r).val % 704 = r.val := by show (704 * b.val + r.val) % 704 = r.val; omega
  funext a
  match a with
  | ⟨0, _⟩ => exact Fin.ext e₁
  | ⟨1, _⟩ => rfl
  | ⟨2, _⟩ => exact Fin.ext e₂

variable (m : (ℓ : Loc Cert.KernelDownIdeal.nD Cert.KernelDownIdeal.τ Cert.KernelDownIdeal.sig) → Buf (Elt Ideal) ℓ)
  (c : Dev Cert.KernelDownIdeal.nD)

/-- The kernel's result is what the reference computes. -/
theorem same : refOut (m ((c : Thread Cert.KernelDownIdeal.nD Cert.KernelDownIdeal.τ).loc Cert.KernelDownIdeal.main_arg0))
    (m ((c : Thread Cert.KernelDownIdeal.nD Cert.KernelDownIdeal.τ).loc Cert.KernelDownIdeal.main_arg1)) =
      ((Cert.KernelDownIdeal.Gen.dats m 0 c).arrAt 2 Cert.KernelDownIdeal.cfg0.N :
        Vec Ideal Cert.KernelDownIdeal.S2816x1024 .bf16) := by
  funext j
  have hj : (j 0).val < 2816 := (j 0).isLt
  obtain ⟨i, h, r, l, rfl⟩ : ∃ (i h : Fin 2) (r : Fin 704) (l : Fin 1024), j = ix2 (row (blk i h) r) l := by
    refine ⟨⟨(j 0).val / 1408, by omega⟩, ⟨(j 0).val / 704 % 2, by omega⟩, ⟨(j 0).val % 704, by omega⟩, j 1, ?_⟩
    funext a
    match a with
    | ⟨0, _⟩ =>
      exact Fin.ext (by
        show (j 0).val = 704 * (2 * ((j 0).val / 1408) + (j 0).val / 704 % 2) + (j 0).val % 704
        omega)
    | ⟨1, _⟩ => rfl
  refine (ref_at _ _ _ _ _).trans ?_
  rw [result_at m c i h r l]
  refine (Weights.halves _).symm.trans ?_
  refine congrArg₂ (· + ·) (Finset.sum_congr rfl fun k _ => ?_) rfl
  have e : (⟨k.val, by omega⟩ : Fin 4096) = tok 0 k := Fin.ext (by show k.val = 2048 * 0 + k.val; omega)
  rw [e]
  rfl

/-- The kernel and the reference end with equal results. -/
theorem equal_ends : Cert.algebraic_KernelDownIdeal_ReferenceDownIdeal
    (hKernelDownIdeal := Cert.KernelDownIdeal.Gen.facts)
    (hReferenceDownIdeal := Cert.ReferenceDownIdeal.Gen.facts) := by
  intro m g m' g' _ hagree
  refine ⟨_, Cert.KernelDownIdeal.Value.run_blocks m g, ?_⟩
  refine (θ_run Cert.ReferenceDownIdeal.defs _ _).mono (fun r h c => ?_)
    (Cert.ReferenceDownIdeal.Value.run (F := Ideal) m' g')
  refine ⟨(h c).1.trans ?_, (h c).2⟩
  rw [(hagree c).1, (hagree c).2]
  exact same m c

/-- The reference ends with its arguments unchanged. -/
theorem reference_ends : Cert.quiescent_ReferenceDownIdeal
    (hReferenceDownIdeal := Cert.ReferenceDownIdeal.Gen.facts) := fun m ρ _ =>
  (θ_run Cert.ReferenceDownIdeal.defs _ _).mono (fun r h => ⟨fun c => (h c).2,
      Idealize.ShloMosaic.sem_eq_zero_of_no_sems (by decide) r.2⟩)
    (Cert.ReferenceDownIdeal.Value.run (F := Ideal) m ρ)

end Cert.Down
-- ==== Proof.In.lean ====
module

public import proofs.«01_k».proof.Proof.Weights
public import proofs.«01_k».proof.Proof.Gen.KernelInIdeal.Value

@[expose] public section

set_option maxRecDepth 16384
set_option maxHeartbeats 1000000

noncomputable section

namespace Cert.In

open Cert.KernelInIdeal Cert.KernelInIdeal.Gen Idealize.ShloMosaic Idealize.ShloMosaic.TcCoe
  Idealize.SL.Sem

/-! ## What the kernel stores at a point, entry by entry -/

/-- The rows of a group. -/
def grow (q : Fin 8) (t : Fin 256) : Fin 2048 := ⟨256 * q.val + t.val, by omega⟩

section
variable {F : FTy → Type} [FloatOps F]

/-- The normalised rows of a group. -/
def nrm (x : FVec F S256x1024 .f32) (g : FVec F S1x1024 .f32) : FVec F S256x1024 .bf16 :=
  truncf .bf16 (mulf (mulf x (broadcastTo S256x1024 (rsqrt (addf (divf
    (shapeCast S256x1 (multiReduction .add [1] S256 (mulf x x) 0x00000000#32 reduces_S256x1024_S256 (.inl rfl) rfl)
      shapeCasts_S256_S256x1) (broadcast S256x1 (Scalar.ofBits .f32 0x44800000#32)))
    (broadcast S256x1 (Scalar.ofBits .f32 0x358637BD#32)))) broadcasts_S256x1_S256x1024))
    (broadcastTo S256x1024 g broadcasts_S1x1024_S256x1024)) bitsLt_bf16_f32

/-- The normalised rows of half of the tokens, by groups. -/
def rows (X : Fin 8 → Vec F S256x1024 .f32) (g : Vec F S1x1024 .f32) : FVec F S2048x1024 .bf16 :=
  concatenate S2048x1024 0 [⟨S256x1024, nrm (X 0) g⟩, ⟨S256x1024, nrm (X 1) g⟩, ⟨S256x1024, nrm (X 2) g⟩,
    ⟨S256x1024, nrm (X 3) g⟩, ⟨S256x1024, nrm (X 4) g⟩, ⟨S256x1024, nrm (X 5) g⟩, ⟨S256x1024, nrm (X 6) g⟩,
    ⟨S256x1024, nrm (X 7) g⟩] concatenates_S256x1024_S256x1024_S256x1024_S256x1024_S256x1024_S256x1024_S256x1024_S256x1024_S2048x1024_d0

/-- The product of the normalised rows with a block of columns. -/
def prod (v : Vec F S2048x768 .bf16) (X : Fin 8 → Vec F S256x1024 .f32) (g : Vec F S1x1024 .f32) :
    FVec F S1024x768 .f32 :=
  matmul dot_S2048x1024_S2048x768_S1024x768_0_0_1_1_n_n none (rows X g) (v : FVec F S2048x768 .bf16)
    (constant S1024x768 .f32 0x00000000#32)

/-- What is stored at the first point of a block of columns. -/
def firstOf (v : Vec F S2048x768 .bf16) (X : Fin 8 → Vec F S256x1024 .f32) (g : Vec F S1x1024 .f32) :
    FVec F S1x1024x768 .f32 := shapeCast S1x1024x768 (prod v X g) shapeCasts_S1024x768_S1x1024x768

/-- What is stored at the second. -/
def secondOf (v : Vec F S2048x768 .bf16) (X : Fin 8 → Vec F S256x1024 .f32) (g : Vec F S1x1024 .f32)
    (s : Vec F S1x1024x768 .f32) : FVec F S1x1024x768 .bf16 :=
  shapeCast S1x1024x768 (truncf .bf16 (addf (shapeCast S1024x768 s shapeCasts_S1x1024x768_S1024x768 :
    FVec F S1024x768 .f32) (prod v X g)) bitsLt_bf16_f32) shapeCasts_S1024x768_S1x1024x768

/-- The rectangle of a block of the gradient of the projections. -/
abbrev actRect (h : Fin 2) : Rect S2048x1536 :=
  Rect.unit (s := S2048x1536) ![0, 768 * h.val] S2048x768.size
    (match h with
      | ⟨0, _⟩ => inb_S2048x1536_S2048x768_0_0
      | ⟨1, _⟩ => inb_S2048x1536_S2048x768_0_768)

/-- The rectangle of a group of rows of the activations. -/
abbrev rowRect (q : Fin 8) : Rect S2048x1024 :=
  Rect.unit (s := S2048x1024) ![256 * q.val, 0] S256x1024.size
    (match q with
      | ⟨0, _⟩ => inb_S2048x1024_S256x1024_0_0
      | ⟨1, _⟩ => inb_S2048x1024_S256x1024_256_0
      | ⟨2, _⟩ => inb_S2048x1024_S256x1024_512_0
      | ⟨3, _⟩ => inb_S2048x1024_S256x1024_768_0
      | ⟨4, _⟩ => inb_S2048x1024_S256x1024_1024_0
      | ⟨5, _⟩ => inb_S2048x1024_S256x1024_1280_0
      | ⟨6, _⟩ => inb_S2048x1024_S256x1024_1536_0
      | ⟨7, _⟩ => inb_S2048x1024_S256x1024_1792_0)

/-- The rectangle of the scales. -/
abbrev gRect : Rect S1x1024 := Rect.unit (s := S1x1024) ![0, 0] S1x1024.size inb_S1x1024_S1x1024_0_0

/-- The rectangle of a block of the accumulator. -/
abbrev accRect (h : Fin 2) : Rect S2x1024x768 :=
  Rect.unit (s := S2x1024x768) ![h.val, 0, 0] S1x1024x768.size
    (match h with
      | ⟨0, _⟩ => inb_S2x1024x768_S1x1024x768_0_0_0
      | ⟨1, _⟩ => inb_S2x1024x768_S1x1024x768_1_0_0)

variable (c : Dev nD) (i : grid0.Coords) (arg3 : Memref sig .tc .vmem S2048x1024 .f32) (harg3 : arg3.IsWhole) (arg4 : Memref sig .tc .vmem S2048x1536 .bf16) (harg4 : arg4.IsWhole) (arg5 : Memref sig .tc .vmem S1x1024 .f32) (harg5 : arg5.IsWhole) (arg6 : Memref sig .tc .vmem S2x1024x768 .bf16) (harg6 : arg6.IsWhole) (arg7 : Memref sig .tc .vmem S2x1024x768 .f32) (harg7 : arg7.IsWhole)
  (x0 : Vec F S2048x1024 .f32) (x1 : Vec F S2048x1536 .bf16) (x2 : Vec F S1x1024 .f32) (xs0 : Vec F S2x1024x768 .f32)

/-- What the first point of a block of columns stores in the accumulator. -/
theorem stores_first (hc0 : cond0_0 i) (hc1 : ¬cond0_1 i) (hc2 : ¬cond0_2 i) :
    (kernelRun0_A c i arg3 harg3 arg4 harg4 arg5 harg5 arg6 harg6 arg7 harg7 hc0 hc1 hc2 x0 x1 x2).2.1 =
      [⟨accRect 1, firstOf (View.readAt (Elt F) arg4.view (actRect 1).toLoadRect (harg4.unread x1))
          (fun q => View.readAt (Elt F) arg3.view (rowRect q).toLoadRect (harg3.unread x0))
          (View.readAt (Elt F) arg5.view gRect.toLoadRect (harg5.unread x2))⟩,
       ⟨accRect 0, firstOf (View.readAt (Elt F) arg4.view (actRect 0).toLoadRect (harg4.unread x1))
          (fun q => View.readAt (Elt F) arg3.view (rowRect q).toLoadRect (harg3.unread x0))
          (View.readAt (Elt F) arg5.view gRect.toLoadRect (harg5.unread x2))⟩] := rfl

/-- What the second point of a block of columns stores in the output. -/
theorem stores_second (hc0 : ¬cond0_0 i) (hc1 : ¬cond0_1 i) (hc2 : cond0_2 i) :
    (kernelRun0_B c i arg3 harg3 arg4 harg4 arg5 harg5 arg6 harg6 arg7 harg7 hc0 hc1 hc2 x0 x1 x2 xs0).1 =
      [⟨accRect 1,
          secondOf (View.readAt (Elt F) arg4.view (actRect 1).toLoadRect (harg4.unread x1))
          (fun q => View.readAt (Elt F) arg3.view (rowRect q).toLoadRect (harg3.unread x0))
          (View.readAt (Elt F) arg5.view gRect.toLoadRect (harg5.unread x2))
          (View.readAt (Elt F) arg7.view (accRect 1).toLoadRect (harg7.unread xs0))⟩,
       ⟨accRect 0,
          secondOf (View.readAt (Elt F) arg4.view (actRect 0).toLoadRect (harg4.unread x1))
          (fun q => View.readAt (Elt F) arg3.view (rowRect q).toLoadRect (harg3.unread x0))
          (View.readAt (Elt F) arg5.view gRect.toLoadRect (harg5.unread x2))
          (View.readAt (Elt F) arg7.view (accRect 0).toLoadRect (harg7.unread xs0))⟩] := rfl

end

section
variable (x0 : Vec Ideal S2048x1024 .f32) (x1 : Vec Ideal S2048x1536 .bf16) (x2 : Vec Ideal S1x1024 .f32)
  (xs0 : Vec Ideal S2x1024x768 .f32)

/-- A column of a block of the gradient. -/
def colIn (h : Fin 2) (l : Fin 768) : Fin 1536 := ⟨768 * h.val + l.val, by omega⟩

/-- A load of a block of the gradient of the projections at an index. -/
theorem act_at (h : Fin 2) (k : Fin 2048) (l : Fin 768) :
    x1 ((actRect h).toLoadRect.idx (ix2 k l)) = x1 (ix2 k (colIn h l)) := by
  refine congrArg x1 ?_
  funext a
  match a with
  | ⟨0, _⟩ | ⟨1, _⟩ => exact Fin.ext (by simp [Rect.idx_unit_val, LoadRect.idx, Rect.toLoadRect, Rect.unit, ix2, colIn])

/-- A load of a group of rows at an index. -/
theorem row_at (q : Fin 8) (t : Fin 256) (l : Fin 1024) :
    x0 ((rowRect q).toLoadRect.idx (ix2 t l)) = x0 (ix2 (grow q t) l) := by
  refine congrArg x0 ?_
  funext a
  match a with
  | ⟨0, _⟩ | ⟨1, _⟩ => exact Fin.ext (by simp [Rect.idx_unit_val, LoadRect.idx, Rect.toLoadRect, Rect.unit, ix2, grow])

/-- A load of the scales at an index. -/
theorem g_at (l : Fin 1024) : x2 (gRect.toLoadRect.idx (ix2 0 l)) = x2 (ix2 0 l) := by
  refine congrArg x2 ?_
  funext a
  match a with
  | ⟨0, _⟩ | ⟨1, _⟩ => exact Fin.ext (by simp [Rect.idx_unit_val, LoadRect.idx, Rect.toLoadRect, Rect.unit, ix2])

/-- A load of a block of the accumulator at an index. -/
theorem acc_at (h : Fin 2) (r : Fin 1024) (l : Fin 768) :
    xs0 ((accRect h).toLoadRect.idx (ix3 0 r l)) = xs0 (ix3 h r l) := by
  refine congrArg xs0 ?_
  funext a
  match a with
  | ⟨0, _⟩ | ⟨1, _⟩ | ⟨2, _⟩ => exact Fin.ext (by simp [Rect.idx_unit_val, LoadRect.idx, Rect.toLoadRect, Rect.unit, ix3])

/-- A normalised row. -/
theorem nrm_at (x : FVec Ideal S256x1024 .f32) (g : FVec Ideal S1x1024 .f32) (t : Fin 256) (l : Fin 1024) :
    nrm (F := Ideal) x g (ix2 t l) = Weights.normS (fun e => x (ix2 t e)) (g (ix2 0 l)) l := by
  pointwise [nrm, Weights.normS]

/-- The normalised rows of half of the tokens. -/
theorem rows_at (X : Fin 8 → FVec Ideal S256x1024 .f32) (g : FVec Ideal S1x1024 .f32) (q : Fin 8)
    (t : Fin 256) (l : Fin 1024) : rows X g (ix2 (grow q t) l) = nrm (X q) g (ix2 t l) := by
  match q with
  | ⟨0, _⟩ =>
    have e : (grow 0 t).val = 0 + t.val := rfl
    show rows X g (ix2 (grow 0 t) l) = nrm (X 0) g (ix2 t l)
    pointwise [rows]
    refine (dif_pos (by omega)).trans ?_
    exact congrArg (fun z => nrm (X 0) g (ix2 z l)) (Fin.ext (by simp only [e]; omega))
  | ⟨1, _⟩ =>
    have e : (grow 1 t).val = 256 + t.val := rfl
    show rows X g (ix2 (grow 1 t) l) = nrm (X 1) g (ix2 t l)
    pointwise [rows]
    refine (dif_neg (by omega)).trans ?_
    refine (dif_pos (by omega)).trans ?_
    exact congrArg (fun z => nrm (X 1) g (ix2 z l)) (Fin.ext (by simp only [e]; omega))
  | ⟨2, _⟩ =>
    have e : (grow 2 t).val = 512 + t.val := rfl
    show rows X g (ix2 (grow 2 t) l) = nrm (X 2) g (ix2 t l)
    pointwise [rows]
    iterate 2 refine (dif_neg (by omega)).trans ?_
    refine (dif_pos (by omega)).trans ?_
    exact congrArg (fun z => nrm (X 2) g (ix2 z l)) (Fin.ext (by simp only [e]; omega))
  | ⟨3, _⟩ =>
    have e : (grow 3 t).val = 768 + t.val := rfl
    show rows X g (ix2 (grow 3 t) l) = nrm (X 3) g (ix2 t l)
    pointwise [rows]
    iterate 3 refine (dif_neg (by omega)).trans ?_
    refine (dif_pos (by omega)).trans ?_
    exact congrArg (fun z => nrm (X 3) g (ix2 z l)) (Fin.ext (by simp only [e]; omega))
  | ⟨4, _⟩ =>
    have e : (grow 4 t).val = 1024 + t.val := rfl
    show rows X g (ix2 (grow 4 t) l) = nrm (X 4) g (ix2 t l)
    pointwise [rows]
    iterate 4 refine (dif_neg (by omega)).trans ?_
    refine (dif_pos (by omega)).trans ?_
    exact congrArg (fun z => nrm (X 4) g (ix2 z l)) (Fin.ext (by simp only [e]; omega))
  | ⟨5, _⟩ =>
    have e : (grow 5 t).val = 1280 + t.val := rfl
    show rows X g (ix2 (grow 5 t) l) = nrm (X 5) g (ix2 t l)
    pointwise [rows]
    iterate 5 refine (dif_neg (by omega)).trans ?_
    refine (dif_pos (by omega)).trans ?_
    exact congrArg (fun z => nrm (X 5) g (ix2 z l)) (Fin.ext (by simp only [e]; omega))
  | ⟨6, _⟩ =>
    have e : (grow 6 t).val = 1536 + t.val := rfl
    show rows X g (ix2 (grow 6 t) l) = nrm (X 6) g (ix2 t l)
    pointwise [rows]
    iterate 6 refine (dif_neg (by omega)).trans ?_
    refine (dif_pos (by omega)).trans ?_
    exact congrArg (fun z => nrm (X 6) g (ix2 z l)) (Fin.ext (by simp only [e]; omega))
  | ⟨7, _⟩ =>
    have e : (grow 7 t).val = 1792 + t.val := rfl
    show rows X g (ix2 (grow 7 t) l) = nrm (X 7) g (ix2 t l)
    pointwise [rows]
    iterate 7 refine (dif_neg (by omega)).trans ?_
    exact congrArg (fun z => nrm (X 7) g (ix2 z l)) (Fin.ext (by simp only [e]; omega))

/-- The products, at an index. -/
theorem prod_at (v : FVec Ideal S2048x768 .bf16) (X : Fin 8 → FVec Ideal S256x1024 .f32)
    (g : FVec Ideal S1x1024 .f32) (r : Fin 1024) (l : Fin 768) :
    prod (F := Ideal) v X g (ix2 r l) = ∑ k, rows (F := Ideal) X g (ix2 k r) * v (ix2 k l) := by
  pointwise [prod]
theorem firstOf_at (v : FVec Ideal S2048x768 .bf16) (X : Fin 8 → FVec Ideal S256x1024 .f32)
    (g : FVec Ideal S1x1024 .f32) (r : Fin 1024) (l : Fin 768) :
    firstOf (F := Ideal) v X g (ix3 0 r l) = ∑ k, rows (F := Ideal) X g (ix2 k r) * v (ix2 k l) := by
  refine Eq.trans ?_ (prod_at v X g r l)
  pointwise [firstOf]
theorem secondOf_at (v : FVec Ideal S2048x768 .bf16) (X : Fin 8 → FVec Ideal S256x1024 .f32)
    (g : FVec Ideal S1x1024 .f32) (s : FVec Ideal S1x1024x768 .f32) (r : Fin 1024) (l : Fin 768) :
    secondOf (F := Ideal) v X g s (ix3 0 r l) = s (ix3 0 r l) + ∑ k, rows (F := Ideal) X g (ix2 k r) * v (ix2 k l) := by
  refine Eq.trans ?_ (congrArg (s (ix3 0 r l) + ·) (prod_at v X g r l))
  pointwise [secondOf]

/-- The product of one block over half of the tokens. -/
def half (h : Fin 2) (r : Fin 1024) (l : Fin 768) : EReal :=
  ∑ k, Weights.normS (fun e => x0 (ix2 k e)) (x2 (ix2 0 r)) r * x1 (ix2 k (colIn h l))

theorem half_eq (h : Fin 2) (r : Fin 1024) (l : Fin 768) :
    ∑ k, rows (fun q j => x0 ((rowRect q).toLoadRect.idx j)) (fun j => x2 (gRect.toLoadRect.idx j)) (ix2 k r) *
      x1 ((actRect h).toLoadRect.idx (ix2 k l)) = half x0 x1 x2 h r l :=
  Finset.sum_congr rfl fun k _ => congrArg₂ (· * ·) (by
    obtain ⟨q, t, rfl⟩ : ∃ (q : Fin 8) (t : Fin 256), k = grow q t :=
      ⟨⟨k.val / 256, by omega⟩, ⟨k.val % 256, by omega⟩,
        Fin.ext (by show k.val = 256 * (k.val / 256) + k.val % 256; omega)⟩
    rw [rows_at, nrm_at]
    exact congrArg₂ (fun f g => Weights.normS f g r) (funext fun e => row_at x0 q t e) (g_at x2 r)) (act_at x1 h k l)

variable (c : Dev nD) (i : grid0.Coords) (arg3 : Memref sig .tc .vmem S2048x1024 .f32) (harg3 : arg3.IsWhole) (arg4 : Memref sig .tc .vmem S2048x1536 .bf16) (harg4 : arg4.IsWhole) (arg5 : Memref sig .tc .vmem S1x1024 .f32) (harg5 : arg5.IsWhole) (arg6 : Memref sig .tc .vmem S2x1024x768 .bf16) (harg6 : arg6.IsWhole) (arg7 : Memref sig .tc .vmem S2x1024x768 .f32) (harg7 : arg7.IsWhole)

/-- An index of a block of the accumulator, in it. -/
theorem acc_emb (h : Fin 2) (r : Fin 1024) (l : Fin 768) : ix3 h r l = (accRect h).emb (ix3 0 r l) := by
  funext a
  match a with
  | ⟨0, _⟩ | ⟨1, _⟩ | ⟨2, _⟩ => exact Fin.ext (by simp [Rect.emb, Rect.idx_unit_val, Rect.unit, ix3])

/-- What the first point leaves in the accumulator. -/
theorem left_first (hc0 : cond0_0 i) (hc1 : ¬cond0_1 i) (hc2 : ¬cond0_2 i) (h : Fin 2) (r : Fin 1024)
    (l : Fin 768) :
    sout0_A_0 c i arg3 harg3 arg4 harg4 arg5 harg5 arg6 harg6 arg7 harg7 hc0 hc1 hc2 x0 x1 x2 (ix3 h r l) =
      half x0 x1 x2 h r l := by
  delta sout0_A_0
  refine (congrFun (View.read_writes_junk_eq_canon VS0_0 _) _).trans ?_
  rw [stores_first]
  simp only [Weights.loaded]
  match h with
  | ⟨1, _⟩ =>
    refine (Weights.under (accRect 1) _ _ (ix3 0 r l) _ (acc_emb 1 r l)).trans ?_
    rw [firstOf_at]
    exact half_eq x0 x1 x2 1 r l
  | ⟨0, _⟩ =>
    refine (View.canon_cons_of_not_mem _ _ ?_).trans ?_
    · intro hy
      obtain ⟨x, hx⟩ := (accRect 1).exists_idx_of_mem hy
      have e := congrArg (fun z : S2x1024x768.Idx => (z 0 : Nat)) hx
      simp only [Rect.idx_unit_val] at e
      simp [ix3] at e
    refine (Weights.under (accRect 0) _ _ (ix3 0 r l) _ (acc_emb 0 r l)).trans ?_
    rw [firstOf_at]
    exact half_eq x0 x1 x2 0 r l

/-- What the second point leaves in the output. -/
theorem left_second (hc0 : ¬cond0_0 i) (hc1 : ¬cond0_1 i) (hc2 : cond0_2 i) (h : Fin 2) (r : Fin 1024)
    (l : Fin 768) :
    out0_B_3 c i arg3 harg3 arg4 harg4 arg5 harg5 arg6 harg6 arg7 harg7 hc0 hc1 hc2 x0 x1 x2 xs0 (ix3 h r l) =
      xs0 (ix3 h r l) + half x0 x1 x2 h r l := by
  delta out0_B_3
  refine (congrFun (View.read_writes_junk_eq_canon VO0_3 _) _).trans ?_
  rw [stores_second]
  simp only [Weights.loaded]
  match h with
  | ⟨1, _⟩ =>
    refine (Weights.under (accRect 1) _ _ (ix3 0 r l) _ (acc_emb 1 r l)).trans ?_
    rw [secondOf_at]
    exact congrArg₂ (· + ·) (acc_at xs0 1 r l) (half_eq x0 x1 x2 1 r l)
  | ⟨0, _⟩ =>
    refine (View.canon_cons_of_not_mem _ _ ?_).trans ?_
    · intro hy
      obtain ⟨x, hx⟩ := (accRect 1).exists_idx_of_mem hy
      have e := congrArg (fun z : S2x1024x768.Idx => (z 0 : Nat)) hx
      simp only [Rect.idx_unit_val] at e
      simp [ix3] at e
    refine (Weights.under (accRect 0) _ _ (ix3 0 r l) _ (acc_emb 0 r l)).trans ?_
    rw [secondOf_at]
    exact congrArg₂ (· + ·) (acc_at xs0 0 r l) (half_eq x0 x1 x2 0 r l)

end

/-! ## The array the kernel ends with -/

section
variable (m : (ℓ : Loc nD τ sig) → Buf (Elt Ideal) ℓ) (c : Dev nD)

/-- The activations. -/
def xs (k : Fin 4096) (l : Fin 1024) : EReal :=
  (m ((c : Thread nD τ).loc main_arg0) : Vec Ideal S4096x1024 .f32) (ix2 k l)
/-- A column of the gradient of the projections, in a block of columns. -/
def col (b : Fin 8) (l : Fin 768) : Fin 6144 := ⟨768 * b.val + l.val, by omega⟩
/-- The gradient of the projections. -/
def act (b : Fin 8) (k : Fin 4096) (l : Fin 768) : EReal :=
  (m ((c : Thread nD τ).loc main_arg1) : Vec Ideal S4096x6144 .bf16) (ix2 k (col b l))

/-- The scales of the norm. -/
def gs (l : Fin 1024) : EReal :=
  (m ((c : Thread nD τ).loc main_arg2) : Vec Ideal S1x1024 .f32) (ix2 0 l)

/-- A block of the columns of the gradient. -/
def blk (i : Fin 4) (h : Fin 2) : Fin 8 := ⟨2 * i.val + h.val, by omega⟩
/-- A token of a half. -/
def tok (s : Fin 2) (k : Fin 2048) : Fin 4096 := ⟨2048 * s.val + k.val, by omega⟩
/-- A point of the grid. -/
def pt (i : Fin 4) (s : Fin 2) : Fin cfg0.N := ⟨2 * i.val + s.val, lt_of_lt_of_eq (by omega) N_0.symm⟩

theorem index_0 : ∀ (i : Fin 4) (s : Fin 2), win0_0.index (pt i s) 0 = s.val ∧ win0_0.index (pt i s) 1 = 0 := by
  decide +kernel
theorem index_1 : ∀ (i : Fin 4) (s : Fin 2), win0_1.index (pt i s) 0 = s.val ∧ win0_1.index (pt i s) 1 = i.val := by
  decide +kernel
theorem index_2 : ∀ (i : Fin 4) (s : Fin 2), win0_2.index (pt i s) 0 = 0 ∧ win0_2.index (pt i s) 1 = 0 := by
  decide +kernel
theorem index_3 : ∀ (i : Fin 4) (s : Fin 2), win0_3.index (pt i s) 0 = i.val ∧ win0_3.index (pt i s) 1 = 0 ∧
    win0_3.index (pt i s) 2 = 0 := by
  decide +kernel

/-- The rows of the activations at a point. -/
theorem iblk_0 (i : Fin 4) (s : Fin 2) (k : Fin 2048) (l : Fin 1024) :
    (iblk m c 0 (pt i s) : Vec Ideal S2048x1024 .f32) (ix2 k l) = xs m c (tok s k) l := by
  have hi := index_0 i s
  refine congrArg (m ((c : Thread nD τ).loc main_arg0)) ?_
  funext a
  apply Fin.ext
  match a with
  | ⟨0, _⟩ =>
    show win0_0.index (pt i s) 0 * 2048 + 1 * k.val = 2048 * s.val + k.val
    rw [hi.1]; omega
  | ⟨1, _⟩ =>
    show win0_0.index (pt i s) 1 * 1024 + 1 * l.val = l.val
    rw [hi.2]; omega

/-- The columns of the gradient of the projections at a point. -/
theorem iblk_1 (i : Fin 4) (s h : Fin 2) (k : Fin 2048) (l : Fin 768) :
    (iblk m c 1 (pt i s) : Vec Ideal S2048x1536 .bf16) (ix2 k (colIn h l)) = act m c (blk i h) (tok s k) l := by
  have hi := index_1 i s
  refine congrArg (m ((c : Thread nD τ).loc main_arg1)) ?_
  funext a
  apply Fin.ext
  match a with
  | ⟨0, _⟩ =>
    show win0_1.index (pt i s) 0 * 2048 + 1 * k.val = 2048 * s.val + k.val
    rw [hi.1]; omega
  | ⟨1, _⟩ =>
    show win0_1.index (pt i s) 1 * 1536 + 1 * (768 * h.val + l.val) = 768 * (2 * i.val + h.val) + l.val
    rw [hi.2]; omega

/-- The scales at a point. -/
theorem iblk_2 (i : Fin 4) (s : Fin 2) (l : Fin 1024) :
    (iblk m c 2 (pt i s) : Vec Ideal S1x1024 .f32) (ix2 0 l) = gs m c l := by
  have hi := index_2 i s
  refine congrArg (m ((c : Thread nD τ).loc main_arg2)) ?_
  funext a
  apply Fin.ext
  match a with
  | ⟨0, _⟩ =>
    show win0_2.index (pt i s) 0 * 1 + 1 * 0 = 0
    rw [hi.1]
  | ⟨1, _⟩ =>
    show win0_2.index (pt i s) 1 * 1024 + 1 * l.val = l.val
    rw [hi.2]; omega

/-- The product over half of the tokens, of the arguments. -/
def part (b : Fin 8) (s : Fin 2) (r : Fin 1024) (l : Fin 768) : EReal :=
  ∑ k, Weights.normS (xs m c (tok s k)) (gs m c r) r * act m c b (tok s k) l

theorem half_pt (i : Fin 4) (s h : Fin 2) (r : Fin 1024) (l : Fin 768) :
    half (iblk m c 0 (pt i s)) (iblk m c 1 (pt i s)) (iblk m c 2 (pt i s)) h r l = part m c (blk i h) s r l :=
  Finset.sum_congr rfl fun k _ => congrArg₂ (· * ·)
    (congrArg₂ (fun f g => Weights.normS f g r) (funext fun e => iblk_0 m c i s k e) (iblk_2 m c i s r))
    (iblk_1 m c i s h k l)

/-- The accumulator after the first point of a block of columns. -/
theorem first_pt (i : Fin 4) (h : Fin 2) (r : Fin 1024) (l : Fin 768) :
    (outsAt0 m c (pt i 0).val (pt i 0).isLt).2 (ix3 h r l) = part m c (blk i h) 0 r l := by
  have h0 : (pt i 0).val % 2 = 0 := by show (2 * i.val + 0) % 2 = 0; omega
  have h2 : ¬(pt i 0).val % 2 = 1 := by omega
  rw [Weights.pair_two (outsAt0_A m c (pt i 0) h0 h2), left_first, half_pt]

/-- The output after the second point of a block of columns. -/
theorem second_pt (i : Fin 4) (h : Fin 2) (r : Fin 1024) (l : Fin 768) :
    (outsAt0 m c (pt i 1).val (pt i 1).isLt).1 (ix3 h r l) =
      part m c (blk i h) 0 r l + part m c (blk i h) 1 r l := by
  have h0 : ¬(pt i 1).val % 2 = 0 := by show ¬(2 * i.val + 1) % 2 = 0; omega
  have h2 : (pt i 1).val % 2 = 1 := by omega
  rw [Weights.pair_one (outsAt0_B m c (pt i 1) h0 h2), left_second, half_pt]
  exact congrArg (· + part m c (blk i h) 1 r l) (first_pt m c i h r l)

theorem flush_pt (i : Fin 4) : (cfg0.win 3).flush (pt i 1) = true :=
  (flush0_3 (pt i 1)).2 (by show (2 * i.val + 1) % 2 = 1; omega)

/-- Only the second point of a block of columns writes it back. -/
theorem apart : ∀ t₁ t₂ : Fin cfg0.N, (cfg0.win 3).flush t₁ = true → (cfg0.win 3).flush t₂ = true →
    t₁ ≠ t₂ → Disjoint ((cfg0.win 3).blk t₁).view.set ((cfg0.win 3).blk t₂).view.set := by
  intro t₁ t₂ h₁ h₂ hne
  rw [Finset.disjoint_left]
  intro y hy₁ hy₂
  rw [Value.mem_blk3] at hy₁ hy₂
  have a₁ : win0_3.index t₁ (0 : Fin 3) * 2 ≤ (y 0).val ∧
      (y 0).val < win0_3.index t₁ (0 : Fin 3) * 2 + 2 := hy₁ 0
  have a₂ : win0_3.index t₂ (0 : Fin 3) * 2 ≤ (y 0).val ∧
      (y 0).val < win0_3.index t₂ (0 : Fin 3) * 2 + 2 := hy₂ 0
  have m₁ : t₁.val % 2 = 1 := (flush0_3 t₁).mp h₁
  have m₂ : t₂.val % 2 = 1 := (flush0_3 t₂).mp h₂
  obtain ⟨-, -, -, e₁, -, g₁, f₁⟩ := Value.idx_facts3 t₁
  obtain ⟨-, -, -, e₂, -, g₂, f₂⟩ := Value.idx_facts3 t₂
  exact hne (Fin.ext (by omega))

/-- The result at an index. -/
theorem result_at (i : Fin 4) (h : Fin 2) (r : Fin 1024) (l : Fin 768) :
    ((dats m 0 c).arrAt 3 cfg0.N : Vec Ideal S8x1024x768 .bf16) (ix3 (blk i h) r l) =
      part m c (blk i h) 0 r l + part m c (blk i h) 1 r l := by
  have hi := index_3 i 1
  have hb := congrFun ((dats m 0 c).read_blk_arrAt_eq_flushed 3 apart cfg0.N (pt i 1) (pt i 1).isLt
    (flush_pt i)) (ix3 h r l)
  rw [Value.flushed3, View.read_apply] at hb
  have e : (ix3 (blk i h) r l : S8x1024x768.Idx) =
      ((cfg0.win 3).blk (pt i 1)).view.emb (ix3 h r l) := by
    funext a
    apply Fin.ext
    match a with
    | ⟨0, _⟩ =>
      show 2 * i.val + h.val = win0_3.index (pt i 1) 0 * 2 + 1 * h.val
      rw [hi.1]; omega
    | ⟨1, _⟩ =>
      show r.val = win0_3.index (pt i 1) 1 * 1024 + 1 * r.val
      rw [hi.2.1]; omega
    | ⟨2, _⟩ =>
      show l.val = win0_3.index (pt i 1) 2 * 768 + 1 * l.val
      rw [hi.2.2]; omega
  rw [e]
  exact (show _ = _ from hb).trans (second_pt m c i h r l)

end

end Cert.In
-- ==== Proof.InEnds.lean ====
module

public import proofs.«01_k».proof.Proof.In
public import proofs.«01_k».proof.Defs
public import proofs.«01_k».proof.Proof.Gen.ReferenceInIdeal.Run
public import Idealize.ShloMosaic.Lib.Quiescent

@[expose] public section

set_option maxRecDepth 16384
set_option maxHeartbeats 1000000

noncomputable section

namespace Cert.In

open Idealize.ShloMosaic Idealize.ShloMosaic.TcCoe Idealize.ShloMosaic.StableHlo Idealize.SL.Sem

/-! ## The kernel's result and the reference's, side by side -/

open Cert.ReferenceInIdeal Cert.ReferenceInIdeal.Gen in
/-- The reference's normalised rows. -/
def normed (x : FVec Ideal S4096x1024 .f32) (g : FVec Ideal S1x1024 .f32) : FVec Ideal S4096x1024 .f32 :=
  mulf (mulf x (broadcastInDim S4096x1024 ![0, 1] bcast_S4096x1_S4096x1024_0_1
    (Host.rsqrt (addf (Host.divf (broadcastInDim S4096x1 ![0] bcast_S4096_S4096x1_0 (Host.reduceAdd (mulf x x)
      (constant S_ .f32 0x00000000#32) reducesTo_S4096x1024_S4096_d1 h_S_)) (broadcastInDim S4096x1 ![] bcast_S_S4096x1
      (constant S_ .f32 0x44800000#32))) (broadcastInDim S4096x1 ![] bcast_S_S4096x1
      (constant S_ .f32 0x358637BD#32)))))) (broadcastInDim S4096x1024 ![0, 1] bcast_S1x1024_S4096x1024_0_1 g)

open Cert.ReferenceInIdeal Cert.ReferenceInIdeal.Gen in
/-- What the reference computes. -/
def refOut (x : FVec Ideal S4096x1024 .f32) (d : FVec Ideal S4096x6144 .bf16) (g : FVec Ideal S1x1024 .f32) :
    FVec Ideal S8x1024x768 .bf16 :=
  truncf .bf16 (transpose S8x1024x768 [1, 0, 2] (shapeCast _ (transpose S1024x6144 [1, 0]
    (Host.dotGeneral dot_S4096x6144_S4096x1024_S6144x1024_0_0_1_1_n_n none (extf .f32 d bitsLt_bf16_f32)
      (normed x g)) transposes_S6144x1024_S1024x6144_1_0) shapeCasts_S1024x6144_S1024x8x768)
    transposes_S1024x8x768_S8x1024x768_1_0_2) bitsLt_bf16_f32

/-- A normalised row of the reference. -/
theorem normed_at (x : FVec Ideal Cert.ReferenceInIdeal.S4096x1024 .f32)
    (g : FVec Ideal Cert.ReferenceInIdeal.S1x1024 .f32) (k : Fin 4096) (l : Fin 1024) :
    normed x g (ix2 k l) = Weights.normS (fun e => x (ix2 k e)) (g (ix2 0 l)) l := by
  pointwise [normed, Weights.normS]

/-- The reference at an index. -/
theorem ref_at (x : FVec Ideal Cert.ReferenceInIdeal.S4096x1024 .f32)
    (d : FVec Ideal Cert.ReferenceInIdeal.S4096x6144 .bf16) (g : FVec Ideal Cert.ReferenceInIdeal.S1x1024 .f32)
    (b : Fin 8) (r : Fin 1024) (l : Fin 768) : refOut x d g (ix3 b r l) =
      ∑ k : Fin 4096, Weights.normS (fun e => x (ix2 k e)) (g (ix2 0 r)) r * d (ix2 k (col b l)) := by
  pointwise [refOut]
  refine Finset.sum_congr rfl fun k _ => ?_
  rw [mul_comm]
  have e : (⟨b.val * 768 + l.val, by omega⟩ : Fin 6144) = col b l :=
    Fin.ext (by show b.val * 768 + l.val = 768 * b.val + l.val; omega)
  exact congrArg₂ (· * ·) (normed_at x g k r) (congrArg (fun z => d (ix2 k z)) e)

variable (m : (ℓ : Loc Cert.KernelInIdeal.nD Cert.KernelInIdeal.τ Cert.KernelInIdeal.sig) → Buf (Elt Ideal) ℓ)
  (c : Dev Cert.KernelInIdeal.nD)

/-- The kernel's result is what the reference computes. -/
theorem same : refOut (m ((c : Thread Cert.KernelInIdeal.nD Cert.KernelInIdeal.τ).loc Cert.KernelInIdeal.main_arg0))
    (m ((c : Thread Cert.KernelInIdeal.nD Cert.KernelInIdeal.τ).loc Cert.KernelInIdeal.main_arg1))
    (m ((c : Thread Cert.KernelInIdeal.nD Cert.KernelInIdeal.τ).loc Cert.KernelInIdeal.main_arg2)) =
      ((Cert.KernelInIdeal.Gen.dats m 0 c).arrAt 3 Cert.KernelInIdeal.cfg0.N :
        Vec Ideal Cert.KernelInIdeal.S8x1024x768 .bf16) := by
  funext j
  have hj : (j 0).val < 8 := (j 0).isLt
  obtain ⟨i, h, r, l, rfl⟩ : ∃ (i : Fin 4) (h : Fin 2) (r : Fin 1024) (l : Fin 768), j = ix3 (blk i h) r l := by
    refine ⟨⟨(j 0).val / 2, by omega⟩, ⟨(j 0).val % 2, by omega⟩, j 1, j 2, ?_⟩
    funext a
    match a with
    | ⟨0, _⟩ => exact Fin.ext (by show (j 0).val = 2 * ((j 0).val / 2) + (j 0).val % 2; omega)
    | ⟨1, _⟩ => rfl
    | ⟨2, _⟩ => rfl
  refine (ref_at _ _ _ _ _ _).trans ?_
  rw [result_at m c i h r l]
  refine (Weights.halves _).symm.trans ?_
  refine congrArg₂ (· + ·) (Finset.sum_congr rfl fun k _ => ?_) rfl
  have e : (⟨k.val, by omega⟩ : Fin 4096) = tok 0 k := Fin.ext (by show k.val = 2048 * 0 + k.val; omega)
  rw [e]
  rfl

/-- The kernel and the reference end with equal results. -/
theorem equal_ends : Cert.algebraic_KernelInIdeal_ReferenceInIdeal
    (hKernelInIdeal := Cert.KernelInIdeal.Gen.facts)
    (hReferenceInIdeal := Cert.ReferenceInIdeal.Gen.facts) := by
  intro m g m' g' _ hagree
  refine ⟨_, Cert.KernelInIdeal.Value.run_blocks m g, ?_⟩
  refine (θ_run Cert.ReferenceInIdeal.defs _ _).mono (fun r h c => ?_)
    (Cert.ReferenceInIdeal.Value.run (F := Ideal) m' g')
  refine ⟨(h c).1.trans ?_, (h c).2⟩
  rw [(hagree c).1, (hagree c).2.1, (hagree c).2.2]
  exact same m c

/-- The reference ends with its arguments unchanged. -/
theorem reference_ends : Cert.quiescent_ReferenceInIdeal
    (hReferenceInIdeal := Cert.ReferenceInIdeal.Gen.facts) := fun m ρ _ =>
  (θ_run Cert.ReferenceInIdeal.defs _ _).mono (fun r h => ⟨fun c => (h c).2,
      Idealize.ShloMosaic.sem_eq_zero_of_no_sems (by decide) r.2⟩)
    (Cert.ReferenceInIdeal.Value.run (F := Ideal) m ρ)

end Cert.In
-- ==== Proof.Gu.lean ====
module

public import proofs.«01_k».proof.Proof.Down
public import proofs.«01_k».proof.Proof.In
public import proofs.«01_k».proof.Proof.Gen.KernelGuIdeal.Value

@[expose] public section

set_option maxRecDepth 16384
set_option maxHeartbeats 1000000

noncomputable section

namespace Cert.Gu

open Cert.KernelGuIdeal Cert.KernelGuIdeal.Gen Idealize.ShloMosaic Idealize.ShloMosaic.TcCoe
  Idealize.SL.Sem
open Cert.Down (actRect accRect act_at acc_at rowIn)
open Cert.In (grow nrm rows rowRect gRect g_at nrm_at rows_at blk tok)

/-! ## What the kernel stores at a point, entry by entry -/

section
variable {F : FTy → Type} [FloatOps F]

/-- The product of a block of columns with the normalised rows. -/
def prod (v : Vec F S1x2048x704 .bf16) (X : Fin 8 → Vec F S256x1024 .f32) (g : Vec F S1x1024 .f32) :
    FVec F S704x1024 .f32 :=
  matmul dot_S2048x704_S2048x1024_S704x1024_0_0_1_1_n_n none
    (shapeCast S2048x704 v shapeCasts_S1x2048x704_S2048x704 : FVec F S2048x704 .bf16) (rows X g)
    (constant S704x1024 .f32 0x00000000#32)

/-- What is stored at the first point of a block of rows. -/
def firstOf (v : Vec F S1x2048x704 .bf16) (X : Fin 8 → Vec F S256x1024 .f32) (g : Vec F S1x1024 .f32) :
    FVec F S1x704x1024 .f32 := shapeCast S1x704x1024 (prod v X g) shapeCasts_S704x1024_S1x704x1024

/-- What is stored at the second. -/
def secondOf (v : Vec F S1x2048x704 .bf16) (X : Fin 8 → Vec F S256x1024 .f32) (g : Vec F S1x1024 .f32)
    (s : Vec F S1x704x1024 .f32) : FVec F S704x1024 .bf16 :=
  truncf .bf16 (addf (shapeCast S704x1024 s shapeCasts_S1x704x1024_S704x1024 : FVec F S704x1024 .f32) (prod v X g))
    bitsLt_bf16_f32

variable (c : Dev nD) (i : grid0.Coords) (arg3 : Memref sig .tc .vmem S2x2048x704 .bf16) (harg3 : arg3.IsWhole) (arg4 : Memref sig .tc .vmem S2048x1024 .f32) (harg4 : arg4.IsWhole) (arg5 : Memref sig .tc .vmem S1x1024 .f32) (harg5 : arg5.IsWhole) (arg6 : Memref sig .tc .vmem S1408x1024 .bf16) (harg6 : arg6.IsWhole) (arg7 : Memref sig .tc .vmem S2x704x1024 .f32) (harg7 : arg7.IsWhole)
  (x0 : Vec F S2x2048x704 .bf16) (x1 : Vec F S2048x1024 .f32) (x2 : Vec F S1x1024 .f32) (xs0 : Vec F S2x704x1024 .f32)

/-- What the first point of a block of rows stores in the accumulator. -/
theorem stores_first (hc0 : cond0_0 i) (hc1 : ¬cond0_1 i) (hc2 : ¬cond0_2 i) :
    (kernelRun0_A c i arg3 harg3 arg4 harg4 arg5 harg5 arg6 harg6 arg7 harg7 hc0 hc1 hc2 x0 x1 x2).2.1 =
      [⟨accRect 1, firstOf (View.readAt (Elt F) arg3.view (actRect 1).toLoadRect (harg3.unread x0))
          (fun q => View.readAt (Elt F) arg4.view (rowRect q).toLoadRect (harg4.unread x1))
          (View.readAt (Elt F) arg5.view gRect.toLoadRect (harg5.unread x2))⟩,
       ⟨accRect 0, firstOf (View.readAt (Elt F) arg3.view (actRect 0).toLoadRect (harg3.unread x0))
          (fun q => View.readAt (Elt F) arg4.view (rowRect q).toLoadRect (harg4.unread x1))
          (View.readAt (Elt F) arg5.view gRect.toLoadRect (harg5.unread x2))⟩] := rfl

/-- What the second point of a block of rows stores in the output. -/
theorem stores_second (hc0 : ¬cond0_0 i) (hc1 : ¬cond0_1 i) (hc2 : cond0_2 i) :
    (kernelRun0_B c i arg3 harg3 arg4 harg4 arg5 harg5 arg6 harg6 arg7 harg7 hc0 hc1 hc2 x0 x1 x2 xs0).1 =
      [⟨Rect.unit (s := S1408x1024) ![704, 0] S704x1024.size inb_S1408x1024_S704x1024_704_0,
          secondOf (View.readAt (Elt F) arg3.view (actRect 1).toLoadRect (harg3.unread x0))
          (fun q => View.readAt (Elt F) arg4.view (rowRect q).toLoadRect (harg4.unread x1))
          (View.readAt (Elt F) arg5.view gRect.toLoadRect (harg5.unread x2))
          (View.readAt (Elt F) arg7.view (accRect 1).toLoadRect (harg7.unread xs0))⟩,
       ⟨Rect.unit (s := S1408x1024) ![0, 0] S704x1024.size inb_S1408x1024_S704x1024_0_0,
          secondOf (View.readAt (Elt F) arg3.view (actRect 0).toLoadRect (harg3.unread x0))
          (fun q => View.readAt (Elt F) arg4.view (rowRect q).toLoadRect (harg4.unread x1))
          (View.readAt (Elt F) arg5.view gRect.toLoadRect (harg5.unread x2))
          (View.readAt (Elt F) arg7.view (accRect 0).toLoadRect (harg7.unread xs0))⟩] := rfl

end

section
variable (x0 : Vec Ideal S2x2048x704 .bf16) (x1 : Vec Ideal S2048x1024 .f32) (x2 : Vec Ideal S1x1024 .f32)
  (xs0 : Vec Ideal S2x704x1024 .f32)

/-- A load of a group of rows at an index. -/
theorem row_at (q : Fin 8) (t : Fin 256) (l : Fin 1024) :
    x1 ((rowRect q).toLoadRect.idx (ix2 t l)) = x1 (ix2 (grow q t) l) := by
  refine congrArg x1 ?_
  funext a
  match a with
  | ⟨0, _⟩ | ⟨1, _⟩ => exact Fin.ext (by simp [Rect.idx_unit_val, LoadRect.idx, Rect.toLoadRect, Rect.unit, ix2, grow])

/-- The products, at an index. -/
theorem prod_at (v : FVec Ideal S1x2048x704 .bf16) (X : Fin 8 → FVec Ideal S256x1024 .f32)
    (g : FVec Ideal S1x1024 .f32) (r : Fin 704) (l : Fin 1024) :
    prod (F := Ideal) v X g (ix2 r l) = ∑ k, v (ix3 0 k r) * rows (F := Ideal) X g (ix2 k l) := by
  pointwise [prod]
theorem firstOf_at (v : FVec Ideal S1x2048x704 .bf16) (X : Fin 8 → FVec Ideal S256x1024 .f32)
    (g : FVec Ideal S1x1024 .f32) (r : Fin 704) (l : Fin 1024) :
    firstOf (F := Ideal) v X g (ix3 0 r l) = ∑ k, v (ix3 0 k r) * rows (F := Ideal) X g (ix2 k l) := by
  refine Eq.trans ?_ (prod_at v X g r l)
  pointwise [firstOf]
theorem secondOf_at (v : FVec Ideal S1x2048x704 .bf16) (X : Fin 8 → FVec Ideal S256x1024 .f32)
    (g : FVec Ideal S1x1024 .f32) (s : FVec Ideal S1x704x1024 .f32) (r : Fin 704) (l : Fin 1024) :
    secondOf (F := Ideal) v X g s (ix2 r l) = s (ix3 0 r l) + ∑ k, v (ix3 0 k r) * rows (F := Ideal) X g (ix2 k l) := by
  refine Eq.trans ?_ (congrArg (s (ix3 0 r l) + ·) (prod_at v X g r l))
  pointwise [secondOf]

/-- The product of one block over half of the tokens. -/
def half (h : Fin 2) (r : Fin 704) (l : Fin 1024) : EReal :=
  ∑ k, x0 (ix3 h k r) * Weights.normS (fun e => x1 (ix2 k e)) (x2 (ix2 0 l)) l

theorem half_eq (h : Fin 2) (r : Fin 704) (l : Fin 1024) :
    ∑ k, x0 ((actRect h).toLoadRect.idx (ix3 0 k r)) * rows (fun q j => x1 ((rowRect q).toLoadRect.idx j))
      (fun j => x2 (gRect.toLoadRect.idx j)) (ix2 k l) = half x0 x1 x2 h r l :=
  Finset.sum_congr rfl fun k _ => congrArg₂ (· * ·) (act_at x0 h k r) (by
    obtain ⟨q, t, rfl⟩ : ∃ (q : Fin 8) (t : Fin 256), k = grow q t :=
      ⟨⟨k.val / 256, by omega⟩, ⟨k.val % 256, by omega⟩,
        Fin.ext (by show k.val = 256 * (k.val / 256) + k.val % 256; omega)⟩
    rw [rows_at, nrm_at]
    exact congrArg₂ (fun f g => Weights.normS f g l) (funext fun e => row_at x1 q t e) (g_at x2 l))

variable (c : Dev nD) (i : grid0.Coords) (arg3 : Memref sig .tc .vmem S2x2048x704 .bf16) (harg3 : arg3.IsWhole) (arg4 : Memref sig .tc .vmem S2048x1024 .f32) (harg4 : arg4.IsWhole) (arg5 : Memref sig .tc .vmem S1x1024 .f32) (harg5 : arg5.IsWhole) (arg6 : Memref sig .tc .vmem S1408x1024 .bf16) (harg6 : arg6.IsWhole) (arg7 : Memref sig .tc .vmem S2x704x1024 .f32) (harg7 : arg7.IsWhole)

/-- What the first point leaves in the accumulator. -/
theorem left_first (hc0 : cond0_0 i) (hc1 : ¬cond0_1 i) (hc2 : ¬cond0_2 i) (h : Fin 2) (r : Fin 704)
    (l : Fin 1024) :
    sout0_A_0 c i arg3 harg3 arg4 harg4 arg5 harg5 arg6 harg6 arg7 harg7 hc0 hc1 hc2 x0 x1 x2 (ix3 h r l) =
      half x0 x1 x2 h r l := by
  delta sout0_A_0
  refine (congrFun (View.read_writes_junk_eq_canon VS0_0 _) _).trans ?_
  rw [stores_first]
  simp only [Weights.loaded]
  match h with
  | ⟨1, _⟩ =>
    refine (Weights.under (accRect 1) _ _ (ix3 0 r l) _ ?_).trans ?_
    · funext a
      match a with
      | ⟨0, _⟩ | ⟨1, _⟩ | ⟨2, _⟩ => exact Fin.ext (by simp [Rect.emb, Rect.idx_unit_val, Rect.unit, ix3])
    · rw [firstOf_at]
      exact half_eq x0 x1 x2 1 r l
  | ⟨0, _⟩ =>
    refine (View.canon_cons_of_not_mem _ _ ?_).trans ?_
    · intro hy
      obtain ⟨x, hx⟩ := (accRect 1).exists_idx_of_mem hy
      have e := congrArg (fun z : S2x704x1024.Idx => (z 0 : Nat)) hx
      simp only [Rect.idx_unit_val] at e
      simp [ix3] at e
    refine (Weights.under (accRect 0) _ _ (ix3 0 r l) _ ?_).trans ?_
    · funext a
      match a with
      | ⟨0, _⟩ | ⟨1, _⟩ | ⟨2, _⟩ => exact Fin.ext (by simp [Rect.emb, Rect.idx_unit_val, Rect.unit, ix3])
    · rw [firstOf_at]
      exact half_eq x0 x1 x2 0 r l

/-- What the second point leaves in the output. -/
theorem left_second (hc0 : ¬cond0_0 i) (hc1 : ¬cond0_1 i) (hc2 : cond0_2 i) (h : Fin 2) (r : Fin 704)
    (l : Fin 1024) :
    out0_B_3 c i arg3 harg3 arg4 harg4 arg5 harg5 arg6 harg6 arg7 harg7 hc0 hc1 hc2 x0 x1 x2 xs0 (ix2 (rowIn h r) l) =
      xs0 (ix3 h r l) + half x0 x1 x2 h r l := by
  delta out0_B_3
  refine (congrFun (View.read_writes_junk_eq_canon VO0_3 _) _).trans ?_
  rw [stores_second]
  simp only [Weights.loaded]
  match h with
  | ⟨1, _⟩ =>
    refine (Weights.under _ _ _ (ix2 r l) _ ?_).trans ?_
    · funext a
      match a with
      | ⟨0, _⟩ | ⟨1, _⟩ => exact Fin.ext (by simp [Rect.emb, Rect.idx_unit_val, Rect.unit, ix2, rowIn])
    · rw [secondOf_at]
      exact congrArg₂ (· + ·) (acc_at xs0 1 r l) (half_eq x0 x1 x2 1 r l)
  | ⟨0, _⟩ =>
    refine (View.canon_cons_of_not_mem _ _ ?_).trans ?_
    · intro hy
      obtain ⟨x, hx⟩ := (Rect.unit (s := S1408x1024) ![704, 0] S704x1024.size
        inb_S1408x1024_S704x1024_704_0).exists_idx_of_mem hy
      have e := congrArg (fun z : S1408x1024.Idx => (z 0 : Nat)) hx
      simp only [Rect.idx_unit_val] at e
      simp [ix2, rowIn] at e
      omega
    refine (Weights.under _ _ _ (ix2 r l) _ ?_).trans ?_
    · funext a
      match a with
      | ⟨0, _⟩ | ⟨1, _⟩ => exact Fin.ext (by simp [Rect.emb, Rect.idx_unit_val, Rect.unit, ix2, rowIn])
    · rw [secondOf_at]
      exact congrArg₂ (· + ·) (acc_at xs0 0 r l) (half_eq x0 x1 x2 0 r l)

end

/-! ## The array the kernel ends with -/

section
variable (m : (ℓ : Loc nD τ sig) → Buf (Elt Ideal) ℓ) (c : Dev nD)

/-- The gradient of the projections. -/
def act (b : Fin 8) (k : Fin 4096) (r : Fin 704) : EReal :=
  (m ((c : Thread nD τ).loc main_arg0) : Vec Ideal S8x4096x704 .bf16) (ix3 b k r)
/-- The activations. -/
def xs (k : Fin 4096) (l : Fin 1024) : EReal :=
  (m ((c : Thread nD τ).loc main_arg1) : Vec Ideal S4096x1024 .f32) (ix2 k l)

/-- The scales of the norm. -/
def gs (l : Fin 1024) : EReal :=
  (m ((c : Thread nD τ).loc main_arg2) : Vec Ideal S1x1024 .f32) (ix2 0 l)

/-- A point of the grid. -/
def pt (i : Fin 4) (s : Fin 2) : Fin cfg0.N := ⟨2 * i.val + s.val, lt_of_lt_of_eq (by omega) N_0.symm⟩

theorem index_0 : ∀ (i : Fin 4) (s : Fin 2), win0_0.index (pt i s) 0 = i.val ∧ win0_0.index (pt i s) 1 = s.val ∧
    win0_0.index (pt i s) 2 = 0 := by decide +kernel
theorem index_1 : ∀ (i : Fin 4) (s : Fin 2), win0_1.index (pt i s) 0 = s.val ∧ win0_1.index (pt i s) 1 = 0 := by
  decide +kernel
theorem index_2 : ∀ (i : Fin 4) (s : Fin 2), win0_2.index (pt i s) 0 = 0 ∧ win0_2.index (pt i s) 1 = 0 := by
  decide +kernel
theorem index_3 : ∀ (i : Fin 4) (s : Fin 2), win0_3.index (pt i s) 0 = i.val ∧ win0_3.index (pt i s) 1 = 0 := by
  decide +kernel

/-- The blocks of the gradient of the projections at a point. -/
theorem iblk_0 (i : Fin 4) (s h : Fin 2) (k : Fin 2048) (r : Fin 704) :
    (iblk m c 0 (pt i s) : Vec Ideal S2x2048x704 .bf16) (ix3 h k r) = act m c (blk i h) (tok s k) r := by
  have hi := index_0 i s
  refine congrArg (m ((c : Thread nD τ).loc main_arg0)) ?_
  funext a
  apply Fin.ext
  match a with
  | ⟨0, _⟩ =>
    show win0_0.index (pt i s) 0 * 2 + 1 * h.val = 2 * i.val + h.val
    rw [hi.1]; omega
  | ⟨1, _⟩ =>
    show win0_0.index (pt i s) 1 * 2048 + 1 * k.val = 2048 * s.val + k.val
    rw [hi.2.1]; omega
  | ⟨2, _⟩ =>
    show win0_0.index (pt i s) 2 * 704 + 1 * r.val = r.val
    rw [hi.2.2]; omega

/-- The rows of the activations at a point. -/
theorem iblk_1 (i : Fin 4) (s : Fin 2) (k : Fin 2048) (l : Fin 1024) :
    (iblk m c 1 (pt i s) : Vec Ideal S2048x1024 .f32) (ix2 k l) = xs m c (tok s k) l := by
  have hi := index_1 i s
  refine congrArg (m ((c : Thread nD τ).loc main_arg1)) ?_
  funext a
  apply Fin.ext
  match a with
  | ⟨0, _⟩ =>
    show win0_1.index (pt i s) 0 * 2048 + 1 * k.val = 2048 * s.val + k.val
    rw [hi.1]; omega
  | ⟨1, _⟩ =>
    show win0_1.index (pt i s) 1 * 1024 + 1 * l.val = l.val
    rw [hi.2]; omega

/-- The scales at a point. -/
theorem iblk_2 (i : Fin 4) (s : Fin 2) (l : Fin 1024) :
    (iblk m c 2 (pt i s) : Vec Ideal S1x1024 .f32) (ix2 0 l) = gs m c l := by
  have hi := index_2 i s
  refine congrArg (m ((c : Thread nD τ).loc main_arg2)) ?_
  funext a
  apply Fin.ext
  match a with
  | ⟨0, _⟩ =>
    show win0_2.index (pt i s) 0 * 1 + 1 * 0 = 0
    rw [hi.1]
  | ⟨1, _⟩ =>
    show win0_2.index (pt i s) 1 * 1024 + 1 * l.val = l.val
    rw [hi.2]; omega

/-- The product over half of the tokens, of the arguments. -/
def part (b : Fin 8) (s : Fin 2) (r : Fin 704) (l : Fin 1024) : EReal :=
  ∑ k, act m c b (tok s k) r * Weights.normS (xs m c (tok s k)) (gs m c l) l

theorem half_pt (i : Fin 4) (s h : Fin 2) (r : Fin 704) (l : Fin 1024) :
    half (iblk m c 0 (pt i s)) (iblk m c 1 (pt i s)) (iblk m c 2 (pt i s)) h r l = part m c (blk i h) s r l :=
  Finset.sum_congr rfl fun k _ => congrArg₂ (· * ·) (iblk_0 m c i s h k r)
    (congrArg₂ (fun f g => Weights.normS f g l) (funext fun e => iblk_1 m c i s k e) (iblk_2 m c i s l))

/-- The accumulator after the first point of a block of rows. -/
theorem first_pt (i : Fin 4) (h : Fin 2) (r : Fin 704) (l : Fin 1024) :
    (outsAt0 m c (pt i 0).val (pt i 0).isLt).2 (ix3 h r l) = part m c (blk i h) 0 r l := by
  have h0 : (pt i 0).val % 2 = 0 := by show (2 * i.val + 0) % 2 = 0; omega
  have h2 : ¬(pt i 0).val % 2 = 1 := by omega
  rw [Weights.pair_two (outsAt0_A m c (pt i 0) h0 h2), left_first, half_pt]

/-- The output after the second point of a block of rows. -/
theorem second_pt (i : Fin 4) (h : Fin 2) (r : Fin 704) (l : Fin 1024) :
    (outsAt0 m c (pt i 1).val (pt i 1).isLt).1 (ix2 (rowIn h r) l) =
      part m c (blk i h) 0 r l + part m c (blk i h) 1 r l := by
  have h0 : ¬(pt i 1).val % 2 = 0 := by show ¬(2 * i.val + 1) % 2 = 0; omega
  have h2 : (pt i 1).val % 2 = 1 := by omega
  rw [Weights.pair_one (outsAt0_B m c (pt i 1) h0 h2), left_second, half_pt]
  exact congrArg (· + part m c (blk i h) 1 r l) (first_pt m c i h r l)

theorem flush_pt (i : Fin 4) : (cfg0.win 3).flush (pt i 1) = true :=
  (flush0_3 (pt i 1)).2 (by show (2 * i.val + 1) % 2 = 1; omega)

/-- A row of the result. -/
def row (b : Fin 8) (r : Fin 704) : Fin 5632 := ⟨704 * b.val + r.val, by omega⟩

/-- Only the second point of a block of rows writes it back. -/
theorem apart : ∀ t₁ t₂ : Fin cfg0.N, (cfg0.win 3).flush t₁ = true → (cfg0.win 3).flush t₂ = true →
    t₁ ≠ t₂ → Disjoint ((cfg0.win 3).blk t₁).view.set ((cfg0.win 3).blk t₂).view.set := by
  intro t₁ t₂ h₁ h₂ hne
  rw [Finset.disjoint_left]
  intro y hy₁ hy₂
  rw [Value.mem_blk3] at hy₁ hy₂
  have a₁ : win0_3.index t₁ (0 : Fin 2) * 1408 ≤ (y 0).val ∧
      (y 0).val < win0_3.index t₁ (0 : Fin 2) * 1408 + 1408 := hy₁ 0
  have a₂ : win0_3.index t₂ (0 : Fin 2) * 1408 ≤ (y 0).val ∧
      (y 0).val < win0_3.index t₂ (0 : Fin 2) * 1408 + 1408 := hy₂ 0
  have m₁ : t₁.val % 2 = 1 := (flush0_3 t₁).mp h₁
  have m₂ : t₂.val % 2 = 1 := (flush0_3 t₂).mp h₂
  obtain ⟨-, -, -, e₁, f₁⟩ := Value.idx_facts3 t₁
  obtain ⟨-, -, -, e₂, f₂⟩ := Value.idx_facts3 t₂
  exact hne (Fin.ext (by omega))

/-- The result at an index. -/
theorem result_at (i : Fin 4) (h : Fin 2) (r : Fin 704) (l : Fin 1024) :
    ((dats m 0 c).arrAt 3 cfg0.N : Vec Ideal S5632x1024 .bf16) (ix2 (row (blk i h) r) l) =
      part m c (blk i h) 0 r l + part m c (blk i h) 1 r l := by
  have hi := index_3 i 1
  have hb := congrFun ((dats m 0 c).read_blk_arrAt_eq_flushed 3 apart cfg0.N (pt i 1) (pt i 1).isLt
    (flush_pt i)) (ix2 (rowIn h r) l)
  rw [Value.flushed3, View.read_apply] at hb
  have e : (ix2 (row (blk i h) r) l : S5632x1024.Idx) =
      ((cfg0.win 3).blk (pt i 1)).view.emb (ix2 (rowIn h r) l) := by
    funext a
    apply Fin.ext
    match a with
    | ⟨0, _⟩ =>
      show 704 * (2 * i.val + h.val) + r.val = win0_3.index (pt i 1) 0 * 1408 + 1 * (704 * h.val + r.val)
      rw [hi.1]; omega
    | ⟨1, _⟩ =>
      show l.val = win0_3.index (pt i 1) 1 * 1024 + 1 * l.val
      rw [hi.2]; omega
  rw [e]
  exact (show _ = _ from hb).trans (second_pt m c i h r l)

end

end Cert.Gu
-- ==== Proof.GuEnds.lean ====
module

public import proofs.«01_k».proof.Proof.InEnds
public import proofs.«01_k».proof.Proof.Gu
public import proofs.«01_k».proof.Defs
public import proofs.«01_k».proof.Proof.Gen.ReferenceGuIdeal.Run
public import Idealize.ShloMosaic.Lib.Quiescent

@[expose] public section

set_option maxRecDepth 16384
set_option maxHeartbeats 1000000

noncomputable section

namespace Cert.Gu

open Idealize.ShloMosaic Idealize.ShloMosaic.TcCoe Idealize.ShloMosaic.StableHlo Idealize.SL.Sem
open Cert.In (normed blk tok)

/-! ## The kernel's result and the reference's, side by side -/

open Cert.ReferenceGuIdeal Cert.ReferenceGuIdeal.Gen in

open Cert.ReferenceGuIdeal Cert.ReferenceGuIdeal.Gen in
/-- What the reference computes. -/
def refOut (d : FVec Ideal S8x4096x704 .bf16) (x : FVec Ideal S4096x1024 .f32) (g : FVec Ideal S1x1024 .f32) :
    FVec Ideal S5632x1024 .bf16 :=
  truncf .bf16 (transpose S5632x1024 [1, 0] (transpose S1024x5632 [1, 0]
    (Host.dotGeneral dot_S4096x5632_S4096x1024_S5632x1024_0_0_1_1_n_n none
      (extf .f32 (shapeCast _ (transpose S4096x8x704 [1, 0, 2] d transposes_S8x4096x704_S4096x8x704_1_0_2)
        shapeCasts_S4096x8x704_S4096x5632) bitsLt_bf16_f32) (normed x g)) transposes_S5632x1024_S1024x5632_1_0)
    transposes_S1024x5632_S5632x1024_1_0) bitsLt_bf16_f32

/-- A normalised row of the reference. -/
theorem normed_at (x : FVec Ideal Cert.ReferenceGuIdeal.S4096x1024 .f32)
    (g : FVec Ideal Cert.ReferenceGuIdeal.S1x1024 .f32) (k : Fin 4096) (l : Fin 1024) :
    normed x g (ix2 k l) = Weights.normS (fun e => x (ix2 k e)) (g (ix2 0 l)) l := by
  pointwise [normed, Weights.normS]

/-- The reference at an index. -/
theorem ref_at (d : FVec Ideal Cert.ReferenceGuIdeal.S8x4096x704 .bf16)
    (x : FVec Ideal Cert.ReferenceGuIdeal.S4096x1024 .f32) (g : FVec Ideal Cert.ReferenceGuIdeal.S1x1024 .f32)
    (b : Fin 8) (r : Fin 704) (l : Fin 1024) : refOut d x g (ix2 (row b r) l) =
      ∑ k : Fin 4096, d (ix3 b k r) * Weights.normS (fun e => x (ix2 k e)) (g (ix2 0 l)) l := by
  pointwise [refOut]
  refine Finset.sum_congr rfl fun k _ => ?_
  refine congrArg₂ (· * ·) (congrArg d ?_) (normed_at x g k l)
  have e₁ : (row b r).val / 704 = b.val := by show (704 * b.val + r.val) / 704 = b.val; omega
  have e₂ : (row b r).val % 704 = r.val := by show (704 * b.val + r.val) % 704 = r.val; omega
  funext a
  match a with
  | ⟨0, _⟩ => exact Fin.ext e₁
  | ⟨1, _⟩ => rfl
  | ⟨2, _⟩ => exact Fin.ext e₂

variable (m : (ℓ : Loc Cert.KernelGuIdeal.nD Cert.KernelGuIdeal.τ Cert.KernelGuIdeal.sig) → Buf (Elt Ideal) ℓ)
  (c : Dev Cert.KernelGuIdeal.nD)

/-- The kernel's result is what the reference computes. -/
theorem same : refOut (m ((c : Thread Cert.KernelGuIdeal.nD Cert.KernelGuIdeal.τ).loc Cert.KernelGuIdeal.main_arg0))
    (m ((c : Thread Cert.KernelGuIdeal.nD Cert.KernelGuIdeal.τ).loc Cert.KernelGuIdeal.main_arg1))
    (m ((c : Thread Cert.KernelGuIdeal.nD Cert.KernelGuIdeal.τ).loc Cert.KernelGuIdeal.main_arg2)) =
      ((Cert.KernelGuIdeal.Gen.dats m 0 c).arrAt 3 Cert.KernelGuIdeal.cfg0.N :
        Vec Ideal Cert.KernelGuIdeal.S5632x1024 .bf16) := by
  funext j
  have hj : (j 0).val < 5632 := (j 0).isLt
  obtain ⟨i, h, r, l, rfl⟩ : ∃ (i : Fin 4) (h : Fin 2) (r : Fin 704) (l : Fin 1024),
      j = ix2 (row (blk i h) r) l := by
    refine ⟨⟨(j 0).val / 1408, by omega⟩, ⟨(j 0).val / 704 % 2, by omega⟩, ⟨(j 0).val % 704, by omega⟩, j 1, ?_⟩
    funext a
    match a with
    | ⟨0, _⟩ =>
      exact Fin.ext (by
        show (j 0).val = 704 * (2 * ((j 0).val / 1408) + (j 0).val / 704 % 2) + (j 0).val % 704
        omega)
    | ⟨1, _⟩ => rfl
  refine (ref_at _ _ _ _ _ _).trans ?_
  rw [result_at m c i h r l]
  refine (Weights.halves _).symm.trans ?_
  refine congrArg₂ (· + ·) (Finset.sum_congr rfl fun k _ => ?_) rfl
  have e : (⟨k.val, by omega⟩ : Fin 4096) = tok 0 k := Fin.ext (by show k.val = 2048 * 0 + k.val; omega)
  rw [e]
  rfl

/-- The kernel and the reference end with equal results. -/
theorem equal_ends : Cert.algebraic_KernelGuIdeal_ReferenceGuIdeal
    (hKernelGuIdeal := Cert.KernelGuIdeal.Gen.facts)
    (hReferenceGuIdeal := Cert.ReferenceGuIdeal.Gen.facts) := by
  intro m g m' g' _ hagree
  refine ⟨_, Cert.KernelGuIdeal.Value.run_blocks m g, ?_⟩
  refine (θ_run Cert.ReferenceGuIdeal.defs _ _).mono (fun r h c => ?_)
    (Cert.ReferenceGuIdeal.Value.run (F := Ideal) m' g')
  refine ⟨(h c).1.trans ?_, (h c).2⟩
  rw [(hagree c).1, (hagree c).2.1, (hagree c).2.2]
  exact same m c

/-- The reference ends with its arguments unchanged. -/
theorem reference_ends : Cert.quiescent_ReferenceGuIdeal
    (hReferenceGuIdeal := Cert.ReferenceGuIdeal.Gen.facts) := fun m ρ _ =>
  (θ_run Cert.ReferenceGuIdeal.defs _ _).mono (fun r h => ⟨fun c => (h c).2,
      Idealize.ShloMosaic.sem_eq_zero_of_no_sems (by decide) r.2⟩)
    (Cert.ReferenceGuIdeal.Value.run (F := Ideal) m ρ)

end Cert.Gu
-- ==== Proof.Spec.lean ====
module

public import Idealize.ShloMosaic.PureOps.Ideal

@[expose] public section

noncomputable section

namespace Cert.Ret

open Idealize.ShloMosaic

/-! ## The gradient of the chunked retention, element by element over the extended reals -/

/-- A matrix of extended reals. -/
abbrev Mat (m n : Nat) := Fin m → Fin n → EReal

/-- The rotary rotation of a row. -/
def rotS (cs sn : Fin 128 → EReal) (x : Fin 256 → EReal) (d : Fin 256) : EReal :=
  if h : d.val < 128 then
    x d * cs ⟨d.val, h⟩ - x ⟨128 + d.val, by omega⟩ * sn ⟨d.val, h⟩
  else
    x ⟨d.val - 128, by omega⟩ * sn ⟨d.val - 128, by omega⟩ + x d * cs ⟨d.val - 128, by omega⟩

/-- The transposed rotation of a row. -/
def unrotS (cs sn : Fin 128 → EReal) (x : Fin 256 → EReal) (d : Fin 256) : EReal :=
  if h : d.val < 128 then
    x d * cs ⟨d.val, h⟩ + x ⟨128 + d.val, by omega⟩ * sn ⟨d.val, h⟩
  else
    x d * cs ⟨d.val - 128, by omega⟩ - x ⟨d.val - 128, by omega⟩ * sn ⟨d.val - 128, by omega⟩

/-- The gradient of the rotated queries of a chunk. -/
def gradQ (m : Mat 64 64) (qd k : Mat 64 256) (v o : Mat 64 512) (S : Mat 256 512) : Mat 64 256 :=
  fun t d => (∑ s, (∑ e, o t e * v s e) * m t s * k s d) + (∑ e, o t e * S d e) * qd t d

/-- The gradient of the rotated keys of a chunk. -/
def gradK (m : Mat 64 64) (kd q : Mat 64 256) (v o : Mat 64 512) (D : Mat 256 512) : Mat 64 256 :=
  fun s d => (∑ t, (∑ e, o t e * v s e) * m t s * q t d) + (∑ e, v s e * D d e) * kd s d

/-- The gradient of the values of a chunk. -/
def gradV (m : Mat 64 64) (kd q k : Mat 64 256) (o : Mat 64 512) (D : Mat 256 512) : Mat 64 512 :=
  fun s e => (∑ t, (∑ d, q t d * k s d) * m t s * o t e) + ∑ d, k s d * kd s d * D d e

/-- The gradient of the state before a chunk, from that after it. -/
def gradS (c : EReal) (qd q : Mat 64 256) (o : Mat 64 512) (D : Mat 256 512) : Mat 256 512 :=
  fun d e => D d e * c + ∑ t, q t d * qd t d * o t e

/-- The arrays the gradient is computed of: the projections `p`, the saved states `st`, the gradient
    `go` of the retention's output by chunk and head, and the tables of the rotation and of the decay. -/
structure Data where
  p : Mat 4096 6144
  st : Fin 64 → Fin 4 → Mat 256 512
  go : Fin 64 → Fin 4 → Mat 64 512
  cs : Mat 4096 128
  sn : Mat 4096 128
  m : Fin 4 → Mat 64 64
  qd : Fin 4 → Mat 64 256
  kd : Fin 4 → Mat 64 256
  dec : Fin 4 → EReal

/-- The row of the sequence that is row `t` of chunk `n`. -/
def row (n t : Fin 64) : Fin 4096 := ⟨64 * n.val + t.val, by omega⟩

/-- One sixteenth. -/
def sixteenthS : EReal := Ideal.ofBits .f32 0x3D800000#32

namespace Data
variable (X : Data) (n : Fin 64) (h : Fin 4)

/-- The rotated queries of a chunk. -/
def q : Mat 64 256 := fun t d =>
  rotS (X.cs (row n t)) (X.sn (row n t))
    (fun j => X.p (row n t) ⟨256 * h.val + j.val, by omega⟩) d
/-- The rotated and scaled keys of a chunk. -/
def k : Mat 64 256 := fun t d =>
  rotS (X.cs (row n t)) (X.sn (row n t))
    (fun j => X.p (row n t) ⟨1024 + 256 * h.val + j.val, by omega⟩) d * sixteenthS
/-- The values of a chunk. -/
def v : Mat 64 512 := fun t e => X.p (row n t) ⟨2048 + 512 * h.val + e.val, by omega⟩

/-- The gradient of a head's state after the first `64 - j` chunks. -/
def carried : ℕ → Fin 4 → Mat 256 512
  | 0, _ => fun _ _ => 0
  | j + 1, h => gradS (X.dec h) (X.qd h) (X.q ⟨63 - j, by omega⟩ h) (X.go ⟨63 - j, by omega⟩ h)
      (carried j h)

/-- The gradient of the rotated queries. -/
def dq : Mat 64 256 := gradQ (X.m h) (X.qd h) (X.k n h) (X.v n h) (X.go n h) (X.st n h)
/-- The gradient of the scaled keys. -/
def dk : Mat 64 256 :=
  gradK (X.m h) (X.kd h) (X.q n h) (X.v n h) (X.go n h) (X.carried (63 - n.val) h)
/-- The gradient of the values. -/
def dv : Mat 64 512 :=
  gradV (X.m h) (X.kd h) (X.q n h) (X.k n h) (X.go n h) (X.carried (63 - n.val) h)

/-- The gradient of the queries' projections. -/
def outQ : Mat 64 256 := fun t d =>
  unrotS (X.cs (row n t)) (X.sn (row n t)) (X.dq n h t) d
/-- The gradient of the keys' projections. -/
def outK : Mat 64 256 := fun t d =>
  unrotS (X.cs (row n t)) (X.sn (row n t)) (fun j => X.dk n h t j * sixteenthS) d

end Data

/-! ## The gate and the norm, one row at a time -/

/-- The logistic function. -/
def sigS (g : EReal) : EReal := Ideal.div 1 (1 + Ideal.exp (0 - g))

/-- The mean of a row. -/
def meanS (x : Fin 512 → EReal) : EReal :=
  Ideal.div (∑ e, x e) (Ideal.ofBits .f32 0x44000000#32)

/-- The reciprocal root mean square of a row. -/
def rstdS (o : Fin 512 → EReal) : EReal :=
  Ideal.rsqrt (meanS (fun e => o e * o e) + Ideal.ofBits .f32 0x358637BD#32)

/-- The gradient of the norm's output. -/
def dnormS (g dy : EReal) : EReal := dy * (g * sigS g)

/-- The gradient of the gate. -/
def dgateS (g o dy gn : Fin 512 → EReal) (e : Fin 512) : EReal :=
  dy e * (o e * rstdS o * gn e) * (sigS (g e) * (1 + g e * (1 - sigS (g e))))

/-- The part of the gradient of the scales that one row gives. -/
def dscaleS (g o dy : Fin 512 → EReal) (e : Fin 512) : EReal :=
  dnormS (g e) (dy e) * (o e * rstdS o)

/-- The gradient of the retention's output. -/
def doutS (g o dy gn : Fin 512 → EReal) (e : Fin 512) : EReal :=
  rstdS o * (dnormS (g e) (dy e) * gn e - o e * rstdS o *
    meanS (fun j => dnormS (g j) (dy j) * gn j * (o j * rstdS o)))

/-- The columns of a head in an array of 2048 columns. -/
def col (h : Fin 4) (e : Fin 512) : Fin 2048 := ⟨512 * h.val + e.val, by omega⟩
/-- The columns of a head's gate in the projections. -/
def gcol (h : Fin 4) (e : Fin 512) : Fin 6144 := ⟨4096 + 512 * h.val + e.val, by omega⟩

section
variable (p : Mat 4096 6144) (gn : Fin 2048 → EReal) (o dy : Mat 4096 2048)

/-- The gradient of the retention's output, of the arrays. -/
def goOf (n : Fin 64) (h : Fin 4) : Mat 64 512 := fun t e =>
  doutS (fun j => p (row n t) (gcol h j)) (fun j => o (row n t) (col h j))
    (fun j => dy (row n t) (col h j)) (fun j => gn (col h j)) e
/-- The gradient of the gate, of the arrays. -/
def gateOf (r : Fin 4096) (h : Fin 4) (e : Fin 512) : EReal :=
  dgateS (fun j => p r (gcol h j)) (fun j => o r (col h j)) (fun j => dy r (col h j))
    (fun j => gn (col h j)) e
/-- What one row gives of the gradient of the scales, of the arrays. -/
def scaleOf (r : Fin 4096) (h : Fin 4) (e : Fin 512) : EReal :=
  dscaleS (fun j => p r (gcol h j)) (fun j => o r (col h j)) (fun j => dy r (col h j)) e

end

end Cert.Ret
-- ==== Proof.Algebra.lean ====
module

public import proofs.«01_k».proof.Proof.Spec
public import Mathlib.Tactic.LinearCombination
public import Mathlib.Analysis.SpecialFunctions.Pow.Real

@[expose] public section

noncomputable section

namespace Cert.Ret

open Idealize.ShloMosaic

/-! ## The constants -/

/-- The constant 512. -/
theorem c512 : Ideal.ofBits .f32 0x44000000#32 = ((512 : ℝ) : EReal) := by
  simp [Ideal.ofBits, Ideal.ieee, -EReal.coe_mul]; norm_num
/-- The constant under the root. -/
theorem cEps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num
/-- The constant minus one half. -/
theorem cHalf : Ideal.ofBits .f32 0xBF000000#32 = ((-(1 / 2) : ℝ) : EReal) := by
  simp [Ideal.ofBits, Ideal.ieee, -EReal.coe_mul]; norm_num
/-- The constant 2. -/
theorem cTwo : Ideal.ofBits .f32 0x40000000#32 = ((2 : ℝ) : EReal) := by
  simp [Ideal.ofBits, Ideal.ieee, -EReal.coe_mul]; norm_num
/-- The constant minus 5. -/
theorem cFive : Ideal.ofBits .f32 0xC0A00000#32 = ((-5 : ℝ) : EReal) := by
  simp [Ideal.ofBits, Ideal.ieee, -EReal.coe_mul]; norm_num
/-- The constant 64. -/
theorem c64 : Ideal.ofBits .f32 0x42800000#32 = ((64 : ℝ) : EReal) := by
  simp [Ideal.ofBits, Ideal.ieee, -EReal.coe_mul]; norm_num

/-! ## Sums and quotients of reals -/

/-- A sum of reals, taken as extended reals. -/
theorem coe_sum {n : ℕ} (f : Fin n → ℝ) : ∑ i, ((f i : ℝ) : EReal) = ((∑ i, f i : ℝ) : EReal) := by
  induction n with
  | zero => simp
  | succ n ih => rw [Fin.sum_univ_succ, Fin.sum_univ_succ, ih, EReal.coe_add]

/-- The quotient of two reals. -/
theorem div_real (x y : ℝ) (hy : y ≠ 0) : Ideal.div (x : EReal) (y : EReal) = ((x / y : ℝ) : EReal) := by
  rw [Ideal.div_coe hy, ← EReal.coe_mul]
  congr 1
  ring

/-- The logistic function of a real is a real. -/
theorem sig_real (x : ℝ) : ∃ s : ℝ, sigS (x : EReal) = (s : EReal) := by
  refine ⟨1 / (1 + Real.exp (0 - x)), ?_⟩
  unfold sigS
  rw [← EReal.coe_zero, ← EReal.coe_sub, Ideal.exp_coe, ← EReal.coe_one, ← EReal.coe_add,
    div_real _ _ (by positivity)]

/-- Minus a number is zero less the number. -/
theorem sigS_neg (x : EReal) : Ideal.div 1 (1 + Ideal.exp (-x)) = sigS x := by
  unfold sigS
  rw [sub_eq_add_neg, zero_add]

/-! ## The gradient of the norm, as the reference forms it -/

/-- The gradient of the normalised output times the scales. -/
def upR (g o dy gn : Fin 512 → EReal) (e : Fin 512) : EReal := g e * sigS (g e) * dy e * gn e
/-- The mean square of a row, and the constant. -/
def msR (o : Fin 512 → EReal) : EReal :=
  Ideal.div (∑ e, o e * o e) (Ideal.ofBits .f32 0x44000000#32) + Ideal.ofBits .f32 0x358637BD#32
/-- The part through the root mean square. -/
def tailR (g o dy gn : Fin 512 → EReal) : EReal :=
  Ideal.div ((∑ e, o e * upR g o dy gn e) *
    (Ideal.ofBits .f32 0xBF000000#32 * Ideal.div (Ideal.rsqrt (msR o)) (msR o)))
    (Ideal.ofBits .f32 0x44000000#32)
/-- The gradient of the retention's output. -/
def doutR (g o dy gn : Fin 512 → EReal) (e : Fin 512) : EReal :=
  upR g o dy gn e * Ideal.rsqrt (msR o) + o e * tailR g o dy gn + tailR g o dy gn * o e
/-- The gradient of the gate. -/
def dgateR (g o dy gn : Fin 512 → EReal) (e : Fin 512) : EReal :=
  dy e * (o e * Ideal.rsqrt (msR o) * gn e) * sigS (g e) +
    g e * (dy e * (o e * Ideal.rsqrt (msR o) * gn e)) * (sigS (g e) * (1 - sigS (g e)))

/-- Every number of a row is a real. -/
def Reals (x : Fin 512 → EReal) : Prop := ∃ r : Fin 512 → ℝ, x = fun e => (r e : EReal)

/-- The mean square of a row of reals is a positive real, with a reciprocal root. -/
theorem ms_real (o : Fin 512 → ℝ) : ∃ m s : ℝ, 0 < m ∧ s * s * m = 1 ∧
    msR (fun e => (o e : EReal)) = (m : EReal) ∧ Ideal.rsqrt (m : EReal) = (s : EReal) := by
  obtain ⟨ε, hε, he⟩ := cEps
  have hs : 0 ≤ ∑ e, o e * o e := Finset.sum_nonneg fun e _ => mul_self_nonneg _
  have hm : 0 < (∑ e, o e * o e) / 512 + ε := by positivity
  refine ⟨(∑ e, o e * o e) / 512 + ε, (Real.sqrt ((∑ e, o e * o e) / 512 + ε))⁻¹, hm, ?_, ?_, ?_⟩
  · rw [← mul_inv, Real.mul_self_sqrt hm.le, inv_mul_cancel₀ hm.ne']
  · unfold msR
    simp only [← EReal.coe_mul]
    rw [coe_sum, c512, he, div_real _ _ (by norm_num), ← EReal.coe_add]
  · rw [Ideal.rsqrt_coe, if_neg hm.le.not_gt, if_neg hm.ne']

/-- The two forms of the gradient of the retention's output, of reals. -/
theorem dout_eq {g o dy gn : Fin 512 → EReal} (hg : Reals g) (ho : Reals o) (hd : Reals dy)
    (hn : Reals gn) (e : Fin 512) : doutR g o dy gn e = doutS g o dy gn e := by
  obtain ⟨g, rfl⟩ := hg
  obtain ⟨o, rfl⟩ := ho
  obtain ⟨d, rfl⟩ := hd
  obtain ⟨n, rfl⟩ := hn
  obtain ⟨m, s, hm, hs, e1, e2⟩ := ms_real o
  choose σ hσ using sig_real
  have hr : rstdS (fun e => (o e : EReal)) = (s : EReal) := by
    rw [← e2, ← e1]
    rfl
  unfold doutR doutS tailR dnormS meanS upR
  simp only [hr, e1, e2, hσ, c512, cHalf, div_real _ _ hm.ne', ← EReal.coe_mul, coe_sum,
    div_real _ _ (show (512 : ℝ) ≠ 0 by norm_num), ← EReal.coe_add, ← EReal.coe_sub]
  congr 1
  have hsum : ∑ j, d j * (g j * σ (g j)) * n j * (o j * s) =
      s * ∑ j, o j * (g j * σ (g j) * d j * n j) := by
    rw [Finset.mul_sum]
    exact Finset.sum_congr rfl fun j _ => by ring
  rw [hsum]
  generalize ∑ j, o j * (g j * σ (g j) * d j * n j) = A
  have hq : s / m = s * s * s := by
    rw [div_eq_iff hm.ne']
    linear_combination (-s) * hs
  rw [hq]
  ring

/-- The two forms of the gradient of the gate, of reals. -/
theorem dgate_eq {g o dy gn : Fin 512 → EReal} (hg : Reals g) (ho : Reals o) (hd : Reals dy)
    (hn : Reals gn) (e : Fin 512) : dgateR g o dy gn e = dgateS g o dy gn e := by
  obtain ⟨g, rfl⟩ := hg
  obtain ⟨o, rfl⟩ := ho
  obtain ⟨d, rfl⟩ := hd
  obtain ⟨n, rfl⟩ := hn
  obtain ⟨m, s, hm, hs, e1, e2⟩ := ms_real o
  choose σ hσ using sig_real
  have hr : rstdS (fun e => (o e : EReal)) = (s : EReal) := by
    rw [← e2, ← e1]
    rfl
  unfold dgateR dgateS
  simp only [hr, e1, e2, hσ, ← EReal.coe_one, ← EReal.coe_mul, ← EReal.coe_add, ← EReal.coe_sub]
  congr 1
  ring

/-! ## The decay of a state over a chunk -/

/-- The logarithm of a head's decay over one row. -/
def lgS (h : Fin 4) : EReal :=
  Ideal.log (1 - Ideal.pow (Ideal.ofBits FTy.f32 0x40000000#32)
    (Ideal.ofBits FTy.f32 0xC0A00000#32 - FloatOps.sitofp (F := Ideal) FTy.f32 (BitVec.ofNat 32 h.val)))

/-- A row's number. -/
def numS {n : Nat} (t : Fin n) : EReal := FloatOps.sitofp (F := Ideal) FTy.f32 (BitVec.ofNat 32 t.val)
/-- The decay between two rows of a chunk. -/
def maskS (h : Fin 4) : Mat 64 64 := fun t s =>
  Ideal.exp (lgS h * FloatOps.absf (F := Ideal) (φ := .f32) (numS t - numS s))
/-- The decay since the chunk before. -/
def qdS (h : Fin 4) : Mat 64 256 := fun t _ => Ideal.exp (lgS h * (numS t + 1))
/-- The decay to the chunk after. -/
def kdS (h : Fin 4) : Mat 64 256 := fun t _ =>
  Ideal.exp (lgS h * (Ideal.ofBits FTy.f32 0x427C0000#32 - numS t))
/-- The decay over a chunk. -/
def decS (h : Fin 4) : EReal := Ideal.exp (lgS h * Ideal.ofBits FTy.f32 0x42800000#32)
/-- The angle of a row and a column of the rotation. -/
def angleS (r : Fin 4096) (d : Fin 128) : EReal :=
  numS r * Ideal.pow (Ideal.ofBits FTy.f32 0x461C4000#32)
    (Ideal.div (-numS d) (Ideal.ofBits FTy.f32 0x43000000#32))

/-- A head's decay over one row. -/
def rate (h : Fin 4) : ℝ := 1 - 1 / 2 ^ (5 + h.val)

theorem rate_pos (h : Fin 4) : 0 < rate h := by
  unfold rate
  fin_cases h <;> norm_num

/-- The logarithm of a head's decay is that of a real. -/
theorem lg_real (h : Fin 4) : lgS h = ((Real.log (rate h) : ℝ) : EReal) := by
  have e : FloatOps.sitofp (F := Ideal) FTy.f32 (BitVec.ofNat 32 h.val) = ((h.val : ℝ) : EReal) := by
    show (((BitVec.ofNat 32 h.val).toInt : ℝ) : EReal) = _
    congr 1
    fin_cases h <;> simp
  have e' : Real.rpow 2 (-5 - (h.val : ℝ)) = 1 / 2 ^ (5 + h.val) := by
    show (2 : ℝ) ^ (-5 - (h.val : ℝ)) = _
    rw [show (-5 - (h.val : ℝ)) = -((5 + h.val : ℕ) : ℝ) by push_cast; ring,
      Real.rpow_neg (by norm_num), Real.rpow_natCast, one_div]
  unfold lgS
  rw [e, cTwo, cFive, ← EReal.coe_sub, Ideal.pow_coe_coe, e', ← EReal.coe_one, ← EReal.coe_sub]
  change Ideal.log ((rate h : ℝ) : EReal) = _
  rw [Ideal.log_coe, if_neg (rate_pos h).not_ge]

/-- The decay over a chunk is the 64th power of that over one row. -/
theorem dec_real (h : Fin 4) : decS h = ((rate h ^ 64 : ℝ) : EReal) := by
  unfold decS
  rw [lg_real, c64, ← EReal.coe_mul, Ideal.exp_coe]
  congr 1
  rw [mul_comm, show (64 : ℝ) = ((64 : ℕ) : ℝ) by norm_num, Real.exp_nat_mul, Real.exp_log (rate_pos h)]

end Cert.Ret
-- ==== Proof.Norm.lean ====
module

public import proofs.«01_k».proof.Proof.Algebra
public import proofs.«01_k».proof.Proof.Weights

@[expose] public section

noncomputable section

namespace Cert.Norm

open Idealize.ShloMosaic

/-! ## The gradient of a row's norm, as the kernel and as the reference form it -/

/-- The constant 1024. -/
theorem c1024 : Ideal.ofBits .f32 0x44800000#32 = ((1024 : ℝ) : EReal) := by
  simp [Ideal.ofBits, Ideal.ieee, -EReal.coe_mul]; norm_num

/-- The mean square of a row, and the constant. -/
def ms (x : Fin 1024 → EReal) : EReal :=
  Ideal.div (∑ e, x e * x e) (Ideal.ofBits .f32 0x44800000#32) + Ideal.ofBits .f32 0x358637BD#32
/-- The reciprocal root mean square of a row. -/
def rs (x : Fin 1024 → EReal) : EReal := Ideal.rsqrt (ms x)

/-- The gradient of a row, as the kernel forms it, of the gradient `u` of the normalised row. -/
def dxK (x u : Fin 1024 → EReal) (l : Fin 1024) : EReal :=
  rs x * (u l - x l * rs x * Ideal.div (∑ e, u e * (x e * rs x)) (Ideal.ofBits .f32 0x44800000#32))

/-- The part through the root mean square. -/
def tail (x u : Fin 1024 → EReal) : EReal :=
  Ideal.div ((∑ e, x e * u e) * (Ideal.ofBits .f32 0xBF000000#32 * Ideal.div (rs x) (ms x)))
    (Ideal.ofBits .f32 0x44800000#32)
/-- The gradient of a row, as the reference forms it. -/
def dxR (x u : Fin 1024 → EReal) (l : Fin 1024) : EReal :=
  u l * rs x + x l * tail x u + tail x u * x l

/-- A sum of squares with an infinite one is infinite. -/
theorem sum_top (x : Fin 1024 → EReal) (j : Fin 1024) (h : x j * x j = ⊤) : ∑ e, x e * x e = ⊤ := by
  have h0 : ∀ e, 0 ≤ x e * x e := fun e => by
    induction x e with
    | bot => simp
    | top => simp
    | coe r => rw [← EReal.coe_mul]; exact_mod_cast mul_self_nonneg r
  exact top_le_iff.mp (h ▸ Finset.single_le_sum (fun e _ => h0 e) (Finset.mem_univ j))

/-- A row of reals, or a row whose reciprocal root mean square is zero. -/
theorem cases_row (x : Fin 1024 → EReal) :
    (∃ r : Fin 1024 → ℝ, x = fun e => (r e : EReal)) ∨ (ms x = ⊤ ∧ rs x = 0) := by
  by_cases h : ∀ e, ∃ r : ℝ, x e = (r : EReal)
  · choose r hr using h
    exact .inl ⟨r, funext hr⟩
  · push Not at h
    obtain ⟨j, hj⟩ := h
    obtain ⟨ε, hε, he⟩ := Cert.Ret.cEps
    have ht : x j * x j = ⊤ := by
      generalize x j = z at hj
      induction z with
      | bot => simp
      | top => simp
      | coe r => exact absurd rfl (hj r)
    have hm : ms x = ⊤ := by
      unfold ms
      rw [sum_top x j ht, c1024, he, Ideal.div_coe (by norm_num), EReal.top_mul_coe_of_pos (by norm_num)]
      rfl
    refine .inr ⟨hm, ?_⟩
    unfold rs
    rw [hm]
    rfl

/-- The mean square of a row of reals is a positive real, with a reciprocal root. -/
theorem ms_real (o : Fin 1024 → ℝ) : ∃ m s : ℝ, 0 < m ∧ 0 < s ∧ s * s * m = 1 ∧
    ms (fun e => (o e : EReal)) = (m : EReal) ∧ rs (fun e => (o e : EReal)) = (s : EReal) := by
  obtain ⟨ε, hε, he⟩ := Cert.Ret.cEps
  have hs : 0 ≤ ∑ e, o e * o e := Finset.sum_nonneg fun e _ => mul_self_nonneg _
  have hm : 0 < (∑ e, o e * o e) / 1024 + ε := by positivity
  have e1 : ms (fun e => (o e : EReal)) = (((∑ e, o e * o e) / 1024 + ε : ℝ) : EReal) := by
    unfold ms
    simp only [← EReal.coe_mul]
    rw [Cert.Ret.coe_sum, c1024, he, Cert.Ret.div_real _ _ (by norm_num), ← EReal.coe_add]
  refine ⟨(∑ e, o e * o e) / 1024 + ε, (Real.sqrt ((∑ e, o e * o e) / 1024 + ε))⁻¹, hm, by positivity, ?_, e1, ?_⟩
  · rw [← mul_inv, Real.mul_self_sqrt hm.le, inv_mul_cancel₀ hm.ne']
  · unfold rs
    rw [e1, Ideal.rsqrt_coe, if_neg hm.le.not_gt, if_neg hm.ne']

/-- A positive factor comes out of a sum. -/
theorem mul_sum (s : ℝ) (hs : 0 ≤ s) {n : ℕ} (f : Fin n → EReal) : ∑ e, f e * (s : EReal) = (∑ e, f e) * s := by
  induction n with
  | zero => simp
  | succ n ih =>
    rw [Fin.sum_univ_succ, Fin.sum_univ_succ, ih, mul_comm (_ + _) (s : EReal),
      EReal.left_distrib_of_nonneg_of_ne_top (by exact_mod_cast hs) (EReal.coe_ne_top s), mul_comm (s : EReal),
      mul_comm (s : EReal)]

/-- A number twice. -/
theorem twice (a : EReal) : a + a = a * ((2 : ℝ) : EReal) := by
  induction a with
  | bot => rw [EReal.bot_mul_coe_of_pos (by norm_num)]; rfl
  | top => rw [EReal.top_mul_coe_of_pos (by norm_num)]; rfl
  | coe r => rw [← EReal.coe_add, ← EReal.coe_mul]; congr 1; ring

/-- The two forms of the gradient of a row. -/
theorem dx_eq (x u : Fin 1024 → EReal) (l : Fin 1024) : dxR x u l = dxK x u l := by
  rcases cases_row x with ⟨o, rfl⟩ | ⟨hm, hr⟩
  · obtain ⟨m, s, hm, hs, e0, e1, e2⟩ := ms_real o
    unfold dxR dxK tail
    rw [e1, e2, c1024, Cert.Ret.cHalf, Cert.Ret.div_real _ _ hm.ne', Ideal.div_coe (by norm_num),
      Ideal.div_coe (by norm_num)]
    have hsum : ∑ e, u e * ((o e : EReal) * (s : EReal)) = (∑ e, (o e : EReal) * u e) * s := by
      rw [← mul_sum s hs.le]
      exact Finset.sum_congr rfl fun e _ => by rw [← mul_assoc, mul_comm (u e)]
    rw [hsum]
    generalize ∑ e, (o e : EReal) * u e = A
    have hq : s / m = s * s * s := by
      rw [div_eq_iff hm.ne']
      linear_combination (-s) * e0
    rw [hq, sub_eq_add_neg, EReal.left_distrib_of_nonneg_of_ne_top (by exact_mod_cast hs.le) (EReal.coe_ne_top s),
      mul_comm (u l), add_assoc]
    congr 1
    rw [mul_comm _ (o l : EReal), twice]
    rw [show ∀ a b c d e : EReal, a * -(b * c * (A * d * e)) = A * -(a * b * c * d * e) from fun a b c d e => by
      rw [mul_neg, mul_neg]
      congr 1
      ac_rfl]
    rw [show ∀ a b c d e : EReal, a * (A * (b * c) * d) * e = A * (a * b * c * d * e) from fun a b c d e => by ac_rfl]
    simp only [← EReal.coe_mul, ← EReal.coe_neg]
    congr 2
    ring
  · unfold dxR dxK tail
    have hz : Ideal.div 0 ⊤ = 0 := by simp [Ideal.div]
    rw [hr, hm, hz, c1024, Ideal.div_coe (by norm_num)]
    simp only [mul_zero, zero_mul, add_zero]

/-- A sum, by blocks. -/
theorem blocks (a b n : ℕ) (h : n = a * b) (f : Fin n → EReal) :
    ∑ i : Fin a, ∑ j : Fin b, f ⟨b * i.val + j.val, by
      subst h
      have h1 : i.val * b + b ≤ a * b := by rw [← Nat.succ_mul]; exact Nat.mul_le_mul_right b i.isLt
      have h2 := j.isLt
      rw [Nat.mul_comm b]
      omega⟩ = ∑ k, f k := by
  subst h
  rw [← Fintype.sum_prod_type' (f := fun (i : Fin a) (j : Fin b) => f ⟨b * i.val + j.val, _⟩)]
  refine Fintype.sum_equiv (finProdFinEquiv (m := a) (n := b)) _ _ fun x => congrArg f (Fin.ext ?_)
  show b * x.1.val + x.2.val = x.2.val + b * x.1.val
  omega

end Cert.Norm
-- ==== Proof.Dh.lean ====
module

public import proofs.«01_k».proof.Proof.Norm
public import proofs.«01_k».proof.Proof.Gen.KernelDhIdeal.Value

@[expose] public section

set_option maxRecDepth 16384
set_option maxHeartbeats 1000000

noncomputable section

namespace Cert.Dh

open Cert.KernelDhIdeal Cert.KernelDhIdeal.Gen Idealize.ShloMosaic Idealize.ShloMosaic.TcCoe
  Idealize.SL.Sem

/-! ## What the kernel stores at a point, entry by entry -/

section
variable {F : FTy → Type} [FloatOps F]

/-- The product of one block. -/
def dot1 (v : Vec F S1x512x704 .bf16) (w : Vec F S704x1024 .bf16) : FVec F S512x1024 .f32 :=
  matmul dot_S512x704_S704x1024_S512x1024_1_0_0_1_n_n none
    (shapeCast S512x704 v shapeCasts_S1x512x704_S512x704 : FVec F S512x704 .bf16) w
    (constant S512x1024 .f32 0x00000000#32)

/-- The gradient of the normalised rows: the sum over the blocks. -/
def dhOf (V : Fin 8 → Vec F S1x512x704 .bf16) (W : Fin 8 → Vec F S704x1024 .bf16) : FVec F S512x1024 .f32 :=
  addf (addf (addf (addf (addf (addf (addf (dot1 (V 0) (W 0)) (dot1 (V 1) (W 1))) (dot1 (V 2) (W 2))) (dot1 (V 3) (W 3)))
    (dot1 (V 4) (W 4))) (dot1 (V 5) (W 5))) (dot1 (V 6) (W 6))) (dot1 (V 7) (W 7))

/-- The first group of its rows. -/
def top (d : FVec F S512x1024 .f32) : FVec F S256x1024 .f32 :=
  extractStridedSlice S256x1024 ![0, 0] d slices_S512x1024_o0_0_S256x1024
/-- The second. -/
def low (d : FVec F S512x1024 .f32) : FVec F S256x1024 .f32 :=
  extractStridedSlice S256x1024 ![256, 0] d slices_S512x1024_o256_0_S256x1024

/-- The reciprocal root mean squares of a group of rows. -/
def rsOf (x : FVec F S256x1024 .f32) : FVec F S256x1 .f32 :=
  rsqrt (addf (divf
    (shapeCast S256x1 (multiReduction .add [1] S256 (mulf x x) 0x00000000#32 reduces_S256x1024_S256 (.inl rfl) rfl)
      shapeCasts_S256_S256x1) (broadcast S256x1 (Scalar.ofBits .f32 0x44800000#32)))
    (broadcast S256x1 (Scalar.ofBits .f32 0x358637BD#32)))
/-- The rows, normalised without the scales. -/
def xh (x : FVec F S256x1024 .f32) : FVec F S256x1024 .f32 :=
  mulf x (broadcastTo S256x1024 (rsOf x) broadcasts_S256x1_S256x1024)
/-- The gradient, scaled. -/
def dyg (d : FVec F S256x1024 .f32) (g : FVec F S1x1024 .f32) : FVec F S256x1024 .f32 :=
  mulf d (broadcastTo S256x1024 g broadcasts_S1x1024_S256x1024)

/-- The gradient of a group of rows. -/
def dxOf (d x : FVec F S256x1024 .f32) (g : FVec F S1x1024 .f32) (r : FVec F S256x1024 .f32) : FVec F S256x1024 .f32 :=
  addf r (mulf (broadcastTo S256x1024 (rsOf x) broadcasts_S256x1_S256x1024) (subf (dyg d g) (mulf (xh x)
    (broadcastTo S256x1024 (divf (shapeCast S256x1 (multiReduction .add [1] S256 (mulf (dyg d g) (xh x)) 0x00000000#32
      reduces_S256x1024_S256 (.inl rfl) rfl) shapeCasts_S256_S256x1)
      (broadcast S256x1 (Scalar.ofBits .f32 0x44800000#32))) broadcasts_S256x1_S256x1024))))

/-- The gradient of the scales, of one group. -/
def dg1 (d x : FVec F S256x1024 .f32) : FVec F S1x1024 .f32 :=
  shapeCast S1x1024 (multiReduction .add [0] S1024 (mulf d (xh x)) 0x00000000#32 reduces_S256x1024_S1024 (.inl rfl) rfl)
    shapeCasts_S1024_S1x1024
/-- The gradient of the scales, of a point. -/
def dgOf (d : FVec F S512x1024 .f32) (x y : FVec F S256x1024 .f32) : FVec F S1x1024 .f32 :=
  addf (dg1 (top d) x) (dg1 (low d) y)
/-- The gradient of the scales, added to what the points before left. -/
def accOf (s : Vec F S1x1024 .f32) (d : FVec F S1x1024 .f32) : FVec F S1x1024 .f32 :=
  addf (shapeCast S1x1024 s shapeCasts_S1x1024_S1x1024 : FVec F S1x1024 .f32) d

/-- The rectangle of a block of the columns. -/
abbrev aRect (b : Fin 8) : Rect S8x512x704 :=
  Rect.unit (s := S8x512x704) ![b.val, 0, 0] S1x512x704.size
    (match b with
      | ⟨0, _⟩ => inb_S8x512x704_S1x512x704_0_0_0
      | ⟨1, _⟩ => inb_S8x512x704_S1x512x704_1_0_0
      | ⟨2, _⟩ => inb_S8x512x704_S1x512x704_2_0_0
      | ⟨3, _⟩ => inb_S8x512x704_S1x512x704_3_0_0
      | ⟨4, _⟩ => inb_S8x512x704_S1x512x704_4_0_0
      | ⟨5, _⟩ => inb_S8x512x704_S1x512x704_5_0_0
      | ⟨6, _⟩ => inb_S8x512x704_S1x512x704_6_0_0
      | ⟨7, _⟩ => inb_S8x512x704_S1x512x704_7_0_0)

/-- The rectangle of a block of the weights. -/
abbrev wRect (b : Fin 8) : Rect S5632x1024 :=
  Rect.unit (s := S5632x1024) ![704 * b.val, 0] S704x1024.size
    (match b with
      | ⟨0, _⟩ => inb_S5632x1024_S704x1024_0_0
      | ⟨1, _⟩ => inb_S5632x1024_S704x1024_704_0
      | ⟨2, _⟩ => inb_S5632x1024_S704x1024_1408_0
      | ⟨3, _⟩ => inb_S5632x1024_S704x1024_2112_0
      | ⟨4, _⟩ => inb_S5632x1024_S704x1024_2816_0
      | ⟨5, _⟩ => inb_S5632x1024_S704x1024_3520_0
      | ⟨6, _⟩ => inb_S5632x1024_S704x1024_4224_0
      | ⟨7, _⟩ => inb_S5632x1024_S704x1024_4928_0)

/-- The rectangle of the first group of rows. -/
abbrev topRect : Rect S512x1024 := Rect.unit (s := S512x1024) ![0, 0] S256x1024.size inb_S512x1024_S256x1024_0_0
/-- The rectangle of the second. -/
abbrev lowRect : Rect S512x1024 := Rect.unit (s := S512x1024) ![256, 0] S256x1024.size inb_S512x1024_S256x1024_256_0

/-- The rectangle of the scales. -/
abbrev gRect : Rect S1x1024 := Rect.unit (s := S1x1024) ![0, 0] S1x1024.size inb_S1x1024_S1x1024_0_0

variable (c : Dev nD) (i : grid0.Coords) (arg3 : Memref sig .tc .vmem S8x512x704 .bf16) (harg3 : arg3.IsWhole) (arg4 : Memref sig .tc .vmem S5632x1024 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x512x1024 .f32) (harg10 : arg10.IsWhole)
  (x0 : Vec F S8x512x704 .bf16) (x1 : Vec F S5632x1024 .bf16) (x2 : Vec F S512x1024 .f32) (x3 : Vec F S1x1024 .f32) (x4 : Vec F S512x1024 .f32) (xo6 : Vec F S1x1024 .f32)

/-- The gradient of the normalised rows of a point, from its loads. -/
abbrev ld : FVec F S512x1024 .f32 :=
  dhOf (fun b => View.readAt (Elt F) arg3.view (aRect b).toLoadRect (harg3.unread x0))
    (fun b => View.readAt (Elt F) arg4.view (wRect b).toLoadRect (harg4.unread x1))

/-- The pieces of the gradient of the rows that a point stores, from its loads. -/
abbrev dxPieces : List (View.Piece (Elt F) S512x1024 .f32) :=
      [⟨lowRect, dxOf (low (ld arg3 harg3 arg4 harg4 x0 x1))
          (View.readAt (Elt F) arg5.view lowRect.toLoadRect (harg5.unread x2))
          (View.readAt (Elt F) arg6.view gRect.toLoadRect (harg6.unread x3))
          (View.readAt (Elt F) arg7.view lowRect.toLoadRect (harg7.unread x4))⟩,
       ⟨topRect, dxOf (top (ld arg3 harg3 arg4 harg4 x0 x1))
          (View.readAt (Elt F) arg5.view topRect.toLoadRect (harg5.unread x2))
          (View.readAt (Elt F) arg6.view gRect.toLoadRect (harg6.unread x3))
          (View.readAt (Elt F) arg7.view topRect.toLoadRect (harg7.unread x4))⟩]

/-- What the first point stores in the gradient of the rows. -/
theorem stores_dx_first (hc0 : cond0_0 i) (hc1 : ¬cond0_1 i) :
    (kernelRun0_A c i arg3 harg3 arg4 harg4 arg5 harg5 arg6 harg6 arg7 harg7 arg8 harg8 arg9 harg9 arg10 harg10 hc0 hc1 x0 x1 x2 x3 x4).1 =
      dxPieces arg3 harg3 arg4 harg4 arg5 harg5 arg6 harg6 arg7 harg7 x0 x1 x2 x3 x4 := rfl

/-- What a later point stores there. -/
theorem stores_dx_later (hc0 : ¬cond0_0 i) (hc1 : cond0_1 i) :
    (kernelRun0_B c i arg3 harg3 arg4 harg4 arg5 harg5 arg6 harg6 arg7 harg7 arg8 harg8 arg9 harg9 arg10 harg10 hc0 hc1 x0 x1 x2 x3 x4 xo6).1 =
      dxPieces arg3 harg3 arg4 harg4 arg5 harg5 arg6 harg6 arg7 harg7 x0 x1 x2 x3 x4 := rfl

/-- What the first point stores in the gradient of the scales. -/
theorem stores_dg_first (hc0 : cond0_0 i) (hc1 : ¬cond0_1 i) :
    (kernelRun0_A c i arg3 harg3 arg4 harg4 arg5 harg5 arg6 harg6 arg7 harg7 arg8 harg8 arg9 harg9 arg10 harg10 hc0 hc1 x0 x1 x2 x3 x4).2.1 =
      [⟨gRect, dgOf (ld arg3 harg3 arg4 harg4 x0 x1)
          (View.readAt (Elt F) arg5.view topRect.toLoadRect (harg5.unread x2))
          (View.readAt (Elt F) arg5.view lowRect.toLoadRect (harg5.unread x2))⟩] := rfl

/-- What a later point stores there. -/
theorem stores_dg_later (hc0 : ¬cond0_0 i) (hc1 : cond0_1 i) :
    (kernelRun0_B c i arg3 harg3 arg4 harg4 arg5 harg5 arg6 harg6 arg7 harg7 arg8 harg8 arg9 harg9 arg10 harg10 hc0 hc1 x0 x1 x2 x3 x4 xo6).2.1 =
      [⟨gRect, accOf (View.readAt (Elt F) arg9.view gRect.toLoadRect (harg9.unread xo6))
          (dgOf (ld arg3 harg3 arg4 harg4 x0 x1)
          (View.readAt (Elt F) arg5.view topRect.toLoadRect (harg5.unread x2))
          (View.readAt (Elt F) arg5.view lowRect.toLoadRect (harg5.unread x2)))⟩] := rfl

end

/-- A row of the weights. -/
def wrow (b : Fin 8) (r : Fin 704) : Fin 5632 := ⟨704 * b.val + r.val, by omega⟩

/-- A load of a block of the columns at an index. -/
theorem a_at (x0 : Vec Ideal S8x512x704 .bf16) (b : Fin 8) (k : Fin 512) (r : Fin 704) :
    x0 ((aRect b).toLoadRect.idx (ix3 0 k r)) = x0 (ix3 b k r) := by
  refine congrArg x0 ?_
  funext a
  match a with
  | ⟨0, _⟩ | ⟨1, _⟩ | ⟨2, _⟩ => exact Fin.ext (by simp [Rect.idx_unit_val, LoadRect.idx, Rect.toLoadRect, Rect.unit, ix3])

/-- A load of a block of the weights at an index. -/
theorem w_at (x1 : Vec Ideal S5632x1024 .bf16) (b : Fin 8) (r : Fin 704) (l : Fin 1024) :
    x1 ((wRect b).toLoadRect.idx (ix2 r l)) = x1 (ix2 (wrow b r) l) := by
  refine congrArg x1 ?_
  funext a
  match a with
  | ⟨0, _⟩ | ⟨1, _⟩ => exact Fin.ext (by simp [Rect.idx_unit_val, LoadRect.idx, Rect.toLoadRect, Rect.unit, ix2, wrow])

/-- The product of one block at an index. -/
theorem dot1_at (v : FVec Ideal S1x512x704 .bf16) (w : FVec Ideal S704x1024 .bf16) (t : Fin 512) (l : Fin 1024) :
    dot1 (F := Ideal) v w (ix2 t l) = ∑ r : Fin 704, v (ix3 0 t r) * w (ix2 r l) := by
  pointwise [dot1]

/-- The gradient of the normalised rows, of the blocks of a point. -/
def dhE (x0 : Vec Ideal S8x512x704 .bf16) (x1 : Vec Ideal S5632x1024 .bf16) (t : Fin 512) (l : Fin 1024) : EReal :=
  ∑ b : Fin 8, ∑ r : Fin 704, x0 (ix3 b t r) * x1 (ix2 (wrow b r) l)

theorem dot1_loaded (x0 : Vec Ideal S8x512x704 .bf16) (x1 : Vec Ideal S5632x1024 .bf16) (b : Fin 8) (t : Fin 512)
    (l : Fin 1024) : dot1 (F := Ideal) (fun j => x0 ((aRect b).toLoadRect.idx j)) (fun j => x1 ((wRect b).toLoadRect.idx j)) (ix2 t l) =
      ∑ r : Fin 704, x0 (ix3 b t r) * x1 (ix2 (wrow b r) l) :=
  (dot1_at _ _ t l).trans (Finset.sum_congr rfl fun r _ => congrArg₂ (· * ·) (a_at x0 b t r) (w_at x1 b r l))

section
/-- The sum over the blocks at an index. -/
theorem dhOf_at (x0 : Vec Ideal S8x512x704 .bf16) (x1 : Vec Ideal S5632x1024 .bf16) (t : Fin 512) (l : Fin 1024) :
    dhOf (F := Ideal) (fun b j => x0 ((aRect b).toLoadRect.idx j)) (fun b j => x1 ((wRect b).toLoadRect.idx j)) (ix2 t l) =
      dhE x0 x1 t l := by
  unfold dhE
  rw [Fin.sum_univ_eight]
  exact congrArg₂ (· + ·) (congrArg₂ (· + ·) (congrArg₂ (· + ·) (congrArg₂ (· + ·) (congrArg₂ (· + ·)
    (congrArg₂ (· + ·) (congrArg₂ (· + ·) (dot1_loaded x0 x1 0 t l) (dot1_loaded x0 x1 1 t l))
      (dot1_loaded x0 x1 2 t l)) (dot1_loaded x0 x1 3 t l)) (dot1_loaded x0 x1 4 t l)) (dot1_loaded x0 x1 5 t l))
    (dot1_loaded x0 x1 6 t l)) (dot1_loaded x0 x1 7 t l)

/-- A row of a group. -/
def rowIn (q : Fin 2) (t : Fin 256) : Fin 512 := ⟨256 * q.val + t.val, by omega⟩

theorem top_at (d : FVec Ideal S512x1024 .f32) (t : Fin 256) (l : Fin 1024) :
    top (F := Ideal) d (ix2 t l) = d (ix2 (rowIn 0 t) l) := by
  refine congrArg d ?_
  funext a
  match a with
  | ⟨0, _⟩ | ⟨1, _⟩ => exact Fin.ext (by simp [ix2, rowIn])
theorem low_at (d : FVec Ideal S512x1024 .f32) (t : Fin 256) (l : Fin 1024) :
    low (F := Ideal) d (ix2 t l) = d (ix2 (rowIn 1 t) l) := by
  refine congrArg d ?_
  funext a
  match a with
  | ⟨0, _⟩ | ⟨1, _⟩ => exact Fin.ext (by simp [ix2, rowIn])

/-- A load of a group of rows at an index. -/
theorem topRect_at (x : Vec Ideal S512x1024 .f32) (t : Fin 256) (l : Fin 1024) :
    x (topRect.toLoadRect.idx (ix2 t l)) = x (ix2 (rowIn 0 t) l) := by
  refine congrArg x ?_
  funext a
  match a with
  | ⟨0, _⟩ | ⟨1, _⟩ => exact Fin.ext (by simp [Rect.idx_unit_val, LoadRect.idx, Rect.toLoadRect, Rect.unit, ix2, rowIn])
theorem lowRect_at (x : Vec Ideal S512x1024 .f32) (t : Fin 256) (l : Fin 1024) :
    x (lowRect.toLoadRect.idx (ix2 t l)) = x (ix2 (rowIn 1 t) l) := by
  refine congrArg x ?_
  funext a
  match a with
  | ⟨0, _⟩ | ⟨1, _⟩ => exact Fin.ext (by simp [Rect.idx_unit_val, LoadRect.idx, Rect.toLoadRect, Rect.unit, ix2, rowIn])

/-- A load of the scales at an index. -/
theorem g_at (x : Vec Ideal S1x1024 .f32) (l : Fin 1024) : x (gRect.toLoadRect.idx (ix2 0 l)) = x (ix2 0 l) := by
  refine congrArg x ?_
  funext a
  match a with
  | ⟨0, _⟩ | ⟨1, _⟩ => exact Fin.ext (by simp [Rect.idx_unit_val, LoadRect.idx, Rect.toLoadRect, Rect.unit, ix2])

/-- The gradient of a group of rows at an index. -/
theorem dxOf_at (d x : FVec Ideal S256x1024 .f32) (g : FVec Ideal S1x1024 .f32) (r : FVec Ideal S256x1024 .f32)
    (t : Fin 256) (l : Fin 1024) : dxOf (F := Ideal) d x g r (ix2 t l) = r (ix2 t l) +
      Norm.dxK (fun e => x (ix2 t e)) (fun e => d (ix2 t e) * g (ix2 0 e)) l := by
  pointwise [dxOf, dyg, xh, rsOf, Norm.dxK, Norm.rs, Norm.ms]

/-- The gradient of the scales, of one group, at an index. -/
theorem dg1_at (d x : FVec Ideal S256x1024 .f32) (l : Fin 1024) : dg1 (F := Ideal) d x (ix2 0 l) =
    ∑ t : Fin 256, d (ix2 t l) * (x (ix2 t l) * Norm.rs (fun e => x (ix2 t e))) := by
  pointwise [dg1, xh, rsOf, Norm.rs, Norm.ms]

variable (c : Dev nD) (i : grid0.Coords) (arg3 : Memref sig .tc .vmem S8x512x704 .bf16) (harg3 : arg3.IsWhole) (arg4 : Memref sig .tc .vmem S5632x1024 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x512x1024 .f32) (harg10 : arg10.IsWhole)
  (x0 : Vec Ideal S8x512x704 .bf16) (x1 : Vec Ideal S5632x1024 .bf16) (x2 : Vec Ideal S512x1024 .f32) (x3 : Vec Ideal S1x1024 .f32) (x4 : Vec Ideal S512x1024 .f32) (xo6 : Vec Ideal S1x1024 .f32)

/-- The gradient of a row of a point. -/
def dxE (k : Fin 512) (l : Fin 1024) : EReal := x4 (ix2 k l) +
  Norm.dxK (fun e => x2 (ix2 k e)) (fun e => dhE x0 x1 k e * x3 (ix2 0 e)) l
/-- A row's part of the gradient of the scales. -/
def dgE (k : Fin 512) (l : Fin 1024) : EReal :=
  dhE x0 x1 k l * (x2 (ix2 k l) * Norm.rs (fun e => x2 (ix2 k e)))

/-- The entry of the stored groups. -/
theorem dx_low (t : Fin 256) (l : Fin 1024) :
    dxOf (F := Ideal) (low (dhOf (fun b j => x0 ((aRect b).toLoadRect.idx j)) (fun b j => x1 ((wRect b).toLoadRect.idx j))))
      (fun j => x2 (lowRect.toLoadRect.idx j)) (fun j => x3 (gRect.toLoadRect.idx j))
      (fun j => x4 (lowRect.toLoadRect.idx j)) (ix2 t l) = dxE x0 x1 x2 x3 x4 (rowIn 1 t) l :=
  (dxOf_at _ _ _ _ t l).trans (congrArg₂ (· + ·) (lowRect_at x4 t l)
    (congrArg₂ (fun f u => Norm.dxK f u l) (funext fun e => lowRect_at x2 t e)
      (funext fun e => congrArg₂ (· * ·) ((low_at _ t e).trans (dhOf_at x0 x1 _ e)) (g_at x3 e))))
theorem dx_top (t : Fin 256) (l : Fin 1024) :
    dxOf (F := Ideal) (top (dhOf (fun b j => x0 ((aRect b).toLoadRect.idx j)) (fun b j => x1 ((wRect b).toLoadRect.idx j))))
      (fun j => x2 (topRect.toLoadRect.idx j)) (fun j => x3 (gRect.toLoadRect.idx j))
      (fun j => x4 (topRect.toLoadRect.idx j)) (ix2 t l) = dxE x0 x1 x2 x3 x4 (rowIn 0 t) l :=
  (dxOf_at _ _ _ _ t l).trans (congrArg₂ (· + ·) (topRect_at x4 t l)
    (congrArg₂ (fun f u => Norm.dxK f u l) (funext fun e => topRect_at x2 t e)
      (funext fun e => congrArg₂ (· * ·) ((top_at _ t e).trans (dhOf_at x0 x1 _ e)) (g_at x3 e))))

/-- A point's part of the gradient of the scales. -/
def dgP (l : Fin 1024) : EReal :=
  (∑ t : Fin 256, dgE x0 x1 x2 (rowIn 0 t) l) + ∑ t : Fin 256, dgE x0 x1 x2 (rowIn 1 t) l

theorem dg_at (l : Fin 1024) :
    dgOf (F := Ideal) (dhOf (fun b j => x0 ((aRect b).toLoadRect.idx j)) (fun b j => x1 ((wRect b).toLoadRect.idx j)))
      (fun j => x2 (topRect.toLoadRect.idx j)) (fun j => x2 (lowRect.toLoadRect.idx j)) (ix2 0 l) =
      dgP x0 x1 x2 l := by
  refine congrArg₂ (· + ·) ((dg1_at _ _ l).trans (Finset.sum_congr rfl fun t _ => ?_))
    ((dg1_at _ _ l).trans (Finset.sum_congr rfl fun t _ => ?_))
  · exact congrArg₂ (· * ·) ((top_at _ t l).trans (dhOf_at x0 x1 _ l)) (congrArg₂ (· * ·) (topRect_at x2 t l)
      (congrArg Norm.rs (funext fun e => topRect_at x2 t e)))
  · exact congrArg₂ (· * ·) ((low_at _ t l).trans (dhOf_at x0 x1 _ l)) (congrArg₂ (· * ·) (lowRect_at x2 t l)
      (congrArg Norm.rs (funext fun e => lowRect_at x2 t e)))

/-- Two groups of rows, read back. -/
theorem two_groups (u v : S256x1024.Idx → Ideal .f32) (f : Fin 512 → Fin 1024 → EReal)
    (hu : ∀ t l, u (ix2 t l) = f (rowIn 1 t) l) (hv : ∀ t l, v (ix2 t l) = f (rowIn 0 t) l) (k : Fin 512)
    (l : Fin 1024) : View.canon (Val := Elt Ideal) (e := .f32) [⟨lowRect, u⟩, ⟨topRect, v⟩] (ix2 k l) = f k l := by
  obtain ⟨q, t, rfl⟩ : ∃ (q : Fin 2) (t : Fin 256), k = rowIn q t :=
    ⟨⟨k.val / 256, by omega⟩, ⟨k.val % 256, by omega⟩,
      Fin.ext (by show k.val = 256 * (k.val / 256) + k.val % 256; omega)⟩
  match q with
  | ⟨1, _⟩ =>
    refine (Weights.under _ _ _ (ix2 t l) _ ?_).trans (hu t l)
    funext a
    match a with
    | ⟨0, _⟩ | ⟨1, _⟩ => exact Fin.ext (by simp [Rect.emb, Rect.idx_unit_val, Rect.unit, ix2, rowIn])
  | ⟨0, _⟩ =>
    refine (View.canon_cons_of_not_mem _ _ ?_).trans ?_
    · intro hy
      obtain ⟨x, hx⟩ := lowRect.exists_idx_of_mem hy
      have e := congrArg (fun z : S512x1024.Idx => (z 0 : Nat)) hx
      simp only [Rect.idx_unit_val] at e
      simp [ix2, rowIn] at e
      omega
    refine (Weights.under _ _ _ (ix2 t l) _ ?_).trans (hv t l)
    funext a
    match a with
    | ⟨0, _⟩ | ⟨1, _⟩ => exact Fin.ext (by simp [Rect.emb, Rect.idx_unit_val, Rect.unit, ix2, rowIn])

/-- What the first point leaves in the gradient of the rows. -/
theorem left_dx_first (hc0 : cond0_0 i) (hc1 : ¬cond0_1 i) (k : Fin 512) (l : Fin 1024) :
    out0_A_5 c i arg3 harg3 arg4 harg4 arg5 harg5 arg6 harg6 arg7 harg7 arg8 harg8 arg9 harg9 arg10 harg10 hc0 hc1 x0 x1 x2 x3 x4 (ix2 k l) =
      dxE x0 x1 x2 x3 x4 k l := by
  delta out0_A_5
  refine (congrFun (View.read_writes_junk_eq_canon VO0_5 _) _).trans ?_
  rw [stores_dx_first]
  unfold dxPieces ld
  simp only [Weights.loaded]
  exact two_groups _ _ (dxE x0 x1 x2 x3 x4) (dx_low x0 x1 x2 x3 x4) (dx_top x0 x1 x2 x3 x4) k l

/-- What a later point leaves there. -/
theorem left_dx_later (hc0 : ¬cond0_0 i) (hc1 : cond0_1 i) (k : Fin 512) (l : Fin 1024) :
    out0_B_5 c i arg3 harg3 arg4 harg4 arg5 harg5 arg6 harg6 arg7 harg7 arg8 harg8 arg9 harg9 arg10 harg10 hc0 hc1 x0 x1 x2 x3 x4 xo6 (ix2 k l) =
      dxE x0 x1 x2 x3 x4 k l := by
  delta out0_B_5
  refine (congrFun (View.read_writes_junk_eq_canon VO0_5 _) _).trans ?_
  rw [stores_dx_later]
  unfold dxPieces ld
  simp only [Weights.loaded]
  exact two_groups _ _ (dxE x0 x1 x2 x3 x4) (dx_low x0 x1 x2 x3 x4) (dx_top x0 x1 x2 x3 x4) k l

theorem under_g (l : Fin 1024) : (ix2 0 l : S1x1024.Idx) = gRect.emb (ix2 0 l) := by
  funext a
  match a with
  | ⟨0, _⟩ | ⟨1, _⟩ => exact Fin.ext (by simp [Rect.emb, Rect.idx_unit_val, Rect.unit, ix2])

/-- What the first point leaves in the gradient of the scales. -/
theorem left_dg_first (hc0 : cond0_0 i) (hc1 : ¬cond0_1 i) (l : Fin 1024) :
    out0_A_6 c i arg3 harg3 arg4 harg4 arg5 harg5 arg6 harg6 arg7 harg7 arg8 harg8 arg9 harg9 arg10 harg10 hc0 hc1 x0 x1 x2 x3 x4 (ix2 0 l) =
      dgP x0 x1 x2 l := by
  delta out0_A_6
  refine (congrFun (View.read_writes_junk_eq_canon VO0_6 _) _).trans ?_
  rw [stores_dg_first]
  unfold ld
  simp only [Weights.loaded]
  exact (Weights.under gRect _ _ (ix2 0 l) _ (under_g l)).trans (dg_at x0 x1 x2 l)

/-- What a later point leaves there. -/
theorem left_dg_later (hc0 : ¬cond0_0 i) (hc1 : cond0_1 i) (l : Fin 1024) :
    out0_B_6 c i arg3 harg3 arg4 harg4 arg5 harg5 arg6 harg6 arg7 harg7 arg8 harg8 arg9 harg9 arg10 harg10 hc0 hc1 x0 x1 x2 x3 x4 xo6 (ix2 0 l) =
      xo6 (ix2 0 l) + dgP x0 x1 x2 l := by
  delta out0_B_6
  refine (congrFun (View.read_writes_junk_eq_canon VO0_6 _) _).trans ?_
  rw [stores_dg_later]
  unfold ld
  simp only [Weights.loaded]
  refine (Weights.under gRect _ _ (ix2 0 l) _ (under_g l)).trans ?_
  unfold accOf
  rw [shapeCast_self]
  exact congrArg₂ (· + ·) (g_at xo6 l) (dg_at x0 x1 x2 l)

end

/-! ## The arrays the kernel ends with -/

section
variable (m : (ℓ : Loc nD τ sig) → Buf (Elt Ideal) ℓ) (c : Dev nD)

/-- The gradient of the projections. -/
def act (b : Fin 8) (k : Fin 4096) (r : Fin 704) : EReal :=
  (m ((c : Thread nD τ).loc main_arg0) : Vec Ideal S8x4096x704 .bf16) (ix3 b k r)
/-- The weights. -/
def wt (b : Fin 8) (r : Fin 704) (l : Fin 1024) : EReal :=
  (m ((c : Thread nD τ).loc main_arg1) : Vec Ideal S5632x1024 .bf16) (ix2 (wrow b r) l)
/-- The gradient of the normalised rows. -/
def dh (k : Fin 4096) (l : Fin 1024) : EReal := ∑ b : Fin 8, ∑ r : Fin 704, act m c b k r * wt m c b r l

/-- The rows. -/
def xs (k : Fin 4096) (l : Fin 1024) : EReal :=
  (m ((c : Thread nD τ).loc main_arg2) : Vec Ideal S4096x1024 .f32) (ix2 k l)
/-- The scales of the norm. -/
def gs (l : Fin 1024) : EReal :=
  (m ((c : Thread nD τ).loc main_arg3) : Vec Ideal S1x1024 .f32) (ix2 0 l)
/-- The gradient added. -/
def rest (k : Fin 4096) (l : Fin 1024) : EReal :=
  (m ((c : Thread nD τ).loc main_arg4) : Vec Ideal S4096x1024 .f32) (ix2 k l)

/-- A row of a point. -/
def tok (i : Fin 8) (k : Fin 512) : Fin 4096 := ⟨512 * i.val + k.val, by omega⟩
/-- A point of the grid. -/
def pt (i : Fin 8) : Fin cfg0.N := ⟨i.val, lt_of_lt_of_eq (by omega) N_0.symm⟩

theorem index_0 : ∀ i : Fin 8, win0_0.index (pt i) 0 = 0 ∧ win0_0.index (pt i) 1 = i.val ∧
    win0_0.index (pt i) 2 = 0 := by decide +kernel
theorem index_1 : ∀ i : Fin 8, win0_1.index (pt i) 0 = 0 ∧ win0_1.index (pt i) 1 = 0 := by decide +kernel

theorem index_2 : ∀ i : Fin 8, win0_2.index (pt i) 0 = i.val ∧ win0_2.index (pt i) 1 = 0 := by decide +kernel
theorem index_3 : ∀ i : Fin 8, win0_3.index (pt i) 0 = 0 ∧ win0_3.index (pt i) 1 = 0 := by decide +kernel
theorem index_4 : ∀ i : Fin 8, win0_4.index (pt i) 0 = i.val ∧ win0_4.index (pt i) 1 = 0 := by decide +kernel
theorem index_5 : ∀ i : Fin 8, win0_5.index (pt i) 0 = i.val ∧ win0_5.index (pt i) 1 = 0 := by decide +kernel
theorem index_6 : ∀ i : Fin 8, win0_6.index (pt i) 0 = 0 ∧ win0_6.index (pt i) 1 = 0 := by decide +kernel

/-- The blocks of the gradient of the projections at a point. -/
theorem iblk_0 (i : Fin 8) (b : Fin 8) (k : Fin 512) (r : Fin 704) :
    (iblk m c 0 (pt i) : Vec Ideal S8x512x704 .bf16) (ix3 b k r) = act m c b (tok i k) r := by
  have hi := index_0 i
  refine congrArg (m ((c : Thread nD τ).loc main_arg0)) ?_
  funext a
  apply Fin.ext
  match a with
  | ⟨0, _⟩ =>
    show win0_0.index (pt i) 0 * 8 + 1 * b.val = b.val
    rw [hi.1]; omega
  | ⟨1, _⟩ =>
    show win0_0.index (pt i) 1 * 512 + 1 * k.val = 512 * i.val + k.val
    rw [hi.2.1]; omega
  | ⟨2, _⟩ =>
    show win0_0.index (pt i) 2 * 704 + 1 * r.val = r.val
    rw [hi.2.2]; omega

/-- The weights at a point. -/
theorem iblk_1 (i : Fin 8) (b : Fin 8) (r : Fin 704) (l : Fin 1024) :
    (iblk m c 1 (pt i) : Vec Ideal S5632x1024 .bf16) (ix2 (wrow b r) l) = wt m c b r l := by
  have hi := index_1 i
  refine congrArg (m ((c : Thread nD τ).loc main_arg1)) ?_
  funext a
  apply Fin.ext
  match a with
  | ⟨0, _⟩ =>
    show win0_1.index (pt i) 0 * 5632 + 1 * (wrow b r).val = (wrow b r).val
    rw [hi.1]; omega
  | ⟨1, _⟩ =>
    show win0_1.index (pt i) 1 * 1024 + 1 * l.val = l.val
    rw [hi.2]; omega

/-- The rows at a point. -/
theorem iblk_2 (i : Fin 8) (k : Fin 512) (l : Fin 1024) :
    (iblk m c 2 (pt i) : Vec Ideal S512x1024 .f32) (ix2 k l) = xs m c (tok i k) l := by
  have hi := index_2 i
  refine congrArg (m ((c : Thread nD τ).loc main_arg2)) ?_
  funext a
  apply Fin.ext
  match a with
  | ⟨0, _⟩ =>
    show win0_2.index (pt i) 0 * 512 + 1 * k.val = 512 * i.val + k.val
    rw [hi.1]; omega
  | ⟨1, _⟩ =>
    show win0_2.index (pt i) 1 * 1024 + 1 * l.val = l.val
    rw [hi.2]; omega

/-- The scales at a point. -/
theorem iblk_3 (i : Fin 8) (l : Fin 1024) :
    (iblk m c 3 (pt i) : Vec Ideal S1x1024 .f32) (ix2 0 l) = gs m c l := by
  have hi := index_3 i
  refine congrArg (m ((c : Thread nD τ).loc main_arg3)) ?_
  funext a
  apply Fin.ext
  match a with
  | ⟨0, _⟩ =>
    show win0_3.index (pt i) 0 * 1 + 1 * 0 = 0
    rw [hi.1]
  | ⟨1, _⟩ =>
    show win0_3.index (pt i) 1 * 1024 + 1 * l.val = l.val
    rw [hi.2]; omega

/-- The gradient added, at a point. -/
theorem iblk_4 (i : Fin 8) (k : Fin 512) (l : Fin 1024) :
    (iblk m c 4 (pt i) : Vec Ideal S512x1024 .f32) (ix2 k l) = rest m c (tok i k) l := by
  have hi := index_4 i
  refine congrArg (m ((c : Thread nD τ).loc main_arg4)) ?_
  funext a
  apply Fin.ext
  match a with
  | ⟨0, _⟩ =>
    show win0_4.index (pt i) 0 * 512 + 1 * k.val = 512 * i.val + k.val
    rw [hi.1]; omega
  | ⟨1, _⟩ =>
    show win0_4.index (pt i) 1 * 1024 + 1 * l.val = l.val
    rw [hi.2]; omega

theorem dhE_pt (i : Fin 8) (k : Fin 512) (l : Fin 1024) :
    dhE (iblk m c 0 (pt i)) (iblk m c 1 (pt i)) k l = dh m c (tok i k) l :=
  Finset.sum_congr rfl fun b _ => Finset.sum_congr rfl fun r _ =>
    congrArg₂ (· * ·) (iblk_0 m c i b k r) (iblk_1 m c i b r l)

/-- The gradient of a row, of the arguments. -/
def dxA (k : Fin 4096) (l : Fin 1024) : EReal :=
  rest m c k l + Norm.dxK (xs m c k) (fun e => dh m c k e * gs m c e) l
/-- A row's part of the gradient of the scales, of the arguments. -/
def dgA (k : Fin 4096) (l : Fin 1024) : EReal := dh m c k l * (xs m c k l * Norm.rs (xs m c k))

theorem dxE_pt (i : Fin 8) (k : Fin 512) (l : Fin 1024) :
    dxE (iblk m c 0 (pt i)) (iblk m c 1 (pt i)) (iblk m c 2 (pt i)) (iblk m c 3 (pt i)) (iblk m c 4 (pt i)) k l =
      dxA m c (tok i k) l :=
  congrArg₂ (· + ·) (iblk_4 m c i k l) (congrArg₂ (fun f u => Norm.dxK f u l) (funext fun e => iblk_2 m c i k e)
    (funext fun e => congrArg₂ (· * ·) (dhE_pt m c i k e) (iblk_3 m c i e)))
theorem dgE_pt (i : Fin 8) (k : Fin 512) (l : Fin 1024) :
    dgE (iblk m c 0 (pt i)) (iblk m c 1 (pt i)) (iblk m c 2 (pt i)) k l = dgA m c (tok i k) l :=
  congrArg₂ (· * ·) (dhE_pt m c i k l) (congrArg₂ (· * ·) (iblk_2 m c i k l)
    (congrArg Norm.rs (funext fun e => iblk_2 m c i k e)))

/-- A point's part of the gradient of the scales, of the arguments. -/
def part (i : Fin 8) (l : Fin 1024) : EReal :=
  (∑ t : Fin 256, dgA m c (tok i (rowIn 0 t)) l) + ∑ t : Fin 256, dgA m c (tok i (rowIn 1 t)) l
theorem dgP_pt (i : Fin 8) (l : Fin 1024) :
    dgP (iblk m c 0 (pt i)) (iblk m c 1 (pt i)) (iblk m c 2 (pt i)) l = part m c i l :=
  congrArg₂ (· + ·) (Finset.sum_congr rfl fun t _ => dgE_pt m c i _ l) (Finset.sum_congr rfl fun t _ => dgE_pt m c i _ l)

/-- The gradient of the rows after a point. -/
theorem dx_pt (i : Fin 8) (k : Fin 512) (l : Fin 1024) :
    (outsAt0 m c (pt i).val (pt i).isLt).1 (ix2 k l) = dxA m c (tok i k) l := by
  by_cases h : i.val = 0
  · have h0 : (pt i).val % 8 = 0 := by show i.val % 8 = 0; omega
    have h1 : ¬1 ≤ (pt i).val := by show ¬1 ≤ i.val; omega
    rw [Weights.pair_one (outsAt0_A m c (pt i) h0 h1), left_dx_first, dxE_pt]
  · have h0 : ¬(pt i).val % 8 = 0 := by show ¬i.val % 8 = 0; omega
    have h1 : 1 ≤ (pt i).val := by show 1 ≤ i.val; omega
    rw [Weights.pair_one (outsAt0_B m c (pt i) h0 h1), left_dx_later, dxE_pt]

/-- The gradient of the scales after a point: the sum over the points up to it. -/
theorem dg_pt (l : Fin 1024) : ∀ (n : ℕ) (hn : n < 8),
    (outsAt0 m c (pt ⟨n, hn⟩).val (pt ⟨n, hn⟩).isLt).2 (ix2 0 l) =
      ∑ i : Fin (n + 1), part m c ⟨i.val, by omega⟩ l
  | 0, hn => by
    have h0 : (pt ⟨0, hn⟩).val % 8 = 0 := rfl
    have h1 : ¬1 ≤ (pt ⟨0, hn⟩).val := by show ¬1 ≤ 0; omega
    rw [Weights.pair_two (outsAt0_A m c (pt ⟨0, hn⟩) h0 h1), left_dg_first, dgP_pt]
    exact (Fin.sum_univ_one (M := EReal) fun i => part m c ⟨i.val, by omega⟩ l).symm
  | n + 1, hn => by
    have h0 : ¬(pt ⟨n + 1, hn⟩).val % 8 = 0 := by show ¬(n + 1) % 8 = 0; omega
    have h1 : 1 ≤ (pt ⟨n + 1, hn⟩).val := by show 1 ≤ n + 1; omega
    rw [Weights.pair_two (outsAt0_B m c (pt ⟨n + 1, hn⟩) h0 h1), left_dg_later, dgP_pt, Fin.sum_univ_castSucc]
    exact congrArg (· + part m c ⟨n + 1, hn⟩ l) (dg_pt l n (by omega))

/-- The first result at an index. -/
theorem first_at (i : Fin 8) (k : Fin 512) (l : Fin 1024) :
    ((dats m 0 c).arrAt 5 cfg0.N : Vec Ideal S4096x1024 .f32) (ix2 (tok i k) l) = dxA m c (tok i k) l := by
  have hi := index_5 i
  have hb := congrFun (Value.blocks5 m c (pt i) (flush0_5 (pt i))) (ix2 k l)
  rw [Value.flushed5, View.read_apply] at hb
  have e : (ix2 (tok i k) l : S4096x1024.Idx) = ((cfg0.win 5).blk (pt i)).view.emb (ix2 k l) := by
    funext a
    apply Fin.ext
    match a with
    | ⟨0, _⟩ =>
      show 512 * i.val + k.val = win0_5.index (pt i) 0 * 512 + 1 * k.val
      rw [hi.1]; omega
    | ⟨1, _⟩ =>
      show l.val = win0_5.index (pt i) 1 * 1024 + 1 * l.val
      rw [hi.2]; omega
  rw [e]
  exact (show _ = _ from hb).trans (dx_pt m c i k l)

/-- The second result at an index: the sum over the rows. -/
theorem second_at (l : Fin 1024) :
    ((dats m 0 c).arrAt 6 cfg0.N : Vec Ideal S1x1024 .f32) (ix2 0 l) = ∑ k, dgA m c k l := by
  have ht : ∀ t' : Fin cfg0.N, (cfg0.win 6).flush t' = true → t' = pt 7 := fun t' hf =>
    Fin.ext (by
      have h1 := (flush0_6 t').1 hf
      have h2 : t'.val < 8 := lt_of_lt_of_eq t'.isLt N_0
      show t'.val = 7
      omega)
  have hb := congrFun ((dats m 0 c).read_blk_arrAt_eq_flushed 6
    (fun t₁ t₂ h₁ h₂ hne => absurd ((ht t₁ h₁).trans (ht t₂ h₂).symm) hne) cfg0.N (pt 7) (pt 7).isLt
    ((flush0_6 (pt 7)).2 rfl)) (ix2 (0 : Fin 1) l)
  have hi := index_6 7
  rw [Value.flushed6, View.read_apply] at hb
  have e : (ix2 0 l : S1x1024.Idx) = ((cfg0.win 6).blk (pt 7)).view.emb (ix2 (0 : Fin 1) l) := by
    funext a
    apply Fin.ext
    match a with
    | ⟨0, _⟩ =>
      show 0 = win0_6.index (pt 7) 0 * 1 + 1 * 0
      rw [hi.1]
    | ⟨1, _⟩ =>
      show l.val = win0_6.index (pt 7) 1 * 1024 + 1 * l.val
      rw [hi.2]; omega
  rw [e]
  have hs : ∑ i : Fin (7 + 1), part m c ⟨i.val, by omega⟩ l = ∑ k, dgA m c k l := by
    refine Eq.trans ?_ (Norm.blocks 8 512 4096 rfl fun k => dgA m c k l)
    refine Finset.sum_congr rfl fun i _ => ?_
    refine Eq.trans ?_ (Fin.sum_univ_add (a := 256) (b := 256) _).symm
    refine congrArg₂ (· + ·) (Finset.sum_congr rfl fun t _ => congrArg (fun k => dgA m c k l) (Fin.ext ?_)) rfl
    show 512 * i.val + (256 * 0 + t.val) = 512 * i.val + t.val
    omega
  exact ((show _ = _ from hb).trans (dg_pt m c l 7 (by omega))).trans hs

end

end Cert.Dh
-- ==== Proof.DhEnds.lean ====
module

public import proofs.«01_k».proof.Proof.Dh
public import proofs.«01_k».proof.Defs
public import proofs.«01_k».proof.Proof.Gen.ReferenceDhIdeal.Run
public import Idealize.ShloMosaic.Lib.Quiescent

@[expose] public section

set_option maxRecDepth 16384
set_option maxHeartbeats 1000000

noncomputable section

namespace Cert.Dh

open Idealize.ShloMosaic Idealize.ShloMosaic.TcCoe Idealize.ShloMosaic.StableHlo Idealize.SL.Sem

/-! ## The kernel's results and the reference's, side by side -/

section
open Cert.ReferenceDhIdeal Cert.ReferenceDhIdeal.Gen

/-- The reference's gradient of the normalised rows. -/
def refDh (d : FVec Ideal S8x4096x704 .bf16) (w : FVec Ideal S5632x1024 .bf16) : FVec Ideal S4096x1024 .f32 :=
  Host.dotGeneral dot_S4096x5632_S1024x5632_S4096x1024_1_1_0_0_n_n none (extf .f32 (shapeCast _
    (transpose S4096x8x704 [1, 0, 2] d transposes_S8x4096x704_S4096x8x704_1_0_2) shapeCasts_S4096x8x704_S4096x5632)
    bitsLt_bf16_f32) (transpose S1024x5632 [1, 0] (extf .f32 w bitsLt_bf16_f32) transposes_S5632x1024_S1024x5632_1_0)
/-- The mean squares of the rows. -/
def refMs (x : FVec Ideal S4096x1024 .f32) : FVec Ideal S4096x1 .f32 :=
  addf (Host.divf (broadcastInDim S4096x1 ![0] bcast_S4096_S4096x1_0 (Host.reduceAdd (mulf x x)
    (constant S_ .f32 0x00000000#32) reducesTo_S4096x1024_S4096_d1 h_S_)) (broadcastInDim S4096x1 ![] bcast_S_S4096x1
    (constant S_ .f32 0x44800000#32))) (broadcastInDim S4096x1 ![] bcast_S_S4096x1 (constant S_ .f32 0x358637BD#32))
/-- The gradient, scaled. -/
def refU (h : FVec Ideal S4096x1024 .f32) (g : FVec Ideal S1x1024 .f32) : FVec Ideal S4096x1024 .f32 :=
  mulf h (broadcastInDim S4096x1024 ![0, 1] bcast_S1x1024_S4096x1024_0_1 g)
/-- The part of the gradient through the mean squares. -/
def refTail (h x : FVec Ideal S4096x1024 .f32) (g : FVec Ideal S1x1024 .f32) : FVec Ideal S4096x1024 .f32 :=
  broadcastInDim S4096x1024 ![0] bcast_S4096_S4096x1024_0 (Host.reduceAdd (Host.divf (mulf (shapeCast _
    (Host.reduceAdd (mulf x (refU h g)) (constant S_ .f32 0x00000000#32) reducesTo_S4096x1024_S4096_d1 h_S_)
    shapeCasts_S4096_S4096x1) (mulf (broadcastInDim S4096x1 ![] bcast_S_S4096x1 (constant S_ .f32 0xBF000000#32))
    (Host.divf (Host.rsqrt (refMs x)) (refMs x)))) (broadcastInDim S4096x1 ![] bcast_S_S4096x1
    (constant S_ .f32 0x44800000#32))) (constant S_ .f32 0x00000000#32) reducesTo_S4096x1_S4096_d1 h_S_)
/-- The reference's gradient of the rows. -/
def refDx (h x : FVec Ideal S4096x1024 .f32) (g : FVec Ideal S1x1024 .f32) (r : FVec Ideal S4096x1024 .f32) :
    FVec Ideal S4096x1024 .f32 :=
  addf r (addf (addf (mulf (refU h g) (broadcastInDim S4096x1024 ![0, 1] bcast_S4096x1_S4096x1024_0_1
    (Host.rsqrt (refMs x)))) (mulf x (refTail h x g))) (mulf (refTail h x g) x))
/-- The reference's gradient of the scales. -/
def refDg (h x : FVec Ideal S4096x1024 .f32) : FVec Ideal S1x1024 .f32 :=
  shapeCast _ (Host.reduceAdd (mulf (mulf x (broadcastInDim S4096x1024 ![0, 1] bcast_S4096x1_S4096x1024_0_1
    (Host.rsqrt (refMs x)))) h) (constant S_ .f32 0x00000000#32) reducesTo_S4096x1024_S1024_d0 h_S_)
    shapeCasts_S1024_S1x1024

theorem refMs_at (x : FVec Ideal S4096x1024 .f32) (k : Fin 4096) :
    refMs x (ix2 k 0) = Norm.ms (fun e => x (ix2 k e)) := by
  pointwise [refMs, Norm.ms]
theorem refTail_at (h x : FVec Ideal S4096x1024 .f32) (g : FVec Ideal S1x1024 .f32) (k : Fin 4096) (l : Fin 1024) :
    refTail h x g (ix2 k l) = Norm.tail (fun e => x (ix2 k e)) (fun e => h (ix2 k e) * g (ix2 0 e)) := by
  pointwise [refTail, refU, refMs, Norm.tail, Norm.rs, Norm.ms]
  exact Fin.sum_univ_one (M := EReal) _
theorem refDx_at (h x : FVec Ideal S4096x1024 .f32) (g : FVec Ideal S1x1024 .f32) (r : FVec Ideal S4096x1024 .f32)
    (k : Fin 4096) (l : Fin 1024) : refDx h x g r (ix2 k l) =
      r (ix2 k l) + Norm.dxR (fun e => x (ix2 k e)) (fun e => h (ix2 k e) * g (ix2 0 e)) l := by
  unfold Norm.dxR
  rw [← refTail_at h x g k l]
  unfold refDx
  generalize refTail h x g = z
  pointwise [refU, refMs, Norm.rs, Norm.ms]
theorem refDg_at (h x : FVec Ideal S4096x1024 .f32) (l : Fin 1024) : refDg h x (ix2 0 l) =
    ∑ k : Fin 4096, x (ix2 k l) * Norm.rs (fun e => x (ix2 k e)) * h (ix2 k l) := by
  pointwise [refDg, refMs, Norm.rs, Norm.ms]

/-- The reference's gradient of the normalised rows at an index. -/
theorem refDh_at (d : FVec Ideal S8x4096x704 .bf16) (w : FVec Ideal S5632x1024 .bf16) (k : Fin 4096) (l : Fin 1024) :
    refDh d w (ix2 k l) = ∑ b : Fin 8, ∑ r : Fin 704, d (ix3 b k r) * w (ix2 (wrow b r) l) := by
  refine Eq.trans ?_ (Norm.blocks 8 704 5632 rfl fun e =>
    d (ix3 (⟨e.val / 704, by omega⟩ : Fin 8) k (⟨e.val % 704, by omega⟩ : Fin 704)) * w (ix2 e l)).symm |>.trans ?_
  · pointwise [refDh]
  refine Finset.sum_congr rfl fun b _ => Finset.sum_congr rfl fun r _ => ?_
  refine congrArg₂ (· * ·) (congrArg d ?_) rfl
  funext a
  match a with
  | ⟨0, _⟩ => exact Fin.ext (by show (704 * b.val + r.val) / 704 = b.val; omega)
  | ⟨1, _⟩ => rfl
  | ⟨2, _⟩ => exact Fin.ext (by show (704 * b.val + r.val) % 704 = r.val; omega)

end

variable (m : (ℓ : Loc Cert.KernelDhIdeal.nD Cert.KernelDhIdeal.τ Cert.KernelDhIdeal.sig) → Buf (Elt Ideal) ℓ)
  (c : Dev Cert.KernelDhIdeal.nD)

/-- The arguments, by name. -/
abbrev a0 := m ((c : Thread Cert.KernelDhIdeal.nD Cert.KernelDhIdeal.τ).loc Cert.KernelDhIdeal.main_arg0)
abbrev a1 := m ((c : Thread Cert.KernelDhIdeal.nD Cert.KernelDhIdeal.τ).loc Cert.KernelDhIdeal.main_arg1)
abbrev a2 := m ((c : Thread Cert.KernelDhIdeal.nD Cert.KernelDhIdeal.τ).loc Cert.KernelDhIdeal.main_arg2)
abbrev a3 := m ((c : Thread Cert.KernelDhIdeal.nD Cert.KernelDhIdeal.τ).loc Cert.KernelDhIdeal.main_arg3)
abbrev a4 := m ((c : Thread Cert.KernelDhIdeal.nD Cert.KernelDhIdeal.τ).loc Cert.KernelDhIdeal.main_arg4)

/-- The kernel's first result is what the reference computes. -/
theorem same_dx : refDx (refDh (a0 m c) (a1 m c)) (a2 m c) (a3 m c) (a4 m c) =
      ((Cert.KernelDhIdeal.Gen.dats m 0 c).arrAt 5 Cert.KernelDhIdeal.cfg0.N :
        Vec Ideal Cert.KernelDhIdeal.S4096x1024 .f32) := by
  funext j
  have hj : (j 0).val < 4096 := (j 0).isLt
  obtain ⟨i, k, l, rfl⟩ : ∃ (i : Fin 8) (k : Fin 512) (l : Fin 1024), j = ix2 (tok i k) l := by
    refine ⟨⟨(j 0).val / 512, by omega⟩, ⟨(j 0).val % 512, by omega⟩, j 1, ?_⟩
    funext a
    match a with
    | ⟨0, _⟩ => exact Fin.ext (by show (j 0).val = 512 * ((j 0).val / 512) + (j 0).val % 512; omega)
    | ⟨1, _⟩ => rfl
  refine (refDx_at _ _ _ _ _ _).trans ?_
  rw [first_at m c i k l, Norm.dx_eq]
  exact congrArg (fun u => rest m c (tok i k) l + Norm.dxK (xs m c (tok i k)) u l)
    (funext fun e => congrArg (· * gs m c e) (refDh_at _ _ _ _))

/-- The kernel's second result is what the reference computes. -/
theorem same_dg : refDg (refDh (a0 m c) (a1 m c)) (a2 m c) =
      ((Cert.KernelDhIdeal.Gen.dats m 0 c).arrAt 6 Cert.KernelDhIdeal.cfg0.N :
        Vec Ideal Cert.KernelDhIdeal.S1x1024 .f32) := by
  funext j
  obtain ⟨l, rfl⟩ : ∃ l : Fin 1024, j = ix2 0 l := by
    refine ⟨j 1, ?_⟩
    funext a
    match a with
    | ⟨0, _⟩ => exact Fin.ext (by have h : (j 0).val < 1 := (j 0).isLt; show (j 0).val = 0; omega)
    | ⟨1, _⟩ => rfl
  refine (refDg_at _ _ _).trans ?_
  rw [second_at m c l]
  refine Finset.sum_congr rfl fun k _ => ?_
  rw [mul_comm]
  exact congrArg (· * (xs m c k l * Norm.rs (xs m c k))) (refDh_at _ _ _ _)

/-- The kernel and the reference end with equal results. -/
theorem equal_ends : Cert.algebraic_KernelDhIdeal_ReferenceDhIdeal
    (hKernelDhIdeal := Cert.KernelDhIdeal.Gen.facts)
    (hReferenceDhIdeal := Cert.ReferenceDhIdeal.Gen.facts) := by
  intro m g m' g' _ hagree
  refine ⟨_, _, Cert.KernelDhIdeal.Value.run_blocks m g, ?_⟩
  refine (θ_run Cert.ReferenceDhIdeal.defs _ _).mono (fun r h c => ?_)
    (Cert.ReferenceDhIdeal.Value.run (F := Ideal) m' g')
  refine ⟨(h c).1.trans ?_, (h c).2.1.trans ?_, (h c).2.2⟩
  · unfold Cert.ReferenceDhIdeal.Value.res_main_v41
    rw [(hagree c).1, (hagree c).2.1, (hagree c).2.2.1, (hagree c).2.2.2.1, (hagree c).2.2.2.2]
    exact same_dx m c
  · rw [(hagree c).1, (hagree c).2.1, (hagree c).2.2.1]
    exact same_dg m c

/-- The reference ends with its arguments unchanged. -/
theorem reference_ends : Cert.quiescent_ReferenceDhIdeal
    (hReferenceDhIdeal := Cert.ReferenceDhIdeal.Gen.facts) := fun m ρ _ =>
  (θ_run Cert.ReferenceDhIdeal.defs _ _).mono (fun r h => ⟨fun c => (h c).2.2,
      Idealize.ShloMosaic.sem_eq_zero_of_no_sems (by decide) r.2⟩)
    (Cert.ReferenceDhIdeal.Value.run (F := Ideal) m ρ)

end Cert.Dh
-- ==== Proof.Dx.lean ====
module

public import proofs.«01_k».proof.Proof.Dh
public import proofs.«01_k».proof.Proof.Gen.KernelDxIdeal.Value

@[expose] public section

set_option maxRecDepth 16384
set_option maxHeartbeats 1000000

noncomputable section

namespace Cert.Dx

open Cert.KernelDxIdeal Cert.KernelDxIdeal.Gen Idealize.ShloMosaic Idealize.ShloMosaic.TcCoe
  Idealize.SL.Sem
open Cert.Dh (top low rsOf xh dyg dxOf dg1 dgOf accOf topRect lowRect gRect rowIn top_at low_at topRect_at lowRect_at g_at dxOf_at dg1_at two_groups under_g tok)

/-! ## What the kernel stores at a point, entry by entry -/

section
variable {F : FTy → Type} [FloatOps F]

/-- The product of one block. -/
def dot1 (v : Vec F S512x768 .bf16) (w : Vec F S1x1024x768 .bf16) : FVec F S512x1024 .f32 :=
  matmul dot_S512x768_S1024x768_S512x1024_1_1_0_0_n_n none v
    (shapeCast S1024x768 w shapeCasts_S1x1024x768_S1024x768 : FVec F S1024x768 .bf16)
    (constant S512x1024 .f32 0x00000000#32)

/-- The gradient of the normalised rows: the sum over the blocks. -/
def dhOf (V : Fin 8 → Vec F S512x768 .bf16) (W : Fin 8 → Vec F S1x1024x768 .bf16) : FVec F S512x1024 .f32 :=
  addf (addf (addf (addf (addf (addf (addf (dot1 (V 0) (W 0)) (dot1 (V 1) (W 1))) (dot1 (V 2) (W 2))) (dot1 (V 3) (W 3)))
    (dot1 (V 4) (W 4))) (dot1 (V 5) (W 5))) (dot1 (V 6) (W 6))) (dot1 (V 7) (W 7))

/-- The rectangle of a block of the columns. -/
abbrev aRect (b : Fin 8) : Rect S512x6144 :=
  Rect.unit (s := S512x6144) ![0, 768 * b.val] S512x768.size
    (match b with
      | ⟨0, _⟩ => inb_S512x6144_S512x768_0_0
      | ⟨1, _⟩ => inb_S512x6144_S512x768_0_768
      | ⟨2, _⟩ => inb_S512x6144_S512x768_0_1536
      | ⟨3, _⟩ => inb_S512x6144_S512x768_0_2304
      | ⟨4, _⟩ => inb_S512x6144_S512x768_0_3072
      | ⟨5, _⟩ => inb_S512x6144_S512x768_0_3840
      | ⟨6, _⟩ => inb_S512x6144_S512x768_0_4608
      | ⟨7, _⟩ => inb_S512x6144_S512x768_0_5376)

/-- The rectangle of a block of the weights. -/
abbrev wRect (b : Fin 8) : Rect S8x1024x768 :=
  Rect.unit (s := S8x1024x768) ![b.val, 0, 0] S1x1024x768.size
    (match b with
      | ⟨0, _⟩ => inb_S8x1024x768_S1x1024x768_0_0_0
      | ⟨1, _⟩ => inb_S8x1024x768_S1x1024x768_1_0_0
      | ⟨2, _⟩ => inb_S8x1024x768_S1x1024x768_2_0_0
      | ⟨3, _⟩ => inb_S8x1024x768_S1x1024x768_3_0_0
      | ⟨4, _⟩ => inb_S8x1024x768_S1x1024x768_4_0_0
      | ⟨5, _⟩ => inb_S8x1024x768_S1x1024x768_5_0_0
      | ⟨6, _⟩ => inb_S8x1024x768_S1x1024x768_6_0_0
      | ⟨7, _⟩ => inb_S8x1024x768_S1x1024x768_7_0_0)

variable (c : Dev nD) (i : grid0.Coords) (arg3 : Memref sig .tc .vmem S512x6144 .bf16) (harg3 : arg3.IsWhole) (arg4 : Memref sig .tc .vmem S8x1024x768 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x512x1024 .f32) (harg10 : arg10.IsWhole)
  (x0 : Vec F S512x6144 .bf16) (x1 : Vec F S8x1024x768 .bf16) (x2 : Vec F S512x1024 .f32) (x3 : Vec F S1x1024 .f32) (x4 : Vec F S512x1024 .f32) (xo6 : Vec F S1x1024 .f32)

/-- The gradient of the normalised rows of a point, from its loads. -/
abbrev ld : FVec F S512x1024 .f32 :=
  dhOf (fun b => View.readAt (Elt F) arg3.view (aRect b).toLoadRect (harg3.unread x0))
    (fun b => View.readAt (Elt F) arg4.view (wRect b).toLoadRect (harg4.unread x1))

/-- The pieces of the gradient of the rows that a point stores, from its loads. -/
abbrev dxPieces : List (View.Piece (Elt F) S512x1024 .f32) :=
      [⟨lowRect, dxOf (low (ld arg3 harg3 arg4 harg4 x0 x1))
          (View.readAt (Elt F) arg5.view lowRect.toLoadRect (harg5.unread x2))
          (View.readAt (Elt F) arg6.view gRect.toLoadRect (harg6.unread x3))
          (View.readAt (Elt F) arg7.view lowRect.toLoadRect (harg7.unread x4))⟩,
       ⟨topRect, dxOf (top (ld arg3 harg3 arg4 harg4 x0 x1))
          (View.readAt (Elt F) arg5.view topRect.toLoadRect (harg5.unread x2))
          (View.readAt (Elt F) arg6.view gRect.toLoadRect (harg6.unread x3))
          (View.readAt (Elt F) arg7.view topRect.toLoadRect (harg7.unread x4))⟩]

/-- What the first point stores in the gradient of the rows. -/
theorem stores_dx_first (hc0 : cond0_0 i) (hc1 : ¬cond0_1 i) :
    (kernelRun0_A c i arg3 harg3 arg4 harg4 arg5 harg5 arg6 harg6 arg7 harg7 arg8 harg8 arg9 harg9 arg10 harg10 hc0 hc1 x0 x1 x2 x3 x4).1 =
      dxPieces arg3 harg3 arg4 harg4 arg5 harg5 arg6 harg6 arg7 harg7 x0 x1 x2 x3 x4 := rfl

/-- What a later point stores there. -/
theorem stores_dx_later (hc0 : ¬cond0_0 i) (hc1 : cond0_1 i) :
    (kernelRun0_B c i arg3 harg3 arg4 harg4 arg5 harg5 arg6 harg6 arg7 harg7 arg8 harg8 arg9 harg9 arg10 harg10 hc0 hc1 x0 x1 x2 x3 x4 xo6).1 =
      dxPieces arg3 harg3 arg4 harg4 arg5 harg5 arg6 harg6 arg7 harg7 x0 x1 x2 x3 x4 := rfl

/-- What the first point stores in the gradient of the scales. -/
theorem stores_dg_first (hc0 : cond0_0 i) (hc1 : ¬cond0_1 i) :
    (kernelRun0_A c i arg3 harg3 arg4 harg4 arg5 harg5 arg6 harg6 arg7 harg7 arg8 harg8 arg9 harg9 arg10 harg10 hc0 hc1 x0 x1 x2 x3 x4).2.1 =
      [⟨gRect, dgOf (ld arg3 harg3 arg4 harg4 x0 x1)
          (View.readAt (Elt F) arg5.view topRect.toLoadRect (harg5.unread x2))
          (View.readAt (Elt F) arg5.view lowRect.toLoadRect (harg5.unread x2))⟩] := rfl

/-- What a later point stores there. -/
theorem stores_dg_later (hc0 : ¬cond0_0 i) (hc1 : cond0_1 i) :
    (kernelRun0_B c i arg3 harg3 arg4 harg4 arg5 harg5 arg6 harg6 arg7 harg7 arg8 harg8 arg9 harg9 arg10 harg10 hc0 hc1 x0 x1 x2 x3 x4 xo6).2.1 =
      [⟨gRect, accOf (View.readAt (Elt F) arg9.view gRect.toLoadRect (harg9.unread xo6))
          (dgOf (ld arg3 harg3 arg4 harg4 x0 x1)
          (View.readAt (Elt F) arg5.view topRect.toLoadRect (harg5.unread x2))
          (View.readAt (Elt F) arg5.view lowRect.toLoadRect (harg5.unread x2)))⟩] := rfl

end

/-- A column of the gradient of the projections. -/
def wcol (b : Fin 8) (r : Fin 768) : Fin 6144 := ⟨768 * b.val + r.val, by omega⟩

/-- A load of a block of the columns at an index. -/
theorem a_at (x0 : Vec Ideal S512x6144 .bf16) (b : Fin 8) (k : Fin 512) (r : Fin 768) :
    x0 ((aRect b).toLoadRect.idx (ix2 k r)) = x0 (ix2 k (wcol b r)) := by
  refine congrArg x0 ?_
  funext a
  match a with
  | ⟨0, _⟩ | ⟨1, _⟩ => exact Fin.ext (by simp [Rect.idx_unit_val, LoadRect.idx, Rect.toLoadRect, Rect.unit, ix2, wcol])

/-- A load of a block of the weights at an index. -/
theorem w_at (x1 : Vec Ideal S8x1024x768 .bf16) (b : Fin 8) (l : Fin 1024) (r : Fin 768) :
    x1 ((wRect b).toLoadRect.idx (ix3 0 l r)) = x1 (ix3 b l r) := by
  refine congrArg x1 ?_
  funext a
  match a with
  | ⟨0, _⟩ | ⟨1, _⟩ | ⟨2, _⟩ => exact Fin.ext (by simp [Rect.idx_unit_val, LoadRect.idx, Rect.toLoadRect, Rect.unit, ix3])

/-- The product of one block at an index. -/
theorem dot1_at (v : FVec Ideal S512x768 .bf16) (w : FVec Ideal S1x1024x768 .bf16) (t : Fin 512) (l : Fin 1024) :
    dot1 (F := Ideal) v w (ix2 t l) = ∑ r : Fin 768, v (ix2 t r) * w (ix3 0 l r) := by
  pointwise [dot1]

/-- The gradient of the normalised rows, of the blocks of a point. -/
def dhE (x0 : Vec Ideal S512x6144 .bf16) (x1 : Vec Ideal S8x1024x768 .bf16) (t : Fin 512) (l : Fin 1024) : EReal :=
  ∑ b : Fin 8, ∑ r : Fin 768, x0 (ix2 t (wcol b r)) * x1 (ix3 b l r)

theorem dot1_loaded (x0 : Vec Ideal S512x6144 .bf16) (x1 : Vec Ideal S8x1024x768 .bf16) (b : Fin 8) (t : Fin 512)
    (l : Fin 1024) : dot1 (F := Ideal) (fun j => x0 ((aRect b).toLoadRect.idx j)) (fun j => x1 ((wRect b).toLoadRect.idx j)) (ix2 t l) =
      ∑ r : Fin 768, x0 (ix2 t (wcol b r)) * x1 (ix3 b l r) :=
  (dot1_at _ _ t l).trans (Finset.sum_congr rfl fun r _ => congrArg₂ (· * ·) (a_at x0 b t r) (w_at x1 b l r))

section
/-- The sum over the blocks at an index. -/
theorem dhOf_at (x0 : Vec Ideal S512x6144 .bf16) (x1 : Vec Ideal S8x1024x768 .bf16) (t : Fin 512) (l : Fin 1024) :
    dhOf (F := Ideal) (fun b j => x0 ((aRect b).toLoadRect.idx j)) (fun b j => x1 ((wRect b).toLoadRect.idx j)) (ix2 t l) =
      dhE x0 x1 t l := by
  unfold dhE
  rw [Fin.sum_univ_eight]
  exact congrArg₂ (· + ·) (congrArg₂ (· + ·) (congrArg₂ (· + ·) (congrArg₂ (· + ·) (congrArg₂ (· + ·)
    (congrArg₂ (· + ·) (congrArg₂ (· + ·) (dot1_loaded x0 x1 0 t l) (dot1_loaded x0 x1 1 t l))
      (dot1_loaded x0 x1 2 t l)) (dot1_loaded x0 x1 3 t l)) (dot1_loaded x0 x1 4 t l)) (dot1_loaded x0 x1 5 t l))
    (dot1_loaded x0 x1 6 t l)) (dot1_loaded x0 x1 7 t l)

variable (c : Dev nD) (i : grid0.Coords) (arg3 : Memref sig .tc .vmem S512x6144 .bf16) (harg3 : arg3.IsWhole) (arg4 : Memref sig .tc .vmem S8x1024x768 .bf16) (harg4 : arg4.IsWhole) (arg5 : Memref sig .tc .vmem S512x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (arg10 : Memref sig .tc .vmem S1x512x1024 .f32) (harg10 : arg10.IsWhole)
  (x0 : Vec Ideal S512x6144 .bf16) (x1 : Vec Ideal S8x1024x768 .bf16) (x2 : Vec Ideal S512x1024 .f32) (x3 : Vec Ideal S1x1024 .f32) (x4 : Vec Ideal S512x1024 .f32) (xo6 : Vec Ideal S1x1024 .f32)

/-- The gradient of a row of a point. -/
def dxE (k : Fin 512) (l : Fin 1024) : EReal := x4 (ix2 k l) +
  Norm.dxK (fun e => x2 (ix2 k e)) (fun e => dhE x0 x1 k e * x3 (ix2 0 e)) l
/-- A row's part of the gradient of the scales. -/
def dgE (k : Fin 512) (l : Fin 1024) : EReal :=
  dhE x0 x1 k l * (x2 (ix2 k l) * Norm.rs (fun e => x2 (ix2 k e)))

/-- The entry of the stored groups. -/
theorem dx_low (t : Fin 256) (l : Fin 1024) :
    dxOf (F := Ideal) (low (dhOf (fun b j => x0 ((aRect b).toLoadRect.idx j)) (fun b j => x1 ((wRect b).toLoadRect.idx j))))
      (fun j => x2 (lowRect.toLoadRect.idx j)) (fun j => x3 (gRect.toLoadRect.idx j))
      (fun j => x4 (lowRect.toLoadRect.idx j)) (ix2 t l) = dxE x0 x1 x2 x3 x4 (rowIn 1 t) l :=
  (dxOf_at _ _ _ _ t l).trans (congrArg₂ (· + ·) (lowRect_at x4 t l)
    (congrArg₂ (fun f u => Norm.dxK f u l) (funext fun e => lowRect_at x2 t e)
      (funext fun e => congrArg₂ (· * ·) ((low_at _ t e).trans (dhOf_at x0 x1 _ e)) (g_at x3 e))))
theorem dx_top (t : Fin 256) (l : Fin 1024) :
    dxOf (F := Ideal) (top (dhOf (fun b j => x0 ((aRect b).toLoadRect.idx j)) (fun b j => x1 ((wRect b).toLoadRect.idx j))))
      (fun j => x2 (topRect.toLoadRect.idx j)) (fun j => x3 (gRect.toLoadRect.idx j))
      (fun j => x4 (topRect.toLoadRect.idx j)) (ix2 t l) = dxE x0 x1 x2 x3 x4 (rowIn 0 t) l :=
  (dxOf_at _ _ _ _ t l).trans (congrArg₂ (· + ·) (topRect_at x4 t l)
    (congrArg₂ (fun f u => Norm.dxK f u l) (funext fun e => topRect_at x2 t e)
      (funext fun e => congrArg₂ (· * ·) ((top_at _ t e).trans (dhOf_at x0 x1 _ e)) (g_at x3 e))))

/-- A point's part of the gradient of the scales. -/
def dgP (l : Fin 1024) : EReal :=
  (∑ t : Fin 256, dgE x0 x1 x2 (rowIn 0 t) l) + ∑ t : Fin 256, dgE x0 x1 x2 (rowIn 1 t) l

theorem dg_at (l : Fin 1024) :
    dgOf (F := Ideal) (dhOf (fun b j => x0 ((aRect b).toLoadRect.idx j)) (fun b j => x1 ((wRect b).toLoadRect.idx j)))
      (fun j => x2 (topRect.toLoadRect.idx j)) (fun j => x2 (lowRect.toLoadRect.idx j)) (ix2 0 l) =
      dgP x0 x1 x2 l := by
  refine congrArg₂ (· + ·) ((dg1_at _ _ l).trans (Finset.sum_congr rfl fun t _ => ?_))
    ((dg1_at _ _ l).trans (Finset.sum_congr rfl fun t _ => ?_))
  · exact congrArg₂ (· * ·) ((top_at _ t l).trans (dhOf_at x0 x1 _ l)) (congrArg₂ (· * ·) (topRect_at x2 t l)
      (congrArg Norm.rs (funext fun e => topRect_at x2 t e)))
  · exact congrArg₂ (· * ·) ((low_at _ t l).trans (dhOf_at x0 x1 _ l)) (congrArg₂ (· * ·) (lowRect_at x2 t l)
      (congrArg Norm.rs (funext fun e => lowRect_at x2 t e)))

/-- What the first point leaves in the gradient of the rows. -/
theorem left_dx_first (hc0 : cond0_0 i) (hc1 : ¬cond0_1 i) (k : Fin 512) (l : Fin 1024) :
    out0_A_5 c i arg3 harg3 arg4 harg4 arg5 harg5 arg6 harg6 arg7 harg7 arg8 harg8 arg9 harg9 arg10 harg10 hc0 hc1 x0 x1 x2 x3 x4 (ix2 k l) =
      dxE x0 x1 x2 x3 x4 k l := by
  delta out0_A_5
  refine (congrFun (View.read_writes_junk_eq_canon VO0_5 _) _).trans ?_
  rw [stores_dx_first]
  unfold dxPieces ld
  simp only [Weights.loaded]
  exact two_groups _ _ (dxE x0 x1 x2 x3 x4) (dx_low x0 x1 x2 x3 x4) (dx_top x0 x1 x2 x3 x4) k l

/-- What a later point leaves there. -/
theorem left_dx_later (hc0 : ¬cond0_0 i) (hc1 : cond0_1 i) (k : Fin 512) (l : Fin 1024) :
    out0_B_5 c i arg3 harg3 arg4 harg4 arg5 harg5 arg6 harg6 arg7 harg7 arg8 harg8 arg9 harg9 arg10 harg10 hc0 hc1 x0 x1 x2 x3 x4 xo6 (ix2 k l) =
      dxE x0 x1 x2 x3 x4 k l := by
  delta out0_B_5
  refine (congrFun (View.read_writes_junk_eq_canon VO0_5 _) _).trans ?_
  rw [stores_dx_later]
  unfold dxPieces ld
  simp only [Weights.loaded]
  exact two_groups _ _ (dxE x0 x1 x2 x3 x4) (dx_low x0 x1 x2 x3 x4) (dx_top x0 x1 x2 x3 x4) k l

/-- What the first point leaves in the gradient of the scales. -/
theorem left_dg_first (hc0 : cond0_0 i) (hc1 : ¬cond0_1 i) (l : Fin 1024) :
    out0_A_6 c i arg3 harg3 arg4 harg4 arg5 harg5 arg6 harg6 arg7 harg7 arg8 harg8 arg9 harg9 arg10 harg10 hc0 hc1 x0 x1 x2 x3 x4 (ix2 0 l) =
      dgP x0 x1 x2 l := by
  delta out0_A_6
  refine (congrFun (View.read_writes_junk_eq_canon VO0_6 _) _).trans ?_
  rw [stores_dg_first]
  unfold ld
  simp only [Weights.loaded]
  exact (Weights.under gRect _ _ (ix2 0 l) _ (under_g l)).trans (dg_at x0 x1 x2 l)

/-- What a later point leaves there. -/
theorem left_dg_later (hc0 : ¬cond0_0 i) (hc1 : cond0_1 i) (l : Fin 1024) :
    out0_B_6 c i arg3 harg3 arg4 harg4 arg5 harg5 arg6 harg6 arg7 harg7 arg8 harg8 arg9 harg9 arg10 harg10 hc0 hc1 x0 x1 x2 x3 x4 xo6 (ix2 0 l) =
      xo6 (ix2 0 l) + dgP x0 x1 x2 l := by
  delta out0_B_6
  refine (congrFun (View.read_writes_junk_eq_canon VO0_6 _) _).trans ?_
  rw [stores_dg_later]
  unfold ld
  simp only [Weights.loaded]
  refine (Weights.under gRect _ _ (ix2 0 l) _ (under_g l)).trans ?_
  unfold accOf
  rw [shapeCast_self]
  exact congrArg₂ (· + ·) (g_at xo6 l) (dg_at x0 x1 x2 l)

end

/-! ## The arrays the kernel ends with -/

section
variable (m : (ℓ : Loc nD τ sig) → Buf (Elt Ideal) ℓ) (c : Dev nD)

/-- The gradient of the projections. -/
def act (b : Fin 8) (k : Fin 4096) (r : Fin 768) : EReal :=
  (m ((c : Thread nD τ).loc main_arg0) : Vec Ideal S4096x6144 .bf16) (ix2 k (wcol b r))
/-- The weights. -/
def wt (b : Fin 8) (r : Fin 768) (l : Fin 1024) : EReal :=
  (m ((c : Thread nD τ).loc main_arg1) : Vec Ideal S8x1024x768 .bf16) (ix3 b l r)
/-- The gradient of the normalised rows. -/
def dh (k : Fin 4096) (l : Fin 1024) : EReal := ∑ b : Fin 8, ∑ r : Fin 768, act m c b k r * wt m c b r l

/-- The rows. -/
def xs (k : Fin 4096) (l : Fin 1024) : EReal :=
  (m ((c : Thread nD τ).loc main_arg2) : Vec Ideal S4096x1024 .f32) (ix2 k l)
/-- The scales of the norm. -/
def gs (l : Fin 1024) : EReal :=
  (m ((c : Thread nD τ).loc main_arg3) : Vec Ideal S1x1024 .f32) (ix2 0 l)
/-- The gradient added. -/
def rest (k : Fin 4096) (l : Fin 1024) : EReal :=
  (m ((c : Thread nD τ).loc main_arg4) : Vec Ideal S4096x1024 .f32) (ix2 k l)

/-- A point of the grid. -/
def pt (i : Fin 8) : Fin cfg0.N := ⟨i.val, lt_of_lt_of_eq (by omega) N_0.symm⟩

theorem index_0 : ∀ i : Fin 8, win0_0.index (pt i) 0 = i.val ∧ win0_0.index (pt i) 1 = 0 := by decide +kernel
theorem index_1 : ∀ i : Fin 8, win0_1.index (pt i) 0 = 0 ∧ win0_1.index (pt i) 1 = 0 ∧
    win0_1.index (pt i) 2 = 0 := by decide +kernel

theorem index_2 : ∀ i : Fin 8, win0_2.index (pt i) 0 = i.val ∧ win0_2.index (pt i) 1 = 0 := by decide +kernel
theorem index_3 : ∀ i : Fin 8, win0_3.index (pt i) 0 = 0 ∧ win0_3.index (pt i) 1 = 0 := by decide +kernel
theorem index_4 : ∀ i : Fin 8, win0_4.index (pt i) 0 = i.val ∧ win0_4.index (pt i) 1 = 0 := by decide +kernel
theorem index_5 : ∀ i : Fin 8, win0_5.index (pt i) 0 = i.val ∧ win0_5.index (pt i) 1 = 0 := by decide +kernel
theorem index_6 : ∀ i : Fin 8, win0_6.index (pt i) 0 = 0 ∧ win0_6.index (pt i) 1 = 0 := by decide +kernel

/-- The rows of the gradient of the projections at a point. -/
theorem iblk_0 (i : Fin 8) (b : Fin 8) (k : Fin 512) (r : Fin 768) :
    (iblk m c 0 (pt i) : Vec Ideal S512x6144 .bf16) (ix2 k (wcol b r)) = act m c b (tok i k) r := by
  have hi := index_0 i
  refine congrArg (m ((c : Thread nD τ).loc main_arg0)) ?_
  funext a
  apply Fin.ext
  match a with
  | ⟨0, _⟩ =>
    show win0_0.index (pt i) 0 * 512 + 1 * k.val = 512 * i.val + k.val
    rw [hi.1]; omega
  | ⟨1, _⟩ =>
    show win0_0.index (pt i) 1 * 6144 + 1 * (wcol b r).val = (wcol b r).val
    rw [hi.2]; omega

/-- The weights at a point. -/
theorem iblk_1 (i : Fin 8) (b : Fin 8) (r : Fin 768) (l : Fin 1024) :
    (iblk m c 1 (pt i) : Vec Ideal S8x1024x768 .bf16) (ix3 b l r) = wt m c b r l := by
  have hi := index_1 i
  refine congrArg (m ((c : Thread nD τ).loc main_arg1)) ?_
  funext a
  apply Fin.ext
  match a with
  | ⟨0, _⟩ =>
    show win0_1.index (pt i) 0 * 8 + 1 * b.val = b.val
    rw [hi.1]; omega
  | ⟨1, _⟩ =>
    show win0_1.index (pt i) 1 * 1024 + 1 * l.val = l.val
    rw [hi.2.1]; omega
  | ⟨2, _⟩ =>
    show win0_1.index (pt i) 2 * 768 + 1 * r.val = r.val
    rw [hi.2.2]; omega

/-- The rows at a point. -/
theorem iblk_2 (i : Fin 8) (k : Fin 512) (l : Fin 1024) :
    (iblk m c 2 (pt i) : Vec Ideal S512x1024 .f32) (ix2 k l) = xs m c (tok i k) l := by
  have hi := index_2 i
  refine congrArg (m ((c : Thread nD τ).loc main_arg2)) ?_
  funext a
  apply Fin.ext
  match a with
  | ⟨0, _⟩ =>
    show win0_2.index (pt i) 0 * 512 + 1 * k.val = 512 * i.val + k.val
    rw [hi.1]; omega
  | ⟨1, _⟩ =>
    show win0_2.index (pt i) 1 * 1024 + 1 * l.val = l.val
    rw [hi.2]; omega

/-- The scales at a point. -/
theorem iblk_3 (i : Fin 8) (l : Fin 1024) :
    (iblk m c 3 (pt i) : Vec Ideal S1x1024 .f32) (ix2 0 l) = gs m c l := by
  have hi := index_3 i
  refine congrArg (m ((c : Thread nD τ).loc main_arg3)) ?_
  funext a
  apply Fin.ext
  match a with
  | ⟨0, _⟩ =>
    show win0_3.index (pt i) 0 * 1 + 1 * 0 = 0
    rw [hi.1]
  | ⟨1, _⟩ =>
    show win0_3.index (pt i) 1 * 1024 + 1 * l.val = l.val
    rw [hi.2]; omega

/-- The gradient added, at a point. -/
theorem iblk_4 (i : Fin 8) (k : Fin 512) (l : Fin 1024) :
    (iblk m c 4 (pt i) : Vec Ideal S512x1024 .f32) (ix2 k l) = rest m c (tok i k) l := by
  have hi := index_4 i
  refine congrArg (m ((c : Thread nD τ).loc main_arg4)) ?_
  funext a
  apply Fin.ext
  match a with
  | ⟨0, _⟩ =>
    show win0_4.index (pt i) 0 * 512 + 1 * k.val = 512 * i.val + k.val
    rw [hi.1]; omega
  | ⟨1, _⟩ =>
    show win0_4.index (pt i) 1 * 1024 + 1 * l.val = l.val
    rw [hi.2]; omega

theorem dhE_pt (i : Fin 8) (k : Fin 512) (l : Fin 1024) :
    dhE (iblk m c 0 (pt i)) (iblk m c 1 (pt i)) k l = dh m c (tok i k) l :=
  Finset.sum_congr rfl fun b _ => Finset.sum_congr rfl fun r _ =>
    congrArg₂ (· * ·) (iblk_0 m c i b k r) (iblk_1 m c i b r l)

/-- The gradient of a row, of the arguments. -/
def dxA (k : Fin 4096) (l : Fin 1024) : EReal :=
  rest m c k l + Norm.dxK (xs m c k) (fun e => dh m c k e * gs m c e) l
/-- A row's part of the gradient of the scales, of the arguments. -/
def dgA (k : Fin 4096) (l : Fin 1024) : EReal := dh m c k l * (xs m c k l * Norm.rs (xs m c k))

theorem dxE_pt (i : Fin 8) (k : Fin 512) (l : Fin 1024) :
    dxE (iblk m c 0 (pt i)) (iblk m c 1 (pt i)) (iblk m c 2 (pt i)) (iblk m c 3 (pt i)) (iblk m c 4 (pt i)) k l =
      dxA m c (tok i k) l :=
  congrArg₂ (· + ·) (iblk_4 m c i k l) (congrArg₂ (fun f u => Norm.dxK f u l) (funext fun e => iblk_2 m c i k e)
    (funext fun e => congrArg₂ (· * ·) (dhE_pt m c i k e) (iblk_3 m c i e)))
theorem dgE_pt (i : Fin 8) (k : Fin 512) (l : Fin 1024) :
    dgE (iblk m c 0 (pt i)) (iblk m c 1 (pt i)) (iblk m c 2 (pt i)) k l = dgA m c (tok i k) l :=
  congrArg₂ (· * ·) (dhE_pt m c i k l) (congrArg₂ (· * ·) (iblk_2 m c i k l)
    (congrArg Norm.rs (funext fun e => iblk_2 m c i k e)))

/-- A point's part of the gradient of the scales, of the arguments. -/
def part (i : Fin 8) (l : Fin 1024) : EReal :=
  (∑ t : Fin 256, dgA m c (tok i (rowIn 0 t)) l) + ∑ t : Fin 256, dgA m c (tok i (rowIn 1 t)) l
theorem dgP_pt (i : Fin 8) (l : Fin 1024) :
    dgP (iblk m c 0 (pt i)) (iblk m c 1 (pt i)) (iblk m c 2 (pt i)) l = part m c i l :=
  congrArg₂ (· + ·) (Finset.sum_congr rfl fun t _ => dgE_pt m c i _ l) (Finset.sum_congr rfl fun t _ => dgE_pt m c i _ l)

/-- The gradient of the rows after a point. -/
theorem dx_pt (i : Fin 8) (k : Fin 512) (l : Fin 1024) :
    (outsAt0 m c (pt i).val (pt i).isLt).1 (ix2 k l) = dxA m c (tok i k) l := by
  by_cases h : i.val = 0
  · have h0 : (pt i).val % 8 = 0 := by show i.val % 8 = 0; omega
    have h1 : ¬1 ≤ (pt i).val := by show ¬1 ≤ i.val; omega
    rw [Weights.pair_one (outsAt0_A m c (pt i) h0 h1), left_dx_first, dxE_pt]
  · have h0 : ¬(pt i).val % 8 = 0 := by show ¬i.val % 8 = 0; omega
    have h1 : 1 ≤ (pt i).val := by show 1 ≤ i.val; omega
    rw [Weights.pair_one (outsAt0_B m c (pt i) h0 h1), left_dx_later, dxE_pt]

/-- The gradient of the scales after a point: the sum over the points up to it. -/
theorem dg_pt (l : Fin 1024) : ∀ (n : ℕ) (hn : n < 8),
    (outsAt0 m c (pt ⟨n, hn⟩).val (pt ⟨n, hn⟩).isLt).2 (ix2 0 l) =
      ∑ i : Fin (n + 1), part m c ⟨i.val, by omega⟩ l
  | 0, hn => by
    have h0 : (pt ⟨0, hn⟩).val % 8 = 0 := rfl
    have h1 : ¬1 ≤ (pt ⟨0, hn⟩).val := by show ¬1 ≤ 0; omega
    rw [Weights.pair_two (outsAt0_A m c (pt ⟨0, hn⟩) h0 h1), left_dg_first, dgP_pt]
    exact (Fin.sum_univ_one (M := EReal) fun i => part m c ⟨i.val, by omega⟩ l).symm
  | n + 1, hn => by
    have h0 : ¬(pt ⟨n + 1, hn⟩).val % 8 = 0 := by show ¬(n + 1) % 8 = 0; omega
    have h1 : 1 ≤ (pt ⟨n + 1, hn⟩).val := by show 1 ≤ n + 1; omega
    rw [Weights.pair_two (outsAt0_B m c (pt ⟨n + 1, hn⟩) h0 h1), left_dg_later, dgP_pt, Fin.sum_univ_castSucc]
    exact congrArg (· + part m c ⟨n + 1, hn⟩ l) (dg_pt l n (by omega))

/-- The first result at an index. -/
theorem first_at (i : Fin 8) (k : Fin 512) (l : Fin 1024) :
    ((dats m 0 c).arrAt 5 cfg0.N : Vec Ideal S4096x1024 .f32) (ix2 (tok i k) l) = dxA m c (tok i k) l := by
  have hi := index_5 i
  have hb := congrFun (Value.blocks5 m c (pt i) (flush0_5 (pt i))) (ix2 k l)
  rw [Value.flushed5, View.read_apply] at hb
  have e : (ix2 (tok i k) l : S4096x1024.Idx) = ((cfg0.win 5).blk (pt i)).view.emb (ix2 k l) := by
    funext a
    apply Fin.ext
    match a with
    | ⟨0, _⟩ =>
      show 512 * i.val + k.val = win0_5.index (pt i) 0 * 512 + 1 * k.val
      rw [hi.1]; omega
    | ⟨1, _⟩ =>
      show l.val = win0_5.index (pt i) 1 * 1024 + 1 * l.val
      rw [hi.2]; omega
  rw [e]
  exact (show _ = _ from hb).trans (dx_pt m c i k l)

/-- The second result at an index: the sum over the rows. -/
theorem second_at (l : Fin 1024) :
    ((dats m 0 c).arrAt 6 cfg0.N : Vec Ideal S1x1024 .f32) (ix2 0 l) = ∑ k, dgA m c k l := by
  have ht : ∀ t' : Fin cfg0.N, (cfg0.win 6).flush t' = true → t' = pt 7 := fun t' hf =>
    Fin.ext (by
      have h1 := (flush0_6 t').1 hf
      have h2 : t'.val < 8 := lt_of_lt_of_eq t'.isLt N_0
      show t'.val = 7
      omega)
  have hb := congrFun ((dats m 0 c).read_blk_arrAt_eq_flushed 6
    (fun t₁ t₂ h₁ h₂ hne => absurd ((ht t₁ h₁).trans (ht t₂ h₂).symm) hne) cfg0.N (pt 7) (pt 7).isLt
    ((flush0_6 (pt 7)).2 rfl)) (ix2 (0 : Fin 1) l)
  have hi := index_6 7
  rw [Value.flushed6, View.read_apply] at hb
  have e : (ix2 0 l : S1x1024.Idx) = ((cfg0.win 6).blk (pt 7)).view.emb (ix2 (0 : Fin 1) l) := by
    funext a
    apply Fin.ext
    match a with
    | ⟨0, _⟩ =>
      show 0 = win0_6.index (pt 7) 0 * 1 + 1 * 0
      rw [hi.1]
    | ⟨1, _⟩ =>
      show l.val = win0_6.index (pt 7) 1 * 1024 + 1 * l.val
      rw [hi.2]; omega
  rw [e]
  have hs : ∑ i : Fin (7 + 1), part m c ⟨i.val, by omega⟩ l = ∑ k, dgA m c k l := by
    refine Eq.trans ?_ (Norm.blocks 8 512 4096 rfl fun k => dgA m c k l)
    refine Finset.sum_congr rfl fun i _ => ?_
    refine Eq.trans ?_ (Fin.sum_univ_add (a := 256) (b := 256) _).symm
    refine congrArg₂ (· + ·) (Finset.sum_congr rfl fun t _ => congrArg (fun k => dgA m c k l) (Fin.ext ?_)) rfl
    show 512 * i.val + (256 * 0 + t.val) = 512 * i.val + t.val
    omega
  exact ((show _ = _ from hb).trans (dg_pt m c l 7 (by omega))).trans hs

end

end Cert.Dx
-- ==== Proof.DxEnds.lean ====
module

public import proofs.«01_k».proof.Proof.DhEnds
public import proofs.«01_k».proof.Proof.Dx
public import proofs.«01_k».proof.Defs
public import proofs.«01_k».proof.Proof.Gen.ReferenceDxIdeal.Run
public import Idealize.ShloMosaic.Lib.Quiescent

@[expose] public section

set_option maxRecDepth 16384
set_option maxHeartbeats 1000000

noncomputable section

namespace Cert.Dx

open Idealize.ShloMosaic Idealize.ShloMosaic.TcCoe Idealize.ShloMosaic.StableHlo Idealize.SL.Sem
open Cert.Dh (refMs refU refTail refDx refDg refMs_at refTail_at refDx_at refDg_at)
open Cert.Dh (tok)

/-! ## The kernel's results and the reference's, side by side -/

section
open Cert.ReferenceDxIdeal Cert.ReferenceDxIdeal.Gen

/-- The reference's gradient of the normalised rows. -/
def refDh (d : FVec Ideal S4096x6144 .bf16) (w : FVec Ideal S8x1024x768 .bf16) : FVec Ideal S4096x1024 .f32 :=
  Host.dotGeneral dot_S4096x6144_S1024x6144_S4096x1024_1_1_0_0_n_n none (extf .f32 d bitsLt_bf16_f32)
    (extf .f32 (shapeCast _ (transpose S1024x8x768 [1, 0, 2] w transposes_S8x1024x768_S1024x8x768_1_0_2)
      shapeCasts_S1024x8x768_S1024x6144) bitsLt_bf16_f32)

/-- The reference's gradient of the normalised rows at an index. -/
theorem refDh_at (d : FVec Ideal S4096x6144 .bf16) (w : FVec Ideal S8x1024x768 .bf16) (k : Fin 4096) (l : Fin 1024) :
    refDh d w (ix2 k l) = ∑ b : Fin 8, ∑ r : Fin 768, d (ix2 k (wcol b r)) * w (ix3 b l r) := by
  refine Eq.trans ?_ (Norm.blocks 8 768 6144 rfl fun e =>
    d (ix2 k e) * w (ix3 (⟨e.val / 768, by omega⟩ : Fin 8) l (⟨e.val % 768, by omega⟩ : Fin 768))).symm |>.trans ?_
  · pointwise [refDh]
  refine Finset.sum_congr rfl fun b _ => Finset.sum_congr rfl fun r _ => ?_
  refine congrArg₂ (· * ·) rfl (congrArg w ?_)
  funext a
  match a with
  | ⟨0, _⟩ => exact Fin.ext (by show (768 * b.val + r.val) / 768 = b.val; omega)
  | ⟨1, _⟩ => rfl
  | ⟨2, _⟩ => exact Fin.ext (by show (768 * b.val + r.val) % 768 = r.val; omega)

end

variable (m : (ℓ : Loc Cert.KernelDxIdeal.nD Cert.KernelDxIdeal.τ Cert.KernelDxIdeal.sig) → Buf (Elt Ideal) ℓ)
  (c : Dev Cert.KernelDxIdeal.nD)

/-- The arguments, by name. -/
abbrev a0 := m ((c : Thread Cert.KernelDxIdeal.nD Cert.KernelDxIdeal.τ).loc Cert.KernelDxIdeal.main_arg0)
abbrev a1 := m ((c : Thread Cert.KernelDxIdeal.nD Cert.KernelDxIdeal.τ).loc Cert.KernelDxIdeal.main_arg1)
abbrev a2 := m ((c : Thread Cert.KernelDxIdeal.nD Cert.KernelDxIdeal.τ).loc Cert.KernelDxIdeal.main_arg2)
abbrev a3 := m ((c : Thread Cert.KernelDxIdeal.nD Cert.KernelDxIdeal.τ).loc Cert.KernelDxIdeal.main_arg3)
abbrev a4 := m ((c : Thread Cert.KernelDxIdeal.nD Cert.KernelDxIdeal.τ).loc Cert.KernelDxIdeal.main_arg4)

/-- The kernel's first result is what the reference computes. -/
theorem same_dx : refDx (refDh (a0 m c) (a1 m c)) (a2 m c) (a3 m c) (a4 m c) =
      ((Cert.KernelDxIdeal.Gen.dats m 0 c).arrAt 5 Cert.KernelDxIdeal.cfg0.N :
        Vec Ideal Cert.KernelDxIdeal.S4096x1024 .f32) := by
  funext j
  have hj : (j 0).val < 4096 := (j 0).isLt
  obtain ⟨i, k, l, rfl⟩ : ∃ (i : Fin 8) (k : Fin 512) (l : Fin 1024), j = ix2 (tok i k) l := by
    refine ⟨⟨(j 0).val / 512, by omega⟩, ⟨(j 0).val % 512, by omega⟩, j 1, ?_⟩
    funext a
    match a with
    | ⟨0, _⟩ => exact Fin.ext (by show (j 0).val = 512 * ((j 0).val / 512) + (j 0).val % 512; omega)
    | ⟨1, _⟩ => rfl
  refine (refDx_at _ _ _ _ _ _).trans ?_
  rw [first_at m c i k l, Norm.dx_eq]
  exact congrArg (fun u => rest m c (tok i k) l + Norm.dxK (xs m c (tok i k)) u l)
    (funext fun e => congrArg (· * gs m c e) (refDh_at _ _ _ _))

/-- The kernel's second result is what the reference computes. -/
theorem same_dg : refDg (refDh (a0 m c) (a1 m c)) (a2 m c) =
      ((Cert.KernelDxIdeal.Gen.dats m 0 c).arrAt 6 Cert.KernelDxIdeal.cfg0.N :
        Vec Ideal Cert.KernelDxIdeal.S1x1024 .f32) := by
  funext j
  obtain ⟨l, rfl⟩ : ∃ l : Fin 1024, j = ix2 0 l := by
    refine ⟨j 1, ?_⟩
    funext a
    match a with
    | ⟨0, _⟩ => exact Fin.ext (by have h : (j 0).val < 1 := (j 0).isLt; show (j 0).val = 0; omega)
    | ⟨1, _⟩ => rfl
  refine (refDg_at _ _ _).trans ?_
  rw [second_at m c l]
  refine Finset.sum_congr rfl fun k _ => ?_
  rw [mul_comm]
  exact congrArg (· * (xs m c k l * Norm.rs (xs m c k))) (refDh_at _ _ _ _)

/-- The kernel and the reference end with equal results. -/
theorem equal_ends : Cert.algebraic_KernelDxIdeal_ReferenceDxIdeal
    (hKernelDxIdeal := Cert.KernelDxIdeal.Gen.facts)
    (hReferenceDxIdeal := Cert.ReferenceDxIdeal.Gen.facts) := by
  intro m g m' g' _ hagree
  refine ⟨_, _, Cert.KernelDxIdeal.Value.run_blocks m g, ?_⟩
  refine (θ_run Cert.ReferenceDxIdeal.defs _ _).mono (fun r h c => ?_)
    (Cert.ReferenceDxIdeal.Value.run (F := Ideal) m' g')
  refine ⟨(h c).1.trans ?_, (h c).2.1.trans ?_, (h c).2.2⟩
  · unfold Cert.ReferenceDxIdeal.Value.res_main_v40
    rw [(hagree c).1, (hagree c).2.1, (hagree c).2.2.1, (hagree c).2.2.2.1, (hagree c).2.2.2.2]
    exact same_dx m c
  · rw [(hagree c).1, (hagree c).2.1, (hagree c).2.2.1]
    exact same_dg m c

/-- The reference ends with its arguments unchanged. -/
theorem reference_ends : Cert.quiescent_ReferenceDxIdeal
    (hReferenceDxIdeal := Cert.ReferenceDxIdeal.Gen.facts) := fun m ρ _ =>
  (θ_run Cert.ReferenceDxIdeal.defs _ _).mono (fun r h => ⟨fun c => (h c).2.2,
      Idealize.ShloMosaic.sem_eq_zero_of_no_sems (by decide) r.2⟩)
    (Cert.ReferenceDxIdeal.Value.run (F := Ideal) m ρ)

end Cert.Dx
-- ==== Proof.Dout.lean ====
module

public import proofs.«01_k».proof.Proof.Weights
public import proofs.«01_k».proof.Proof.Gen.KernelDoutIdeal.Value

@[expose] public section

set_option maxRecDepth 16384
set_option maxHeartbeats 1000000

noncomputable section

namespace Cert.Dout

open Cert.KernelDoutIdeal Cert.KernelDoutIdeal.Gen Idealize.ShloMosaic Idealize.ShloMosaic.TcCoe
  Idealize.SL.Sem

/-! ## What the kernel stores at a point, entry by entry -/

/-- The rectangle of a whole block. -/
abbrev tile : Rect S1024x1024 :=
  Rect.unit (s := S1024x1024) ![0, 0] S1024x1024.size inb_S1024x1024_S1024x1024_0_0

section
variable {F : FTy → Type} [FloatOps F]
variable (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1x1024x1024 .f32) (harg6 : arg6.IsWhole)
  (x0 : Vec F S1024x1024 .f32) (x1 : Vec F S1024x1024 .bf16)

/-- What a point stores in the output. -/
theorem stores :
    (kernelRun0_A c i arg3 harg3 arg4 harg4 arg5 harg5 arg6 harg6 x0 x1).1 =
      [⟨tile, k0_pay1 (View.readAt (Elt F) arg3.view tile.toLoadRect (harg3.unread x0))
          (View.readAt (Elt F) arg4.view tile.toLoadRect (harg4.unread x1))⟩] := rfl

end

section
variable (x0 : Vec Ideal S1024x1024 .f32) (x1 : Vec Ideal S1024x1024 .bf16)

/-- A whole block at an index. -/
theorem tile_at (r k : Fin 1024) : tile.toLoadRect.idx (ix2 r k) = ix2 r k := by
  funext a
  match a with
  | ⟨0, _⟩ | ⟨1, _⟩ => exact Fin.ext (by simp [Rect.idx_unit_val, LoadRect.idx, Rect.toLoadRect, Rect.unit, ix2])

/-- The product of a block of rows with a block of the weights. -/
theorem pay1_at (v0 : Vec Ideal S1024x1024 .f32) (v2 : Vec Ideal S1024x1024 .bf16) (r l : Fin 1024) :
    k0_pay1 v0 v2 (ix2 r l) = ∑ k, v0 (ix2 r k) * v2 (ix2 l k) := by
  pointwise [k0_pay1]

variable (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1x1024x1024 .f32) (harg6 : arg6.IsWhole)

/-- What a point leaves in the output. -/
theorem left (r l : Fin 1024) :
    out0_A_2 c i arg3 harg3 arg4 harg4 arg5 harg5 arg6 harg6 x0 x1 (ix2 r l) =
      ∑ k, x0 (ix2 r k) * x1 (ix2 l k) := by
  delta out0_A_2
  refine (congrFun (View.read_writes_junk_eq_canon VO0_2 _) _).trans ?_
  rw [stores]
  refine (Weights.under tile _ _ (ix2 r l) _ ?_).trans ?_
  · funext a
    match a with
    | ⟨0, _⟩ | ⟨1, _⟩ => exact Fin.ext (by simp [Rect.emb, Rect.idx_unit_val, Rect.unit, ix2])
  · rw [pay1_at, Weights.loaded, Weights.loaded]
    exact Finset.sum_congr rfl fun k _ =>
      congrArg₂ (· * ·) (congrArg x0 (tile_at r k)) (congrArg x1 (tile_at l k))

end

/-! ## The array the kernel ends with -/

section
variable (m : (ℓ : Loc nD τ sig) → Buf (Elt Ideal) ℓ) (c : Dev nD)

/-- The gradient of the rows. -/
def dx (r : Fin 4096) (k : Fin 1024) : EReal :=
  (m ((c : Thread nD τ).loc main_arg0) : Vec Ideal S4096x1024 .f32) (ix2 r k)
/-- The weights. -/
def w (l : Fin 2048) (k : Fin 1024) : EReal :=
  (m ((c : Thread nD τ).loc main_arg1) : Vec Ideal S2048x1024 .bf16) (ix2 l k)

/-- A row of the result. -/
def row (i : Fin 4) (r : Fin 1024) : Fin 4096 := ⟨1024 * i.val + r.val, by omega⟩
/-- A column of the result. -/
def col (j : Fin 2) (l : Fin 1024) : Fin 2048 := ⟨1024 * j.val + l.val, by omega⟩
/-- A point of the grid. -/
def pt (i : Fin 4) (j : Fin 2) : Fin cfg0.N := ⟨2 * i.val + j.val, lt_of_lt_of_eq (by omega) N_0.symm⟩

theorem index_0 : ∀ (i : Fin 4) (j : Fin 2), win0_0.index (pt i j) 0 = i.val ∧
    win0_0.index (pt i j) 1 = 0 := by decide +kernel
theorem index_1 : ∀ (i : Fin 4) (j : Fin 2), win0_1.index (pt i j) 0 = j.val ∧
    win0_1.index (pt i j) 1 = 0 := by decide +kernel
theorem index_2 : ∀ (i : Fin 4) (j : Fin 2), win0_2.index (pt i j) 0 = i.val ∧
    win0_2.index (pt i j) 1 = j.val := by decide +kernel

/-- The block of the gradient at a point. -/
theorem iblk_0 (i : Fin 4) (j : Fin 2) (r k : Fin 1024) :
    (iblk m c 0 (pt i j) : Vec Ideal S1024x1024 .f32) (ix2 r k) = dx m c (row i r) k := by
  have hi := index_0 i j
  refine congrArg (m ((c : Thread nD τ).loc main_arg0)) ?_
  funext a
  apply Fin.ext
  match a with
  | ⟨0, _⟩ =>
    show win0_0.index (pt i j) 0 * 1024 + 1 * r.val = 1024 * i.val + r.val
    rw [hi.1]; omega
  | ⟨1, _⟩ =>
    show win0_0.index (pt i j) 1 * 1024 + 1 * k.val = k.val
    rw [hi.2]; omega

/-- The block of the weights at a point. -/
theorem iblk_1 (i : Fin 4) (j : Fin 2) (l k : Fin 1024) :
    (iblk m c 1 (pt i j) : Vec Ideal S1024x1024 .bf16) (ix2 l k) = w m c (col j l) k := by
  have hi := index_1 i j
  refine congrArg (m ((c : Thread nD τ).loc main_arg1)) ?_
  funext a
  apply Fin.ext
  match a with
  | ⟨0, _⟩ =>
    show win0_1.index (pt i j) 0 * 1024 + 1 * l.val = 1024 * j.val + l.val
    rw [hi.1]; omega
  | ⟨1, _⟩ =>
    show win0_1.index (pt i j) 1 * 1024 + 1 * k.val = k.val
    rw [hi.2]; omega

/-- The output after a point. -/
theorem left_pt (i : Fin 4) (j : Fin 2) (r l : Fin 1024) :
    outsAt0 m c (pt i j) (ix2 r l) = ∑ k, dx m c (row i r) k * w m c (col j l) k := by
  unfold outsAt0
  rw [left]
  exact Finset.sum_congr rfl fun k _ => congrArg₂ (· * ·) (iblk_0 m c i j r k) (iblk_1 m c i j l k)

/-- The result at an index. -/
theorem result_at (i : Fin 4) (j : Fin 2) (r l : Fin 1024) :
    ((dats m 0 c).arrAt 2 cfg0.N : Vec Ideal S4096x2048 .f32) (ix2 (row i r) (col j l)) =
      ∑ k, dx m c (row i r) k * w m c (col j l) k := by
  have hi := index_2 i j
  have hb := congrFun (Value.blocks2 m c (pt i j) (flush0_2 (pt i j))) (ix2 r l)
  rw [Value.flushed2, View.read_apply] at hb
  have e : (ix2 (row i r) (col j l) : S4096x2048.Idx) = ((cfg0.win 2).blk (pt i j)).view.emb (ix2 r l) := by
    funext a
    apply Fin.ext
    match a with
    | ⟨0, _⟩ =>
      show 1024 * i.val + r.val = win0_2.index (pt i j) 0 * 1024 + 1 * r.val
      rw [hi.1]; omega
    | ⟨1, _⟩ =>
      show 1024 * j.val + l.val = win0_2.index (pt i j) 1 * 1024 + 1 * l.val
      rw [hi.2]; omega
  rw [e]
  exact (show _ = _ from hb).trans (left_pt m c i j r l)

end

end Cert.Dout
-- ==== Proof.DoutEnds.lean ====
module

public import proofs.«01_k».proof.Proof.Dout
public import proofs.«01_k».proof.Defs
public import proofs.«01_k».proof.Proof.Gen.ReferenceDoutIdeal.Run
public import Idealize.ShloMosaic.Lib.Quiescent

@[expose] public section

set_option maxRecDepth 16384
set_option maxHeartbeats 1000000

noncomputable section

namespace Cert.Dout

open Idealize.ShloMosaic Idealize.ShloMosaic.TcCoe Idealize.ShloMosaic.StableHlo Idealize.SL.Sem

/-! ## The kernel's result and the reference's, side by side -/

open Cert.ReferenceDoutIdeal Cert.ReferenceDoutIdeal.Gen in
/-- What the reference computes. -/
def refOut (d : FVec Ideal S4096x1024 .f32) (w : FVec Ideal S2048x1024 .bf16) :
    FVec Ideal S4096x2048 .f32 :=
  Host.dotGeneral dot_S4096x1024_S2048x1024_S4096x2048_1_1_0_0_n_n none d (extf .f32 w bitsLt_bf16_f32)

/-- The reference at an index. -/
theorem ref_at (d : FVec Ideal Cert.ReferenceDoutIdeal.S4096x1024 .f32)
    (w : FVec Ideal Cert.ReferenceDoutIdeal.S2048x1024 .bf16) (r : Fin 4096) (l : Fin 2048) :
    refOut d w (ix2 r l) = ∑ k : Fin 1024, d (ix2 r k) * w (ix2 l k) := by
  pointwise [refOut]

variable (m : (ℓ : Loc Cert.KernelDoutIdeal.nD Cert.KernelDoutIdeal.τ Cert.KernelDoutIdeal.sig) → Buf (Elt Ideal) ℓ)
  (c : Dev Cert.KernelDoutIdeal.nD)

/-- The kernel's result is what the reference computes. -/
theorem same : refOut (m ((c : Thread Cert.KernelDoutIdeal.nD Cert.KernelDoutIdeal.τ).loc Cert.KernelDoutIdeal.main_arg0))
    (m ((c : Thread Cert.KernelDoutIdeal.nD Cert.KernelDoutIdeal.τ).loc Cert.KernelDoutIdeal.main_arg1)) =
      ((Cert.KernelDoutIdeal.Gen.dats m 0 c).arrAt 2 Cert.KernelDoutIdeal.cfg0.N :
        Vec Ideal Cert.KernelDoutIdeal.S4096x2048 .f32) := by
  funext y
  have h0 : (y 0).val < 4096 := (y 0).isLt
  have h1 : (y 1).val < 2048 := (y 1).isLt
  obtain ⟨i, j, r, l, rfl⟩ : ∃ (i : Fin 4) (j : Fin 2) (r l : Fin 1024), y = ix2 (row i r) (col j l) := by
    refine ⟨⟨(y 0).val / 1024, by omega⟩, ⟨(y 1).val / 1024, by omega⟩, ⟨(y 0).val % 1024, by omega⟩,
      ⟨(y 1).val % 1024, by omega⟩, ?_⟩
    funext a
    match a with
    | ⟨0, _⟩ =>
      exact Fin.ext (by show (y 0).val = 1024 * ((y 0).val / 1024) + (y 0).val % 1024; omega)
    | ⟨1, _⟩ =>
      exact Fin.ext (by show (y 1).val = 1024 * ((y 1).val / 1024) + (y 1).val % 1024; omega)
  refine (ref_at _ _ _ _).trans ?_
  rw [result_at m c i j r l]
  rfl

/-- The kernel and the reference end with equal results. -/
theorem equal_ends : Cert.algebraic_KernelDoutIdeal_ReferenceDoutIdeal
    (hKernelDoutIdeal := Cert.KernelDoutIdeal.Gen.facts)
    (hReferenceDoutIdeal := Cert.ReferenceDoutIdeal.Gen.facts) := by
  intro m g m' g' _ hagree
  refine ⟨_, Cert.KernelDoutIdeal.Value.run_blocks m g, ?_⟩
  refine (θ_run Cert.ReferenceDoutIdeal.defs _ _).mono (fun r h c => ?_)
    (Cert.ReferenceDoutIdeal.Value.run (F := Ideal) m' g')
  refine ⟨(h c).1.trans ?_, (h c).2⟩
  rw [(hagree c).1, (hagree c).2]
  exact same m c

/-- The reference ends with its arguments unchanged. -/
theorem reference_ends : Cert.quiescent_ReferenceDoutIdeal
    (hReferenceDoutIdeal := Cert.ReferenceDoutIdeal.Gen.facts) := fun m ρ _ =>
  (θ_run Cert.ReferenceDoutIdeal.defs _ _).mono (fun r h => ⟨fun c => (h c).2,
      Idealize.ShloMosaic.sem_eq_zero_of_no_sems (by decide) r.2⟩)
    (Cert.ReferenceDoutIdeal.Value.run (F := Ideal) m ρ)

end Cert.Dout
-- ==== Proof.Datt.lean ====
module

public import proofs.«01_k».proof.Proof.Dout
public import proofs.«01_k».proof.Proof.Gen.KernelDattIdeal.Value

@[expose] public section

set_option maxRecDepth 16384
set_option maxHeartbeats 1000000

noncomputable section

namespace Cert.Datt

open Cert.KernelDattIdeal Cert.KernelDattIdeal.Gen Idealize.ShloMosaic Idealize.ShloMosaic.TcCoe
  Idealize.SL.Sem
open Cert.Dout (tile tile_at pay1_at row)

/-! ## What the kernel stores at a point, entry by entry -/

section
variable {F : FTy → Type} [FloatOps F]
variable (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .f32) (harg6 : arg6.IsWhole)
  (x0 : Vec F S1024x1024 .f32) (x1 : Vec F S1024x1024 .bf16)

/-- What a point stores in the output. -/
theorem stores :
    (kernelRun0_A c i arg3 harg3 arg4 harg4 arg5 harg5 arg6 harg6 x0 x1).1 =
      [⟨tile, k0_pay1 (View.readAt (Elt F) arg3.view tile.toLoadRect (harg3.unread x0))
          (View.readAt (Elt F) arg4.view tile.toLoadRect (harg4.unread x1))⟩] := rfl

end

section
variable (x0 : Vec Ideal S1024x1024 .f32) (x1 : Vec Ideal S1024x1024 .bf16)

variable (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1x1024x1024 .f32) (harg6 : arg6.IsWhole)

/-- What a point leaves in the output. -/
theorem left (r l : Fin 1024) :
    out0_A_2 c i arg3 harg3 arg4 harg4 arg5 harg5 arg6 harg6 x0 x1 (ix2 r l) =
      ∑ k, x0 (ix2 r k) * x1 (ix2 l k) := by
  delta out0_A_2
  refine (congrFun (View.read_writes_junk_eq_canon VO0_2 _) _).trans ?_
  rw [stores]
  refine (Weights.under tile _ _ (ix2 r l) _ ?_).trans ?_
  · funext a
    match a with
    | ⟨0, _⟩ | ⟨1, _⟩ => exact Fin.ext (by simp [Rect.emb, Rect.idx_unit_val, Rect.unit, ix2])
  · refine (pay1_at _ _ r l).trans ?_
    rw [Weights.loaded, Weights.loaded]
    exact Finset.sum_congr rfl fun k _ =>
      congrArg₂ (· * ·) (congrArg x0 (tile_at r k)) (congrArg x1 (tile_at l k))

end

/-! ## The array the kernel ends with -/

section
variable (m : (ℓ : Loc nD τ sig) → Buf (Elt Ideal) ℓ) (c : Dev nD)

/-- The gradient of the rows. -/
def dx (r : Fin 4096) (k : Fin 1024) : EReal :=
  (m ((c : Thread nD τ).loc main_arg0) : Vec Ideal S4096x1024 .f32) (ix2 r k)
/-- The weights. -/
def w (l : Fin 1024) (k : Fin 1024) : EReal :=
  (m ((c : Thread nD τ).loc main_arg1) : Vec Ideal S1024x1024 .bf16) (ix2 l k)

/-- A column of the result. -/
def col (j : Fin 1) (l : Fin 1024) : Fin 1024 := ⟨1024 * j.val + l.val, by omega⟩
/-- A point of the grid. -/
def pt (i : Fin 4) (j : Fin 1) : Fin cfg0.N := ⟨1 * i.val + j.val, lt_of_lt_of_eq (by omega) N_0.symm⟩

theorem index_0 : ∀ (i : Fin 4) (j : Fin 1), win0_0.index (pt i j) 0 = i.val ∧
    win0_0.index (pt i j) 1 = 0 := by decide +kernel
theorem index_1 : ∀ (i : Fin 4) (j : Fin 1), win0_1.index (pt i j) 0 = j.val ∧
    win0_1.index (pt i j) 1 = 0 := by decide +kernel
theorem index_2 : ∀ (i : Fin 4) (j : Fin 1), win0_2.index (pt i j) 0 = i.val ∧
    win0_2.index (pt i j) 1 = j.val := by decide +kernel

/-- The block of the gradient at a point. -/
theorem iblk_0 (i : Fin 4) (j : Fin 1) (r k : Fin 1024) :
    (iblk m c 0 (pt i j) : Vec Ideal S1024x1024 .f32) (ix2 r k) = dx m c (row i r) k := by
  have hi := index_0 i j
  refine congrArg (m ((c : Thread nD τ).loc main_arg0)) ?_
  funext a
  apply Fin.ext
  match a with
  | ⟨0, _⟩ =>
    show win0_0.index (pt i j) 0 * 1024 + 1 * r.val = 1024 * i.val + r.val
    rw [hi.1]; omega
  | ⟨1, _⟩ =>
    show win0_0.index (pt i j) 1 * 1024 + 1 * k.val = k.val
    rw [hi.2]; omega

/-- The block of the weights at a point. -/
theorem iblk_1 (i : Fin 4) (j : Fin 1) (l k : Fin 1024) :
    (iblk m c 1 (pt i j) : Vec Ideal S1024x1024 .bf16) (ix2 l k) = w m c (col j l) k := by
  have hi := index_1 i j
  refine congrArg (m ((c : Thread nD τ).loc main_arg1)) ?_
  funext a
  apply Fin.ext
  match a with
  | ⟨0, _⟩ =>
    show win0_1.index (pt i j) 0 * 1024 + 1 * l.val = 1024 * j.val + l.val
    rw [hi.1]; omega
  | ⟨1, _⟩ =>
    show win0_1.index (pt i j) 1 * 1024 + 1 * k.val = k.val
    rw [hi.2]; omega

/-- The output after a point. -/
theorem left_pt (i : Fin 4) (j : Fin 1) (r l : Fin 1024) :
    outsAt0 m c (pt i j) (ix2 r l) = ∑ k, dx m c (row i r) k * w m c (col j l) k := by
  unfold outsAt0
  rw [left]
  exact Finset.sum_congr rfl fun k _ => congrArg₂ (· * ·) (iblk_0 m c i j r k) (iblk_1 m c i j l k)

/-- The result at an index. -/
theorem result_at (i : Fin 4) (j : Fin 1) (r l : Fin 1024) :
    ((dats m 0 c).arrAt 2 cfg0.N : Vec Ideal S4096x1024 .bf16) (ix2 (row i r) (col j l)) =
      ∑ k, dx m c (row i r) k * w m c (col j l) k := by
  have hi := index_2 i j
  have hb := congrFun (Value.blocks2 m c (pt i j) (flush0_2 (pt i j))) (ix2 r l)
  rw [Value.flushed2, View.read_apply] at hb
  have e : (ix2 (row i r) (col j l) : S4096x1024.Idx) = ((cfg0.win 2).blk (pt i j)).view.emb (ix2 r l) := by
    funext a
    apply Fin.ext
    match a with
    | ⟨0, _⟩ =>
      show 1024 * i.val + r.val = win0_2.index (pt i j) 0 * 1024 + 1 * r.val
      rw [hi.1]; omega
    | ⟨1, _⟩ =>
      show 1024 * j.val + l.val = win0_2.index (pt i j) 1 * 1024 + 1 * l.val
      rw [hi.2]; omega
  rw [e]
  exact (show _ = _ from hb).trans (left_pt m c i j r l)

end

end Cert.Datt
-- ==== Proof.DattEnds.lean ====
module

public import proofs.«01_k».proof.Proof.Datt
public import proofs.«01_k».proof.Defs
public import proofs.«01_k».proof.Proof.Gen.ReferenceDattIdeal.Run
public import Idealize.ShloMosaic.Lib.Quiescent

@[expose] public section

set_option maxRecDepth 16384
set_option maxHeartbeats 1000000

noncomputable section

namespace Cert.Datt

open Idealize.ShloMosaic Idealize.ShloMosaic.TcCoe Idealize.ShloMosaic.StableHlo Idealize.SL.Sem
open Cert.Dout (row)

/-! ## The kernel's result and the reference's, side by side -/

open Cert.ReferenceDattIdeal Cert.ReferenceDattIdeal.Gen in
/-- What the reference computes. -/
def refOut (d : FVec Ideal S4096x1024 .f32) (w : FVec Ideal S1024x1024 .bf16) :
    FVec Ideal S4096x1024 .bf16 :=
  truncf .bf16 (Host.dotGeneral dot_S4096x1024_S1024x1024_S4096x1024_1_1_0_0_n_n none d (extf .f32 w bitsLt_bf16_f32)) bitsLt_bf16_f32

/-- The reference at an index. -/
theorem ref_at (d : FVec Ideal Cert.ReferenceDattIdeal.S4096x1024 .f32)
    (w : FVec Ideal Cert.ReferenceDattIdeal.S1024x1024 .bf16) (r : Fin 4096) (l : Fin 1024) :
    refOut d w (ix2 r l) = ∑ k : Fin 1024, d (ix2 r k) * w (ix2 l k) := by
  pointwise [refOut]

variable (m : (ℓ : Loc Cert.KernelDattIdeal.nD Cert.KernelDattIdeal.τ Cert.KernelDattIdeal.sig) → Buf (Elt Ideal) ℓ)
  (c : Dev Cert.KernelDattIdeal.nD)

/-- The kernel's result is what the reference computes. -/
theorem same : refOut (m ((c : Thread Cert.KernelDattIdeal.nD Cert.KernelDattIdeal.τ).loc Cert.KernelDattIdeal.main_arg0))
    (m ((c : Thread Cert.KernelDattIdeal.nD Cert.KernelDattIdeal.τ).loc Cert.KernelDattIdeal.main_arg1)) =
      ((Cert.KernelDattIdeal.Gen.dats m 0 c).arrAt 2 Cert.KernelDattIdeal.cfg0.N :
        Vec Ideal Cert.KernelDattIdeal.S4096x1024 .bf16) := by
  funext y
  have h0 : (y 0).val < 4096 := (y 0).isLt
  have h1 : (y 1).val < 1024 := (y 1).isLt
  obtain ⟨i, j, r, l, rfl⟩ : ∃ (i : Fin 4) (j : Fin 1) (r l : Fin 1024), y = ix2 (row i r) (col j l) := by
    refine ⟨⟨(y 0).val / 1024, by omega⟩, ⟨(y 1).val / 1024, by omega⟩, ⟨(y 0).val % 1024, by omega⟩,
      ⟨(y 1).val % 1024, by omega⟩, ?_⟩
    funext a
    match a with
    | ⟨0, _⟩ =>
      exact Fin.ext (by show (y 0).val = 1024 * ((y 0).val / 1024) + (y 0).val % 1024; omega)
    | ⟨1, _⟩ =>
      exact Fin.ext (by show (y 1).val = 1024 * ((y 1).val / 1024) + (y 1).val % 1024; omega)
  refine (ref_at _ _ _ _).trans ?_
  rw [result_at m c i j r l]
  rfl

/-- The kernel and the reference end with equal results. -/
theorem equal_ends : Cert.algebraic_KernelDattIdeal_ReferenceDattIdeal
    (hKernelDattIdeal := Cert.KernelDattIdeal.Gen.facts)
    (hReferenceDattIdeal := Cert.ReferenceDattIdeal.Gen.facts) := by
  intro m g m' g' _ hagree
  refine ⟨_, Cert.KernelDattIdeal.Value.run_blocks m g, ?_⟩
  refine (θ_run Cert.ReferenceDattIdeal.defs _ _).mono (fun r h c => ?_)
    (Cert.ReferenceDattIdeal.Value.run (F := Ideal) m' g')
  refine ⟨(h c).1.trans ?_, (h c).2⟩
  rw [(hagree c).1, (hagree c).2]
  exact same m c

/-- The reference ends with its arguments unchanged. -/
theorem reference_ends : Cert.quiescent_ReferenceDattIdeal
    (hReferenceDattIdeal := Cert.ReferenceDattIdeal.Gen.facts) := fun m ρ _ =>
  (θ_run Cert.ReferenceDattIdeal.defs _ _).mono (fun r h => ⟨fun c => (h c).2,
      Idealize.ShloMosaic.sem_eq_zero_of_no_sems (by decide) r.2⟩)
    (Cert.ReferenceDattIdeal.Value.run (F := Ideal) m ρ)

end Cert.Datt
-- ==== Proof.Out.lean ====
module

public import proofs.«01_k».proof.Proof.Weights
public import proofs.«01_k».proof.Proof.Gen.KernelOutIdeal.Value

@[expose] public section

set_option maxRecDepth 16384
set_option maxHeartbeats 1000000

noncomputable section

namespace Cert.Out

open Cert.KernelOutIdeal Cert.KernelOutIdeal.Gen Idealize.ShloMosaic Idealize.ShloMosaic.TcCoe
  Idealize.SL.Sem

/-! ## What the kernel stores at a point, entry by entry -/

/-- The rectangle of the whole of a half of the tokens. -/
abbrev tile : Rect S2048x1024 :=
  Rect.unit (s := S2048x1024) ![0, 0] S2048x1024.size inb_S2048x1024_S2048x1024_0_0
/-- The rectangle of the whole accumulator. -/
abbrev accRect : Rect S1x1024x1024 :=
  Rect.unit (s := S1x1024x1024) ![0, 0, 0] S1x1024x1024.size inb_S1x1024x1024_S1x1024x1024_0_0_0
/-- The rectangle of the whole of an output block. -/
abbrev outRect : Rect S1024x1024 :=
  Rect.unit (s := S1024x1024) ![0, 0] S1024x1024.size inb_S1024x1024_S1024x1024_0_0

section
variable {F : FTy → Type} [FloatOps F]
variable (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1x1024x1024 .f32) (harg6 : arg6.IsWhole)
  (x0 : Vec F S2048x1024 .bf16) (x1 : Vec F S2048x1024 .f32) (xs0 : Vec F S1x1024x1024 .f32)

/-- What the first point of a block of rows stores in the accumulator. -/
theorem stores_first (hc0 : cond0_0 i) (hc1 : ¬cond0_1 i) (hc2 : ¬cond0_2 i) :
    (kernelRun0_A c i arg3 harg3 arg4 harg4 arg5 harg5 arg6 harg6 hc0 hc1 hc2 x0 x1).2.1 =
      [⟨accRect, k0_pay2 (View.readAt (Elt F) arg3.view tile.toLoadRect (harg3.unread x0))
          (View.readAt (Elt F) arg4.view tile.toLoadRect (harg4.unread x1))⟩] := rfl

/-- What the second point of a block of rows stores in the output. -/
theorem stores_second (hc0 : ¬cond0_0 i) (hc1 : ¬cond0_1 i) (hc2 : cond0_2 i) :
    (kernelRun0_B c i arg3 harg3 arg4 harg4 arg5 harg5 arg6 harg6 hc0 hc1 hc2 x0 x1 xs0).1 =
      [⟨outRect, k0_pay4 (View.readAt (Elt F) arg3.view tile.toLoadRect (harg3.unread x0))
          (View.readAt (Elt F) arg4.view tile.toLoadRect (harg4.unread x1))
          (View.readAt (Elt F) arg6.view accRect.toLoadRect (harg6.unread xs0))⟩] := rfl

end

section
variable (x0 : Vec Ideal S2048x1024 .bf16) (x1 : Vec Ideal S2048x1024 .f32)
  (xs0 : Vec Ideal S1x1024x1024 .f32)

/-- A half of the tokens at an index. -/
theorem tile_at (k : Fin 2048) (r : Fin 1024) : tile.toLoadRect.idx (ix2 k r) = ix2 k r := by
  funext a
  match a with
  | ⟨0, _⟩ | ⟨1, _⟩ => exact Fin.ext (by simp [Rect.idx_unit_val, LoadRect.idx, Rect.toLoadRect, Rect.unit, ix2])

/-- The accumulator at an index. -/
theorem acc_at (r l : Fin 1024) : accRect.toLoadRect.idx (ix3 0 r l) = ix3 0 r l := by
  funext a
  match a with
  | ⟨0, _⟩ | ⟨1, _⟩ | ⟨2, _⟩ => exact Fin.ext (by simp [Rect.idx_unit_val, LoadRect.idx, Rect.toLoadRect, Rect.unit, ix3])

/-- The product of the first half of the tokens. -/
theorem pay2_at (v0 : Vec Ideal S2048x1024 .bf16) (v1 : Vec Ideal S2048x1024 .f32) (r l : Fin 1024) :
    k0_pay2 v0 v1 (ix3 0 r l) = ∑ k, v0 (ix2 k r) * v1 (ix2 k l) := by
  pointwise [k0_pay2, k0_pay1]
/-- The product of the second half of the tokens, added to the first. -/
theorem pay4_at (v0 : Vec Ideal S2048x1024 .bf16) (v1 : Vec Ideal S2048x1024 .f32)
    (v : Vec Ideal S1x1024x1024 .f32) (r l : Fin 1024) :
    k0_pay4 v0 v1 v (ix2 r l) = v (ix3 0 r l) + ∑ k, v0 (ix2 k r) * v1 (ix2 k l) := by
  pointwise [k0_pay4, k0_pay1]

/-- The product over half of the tokens. -/
def half (r l : Fin 1024) : EReal := ∑ k, x0 (ix2 k r) * x1 (ix2 k l)

theorem half_eq (r l : Fin 1024) :
    ∑ k, x0 (tile.toLoadRect.idx (ix2 k r)) * x1 (tile.toLoadRect.idx (ix2 k l)) = half x0 x1 r l :=
  Finset.sum_congr rfl fun k _ =>
    congrArg₂ (· * ·) (congrArg x0 (tile_at k r)) (congrArg x1 (tile_at k l))

variable (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1x1024x1024 .f32) (harg6 : arg6.IsWhole)

/-- What the first point leaves in the accumulator. -/
theorem left_first (hc0 : cond0_0 i) (hc1 : ¬cond0_1 i) (hc2 : ¬cond0_2 i) (r l : Fin 1024) :
    sout0_A_0 c i arg3 harg3 arg4 harg4 arg5 harg5 arg6 harg6 hc0 hc1 hc2 x0 x1 (ix3 0 r l) =
      half x0 x1 r l := by
  delta sout0_A_0
  refine (congrFun (View.read_writes_junk_eq_canon VS0_0 _) _).trans ?_
  rw [stores_first]
  refine (Weights.under accRect _ _ (ix3 0 r l) _ ?_).trans ?_
  · funext a
    match a with
    | ⟨0, _⟩ | ⟨1, _⟩ | ⟨2, _⟩ => exact Fin.ext (by simp [Rect.emb, Rect.idx_unit_val, Rect.unit, ix3])
  · rw [pay2_at, Weights.loaded, Weights.loaded]
    exact half_eq x0 x1 r l

/-- What the second point leaves in the output. -/
theorem left_second (hc0 : ¬cond0_0 i) (hc1 : ¬cond0_1 i) (hc2 : cond0_2 i) (r l : Fin 1024) :
    out0_B_2 c i arg3 harg3 arg4 harg4 arg5 harg5 arg6 harg6 hc0 hc1 hc2 x0 x1 xs0 (ix2 r l) =
      xs0 (ix3 0 r l) + half x0 x1 r l := by
  delta out0_B_2
  refine (congrFun (View.read_writes_junk_eq_canon VO0_2 _) _).trans ?_
  rw [stores_second]
  refine (Weights.under outRect _ _ (ix2 r l) _ ?_).trans ?_
  · funext a
    match a with
    | ⟨0, _⟩ | ⟨1, _⟩ => exact Fin.ext (by simp [Rect.emb, Rect.idx_unit_val, Rect.unit, ix2])
  · rw [pay4_at, Weights.loaded, Weights.loaded, Weights.loaded]
    exact congrArg₂ (· + ·) (congrArg xs0 (acc_at r l)) (half_eq x0 x1 r l)

end

/-! ## The array the kernel ends with -/

section
variable (m : (ℓ : Loc nD τ sig) → Buf (Elt Ideal) ℓ) (c : Dev nD)

/-- The activations. -/
def act (k : Fin 4096) (r : Fin 2048) : EReal :=
  (m ((c : Thread nD τ).loc main_arg0) : Vec Ideal S4096x2048 .bf16) (ix2 k r)
/-- The gradient. -/
def dy (k : Fin 4096) (l : Fin 1024) : EReal :=
  (m ((c : Thread nD τ).loc main_arg1) : Vec Ideal S4096x1024 .f32) (ix2 k l)

/-- A row of the result. -/
def row (i : Fin 2) (r : Fin 1024) : Fin 2048 := ⟨1024 * i.val + r.val, by omega⟩
/-- A token of a half. -/
def tok (s : Fin 2) (k : Fin 2048) : Fin 4096 := ⟨2048 * s.val + k.val, by omega⟩
/-- A point of the grid. -/
def pt (i : Fin 2) (s : Fin 2) : Fin cfg0.N := ⟨2 * i.val + s.val, lt_of_lt_of_eq (by omega) N_0.symm⟩

theorem index_0 : ∀ (i : Fin 2) (s : Fin 2), win0_0.index (pt i s) 0 = s.val ∧
    win0_0.index (pt i s) 1 = i.val := by decide +kernel
theorem index_1 : ∀ (i : Fin 2) (s : Fin 2), win0_1.index (pt i s) 0 = s.val ∧
    win0_1.index (pt i s) 1 = 0 := by decide +kernel
theorem index_2 : ∀ (i : Fin 2) (s : Fin 2), win0_2.index (pt i s) 0 = i.val ∧
    win0_2.index (pt i s) 1 = 0 := by decide +kernel

/-- The block of the activations at a point. -/
theorem iblk_0 (i : Fin 2) (s : Fin 2) (k : Fin 2048) (r : Fin 1024) :
    (iblk m c 0 (pt i s) : Vec Ideal S2048x1024 .bf16) (ix2 k r) = act m c (tok s k) (row i r) := by
  have hi := index_0 i s
  refine congrArg (m ((c : Thread nD τ).loc main_arg0)) ?_
  funext a
  apply Fin.ext
  match a with
  | ⟨0, _⟩ =>
    show win0_0.index (pt i s) 0 * 2048 + 1 * k.val = 2048 * s.val + k.val
    rw [hi.1]; omega
  | ⟨1, _⟩ =>
    show win0_0.index (pt i s) 1 * 1024 + 1 * r.val = 1024 * i.val + r.val
    rw [hi.2]; omega

/-- The block of the gradient at a point. -/
theorem iblk_1 (i : Fin 2) (s : Fin 2) (k : Fin 2048) (l : Fin 1024) :
    (iblk m c 1 (pt i s) : Vec Ideal S2048x1024 .f32) (ix2 k l) = dy m c (tok s k) l := by
  have hi := index_1 i s
  refine congrArg (m ((c : Thread nD τ).loc main_arg1)) ?_
  funext a
  apply Fin.ext
  match a with
  | ⟨0, _⟩ =>
    show win0_1.index (pt i s) 0 * 2048 + 1 * k.val = 2048 * s.val + k.val
    rw [hi.1]; omega
  | ⟨1, _⟩ =>
    show win0_1.index (pt i s) 1 * 1024 + 1 * l.val = l.val
    rw [hi.2]; omega

/-- The product over half of the tokens, of the arguments. -/
def part (s : Fin 2) (r : Fin 2048) (l : Fin 1024) : EReal := ∑ k, act m c (tok s k) r * dy m c (tok s k) l

theorem half_pt (i : Fin 2) (s : Fin 2) (r l : Fin 1024) :
    half (iblk m c 0 (pt i s)) (iblk m c 1 (pt i s)) r l = part m c s (row i r) l :=
  Finset.sum_congr rfl fun k _ => congrArg₂ (· * ·) (iblk_0 m c i s k r) (iblk_1 m c i s k l)

/-- The accumulator after the first point of a block of rows. -/
theorem first_pt (i : Fin 2) (r l : Fin 1024) :
    (outsAt0 m c (pt i 0).val (pt i 0).isLt).2 (ix3 0 r l) = part m c 0 (row i r) l := by
  have h0 : (pt i 0).val % 2 = 0 := by show (2 * i.val + 0) % 2 = 0; omega
  have h2 : ¬(pt i 0).val % 2 = 1 := by omega
  rw [Weights.pair_two (outsAt0_A m c (pt i 0) h0 h2), left_first, half_pt]

/-- The output after the second point of a block of rows. -/
theorem second_pt (i : Fin 2) (r l : Fin 1024) :
    (outsAt0 m c (pt i 1).val (pt i 1).isLt).1 (ix2 r l) =
      part m c 0 (row i r) l + part m c 1 (row i r) l := by
  have h0 : ¬(pt i 1).val % 2 = 0 := by show ¬(2 * i.val + 1) % 2 = 0; omega
  have h2 : (pt i 1).val % 2 = 1 := by omega
  rw [Weights.pair_one (outsAt0_B m c (pt i 1) h0 h2), left_second, half_pt]
  exact congrArg (· + part m c 1 (row i r) l) (first_pt m c i r l)

theorem flush_pt (i : Fin 2) : (cfg0.win 2).flush (pt i 1) = true :=
  (flush0_2 (pt i 1)).2 (by show (2 * i.val + 1) % 2 = 1; omega)

/-- Only the second point of a block of rows writes it back. -/
theorem apart : ∀ t₁ t₂ : Fin cfg0.N, (cfg0.win 2).flush t₁ = true → (cfg0.win 2).flush t₂ = true →
    t₁ ≠ t₂ → Disjoint ((cfg0.win 2).blk t₁).view.set ((cfg0.win 2).blk t₂).view.set := by
  intro t₁ t₂ h₁ h₂ hne
  rw [Finset.disjoint_left]
  intro y hy₁ hy₂
  rw [Value.mem_blk2] at hy₁ hy₂
  have a₁ : win0_2.index t₁ (0 : Fin 2) * 1024 ≤ (y 0).val ∧
      (y 0).val < win0_2.index t₁ (0 : Fin 2) * 1024 + 1024 := hy₁ 0
  have a₂ : win0_2.index t₂ (0 : Fin 2) * 1024 ≤ (y 0).val ∧
      (y 0).val < win0_2.index t₂ (0 : Fin 2) * 1024 + 1024 := hy₂ 0
  have m₁ : t₁.val % 2 = 1 := (flush0_2 t₁).mp h₁
  have m₂ : t₂.val % 2 = 1 := (flush0_2 t₂).mp h₂
  obtain ⟨-, -, -, e₁, f₁⟩ := Value.idx_facts2 t₁
  obtain ⟨-, -, -, e₂, f₂⟩ := Value.idx_facts2 t₂
  exact hne (Fin.ext (by omega))

/-- The result at an index. -/
theorem result_at (i : Fin 2) (r l : Fin 1024) :
    ((dats m 0 c).arrAt 2 cfg0.N : Vec Ideal S2048x1024 .bf16) (ix2 (row i r) l) =
      part m c 0 (row i r) l + part m c 1 (row i r) l := by
  have hi := index_2 i 1
  have hb := congrFun ((dats m 0 c).read_blk_arrAt_eq_flushed 2 apart cfg0.N (pt i 1) (pt i 1).isLt
    (flush_pt i)) (ix2 r l)
  rw [Value.flushed2, View.read_apply] at hb
  have e : (ix2 (row i r) l : S2048x1024.Idx) = ((cfg0.win 2).blk (pt i 1)).view.emb (ix2 r l) := by
    funext a
    apply Fin.ext
    match a with
    | ⟨0, _⟩ =>
      show 1024 * i.val + r.val = win0_2.index (pt i 1) 0 * 1024 + 1 * r.val
      rw [hi.1]; omega
    | ⟨1, _⟩ =>
      show l.val = win0_2.index (pt i 1) 1 * 1024 + 1 * l.val
      rw [hi.2]; omega
  rw [e]
  exact (show _ = _ from hb).trans (second_pt m c i r l)

end

end Cert.Out
-- ==== Proof.OutEnds.lean ====
module

public import proofs.«01_k».proof.Proof.Out
public import proofs.«01_k».proof.Defs
public import proofs.«01_k».proof.Proof.Gen.ReferenceOutIdeal.Run
public import Idealize.ShloMosaic.Lib.Quiescent

@[expose] public section

set_option maxRecDepth 16384
set_option maxHeartbeats 1000000

noncomputable section

namespace Cert.Out

open Idealize.ShloMosaic Idealize.ShloMosaic.TcCoe Idealize.ShloMosaic.StableHlo Idealize.SL.Sem

/-! ## The kernel's result and the reference's, side by side -/

open Cert.ReferenceOutIdeal Cert.ReferenceOutIdeal.Gen in
/-- What the reference computes. -/
def refOut (x : FVec Ideal S4096x2048 .bf16) (d : FVec Ideal S4096x1024 .f32) : FVec Ideal S2048x1024 .bf16 :=
  truncf .bf16 (transpose S2048x1024 [1, 0] (Host.dotGeneral dot_S4096x1024_S4096x2048_S1024x2048_0_0_1_1_n_n none d
    (extf .f32 x bitsLt_bf16_f32)) transposes_S1024x2048_S2048x1024_1_0) bitsLt_bf16_f32

/-- The reference at an index. -/
theorem ref_at (x : FVec Ideal Cert.ReferenceOutIdeal.S4096x2048 .bf16)
    (d : FVec Ideal Cert.ReferenceOutIdeal.S4096x1024 .f32) (r : Fin 2048) (l : Fin 1024) :
    refOut x d (ix2 r l) = ∑ k : Fin 4096, x (ix2 k r) * d (ix2 k l) := by
  pointwise [refOut]
  exact Finset.sum_congr rfl fun k _ => mul_comm _ _

variable (m : (ℓ : Loc Cert.KernelOutIdeal.nD Cert.KernelOutIdeal.τ Cert.KernelOutIdeal.sig) → Buf (Elt Ideal) ℓ)
  (c : Dev Cert.KernelOutIdeal.nD)

/-- The kernel's result is what the reference computes. -/
theorem same : refOut (m ((c : Thread Cert.KernelOutIdeal.nD Cert.KernelOutIdeal.τ).loc Cert.KernelOutIdeal.main_arg0))
    (m ((c : Thread Cert.KernelOutIdeal.nD Cert.KernelOutIdeal.τ).loc Cert.KernelOutIdeal.main_arg1)) =
      ((Cert.KernelOutIdeal.Gen.dats m 0 c).arrAt 2 Cert.KernelOutIdeal.cfg0.N :
        Vec Ideal Cert.KernelOutIdeal.S2048x1024 .bf16) := by
  funext y
  have h0 : (y 0).val < 2048 := (y 0).isLt
  obtain ⟨i, r, l, rfl⟩ : ∃ (i : Fin 2) (r l : Fin 1024), y = ix2 (row i r) l := by
    refine ⟨⟨(y 0).val / 1024, by omega⟩, ⟨(y 0).val % 1024, by omega⟩, y 1, ?_⟩
    funext a
    match a with
    | ⟨0, _⟩ =>
      exact Fin.ext (by show (y 0).val = 1024 * ((y 0).val / 1024) + (y 0).val % 1024; omega)
    | ⟨1, _⟩ => rfl
  refine (ref_at _ _ _ _).trans ?_
  rw [result_at m c i r l]
  refine (Weights.halves _).symm.trans ?_
  refine congrArg₂ (· + ·) (Finset.sum_congr rfl fun k _ => ?_) rfl
  have e : (⟨k.val, by omega⟩ : Fin 4096) = tok 0 k := Fin.ext (by show k.val = 2048 * 0 + k.val; omega)
  rw [e]
  rfl

/-- The kernel and the reference end with equal results. -/
theorem equal_ends : Cert.algebraic_KernelOutIdeal_ReferenceOutIdeal
    (hKernelOutIdeal := Cert.KernelOutIdeal.Gen.facts)
    (hReferenceOutIdeal := Cert.ReferenceOutIdeal.Gen.facts) := by
  intro m g m' g' _ hagree
  refine ⟨_, Cert.KernelOutIdeal.Value.run_blocks m g, ?_⟩
  refine (θ_run Cert.ReferenceOutIdeal.defs _ _).mono (fun r h c => ?_)
    (Cert.ReferenceOutIdeal.Value.run (F := Ideal) m' g')
  refine ⟨(h c).1.trans ?_, (h c).2⟩
  rw [(hagree c).1, (hagree c).2]
  exact same m c

/-- The reference ends with its arguments unchanged. -/
theorem reference_ends : Cert.quiescent_ReferenceOutIdeal
    (hReferenceOutIdeal := Cert.ReferenceOutIdeal.Gen.facts) := fun m ρ _ =>
  (θ_run Cert.ReferenceOutIdeal.defs _ _).mono (fun r h => ⟨fun c => (h c).2,
      Idealize.ShloMosaic.sem_eq_zero_of_no_sems (by decide) r.2⟩)
    (Cert.ReferenceOutIdeal.Value.run (F := Ideal) m ρ)

end Cert.Out
-- ==== Proof.Att.lean ====
module

public import proofs.«01_k».proof.Proof.Out
public import proofs.«01_k».proof.Proof.Gen.KernelAttIdeal.Value

@[expose] public section

set_option maxRecDepth 16384
set_option maxHeartbeats 1000000

noncomputable section

namespace Cert.Att

open Cert.KernelAttIdeal Cert.KernelAttIdeal.Gen Idealize.ShloMosaic Idealize.ShloMosaic.TcCoe
  Idealize.SL.Sem
open Cert.Out (tile accRect outRect tile_at acc_at pay2_at pay4_at half half_eq tok)

/-! ## What the kernel stores at a point, entry by entry -/

section
variable {F : FTy → Type} [FloatOps F]
variable (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1x1024x1024 .f32) (harg6 : arg6.IsWhole)
  (x0 : Vec F S2048x1024 .bf16) (x1 : Vec F S2048x1024 .f32) (xs0 : Vec F S1x1024x1024 .f32)

/-- What the first point of a block of rows stores in the accumulator. -/
theorem stores_first (hc0 : cond0_0 i) (hc1 : ¬cond0_1 i) (hc2 : ¬cond0_2 i) :
    (kernelRun0_A c i arg3 harg3 arg4 harg4 arg5 harg5 arg6 harg6 hc0 hc1 hc2 x0 x1).2.1 =
      [⟨accRect, k0_pay2 (View.readAt (Elt F) arg3.view tile.toLoadRect (harg3.unread x0))
          (View.readAt (Elt F) arg4.view tile.toLoadRect (harg4.unread x1))⟩] := rfl

/-- What the second point of a block of rows stores in the output. -/
theorem stores_second (hc0 : ¬cond0_0 i) (hc1 : ¬cond0_1 i) (hc2 : cond0_2 i) :
    (kernelRun0_B c i arg3 harg3 arg4 harg4 arg5 harg5 arg6 harg6 hc0 hc1 hc2 x0 x1 xs0).1 =
      [⟨outRect, k0_pay4 (View.readAt (Elt F) arg3.view tile.toLoadRect (harg3.unread x0))
          (View.readAt (Elt F) arg4.view tile.toLoadRect (harg4.unread x1))
          (View.readAt (Elt F) arg6.view accRect.toLoadRect (harg6.unread xs0))⟩] := rfl

end

section
variable (x0 : Vec Ideal S2048x1024 .bf16) (x1 : Vec Ideal S2048x1024 .f32)
  (xs0 : Vec Ideal S1x1024x1024 .f32)

variable (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1x1024x1024 .f32) (harg6 : arg6.IsWhole)

/-- What the first point leaves in the accumulator. -/
theorem left_first (hc0 : cond0_0 i) (hc1 : ¬cond0_1 i) (hc2 : ¬cond0_2 i) (r l : Fin 1024) :
    sout0_A_0 c i arg3 harg3 arg4 harg4 arg5 harg5 arg6 harg6 hc0 hc1 hc2 x0 x1 (ix3 0 r l) =
      half x0 x1 r l := by
  delta sout0_A_0
  refine (congrFun (View.read_writes_junk_eq_canon VS0_0 _) _).trans ?_
  rw [stores_first]
  refine (Weights.under accRect _ _ (ix3 0 r l) _ ?_).trans ?_
  · funext a
    match a with
    | ⟨0, _⟩ | ⟨1, _⟩ | ⟨2, _⟩ => exact Fin.ext (by simp [Rect.emb, Rect.idx_unit_val, Rect.unit, ix3])
  · refine (pay2_at _ _ r l).trans ?_
    rw [Weights.loaded, Weights.loaded]
    exact half_eq x0 x1 r l

/-- What the second point leaves in the output. -/
theorem left_second (hc0 : ¬cond0_0 i) (hc1 : ¬cond0_1 i) (hc2 : cond0_2 i) (r l : Fin 1024) :
    out0_B_2 c i arg3 harg3 arg4 harg4 arg5 harg5 arg6 harg6 hc0 hc1 hc2 x0 x1 xs0 (ix2 r l) =
      xs0 (ix3 0 r l) + half x0 x1 r l := by
  delta out0_B_2
  refine (congrFun (View.read_writes_junk_eq_canon VO0_2 _) _).trans ?_
  rw [stores_second]
  refine (Weights.under outRect _ _ (ix2 r l) _ ?_).trans ?_
  · funext a
    match a with
    | ⟨0, _⟩ | ⟨1, _⟩ => exact Fin.ext (by simp [Rect.emb, Rect.idx_unit_val, Rect.unit, ix2])
  · refine (pay4_at _ _ _ r l).trans ?_
    rw [Weights.loaded, Weights.loaded, Weights.loaded]
    exact congrArg₂ (· + ·) (congrArg xs0 (acc_at r l)) (half_eq x0 x1 r l)

end

/-! ## The array the kernel ends with -/

section
variable (m : (ℓ : Loc nD τ sig) → Buf (Elt Ideal) ℓ) (c : Dev nD)

/-- The activations. -/
def act (k : Fin 4096) (r : Fin 1024) : EReal :=
  (m ((c : Thread nD τ).loc main_arg0) : Vec Ideal S4096x1024 .bf16) (ix2 k r)
/-- The gradient. -/
def dy (k : Fin 4096) (l : Fin 1024) : EReal :=
  (m ((c : Thread nD τ).loc main_arg1) : Vec Ideal S4096x1024 .f32) (ix2 k l)

/-- A row of the result. -/
def row (i : Fin 1) (r : Fin 1024) : Fin 1024 := ⟨1024 * i.val + r.val, by omega⟩
/-- A point of the grid. -/
def pt (i : Fin 1) (s : Fin 2) : Fin cfg0.N := ⟨2 * i.val + s.val, lt_of_lt_of_eq (by omega) N_0.symm⟩

theorem index_0 : ∀ (i : Fin 1) (s : Fin 2), win0_0.index (pt i s) 0 = s.val ∧
    win0_0.index (pt i s) 1 = i.val := by decide +kernel
theorem index_1 : ∀ (i : Fin 1) (s : Fin 2), win0_1.index (pt i s) 0 = s.val ∧
    win0_1.index (pt i s) 1 = 0 := by decide +kernel
theorem index_2 : ∀ (i : Fin 1) (s : Fin 2), win0_2.index (pt i s) 0 = i.val ∧
    win0_2.index (pt i s) 1 = 0 := by decide +kernel

/-- The block of the activations at a point. -/
theorem iblk_0 (i : Fin 1) (s : Fin 2) (k : Fin 2048) (r : Fin 1024) :
    (iblk m c 0 (pt i s) : Vec Ideal S2048x1024 .bf16) (ix2 k r) = act m c (tok s k) (row i r) := by
  have hi := index_0 i s
  refine congrArg (m ((c : Thread nD τ).loc main_arg0)) ?_
  funext a
  apply Fin.ext
  match a with
  | ⟨0, _⟩ =>
    show win0_0.index (pt i s) 0 * 2048 + 1 * k.val = 2048 * s.val + k.val
    rw [hi.1]; omega
  | ⟨1, _⟩ =>
    show win0_0.index (pt i s) 1 * 1024 + 1 * r.val = 1024 * i.val + r.val
    rw [hi.2]; omega

/-- The block of the gradient at a point. -/
theorem iblk_1 (i : Fin 1) (s : Fin 2) (k : Fin 2048) (l : Fin 1024) :
    (iblk m c 1 (pt i s) : Vec Ideal S2048x1024 .f32) (ix2 k l) = dy m c (tok s k) l := by
  have hi := index_1 i s
  refine congrArg (m ((c : Thread nD τ).loc main_arg1)) ?_
  funext a
  apply Fin.ext
  match a with
  | ⟨0, _⟩ =>
    show win0_1.index (pt i s) 0 * 2048 + 1 * k.val = 2048 * s.val + k.val
    rw [hi.1]; omega
  | ⟨1, _⟩ =>
    show win0_1.index (pt i s) 1 * 1024 + 1 * l.val = l.val
    rw [hi.2]; omega

/-- The product over half of the tokens, of the arguments. -/
def part (s : Fin 2) (r : Fin 1024) (l : Fin 1024) : EReal := ∑ k, act m c (tok s k) r * dy m c (tok s k) l

theorem half_pt (i : Fin 1) (s : Fin 2) (r l : Fin 1024) :
    half (iblk m c 0 (pt i s)) (iblk m c 1 (pt i s)) r l = part m c s (row i r) l :=
  Finset.sum_congr rfl fun k _ => congrArg₂ (· * ·) (iblk_0 m c i s k r) (iblk_1 m c i s k l)

/-- The accumulator after the first point of a block of rows. -/
theorem first_pt (i : Fin 1) (r l : Fin 1024) :
    (outsAt0 m c (pt i 0).val (pt i 0).isLt).2 (ix3 0 r l) = part m c 0 (row i r) l := by
  have h0 : (pt i 0).val % 2 = 0 := by show (2 * i.val + 0) % 2 = 0; omega
  have h2 : ¬(pt i 0).val % 2 = 1 := by omega
  rw [Weights.pair_two (outsAt0_A m c (pt i 0) h0 h2), left_first, half_pt]

/-- The output after the second point of a block of rows. -/
theorem second_pt (i : Fin 1) (r l : Fin 1024) :
    (outsAt0 m c (pt i 1).val (pt i 1).isLt).1 (ix2 r l) =
      part m c 0 (row i r) l + part m c 1 (row i r) l := by
  have h0 : ¬(pt i 1).val % 2 = 0 := by show ¬(2 * i.val + 1) % 2 = 0; omega
  have h2 : (pt i 1).val % 2 = 1 := by omega
  rw [Weights.pair_one (outsAt0_B m c (pt i 1) h0 h2), left_second, half_pt]
  exact congrArg (· + part m c 1 (row i r) l) (first_pt m c i r l)

theorem flush_pt (i : Fin 1) : (cfg0.win 2).flush (pt i 1) = true :=
  (flush0_2 (pt i 1)).2 (by show (2 * i.val + 1) % 2 = 1; omega)

/-- Only the second point of a block of rows writes it back. -/
theorem apart : ∀ t₁ t₂ : Fin cfg0.N, (cfg0.win 2).flush t₁ = true → (cfg0.win 2).flush t₂ = true →
    t₁ ≠ t₂ → Disjoint ((cfg0.win 2).blk t₁).view.set ((cfg0.win 2).blk t₂).view.set := by
  intro t₁ t₂ h₁ h₂ hne
  have m₁ : t₁.val % 2 = 1 := (flush0_2 t₁).mp h₁
  have m₂ : t₂.val % 2 = 1 := (flush0_2 t₂).mp h₂
  have l₁ : t₁.val < 2 := lt_of_lt_of_eq t₁.isLt N_0
  have l₂ : t₂.val < 2 := lt_of_lt_of_eq t₂.isLt N_0
  exact absurd (Fin.ext (by omega)) hne

/-- The result at an index. -/
theorem result_at (i : Fin 1) (r l : Fin 1024) :
    ((dats m 0 c).arrAt 2 cfg0.N : Vec Ideal S1024x1024 .bf16) (ix2 (row i r) l) =
      part m c 0 (row i r) l + part m c 1 (row i r) l := by
  have hi := index_2 i 1
  have hb := congrFun ((dats m 0 c).read_blk_arrAt_eq_flushed 2 apart cfg0.N (pt i 1) (pt i 1).isLt
    (flush_pt i)) (ix2 r l)
  rw [Value.flushed2, View.read_apply] at hb
  have e : (ix2 (row i r) l : S1024x1024.Idx) = ((cfg0.win 2).blk (pt i 1)).view.emb (ix2 r l) := by
    funext a
    apply Fin.ext
    match a with
    | ⟨0, _⟩ =>
      show 1024 * i.val + r.val = win0_2.index (pt i 1) 0 * 1024 + 1 * r.val
      rw [hi.1]; omega
    | ⟨1, _⟩ =>
      show l.val = win0_2.index (pt i 1) 1 * 1024 + 1 * l.val
      rw [hi.2]; omega
  rw [e]
  exact (show _ = _ from hb).trans (second_pt m c i r l)

end

end Cert.Att
-- ==== Proof.AttEnds.lean ====
module

public import proofs.«01_k».proof.Proof.Att
public import proofs.«01_k».proof.Defs
public import proofs.«01_k».proof.Proof.Gen.ReferenceAttIdeal.Run
public import Idealize.ShloMosaic.Lib.Quiescent

@[expose] public section

set_option maxRecDepth 16384
set_option maxHeartbeats 1000000

noncomputable section

namespace Cert.Att

open Idealize.ShloMosaic Idealize.ShloMosaic.TcCoe Idealize.ShloMosaic.StableHlo Idealize.SL.Sem
open Cert.Out (tok)

/-! ## The kernel's result and the reference's, side by side -/

open Cert.ReferenceAttIdeal Cert.ReferenceAttIdeal.Gen in
/-- What the reference computes. -/
def refOut (x : FVec Ideal S4096x1024 .bf16) (d : FVec Ideal S4096x1024 .f32) : FVec Ideal S1024x1024 .bf16 :=
  truncf .bf16 (transpose S1024x1024 [1, 0] (Host.dotGeneral dot_S4096x1024_S4096x1024_S1024x1024_0_0_1_1_n_n none d
    (extf .f32 x bitsLt_bf16_f32)) transposes_S1024x1024_S1024x1024_1_0) bitsLt_bf16_f32

/-- The reference at an index. -/
theorem ref_at (x : FVec Ideal Cert.ReferenceAttIdeal.S4096x1024 .bf16)
    (d : FVec Ideal Cert.ReferenceAttIdeal.S4096x1024 .f32) (r : Fin 1024) (l : Fin 1024) :
    refOut x d (ix2 r l) = ∑ k : Fin 4096, x (ix2 k r) * d (ix2 k l) := by
  pointwise [refOut]
  exact Finset.sum_congr rfl fun k _ => mul_comm _ _

variable (m : (ℓ : Loc Cert.KernelAttIdeal.nD Cert.KernelAttIdeal.τ Cert.KernelAttIdeal.sig) → Buf (Elt Ideal) ℓ)
  (c : Dev Cert.KernelAttIdeal.nD)

/-- The kernel's result is what the reference computes. -/
theorem same : refOut (m ((c : Thread Cert.KernelAttIdeal.nD Cert.KernelAttIdeal.τ).loc Cert.KernelAttIdeal.main_arg0))
    (m ((c : Thread Cert.KernelAttIdeal.nD Cert.KernelAttIdeal.τ).loc Cert.KernelAttIdeal.main_arg1)) =
      ((Cert.KernelAttIdeal.Gen.dats m 0 c).arrAt 2 Cert.KernelAttIdeal.cfg0.N :
        Vec Ideal Cert.KernelAttIdeal.S1024x1024 .bf16) := by
  funext y
  have h0 : (y 0).val < 1024 := (y 0).isLt
  obtain ⟨i, r, l, rfl⟩ : ∃ (i : Fin 1) (r l : Fin 1024), y = ix2 (row i r) l := by
    refine ⟨⟨(y 0).val / 1024, by omega⟩, ⟨(y 0).val % 1024, by omega⟩, y 1, ?_⟩
    funext a
    match a with
    | ⟨0, _⟩ =>
      exact Fin.ext (by show (y 0).val = 1024 * ((y 0).val / 1024) + (y 0).val % 1024; omega)
    | ⟨1, _⟩ => rfl
  refine (ref_at _ _ _ _).trans ?_
  rw [result_at m c i r l]
  refine (Weights.halves _).symm.trans ?_
  refine congrArg₂ (· + ·) (Finset.sum_congr rfl fun k _ => ?_) rfl
  have e : (⟨k.val, by omega⟩ : Fin 4096) = tok 0 k := Fin.ext (by show k.val = 2048 * 0 + k.val; omega)
  rw [e]
  rfl

/-- The kernel and the reference end with equal results. -/
theorem equal_ends : Cert.algebraic_KernelAttIdeal_ReferenceAttIdeal
    (hKernelAttIdeal := Cert.KernelAttIdeal.Gen.facts)
    (hReferenceAttIdeal := Cert.ReferenceAttIdeal.Gen.facts) := by
  intro m g m' g' _ hagree
  refine ⟨_, Cert.KernelAttIdeal.Value.run_blocks m g, ?_⟩
  refine (θ_run Cert.ReferenceAttIdeal.defs _ _).mono (fun r h c => ?_)
    (Cert.ReferenceAttIdeal.Value.run (F := Ideal) m' g')
  refine ⟨(h c).1.trans ?_, (h c).2⟩
  rw [(hagree c).1, (hagree c).2]
  exact same m c

/-- The reference ends with its arguments unchanged. -/
theorem reference_ends : Cert.quiescent_ReferenceAttIdeal
    (hReferenceAttIdeal := Cert.ReferenceAttIdeal.Gen.facts) := fun m ρ _ =>
  (θ_run Cert.ReferenceAttIdeal.defs _ _).mono (fun r h => ⟨fun c => (h c).2,
      Idealize.ShloMosaic.sem_eq_zero_of_no_sems (by decide) r.2⟩)
    (Cert.ReferenceAttIdeal.Value.run (F := Ideal) m ρ)

end Cert.Att
-- ==== Proof.Forward.lean ====
module

public import proofs.«01_k».proof.Proof.Norm

@[expose] public section

noncomputable section

namespace Cert.Forward

open Idealize.ShloMosaic Idealize.SL.Sem

/-! ## What the proofs of the forward products share -/

/-- An index of two axes, by its coordinates. -/
theorem ext2 {n0 n1 : ℕ} (y : (⟨2, ![n0, n1]⟩ : Shape).Idx) (r : Fin n0) (l : Fin n1) (h0 : (y 0).val = r.val)
    (h1 : (y 1).val = l.val) : y = ix2 r l := by
  funext a
  match a with
  | ⟨0, _⟩ => exact Fin.ext h0
  | ⟨1, _⟩ => exact Fin.ext h1

/-- An index of three axes, by its coordinates. -/
theorem ext3 {n0 n1 n2 : ℕ} (y : (⟨3, ![n0, n1, n2]⟩ : Shape).Idx) (b : Fin n0) (r : Fin n1) (l : Fin n2)
    (h0 : (y 0).val = b.val) (h1 : (y 1).val = r.val) (h2 : (y 2).val = l.val) : y = ix3 b r l := by
  funext a
  match a with
  | ⟨0, _⟩ => exact Fin.ext h0
  | ⟨1, _⟩ => exact Fin.ext h1
  | ⟨2, _⟩ => exact Fin.ext h2

/-- An index of four axes, by its coordinates. -/
theorem ext4 {n0 n1 n2 n3 : ℕ} (y : (⟨4, ![n0, n1, n2, n3]⟩ : Shape).Idx) (h : Fin n0) (b : Fin n1) (r : Fin n2) (l : Fin n3)
    (h0 : (y 0).val = h.val) (h1 : (y 1).val = b.val) (h2 : (y 2).val = r.val) (h3 : (y 3).val = l.val) :
    y = ix4 h b r l := by
  funext a
  match a with
  | ⟨0, _⟩ => exact Fin.ext h0
  | ⟨1, _⟩ => exact Fin.ext h1
  | ⟨2, _⟩ => exact Fin.ext h2
  | ⟨3, _⟩ => exact Fin.ext h3

/-- A row, of the rows in four blocks. -/
def row (i : Fin 4) (r : Fin 1024) : Fin 4096 := ⟨1024 * i.val + r.val, by omega⟩

/-- Every row is a row of a block. -/
theorem row_of (k : Fin 4096) : ∃ (i : Fin 4) (r : Fin 1024), k = row i r :=
  ⟨⟨k.val / 1024, by omega⟩, ⟨k.val % 1024, by omega⟩,
    Fin.ext (by show k.val = 1024 * (k.val / 1024) + k.val % 1024; omega)⟩

/-- An index of a rectangle that is a whole array. -/
theorem whole2 {n0 n1 : ℕ} (h) (r : Fin n0) (l : Fin n1) :
    (Rect.unit (s := ⟨2, ![n0, n1]⟩) ![0, 0] (⟨2, ![n0, n1]⟩ : Shape).size h).toLoadRect.idx (ix2 r l) = ix2 r l :=
  ext2 _ r l (by show 0 + 1 * r.val = r.val; omega) (by show 0 + 1 * l.val = l.val; omega)

end Cert.Forward
-- ==== Proof.Mix.lean ====
module

public import proofs.«01_k».proof.Proof.Forward
public import proofs.«01_k».proof.Proof.Gen.KernelMixIdeal.Value

@[expose] public section

set_option maxRecDepth 16384
set_option maxHeartbeats 1000000

noncomputable section

namespace Cert.Mix

open Cert.KernelMixIdeal Cert.KernelMixIdeal.Gen Idealize.ShloMosaic Idealize.ShloMosaic.TcCoe
  Idealize.SL.Sem Cert.Forward

/-! ## What the kernel stores at a point, entry by entry -/

/-- The rectangles of whole blocks. -/
abbrev tile : Rect S1024x1024 :=
  Rect.unit (s := S1024x1024) ![0, 0] S1024x1024.size inb_S1024x1024_S1024x1024_0_0
abbrev tileX : Rect S1024x2048 :=
  Rect.unit (s := S1024x2048) ![0, 0] S1024x2048.size inb_S1024x2048_S1024x2048_0_0
abbrev tileW : Rect S2048x1024 :=
  Rect.unit (s := S2048x1024) ![0, 0] S2048x1024.size inb_S2048x1024_S2048x1024_0_0

section
variable {F : FTy → Type} [FloatOps F]
variable (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024x1024 .f32) (harg7 : arg7.IsWhole)
  (x0 : Vec F S1024x2048 .bf16) (x1 : Vec F S2048x1024 .bf16) (x2 : Vec F S1024x1024 .f32)

/-- What a point stores in the output. -/
theorem stores :
    (kernelRun0_A c i arg3 harg3 arg4 harg4 arg5 harg5 arg6 harg6 arg7 harg7 x0 x1 x2).1 =
      [⟨tile, k0_pay1 (View.readAt (Elt F) arg3.view tileX.toLoadRect (harg3.unread x0))
          (View.readAt (Elt F) arg4.view tileW.toLoadRect (harg4.unread x1))
          (View.readAt (Elt F) arg5.view tile.toLoadRect (harg5.unread x2))⟩] := rfl

end

section
variable (x0 : Vec Ideal S1024x2048 .bf16) (x1 : Vec Ideal S2048x1024 .bf16) (x2 : Vec Ideal S1024x1024 .f32)

theorem pay1_at (v0 : Vec Ideal S1024x2048 .bf16) (v1 : Vec Ideal S2048x1024 .bf16) (v3 : Vec Ideal S1024x1024 .f32)
    (r l : Fin 1024) : k0_pay1 v0 v1 v3 (ix2 r l) = v3 (ix2 r l) + ∑ k, v0 (ix2 r k) * v1 (ix2 k l) := by
  pointwise [k0_pay1]

variable (c : Dev nD) (i : grid0.Coords) (arg3 : Memref sig .tc .vmem S1024x2048 .bf16) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024x1024 .f32) (harg7 : arg7.IsWhole)

/-- What a point leaves in the output. -/
theorem left (r l : Fin 1024) :
    out0_A_3 c i arg3 harg3 arg4 harg4 arg5 harg5 arg6 harg6 arg7 harg7 x0 x1 x2 (ix2 r l) =
      x2 (ix2 r l) + ∑ k, x0 (ix2 r k) * x1 (ix2 k l) := by
  delta out0_A_3
  refine (congrFun (View.read_writes_junk_eq_canon VO0_3 _) _).trans ?_
  rw [stores]
  refine (Weights.under tile _ _ (ix2 r l) _ (whole2 _ r l).symm).trans ?_
  rw [pay1_at, Weights.loaded, Weights.loaded, Weights.loaded]
  exact congrArg₂ (· + ·) (congrArg x2 (whole2 _ r l))
    (Finset.sum_congr rfl fun k _ => congrArg₂ (· * ·)
      (congrArg x0 (whole2 _ r k))
      (congrArg x1 (whole2 _ k l)))

end

/-! ## The array the kernel ends with -/

section
variable (m : (ℓ : Loc nD τ sig) → Buf (Elt Ideal) ℓ) (c : Dev nD)

/-- The arguments. -/
def xs : Vec Ideal S4096x2048 .bf16 := m ((c : Thread nD τ).loc main_arg0)
def ws : Vec Ideal S2048x1024 .bf16 := m ((c : Thread nD τ).loc main_arg1)
def ys : Vec Ideal S4096x1024 .f32 := m ((c : Thread nD τ).loc main_arg2)

/-- The product, from its arguments. -/
def res (r : Fin 4096) (l : Fin 1024) : EReal := ys m c (ix2 r l) + ∑ k, xs m c (ix2 r k) * ws m c (ix2 k l)

/-- A point of the grid. -/
def pt (i : Fin 4) : Fin cfg0.N := ⟨i.val, lt_of_lt_of_eq (by omega) N_0.symm⟩

theorem index_of : ∀ i : Fin 4, (win0_0.index (pt i) 0 = i.val ∧ win0_0.index (pt i) 1 = 0) ∧
    (win0_1.index (pt i) 0 = 0 ∧ win0_1.index (pt i) 1 = 0) ∧
    (win0_2.index (pt i) 0 = i.val ∧ win0_2.index (pt i) 1 = 0) ∧
    win0_3.index (pt i) 0 = i.val ∧ win0_3.index (pt i) 1 = 0 := by decide +kernel

/-- The output after a point. -/
theorem left_pt (i : Fin 4) (r l : Fin 1024) : outsAt0 m c (pt i) (ix2 r l) = res m c (row i r) l := by
  obtain ⟨⟨h0, h1⟩, ⟨h2, h3⟩, ⟨h4, h5⟩, -⟩ := index_of i
  unfold outsAt0
  rw [left]
  unfold iblk
  simp only [View.read_apply]
  refine congrArg₂ (· + ·) (congrArg (ys m c)
    (ext2 _ (row i r) l ?_ ?_)) (Finset.sum_congr rfl fun k _ => congrArg₂ (· * ·)
      (congrArg (xs m c) (ext2 _ (row i r) k ?_ ?_))
      (congrArg (ws m c) (ext2 _ k l ?_ ?_)))
  · show win0_2.index (pt i) 0 * 1024 + 1 * r.val = 1024 * i.val + r.val
    omega
  · show win0_2.index (pt i) 1 * 1024 + 1 * l.val = l.val
    omega
  · show win0_0.index (pt i) 0 * 1024 + 1 * r.val = 1024 * i.val + r.val
    omega
  · show win0_0.index (pt i) 1 * 2048 + 1 * k.val = k.val
    omega
  · show win0_1.index (pt i) 0 * 2048 + 1 * k.val = k.val
    omega
  · show win0_1.index (pt i) 1 * 1024 + 1 * l.val = l.val
    omega

/-- The result at an index. -/
theorem result_at (k : Fin 4096) (l : Fin 1024) :
    ((dats m 0 c).arrAt 3 cfg0.N : Vec Ideal S4096x1024 .f32) (ix2 k l) = res m c k l := by
  obtain ⟨i, r, rfl⟩ := row_of k
  obtain ⟨-, -, -, h6, h7⟩ := index_of i
  have hb := congrFun (Value.blocks3 m c (pt i) (flush0_3 (pt i))) (ix2 r l)
  rw [Value.flushed3, View.read_apply] at hb
  rw [← ext2 (((cfg0.win 3).blk (pt i)).view.emb (ix2 r l)) (row i r) l
    (by show win0_3.index (pt i) 0 * 1024 + 1 * r.val = 1024 * i.val + r.val; omega)
    (by show win0_3.index (pt i) 1 * 1024 + 1 * l.val = l.val; omega)]
  exact (show _ = _ from hb).trans (left_pt m c i r l)

end

end Cert.Mix
-- ==== Proof.MixEnds.lean ====
module

public import proofs.«01_k».proof.Proof.Mix
public import proofs.«01_k».proof.Defs
public import proofs.«01_k».proof.Proof.Gen.ReferenceMixIdeal.Run
public import Idealize.ShloMosaic.Lib.Quiescent

@[expose] public section

set_option maxRecDepth 16384
set_option maxHeartbeats 1000000

noncomputable section

namespace Cert.Mix

open Idealize.ShloMosaic Idealize.ShloMosaic.TcCoe Idealize.ShloMosaic.StableHlo Idealize.SL.Sem Cert.Forward

/-! ## The kernel's result and the reference's, side by side -/

open Cert.ReferenceMixIdeal Cert.ReferenceMixIdeal.Gen in
/-- What the reference computes. -/
def refOut (x : FVec Ideal S4096x2048 .bf16) (w : FVec Ideal S2048x1024 .bf16) (y : FVec Ideal S4096x1024 .f32) :
    FVec Ideal S4096x1024 .f32 :=
  addf y (Host.dotGeneral dot_S4096x2048_S2048x1024_S4096x1024_1_0_0_1_n_n none (extf .f32 x bitsLt_bf16_f32)
    (extf .f32 w bitsLt_bf16_f32))

open Cert.ReferenceMixIdeal in
/-- The reference at an index. -/
theorem ref_at (x : FVec Ideal S4096x2048 .bf16) (w : FVec Ideal S2048x1024 .bf16) (y : FVec Ideal S4096x1024 .f32)
    (r : Fin 4096) (l : Fin 1024) :
    refOut x w y (ix2 r l) = y (ix2 r l) + ∑ k : Fin 2048, x (ix2 r k) * w (ix2 k l) := by
  pointwise [refOut]

/-- The kernel and the reference end with equal results. -/
theorem equal_ends : Cert.algebraic_KernelMixIdeal_ReferenceMixIdeal
    (hKernelMixIdeal := Cert.KernelMixIdeal.Gen.facts) (hReferenceMixIdeal := Cert.ReferenceMixIdeal.Gen.facts) := by
  intro m g m' g' _ hagree
  refine ⟨_, Cert.KernelMixIdeal.Value.run_blocks m g, ?_⟩
  refine (θ_run Cert.ReferenceMixIdeal.defs _ _).mono (fun r h c => ?_)
    (Cert.ReferenceMixIdeal.Value.run (F := Ideal) m' g')
  refine ⟨(h c).1.trans ?_, (h c).2⟩
  rw [(hagree c).1, (hagree c).2.1, (hagree c).2.2]
  funext y
  rw [ext2 y (y 0) (y 1) rfl rfl]
  exact (ref_at _ _ _ _ _).trans (result_at m c (y 0) (y 1)).symm

/-- The reference ends with its arguments unchanged. -/
theorem reference_ends : Cert.quiescent_ReferenceMixIdeal
    (hReferenceMixIdeal := Cert.ReferenceMixIdeal.Gen.facts) := fun m ρ _ =>
  (θ_run Cert.ReferenceMixIdeal.defs _ _).mono (fun r h => ⟨fun c => (h c).2,
      Idealize.ShloMosaic.sem_eq_zero_of_no_sems (by decide) r.2⟩)
    (Cert.ReferenceMixIdeal.Value.run (F := Ideal) m ρ)

end Cert.Mix
-- ==== Proof.Seen.lean ====
module

public import proofs.«01_k».proof.Proof.Forward
public import proofs.«01_k».proof.Proof.Gen.KernelSeenIdeal.Value

@[expose] public section

set_option maxRecDepth 16384
set_option maxHeartbeats 1000000

noncomputable section

namespace Cert.Seen

open Cert.KernelSeenIdeal Cert.KernelSeenIdeal.Gen Idealize.ShloMosaic Idealize.ShloMosaic.TcCoe
  Idealize.SL.Sem Cert.Forward

/-! ## What the kernel stores at a point, entry by entry -/

/-- The rectangle of a whole block. -/
abbrev tile : Rect S1024x1024 :=
  Rect.unit (s := S1024x1024) ![0, 0] S1024x1024.size inb_S1024x1024_S1024x1024_0_0

section
variable {F : FTy → Type} [FloatOps F]
variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024x1024 .f32) (harg7 : arg7.IsWhole)
  (x0 : Vec F S1024x1024 .bf16) (x1 : Vec F S1024x1024 .bf16) (x2 : Vec F S1024x1024 .f32)

/-- What a point stores in the output. -/
theorem stores :
    (kernelRun0_A c i arg3 harg3 arg4 harg4 arg5 harg5 arg6 harg6 arg7 harg7 x0 x1 x2).1 =
      [⟨tile, k0_pay1 (View.readAt (Elt F) arg3.view tile.toLoadRect (harg3.unread x0))
          (View.readAt (Elt F) arg4.view tile.toLoadRect (harg4.unread x1))
          (View.readAt (Elt F) arg5.view tile.toLoadRect (harg5.unread x2))⟩] := rfl

end

section
variable (x0 : Vec Ideal S1024x1024 .bf16) (x1 : Vec Ideal S1024x1024 .bf16) (x2 : Vec Ideal S1024x1024 .f32)

theorem pay1_at (v0 : Vec Ideal S1024x1024 .bf16) (v1 : Vec Ideal S1024x1024 .bf16) (v3 : Vec Ideal S1024x1024 .f32)
    (r l : Fin 1024) : k0_pay1 v0 v1 v3 (ix2 r l) = v3 (ix2 r l) + ∑ k, v0 (ix2 r k) * v1 (ix2 k l) := by
  pointwise [k0_pay1]

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024x1024 .f32) (harg7 : arg7.IsWhole)

/-- What a point leaves in the output. -/
theorem left (r l : Fin 1024) :
    out0_A_3 c i arg3 harg3 arg4 harg4 arg5 harg5 arg6 harg6 arg7 harg7 x0 x1 x2 (ix2 r l) =
      x2 (ix2 r l) + ∑ k, x0 (ix2 r k) * x1 (ix2 k l) := by
  delta out0_A_3
  refine (congrFun (View.read_writes_junk_eq_canon VO0_3 _) _).trans ?_
  rw [stores]
  refine (Weights.under tile _ _ (ix2 r l) _ (whole2 _ r l).symm).trans ?_
  rw [pay1_at, Weights.loaded, Weights.loaded, Weights.loaded]
  exact congrArg₂ (· + ·) (congrArg x2 (whole2 _ r l))
    (Finset.sum_congr rfl fun k _ => congrArg₂ (· * ·)
      (congrArg x0 (whole2 _ r k))
      (congrArg x1 (whole2 _ k l)))

end

/-! ## The array the kernel ends with -/

section
variable (m : (ℓ : Loc nD τ sig) → Buf (Elt Ideal) ℓ) (c : Dev nD)

/-- The arguments. -/
def xs : Vec Ideal S4096x1024 .bf16 := m ((c : Thread nD τ).loc main_arg0)
def ws : Vec Ideal S1024x1024 .bf16 := m ((c : Thread nD τ).loc main_arg1)
def ys : Vec Ideal S4096x1024 .f32 := m ((c : Thread nD τ).loc main_arg2)

/-- The product, from its arguments. -/
def res (r : Fin 4096) (l : Fin 1024) : EReal := ys m c (ix2 r l) + ∑ k, xs m c (ix2 r k) * ws m c (ix2 k l)

/-- A point of the grid. -/
def pt (i : Fin 4) : Fin cfg0.N := ⟨i.val, lt_of_lt_of_eq (by omega) N_0.symm⟩

theorem index_of : ∀ i : Fin 4, (win0_0.index (pt i) 0 = i.val ∧ win0_0.index (pt i) 1 = 0) ∧
    (win0_1.index (pt i) 0 = 0 ∧ win0_1.index (pt i) 1 = 0) ∧
    (win0_2.index (pt i) 0 = i.val ∧ win0_2.index (pt i) 1 = 0) ∧
    win0_3.index (pt i) 0 = i.val ∧ win0_3.index (pt i) 1 = 0 := by decide +kernel

/-- The output after a point. -/
theorem left_pt (i : Fin 4) (r l : Fin 1024) : outsAt0 m c (pt i) (ix2 r l) = res m c (row i r) l := by
  obtain ⟨⟨h0, h1⟩, ⟨h2, h3⟩, ⟨h4, h5⟩, -⟩ := index_of i
  unfold outsAt0
  rw [left]
  unfold iblk
  simp only [View.read_apply]
  refine congrArg₂ (· + ·) (congrArg (ys m c)
    (ext2 _ (row i r) l ?_ ?_)) (Finset.sum_congr rfl fun k _ => congrArg₂ (· * ·)
      (congrArg (xs m c) (ext2 _ (row i r) k ?_ ?_))
      (congrArg (ws m c) (ext2 _ k l ?_ ?_)))
  · show win0_2.index (pt i) 0 * 1024 + 1 * r.val = 1024 * i.val + r.val
    omega
  · show win0_2.index (pt i) 1 * 1024 + 1 * l.val = l.val
    omega
  · show win0_0.index (pt i) 0 * 1024 + 1 * r.val = 1024 * i.val + r.val
    omega
  · show win0_0.index (pt i) 1 * 1024 + 1 * k.val = k.val
    omega
  · show win0_1.index (pt i) 0 * 1024 + 1 * k.val = k.val
    omega
  · show win0_1.index (pt i) 1 * 1024 + 1 * l.val = l.val
    omega

/-- The result at an index. -/
theorem result_at (k : Fin 4096) (l : Fin 1024) :
    ((dats m 0 c).arrAt 3 cfg0.N : Vec Ideal S4096x1024 .f32) (ix2 k l) = res m c k l := by
  obtain ⟨i, r, rfl⟩ := row_of k
  obtain ⟨-, -, -, h6, h7⟩ := index_of i
  have hb := congrFun (Value.blocks3 m c (pt i) (flush0_3 (pt i))) (ix2 r l)
  rw [Value.flushed3, View.read_apply] at hb
  rw [← ext2 (((cfg0.win 3).blk (pt i)).view.emb (ix2 r l)) (row i r) l
    (by show win0_3.index (pt i) 0 * 1024 + 1 * r.val = 1024 * i.val + r.val; omega)
    (by show win0_3.index (pt i) 1 * 1024 + 1 * l.val = l.val; omega)]
  exact (show _ = _ from hb).trans (left_pt m c i r l)

end

end Cert.Seen
-- ==== Proof.SeenEnds.lean ====
module

public import proofs.«01_k».proof.Proof.Seen
public import proofs.«01_k».proof.Defs
public import proofs.«01_k».proof.Proof.Gen.ReferenceSeenIdeal.Run
public import Idealize.ShloMosaic.Lib.Quiescent

@[expose] public section

set_option maxRecDepth 16384
set_option maxHeartbeats 1000000

noncomputable section

namespace Cert.Seen

open Idealize.ShloMosaic Idealize.ShloMosaic.TcCoe Idealize.ShloMosaic.StableHlo Idealize.SL.Sem Cert.Forward

/-! ## The kernel's result and the reference's, side by side -/

open Cert.ReferenceSeenIdeal Cert.ReferenceSeenIdeal.Gen in
/-- What the reference computes. -/
def refOut (x : FVec Ideal S4096x1024 .bf16) (w : FVec Ideal S1024x1024 .bf16) (y : FVec Ideal S4096x1024 .f32) :
    FVec Ideal S4096x1024 .f32 :=
  addf y (Host.dotGeneral dot_S4096x1024_S1024x1024_S4096x1024_1_0_0_1_n_n none (extf .f32 x bitsLt_bf16_f32)
    (extf .f32 w bitsLt_bf16_f32))

open Cert.ReferenceSeenIdeal in
/-- The reference at an index. -/
theorem ref_at (x : FVec Ideal S4096x1024 .bf16) (w : FVec Ideal S1024x1024 .bf16) (y : FVec Ideal S4096x1024 .f32)
    (r : Fin 4096) (l : Fin 1024) :
    refOut x w y (ix2 r l) = y (ix2 r l) + ∑ k : Fin 1024, x (ix2 r k) * w (ix2 k l) := by
  pointwise [refOut]

/-- The kernel and the reference end with equal results. -/
theorem equal_ends : Cert.algebraic_KernelSeenIdeal_ReferenceSeenIdeal
    (hKernelSeenIdeal := Cert.KernelSeenIdeal.Gen.facts) (hReferenceSeenIdeal := Cert.ReferenceSeenIdeal.Gen.facts) := by
  intro m g m' g' _ hagree
  refine ⟨_, Cert.KernelSeenIdeal.Value.run_blocks m g, ?_⟩
  refine (θ_run Cert.ReferenceSeenIdeal.defs _ _).mono (fun r h c => ?_)
    (Cert.ReferenceSeenIdeal.Value.run (F := Ideal) m' g')
  refine ⟨(h c).1.trans ?_, (h c).2⟩
  rw [(hagree c).1, (hagree c).2.1, (hagree c).2.2]
  funext y
  rw [ext2 y (y 0) (y 1) rfl rfl]
  exact (ref_at _ _ _ _ _).trans (result_at m c (y 0) (y 1)).symm

/-- The reference ends with its arguments unchanged. -/
theorem reference_ends : Cert.quiescent_ReferenceSeenIdeal
    (hReferenceSeenIdeal := Cert.ReferenceSeenIdeal.Gen.facts) := fun m ρ _ =>
  (θ_run Cert.ReferenceSeenIdeal.defs _ _).mono (fun r h => ⟨fun c => (h c).2,
      Idealize.ShloMosaic.sem_eq_zero_of_no_sems (by decide) r.2⟩)
    (Cert.ReferenceSeenIdeal.Value.run (F := Ideal) m ρ)

end Cert.Seen
-- ==== Proof.Fed.lean ====
module

public import proofs.«01_k».proof.Proof.Forward
public import proofs.«01_k».proof.Proof.Gen.KernelFedIdeal.Value

@[expose] public section

set_option maxRecDepth 16384
set_option maxHeartbeats 1000000

noncomputable section

namespace Cert.Fed

open Cert.KernelFedIdeal Cert.KernelFedIdeal.Gen Idealize.ShloMosaic Idealize.ShloMosaic.TcCoe
  Idealize.SL.Sem Cert.Forward

/-! ## What the kernel stores at a point, entry by entry -/

/-- A row of the weights, by blocks. -/
def wrow (b : Fin 4) (j : Fin 704) : Fin 2816 := ⟨704 * b.val + j.val, by omega⟩

/-- The rectangle of a whole block. -/
abbrev tile : Rect S1024x1024 :=
  Rect.unit (s := S1024x1024) ![0, 0] S1024x1024.size inb_S1024x1024_S1024x1024_0_0
/-- The rectangle of a block of the activations. -/
abbrev aRect (b : Fin 4) : Rect S4x1024x704 :=
  Rect.unit (s := S4x1024x704) ![b.val, 0, 0] S1x1024x704.size
    (match b with
      | ⟨0, _⟩ => inb_S4x1024x704_S1x1024x704_0_0_0
      | ⟨1, _⟩ => inb_S4x1024x704_S1x1024x704_1_0_0
      | ⟨2, _⟩ => inb_S4x1024x704_S1x1024x704_2_0_0
      | ⟨3, _⟩ => inb_S4x1024x704_S1x1024x704_3_0_0)
/-- The rectangle of a block of the weights. -/
abbrev wRect (b : Fin 4) : Rect S2816x1024 :=
  Rect.unit (s := S2816x1024) ![704 * b.val, 0] S704x1024.size
    (match b with
      | ⟨0, _⟩ => inb_S2816x1024_S704x1024_0_0
      | ⟨1, _⟩ => inb_S2816x1024_S704x1024_704_0
      | ⟨2, _⟩ => inb_S2816x1024_S704x1024_1408_0
      | ⟨3, _⟩ => inb_S2816x1024_S704x1024_2112_0)

section
variable {F : FTy → Type} [FloatOps F]

/-- The product of a block of the activations with a block of the weights. -/
def one (a : Vec F S1x1024x704 .bf16) (w : Vec F S704x1024 .bf16) : FVec F S1024x1024 .f32 :=
  matmul dot_S1024x704_S704x1024_S1024x1024_1_0_0_1_n_n none
    (shapeCast S1024x704 a shapeCasts_S1x1024x704_S1024x704 : FVec F S1024x704 .bf16) w
    (constant S1024x1024 .f32 0x00000000#32)

/-- The four products, added to the rows. -/
def all (a : Fin 4 → Vec F S1x1024x704 .bf16) (w : Fin 4 → Vec F S704x1024 .bf16) (x : Vec F S1024x1024 .f32) :
    FVec F S1024x1024 .f32 :=
  addf x (addf (addf (addf (one (a 0) (w 0)) (one (a 1) (w 1))) (one (a 2) (w 2))) (one (a 3) (w 3)))

variable (c : Dev nD) (i : grid0.Coords) (arg3 : Memref sig .tc .vmem S4x1024x704 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024x1024 .f32) (harg7 : arg7.IsWhole)
  (x0 : Vec F S4x1024x704 .bf16) (x1 : Vec F S2816x1024 .bf16) (x2 : Vec F S1024x1024 .f32)

/-- What a point stores in the output. -/
theorem stores :
    (kernelRun0_A c i arg3 harg3 arg4 harg4 arg5 harg5 arg6 harg6 arg7 harg7 x0 x1 x2).1 =
      [⟨tile, all (fun b => View.readAt (Elt F) arg3.view (aRect b).toLoadRect (harg3.unread x0))
          (fun b => View.readAt (Elt F) arg4.view (wRect b).toLoadRect (harg4.unread x1))
          (View.readAt (Elt F) arg5.view tile.toLoadRect (harg5.unread x2))⟩] := rfl

end

section
variable (x0 : Vec Ideal S4x1024x704 .bf16) (x1 : Vec Ideal S2816x1024 .bf16) (x2 : Vec Ideal S1024x1024 .f32)

theorem one_at (a : Vec Ideal S1x1024x704 .bf16) (w : Vec Ideal S704x1024 .bf16) (r l : Fin 1024) :
    one a w (ix2 r l) = ∑ j : Fin 704, a (ix3 0 r j) * w (ix2 j l) := by
  pointwise [one]

theorem one_loaded (b : Fin 4) (r l : Fin 1024) :
    one (fun j => x0 ((aRect b).toLoadRect.idx j)) (fun j => x1 ((wRect b).toLoadRect.idx j)) (ix2 r l) =
      ∑ j : Fin 704, x0 (ix3 b r j) * x1 (ix2 (wrow b j) l) :=
  (one_at _ _ r l).trans (Finset.sum_congr rfl fun j _ => congrArg₂ (· * ·)
    (congrArg x0 (ext3 _ b r j rfl (by show 0 + 1 * r.val = r.val; omega) (by show 0 + 1 * j.val = j.val; omega)))
    (congrArg x1 (ext2 _ (wrow b j) l (by show 704 * b.val + 1 * j.val = 704 * b.val + j.val; omega)
      (by show 0 + 1 * l.val = l.val; omega))))

/-- An entry of the rows with the four products. -/
def allE (r l : Fin 1024) : EReal :=
  x2 (ix2 r l) + ∑ b : Fin 4, ∑ j : Fin 704, x0 (ix3 b r j) * x1 (ix2 (wrow b j) l)

theorem all_at (r l : Fin 1024) :
    all (fun b j => x0 ((aRect b).toLoadRect.idx j)) (fun b j => x1 ((wRect b).toLoadRect.idx j))
      (fun j => x2 (tile.toLoadRect.idx j)) (ix2 r l) = allE x0 x1 x2 r l := by
  unfold allE
  rw [Fin.sum_univ_four]
  exact congrArg₂ (· + ·) (congrArg x2 (whole2 _ r l)) (congrArg₂ (· + ·) (congrArg₂ (· + ·) (congrArg₂ (· + ·)
    (one_loaded x0 x1 0 r l) (one_loaded x0 x1 1 r l)) (one_loaded x0 x1 2 r l)) (one_loaded x0 x1 3 r l))

variable (c : Dev nD) (i : grid0.Coords) (arg3 : Memref sig .tc .vmem S4x1024x704 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1x1024x1024 .f32) (harg7 : arg7.IsWhole)

/-- What a point leaves in the output. -/
theorem left (r l : Fin 1024) :
    out0_A_3 c i arg3 harg3 arg4 harg4 arg5 harg5 arg6 harg6 arg7 harg7 x0 x1 x2 (ix2 r l) = allE x0 x1 x2 r l := by
  delta out0_A_3
  refine (congrFun (View.read_writes_junk_eq_canon VO0_3 _) _).trans ?_
  rw [stores]
  refine (Weights.under tile _ _ (ix2 r l) _ (whole2 _ r l).symm).trans ?_
  simp only [Weights.loaded]
  exact all_at x0 x1 x2 r l

end

/-! ## The array the kernel ends with -/

/-- A sum over the hidden axis, by blocks: the entry of the rows with the product. -/
def fedS (a : (⟨3, ![4, 4096, 704]⟩ : Shape).Idx → EReal) (w : (⟨2, ![2816, 1024]⟩ : Shape).Idx → EReal)
    (x : (⟨2, ![4096, 1024]⟩ : Shape).Idx → EReal) (r : Fin 4096) (l : Fin 1024) : EReal :=
  x (ix2 r l) + ∑ b : Fin 4, ∑ j : Fin 704, a (ix3 b r j) * w (ix2 (wrow b j) l)

section
variable (m : (ℓ : Loc nD τ sig) → Buf (Elt Ideal) ℓ) (c : Dev nD)

/-- The arguments. -/
def xs : Vec Ideal S4x4096x704 .bf16 := m ((c : Thread nD τ).loc main_arg0)
def ws : Vec Ideal S2816x1024 .bf16 := m ((c : Thread nD τ).loc main_arg1)
def ys : Vec Ideal S4096x1024 .f32 := m ((c : Thread nD τ).loc main_arg2)

/-- A point of the grid. -/
def pt (i : Fin 4) : Fin cfg0.N := ⟨i.val, lt_of_lt_of_eq (by omega) N_0.symm⟩

theorem index_of : ∀ i : Fin 4, (win0_0.index (pt i) 0 = 0 ∧ win0_0.index (pt i) 1 = i.val ∧ win0_0.index (pt i) 2 = 0) ∧
    (win0_1.index (pt i) 0 = 0 ∧ win0_1.index (pt i) 1 = 0) ∧
    (win0_2.index (pt i) 0 = i.val ∧ win0_2.index (pt i) 1 = 0) ∧
    win0_3.index (pt i) 0 = i.val ∧ win0_3.index (pt i) 1 = 0 := by decide +kernel

/-- The output after a point. -/
theorem left_pt (i : Fin 4) (r l : Fin 1024) :
    outsAt0 m c (pt i) (ix2 r l) = fedS (xs m c) (ws m c) (ys m c) (row i r) l := by
  obtain ⟨⟨h0, h1, h2⟩, ⟨h3, h4⟩, ⟨h5, h6⟩, -⟩ := index_of i
  unfold outsAt0
  rw [left]
  unfold iblk allE
  simp only [View.read_apply]
  refine congrArg₂ (· + ·) (congrArg (ys m c) (ext2 _ (row i r) l ?_ ?_)) (Finset.sum_congr rfl fun b _ =>
    Finset.sum_congr rfl fun j _ => congrArg₂ (· * ·) (congrArg (xs m c) (ext3 _ b (row i r) j ?_ ?_ ?_))
      (congrArg (ws m c) (ext2 _ (wrow b j) l ?_ ?_)))
  · show win0_2.index (pt i) 0 * 1024 + 1 * r.val = 1024 * i.val + r.val
    omega
  · show win0_2.index (pt i) 1 * 1024 + 1 * l.val = l.val
    omega
  · show win0_0.index (pt i) 0 * 4 + 1 * b.val = b.val
    omega
  · show win0_0.index (pt i) 1 * 1024 + 1 * r.val = 1024 * i.val + r.val
    omega
  · show win0_0.index (pt i) 2 * 704 + 1 * j.val = j.val
    omega
  · show win0_1.index (pt i) 0 * 2816 + 1 * (704 * b.val + j.val) = 704 * b.val + j.val
    omega
  · show win0_1.index (pt i) 1 * 1024 + 1 * l.val = l.val
    omega

/-- The result at an index. -/
theorem result_at (k : Fin 4096) (l : Fin 1024) :
    ((dats m 0 c).arrAt 3 cfg0.N : Vec Ideal S4096x1024 .f32) (ix2 k l) = fedS (xs m c) (ws m c) (ys m c) k l := by
  obtain ⟨i, r, rfl⟩ := row_of k
  obtain ⟨-, -, -, h6, h7⟩ := index_of i
  have hb := congrFun (Value.blocks3 m c (pt i) (flush0_3 (pt i))) (ix2 r l)
  rw [Value.flushed3, View.read_apply] at hb
  rw [← ext2 (((cfg0.win 3).blk (pt i)).view.emb (ix2 r l)) (row i r) l
    (by show win0_3.index (pt i) 0 * 1024 + 1 * r.val = 1024 * i.val + r.val; omega)
    (by show win0_3.index (pt i) 1 * 1024 + 1 * l.val = l.val; omega)]
  exact (show _ = _ from hb).trans (left_pt m c i r l)

end

end Cert.Fed
-- ==== Proof.FedEnds.lean ====
module

public import proofs.«01_k».proof.Proof.Fed
public import proofs.«01_k».proof.Defs
public import proofs.«01_k».proof.Proof.Gen.ReferenceFedIdeal.Run
public import Idealize.ShloMosaic.Lib.Quiescent

@[expose] public section

set_option maxRecDepth 16384
set_option maxHeartbeats 1000000

noncomputable section

namespace Cert.Fed

open Idealize.ShloMosaic Idealize.ShloMosaic.TcCoe Idealize.ShloMosaic.StableHlo Idealize.SL.Sem Cert.Forward

/-! ## The kernel's result and the reference's, side by side -/

open Cert.ReferenceFedIdeal Cert.ReferenceFedIdeal.Gen in
/-- What the reference computes. -/
def refOut (a : FVec Ideal S4x4096x704 .bf16) (w : FVec Ideal S2816x1024 .bf16) (x : FVec Ideal S4096x1024 .f32) :
    FVec Ideal S4096x1024 .f32 :=
  addf x (Host.dotGeneral dot_S4096x2816_S2816x1024_S4096x1024_1_0_0_1_n_n none (extf .f32 (shapeCast _ (transpose S4096x4x704 [1, 0, 2] a transposes_S4x4096x704_S4096x4x704_1_0_2) shapeCasts_S4096x4x704_S4096x2816) bitsLt_bf16_f32) (extf .f32 w bitsLt_bf16_f32))

open Cert.ReferenceFedIdeal in
/-- The reference at an index. -/
theorem ref_at (a : FVec Ideal S4x4096x704 .bf16) (w : FVec Ideal S2816x1024 .bf16) (x : FVec Ideal S4096x1024 .f32)
    (r : Fin 4096) (l : Fin 1024) : refOut a w x (ix2 r l) = fedS a w x r l := by
  refine Eq.trans (b := x (ix2 r l) + ∑ e : Fin 2816,
    a (ix3 (⟨e.val / 704, by omega⟩ : Fin 4) r (⟨e.val % 704, by omega⟩ : Fin 704)) * w (ix2 e l)) ?_ ?_
  · pointwise [refOut]
  refine congrArg₂ (· + ·) rfl ((Norm.blocks 4 704 2816 rfl fun e =>
    a (ix3 (⟨e.val / 704, by omega⟩ : Fin 4) r (⟨e.val % 704, by omega⟩ : Fin 704)) * w (ix2 e l)).symm.trans ?_)
  refine Finset.sum_congr rfl fun b _ => Finset.sum_congr rfl fun j _ =>
    congrArg₂ (· * ·) (congrArg a (ext3 _ b r j ?_ rfl ?_)) rfl
  · show (704 * b.val + j.val) / 704 = b.val
    omega
  · show (704 * b.val + j.val) % 704 = j.val
    omega

/-- The kernel and the reference end with equal results. -/
theorem equal_ends : Cert.algebraic_KernelFedIdeal_ReferenceFedIdeal
    (hKernelFedIdeal := Cert.KernelFedIdeal.Gen.facts) (hReferenceFedIdeal := Cert.ReferenceFedIdeal.Gen.facts) := by
  intro m g m' g' _ hagree
  refine ⟨_, Cert.KernelFedIdeal.Value.run_blocks m g, ?_⟩
  refine (θ_run Cert.ReferenceFedIdeal.defs _ _).mono (fun r h c => ?_)
    (Cert.ReferenceFedIdeal.Value.run (F := Ideal) m' g')
  refine ⟨(h c).1.trans ?_, (h c).2⟩
  rw [(hagree c).1, (hagree c).2.1, (hagree c).2.2]
  funext y
  rw [ext2 y (y 0) (y 1) rfl rfl]
  exact (ref_at _ _ _ _ _).trans (result_at m c (y 0) (y 1)).symm

/-- The reference ends with its arguments unchanged. -/
theorem reference_ends : Cert.quiescent_ReferenceFedIdeal
    (hReferenceFedIdeal := Cert.ReferenceFedIdeal.Gen.facts) := fun m ρ _ =>
  (θ_run Cert.ReferenceFedIdeal.defs _ _).mono (fun r h => ⟨fun c => (h c).2,
      Idealize.ShloMosaic.sem_eq_zero_of_no_sems (by decide) r.2⟩)
    (Cert.ReferenceFedIdeal.Value.run (F := Ideal) m ρ)

end Cert.Fed
-- ==== Proof.Q.lean ====
module

public import proofs.«01_k».proof.Proof.Forward
public import proofs.«01_k».proof.Proof.Gen.KernelQIdeal.Value

@[expose] public section

set_option maxRecDepth 16384
set_option maxHeartbeats 1000000

noncomputable section

namespace Cert.Q

open Cert.KernelQIdeal Cert.KernelQIdeal.Gen Idealize.ShloMosaic Idealize.ShloMosaic.TcCoe
  Idealize.SL.Sem Cert.Forward

/-! ## What the kernel stores at a point, entry by entry -/

/-- A row of a group. -/
def grow (q : Fin 4) (t : Fin 256) : Fin 1024 := ⟨256 * q.val + t.val, by omega⟩

/-- Every row is a row of a group. -/
theorem grow_of (r : Fin 1024) : ∃ (q : Fin 4) (t : Fin 256), r = grow q t :=
  ⟨⟨r.val / 256, by omega⟩, ⟨r.val % 256, by omega⟩,
    Fin.ext (by show r.val = 256 * (r.val / 256) + r.val % 256; omega)⟩

/-- The rectangle of a whole block. -/
abbrev tile : Rect S1024x1024 :=
  Rect.unit (s := S1024x1024) ![0, 0] S1024x1024.size inb_S1024x1024_S1024x1024_0_0
/-- The rectangle of the scales. -/
abbrev gRect : Rect S1x1024 := Rect.unit (s := S1x1024) ![0, 0] S1x1024.size inb_S1x1024_S1x1024_0_0
/-- The rectangle of a group of rows. -/
abbrev rowRect (q : Fin 4) : Rect S1024x1024 :=
  Rect.unit (s := S1024x1024) ![256 * q.val, 0] S256x1024.size
    (match q with
      | ⟨0, _⟩ => inb_S1024x1024_S256x1024_0_0
      | ⟨1, _⟩ => inb_S1024x1024_S256x1024_256_0
      | ⟨2, _⟩ => inb_S1024x1024_S256x1024_512_0
      | ⟨3, _⟩ => inb_S1024x1024_S256x1024_768_0)

section
variable {F : FTy → Type} [FloatOps F]

/-- The normalised rows of a group. -/
def nrm (x : FVec F S256x1024 .f32) (g : FVec F S1x1024 .f32) : FVec F S256x1024 .bf16 :=
  truncf .bf16 (mulf (mulf x (broadcastTo S256x1024 (rsqrt (addf (divf
    (shapeCast S256x1 (multiReduction .add [1] S256 (mulf x x) 0x00000000#32 reduces_S256x1024_S256 (.inl rfl) rfl)
      shapeCasts_S256_S256x1) (broadcast S256x1 (Scalar.ofBits .f32 0x44800000#32)))
    (broadcast S256x1 (Scalar.ofBits .f32 0x358637BD#32)))) broadcasts_S256x1_S256x1024))
    (broadcastTo S256x1024 g broadcasts_S1x1024_S256x1024)) bitsLt_bf16_f32

/-- The normalised rows of a block, by groups. -/
def rows (X : Fin 4 → Vec F S256x1024 .f32) (g : Vec F S1x1024 .f32) : FVec F S1024x1024 .bf16 :=
  concatenate S1024x1024 0 [⟨S256x1024, nrm (X 0) g⟩, ⟨S256x1024, nrm (X 1) g⟩, ⟨S256x1024, nrm (X 2) g⟩,
    ⟨S256x1024, nrm (X 3) g⟩] concatenates_S256x1024_S256x1024_S256x1024_S256x1024_S1024x1024_d0

/-- The product of the normalised rows with the weights. -/
def prod (X : Fin 4 → Vec F S256x1024 .f32) (g : Vec F S1x1024 .f32) (w : Vec F S1024x1024 .bf16) :
    FVec F S1024x1024 .f32 :=
  matmul dot_S1024x1024_S1024x1024_S1024x1024_1_0_0_1_n_n none (rows X g) w (constant S1024x1024 .f32 0x00000000#32)

variable (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024x1024 .f32) (harg7 : arg7.IsWhole)
  (x0 : Vec F S1024x1024 .f32) (x1 : Vec F S1024x1024 .bf16) (x2 : Vec F S1x1024 .f32)

/-- What a point stores in the output. -/
theorem stores :
    (kernelRun0_A c i arg3 harg3 arg4 harg4 arg5 harg5 arg6 harg6 arg7 harg7 x0 x1 x2).1 =
      [⟨tile, prod (fun q => View.readAt (Elt F) arg3.view (rowRect q).toLoadRect (harg3.unread x0))
          (View.readAt (Elt F) arg5.view gRect.toLoadRect (harg5.unread x2))
          (View.readAt (Elt F) arg4.view tile.toLoadRect (harg4.unread x1))⟩] := rfl

end

theorem nrm_at (x : FVec Ideal S256x1024 .f32) (g : FVec Ideal S1x1024 .f32) (t : Fin 256) (l : Fin 1024) :
    nrm (F := Ideal) x g (ix2 t l) = Weights.normS (fun e => x (ix2 t e)) (g (ix2 0 l)) l := by
  pointwise [nrm, Weights.normS]

/-- The normalised rows of a block, group by group. -/
theorem rows_at (X : Fin 4 → FVec Ideal S256x1024 .f32) (g : FVec Ideal S1x1024 .f32) (q : Fin 4)
    (t : Fin 256) (l : Fin 1024) : rows X g (ix2 (grow q t) l) = nrm (X q) g (ix2 t l) := by
  have f : ∀ (q : Fin 4) (u : Fin 256), u.val = t.val → nrm (X q) g (ix2 u l) = nrm (X q) g (ix2 t l) :=
    fun q u h => congrArg (fun z => nrm (X q) g (ix2 z l)) (Fin.ext h)
  match q with
  | ⟨0, _⟩ =>
    have e : (grow 0 t).val = 0 + t.val := rfl
    show rows X g (ix2 (grow 0 t) l) = nrm (X 0) g (ix2 t l)
    pointwise [rows]
    exact (dif_pos (by omega)).trans (f 0 _ (by simp only [e]; omega))
  | ⟨1, _⟩ =>
    have e : (grow 1 t).val = 256 + t.val := rfl
    show rows X g (ix2 (grow 1 t) l) = nrm (X 1) g (ix2 t l)
    pointwise [rows]
    exact (dif_neg (by omega)).trans ((dif_pos (by omega)).trans (f 1 _ (by simp only [e]; omega)))
  | ⟨2, _⟩ =>
    have e : (grow 2 t).val = 512 + t.val := rfl
    show rows X g (ix2 (grow 2 t) l) = nrm (X 2) g (ix2 t l)
    pointwise [rows]
    exact (dif_neg (by omega)).trans ((dif_neg (by omega)).trans ((dif_pos (by omega)).trans (f 2 _ (by simp only [e]; omega))))
  | ⟨3, _⟩ =>
    have e : (grow 3 t).val = 768 + t.val := rfl
    show rows X g (ix2 (grow 3 t) l) = nrm (X 3) g (ix2 t l)
    pointwise [rows]
    exact (dif_neg (by omega)).trans ((dif_neg (by omega)).trans ((dif_neg (by omega)).trans (f 3 _ (by simp only [e]; omega))))

/-- The normalised rows of a block, of the loads of its groups. -/
theorem rows_loaded (x0 : Vec Ideal S1024x1024 .f32) (x2 : Vec Ideal S1x1024 .f32) (r l : Fin 1024) :
    rows (F := Ideal) (fun q j => x0 ((rowRect q).toLoadRect.idx j)) (fun j => x2 (gRect.toLoadRect.idx j)) (ix2 r l) =
      Weights.normS (fun e => x0 (ix2 r e)) (x2 (ix2 0 l)) l := by
  obtain ⟨q, t, rfl⟩ := grow_of r
  rw [rows_at, nrm_at]
  exact congrArg₂ (fun f g => Weights.normS f g l) (funext fun e => congrArg x0 (ext2 _ (grow q t) e
    (by show 256 * q.val + 1 * t.val = 256 * q.val + t.val; omega) (by show 0 + 1 * e.val = e.val; omega)))
    (congrArg x2 (whole2 _ 0 l))

section
variable (x0 : Vec Ideal S1024x1024 .f32) (x1 : Vec Ideal S1024x1024 .bf16) (x2 : Vec Ideal S1x1024 .f32)

theorem prod_at (X : Fin 4 → Vec Ideal S256x1024 .f32) (g : Vec Ideal S1x1024 .f32) (w : Vec Ideal S1024x1024 .bf16)
    (r l : Fin 1024) : prod X g w (ix2 r l) = ∑ k : Fin 1024, rows X g (ix2 r k) * w (ix2 k l) := by
  pointwise [prod]

variable (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024x1024 .f32) (harg7 : arg7.IsWhole)

/-- What a point leaves in the output. -/
theorem left (r l : Fin 1024) :
    out0_A_3 c i arg3 harg3 arg4 harg4 arg5 harg5 arg6 harg6 arg7 harg7 x0 x1 x2 (ix2 r l) =
      ∑ k, Weights.normS (fun e => x0 (ix2 r e)) (x2 (ix2 0 k)) k * x1 (ix2 k l) := by
  delta out0_A_3
  refine (congrFun (View.read_writes_junk_eq_canon VO0_3 _) _).trans ?_
  rw [stores]
  refine (Weights.under tile _ _ (ix2 r l) _ (whole2 _ r l).symm).trans ?_
  simp only [Weights.loaded]
  rw [prod_at]
  exact Finset.sum_congr rfl fun k _ => congrArg₂ (· * ·) (rows_loaded x0 x2 r k) (congrArg x1 (whole2 _ k l))

end

/-! ## The array the kernel ends with -/

section
variable (m : (ℓ : Loc nD τ sig) → Buf (Elt Ideal) ℓ) (c : Dev nD)

/-- The arguments. -/
def xs : Vec Ideal S4096x1024 .f32 := m ((c : Thread nD τ).loc main_arg0)
def ws : Vec Ideal S1024x1024 .bf16 := m ((c : Thread nD τ).loc main_arg1)
def gs : Vec Ideal S1x1024 .f32 := m ((c : Thread nD τ).loc main_arg2)

/-- The product, from its arguments. -/
def res (r : Fin 4096) (l : Fin 1024) : EReal :=
  ∑ k, Weights.normS (fun e => xs m c (ix2 r e)) (gs m c (ix2 0 k)) k * ws m c (ix2 k l)

/-- A point of the grid. -/
def pt (i : Fin 4) : Fin cfg0.N := ⟨i.val, lt_of_lt_of_eq (by omega) N_0.symm⟩

theorem index_of : ∀ i : Fin 4, (win0_0.index (pt i) 0 = i.val ∧ win0_0.index (pt i) 1 = 0) ∧
    (win0_1.index (pt i) 0 = 0 ∧ win0_1.index (pt i) 1 = 0) ∧
    (win0_2.index (pt i) 0 = 0 ∧ win0_2.index (pt i) 1 = 0) ∧
    win0_3.index (pt i) 0 = i.val ∧ win0_3.index (pt i) 1 = 0 := by decide +kernel

/-- The output after a point. -/
theorem left_pt (i : Fin 4) (r l : Fin 1024) : outsAt0 m c (pt i) (ix2 r l) = res m c (row i r) l := by
  obtain ⟨⟨h0, h1⟩, ⟨h2, h3⟩, ⟨h4, h5⟩, -⟩ := index_of i
  unfold outsAt0
  rw [left]
  unfold iblk
  simp only [View.read_apply]
  refine Finset.sum_congr rfl fun k _ => congrArg₂ (· * ·) (congrArg₂ (fun f g => Weights.normS f g k)
    (funext fun e => congrArg (xs m c) (ext2 _ (row i r) e ?_ ?_)) (congrArg (gs m c) (ext2 _ 0 k ?_ ?_)))
    (congrArg (ws m c) (ext2 _ k l ?_ ?_))
  · show win0_0.index (pt i) 0 * 1024 + 1 * r.val = 1024 * i.val + r.val
    omega
  · show win0_0.index (pt i) 1 * 1024 + 1 * e.val = e.val
    omega
  · show win0_2.index (pt i) 0 * 1 + 1 * 0 = 0
    omega
  · show win0_2.index (pt i) 1 * 1024 + 1 * k.val = k.val
    omega
  · show win0_1.index (pt i) 0 * 1024 + 1 * k.val = k.val
    omega
  · show win0_1.index (pt i) 1 * 1024 + 1 * l.val = l.val
    omega

/-- The result at an index. -/
theorem result_at (k : Fin 4096) (l : Fin 1024) :
    ((dats m 0 c).arrAt 3 cfg0.N : Vec Ideal S4096x1024 .f32) (ix2 k l) = res m c k l := by
  obtain ⟨i, r, rfl⟩ := row_of k
  obtain ⟨-, -, -, h6, h7⟩ := index_of i
  have hb := congrFun (Value.blocks3 m c (pt i) (flush0_3 (pt i))) (ix2 r l)
  rw [Value.flushed3, View.read_apply] at hb
  rw [← ext2 (((cfg0.win 3).blk (pt i)).view.emb (ix2 r l)) (row i r) l
    (by show win0_3.index (pt i) 0 * 1024 + 1 * r.val = 1024 * i.val + r.val; omega)
    (by show win0_3.index (pt i) 1 * 1024 + 1 * l.val = l.val; omega)]
  exact (show _ = _ from hb).trans (left_pt m c i r l)

end

end Cert.Q
-- ==== Proof.Kv.lean ====
module

public import proofs.«01_k».proof.Proof.Q
public import proofs.«01_k».proof.Proof.Gen.KernelKvIdeal.Value

@[expose] public section

set_option maxRecDepth 16384
set_option maxHeartbeats 1000000

noncomputable section

namespace Cert.Kv

open Cert.KernelKvIdeal Cert.KernelKvIdeal.Gen Idealize.ShloMosaic Idealize.ShloMosaic.TcCoe
  Idealize.SL.Sem Cert.Forward

/-! ## What the kernel stores at a point, entry by entry -/

/-- A column of a block, by heads. -/
def bcol (b : Fin 4) (t : Fin 256) : Fin 1024 := ⟨256 * b.val + t.val, by omega⟩

/-- The rectangle of the weights of a head. -/
abbrev wRect (b : Fin 4) : Rect S4x1024x256 :=
  Rect.unit (s := S4x1024x256) ![b.val, 0, 0] S1x1024x256.size
    (match b with
      | ⟨0, _⟩ => inb_S4x1024x256_S1x1024x256_0_0_0
      | ⟨1, _⟩ => inb_S4x1024x256_S1x1024x256_1_0_0
      | ⟨2, _⟩ => inb_S4x1024x256_S1x1024x256_2_0_0
      | ⟨3, _⟩ => inb_S4x1024x256_S1x1024x256_3_0_0)
/-- The rectangle of the columns of a head. -/
abbrev colRect (b : Fin 4) : Rect S1024x1024 :=
  Rect.unit (s := S1024x1024) ![0, 256 * b.val] S1024x256.size
    (match b with
      | ⟨0, _⟩ => inb_S1024x1024_S1024x256_0_0
      | ⟨1, _⟩ => inb_S1024x1024_S1024x256_0_256
      | ⟨2, _⟩ => inb_S1024x1024_S1024x256_0_512
      | ⟨3, _⟩ => inb_S1024x1024_S1024x256_0_768)

section
variable {F : FTy → Type} [FloatOps F]

/-- The product of the normalised rows with the weights of a head. -/
def prod (X : Fin 4 → Vec F S256x1024 .f32) (g : Vec F S1x1024 .f32) (w : Vec F S1x1024x256 .bf16) :
    FVec F S1024x256 .f32 :=
  matmul dot_S1024x1024_S1024x256_S1024x256_1_0_0_1_n_n none (Q.rows X g)
    (shapeCast S1024x256 w shapeCasts_S1x1024x256_S1024x256 : FVec F S1024x256 .bf16)
    (constant S1024x256 .f32 0x00000000#32)

/-- A store of the columns of a head. -/
abbrev piece (P : Fin 4 → FVec F S1024x256 .f32) (b : Fin 4) : View.Piece (Elt F) S1024x1024 .f32 :=
  ⟨colRect b, P b⟩

variable (c : Dev nD) (i : grid0.Coords) (arg3 : Memref sig .tc .vmem S1024x1024 .f32) (harg3 : arg3.IsWhole) (arg4 : Memref sig .tc .vmem S4x1024x256 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S4x1024x256 .f32) (harg7 : arg7.IsWhole)
  (x0 : Vec F S1024x1024 .f32) (x1 : Vec F S4x1024x256 .bf16) (x2 : Vec F S1x1024 .f32)

/-- What a point stores in the columns of a head. -/
abbrev stored (b : Fin 4) : FVec F S1024x256 .f32 :=
  prod (fun q => View.readAt (Elt F) arg3.view (Q.rowRect q).toLoadRect (harg3.unread x0))
    (View.readAt (Elt F) arg5.view Q.gRect.toLoadRect (harg5.unread x2))
    (View.readAt (Elt F) arg4.view (wRect b).toLoadRect (harg4.unread x1))

/-- What a point stores in the output. -/
theorem stores :
    (kernelRun0_A c i arg3 harg3 arg4 harg4 arg5 harg5 arg6 harg6 arg7 harg7 x0 x1 x2).1 =
      [piece (stored arg3 harg3 arg4 harg4 arg5 harg5 x0 x1 x2) 3, piece (stored arg3 harg3 arg4 harg4 arg5 harg5 x0 x1 x2) 2,
       piece (stored arg3 harg3 arg4 harg4 arg5 harg5 x0 x1 x2) 1, piece (stored arg3 harg3 arg4 harg4 arg5 harg5 x0 x1 x2) 0] :=
  rfl

end

/-- A column of a head is under the store of the head. -/
theorem head (P : Fin 4 → FVec Ideal S1024x256 .f32) (b : Fin 4) (L : List (View.Piece (Elt Ideal) S1024x1024 .f32))
    (r : Fin 1024) (t : Fin 256) : View.canon (Val := Elt Ideal) (piece P b :: L) (ix2 r (bcol b t)) = P b (ix2 r t) :=
  Weights.under (colRect b) _ _ (ix2 r t) _ (ext2 ((colRect b).emb (ix2 r t)) r (bcol b t)
    (by show 0 + 1 * r.val = r.val; omega) (by show 256 * b.val + 1 * t.val = 256 * b.val + t.val; omega)).symm

/-- A column of a head is not under the store of another. -/
theorem other (P : Fin 4 → FVec Ideal S1024x256 .f32) (b d : Fin 4) (h : b ≠ d)
    (L : List (View.Piece (Elt Ideal) S1024x1024 .f32)) (r : Fin 1024) (t : Fin 256) :
    View.canon (Val := Elt Ideal) (piece P d :: L) (ix2 r (bcol b t)) = View.canon (Val := Elt Ideal) L (ix2 r (bcol b t)) := by
  refine View.canon_cons_of_not_mem _ _ fun hy => ?_
  obtain ⟨x, hx⟩ := (colRect d).exists_idx_of_mem hy
  have e : 256 * d.val + 1 * (x (1 : Fin 2)).val = 256 * b.val + t.val := congrArg (fun z : S1024x1024.Idx => (z 1 : Nat)) hx
  have hl : (x (1 : Fin 2)).val < 256 := (x (1 : Fin 2)).isLt
  exact h (Fin.ext (by omega))

/-- The stores of the four heads. -/
theorem heads (P : Fin 4 → FVec Ideal S1024x256 .f32) (b : Fin 4) (r : Fin 1024) (t : Fin 256) :
    View.canon (Val := Elt Ideal) [piece P 3, piece P 2, piece P 1, piece P 0] (ix2 r (bcol b t)) = P b (ix2 r t) :=
  match b with
  | ⟨3, _⟩ => head P 3 _ r t
  | ⟨2, _⟩ => (other P 2 3 (by decide) _ r t).trans (head P 2 _ r t)
  | ⟨1, _⟩ => (other P 1 3 (by decide) _ r t).trans ((other P 1 2 (by decide) _ r t).trans (head P 1 _ r t))
  | ⟨0, _⟩ => (other P 0 3 (by decide) _ r t).trans ((other P 0 2 (by decide) _ r t).trans
      ((other P 0 1 (by decide) _ r t).trans (head P 0 _ r t)))

section
variable (x0 : Vec Ideal S1024x1024 .f32) (x1 : Vec Ideal S4x1024x256 .bf16) (x2 : Vec Ideal S1x1024 .f32)

theorem prod_at (X : Fin 4 → Vec Ideal S256x1024 .f32) (g : Vec Ideal S1x1024 .f32) (w : Vec Ideal S1x1024x256 .bf16)
    (r : Fin 1024) (t : Fin 256) : prod X g w (ix2 r t) = ∑ k : Fin 1024, Q.rows X g (ix2 r k) * w (ix3 0 k t) := by
  pointwise [prod]

variable (c : Dev nD) (i : grid0.Coords) (arg3 : Memref sig .tc .vmem S1024x1024 .f32) (harg3 : arg3.IsWhole) (arg4 : Memref sig .tc .vmem S4x1024x256 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S4x1024x256 .f32) (harg7 : arg7.IsWhole)

/-- What a point leaves in the output. -/
theorem left (r : Fin 1024) (b : Fin 4) (t : Fin 256) :
    out0_A_3 c i arg3 harg3 arg4 harg4 arg5 harg5 arg6 harg6 arg7 harg7 x0 x1 x2 (ix2 r (bcol b t)) =
      ∑ k, Weights.normS (fun e => x0 (ix2 r e)) (x2 (ix2 0 k)) k * x1 (ix3 b k t) := by
  delta out0_A_3
  refine (congrFun (View.read_writes_junk_eq_canon VO0_3 _) _).trans ?_
  rw [stores]
  refine (heads _ b r t).trans ?_
  simp only [stored, Weights.loaded]
  rw [prod_at]
  exact Finset.sum_congr rfl fun k _ => congrArg₂ (· * ·) (Q.rows_loaded x0 x2 r k) (congrArg x1 (ext3 _ b k t
    (by show b.val + 1 * 0 = b.val; omega) (by show 0 + 1 * k.val = k.val; omega) (by show 0 + 1 * t.val = t.val; omega)))

end

/-! ## The array the kernel ends with -/

section
variable (m : (ℓ : Loc nD τ sig) → Buf (Elt Ideal) ℓ) (c : Dev nD)

/-- The arguments. -/
def xs : Vec Ideal S4096x1024 .f32 := m ((c : Thread nD τ).loc main_arg0)
def ws : Vec Ideal S8x1024x256 .bf16 := m ((c : Thread nD τ).loc main_arg1)
def gs : Vec Ideal S1x1024 .f32 := m ((c : Thread nD τ).loc main_arg2)

/-- The product, from its arguments: a row and a column of a head. -/
def res (r : Fin 4096) (h : Fin 8) (t : Fin 256) : EReal :=
  ∑ k, Weights.normS (fun e => xs m c (ix2 r e)) (gs m c (ix2 0 k)) k * ws m c (ix3 h k t)

/-- A column of the result. -/
def col (h : Fin 8) (t : Fin 256) : Fin 2048 := ⟨256 * h.val + t.val, by omega⟩
/-- A head, by blocks. -/
def hd (j : Fin 2) (b : Fin 4) : Fin 8 := ⟨4 * j.val + b.val, by omega⟩
/-- A point of the grid. -/
def pt (i : Fin 4) (j : Fin 2) : Fin cfg0.N := ⟨2 * i.val + j.val, lt_of_lt_of_eq (by omega) N_0.symm⟩

theorem index_of : ∀ (i : Fin 4) (j : Fin 2), (win0_0.index (pt i j) 0 = i.val ∧ win0_0.index (pt i j) 1 = 0) ∧
    (win0_1.index (pt i j) 0 = j.val ∧ win0_1.index (pt i j) 1 = 0 ∧ win0_1.index (pt i j) 2 = 0) ∧
    (win0_2.index (pt i j) 0 = 0 ∧ win0_2.index (pt i j) 1 = 0) ∧
    win0_3.index (pt i j) 0 = i.val ∧ win0_3.index (pt i j) 1 = j.val := by decide +kernel

/-- The output after a point. -/
theorem left_pt (i : Fin 4) (j : Fin 2) (r : Fin 1024) (b : Fin 4) (t : Fin 256) :
    outsAt0 m c (pt i j) (ix2 r (bcol b t)) = res m c (row i r) (hd j b) t := by
  obtain ⟨⟨h0, h1⟩, ⟨h2, h3, h4⟩, ⟨h5, h6⟩, -⟩ := index_of i j
  unfold outsAt0
  rw [left]
  unfold iblk
  simp only [View.read_apply]
  refine Finset.sum_congr rfl fun k _ => congrArg₂ (· * ·) (congrArg₂ (fun f g => Weights.normS f g k)
    (funext fun e => congrArg (xs m c) (ext2 _ (row i r) e ?_ ?_)) (congrArg (gs m c) (ext2 _ 0 k ?_ ?_)))
    (congrArg (ws m c) (ext3 _ (hd j b) k t ?_ ?_ ?_))
  · show win0_0.index (pt i j) 0 * 1024 + 1 * r.val = 1024 * i.val + r.val
    omega
  · show win0_0.index (pt i j) 1 * 1024 + 1 * e.val = e.val
    omega
  · show win0_2.index (pt i j) 0 * 1 + 1 * 0 = 0
    omega
  · show win0_2.index (pt i j) 1 * 1024 + 1 * k.val = k.val
    omega
  · show win0_1.index (pt i j) 0 * 4 + 1 * b.val = 4 * j.val + b.val
    omega
  · show win0_1.index (pt i j) 1 * 1024 + 1 * k.val = k.val
    omega
  · show win0_1.index (pt i j) 2 * 256 + 1 * t.val = t.val
    omega

/-- The result at an index. -/
theorem result_at (k : Fin 4096) (h : Fin 8) (t : Fin 256) :
    ((dats m 0 c).arrAt 3 cfg0.N : Vec Ideal S4096x2048 .f32) (ix2 k (col h t)) = res m c k h t := by
  obtain ⟨i, r, rfl⟩ := row_of k
  obtain ⟨j, b, rfl⟩ : ∃ (j : Fin 2) (b : Fin 4), h = hd j b := ⟨⟨h.val / 4, by omega⟩, ⟨h.val % 4, by omega⟩,
    Fin.ext (by show h.val = 4 * (h.val / 4) + h.val % 4; omega)⟩
  obtain ⟨-, -, -, h6, h7⟩ := index_of i j
  have hb := congrFun (Value.blocks3 m c (pt i j) (flush0_3 (pt i j))) (ix2 r (bcol b t))
  rw [Value.flushed3, View.read_apply] at hb
  rw [← ext2 (((cfg0.win 3).blk (pt i j)).view.emb (ix2 r (bcol b t))) (row i r) (col (hd j b) t)
    (by show win0_3.index (pt i j) 0 * 1024 + 1 * r.val = 1024 * i.val + r.val; omega)
    (by
      show win0_3.index (pt i j) 1 * 1024 + 1 * (256 * b.val + t.val) = 256 * (4 * j.val + b.val) + t.val
      omega)]
  exact (show _ = _ from hb).trans (left_pt m c i j r b t)

end

end Cert.Kv
-- ==== Proof.QEnds.lean ====
module

public import proofs.«01_k».proof.Proof.Q
public import proofs.«01_k».proof.Defs
public import proofs.«01_k».proof.Proof.Gen.ReferenceQIdeal.Run
public import Idealize.ShloMosaic.Lib.Quiescent

@[expose] public section

set_option maxRecDepth 16384
set_option maxHeartbeats 1000000

noncomputable section

namespace Cert.Q

open Idealize.ShloMosaic Idealize.ShloMosaic.TcCoe Idealize.ShloMosaic.StableHlo Idealize.SL.Sem Cert.Forward

/-! ## The kernel's result and the reference's, side by side -/

section
open Cert.ReferenceQIdeal Cert.ReferenceQIdeal.Gen

/-- The rows as the reference normalises them. -/
def normed (x : FVec Ideal S4096x1024 .f32) (g : FVec Ideal S1x1024 .f32) : FVec Ideal S4096x1024 .f32 :=
  mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 g)

theorem normed_at (x : FVec Ideal S4096x1024 .f32) (g : FVec Ideal S1x1024 .f32) (k : Fin 4096) (l : Fin 1024) :
    normed x g (ix2 k l) = Weights.normS (fun e => x (ix2 k e)) (g (ix2 0 l)) l := by
  pointwise [normed, Weights.normS]

/-- What the reference computes. -/
def refOut (x : FVec Ideal S4096x1024 .f32) (w : FVec Ideal S1024x1024 .bf16) (g : FVec Ideal S1x1024 .f32) :
    FVec Ideal S4096x1024 .f32 :=
  Host.dotGeneral dot_S4096x1024_S1024x1024_S4096x1024_1_0_0_1_n_n none (normed x g) (extf .f32 w bitsLt_bf16_f32)

/-- The reference at an index. -/
theorem ref_at (x : FVec Ideal S4096x1024 .f32) (w : FVec Ideal S1024x1024 .bf16) (g : FVec Ideal S1x1024 .f32)
    (r : Fin 4096) (l : Fin 1024) : refOut x w g (ix2 r l) =
      ∑ k : Fin 1024, Weights.normS (fun e => x (ix2 r e)) (g (ix2 0 k)) k * w (ix2 k l) := by
  refine Eq.trans (b := ∑ k : Fin 1024, normed x g (ix2 r k) * w (ix2 k l)) ?_ ?_
  · pointwise [refOut]
  · exact Finset.sum_congr rfl fun k _ => by rw [normed_at]

end

/-- The kernel and the reference end with equal results. -/
theorem equal_ends : Cert.algebraic_KernelQIdeal_ReferenceQIdeal
    (hKernelQIdeal := Cert.KernelQIdeal.Gen.facts) (hReferenceQIdeal := Cert.ReferenceQIdeal.Gen.facts) := by
  intro m g m' g' _ hagree
  refine ⟨_, Cert.KernelQIdeal.Value.run_blocks m g, ?_⟩
  refine (θ_run Cert.ReferenceQIdeal.defs _ _).mono (fun r h c => ?_)
    (Cert.ReferenceQIdeal.Value.run (F := Ideal) m' g')
  refine ⟨(h c).1.trans ?_, (h c).2⟩
  rw [(hagree c).1, (hagree c).2.1, (hagree c).2.2]
  funext y
  rw [ext2 y (y 0) (y 1) rfl rfl]
  exact (ref_at _ _ _ _ _).trans (result_at m c (y 0) (y 1)).symm

/-- The reference ends with its arguments unchanged. -/
theorem reference_ends : Cert.quiescent_ReferenceQIdeal
    (hReferenceQIdeal := Cert.ReferenceQIdeal.Gen.facts) := fun m ρ _ =>
  (θ_run Cert.ReferenceQIdeal.defs _ _).mono (fun r h => ⟨fun c => (h c).2,
      Idealize.ShloMosaic.sem_eq_zero_of_no_sems (by decide) r.2⟩)
    (Cert.ReferenceQIdeal.Value.run (F := Ideal) m ρ)

end Cert.Q
-- ==== Proof.KvEnds.lean ====
module

public import proofs.«01_k».proof.Proof.Kv
public import proofs.«01_k».proof.Proof.QEnds
public import proofs.«01_k».proof.Defs
public import proofs.«01_k».proof.Proof.Gen.ReferenceKvIdeal.Run
public import Idealize.ShloMosaic.Lib.Quiescent

@[expose] public section

set_option maxRecDepth 16384
set_option maxHeartbeats 1000000

noncomputable section

namespace Cert.Kv

open Idealize.ShloMosaic Idealize.ShloMosaic.TcCoe Idealize.ShloMosaic.StableHlo Idealize.SL.Sem Cert.Forward

/-! ## The kernel's result and the reference's, side by side -/

section
open Cert.ReferenceKvIdeal Cert.ReferenceKvIdeal.Gen

/-- What the reference computes. -/
def refOut (x : FVec Ideal S4096x1024 .f32) (w : FVec Ideal S8x1024x256 .bf16) (g : FVec Ideal S1x1024 .f32) :
    FVec Ideal S4096x2048 .f32 :=
  Host.dotGeneral dot_S4096x1024_S1024x2048_S4096x2048_1_0_0_1_n_n none (Q.normed x g) (extf .f32 (shapeCast _ (transpose S1024x8x256 [1, 0, 2] w transposes_S8x1024x256_S1024x8x256_1_0_2) shapeCasts_S1024x8x256_S1024x2048) bitsLt_bf16_f32)

/-- The reference at an index. -/
theorem ref_at (x : FVec Ideal S4096x1024 .f32) (w : FVec Ideal S8x1024x256 .bf16) (g : FVec Ideal S1x1024 .f32)
    (r : Fin 4096) (h : Fin 8) (t : Fin 256) : refOut x w g (ix2 r (col h t)) =
      ∑ k : Fin 1024, Weights.normS (fun e => x (ix2 r e)) (g (ix2 0 k)) k * w (ix3 h k t) := by
  refine Eq.trans (b := ∑ k : Fin 1024, Q.normed x g (ix2 r k) *
    w (ix3 (⟨(col h t).val / 256, by omega⟩ : Fin 8) k (⟨(col h t).val % 256, by omega⟩ : Fin 256))) ?_ ?_
  · pointwise [refOut]
  · refine Finset.sum_congr rfl fun k _ => congrArg₂ (· * ·) (Q.normed_at x g r k) (congrArg w (ext3 _ h k t ?_ rfl ?_))
    · show (256 * h.val + t.val) / 256 = h.val
      omega
    · show (256 * h.val + t.val) % 256 = t.val
      omega

end

/-- The kernel and the reference end with equal results. -/
theorem equal_ends : Cert.algebraic_KernelKvIdeal_ReferenceKvIdeal
    (hKernelKvIdeal := Cert.KernelKvIdeal.Gen.facts) (hReferenceKvIdeal := Cert.ReferenceKvIdeal.Gen.facts) := by
  intro m g m' g' _ hagree
  refine ⟨_, Cert.KernelKvIdeal.Value.run_blocks m g, ?_⟩
  refine (θ_run Cert.ReferenceKvIdeal.defs _ _).mono (fun r h c => ?_)
    (Cert.ReferenceKvIdeal.Value.run (F := Ideal) m' g')
  refine ⟨(h c).1.trans ?_, (h c).2⟩
  rw [(hagree c).1, (hagree c).2.1, (hagree c).2.2]
  funext y
  have h1 : (y 1).val < 2048 := (y 1).isLt
  rw [ext2 y (y 0) (col ⟨(y 1).val / 256, by omega⟩ ⟨(y 1).val % 256, by omega⟩) rfl
    (by show (y 1).val = 256 * ((y 1).val / 256) + (y 1).val % 256; omega)]
  exact (ref_at _ _ _ _ _ _).trans (result_at m c (y 0) _ _).symm

/-- The reference ends with its arguments unchanged. -/
theorem reference_ends : Cert.quiescent_ReferenceKvIdeal
    (hReferenceKvIdeal := Cert.ReferenceKvIdeal.Gen.facts) := fun m ρ _ =>
  (θ_run Cert.ReferenceKvIdeal.defs _ _).mono (fun r h => ⟨fun c => (h c).2,
      Idealize.ShloMosaic.sem_eq_zero_of_no_sems (by decide) r.2⟩)
    (Cert.ReferenceKvIdeal.Value.run (F := Ideal) m ρ)

end Cert.Kv
-- ==== Proof.Gate.lean ====
module

public import proofs.«01_k».proof.Proof.Q
public import proofs.«01_k».proof.Proof.Gen.KernelGateIdeal.Value
public import Idealize.ShloMosaic.Lib.StableHlo.ReadAt

@[expose] public section

set_option maxRecDepth 16384
set_option maxHeartbeats 1000000

noncomputable section

namespace Cert.Gate

open Cert.KernelGateIdeal Cert.KernelGateIdeal.Gen Idealize.ShloMosaic Idealize.ShloMosaic.TcCoe
  Idealize.SL.Sem Cert.Forward

/-! ## What the kernel stores at a point, entry by entry -/

/-- The weights of a half, a half of the pair, and the activation. -/
abbrev wRect (h : Fin 2) : Rect S2x1x704x1024 :=
  Rect.unit (s := S2x1x704x1024) ![h.val, 0, 0, 0] S1x1x704x1024.size (match h with
    | ⟨0, _⟩ => inb_S2x1x704x1024_S1x1x704x1024_0_0_0_0
    | ⟨1, _⟩ => inb_S2x1x704x1024_S1x1x704x1024_1_0_0_0)
abbrev pairRect (h : Fin 2) : Rect S2x1x1024x704 :=
  Rect.unit (s := S2x1x1024x704) ![h.val, 0, 0, 0] S1x1x1024x704.size (match h with
    | ⟨0, _⟩ => inb_S2x1x1024x704_S1x1x1024x704_0_0_0_0
    | ⟨1, _⟩ => inb_S2x1x1024x704_S1x1x1024x704_1_0_0_0)
abbrev actRect : Rect S1x1024x704 :=
  Rect.unit (s := S1x1024x704) ![0, 0, 0] S1x1024x704.size inb_S1x1024x704_S1x1024x704_0_0_0

section
variable {F : FTy → Type} [FloatOps F]

/-- The product of the normalised rows with a half of the weights. -/
def prod (X : Fin 4 → Vec F S256x1024 .f32) (g : Vec F S1x1024 .f32) (w : Vec F S1x1x704x1024 .bf16) :
    FVec F S1024x704 .f32 :=
  matmul dot_S1024x1024_S704x1024_S1024x704_1_1_0_0_n_n none (Q.rows X g)
    (shapeCast S704x1024 w shapeCasts_S1x1x704x1024_S704x1024) (constant S1024x704 .f32 0x00000000#32)

/-- A half of the pair, and the activation. -/
def half (p : FVec F S1024x704 .f32) : FVec F S1x1x1024x704 .bf16 :=
  shapeCast S1x1x1024x704 (truncf .bf16 p bitsLt_bf16_f32) shapeCasts_S1024x704_S1x1x1024x704
def act (p q : FVec F S1024x704 .f32) : FVec F S1x1024x704 .bf16 :=
  shapeCast S1x1024x704 (truncf .bf16 (mulf (mulf p (divf (broadcast S1024x704 (Scalar.ofBits .f32 0x3F800000#32))
    (addf (broadcast S1024x704 (Scalar.ofBits .f32 0x3F800000#32))
      (exp (subf (broadcast S1024x704 (Scalar.ofBits .f32 0x00000000#32)) p))))) q) bitsLt_bf16_f32)
    shapeCasts_S1024x704_S1x1024x704

variable (c : Dev nD) (i : grid0.Coords) (arg3 : Memref sig .tc .vmem S1024x1024 .f32) (harg3 : arg3.IsWhole) (arg4 : Memref sig .tc .vmem S2x1x704x1024 .bf16) (harg4 : arg4.IsWhole) (arg5 : Memref sig .tc .vmem S1x1024 .f32) (harg5 : arg5.IsWhole) (arg6 : Memref sig .tc .vmem S2x1x1024x704 .bf16) (harg6 : arg6.IsWhole) (arg7 : Memref sig .tc .vmem S1x1024x704 .bf16) (harg7 : arg7.IsWhole) (arg8 : Memref sig .tc .vmem S2x1024x704 .f32) (harg8 : arg8.IsWhole)
  (x0 : Vec F S1024x1024 .f32) (x1 : Vec F S2x1x704x1024 .bf16) (x2 : Vec F S1x1024 .f32)

/-- The product of a half at a point. -/
abbrev product (h : Fin 2) : FVec F S1024x704 .f32 :=
  prod (fun q => View.readAt (Elt F) arg3.view (Q.rowRect q).toLoadRect (harg3.unread x0))
    (View.readAt (Elt F) arg5.view Q.gRect.toLoadRect (harg5.unread x2))
    (View.readAt (Elt F) arg4.view (wRect h).toLoadRect (harg4.unread x1))

/-- What a point stores in the pair, and in the activation. -/
theorem stores_pair : (kernelRun0_A c i arg3 harg3 arg4 harg4 arg5 harg5 arg6 harg6 arg7 harg7 arg8 harg8 x0 x1 x2).1 =
    [⟨pairRect 1, half (product arg3 harg3 arg4 harg4 arg5 harg5 x0 x1 x2 1)⟩,
     ⟨pairRect 0, half (product arg3 harg3 arg4 harg4 arg5 harg5 x0 x1 x2 0)⟩] := rfl
theorem stores_act : (kernelRun0_A c i arg3 harg3 arg4 harg4 arg5 harg5 arg6 harg6 arg7 harg7 arg8 harg8 x0 x1 x2).2.1 =
    [⟨actRect, act (product arg3 harg3 arg4 harg4 arg5 harg5 x0 x1 x2 0)
      (product arg3 harg3 arg4 harg4 arg5 harg5 x0 x1 x2 1)⟩] := rfl

end

/-- The activation of an entry of each half. -/
def silu (p q : EReal) : EReal := p * Ret.sigS p * q

section
variable (x0 : Vec Ideal S1024x1024 .f32) (x1 : Vec Ideal S2x1x704x1024 .bf16) (x2 : Vec Ideal S1x1024 .f32)

theorem prod_at (X : Fin 4 → Vec Ideal S256x1024 .f32) (g : Vec Ideal S1x1024 .f32) (w : Vec Ideal S1x1x704x1024 .bf16)
    (r : Fin 1024) (u : Fin 704) :
    prod X g w (ix2 r u) = ∑ k : Fin 1024, Q.rows X g (ix2 r k) * w (ix4 0 0 u k) := by
  pointwise [prod]

theorem half_at (p : FVec Ideal S1024x704 .f32) (r : Fin 1024) (u : Fin 704) : half p (ix4 0 0 r u) = p (ix2 r u) := by
  pointwise [half]

theorem act_at (p q : FVec Ideal S1024x704 .f32) (r : Fin 1024) (u : Fin 704) :
    act p q (ix3 0 r u) = silu (p (ix2 r u)) (q (ix2 r u)) := by
  pointwise [act, silu, Ret.sigS]

variable (c : Dev nD) (i : grid0.Coords) (arg3 : Memref sig .tc .vmem S1024x1024 .f32) (harg3 : arg3.IsWhole) (arg4 : Memref sig .tc .vmem S2x1x704x1024 .bf16) (harg4 : arg4.IsWhole) (arg5 : Memref sig .tc .vmem S1x1024 .f32) (harg5 : arg5.IsWhole) (arg6 : Memref sig .tc .vmem S2x1x1024x704 .bf16) (harg6 : arg6.IsWhole) (arg7 : Memref sig .tc .vmem S1x1024x704 .bf16) (harg7 : arg7.IsWhole) (arg8 : Memref sig .tc .vmem S2x1024x704 .f32) (harg8 : arg8.IsWhole)

/-- An entry of the product of a half. -/
def prodE (h : Fin 2) (r : Fin 1024) (u : Fin 704) : EReal :=
  ∑ k, Weights.normS (fun e => x0 (ix2 r e)) (x2 (ix2 0 k)) k * x1 (ix4 h 0 u k)

theorem product_at (h : Fin 2) (r : Fin 1024) (u : Fin 704) :
    product (F := Ideal) arg3 harg3 arg4 harg4 arg5 harg5 x0 x1 x2 h (ix2 r u) = prodE x0 x1 x2 h r u := by
  unfold product
  simp only [Weights.loaded]
  rw [prod_at]
  exact Finset.sum_congr rfl fun k _ => congrArg₂ (· * ·) (Q.rows_loaded x0 x2 r k)
    (congrArg x1 (ext4 _ h 0 u k (by show h.val + 1 * 0 = h.val; omega) (by show 0 + 1 * 0 = 0; omega)
      (by show 0 + 1 * u.val = u.val; omega) (by show 0 + 1 * k.val = k.val; omega)))

theorem pair_idx (h : Fin 2) (r : Fin 1024) (u : Fin 704) :
    ix4 h 0 r u = (pairRect h).emb (ix4 0 0 r u) :=
  (ext4 _ h 0 r u (by show h.val + 1 * 0 = h.val; omega) (by show 0 + 1 * 0 = 0; omega)
    (by show 0 + 1 * r.val = r.val; omega) (by show 0 + 1 * u.val = u.val; omega)).symm

/-- What a point leaves in the pair. -/
theorem left_pair (h : Fin 2) (r : Fin 1024) (u : Fin 704) :
    out0_A_3 c i arg3 harg3 arg4 harg4 arg5 harg5 arg6 harg6 arg7 harg7 arg8 harg8 x0 x1 x2 (ix4 h 0 r u) = prodE x0 x1 x2 h r u := by
  delta out0_A_3
  refine (congrFun (View.read_writes_junk_eq_canon VO0_3 _) _).trans ?_
  rw [stores_pair]
  match h with
  | ⟨1, _⟩ =>
    refine (Weights.under (pairRect 1) _ _ (ix4 0 0 r u) _ (pair_idx 1 r u)).trans ?_
    rw [half_at]
    exact product_at x0 x1 x2 arg3 harg3 arg4 harg4 arg5 harg5 1 r u
  | ⟨0, _⟩ =>
    refine (View.canon_cons_of_not_mem _ _ fun hy => ?_).trans
      ((Weights.under (pairRect 0) _ _ (ix4 0 0 r u) _ (pair_idx 0 r u)).trans ?_)
    · obtain ⟨x, hx⟩ := (pairRect 1).exists_idx_of_mem hy
      have e : 1 + 1 * (x (0 : Fin 4)).val = 0 := congrArg (fun z : S2x1x1024x704.Idx => (z 0 : Nat)) hx
      omega
    · rw [half_at]
      exact product_at x0 x1 x2 arg3 harg3 arg4 harg4 arg5 harg5 0 r u

/-- What a point leaves in the activation. -/
theorem left_act (r : Fin 1024) (u : Fin 704) :
    out0_A_4 c i arg3 harg3 arg4 harg4 arg5 harg5 arg6 harg6 arg7 harg7 arg8 harg8 x0 x1 x2 (ix3 0 r u) = silu (prodE x0 x1 x2 0 r u) (prodE x0 x1 x2 1 r u) := by
  delta out0_A_4
  refine (congrFun (View.read_writes_junk_eq_canon VO0_4 _) _).trans ?_
  rw [stores_act]
  refine (Weights.under actRect _ _ (ix3 0 r u) _ (ext3 (actRect.emb (ix3 0 r u)) 0 r u (by show 0 + 1 * 0 = 0; omega)
    (by show 0 + 1 * r.val = r.val; omega) (by show 0 + 1 * u.val = u.val; omega)).symm).trans ?_
  rw [act_at]
  exact congrArg₂ silu (product_at x0 x1 x2 arg3 harg3 arg4 harg4 arg5 harg5 0 r u)
    (product_at x0 x1 x2 arg3 harg3 arg4 harg4 arg5 harg5 1 r u)

end

/-! ## The arrays the kernel ends with -/

/-- A row of the weights. -/
def wrow (h : Fin 2) (j : Fin 4) (u : Fin 704) : Fin 5632 := ⟨2816 * h.val + (704 * j.val + u.val), by omega⟩

/-- An entry of a half of the pair, from the arguments of the kernel. -/
def pairS (x : Vec Ideal S4096x1024 .f32) (w : Vec Ideal S5632x1024 .bf16) (g : Vec Ideal S1x1024 .f32) (h : Fin 2)
    (j : Fin 4) (r : Fin 4096) (u : Fin 704) : EReal :=
  ∑ k, Weights.normS (fun e => x (ix2 r e)) (g (ix2 0 k)) k * w (ix2 (wrow h j u) k)

section
variable (m : (ℓ : Loc nD τ sig) → Buf (Elt Ideal) ℓ) (c : Dev nD)

/-- The arguments. -/
def xs : Vec Ideal S4096x1024 .f32 := m ((c : Thread nD τ).loc main_arg0)
def ws : Vec Ideal S5632x1024 .bf16 := m ((c : Thread nD τ).loc main_arg1)
def gs : Vec Ideal S1x1024 .f32 := m ((c : Thread nD τ).loc main_arg2)

/-- The weights as the kernel arranges them. -/
theorem arranged (h : Fin 2) (j : Fin 4) (u : Fin 704) (k : Fin 1024) :
    (V m c main_v0 : Vec Ideal S2x4x704x1024 .bf16) (ix4 h j u k) = ws m c (ix2 (wrow h j u) k) := by
  unfold V
  after_reads_at
  exact congrArg (fun z => ws m c (ix2 z k)) (Fin.ext
    (by show h.val * 2816 + j.val * 704 + u.val = 2816 * h.val + (704 * j.val + u.val); omega))

/-- A point of the grid. -/
def pt (i j : Fin 4) : Fin cfg0.N := ⟨4 * i.val + j.val, lt_of_lt_of_eq (by omega) N_0.symm⟩

theorem index_of : ∀ i j : Fin 4, (win0_0.index (pt i j) 0 = i.val ∧ win0_0.index (pt i j) 1 = 0) ∧
    (win0_1.index (pt i j) 0 = 0 ∧ win0_1.index (pt i j) 1 = j.val ∧ win0_1.index (pt i j) 2 = 0 ∧ win0_1.index (pt i j) 3 = 0) ∧
    (win0_2.index (pt i j) 0 = 0 ∧ win0_2.index (pt i j) 1 = 0) ∧
    (win0_3.index (pt i j) 0 = 0 ∧ win0_3.index (pt i j) 1 = j.val ∧ win0_3.index (pt i j) 2 = i.val ∧ win0_3.index (pt i j) 3 = 0) ∧
    win0_4.index (pt i j) 0 = j.val ∧ win0_4.index (pt i j) 1 = i.val ∧ win0_4.index (pt i j) 2 = 0 := by decide +kernel

/-- The product of a half at a point. -/
theorem prod_pt (i j : Fin 4) (h : Fin 2) (r : Fin 1024) (u : Fin 704) :
    prodE (iblk m c 0 (pt i j)) (iblk m c 1 (pt i j)) (iblk m c 2 (pt i j)) h r u =
      pairS (xs m c) (ws m c) (gs m c) h j (row i r) u := by
  obtain ⟨⟨h0, h1⟩, ⟨h2, h3, h4, h5⟩, ⟨h6, h7⟩, -⟩ := index_of i j
  unfold iblk prodE
  simp only [View.read_apply]
  refine Finset.sum_congr rfl fun k _ => congrArg₂ (· * ·) (congrArg₂ (fun f g => Weights.normS f g k)
    (funext fun e => (congrArg (V m c main_arg0 : Vec Ideal S4096x1024 .f32) (ext2 _ (row i r) e ?_ ?_)).trans
      (congrFun (V_main_arg0 m c) _))
    ((congrArg (V m c main_arg2 : Vec Ideal S1x1024 .f32) (ext2 _ 0 k ?_ ?_)).trans (congrFun (V_main_arg2 m c) _)))
    ((congrArg (V m c main_v0 : Vec Ideal S2x4x704x1024 .bf16) (ext4 _ h j u k ?_ ?_ ?_ ?_)).trans (arranged m c h j u k))
  · show win0_0.index (pt i j) 0 * 1024 + 1 * r.val = 1024 * i.val + r.val
    omega
  · show win0_0.index (pt i j) 1 * 1024 + 1 * e.val = e.val
    omega
  · show win0_2.index (pt i j) 0 * 1 + 1 * 0 = 0
    omega
  · show win0_2.index (pt i j) 1 * 1024 + 1 * k.val = k.val
    omega
  · show win0_1.index (pt i j) 0 * 2 + 1 * h.val = h.val
    omega
  · show win0_1.index (pt i j) 1 * 1 + 1 * 0 = j.val
    omega
  · show win0_1.index (pt i j) 2 * 704 + 1 * u.val = u.val
    omega
  · show win0_1.index (pt i j) 3 * 1024 + 1 * k.val = k.val
    omega

/-- The pair and the activation after a point. -/
theorem pair_pt (i j : Fin 4) (h : Fin 2) (r : Fin 1024) (u : Fin 704) : (outsAt0 m c (pt i j)).1 (ix4 h 0 r u) =
    pairS (xs m c) (ws m c) (gs m c) h j (row i r) u := by
  unfold outsAt0
  dsimp only
  rw [left_pair, prod_pt]
theorem act_pt (i j : Fin 4) (r : Fin 1024) (u : Fin 704) : (outsAt0 m c (pt i j)).2 (ix3 0 r u) =
    silu (pairS (xs m c) (ws m c) (gs m c) 0 j (row i r) u) (pairS (xs m c) (ws m c) (gs m c) 1 j (row i r) u) := by
  unfold outsAt0
  dsimp only
  rw [left_act, prod_pt, prod_pt]

/-- The pair at an index. -/
theorem pair_at (h : Fin 2) (j : Fin 4) (k : Fin 4096) (u : Fin 704) :
    ((dats m 0 c).arrAt 3 cfg0.N : Vec Ideal S2x4x4096x704 .bf16) (ix4 h j k u) =
      pairS (xs m c) (ws m c) (gs m c) h j k u := by
  obtain ⟨i, r, rfl⟩ := row_of k
  obtain ⟨-, -, -, ⟨h0, h1, h2, h3⟩, -⟩ := index_of i j
  have hb := congrFun (Value.blocks3 m c (pt i j) (flush0_3 (pt i j))) (ix4 h 0 r u)
  rw [Value.flushed3, View.read_apply] at hb
  rw [← ext4 (((cfg0.win 3).blk (pt i j)).view.emb (ix4 h 0 r u)) h j (row i r) u
    (by show win0_3.index (pt i j) 0 * 2 + 1 * h.val = h.val; omega)
    (by show win0_3.index (pt i j) 1 * 1 + 1 * 0 = j.val; omega)
    (by show win0_3.index (pt i j) 2 * 1024 + 1 * r.val = 1024 * i.val + r.val; omega)
    (by show win0_3.index (pt i j) 3 * 704 + 1 * u.val = u.val; omega)]
  exact (show _ = _ from hb).trans (pair_pt m c i j h r u)

/-- The activation at an index. -/
theorem activation_at (j : Fin 4) (k : Fin 4096) (u : Fin 704) :
    ((dats m 0 c).arrAt 4 cfg0.N : Vec Ideal S4x4096x704 .bf16) (ix3 j k u) =
      silu (pairS (xs m c) (ws m c) (gs m c) 0 j k u) (pairS (xs m c) (ws m c) (gs m c) 1 j k u) := by
  obtain ⟨i, r, rfl⟩ := row_of k
  obtain ⟨-, -, -, -, h0, h1, h2⟩ := index_of i j
  have hb := congrFun (Value.blocks4 m c (pt i j) (flush0_4 (pt i j))) (ix3 0 r u)
  rw [Value.flushed4, View.read_apply] at hb
  rw [← ext3 (((cfg0.win 4).blk (pt i j)).view.emb (ix3 0 r u)) j (row i r) u
    (by show win0_4.index (pt i j) 0 * 1 + 1 * 0 = j.val; omega)
    (by show win0_4.index (pt i j) 1 * 1024 + 1 * r.val = 1024 * i.val + r.val; omega)
    (by show win0_4.index (pt i j) 2 * 704 + 1 * u.val = u.val; omega)]
  exact (show _ = _ from hb).trans (act_pt m c i j r u)

end

end Cert.Gate
-- ==== Proof.GateEnds.lean ====
module

public import proofs.«01_k».proof.Proof.Gate
public import proofs.«01_k».proof.Proof.QEnds
public import proofs.«01_k».proof.Defs
public import proofs.«01_k».proof.Proof.Gen.ReferenceGateIdeal.Run
public import Idealize.ShloMosaic.Lib.Quiescent

@[expose] public section

set_option maxRecDepth 16384
set_option maxHeartbeats 1000000

noncomputable section

namespace Cert.Gate

open Idealize.ShloMosaic Idealize.ShloMosaic.TcCoe Idealize.ShloMosaic.StableHlo Idealize.SL.Sem Cert.Forward

/-! ## The kernel's result and the reference's, side by side -/

section
open Cert.ReferenceGateIdeal Cert.ReferenceGateIdeal.Gen

variable (x : FVec Ideal S4096x1024 .f32) (w : FVec Ideal S5632x1024 .bf16) (g : FVec Ideal S1x1024 .f32)

/-- The product of the normalised rows with all the weights, as the reference computes it, and its two halves. -/
def refProd : FVec Ideal S4096x5632 .f32 :=
  Host.dotGeneral dot_S4096x1024_S1024x5632_S4096x5632_1_0_0_1_n_n none (Q.normed x g) (transpose S1024x5632 [1, 0] (extf .f32 w bitsLt_bf16_f32) transposes_S5632x1024_S1024x5632_1_0)
def gateOf (p : FVec Ideal S4096x5632 .f32) : FVec Ideal S4096x2816 .f32 :=
  extractStridedSlice S4096x2816 ![0, 0] p slices_S4096x5632_S4096x2816_0_0
def upOf (p : FVec Ideal S4096x5632 .f32) : FVec Ideal S4096x2816 .f32 :=
  extractStridedSlice S4096x2816 ![0, 2816] p slices_S4096x5632_S4096x2816_0_2816

/-- An array by groups of columns. -/
def grouped (p : FVec Ideal S4096x2816 .f32) : FVec Ideal S4x4096x704 .bf16 :=
  truncf .bf16 (transpose S4x4096x704 [1, 0, 2] (shapeCast _ p shapeCasts_S4096x2816_S4096x4x704) transposes_S4096x4x704_S4x4096x704_1_0_2) bitsLt_bf16_f32

/-- A column of a group. -/
def gcol (j : Fin 4) (u : Fin 704) : Fin 2816 := ⟨704 * j.val + u.val, by omega⟩

theorem grouped_at (p : FVec Ideal S4096x2816 .f32) (j : Fin 4) (k : Fin 4096) (u : Fin 704) :
    grouped p (ix3 j k u) = p (ix2 k (gcol j u)) := by
  pointwise [grouped]
  exact congrArg (fun z => p (ix2 k z)) (Fin.ext (by show j.val * 704 + u.val = 704 * j.val + u.val; omega))

theorem refProd_at (k : Fin 4096) (c : Fin 5632) : refProd x w g (ix2 k c) =
    ∑ e : Fin 1024, Weights.normS (fun e => x (ix2 k e)) (g (ix2 0 e)) e * w (ix2 c e) := by
  refine Eq.trans (b := ∑ e : Fin 1024, Q.normed x g (ix2 k e) * w (ix2 c e)) ?_ ?_
  · pointwise [refProd]
  · exact Finset.sum_congr rfl fun e _ => by rw [Q.normed_at]

theorem gateOf_at (p : FVec Ideal S4096x5632 .f32) (k : Fin 4096) (j : Fin 4) (u : Fin 704) :
    gateOf p (ix2 k (gcol j u)) = p (ix2 k (wrow 0 j u)) := by
  pointwise [gateOf]
  exact congrArg (fun z => p (ix2 k z)) (Fin.ext (by show 704 * j.val + u.val = 2816 * 0 + (704 * j.val + u.val); omega))
theorem upOf_at (p : FVec Ideal S4096x5632 .f32) (k : Fin 4096) (j : Fin 4) (u : Fin 704) :
    upOf p (ix2 k (gcol j u)) = p (ix2 k (wrow 1 j u)) := by
  pointwise [upOf]
  exact congrArg (fun z => p (ix2 k z)) (Fin.ext (by show 2816 + (704 * j.val + u.val) = 2816 * 1 + (704 * j.val + u.val); omega))

/-- The pair, as the reference computes it, of its halves. -/
def refPair (p q : FVec Ideal S4x4096x704 .bf16) : FVec Ideal S2x4x4096x704 .bf16 :=
  concatenate S2x4x4096x704 0 [⟨S1x4x4096x704, (broadcastInDim S1x4x4096x704 ![1, 2, 3] bcast_S4x4096x704_S1x4x4096x704_1_2_3 p)⟩, ⟨S1x4x4096x704, (broadcastInDim S1x4x4096x704 ![1, 2, 3] bcast_S4x4096x704_S1x4x4096x704_1_2_3 q)⟩] concatenates_S1x4x4096x704_S1x4x4096x704_S2x4x4096x704_d0

theorem refPair_at (p q : FVec Ideal S4x4096x704 .bf16) (j : Fin 4) (k : Fin 4096) (u : Fin 704) :
    refPair p q (ix4 0 j k u) = p (ix3 j k u) ∧ refPair p q (ix4 1 j k u) = q (ix3 j k u) := by
  constructor
  · pointwise [refPair]
  · pointwise [refPair]

/-- The activation, as the reference computes it, of the two halves. -/
def refAct (p q : FVec Ideal S4096x2816 .f32) : FVec Ideal S4096x2816 .f32 :=
  mulf (mulf p (Host.divf (broadcastInDim S4096x2816 ![] bcast_S_S4096x2816 (constant S_ .f32 0x3F800000#32)) (addf (broadcastInDim S4096x2816 ![] bcast_S_S4096x2816 (constant S_ .f32 0x3F800000#32)) (Host.exp (Host.negf p))))) q

theorem refAct_at (p q : FVec Ideal S4096x2816 .f32) (k : Fin 4096) (l : Fin 2816) :
    refAct p q (ix2 k l) = silu (p (ix2 k l)) (q (ix2 k l)) := by
  refine Eq.trans (b := p (ix2 k l) * Ideal.div 1 (1 + Ideal.exp (-(p (ix2 k l)))) * q (ix2 k l)) ?_ ?_
  · pointwise [refAct]
  · rw [Ret.sigS_neg]; rfl

/-- The halves by groups. -/
theorem gate_at (j : Fin 4) (k : Fin 4096) (u : Fin 704) :
    grouped (gateOf (refProd x w g)) (ix3 j k u) = pairS x w g 0 j k u := by
  rw [grouped_at, gateOf_at, refProd_at]; rfl
theorem up_at (j : Fin 4) (k : Fin 4096) (u : Fin 704) :
    grouped (upOf (refProd x w g)) (ix3 j k u) = pairS x w g 1 j k u := by
  rw [grouped_at, upOf_at, refProd_at]; rfl

/-- The pair and the activation of the reference at an index. -/
theorem ref_pair (h : Fin 2) (j : Fin 4) (k : Fin 4096) (u : Fin 704) :
    refPair (grouped (gateOf (refProd x w g))) (grouped (upOf (refProd x w g))) (ix4 h j k u) = pairS x w g h j k u :=
  match h with
  | ⟨0, _⟩ => (refPair_at _ _ j k u).1.trans (gate_at x w g j k u)
  | ⟨1, _⟩ => (refPair_at _ _ j k u).2.trans (up_at x w g j k u)
theorem ref_act (j : Fin 4) (k : Fin 4096) (u : Fin 704) :
    grouped (refAct (gateOf (refProd x w g)) (upOf (refProd x w g))) (ix3 j k u) =
      silu (pairS x w g 0 j k u) (pairS x w g 1 j k u) := by
  rw [grouped_at, refAct_at, gateOf_at, upOf_at, refProd_at, refProd_at]; rfl

end

section
open Cert.KernelGateIdeal Cert.KernelGateIdeal.Gen
variable (m : (ℓ : Loc nD τ sig) → Buf (Elt Ideal) ℓ) (c : Dev nD)

/-- The pairs are equal, and so are the activations. -/
theorem first_eq (h : Fin 2) (j : Fin 4) (k : Fin 4096) (u : Fin 704) :
    refPair (grouped (gateOf (refProd (xs m c) (ws m c) (gs m c)))) (grouped (upOf (refProd (xs m c) (ws m c) (gs m c))))
      (ix4 h j k u) = ((dats m 0 c).arrAt 3 cfg0.N : Vec Ideal S2x4x4096x704 .bf16) (ix4 h j k u) :=
  (ref_pair _ _ _ h j k u).trans (pair_at m c h j k u).symm
theorem second_eq (j : Fin 4) (k : Fin 4096) (u : Fin 704) :
    grouped (refAct (gateOf (refProd (xs m c) (ws m c) (gs m c))) (upOf (refProd (xs m c) (ws m c) (gs m c)))) (ix3 j k u) =
      ((dats m 0 c).arrAt 4 cfg0.N : Vec Ideal S4x4096x704 .bf16) (ix3 j k u) :=
  (ref_act _ _ _ j k u).trans (activation_at m c j k u).symm

end

/-- The kernel and the reference end with equal results. -/
theorem equal_ends : Cert.algebraic_KernelGateIdeal_ReferenceGateIdeal
    (hKernelGateIdeal := Cert.KernelGateIdeal.Gen.facts) (hReferenceGateIdeal := Cert.ReferenceGateIdeal.Gen.facts) := by
  intro m g m' g' _ hagree
  refine ⟨_, _, Cert.KernelGateIdeal.Value.run_blocks m g, ?_⟩
  refine (θ_run Cert.ReferenceGateIdeal.defs _ _).mono (fun r h c => ?_)
    (Cert.ReferenceGateIdeal.Value.run (F := Ideal) m' g')
  refine ⟨(h c).1.trans ?_, (h c).2.1.trans ?_, (h c).2.2⟩
  · rw [(hagree c).1, (hagree c).2.1, (hagree c).2.2]
    funext y
    rw [ext4 y (y 0) (y 1) (y 2) (y 3) rfl rfl rfl rfl]
    exact first_eq m c (y 0) (y 1) (y 2) (y 3)
  · rw [(hagree c).1, (hagree c).2.1, (hagree c).2.2]
    funext y
    rw [ext3 y (y 0) (y 1) (y 2) rfl rfl rfl]
    exact second_eq m c (y 0) (y 1) (y 2)

/-- The reference ends with its arguments unchanged. -/
theorem reference_ends : Cert.quiescent_ReferenceGateIdeal
    (hReferenceGateIdeal := Cert.ReferenceGateIdeal.Gen.facts) := fun m ρ _ =>
  (θ_run Cert.ReferenceGateIdeal.defs _ _).mono (fun r h => ⟨fun c => (h c).2.2,
      Idealize.ShloMosaic.sem_eq_zero_of_no_sems (by decide) r.2⟩)
    (Cert.ReferenceGateIdeal.Value.run (F := Ideal) m ρ)

end Cert.Gate
-- ==== Proof.Loss.lean ====
module

public import proofs.«01_k».proof.Proof.Fed
public import proofs.«01_k».proof.Proof.Gen.KernelLossIdeal.Value

@[expose] public section

set_option maxRecDepth 16384
set_option maxHeartbeats 1000000

noncomputable section

namespace Cert.Loss

open Cert.KernelLossIdeal Cert.KernelLossIdeal.Gen Idealize.ShloMosaic Idealize.ShloMosaic.TcCoe
  Idealize.SL.Sem Cert.Forward

/-! ## What the kernel stores at a point, entry by entry -/

/-- The constants. -/
theorem c2048 : Ideal.ofBits .f32 0x3A000000#32 = ((1 / 2048 : ℝ) : EReal) := by
  simp [Ideal.ofBits, Ideal.ieee, -EReal.coe_mul]; norm_num
theorem cRecip : Ideal.ofBits .f32 0x3A800000#32 = ((1 / 1024 : ℝ) : EReal) := by
  simp [Ideal.ofBits, Ideal.ieee, -EReal.coe_mul]; norm_num
theorem cHalf : Ideal.ofBits .f32 0x3F000000#32 = ((1 / 2 : ℝ) : EReal) := by
  simp [Ideal.ofBits, Ideal.ieee, -EReal.coe_mul]; norm_num
theorem cOne : Ideal.ofBits .f32 0x3F800000#32 = ((1 : ℝ) : EReal) := by
  simp [Ideal.ofBits, Ideal.ieee, -EReal.coe_mul]; norm_num

/-- The rectangle of the loss. -/
abbrev cell : Rect S1x1 := Rect.unit (s := S1x1) ![0, 0] S1x1.size inb_S1x1_S1x1_0_0

section
variable {F : FTy → Type} [FloatOps F]
variable (c : Dev nD) (i : grid0.Coords) (arg3 : Memref sig .tc .vmem S4x1024x704 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1 .f32) (harg8 : arg8.IsWhole) (arg9 : Memref sig .tc .vmem S1x1024x1024 .f32) (harg9 : arg9.IsWhole)
  (x0 : Vec F S4x1024x704 .bf16) (x1 : Vec F S2816x1024 .bf16) (x2 x3 : Vec F S1024x1024 .f32) (xo5 : Vec F S1x1 .f32)

/-- The rows less the target. -/
abbrev diff : FVec F S1024x1024 .f32 :=
  subf (Fed.all (fun b => View.readAt (Elt F) arg3.view (Fed.aRect b).toLoadRect (harg3.unread x0))
    (fun b => View.readAt (Elt F) arg4.view (Fed.wRect b).toLoadRect (harg4.unread x1))
    (View.readAt (Elt F) arg5.view Fed.tile.toLoadRect (harg5.unread x2)))
    (View.readAt (Elt F) arg6.view Fed.tile.toLoadRect (harg6.unread x3))

/-- The gradient of the rows, of the difference. -/
def dyOf (d : FVec F S1024x1024 .f32) : FVec F S1024x1024 .f32 :=
  mulf d (broadcast S1024x1024 (Scalar.ofBits .f32 0x3A800000#32))

/-- What a point stores in the gradient of the rows, and in the loss. -/
theorem stores_dy_first (hc0 : cond0_0 i) (hc1 : ¬cond0_1 i) :
    (kernelRun0_A c i arg3 harg3 arg4 harg4 arg5 harg5 arg6 harg6 arg7 harg7 arg8 harg8 arg9 harg9 hc0 hc1 x0 x1 x2 x3).1 =
      [⟨Fed.tile, dyOf (diff arg3 harg3 arg4 harg4 arg5 harg5 arg6 harg6 x0 x1 x2 x3)⟩] := rfl
theorem stores_dy_later (hc0 : ¬cond0_0 i) (hc1 : cond0_1 i) :
    (kernelRun0_B c i arg3 harg3 arg4 harg4 arg5 harg5 arg6 harg6 arg7 harg7 arg8 harg8 arg9 harg9 hc0 hc1 x0 x1 x2 x3 xo5).1 =
      [⟨Fed.tile, dyOf (diff arg3 harg3 arg4 harg4 arg5 harg5 arg6 harg6 x0 x1 x2 x3)⟩] := rfl
theorem stores_first (hc0 : cond0_0 i) (hc1 : ¬cond0_1 i) :
    (kernelRun0_A c i arg3 harg3 arg4 harg4 arg5 harg5 arg6 harg6 arg7 harg7 arg8 harg8 arg9 harg9 hc0 hc1 x0 x1 x2 x3).2.1 =
      [⟨cell, k0_pay1 (diff arg3 harg3 arg4 harg4 arg5 harg5 arg6 harg6 x0 x1 x2 x3)⟩] := rfl
theorem stores_later (hc0 : ¬cond0_0 i) (hc1 : cond0_1 i) :
    (kernelRun0_B c i arg3 harg3 arg4 harg4 arg5 harg5 arg6 harg6 arg7 harg7 arg8 harg8 arg9 harg9 hc0 hc1 x0 x1 x2 x3 xo5).2.1 =
      [⟨cell, k0_pay2 (diff arg3 harg3 arg4 harg4 arg5 harg5 arg6 harg6 x0 x1 x2 x3)
          (View.readAt (Elt F) arg8.view cell.toLoadRect (harg8.unread xo5))⟩] := rfl

end

section
variable (x0 : Vec Ideal S4x1024x704 .bf16) (x1 : Vec Ideal S2816x1024 .bf16) (x2 x3 : Vec Ideal S1024x1024 .f32) (xo5 : Vec Ideal S1x1 .f32)

theorem dyOf_at (d : FVec Ideal S1024x1024 .f32) (r l : Fin 1024) :
    dyOf d (ix2 r l) = d (ix2 r l) * Ideal.ofBits .f32 0x3A800000#32 := by
  pointwise [dyOf]

theorem pay1_at (d : FVec Ideal S1024x1024 .f32) :
    k0_pay1 (F := Ideal) d (ix2 0 0) = (∑ t, ∑ l, d (ix2 t l) * d (ix2 t l)) * Ideal.ofBits .f32 0x3A000000#32 := by
  pointwise [k0_pay1]

theorem pay2_at (d : FVec Ideal S1024x1024 .f32) (v : FVec Ideal S1x1 .f32) :
    k0_pay2 (F := Ideal) d v (ix2 0 0) = v (ix2 0 0) + k0_pay1 (F := Ideal) d (ix2 0 0) := by
  pointwise [k0_pay2]

variable (c : Dev nD) (i : grid0.Coords) (arg3 : Memref sig .tc .vmem S4x1024x704 .bf16) (harg3 : arg3.IsWhole) (arg4 : Memref sig .tc .vmem S2816x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1 .f32) (harg8 : arg8.IsWhole) (arg9 : Memref sig .tc .vmem S1x1024x1024 .f32) (harg9 : arg9.IsWhole)

/-- An entry of the difference. -/
def diffE (r l : Fin 1024) : EReal := Fed.allE x0 x1 x2 r l - x3 (ix2 r l)

theorem diff_at (r l : Fin 1024) :
    diff (F := Ideal) arg3 harg3 arg4 harg4 arg5 harg5 arg6 harg6 x0 x1 x2 x3 (ix2 r l) = diffE x0 x1 x2 x3 r l := by
  unfold diff
  simp only [Weights.loaded]
  exact congrArg₂ (· - ·) (Fed.all_at x0 x1 x2 r l) (congrArg x3 (whole2 _ r l))

/-- A point's part of the loss. -/
def partE : EReal :=
  (∑ t, ∑ l, diffE x0 x1 x2 x3 t l * diffE x0 x1 x2 x3 t l) * Ideal.ofBits .f32 0x3A000000#32

theorem part_at : k0_pay1 (F := Ideal) (diff arg3 harg3 arg4 harg4 arg5 harg5 arg6 harg6 x0 x1 x2 x3) (ix2 0 0) =
    partE x0 x1 x2 x3 := by
  rw [pay1_at]
  unfold partE
  exact congrArg (· * _) (Finset.sum_congr rfl fun t _ => Finset.sum_congr rfl fun l _ => by rw [diff_at])

/-- What a point leaves in the gradient of the rows. -/
theorem left_dy_first (hc0 : cond0_0 i) (hc1 : ¬cond0_1 i) (r l : Fin 1024) :
    out0_A_4 c i arg3 harg3 arg4 harg4 arg5 harg5 arg6 harg6 arg7 harg7 arg8 harg8 arg9 harg9 hc0 hc1 x0 x1 x2 x3 (ix2 r l) =
      diffE x0 x1 x2 x3 r l * Ideal.ofBits .f32 0x3A800000#32 := by
  delta out0_A_4
  refine (congrFun (View.read_writes_junk_eq_canon VO0_4 _) _).trans ?_
  rw [stores_dy_first]
  refine (Weights.under Fed.tile _ _ (ix2 r l) _ (whole2 _ r l).symm).trans ?_
  rw [dyOf_at, diff_at]
theorem left_dy_later (hc0 : ¬cond0_0 i) (hc1 : cond0_1 i) (r l : Fin 1024) :
    out0_B_4 c i arg3 harg3 arg4 harg4 arg5 harg5 arg6 harg6 arg7 harg7 arg8 harg8 arg9 harg9 hc0 hc1 x0 x1 x2 x3 xo5 (ix2 r l) =
      diffE x0 x1 x2 x3 r l * Ideal.ofBits .f32 0x3A800000#32 := by
  delta out0_B_4
  refine (congrFun (View.read_writes_junk_eq_canon VO0_4 _) _).trans ?_
  rw [stores_dy_later]
  refine (Weights.under Fed.tile _ _ (ix2 r l) _ (whole2 _ r l).symm).trans ?_
  rw [dyOf_at, diff_at]

/-- What a point leaves in the loss. -/
theorem left_first (hc0 : cond0_0 i) (hc1 : ¬cond0_1 i) :
    out0_A_5 c i arg3 harg3 arg4 harg4 arg5 harg5 arg6 harg6 arg7 harg7 arg8 harg8 arg9 harg9 hc0 hc1 x0 x1 x2 x3 (ix2 0 0) = partE x0 x1 x2 x3 := by
  delta out0_A_5
  refine (congrFun (View.read_writes_junk_eq_canon VO0_5 _) _).trans ?_
  rw [stores_first]
  exact (Weights.under cell _ _ (ix2 0 0) _ (whole2 _ 0 0).symm).trans
    (part_at x0 x1 x2 x3 arg3 harg3 arg4 harg4 arg5 harg5 arg6 harg6)
theorem left_later (hc0 : ¬cond0_0 i) (hc1 : cond0_1 i) :
    out0_B_5 c i arg3 harg3 arg4 harg4 arg5 harg5 arg6 harg6 arg7 harg7 arg8 harg8 arg9 harg9 hc0 hc1 x0 x1 x2 x3 xo5 (ix2 0 0) = xo5 (ix2 0 0) + partE x0 x1 x2 x3 := by
  delta out0_B_5
  refine (congrFun (View.read_writes_junk_eq_canon VO0_5 _) _).trans ?_
  rw [stores_later]
  refine (Weights.under cell _ _ (ix2 0 0) _ (whole2 _ 0 0).symm).trans ?_
  rw [pay2_at, Weights.loaded]
  exact congrArg₂ (· + ·) (congrArg xo5 (whole2 _ 0 0))
    (part_at x0 x1 x2 x3 arg3 harg3 arg4 harg4 arg5 harg5 arg6 harg6)

end

/-! ## The arrays the kernel ends with -/

section
variable (m : (ℓ : Loc nD τ sig) → Buf (Elt Ideal) ℓ) (c : Dev nD)

/-- The arguments. -/
def acts : Vec Ideal S4x4096x704 .bf16 := m ((c : Thread nD τ).loc main_arg0)
def ws : Vec Ideal S2816x1024 .bf16 := m ((c : Thread nD τ).loc main_arg1)
def xs : Vec Ideal S4096x1024 .f32 := m ((c : Thread nD τ).loc main_arg2)
def ts : Vec Ideal S4096x1024 .f32 := m ((c : Thread nD τ).loc main_arg3)

/-- The rows less the target, from the arguments. -/
def dif (r : Fin 4096) (l : Fin 1024) : EReal := Fed.fedS (acts m c) (ws m c) (xs m c) r l - ts m c (ix2 r l)

/-- A point of the grid. -/
def pt (i : Fin 4) : Fin cfg0.N := ⟨i.val, lt_of_lt_of_eq (by omega) N_0.symm⟩

theorem index_of : ∀ i : Fin 4, (win0_0.index (pt i) 0 = 0 ∧ win0_0.index (pt i) 1 = i.val ∧ win0_0.index (pt i) 2 = 0) ∧
    (win0_1.index (pt i) 0 = 0 ∧ win0_1.index (pt i) 1 = 0) ∧
    (win0_2.index (pt i) 0 = i.val ∧ win0_2.index (pt i) 1 = 0) ∧
    (win0_3.index (pt i) 0 = i.val ∧ win0_3.index (pt i) 1 = 0) ∧
    (win0_4.index (pt i) 0 = i.val ∧ win0_4.index (pt i) 1 = 0) ∧
    win0_5.index (pt i) 0 = 0 ∧ win0_5.index (pt i) 1 = 0 := by decide +kernel

/-- The difference at a point. -/
theorem diff_pt (i : Fin 4) (r l : Fin 1024) :
    diffE (iblk m c 0 (pt i)) (iblk m c 1 (pt i)) (iblk m c 2 (pt i)) (iblk m c 3 (pt i)) r l = dif m c (row i r) l := by
  obtain ⟨⟨h0, h1, h2⟩, ⟨h3, h4⟩, ⟨h5, h6⟩, ⟨h7, h8⟩, -⟩ := index_of i
  unfold iblk diffE Fed.allE
  simp only [View.read_apply]
  refine congrArg₂ (· - ·) (congrArg₂ (· + ·) (congrArg (xs m c) (ext2 _ (row i r) l ?_ ?_))
    (Finset.sum_congr rfl fun b _ => Finset.sum_congr rfl fun j _ => congrArg₂ (· * ·)
      (congrArg (acts m c) (ext3 _ b (row i r) j ?_ ?_ ?_)) (congrArg (ws m c) (ext2 _ (Fed.wrow b j) l ?_ ?_))))
    (congrArg (ts m c) (ext2 _ (row i r) l ?_ ?_))
  · show win0_2.index (pt i) 0 * 1024 + 1 * r.val = 1024 * i.val + r.val
    omega
  · show win0_2.index (pt i) 1 * 1024 + 1 * l.val = l.val
    omega
  · show win0_0.index (pt i) 0 * 4 + 1 * b.val = b.val
    omega
  · show win0_0.index (pt i) 1 * 1024 + 1 * r.val = 1024 * i.val + r.val
    omega
  · show win0_0.index (pt i) 2 * 704 + 1 * j.val = j.val
    omega
  · show win0_1.index (pt i) 0 * 2816 + 1 * (704 * b.val + j.val) = 704 * b.val + j.val
    omega
  · show win0_1.index (pt i) 1 * 1024 + 1 * l.val = l.val
    omega
  · show win0_3.index (pt i) 0 * 1024 + 1 * r.val = 1024 * i.val + r.val
    omega
  · show win0_3.index (pt i) 1 * 1024 + 1 * l.val = l.val
    omega

/-- A row's part of the loss. -/
def sq (r : Fin 4096) : EReal := ∑ l, dif m c r l * dif m c r l
/-- A point's part of the loss, from the arguments. -/
def part (i : Fin 4) : EReal := (∑ t, sq m c (row i t)) * Ideal.ofBits .f32 0x3A000000#32

theorem part_pt (i : Fin 4) :
    partE (iblk m c 0 (pt i)) (iblk m c 1 (pt i)) (iblk m c 2 (pt i)) (iblk m c 3 (pt i)) = part m c i :=
  congrArg (· * _) (Finset.sum_congr rfl fun t _ => Finset.sum_congr rfl fun l _ =>
    congrArg₂ (· * ·) (diff_pt m c i t l) (diff_pt m c i t l))

/-- The gradient of the rows after a point. -/
theorem dy_pt (i : Fin 4) (r l : Fin 1024) : (outsAt0 m c (pt i).val (pt i).isLt).1 (ix2 r l) =
    dif m c (row i r) l * Ideal.ofBits .f32 0x3A800000#32 := by
  by_cases h : i.val = 0
  · have h0 : (pt i).val % 4 = 0 := by show i.val % 4 = 0; omega
    have h1 : ¬1 ≤ (pt i).val := by show ¬1 ≤ i.val; omega
    rw [Weights.pair_one (outsAt0_A m c (pt i) h0 h1), left_dy_first, diff_pt]
  · have h0 : ¬(pt i).val % 4 = 0 := by show ¬i.val % 4 = 0; omega
    have h1 : 1 ≤ (pt i).val := by show 1 ≤ i.val; omega
    rw [Weights.pair_one (outsAt0_B m c (pt i) h0 h1), left_dy_later, diff_pt]

/-- The loss after a point: the sum over the points up to it. -/
theorem loss_pt : ∀ (n : ℕ) (hn : n < 4), (outsAt0 m c (pt ⟨n, hn⟩).val (pt ⟨n, hn⟩).isLt).2 (ix2 0 0) =
      ∑ i : Fin (n + 1), part m c ⟨i.val, by omega⟩
  | 0, hn => by
    have h0 : (pt ⟨0, hn⟩).val % 4 = 0 := rfl
    have h1 : ¬1 ≤ (pt ⟨0, hn⟩).val := by show ¬1 ≤ 0; omega
    rw [Weights.pair_two (outsAt0_A m c (pt ⟨0, hn⟩) h0 h1), left_first, part_pt]
    exact (Fin.sum_univ_one (M := EReal) fun i => part m c ⟨i.val, by omega⟩).symm
  | n + 1, hn => by
    have h0 : ¬(pt ⟨n + 1, hn⟩).val % 4 = 0 := by show ¬(n + 1) % 4 = 0; omega
    have h1 : 1 ≤ (pt ⟨n + 1, hn⟩).val := by show 1 ≤ n + 1; omega
    rw [Weights.pair_two (outsAt0_B m c (pt ⟨n + 1, hn⟩) h0 h1), left_later, part_pt, Fin.sum_univ_castSucc]
    exact congrArg (· + part m c ⟨n + 1, hn⟩) (loss_pt n (by omega))

/-- The first result at an index. -/
theorem first_at (k : Fin 4096) (l : Fin 1024) : ((dats m 0 c).arrAt 4 cfg0.N : Vec Ideal S4096x1024 .f32) (ix2 k l) =
    dif m c k l * Ideal.ofBits .f32 0x3A800000#32 := by
  obtain ⟨i, r, rfl⟩ := row_of k
  obtain ⟨-, -, -, -, ⟨h6, h7⟩, -⟩ := index_of i
  have hb := congrFun (Value.blocks4 m c (pt i) (flush0_4 (pt i))) (ix2 r l)
  rw [Value.flushed4, View.read_apply] at hb
  rw [← ext2 (((cfg0.win 4).blk (pt i)).view.emb (ix2 r l)) (row i r) l
    (by show win0_4.index (pt i) 0 * 1024 + 1 * r.val = 1024 * i.val + r.val; omega)
    (by show win0_4.index (pt i) 1 * 1024 + 1 * l.val = l.val; omega)]
  exact (show _ = _ from hb).trans (dy_pt m c i r l)

/-- The second result: the sum over the rows. -/
theorem second_at : ((dats m 0 c).arrAt 5 cfg0.N : Vec Ideal S1x1 .f32) (ix2 0 0) =
    ∑ k, sq m c k * Ideal.ofBits .f32 0x3A000000#32 := by
  have ht : ∀ t' : Fin cfg0.N, (cfg0.win 5).flush t' = true → t' = pt 3 := fun t' hf =>
    Fin.ext (by
      have h1 := (flush0_5 t').1 hf
      have h2 : t'.val < 4 := lt_of_lt_of_eq t'.isLt N_0
      show t'.val = 3
      omega)
  have hb := congrFun ((dats m 0 c).read_blk_arrAt_eq_flushed 5
    (fun t₁ t₂ h₁ h₂ hne => absurd ((ht t₁ h₁).trans (ht t₂ h₂).symm) hne) cfg0.N (pt 3) (pt 3).isLt
    ((flush0_5 (pt 3)).2 rfl)) (ix2 (0 : Fin 1) (0 : Fin 1))
  obtain ⟨-, -, -, -, -, h8, h9⟩ := index_of 3
  rw [Value.flushed5, View.read_apply] at hb
  rw [← ext2 (((cfg0.win 5).blk (pt 3)).view.emb (ix2 (0 : Fin 1) (0 : Fin 1))) 0 0
    (by show win0_5.index (pt 3) 0 * 1 + 1 * 0 = 0; omega) (by show win0_5.index (pt 3) 1 * 1 + 1 * 0 = 0; omega)]
  have hs : ∑ i : Fin (3 + 1), part m c ⟨i.val, by omega⟩ = ∑ k, sq m c k * Ideal.ofBits .f32 0x3A000000#32 := by
    refine Eq.trans ?_ (Norm.blocks 4 1024 4096 rfl fun k => sq m c k * Ideal.ofBits .f32 0x3A000000#32)
    exact Finset.sum_congr rfl fun i _ => by
      unfold part
      rw [c2048]
      exact (Norm.mul_sum _ (by norm_num) _).symm
  exact ((show _ = _ from hb).trans (loss_pt m c 3 (by omega))).trans hs

end

end Cert.Loss
-- ==== Proof.LossEnds.lean ====
module

public import proofs.«01_k».proof.Proof.Loss
public import proofs.«01_k».proof.Proof.FedEnds
public import proofs.«01_k».proof.Defs
public import proofs.«01_k».proof.Proof.Gen.ReferenceLossIdeal.Run
public import Idealize.ShloMosaic.Lib.Quiescent

@[expose] public section

set_option maxRecDepth 16384
set_option maxHeartbeats 1000000

noncomputable section

namespace Cert.Loss

open Idealize.ShloMosaic Idealize.ShloMosaic.TcCoe Idealize.ShloMosaic.StableHlo Idealize.SL.Sem Cert.Forward

/-! ## The kernel's result and the reference's, side by side -/

section
open Cert.ReferenceLossIdeal Cert.ReferenceLossIdeal.Gen

variable (a : FVec Ideal S4x4096x704 .bf16) (w : FVec Ideal S2816x1024 .bf16) (x t : FVec Ideal S4096x1024 .f32)

/-- The rows less the target, as the reference computes them. -/
def refDiff : FVec Ideal S4096x1024 .f32 := subf (Fed.refOut a w x) t

theorem refDiff_at (r : Fin 4096) (l : Fin 1024) : refDiff a w x t (ix2 r l) = Fed.fedS a w x r l - t (ix2 r l) :=
  congrArg (· - t (ix2 r l)) (Fed.ref_at a w x r l)

/-- The gradient of the rows, as the reference computes it, of the difference. -/
def refDy (d : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) d)

theorem refDy_at (d : FVec Ideal S4096x1024 .f32) (r : Fin 4096) (l : Fin 1024) :
    refDy d (ix2 r l) = Ideal.div (Ideal.ofBits .f32 0x3F000000#32 * Ideal.ofBits .f32 0x3F800000#32)
      (Ideal.ofBits .f32 0x44800000#32) * (Ideal.ofBits .f32 0x40000000#32 * d (ix2 r l)) := by
  pointwise [refDy]

/-- The loss, as the reference computes it, of the difference. -/
def refLoss (d : FVec Ideal S4096x1024 .f32) : FVec Ideal S1x1 .f32 :=
  shapeCast _ (mulf (constant S_ .f32 0x3F000000#32) (Host.reduceAdd (Host.divf (Host.reduceAdd (mulf d d) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) shapeCasts_S_S1x1

theorem refLoss_at (d : FVec Ideal S4096x1024 .f32) :
    refLoss d (ix2 0 0) = Ideal.ofBits .f32 0x3F000000#32 *
      ∑ k : Fin 4096, Ideal.div (∑ l : Fin 1024, d (ix2 k l) * d (ix2 k l)) (Ideal.ofBits .f32 0x44800000#32) := by
  pointwise [refLoss]

end

/-- The factors of the gradient, together. -/
theorem factors (d : EReal) : Ideal.div (Ideal.ofBits .f32 0x3F000000#32 * Ideal.ofBits .f32 0x3F800000#32)
    (Ideal.ofBits .f32 0x44800000#32) * (Ideal.ofBits .f32 0x40000000#32 * d) = d * Ideal.ofBits .f32 0x3A800000#32 := by
  rw [cHalf, cOne, Norm.c1024, Ret.cTwo, cRecip, ← EReal.coe_mul, Ret.div_real _ _ (by norm_num), ← mul_assoc,
    ← EReal.coe_mul, mul_comm]
  norm_num

/-- The factors of the loss, together. -/
theorem halved (s : Fin 4096 → EReal) : Ideal.ofBits .f32 0x3F000000#32 * ∑ k, Ideal.div (s k) (Ideal.ofBits .f32 0x44800000#32) =
    ∑ k, s k * Ideal.ofBits .f32 0x3A000000#32 := by
  rw [cHalf, Norm.c1024, c2048, mul_comm, ← Norm.mul_sum _ (by norm_num)]
  refine Finset.sum_congr rfl fun k _ => ?_
  rw [Ideal.div_coe (by norm_num), mul_assoc, ← EReal.coe_mul]
  norm_num

section
open Cert.KernelLossIdeal Cert.KernelLossIdeal.Gen
variable (m : (ℓ : Loc nD τ sig) → Buf (Elt Ideal) ℓ) (c : Dev nD)

/-- The gradients of the rows are equal, and so are the losses. -/
theorem first_eq (k : Fin 4096) (l : Fin 1024) : refDy (refDiff (acts m c) (ws m c) (xs m c) (ts m c)) (ix2 k l) =
    ((dats m 0 c).arrAt 4 cfg0.N : Vec Ideal S4096x1024 .f32) (ix2 k l) := by
  rw [refDy_at, factors, refDiff_at]
  exact (first_at m c k l).symm
theorem second_eq : refLoss (refDiff (acts m c) (ws m c) (xs m c) (ts m c)) (ix2 0 0) =
    ((dats m 0 c).arrAt 5 cfg0.N : Vec Ideal S1x1 .f32) (ix2 0 0) := by
  rw [refLoss_at, halved]
  refine Eq.trans ?_ (second_at m c).symm
  exact Finset.sum_congr rfl fun k _ => congrArg (· * _) (Finset.sum_congr rfl fun l _ => by rw [refDiff_at]; rfl)

end

/-- The kernel and the reference end with equal results. -/
theorem equal_ends : Cert.algebraic_KernelLossIdeal_ReferenceLossIdeal
    (hKernelLossIdeal := Cert.KernelLossIdeal.Gen.facts) (hReferenceLossIdeal := Cert.ReferenceLossIdeal.Gen.facts) := by
  intro m g m' g' _ hagree
  refine ⟨_, _, Cert.KernelLossIdeal.Value.run_blocks m g, ?_⟩
  refine (θ_run Cert.ReferenceLossIdeal.defs _ _).mono (fun r h c => ?_)
    (Cert.ReferenceLossIdeal.Value.run (F := Ideal) m' g')
  refine ⟨(h c).1.trans ?_, (h c).2.1.trans ?_, (h c).2.2⟩
  · rw [(hagree c).1, (hagree c).2.1, (hagree c).2.2.1, (hagree c).2.2.2]
    funext y
    rw [ext2 y (y 0) (y 1) rfl rfl]
    exact first_eq m c (y 0) (y 1)
  · rw [(hagree c).1, (hagree c).2.1, (hagree c).2.2.1, (hagree c).2.2.2]
    funext y
    rw [ext2 y 0 0 (by have : (y 0).val < 1 := (y 0).isLt; show (y 0).val = 0; omega)
      (by have : (y 1).val < 1 := (y 1).isLt; show (y 1).val = 0; omega)]
    exact second_eq m c

/-- The reference ends with its arguments unchanged. -/
theorem reference_ends : Cert.quiescent_ReferenceLossIdeal
    (hReferenceLossIdeal := Cert.ReferenceLossIdeal.Gen.facts) := fun m ρ _ =>
  (θ_run Cert.ReferenceLossIdeal.defs _ _).mono (fun r h => ⟨fun c => (h c).2.2,
      Idealize.ShloMosaic.sem_eq_zero_of_no_sems (by decide) r.2⟩)
    (Cert.ReferenceLossIdeal.Value.run (F := Ideal) m ρ)

end Cert.Loss
-- ==== Proof.Finite.lean ====
module

public import proofs.«01_k».proof.Defs
public import proofs.«01_k».proof.Proof.Algebra
public import Idealize.ShloMosaic.Lib.ReduceAll
public import Idealize.ShloMosaic.Lib.Decide
public import Idealize.ShloMosaic.Lib.Pointwise

@[expose] public section

noncomputable section

namespace Cert.Ret

open Idealize.ShloMosaic

/-! ## The precondition: what it says of the arguments -/

/-- The side conditions of the precondition. -/
instance finiteFacts : Cert.Pre_finite.Facts where
  slices_S4096x6144_S4096x2048_0_4096 := by decide
  bcast_S_S4096x2048 := by decide
  reducesTo_S4096x2048_S_d0_1 := by decide
  h_S_ := by decide
  bcast_S_S1x2048 := by decide
  reducesTo_S1x2048_S_d0_1 := by decide

/-- A value whose size is below infinity is a real number. -/
theorem real_of_size (x : EReal)
    (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  have hl : max x (-x) < ⊤ := by
    by_contra hn
    simp [hn] at h
  have h1 : x ≠ ⊤ := fun e => by subst e; simp at hl
  have h2 : x ≠ ⊥ := fun e => by subst e; simp at hl
  exact ⟨x.toReal, (EReal.coe_toReal h1 h2).symm⟩

/-- Both of two bits are set when their conjunction is. -/
theorem both {a b : BitVec 1} (h : IntOp.andi a b = 1#1) : a = 1#1 ∧ b = 1#1 := by
  revert a b; decide

open Cert.Pre_finite in
/-- What the precondition says: the gate's columns, the scales, the output and its gradient are real. -/
theorem finite_reals (x0 : FVec Ideal S4096x6144 .f32) (x1 : FVec Ideal S1x2048 .f32)
    (x2 : FVec Ideal S4096x2048 .f32) (x3 : FVec Ideal S64x4x256x512 .bf16)
    (x4 : FVec Ideal S4096x2048 .f32)
    (h : Cert.Pre_finite.fn (F := Ideal) x0 x1 x2 x3 x4 = fun _ => 1#1) :
    (∀ (r : Fin 4096) (h : Fin 4) (e : Fin 512), ∃ y : ℝ, (x0 (ix2 r (gcol h e)) : EReal) = (y : EReal)) ∧
      (∀ l : Fin 2048, ∃ y : ℝ, (x1 (ix2 0 l) : EReal) = (y : EReal)) ∧
      (∀ (r : Fin 4096) (l : Fin 2048), ∃ y : ℝ, (x2 (ix2 r l) : EReal) = (y : EReal)) ∧
      (∀ (r : Fin 4096) (l : Fin 2048), ∃ y : ℝ, (x4 (ix2 r l) : EReal) = (y : EReal)) := by
  have e := congrFun h (Shape.Idx.first Cert.Pre_finite.Facts.h_S_)
  obtain ⟨e, e4⟩ := both e
  obtain ⟨e, e2⟩ := both e
  obtain ⟨e0, e1⟩ := both e
  haveI : Subsingleton S_.Idx := ⟨fun a b => funext fun k => k.elim0⟩
  refine ⟨fun r h e => ?_, fun l => ?_, fun r l => ?_, fun r l => ?_⟩
  · have := Host.reduce_andi_all _ _ _ _ _ e0 (ix2 r (col h e))
    have e' := real_of_size _ this
    obtain ⟨y, hy⟩ := e'
    refine ⟨y, Eq.trans ?_ hy⟩
    refine congrArg x0 (funext fun k => Fin.ext ?_)
    match k with
    | ⟨0, _⟩ => show r.val = 0 + r.val; omega
    | ⟨1, _⟩ => show 4096 + 512 * h.val + e.val = 4096 + (512 * h.val + e.val); omega
  · exact real_of_size _ (Host.reduce_andi_all _ _ _ _ _ e1 (ix2 0 l))
  · exact real_of_size _ (Host.reduce_andi_all _ _ _ _ _ e2 (ix2 r l))
  · exact real_of_size _ (Host.reduce_andi_all _ _ _ _ _ e4 (ix2 r l))

end Cert.Ret

end
-- ==== Proof.Chunk.lean ====
module

public import proofs.«01_k».proof.Proof.Gen.KernelIdeal.Frame.Runs

@[expose] public section

noncomputable section

namespace Cert.Ret

open Cert.KernelIdeal Cert.KernelIdeal.Gen Idealize.ShloMosaic Idealize.SL.Sem

variable {F : FTy → Type} [FloatOps F] [Named F]

/-! ## One chunk of one head, as functions of the tiles the kernel loads -/

/-- The rotary rotation of a tile of 64 rows. -/
def rot (cs sn : FVec F S64x128 .f32) (x : FVec F S64x256 .f32) : FVec F S64x256 .f32 :=
  let x1 := extractStridedSlice S64x128 ![0, 0] x slices_S64x256_o0_0_S64x128
  let x2 := extractStridedSlice S64x128 ![0, 128] x slices_S64x256_o0_128_S64x128
  concatenate S64x256 1 [⟨S64x128, subf (mulf x1 cs) (mulf x2 sn)⟩,
    ⟨S64x128, addf (mulf x1 sn) (mulf x2 cs)⟩] concatenates_S64x128_S64x128_S64x256_d1

/-- The transposed rotation. -/
def unrot (cs sn : FVec F S64x128 .f32) (d : FVec F S64x256 .f32) : FVec F S64x256 .f32 :=
  let d1 := extractStridedSlice S64x128 ![0, 0] d slices_S64x256_o0_0_S64x128
  let d2 := extractStridedSlice S64x128 ![0, 128] d slices_S64x256_o0_128_S64x128
  concatenate S64x256 1 [⟨S64x128, addf (mulf d1 cs) (mulf d2 sn)⟩,
    ⟨S64x128, subf (mulf d2 cs) (mulf d1 sn)⟩] concatenates_S64x128_S64x128_S64x256_d1

/-- The product by one sixteenth. -/
def sixteenth (x : FVec F S64x256 .f32) : FVec F S64x256 .f32 :=
  mulf x (broadcast S64x256 (Scalar.ofBits .f32 0x3D800000#32))

/-- The tile of ones. -/
def ones : FVec F S64x512 .f32 := broadcast S64x512 (Scalar.ofBits .f32 0x3F800000#32)

/-- The logistic function of the gate. -/
def sigm (g : FVec F S64x512 .f32) : FVec F S64x512 .f32 :=
  divf ones (addf ones (exp (subf (broadcast S64x512 (Scalar.ofBits .f32 0x00000000#32)) g)))

/-- The mean of each row, as a column. -/
def rowMean (x : FVec F S64x512 .f32) : FVec F S64x1 .f32 :=
  divf (shapeCast S64x1 (multiReduction .add [1] S64 x 0x00000000#32 reduces_S64x512_S64
    (.inl rfl) rfl) shapeCasts_S64_S64x1)
    (broadcast S64x1 (Scalar.ofBits .f32 0x44000000#32))

/-- The reciprocal root mean square of each row, repeated over the row. -/
def rstd (o : FVec F S64x512 .f32) : FVec F S64x512 .f32 :=
  broadcastTo S64x512 (rsqrt (addf (rowMean (mulf o o))
    (broadcast S64x1 (Scalar.ofBits .f32 0x358637BD#32)))) broadcasts_S64x1_S64x512

/-- The normalised output. -/
def ohat (o : FVec F S64x512 .f32) : FVec F S64x512 .f32 := mulf o (rstd o)

/-- The gradient of the output of the norm: the gradient of the gated output by the gate. -/
def dnorm (g dy : FVec F S64x512 .f32) : FVec F S64x512 .f32 := mulf dy (mulf g (sigm g))

/-- The row of scales of the norm, repeated. -/
def scales (gn : FVec F S1x512 .f32) : FVec F S64x512 .f32 :=
  broadcastTo S64x512 gn broadcasts_S1x512_S64x512

/-- The gradient of the gate. -/
def dgate (g o dy : FVec F S64x512 .f32) (gn : FVec F S1x512 .f32) : FVec F S64x512 .f32 :=
  mulf (mulf dy (mulf (ohat o) (scales gn)))
    (mulf (sigm g) (addf ones (mulf g (subf ones (sigm g)))))

/-- The part of the gradient of the scales that these rows give. -/
def dscale (g o dy : FVec F S64x512 .f32) : FVec F S1x512 .f32 :=
  shapeCast S1x512 (multiReduction .add [0] S512 (mulf (dnorm g dy) (ohat o)) 0x00000000#32
    reduces_S64x512_S512 (.inl rfl) rfl) shapeCasts_S512_S1x512

/-- The gradient of the retention's output. -/
def dout (g o dy : FVec F S64x512 .f32) (gn : FVec F S1x512 .f32) : FVec F S64x512 .f32 :=
  let d := mulf (dnorm g dy) (scales gn)
  mulf (rstd o) (subf d (mulf (ohat o)
    (broadcastTo S64x512 (rowMean (mulf d (ohat o))) broadcasts_S64x1_S64x512)))

/-- Halving the precision of a float tile. -/
def low {s : Shape} (x : FVec F s .f32) : FVec F s .bf16 := truncf .bf16 x bitsLt_bf16_f32

/-- The masked scores. -/
def scores (m : FVec F S64x64 .f32) (q k : FVec F S64x256 .f32) : FVec F S64x64 .bf16 :=
  low (mulf (matmul dot_S64x256_S64x256_S64x64_1_1_0_0_n_n none (low q) (low k)
    (constant S64x64 .f32 0x00000000#32)) m)

/-- The gradient of the masked scores. -/
def dscores (m : FVec F S64x64 .f32) (v d : FVec F S64x512 .f32) : FVec F S64x64 .bf16 :=
  low (mulf (matmul dot_S64x512_S64x512_S64x64_1_1_0_0_n_n none (low d) (low v)
    (constant S64x64 .f32 0x00000000#32)) m)

/-- The gradient of the values. -/
def dval (m : FVec F S64x64 .f32) (kd q k : FVec F S64x256 .f32) (d : FVec F S64x512 .f32)
    (D : FVec F S256x512 .f32) : FVec F S64x512 .f32 :=
  addf (matmul dot_S64x64_S64x512_S64x512_0_0_1_1_n_n none (scores m q k) (low d)
      (constant S64x512 .f32 0x00000000#32))
    (matmul dot_S64x256_S256x512_S64x512_1_0_0_1_n_n none (low (mulf k kd)) (low D)
      (constant S64x512 .f32 0x00000000#32))

/-- The gradient of the rotated queries. -/
def dqry (m : FVec F S64x64 .f32) (qd k : FVec F S64x256 .f32) (v d : FVec F S64x512 .f32)
    (S : FVec F S256x512 .bf16) : FVec F S64x256 .f32 :=
  addf (matmul dot_S64x64_S64x256_S64x256_1_0_0_1_n_n none (dscores m v d) (low k)
      (constant S64x256 .f32 0x00000000#32))
    (mulf (matmul dot_S64x512_S256x512_S64x256_1_1_0_0_n_n none (low d) S
      (constant S64x256 .f32 0x00000000#32)) qd)

/-- The gradient of the rotated keys. -/
def dkey (m : FVec F S64x64 .f32) (kd q : FVec F S64x256 .f32) (v d : FVec F S64x512 .f32)
    (D : FVec F S256x512 .f32) : FVec F S64x256 .f32 :=
  addf (matmul dot_S64x64_S64x256_S64x256_0_0_1_1_n_n none (dscores m v d) (low q)
      (constant S64x256 .f32 0x00000000#32))
    (mulf (matmul dot_S64x512_S256x512_S64x256_1_1_0_0_n_n none (low v) (low D)
      (constant S64x256 .f32 0x00000000#32)) kd)

/-- The gradient of the state before the chunk. -/
def dstate (c : F .f32) (qd q : FVec F S64x256 .f32) (d : FVec F S64x512 .f32)
    (D : FVec F S256x512 .f32) : FVec F S256x512 .f32 :=
  addf (mulf D (broadcast S256x512 c))
    (matmul dot_S64x256_S64x512_S256x512_0_0_1_1_n_n none (low (mulf q qd)) (low d)
      (constant S256x512 .f32 0x00000000#32))

/-- The decay of a state over a chunk, for each head. -/
def decay (h : Fin 4) : F .f32 :=
  match h with
  | ⟨0, _⟩ => Named.named κ "s_dec0" 0x3E063AE5#32
  | ⟨1, _⟩ => Named.named κ "s_dec1" 0x3EBADF84#32
  | ⟨2, _⟩ => Named.named κ "s_dec2" 0x3F1AF7A1#32
  | ⟨3, _⟩ => Named.named κ "s_dec3" 0x3F474682#32

/-! ## The tiles as parts of the blocks -/

/-- What a block gives at the parts that are loaded of it. -/
abbrev Reads (F : FTy → Type) (s : Shape) (e : EltTy) :=
  (r : LoadRect s) → r.shape.Idx → Elt F e

/-- The blocks of the ten arguments, as what is loaded of them. -/
structure Blocks (F : FTy → Type) where
  p : Reads F S256x6144 .f32
  cs : Reads F S256x128 .f32
  sn : Reads F S256x128 .f32
  m : Reads F S4x64x64 .f32
  qd : Reads F S4x64x256 .f32
  kd : Reads F S4x64x256 .f32
  gn : Reads F S1x2048 .f32
  o : Reads F S256x2048 .f32
  st : Reads F S4x4x256x512 .bf16
  dy : Reads F S256x2048 .f32

/-- The part of `a` rows and `b` columns of a matrix from row `i` and column `j` on. -/
abbrev cut2 {m n : Nat} {e : EltTy} (R : Reads F ⟨2, ![m, n]⟩ e) (a b i j : Nat)
    (hi : i + a ≤ m) (hj : j + b ≤ n) : (⟨2, ![a, b]⟩ : Shape).Idx → Elt F e :=
  R (Rect.unit (s := ⟨2, ![m, n]⟩) ![i, j] ![a, b]
    (Fin.forall_fin_two.2 ⟨hi, hj⟩)).toLoadRect

/-- One matrix of a stack of matrices. -/
abbrev cut3 {l m n : Nat} {e : EltTy} (R : Reads F ⟨3, ![l, m, n]⟩ e) (h : Nat)
    (hh : h + 1 ≤ l) : (⟨3, ![1, m, n]⟩ : Shape).Idx → Elt F e :=
  R (Rect.unit (s := ⟨3, ![l, m, n]⟩) ![h, 0, 0] ![1, m, n]
    (Fin.forall_fin_succ.2 ⟨hh, Fin.forall_fin_two.2
      ⟨(Nat.zero_add m).le, (Nat.zero_add n).le⟩⟩)).toLoadRect

section
variable (B : Blocks F) (c h : Fin 4)

def tcs : FVec F S64x128 .f32 :=
  shapeCast S64x128 (cut2 B.cs 64 128 (64 * c.val) 0 (by omega) (by omega))
    shapeCasts_S64x128_S64x128
def tsn : FVec F S64x128 .f32 :=
  shapeCast S64x128 (cut2 B.sn 64 128 (64 * c.val) 0 (by omega) (by omega))
    shapeCasts_S64x128_S64x128
def tq : FVec F S64x256 .f32 :=
  rot (tcs B c) (tsn B c) (cut2 B.p 64 256 (64 * c.val) (256 * h.val) (by omega) (by omega))
def tk : FVec F S64x256 .f32 :=
  sixteenth (rot (tcs B c) (tsn B c)
    (cut2 B.p 64 256 (64 * c.val) (1024 + 256 * h.val) (by omega) (by omega)))
def tv : FVec F S64x512 .f32 :=
  cut2 B.p 64 512 (64 * c.val) (2048 + 512 * h.val) (by omega) (by omega)
def tg : FVec F S64x512 .f32 :=
  cut2 B.p 64 512 (64 * c.val) (4096 + 512 * h.val) (by omega) (by omega)
def tout : FVec F S64x512 .f32 :=
  cut2 B.o 64 512 (64 * c.val) (512 * h.val) (by omega) (by omega)
def tdy : FVec F S64x512 .f32 :=
  cut2 B.dy 64 512 (64 * c.val) (512 * h.val) (by omega) (by omega)
def tgn : FVec F S1x512 .f32 :=
  cut2 B.gn 1 512 0 (512 * h.val) (by omega) (by omega)
def tm : FVec F S64x64 .f32 :=
  shapeCast S64x64 (cut3 B.m h.val (by omega)) shapeCasts_S1x64x64_S64x64
def tqd : FVec F S64x256 .f32 :=
  shapeCast S64x256 (cut3 B.qd h.val (by omega)) shapeCasts_S1x64x256_S64x256
def tkd : FVec F S64x256 .f32 :=
  shapeCast S64x256 (cut3 B.kd h.val (by omega)) shapeCasts_S1x64x256_S64x256
def tst : FVec F S256x512 .bf16 :=
  shapeCast S256x512 (B.st (Rect.unit (s := S4x4x256x512) ![c.val, h.val, 0, 0] S1x1x256x512.size
    (Fin.forall_fin_succ.2 ⟨c.isLt, Fin.forall_fin_succ.2 ⟨h.isLt, Fin.forall_fin_two.2
      ⟨Nat.le_of_eq (Nat.zero_add 256), Nat.le_of_eq (Nat.zero_add 512)⟩⟩⟩)).toLoadRect) shapeCasts_S1x1x256x512_S256x512
def td : FVec F S64x512 .f32 := dout (tg B c h) (tout B c h) (tdy B c h) (tgn B h)

/-- The gradient of the state before the chunk, from that after it. -/
def tnext (D : Vec F S1x256x512 .f32) : Vec F S1x256x512 .f32 :=
  shapeCast S1x256x512 (dstate (decay h) (tqd B h) (tq B c h) (td B c h)
    (shapeCast S256x512 D shapeCasts_S1x256x512_S256x512)) shapeCasts_S256x512_S1x256x512

def gq : FVec F S64x256 .bf16 :=
  low (unrot (tcs B c) (tsn B c)
    (dqry (tm B h) (tqd B h) (tk B c h) (tv B c h) (td B c h) (tst B c h)))
def gk (D : Vec F S1x256x512 .f32) : FVec F S64x256 .bf16 :=
  low (unrot (tcs B c) (tsn B c) (sixteenth
    (dkey (tm B h) (tkd B h) (tq B c h) (tv B c h) (td B c h)
      (shapeCast S256x512 D shapeCasts_S1x256x512_S256x512))))
def gv (D : Vec F S1x256x512 .f32) : FVec F S64x512 .bf16 :=
  low (dval (tm B h) (tkd B h) (tq B c h) (tk B c h) (td B c h)
    (shapeCast S256x512 D shapeCasts_S1x256x512_S256x512))
def gg : FVec F S64x512 .bf16 :=
  low (dgate (tg B c h) (tout B c h) (tdy B c h) (tgn B h))
def gs : FVec F S1x512 .f32 := dscale (tg B c h) (tout B c h) (tdy B c h)

/-- The four tiles of the first output that one chunk of one head gives. -/
def tiles (D : Vec F S1x256x512 .f32) : List (View.Piece (Elt F) S256x6144 .bf16) :=
  [⟨Rect.unit (s := S256x6144) ![64 * c.val, 4096 + 512 * h.val] S64x512.size
      (Fin.forall_fin_two.2 ⟨by show 64 * c.val + 64 ≤ 256; omega,
        by show 4096 + 512 * h.val + 512 ≤ 6144; omega⟩), gg B c h⟩,
   ⟨Rect.unit (s := S256x6144) ![64 * c.val, 2048 + 512 * h.val] S64x512.size
      (Fin.forall_fin_two.2 ⟨by show 64 * c.val + 64 ≤ 256; omega,
        by show 2048 + 512 * h.val + 512 ≤ 6144; omega⟩), gv B c h D⟩,
   ⟨Rect.unit (s := S256x6144) ![64 * c.val, 1024 + 256 * h.val] S64x256.size
      (Fin.forall_fin_two.2 ⟨by show 64 * c.val + 64 ≤ 256; omega,
        by show 1024 + 256 * h.val + 256 ≤ 6144; omega⟩), gk B c h D⟩,
   ⟨Rect.unit (s := S256x6144) ![64 * c.val, 256 * h.val] S64x256.size
      (Fin.forall_fin_two.2 ⟨by show 64 * c.val + 64 ≤ 256; omega,
        by show 256 * h.val + 256 ≤ 6144; omega⟩), gq B c h⟩]

/-- The part of the scratch that belongs to one head. -/
abbrev headRect (h : Fin 4) : Rect S4x256x512 :=
  Rect.unit (s := S4x256x512) ![h.val, 0, 0] S1x256x512.size
    (Fin.forall_fin_succ.2 ⟨h.isLt, Fin.forall_fin_two.2
      ⟨Nat.le_of_eq (Nat.zero_add 256), Nat.le_of_eq (Nat.zero_add 512)⟩⟩)

/-- The scratch with one head's state taken back over one chunk, from what was loaded of it. -/
abbrev push (D : Vec F S1x256x512 .f32) (L : List (View.Piece (Elt F) S4x256x512 .f32)) :
    List (View.Piece (Elt F) S4x256x512 .f32) := ⟨headRect h, tnext B c h D⟩ :: L

/-- The parts of the gradient of the scales that one chunk gives, for the four heads. -/
def gsRow : FVec F S1x2048 .f32 :=
  concatenate S1x2048 1 [⟨S1x512, gs B c ⟨0, by decide⟩⟩, ⟨S1x512, gs B c ⟨1, by decide⟩⟩,
    ⟨S1x512, gs B c ⟨2, by decide⟩⟩, ⟨S1x512, gs B c ⟨3, by decide⟩⟩]
    concatenates_S1x512_S1x512_S1x512_S1x512_S1x2048_d1

end

/-- The part of the gradient of the scales that the four chunks of a block give. -/
def gsBlock (B : Blocks F) : FVec F S1x2048 .f32 :=
  addf (addf (addf (gsRow B ⟨3, by decide⟩) (gsRow B ⟨2, by decide⟩)) (gsRow B ⟨1, by decide⟩))
    (gsRow B ⟨0, by decide⟩)

/-- The blocks as the staging buffers give them. -/
abbrev staged (arg1 : Memref sig .tc .vmem S256x6144 .f32) (harg1 : arg1.IsWhole)
    (arg2 : Memref sig .tc .vmem S256x128 .f32) (harg2 : arg2.IsWhole)
    (arg3 : Memref sig .tc .vmem S256x128 .f32) (harg3 : arg3.IsWhole)
    (arg4 : Memref sig .tc .vmem S4x64x64 .f32) (harg4 : arg4.IsWhole)
    (arg5 : Memref sig .tc .vmem S4x64x256 .f32) (harg5 : arg5.IsWhole)
    (arg6 : Memref sig .tc .vmem S4x64x256 .f32) (harg6 : arg6.IsWhole)
    (arg7 : Memref sig .tc .vmem S1x2048 .f32) (harg7 : arg7.IsWhole)
    (arg8 : Memref sig .tc .vmem S256x2048 .f32) (harg8 : arg8.IsWhole)
    (arg9 : Memref sig .tc .vmem S4x4x256x512 .bf16) (harg9 : arg9.IsWhole)
    (arg10 : Memref sig .tc .vmem S256x2048 .f32) (harg10 : arg10.IsWhole)
    (x0 : Vec F S256x6144 .f32) (x1 : Vec F S256x128 .f32) (x2 : Vec F S256x128 .f32)
    (x3 : Vec F S4x64x64 .f32) (x4 : Vec F S4x64x256 .f32) (x5 : Vec F S4x64x256 .f32)
    (x6 : Vec F S1x2048 .f32) (x7 : Vec F S256x2048 .f32) (x8 : Vec F S4x4x256x512 .bf16)
    (x9 : Vec F S256x2048 .f32) : Blocks F where
  p := fun r => View.readAt (Elt F) arg1.view r (harg1.unread x0)
  cs := fun r => View.readAt (Elt F) arg2.view r (harg2.unread x1)
  sn := fun r => View.readAt (Elt F) arg3.view r (harg3.unread x2)
  m := fun r => View.readAt (Elt F) arg4.view r (harg4.unread x3)
  qd := fun r => View.readAt (Elt F) arg5.view r (harg5.unread x4)
  kd := fun r => View.readAt (Elt F) arg6.view r (harg6.unread x5)
  gn := fun r => View.readAt (Elt F) arg7.view r (harg7.unread x6)
  o := fun r => View.readAt (Elt F) arg8.view r (harg8.unread x7)
  st := fun r => View.readAt (Elt F) arg9.view r (harg9.unread x8)
  dy := fun r => View.readAt (Elt F) arg10.view r (harg10.unread x9)

end Cert.Ret
-- ==== Proof.Carry.lean ====
module

public import proofs.«01_k».proof.Proof.Chunk
public import Idealize.ShloMosaic.Lib.WholeRead
public import Idealize.ShloMosaic.Lib.Pipeline.ValueKit

@[expose] public section

noncomputable section

namespace Cert.Ret

open Cert.KernelIdeal Cert.KernelIdeal.Gen Idealize.ShloMosaic Idealize.SL.Sem

variable {F : FTy → Type} [FloatOps F] [Named F]

/-! ## The state's gradient carried back over the chunks of a block -/

/-- What is loaded of a block with given contents. -/
def pick {s : Shape} {e : EltTy} (X : s.Idx → Elt F e) : Reads F s e := fun r j => X (r.idx j)

/-- The blocks with given contents. -/
def whole (x0 : Vec F S256x6144 .f32) (x1 : Vec F S256x128 .f32) (x2 : Vec F S256x128 .f32)
    (x3 : Vec F S4x64x64 .f32) (x4 : Vec F S4x64x256 .f32) (x5 : Vec F S4x64x256 .f32)
    (x6 : Vec F S1x2048 .f32) (x7 : Vec F S256x2048 .f32) (x8 : Vec F S4x4x256x512 .bf16)
    (x9 : Vec F S256x2048 .f32) : Blocks F where
  p := pick x0
  cs := pick x1
  sn := pick x2
  m := pick x3
  qd := pick x4
  kd := pick x5
  gn := pick x6
  o := pick x7
  st := pick x8
  dy := pick x9

/-- A load of a staging buffer that holds a block gives the block's entries. -/
theorem readAt_pick {s : Shape} {e : EltTy} (a : Memref sig .tc .vmem s e) (h : a.IsWhole)
    (X : s.Idx → Elt F e) :
    (fun r => View.readAt (Elt F) a.view r (h.unread X) : Reads F s e) = pick X :=
  funext fun r => funext fun j => h.readAt_unread X r j

/-- The staging buffers give the blocks they hold. -/
theorem staged_eq (arg1 : Memref sig .tc .vmem S256x6144 .f32) (harg1 : arg1.IsWhole)
    (arg2 : Memref sig .tc .vmem S256x128 .f32) (harg2 : arg2.IsWhole)
    (arg3 : Memref sig .tc .vmem S256x128 .f32) (harg3 : arg3.IsWhole)
    (arg4 : Memref sig .tc .vmem S4x64x64 .f32) (harg4 : arg4.IsWhole)
    (arg5 : Memref sig .tc .vmem S4x64x256 .f32) (harg5 : arg5.IsWhole)
    (arg6 : Memref sig .tc .vmem S4x64x256 .f32) (harg6 : arg6.IsWhole)
    (arg7 : Memref sig .tc .vmem S1x2048 .f32) (harg7 : arg7.IsWhole)
    (arg8 : Memref sig .tc .vmem S256x2048 .f32) (harg8 : arg8.IsWhole)
    (arg9 : Memref sig .tc .vmem S4x4x256x512 .bf16) (harg9 : arg9.IsWhole)
    (arg10 : Memref sig .tc .vmem S256x2048 .f32) (harg10 : arg10.IsWhole)
    (x0 : Vec F S256x6144 .f32) (x1 : Vec F S256x128 .f32) (x2 : Vec F S256x128 .f32)
    (x3 : Vec F S4x64x64 .f32) (x4 : Vec F S4x64x256 .f32) (x5 : Vec F S4x64x256 .f32)
    (x6 : Vec F S1x2048 .f32) (x7 : Vec F S256x2048 .f32) (x8 : Vec F S4x4x256x512 .bf16)
    (x9 : Vec F S256x2048 .f32) :
    staged arg1 harg1 arg2 harg2 arg3 harg3 arg4 harg4 arg5 harg5 arg6 harg6 arg7 harg7 arg8 harg8
      arg9 harg9 arg10 harg10 x0 x1 x2 x3 x4 x5 x6 x7 x8 x9 = whole x0 x1 x2 x3 x4 x5 x6 x7 x8 x9 := by
  unfold staged whole
  simp only [readAt_pick]

/-- The gradient of one head's state after chunk `c` of the block, from that after the block. -/
def back (B : Blocks F) (D : Fin 4 → Vec F S1x256x512 .f32) (c h : Fin 4) : Vec F S1x256x512 .f32 :=
  match c with
  | ⟨3, _⟩ => D h
  | ⟨2, _⟩ => tnext B 3 h (D h)
  | ⟨1, _⟩ => tnext B 2 h (tnext B 3 h (D h))
  | ⟨0, _⟩ => tnext B 1 h (tnext B 2 h (tnext B 3 h (D h)))

/-- The gradient of one head's state before the block. -/
def front (B : Blocks F) (D : Fin 4 → Vec F S1x256x512 .f32) (h : Fin 4) : Vec F S1x256x512 .f32 :=
  tnext B 0 h (back B D 0 h)

/-- The tiles of the first output of a block. -/
def allTiles (B : Blocks F) (D : Fin 4 → Vec F S1x256x512 .f32) :
    List (View.Piece (Elt F) S256x6144 .bf16) :=
  tiles B 0 3 (back B D 0 3) ++ tiles B 0 2 (back B D 0 2) ++
  tiles B 0 1 (back B D 0 1) ++ tiles B 0 0 (back B D 0 0) ++
  tiles B 1 3 (back B D 1 3) ++ tiles B 1 2 (back B D 1 2) ++
  tiles B 1 1 (back B D 1 1) ++ tiles B 1 0 (back B D 1 0) ++
  tiles B 2 3 (back B D 2 3) ++ tiles B 2 2 (back B D 2 2) ++
  tiles B 2 1 (back B D 2 1) ++ tiles B 2 0 (back B D 2 0) ++
  tiles B 3 3 (back B D 3 3) ++ tiles B 3 2 (back B D 3 2) ++
  tiles B 3 1 (back B D 3 1) ++ tiles B 3 0 (back B D 3 0)

/-- The entries of one head of a scratch. -/
def heads (S : Vec F S4x256x512 .f32) (h : Fin 4) : Vec F S1x256x512 .f32 :=
  fun j => S ((headRect h).toLoadRect.idx j)

/-- A load of the head just stored gives what was stored. -/
theorem load_push (a : Memref sig .tc .vmem S4x256x512 .f32) (B : Blocks F) (c h : Fin 4)
    (D : Vec F S1x256x512 .f32) (L : List (View.Piece (Elt F) S4x256x512 .f32)) :
    a.view.readCov (push B c h D L) (headRect h).toLoadRect = tnext B c h D :=
  View.readCov_cons_toLoadRect _ _ _ _

/-- A load of another head passes the store over. -/
theorem load_skip {a : Memref sig .tc .vmem S4x256x512 .f32} {B : Blocks F} {c h h' : Fin 4}
    {D : Vec F S1x256x512 .f32} {L : List (View.Piece (Elt F) S4x256x512 .f32)} (hne : h ≠ h') :
    a.view.readCov (push B c h D L) (headRect h').toLoadRect =
      a.view.readCov L (headRect h').toLoadRect := by
  refine View.readCov_cons_of_disjoint _ _ _ _ ?_
  rw [Finset.disjoint_left]
  intro y hy hy'
  obtain ⟨x, rfl⟩ := (headRect h).exists_idx_of_mem hy
  obtain ⟨x', hx'⟩ := (headRect h').exists_idx_of_mem hy'
  have e := congrArg (fun z : S4x256x512.Idx => (z 0 : Nat)) hx'
  simp only [Rect.idx_unit_val] at e
  have h0 : (x 0 : Nat) < 1 := (x 0).isLt
  have h1 : (x' 0 : Nat) < 1 := (x' 0).isLt
  simp at e
  exact hne (Fin.ext (by omega))

end Cert.Ret
-- ==== Proof.Read.lean ====
module

public import proofs.«01_k».proof.Proof.Carry
public import proofs.«01_k».proof.Proof.Spec
public import Idealize.ShloMosaic.Lib.Pointwise

@[expose] public section

noncomputable section

namespace Cert.Ret

open Cert.KernelIdeal Cert.KernelIdeal.Gen Idealize.ShloMosaic Idealize.SL.Sem

/-! ## The tiles of a block, element by element -/

/-- A part of a matrix, read at an index. -/
theorem cut2_at {m n : Nat} {e : EltTy} (X : (⟨2, ![m, n]⟩ : Shape).Idx → Elt Ideal e)
    (a b i j : Nat) (hi : i + a ≤ m) (hj : j + b ≤ n) (t : Fin a) (d : Fin b) :
    cut2 (pick X) a b i j hi hj (ix2 t d) =
      X (ix2 ⟨i + t.val, by omega⟩ ⟨j + d.val, by omega⟩) := by
  refine congrArg X ?_
  funext k
  match k with
  | ⟨0, _⟩ | ⟨1, _⟩ => exact Fin.ext (by simp [Rect.idx_unit_val, LoadRect.idx, Rect.toLoadRect, Rect.unit, ix2])

/-- A matrix of a stack, read at an index. -/
theorem cut3_at {l m n : Nat} {e : EltTy} (X : (⟨3, ![l, m, n]⟩ : Shape).Idx → Elt Ideal e)
    (h : Nat) (hh : h + 1 ≤ l) (t : Fin m) (d : Fin n) :
    cut3 (pick X) h hh (ix3 0 t d) = X (ix3 ⟨h, hh⟩ t d) := by
  refine congrArg X ?_
  funext k
  match k with
  | ⟨0, _⟩ | ⟨1, _⟩ | ⟨2, _⟩ => exact Fin.ext (by simp [Rect.idx_unit_val, LoadRect.idx, Rect.toLoadRect, Rect.unit, ix3])

/-- The saved state of one chunk and head, read at an index. -/
theorem cast4_at {e : EltTy} (X : S1x1x256x512.Idx → Elt Ideal e) (a : Fin 256) (b : Fin 512) :
    shapeCast S256x512 X shapeCasts_S1x1x256x512_S256x512 (ix2 a b) = X (ix4 0 0 a b) := by
  pointwise []

theorem pick4_at (X : S4x4x256x512.Idx → Elt Ideal .bf16) (c h : Fin 4)
    (inb) (a : Fin 256) (b : Fin 512) :
    pick X (Rect.unit (s := S4x4x256x512) ![c.val, h.val, 0, 0] S1x1x256x512.size inb).toLoadRect
      (ix4 0 0 a b) = X (ix4 c h a b) := by
  refine congrArg X ?_
  funext k
  match k with
  | ⟨0, _⟩ | ⟨1, _⟩ | ⟨2, _⟩ | ⟨3, _⟩ => exact Fin.ext (by simp [Rect.idx_unit_val, LoadRect.idx, Rect.toLoadRect, Rect.unit, ix4])

/-! ### The operations on tiles -/

theorem rot_at (cs sn : FVec Ideal S64x128 .f32) (x : FVec Ideal S64x256 .f32) (t : Fin 64)
    (d : Fin 256) : rot cs sn x (ix2 t d) =
      rotS (fun j => cs (ix2 t j)) (fun j => sn (ix2 t j)) (fun j => x (ix2 t j)) d := by
  pointwise [rot]
  unfold rotS
  split
  · rfl
  · have e : (⟨128 + (d.val - 128), by omega⟩ : Fin 256) = d := Fin.ext (by simp; omega)
    rw [e]

theorem unrot_at (cs sn : FVec Ideal S64x128 .f32) (x : FVec Ideal S64x256 .f32) (t : Fin 64)
    (d : Fin 256) : unrot cs sn x (ix2 t d) =
      unrotS (fun j => cs (ix2 t j)) (fun j => sn (ix2 t j)) (fun j => x (ix2 t j)) d := by
  pointwise [unrot]
  unfold unrotS
  split
  · rfl
  · have e : (⟨128 + (d.val - 128), by omega⟩ : Fin 256) = d := Fin.ext (by simp; omega)
    rw [e]

theorem sixteenth_at (x : FVec Ideal S64x256 .f32) (j : S64x256.Idx) :
    sixteenth x j = x j * sixteenthS := by
  pointwise [sixteenth, sixteenthS]

theorem sigm_at (g : FVec Ideal S64x512 .f32) (j : S64x512.Idx) : sigm g j = sigS (g j) := by
  pointwise [sigm, ones, sigS]

theorem rstd_at (o : FVec Ideal S64x512 .f32) (t : Fin 64) (e : Fin 512) :
    rstd o (ix2 t e) = rstdS fun j => o (ix2 t j) := by
  pointwise [rstd, rowMean, rstdS, meanS]

theorem dnorm_at (g dy : FVec Ideal S64x512 .f32) (j : S64x512.Idx) :
    dnorm g dy j = dnormS (g j) (dy j) := by
  show dy j * (g j * sigm g j) = _
  rw [sigm_at]; rfl

theorem ohat_at (o : FVec Ideal S64x512 .f32) (t : Fin 64) (e : Fin 512) :
    ohat o (ix2 t e) = o (ix2 t e) * rstdS fun j => o (ix2 t j) := by
  show o (ix2 t e) * rstd o (ix2 t e) = _
  rw [rstd_at]

theorem scales_at (gn : FVec Ideal S1x512 .f32) (t : Fin 64) (e : Fin 512) :
    scales gn (ix2 t e) = gn (ix2 0 e) := by
  pointwise [scales]

theorem dgate_at (g o dy : FVec Ideal S64x512 .f32) (gn : FVec Ideal S1x512 .f32) (t : Fin 64)
    (e : Fin 512) : dgate g o dy gn (ix2 t e) =
      dgateS (fun j => g (ix2 t j)) (fun j => o (ix2 t j)) (fun j => dy (ix2 t j))
        (fun j => gn (ix2 0 j)) e := by
  pointwise [dgate, ones]
  rw [ohat_at, scales_at, sigm_at]
  rfl

theorem dscale_at (g o dy : FVec Ideal S64x512 .f32) (e : Fin 512) :
    dscale g o dy (ix2 0 e) =
      ∑ t, dscaleS (fun j => g (ix2 t j)) (fun j => o (ix2 t j)) (fun j => dy (ix2 t j)) e := by
  pointwise [dscale]
  refine Finset.sum_congr rfl fun t _ => ?_
  rw [dnorm_at, ohat_at]
  rfl

theorem dout_at (g o dy : FVec Ideal S64x512 .f32) (gn : FVec Ideal S1x512 .f32) (t : Fin 64)
    (e : Fin 512) : dout g o dy gn (ix2 t e) =
      doutS (fun j => g (ix2 t j)) (fun j => o (ix2 t j)) (fun j => dy (ix2 t j))
        (fun j => gn (ix2 0 j)) e := by
  pointwise [dout, rowMean]
  simp only [ohat_at, scales_at, dnorm_at, rstd_at]
  rfl

theorem dqry_at (m : FVec Ideal S64x64 .f32) (qd k : FVec Ideal S64x256 .f32)
    (v d : FVec Ideal S64x512 .f32) (S : FVec Ideal S256x512 .bf16) (t : Fin 64) (j : Fin 256) :
    dqry m qd k v d S (ix2 t j) =
      gradQ (fun a b => m (ix2 a b)) (fun a b => qd (ix2 a b)) (fun a b => k (ix2 a b))
        (fun a b => v (ix2 a b)) (fun a b => d (ix2 a b)) (fun a b => S (ix2 a b)) t j := by
  pointwise [dqry, dscores, low]
  rfl

theorem dkey_at (m : FVec Ideal S64x64 .f32) (kd q : FVec Ideal S64x256 .f32)
    (v d : FVec Ideal S64x512 .f32) (D : FVec Ideal S256x512 .f32) (t : Fin 64) (j : Fin 256) :
    dkey m kd q v d D (ix2 t j) =
      gradK (fun a b => m (ix2 a b)) (fun a b => kd (ix2 a b)) (fun a b => q (ix2 a b))
        (fun a b => v (ix2 a b)) (fun a b => d (ix2 a b)) (fun a b => D (ix2 a b)) t j := by
  pointwise [dkey, dscores, low]
  rfl

theorem dval_at (m : FVec Ideal S64x64 .f32) (kd q k : FVec Ideal S64x256 .f32)
    (d : FVec Ideal S64x512 .f32) (D : FVec Ideal S256x512 .f32) (t : Fin 64) (j : Fin 512) :
    dval m kd q k d D (ix2 t j) =
      gradV (fun a b => m (ix2 a b)) (fun a b => kd (ix2 a b)) (fun a b => q (ix2 a b))
        (fun a b => k (ix2 a b)) (fun a b => d (ix2 a b)) (fun a b => D (ix2 a b)) t j := by
  pointwise [dval, scores, low]
  rfl

theorem dstate_at (c : Ideal .f32) (qd q : FVec Ideal S64x256 .f32) (d : FVec Ideal S64x512 .f32)
    (D : FVec Ideal S256x512 .f32) (a : Fin 256) (e : Fin 512) :
    dstate c qd q d D (ix2 a e) =
      gradS c (fun a b => qd (ix2 a b)) (fun a b => q (ix2 a b))
        (fun a b => d (ix2 a b)) (fun a b => D (ix2 a b)) a e := by
  pointwise [dstate, low]
  rfl

theorem drop_at (D : Vec Ideal S1x256x512 .f32) (a : Fin 256) (e : Fin 512) :
    shapeCast S256x512 D shapeCasts_S1x256x512_S256x512 (ix2 a e) = D (ix3 0 a e) := by
  pointwise []

/-! ### A block that lies in the arrays -/

/-- The row of the sequence that is row `r` of block `b`. -/
def brow (b : Fin 16) (r : Fin 256) : Fin 4096 := ⟨256 * b.val + r.val, by omega⟩
/-- The chunk of the sequence that is chunk `c` of block `b`. -/
def chunk (b : Fin 16) (c : Fin 4) : Fin 64 := ⟨4 * b.val + c.val, by omega⟩

theorem brow_chunk (b : Fin 16) (c : Fin 4) (t : Fin 64) (h : 64 * c.val + t.val < 256) :
    brow b ⟨64 * c.val + t.val, h⟩ = row (chunk b c) t :=
  Fin.ext (by simp only [brow, row, chunk]; omega)

/-- The ten blocks hold block `b` of the arrays of `X`, and the gradient of the retention's output
    in `X` is the one of the arrays. -/
structure Fits (x0 : Vec Ideal S256x6144 .f32) (x1 x2 : Vec Ideal S256x128 .f32)
    (x3 : Vec Ideal S4x64x64 .f32) (x4 x5 : Vec Ideal S4x64x256 .f32)
    (x6 : Vec Ideal S1x2048 .f32) (x7 : Vec Ideal S256x2048 .f32)
    (x8 : Vec Ideal S4x4x256x512 .bf16) (x9 : Vec Ideal S256x2048 .f32)
    (X : Data) (gn : Fin 2048 → EReal) (o dy : Mat 4096 2048) (b : Fin 16) : Prop where
  go : X.go = goOf X.p gn o dy
  p : ∀ r l, x0 (ix2 r l) = X.p (brow b r) l
  cs : ∀ r l, x1 (ix2 r l) = X.cs (brow b r) l
  sn : ∀ r l, x2 (ix2 r l) = X.sn (brow b r) l
  m : ∀ h t s, x3 (ix3 h t s) = X.m h t s
  qd : ∀ h t s, x4 (ix3 h t s) = X.qd h t s
  kd : ∀ h t s, x5 (ix3 h t s) = X.kd h t s
  gn : ∀ l, x6 (ix2 0 l) = gn l
  o : ∀ r l, x7 (ix2 r l) = o (brow b r) l
  st : ∀ c h d e, x8 (ix4 c h d e) = X.st (chunk b c) h d e
  dy : ∀ r l, x9 (ix2 r l) = dy (brow b r) l
  dec : ∀ h, X.dec h = decay (F := Ideal) h

section
variable {x0 : Vec Ideal S256x6144 .f32} {x1 x2 : Vec Ideal S256x128 .f32}
  {x3 : Vec Ideal S4x64x64 .f32} {x4 x5 : Vec Ideal S4x64x256 .f32}
  {x6 : Vec Ideal S1x2048 .f32} {x7 : Vec Ideal S256x2048 .f32}
  {x8 : Vec Ideal S4x4x256x512 .bf16} {x9 : Vec Ideal S256x2048 .f32}
  {X : Data} {gn : Fin 2048 → EReal} {o dy : Mat 4096 2048} {b : Fin 16}
  (H : Fits x0 x1 x2 x3 x4 x5 x6 x7 x8 x9 X gn o dy b) (c h : Fin 4)
include H

theorem tcs_at (t : Fin 64) (d : Fin 128) :
    tcs (whole x0 x1 x2 x3 x4 x5 x6 x7 x8 x9) c (ix2 t d) = X.cs (row (chunk b c) t) d := by
  unfold tcs
  rw [shapeCast_id]
  refine (cut2_at x1 _ _ _ _ (by omega) (by omega) t d).trans ?_
  rw [H.cs, brow_chunk]
  exact congrArg _ (Fin.ext (Nat.zero_add _))

theorem tsn_at (t : Fin 64) (d : Fin 128) :
    tsn (whole x0 x1 x2 x3 x4 x5 x6 x7 x8 x9) c (ix2 t d) = X.sn (row (chunk b c) t) d := by
  unfold tsn
  rw [shapeCast_id]
  refine (cut2_at x2 _ _ _ _ (by omega) (by omega) t d).trans ?_
  rw [H.sn, brow_chunk]
  exact congrArg _ (Fin.ext (Nat.zero_add _))

theorem tq_at (t : Fin 64) (d : Fin 256) :
    tq (whole x0 x1 x2 x3 x4 x5 x6 x7 x8 x9) c h (ix2 t d) = X.q (chunk b c) h t d := by
  unfold tq
  rw [rot_at]
  simp only [tcs_at H, tsn_at H]
  unfold Data.q
  refine congrArg (fun f => rotS _ _ f d) (funext fun j => ?_)
  refine (cut2_at x0 _ _ _ _ (by omega) (by omega) t j).trans ?_
  rw [H.p, brow_chunk]

theorem tk_at (t : Fin 64) (d : Fin 256) :
    tk (whole x0 x1 x2 x3 x4 x5 x6 x7 x8 x9) c h (ix2 t d) = X.k (chunk b c) h t d := by
  unfold tk
  rw [sixteenth_at, rot_at]
  simp only [tcs_at H, tsn_at H]
  unfold Data.k
  refine congrArg (fun f => rotS _ _ f d * sixteenthS) (funext fun j => ?_)
  refine (cut2_at x0 _ _ _ _ (by omega) (by omega) t j).trans ?_
  rw [H.p, brow_chunk]

theorem tv_at (t : Fin 64) (e : Fin 512) :
    tv (whole x0 x1 x2 x3 x4 x5 x6 x7 x8 x9) c h (ix2 t e) = X.v (chunk b c) h t e := by
  refine (cut2_at x0 _ _ _ _ (by omega) (by omega) t e).trans ?_
  rw [H.p, brow_chunk]
  rfl

theorem tg_at (t : Fin 64) (e : Fin 512) :
    tg (whole x0 x1 x2 x3 x4 x5 x6 x7 x8 x9) c h (ix2 t e) =
      X.p (row (chunk b c) t) (gcol h e) := by
  refine (cut2_at x0 _ _ _ _ (by omega) (by omega) t e).trans ?_
  rw [H.p, brow_chunk]
  rfl

theorem tout_at (t : Fin 64) (e : Fin 512) :
    tout (whole x0 x1 x2 x3 x4 x5 x6 x7 x8 x9) c h (ix2 t e) =
      o (row (chunk b c) t) (col h e) := by
  refine (cut2_at x7 _ _ _ _ (by omega) (by omega) t e).trans ?_
  rw [H.o, brow_chunk]
  rfl

theorem tdy_at (t : Fin 64) (e : Fin 512) :
    tdy (whole x0 x1 x2 x3 x4 x5 x6 x7 x8 x9) c h (ix2 t e) =
      dy (row (chunk b c) t) (col h e) := by
  refine (cut2_at x9 _ _ _ _ (by omega) (by omega) t e).trans ?_
  rw [H.dy, brow_chunk]
  rfl

theorem tgn_at (e : Fin 512) :
    tgn (whole x0 x1 x2 x3 x4 x5 x6 x7 x8 x9) h (ix2 0 e) = gn (col h e) := by
  refine (cut2_at x6 1 512 0 (512 * h.val) (by omega) (by omega) 0 e).trans ?_
  exact H.gn _

theorem tm_at (t s : Fin 64) :
    tm (whole x0 x1 x2 x3 x4 x5 x6 x7 x8 x9) h (ix2 t s) = X.m h t s := by
  pointwise [tm]
  refine (cut3_at x3 _ _ t s).trans (H.m _ _ _)

theorem tqd_at (t : Fin 64) (s : Fin 256) :
    tqd (whole x0 x1 x2 x3 x4 x5 x6 x7 x8 x9) h (ix2 t s) = X.qd h t s := by
  pointwise [tqd]
  refine (cut3_at x4 _ _ t s).trans (H.qd _ _ _)

theorem tkd_at (t : Fin 64) (s : Fin 256) :
    tkd (whole x0 x1 x2 x3 x4 x5 x6 x7 x8 x9) h (ix2 t s) = X.kd h t s := by
  pointwise [tkd]
  refine (cut3_at x5 _ _ t s).trans (H.kd _ _ _)

theorem tst_at (d : Fin 256) (e : Fin 512) :
    tst (whole x0 x1 x2 x3 x4 x5 x6 x7 x8 x9) c h (ix2 d e) = X.st (chunk b c) h d e := by
  unfold tst
  rw [cast4_at]
  exact (pick4_at x8 c h _ d e).trans (H.st _ _ _ _)

theorem td_at (t : Fin 64) (e : Fin 512) :
    td (whole x0 x1 x2 x3 x4 x5 x6 x7 x8 x9) c h (ix2 t e) = X.go (chunk b c) h t e := by
  unfold td
  rw [dout_at, H.go]
  simp only [tg_at H, tout_at H, tdy_at H, tgn_at H]
  rfl

/-- The gradient of the state before a chunk, element by element. -/
theorem tnext_at (D : Vec Ideal S1x256x512 .f32) (a : Fin 256) (e : Fin 512) :
    tnext (whole x0 x1 x2 x3 x4 x5 x6 x7 x8 x9) c h D (ix3 0 a e) =
      gradS (X.dec h) (X.qd h) (X.q (chunk b c) h) (X.go (chunk b c) h)
        (fun a e => D (ix3 0 a e)) a e := by
  pointwise [tnext]
  rw [dstate_at, H.dec]
  simp only [tqd_at H, tq_at H, td_at H]
  exact congrArg (fun f => gradS _ _ _ _ f a e) (funext₂ fun a b => drop_at D a b)

theorem gq_at (t : Fin 64) (d : Fin 256) :
    gq (whole x0 x1 x2 x3 x4 x5 x6 x7 x8 x9) c h (ix2 t d) = X.outQ (chunk b c) h t d := by
  show unrot (F := Ideal) _ _ _ (ix2 t d) = _
  rw [unrot_at]
  simp only [tcs_at H, tsn_at H, dqry_at, tm_at H, tqd_at H, tk_at H, tv_at H, td_at H, tst_at H]
  rfl

theorem gk_at (D : Vec Ideal S1x256x512 .f32)
    (hD : ∀ a e, D (ix3 0 a e) = X.carried (63 - (chunk b c).val) h a e) (t : Fin 64)
    (d : Fin 256) :
    gk (whole x0 x1 x2 x3 x4 x5 x6 x7 x8 x9) c h D (ix2 t d) = X.outK (chunk b c) h t d := by
  show unrot (F := Ideal) _ _ _ (ix2 t d) = _
  rw [unrot_at]
  simp only [tcs_at H, tsn_at H, sixteenth_at, dkey_at, tm_at H, tkd_at H, tq_at H, tv_at H,
    td_at H]
  exact congrArg (fun f => unrotS _ _ (fun j => gradK _ _ _ _ _ f t j * sixteenthS) d)
    (funext₂ fun a b => (drop_at D a b).trans (hD a b))

theorem gv_at (D : Vec Ideal S1x256x512 .f32)
    (hD : ∀ a e, D (ix3 0 a e) = X.carried (63 - (chunk b c).val) h a e) (t : Fin 64)
    (e : Fin 512) :
    gv (whole x0 x1 x2 x3 x4 x5 x6 x7 x8 x9) c h D (ix2 t e) = X.dv (chunk b c) h t e := by
  show dval (F := Ideal) _ _ _ _ _ _ (ix2 t e) = _
  simp only [dval_at, tm_at H, tkd_at H, tq_at H, tk_at H, td_at H]
  exact congrArg (fun f => gradV _ _ _ _ _ f t e)
    (funext₂ fun a b => (drop_at D a b).trans (hD a b))

theorem gg_at (t : Fin 64) (e : Fin 512) :
    gg (whole x0 x1 x2 x3 x4 x5 x6 x7 x8 x9) c h (ix2 t e) =
      gateOf X.p gn o dy (row (chunk b c) t) h e := by
  show dgate (F := Ideal) _ _ _ _ (ix2 t e) = _
  rw [dgate_at]
  simp only [tg_at H, tout_at H, tdy_at H, tgn_at H]
  rfl

theorem gs_at (e : Fin 512) :
    gs (whole x0 x1 x2 x3 x4 x5 x6 x7 x8 x9) c h (ix2 0 e) =
      ∑ t, scaleOf X.p o dy (row (chunk b c) t) h e := by
  unfold gs
  rw [dscale_at]
  simp only [tg_at H, tout_at H, tdy_at H]
  rfl

end

end Cert.Ret
-- ==== Proof.Block.lean ====
module

public import proofs.«01_k».proof.Proof.Read
public import Idealize.ShloMosaic.Lib.Pipeline.ValueKit

@[expose] public section

noncomputable section

namespace Cert.Ret

open Cert.KernelIdeal Cert.KernelIdeal.Gen Idealize.ShloMosaic Idealize.SL.Sem

/-! ## What one block leaves: the tiles of the gradient, the state's gradient, the scales' gradient -/

/-- The gradient of the projections at a row of a chunk and a column. -/
def Data.proj (X : Data) (gn : Fin 2048 → EReal) (o dy : Mat 4096 2048) (n t : Fin 64)
    (l : Fin 6144) : EReal :=
  if h1 : l.val < 1024 then
    X.outQ n ⟨l.val / 256, by omega⟩ t ⟨l.val % 256, by omega⟩
  else if h2 : l.val < 2048 then
    X.outK n ⟨(l.val - 1024) / 256, by omega⟩ t ⟨(l.val - 1024) % 256, by omega⟩
  else if h3 : l.val < 4096 then
    X.dv n ⟨(l.val - 2048) / 512, by omega⟩ t ⟨(l.val - 2048) % 512, by omega⟩
  else
    gateOf X.p gn o dy (row n t) ⟨(l.val - 4096) / 512, by omega⟩ ⟨(l.val - 4096) % 512, by omega⟩

section
variable (X : Data) (gn : Fin 2048 → EReal) (o dy : Mat 4096 2048) (n t : Fin 64) (h : Fin 4)

theorem proj_q (d : Fin 256) (l : Fin 6144) (hl : l.val = 256 * h.val + d.val) :
    X.proj gn o dy n t l = X.outQ n h t d := by
  have e1 : (⟨l.val / 256, by omega⟩ : Fin 4) = h := Fin.ext (by simp only; omega)
  have e2 : (⟨l.val % 256, by omega⟩ : Fin 256) = d := Fin.ext (by simp only; omega)
  unfold Data.proj
  rw [dif_pos (by omega), e2]
  exact congrArg (fun z => X.outQ n z t d) e1

theorem proj_k (d : Fin 256) (l : Fin 6144) (hl : l.val = 1024 + 256 * h.val + d.val) :
    X.proj gn o dy n t l = X.outK n h t d := by
  have e1 : (⟨(l.val - 1024) / 256, by omega⟩ : Fin 4) = h := Fin.ext (by simp only; omega)
  have e2 : (⟨(l.val - 1024) % 256, by omega⟩ : Fin 256) = d := Fin.ext (by simp only; omega)
  unfold Data.proj
  rw [dif_neg (by omega), dif_pos (by omega), e2]
  exact congrArg (fun z => X.outK n z t d) e1

theorem proj_v (e : Fin 512) (l : Fin 6144) (hl : l.val = 2048 + 512 * h.val + e.val) :
    X.proj gn o dy n t l = X.dv n h t e := by
  have e1 : (⟨(l.val - 2048) / 512, by omega⟩ : Fin 4) = h := Fin.ext (by simp only; omega)
  have e2 : (⟨(l.val - 2048) % 512, by omega⟩ : Fin 512) = e := Fin.ext (by simp only; omega)
  unfold Data.proj
  rw [dif_neg (by omega), dif_neg (by omega), dif_pos (by omega), e2]
  exact congrArg (fun z => X.dv n z t e) e1

theorem proj_g (e : Fin 512) (l : Fin 6144) (hl : l.val = 4096 + 512 * h.val + e.val) :
    X.proj gn o dy n t l = gateOf X.p gn o dy (row n t) h e := by
  have e1 : (⟨(l.val - 4096) / 512, by omega⟩ : Fin 4) = h := Fin.ext (by simp only; omega)
  have e2 : (⟨(l.val - 4096) % 512, by omega⟩ : Fin 512) = e := Fin.ext (by simp only; omega)
  unfold Data.proj
  rw [dif_neg (by omega), dif_neg (by omega), dif_neg (by omega), e2]
  exact congrArg (fun z => gateOf X.p gn o dy (row n t) z e) e1

/-- The state's gradient, taken back over chunk `n`. -/
theorem carried_back : X.carried (64 - n.val) h =
    gradS (X.dec h) (X.qd h) (X.q n h) (X.go n h) (X.carried (63 - n.val) h) := by
  have e : 64 - n.val = (63 - n.val) + 1 := by omega
  have e' : (⟨63 - (63 - n.val), by omega⟩ : Fin 64) = n := Fin.ext (by simp only; omega)
  rw [e]
  conv_lhs => unfold Data.carried
  rw [e']

end

/-- The row of a block that is in a chunk. -/
def brow' (r : Fin 256) : Fin 4 := ⟨r.val / 64, by omega⟩
/-- The row in its chunk of a row of a block. -/
def crow (r : Fin 256) : Fin 64 := ⟨r.val % 64, by omega⟩

/-- The tiles of a block are those of its chunks and heads. -/
theorem mem_allTiles (B : Blocks Ideal) (D : Fin 4 → Vec Ideal S1x256x512 .f32)
    (p : View.Piece (Elt Ideal) S256x6144 .bf16) :
    p ∈ allTiles B D ↔ ∃ c h, p ∈ tiles B c h (back B D c h) := by
  constructor
  · intro hp
    unfold allTiles at hp
    simp only [List.mem_append] at hp
    rcases hp with (((((((((((((((hp | hp) | hp) | hp) | hp) | hp) | hp) | hp) | hp) | hp) | hp) |
      hp) | hp) | hp) | hp) | hp)
    all_goals exact ⟨_, _, hp⟩
  · rintro ⟨c, h, hp⟩
    unfold allTiles
    simp only [List.mem_append]
    fin_cases c <;> fin_cases h <;> simp_all

section
variable {x0 : Vec Ideal S256x6144 .f32} {x1 x2 : Vec Ideal S256x128 .f32}
  {x3 : Vec Ideal S4x64x64 .f32} {x4 x5 : Vec Ideal S4x64x256 .f32}
  {x6 : Vec Ideal S1x2048 .f32} {x7 : Vec Ideal S256x2048 .f32}
  {x8 : Vec Ideal S4x4x256x512 .bf16} {x9 : Vec Ideal S256x2048 .f32}
  {X : Data} {gn : Fin 2048 → EReal} {o dy : Mat 4096 2048} {b : Fin 16}
  (H : Fits x0 x1 x2 x3 x4 x5 x6 x7 x8 x9 X gn o dy b)
  (D : Fin 4 → Vec Ideal S1x256x512 .f32)
  (hD : ∀ h a e, D h (ix3 0 a e) = X.carried (60 - 4 * b.val) h a e)
include H

theorem tnext_carried (c h : Fin 4) (E : Vec Ideal S1x256x512 .f32)
    (hE : ∀ a e, E (ix3 0 a e) = X.carried (63 - (chunk b c).val) h a e) (a : Fin 256)
    (e : Fin 512) : tnext (whole x0 x1 x2 x3 x4 x5 x6 x7 x8 x9) c h E (ix3 0 a e) =
      X.carried (64 - (chunk b c).val) h a e := by
  rw [tnext_at H, carried_back]
  exact congrArg (fun f => gradS _ _ _ _ f a e) (funext₂ hE)

include hD

/-- The state's gradient after each chunk of the block. -/
theorem back_at (c h : Fin 4) (a : Fin 256) (e : Fin 512) :
    back (whole x0 x1 x2 x3 x4 x5 x6 x7 x8 x9) D c h (ix3 0 a e) =
      X.carried (63 - (chunk b c).val) h a e := by
  have s3 : ∀ a e, D h (ix3 0 a e) = X.carried (63 - (chunk b 3).val) h a e := fun a e => by
    rw [hD]
    exact congrArg (fun j => X.carried j h a e) (by show 60 - 4 * b.val = 63 - (4 * b.val + 3); omega)
  have s2 : ∀ a e, tnext (whole x0 x1 x2 x3 x4 x5 x6 x7 x8 x9) 3 h (D h) (ix3 0 a e) =
      X.carried (63 - (chunk b 2).val) h a e := fun a e => by
    rw [tnext_carried H 3 h _ s3]
    exact congrArg (fun j => X.carried j h a e)
      (by show 64 - (4 * b.val + 3) = 63 - (4 * b.val + 2); omega)
  have s1 : ∀ a e, tnext (whole x0 x1 x2 x3 x4 x5 x6 x7 x8 x9) 2 h
      (tnext (whole x0 x1 x2 x3 x4 x5 x6 x7 x8 x9) 3 h (D h)) (ix3 0 a e) =
      X.carried (63 - (chunk b 1).val) h a e := fun a e => by
    rw [tnext_carried H 2 h _ s2]
    exact congrArg (fun j => X.carried j h a e)
      (by show 64 - (4 * b.val + 2) = 63 - (4 * b.val + 1); omega)
  match c with
  | ⟨3, _⟩ => exact s3 a e
  | ⟨2, _⟩ => exact s2 a e
  | ⟨1, _⟩ => exact s1 a e
  | ⟨0, _⟩ =>
    show tnext (whole x0 x1 x2 x3 x4 x5 x6 x7 x8 x9) 1 h _ (ix3 0 a e) = _
    rw [tnext_carried H 1 h _ s1]
    exact congrArg (fun j => X.carried j h a e)
      (by show 64 - (4 * b.val + 1) = 63 - (4 * b.val + 0); omega)

/-- The state's gradient before the block. -/
theorem front_at (h : Fin 4) (a : Fin 256) (e : Fin 512) :
    front (whole x0 x1 x2 x3 x4 x5 x6 x7 x8 x9) D h (ix3 0 a e) =
      X.carried (64 - 4 * b.val) h a e := by
  unfold front
  rw [tnext_carried H 0 h _ (back_at H D hD 0 h)]
  rfl

/-- Each tile of the block holds the gradient of the projections. -/
theorem tiles_at (c h : Fin 4) (p : View.Piece (Elt Ideal) S256x6144 .bf16)
    (hp : p ∈ tiles (whole x0 x1 x2 x3 x4 x5 x6 x7 x8 x9) c h
      (back (whole x0 x1 x2 x3 x4 x5 x6 x7 x8 x9) D c h))
    (y : S256x6144.Idx) (x : p.1.shape.Idx) (hx : p.1.emb x = y) :
    p.2 x = X.proj gn o dy (chunk b (brow' (y 0))) (crow (y 0)) (y 1) := by
  have key : ∀ (t : Fin 64), (y 0 : Nat) = 64 * c.val + t.val →
      brow' (y 0) = c ∧ crow (y 0) = t := fun t ht =>
    ⟨Fin.ext (by show (y 0 : Nat) / 64 = _; omega), Fin.ext (by show (y 0 : Nat) % 64 = _; omega)⟩
  unfold tiles at hp
  simp only [List.mem_cons, List.not_mem_nil, or_false] at hp
  rcases hp with rfl | rfl | rfl | rfl
  · obtain ⟨t, e, rfl⟩ : ∃ (t : Fin 64) (e : Fin 512), x = ix2 t e := ⟨_, _, eq_ix2 x⟩
    subst hx
    obtain ⟨k1, k2⟩ := key t (by rw [Rect.emb_apply]; show 64 * c.val + 1 * t.val = _; omega)
    rw [k1, k2]
    refine (gg_at H c h t e).trans (proj_g X gn o dy _ _ h e _ ?_).symm
    rw [Rect.emb_apply]
    show 4096 + 512 * h.val + 1 * e.val = _
    omega
  · obtain ⟨t, e, rfl⟩ : ∃ (t : Fin 64) (e : Fin 512), x = ix2 t e := ⟨_, _, eq_ix2 x⟩
    subst hx
    obtain ⟨k1, k2⟩ := key t (by rw [Rect.emb_apply]; show 64 * c.val + 1 * t.val = _; omega)
    rw [k1, k2]
    refine (gv_at H c h _ (back_at H D hD c h) t e).trans (proj_v X gn o dy _ _ h e _ ?_).symm
    rw [Rect.emb_apply]
    show 2048 + 512 * h.val + 1 * e.val = _
    omega
  · obtain ⟨t, e, rfl⟩ : ∃ (t : Fin 64) (e : Fin 256), x = ix2 t e := ⟨_, _, eq_ix2 x⟩
    subst hx
    obtain ⟨k1, k2⟩ := key t (by rw [Rect.emb_apply]; show 64 * c.val + 1 * t.val = _; omega)
    rw [k1, k2]
    refine (gk_at H c h _ (back_at H D hD c h) t e).trans (proj_k X gn o dy _ _ h e _ ?_).symm
    rw [Rect.emb_apply]
    show 1024 + 256 * h.val + 1 * e.val = _
    omega
  · obtain ⟨t, e, rfl⟩ : ∃ (t : Fin 64) (e : Fin 256), x = ix2 t e := ⟨_, _, eq_ix2 x⟩
    subst hx
    obtain ⟨k1, k2⟩ := key t (by rw [Rect.emb_apply]; show 64 * c.val + 1 * t.val = _; omega)
    rw [k1, k2]
    refine (gq_at H c h t e).trans (proj_q X gn o dy _ _ h e _ ?_).symm
    rw [Rect.emb_apply]
    show 256 * h.val + 1 * e.val = _
    omega

omit hD H in
/-- The tiles cover the block. -/
theorem tiles_cover (B : Blocks Ideal) (y : S256x6144.Idx) :
    ∃ p ∈ allTiles B D, y ∈ p.1.set := by
  have h0 : (y 0 : Nat) < 256 := (y 0).isLt
  have h1 : (y 1 : Nat) < 6144 := (y 1).isLt
  have mk : ∀ (c h : Fin 4) (p : View.Piece (Elt Ideal) S256x6144 .bf16)
      (_ : p ∈ tiles B c h (back B D c h)) (x : p.1.shape.Idx), p.1.emb x = y →
      ∃ p ∈ allTiles B D, y ∈ p.1.set := fun c h p hp x hx =>
    ⟨p, (mem_allTiles B D p).2 ⟨c, h, hp⟩, by rw [← hx]; exact p.1.idx_mem x⟩
  have row : (y 0 : Nat) = 64 * ((y 0 : Nat) / 64) + (y 0 : Nat) % 64 := by omega
  by_cases a1 : (y 1 : Nat) < 1024
  · refine mk ⟨(y 0 : Nat) / 64, by omega⟩ ⟨(y 1 : Nat) / 256, by omega⟩ _
      (List.mem_cons_of_mem _ (List.mem_cons_of_mem _ (List.mem_cons_of_mem _
        List.mem_cons_self))) (ix2 (n0 := 64) (n1 := 256) ⟨(y 0 : Nat) % 64, by omega⟩
        ⟨(y 1 : Nat) % 256, by omega⟩) ?_
    funext k
    match k with
    | ⟨0, _⟩ =>
      refine Fin.ext ?_
      rw [Rect.emb_apply]; show 64 * ((y 0 : Nat) / 64) + 1 * ((y 0 : Nat) % 64) = (y 0 : Nat); omega
    | ⟨1, _⟩ =>
      refine Fin.ext ?_
      rw [Rect.emb_apply]; show 256 * ((y 1 : Nat) / 256) + 1 * ((y 1 : Nat) % 256) = (y 1 : Nat); omega
  by_cases a2 : (y 1 : Nat) < 2048
  · refine mk ⟨(y 0 : Nat) / 64, by omega⟩ ⟨((y 1 : Nat) - 1024) / 256, by omega⟩ _
      (List.mem_cons_of_mem _ (List.mem_cons_of_mem _
        List.mem_cons_self)) (ix2 (n0 := 64) (n1 := 256) ⟨(y 0 : Nat) % 64, by omega⟩
        ⟨((y 1 : Nat) - 1024) % 256, by omega⟩) ?_
    funext k
    match k with
    | ⟨0, _⟩ =>
      refine Fin.ext ?_
      rw [Rect.emb_apply]; show 64 * ((y 0 : Nat) / 64) + 1 * ((y 0 : Nat) % 64) = (y 0 : Nat); omega
    | ⟨1, _⟩ =>
      refine Fin.ext ?_
      rw [Rect.emb_apply]
      show 1024 + 256 * (((y 1 : Nat) - 1024) / 256) + 1 * (((y 1 : Nat) - 1024) % 256) = (y 1 : Nat)
      omega
  by_cases a3 : (y 1 : Nat) < 4096
  · refine mk ⟨(y 0 : Nat) / 64, by omega⟩ ⟨((y 1 : Nat) - 2048) / 512, by omega⟩ _
      (List.mem_cons_of_mem _ List.mem_cons_self) (ix2 (n0 := 64) (n1 := 512)
        ⟨(y 0 : Nat) % 64, by omega⟩ ⟨((y 1 : Nat) - 2048) % 512, by omega⟩) ?_
    funext k
    match k with
    | ⟨0, _⟩ =>
      refine Fin.ext ?_
      rw [Rect.emb_apply]; show 64 * ((y 0 : Nat) / 64) + 1 * ((y 0 : Nat) % 64) = (y 0 : Nat); omega
    | ⟨1, _⟩ =>
      refine Fin.ext ?_
      rw [Rect.emb_apply]
      show 2048 + 512 * (((y 1 : Nat) - 2048) / 512) + 1 * (((y 1 : Nat) - 2048) % 512) = (y 1 : Nat)
      omega
  · refine mk ⟨(y 0 : Nat) / 64, by omega⟩ ⟨((y 1 : Nat) - 4096) / 512, by omega⟩ _
      List.mem_cons_self (ix2 (n0 := 64) (n1 := 512)
        ⟨(y 0 : Nat) % 64, by omega⟩ ⟨((y 1 : Nat) - 4096) % 512, by omega⟩) ?_
    funext k
    match k with
    | ⟨0, _⟩ =>
      refine Fin.ext ?_
      rw [Rect.emb_apply]; show 64 * ((y 0 : Nat) / 64) + 1 * ((y 0 : Nat) % 64) = (y 0 : Nat); omega
    | ⟨1, _⟩ =>
      refine Fin.ext ?_
      rw [Rect.emb_apply]
      show 4096 + 512 * (((y 1 : Nat) - 4096) / 512) + 1 * (((y 1 : Nat) - 4096) % 512) = (y 1 : Nat)
      omega

/-- THE FIRST OUTPUT OF A BLOCK, element by element: the gradient of the projections. -/
theorem allTiles_at (y : S256x6144.Idx) :
    View.canon (allTiles (whole x0 x1 x2 x3 x4 x5 x6 x7 x8 x9) D) y =
      X.proj gn o dy (chunk b (brow' (y 0))) (crow (y 0)) (y 1) := by
  refine View.canon_eq_of_allAt _ y _ (tiles_cover D _ y) fun p hp x hx => ?_
  obtain ⟨c, h, hp⟩ := (mem_allTiles _ D p).1 hp
  exact tiles_at H D hD c h p hp y x hx

omit hD

/-- What a chunk gives of the gradient of the scales. -/
theorem gsRow_at (c h : Fin 4) (e : Fin 512) :
    gsRow (whole x0 x1 x2 x3 x4 x5 x6 x7 x8 x9) c (ix2 0 (col h e)) =
      ∑ t, scaleOf X.p o dy (row (chunk b c) t) h e := by
  rw [← gs_at H c h e]
  pointwise [gsRow, col]
  match h with
  | ⟨0, _⟩ =>
    rw [dif_pos (show 512 * 0 + e.val < 512 by omega)]
    exact congrArg (fun z => gs _ c 0 (ix2 0 z)) (Fin.ext (by simp only; omega))
  | ⟨1, _⟩ =>
    rw [dif_neg (show ¬512 * 1 + e.val < 512 by omega),
      dif_pos (show 512 * 1 + e.val - 512 < 512 by omega)]
    exact congrArg (fun z => gs _ c 1 (ix2 0 z)) (Fin.ext (by simp only; omega))
  | ⟨2, _⟩ =>
    rw [dif_neg (show ¬512 * 2 + e.val < 512 by omega),
      dif_neg (show ¬512 * 2 + e.val - 512 < 512 by omega),
      dif_pos (show 512 * 2 + e.val - 512 - 512 < 512 by omega)]
    exact congrArg (fun z => gs _ c 2 (ix2 0 z)) (Fin.ext (by simp only; omega))
  | ⟨3, _⟩ =>
    rw [dif_neg (show ¬512 * 3 + e.val < 512 by omega),
      dif_neg (show ¬512 * 3 + e.val - 512 < 512 by omega),
      dif_neg (show ¬512 * 3 + e.val - 512 - 512 < 512 by omega)]
    exact congrArg (fun z => gs _ c 3 (ix2 0 z)) (Fin.ext (by simp only; omega))

/-- What a block gives of the gradient of the scales. -/
theorem gsBlock_at (h : Fin 4) (e : Fin 512) :
    gsBlock (whole x0 x1 x2 x3 x4 x5 x6 x7 x8 x9) (ix2 0 (col h e)) =
      ∑ c : Fin 4, ∑ t, scaleOf X.p o dy (row (chunk b c) t) h e := by
  show gsRow _ 3 _ + gsRow _ 2 _ + gsRow _ 1 _ + gsRow _ 0 _ = _
  simp only [gsRow_at H, Fin.sum_univ_four]
  rw [add_comm _ (∑ t, scaleOf X.p o dy (row (chunk b 0) t) h e),
    add_comm _ (∑ t, scaleOf X.p o dy (row (chunk b 1) t) h e),
    add_comm (∑ t, scaleOf X.p o dy (row (chunk b 3) t) h e)]
  simp only [add_assoc]

end

end Cert.Ret
-- ==== Proof.Staged.lean ====
module

public import proofs.«01_k».proof.Proof.Gen.KernelIdeal.Value
public import proofs.«01_k».proof.Proof.Block

@[expose] public section

noncomputable section

namespace Cert.Ret

open Cert.KernelIdeal Cert.KernelIdeal.Gen Idealize.ShloMosaic Idealize.ShloMosaic.TcCoe
  Idealize.SL.Sem

/-! ## The blocks of the arrays that the grid's points read -/

variable (m : (ℓ : Loc nD τ sig) → Buf (Elt Ideal) ℓ) (c : Dev nD)

/-- The block of the arrays that point `t` works on: the last first. -/
def blockOf (t : Fin cfg0.N) : Fin 16 := ⟨15 - t.val, by omega⟩

/-- The projections. -/
def argP : Mat 4096 6144 := fun r l =>
  (m ((c : Thread nD τ).loc main_arg0) : Vec Ideal S4096x6144 .f32) (ix2 r l)
/-- The scales of the norm. -/
def argGn : Fin 2048 → EReal := fun l =>
  (m ((c : Thread nD τ).loc main_arg1) : Vec Ideal S1x2048 .f32) (ix2 0 l)
/-- The retention's saved output. -/
def argO : Mat 4096 2048 := fun r l =>
  (m ((c : Thread nD τ).loc main_arg2) : Vec Ideal S4096x2048 .f32) (ix2 r l)
/-- The gradient that comes in. -/
def argDy : Mat 4096 2048 := fun r l =>
  (m ((c : Thread nD τ).loc main_arg4) : Vec Ideal S4096x2048 .f32) (ix2 r l)

/-- What the kernel computes of: its arguments and the tables its host code makes. -/
def kernelData : Data where
  p := argP m c
  st n h d e := (m ((c : Thread nD τ).loc main_arg3) : Vec Ideal S64x4x256x512 .bf16) (ix4 n h d e)
  go := goOf (argP m c) (argGn m c) (argO m c) (argDy m c)
  cs r l := (V m c main_v53 : Vec Ideal S4096x128 .f32) (ix2 r l)
  sn r l := (V m c main_v54 : Vec Ideal S4096x128 .f32) (ix2 r l)
  m h t s := (V m c main_v20 : Vec Ideal S4x64x64 .f32) (ix3 h t s)
  qd h t s := (V m c main_v38 : Vec Ideal S4x64x256 .f32) (ix3 h t s)
  kd h t s := (V m c main_v40 : Vec Ideal S4x64x256 .f32) (ix3 h t s)
  dec := decay (F := Ideal)

/-- Window 0's index map, decided over the points. -/
theorem index_0 : ∀ t : Fin cfg0.N, win0_0.index t 0 = 15 - t.val ∧ win0_0.index t 1 = 0 :=
  (by decide +kernel : ∀ t : Fin grid0.N, win0_0.index t 0 = 15 - t.val ∧ win0_0.index t 1 = 0)

/-- Window 0's block at a point, read at an index of the array. -/
theorem iblk_0 (t : Fin cfg0.N) (a : Fin 256) (b : Fin 6144) :
    (iblk m c 0 t : Vec Ideal S256x6144 .f32) (ix2 a b) =
      (m ((c : Thread nD τ).loc main_arg0) : Vec Ideal S4096x6144 .f32) (ix2 (brow (blockOf t) a) b) := by
  have hi := index_0 t
  unfold iblk
  rw [View.read_apply]
  rw [← V_main_arg0 m c]
  show (V m c main_arg0 : Vec Ideal S4096x6144 .f32) _ = (V m c main_arg0 : Vec Ideal S4096x6144 .f32) _
  refine congrArg _ ?_
  funext k
  apply Fin.ext
  match k with
  | ⟨0, _⟩ =>
    show win0_0.index t 0 * 256 + 1 * a.val = 256 * (15 - t.val) + a.val
    rw [hi.1]; omega
  | ⟨1, _⟩ =>
    show win0_0.index t 1 * 6144 + 1 * b.val = b.val
    rw [hi.2]; omega

/-- Window 1's index map, decided over the points. -/
theorem index_1 : ∀ t : Fin cfg0.N, win0_1.index t 0 = 15 - t.val ∧ win0_1.index t 1 = 0 :=
  (by decide +kernel : ∀ t : Fin grid0.N, win0_1.index t 0 = 15 - t.val ∧ win0_1.index t 1 = 0)

/-- Window 1's block at a point, read at an index of the array. -/
theorem iblk_1 (t : Fin cfg0.N) (a : Fin 256) (b : Fin 128) :
    (iblk m c 1 t : Vec Ideal S256x128 .f32) (ix2 a b) =
      (V m c main_v53 : Vec Ideal S4096x128 .f32) (ix2 (brow (blockOf t) a) b) := by
  have hi := index_1 t
  unfold iblk
  rw [View.read_apply]
  show (V m c main_v53 : Vec Ideal S4096x128 .f32) _ = (V m c main_v53 : Vec Ideal S4096x128 .f32) _
  refine congrArg _ ?_
  funext k
  apply Fin.ext
  match k with
  | ⟨0, _⟩ =>
    show win0_1.index t 0 * 256 + 1 * a.val = 256 * (15 - t.val) + a.val
    rw [hi.1]; omega
  | ⟨1, _⟩ =>
    show win0_1.index t 1 * 128 + 1 * b.val = b.val
    rw [hi.2]; omega

/-- Window 2's index map, decided over the points. -/
theorem index_2 : ∀ t : Fin cfg0.N, win0_2.index t 0 = 15 - t.val ∧ win0_2.index t 1 = 0 :=
  (by decide +kernel : ∀ t : Fin grid0.N, win0_2.index t 0 = 15 - t.val ∧ win0_2.index t 1 = 0)

/-- Window 2's block at a point, read at an index of the array. -/
theorem iblk_2 (t : Fin cfg0.N) (a : Fin 256) (b : Fin 128) :
    (iblk m c 2 t : Vec Ideal S256x128 .f32) (ix2 a b) =
      (V m c main_v54 : Vec Ideal S4096x128 .f32) (ix2 (brow (blockOf t) a) b) := by
  have hi := index_2 t
  unfold iblk
  rw [View.read_apply]
  show (V m c main_v54 : Vec Ideal S4096x128 .f32) _ = (V m c main_v54 : Vec Ideal S4096x128 .f32) _
  refine congrArg _ ?_
  funext k
  apply Fin.ext
  match k with
  | ⟨0, _⟩ =>
    show win0_2.index t 0 * 256 + 1 * a.val = 256 * (15 - t.val) + a.val
    rw [hi.1]; omega
  | ⟨1, _⟩ =>
    show win0_2.index t 1 * 128 + 1 * b.val = b.val
    rw [hi.2]; omega

/-- Window 3's index map, decided over the points. -/
theorem index_3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

/-- Window 3's block at a point, read at an index of the array. -/
theorem iblk_3 (t : Fin cfg0.N) (a : Fin 4) (b : Fin 64) (d : Fin 64) :
    (iblk m c 3 t : Vec Ideal S4x64x64 .f32) (ix3 a b d) =
      (V m c main_v20 : Vec Ideal S4x64x64 .f32) (ix3 a b d) := by
  have hi := index_3 t
  unfold iblk
  rw [View.read_apply]
  show (V m c main_v20 : Vec Ideal S4x64x64 .f32) _ = (V m c main_v20 : Vec Ideal S4x64x64 .f32) _
  refine congrArg _ ?_
  funext k
  apply Fin.ext
  match k with
  | ⟨0, _⟩ =>
    show win0_3.index t 0 * 4 + 1 * a.val = a.val
    rw [hi.1]; omega
  | ⟨1, _⟩ =>
    show win0_3.index t 1 * 64 + 1 * b.val = b.val
    rw [hi.2.1]; omega
  | ⟨2, _⟩ =>
    show win0_3.index t 2 * 64 + 1 * d.val = d.val
    rw [hi.2.2]; omega

/-- Window 4's index map, decided over the points. -/
theorem index_4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)

/-- Window 4's block at a point, read at an index of the array. -/
theorem iblk_4 (t : Fin cfg0.N) (a : Fin 4) (b : Fin 64) (d : Fin 256) :
    (iblk m c 4 t : Vec Ideal S4x64x256 .f32) (ix3 a b d) =
      (V m c main_v38 : Vec Ideal S4x64x256 .f32) (ix3 a b d) := by
  have hi := index_4 t
  unfold iblk
  rw [View.read_apply]
  show (V m c main_v38 : Vec Ideal S4x64x256 .f32) _ = (V m c main_v38 : Vec Ideal S4x64x256 .f32) _
  refine congrArg _ ?_
  funext k
  apply Fin.ext
  match k with
  | ⟨0, _⟩ =>
    show win0_4.index t 0 * 4 + 1 * a.val = a.val
    rw [hi.1]; omega
  | ⟨1, _⟩ =>
    show win0_4.index t 1 * 64 + 1 * b.val = b.val
    rw [hi.2.1]; omega
  | ⟨2, _⟩ =>
    show win0_4.index t 2 * 256 + 1 * d.val = d.val
    rw [hi.2.2]; omega

/-- Window 5's index map, decided over the points. -/
theorem index_5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)

/-- Window 5's block at a point, read at an index of the array. -/
theorem iblk_5 (t : Fin cfg0.N) (a : Fin 4) (b : Fin 64) (d : Fin 256) :
    (iblk m c 5 t : Vec Ideal S4x64x256 .f32) (ix3 a b d) =
      (V m c main_v40 : Vec Ideal S4x64x256 .f32) (ix3 a b d) := by
  have hi := index_5 t
  unfold iblk
  rw [View.read_apply]
  show (V m c main_v40 : Vec Ideal S4x64x256 .f32) _ = (V m c main_v40 : Vec Ideal S4x64x256 .f32) _
  refine congrArg _ ?_
  funext k
  apply Fin.ext
  match k with
  | ⟨0, _⟩ =>
    show win0_5.index t 0 * 4 + 1 * a.val = a.val
    rw [hi.1]; omega
  | ⟨1, _⟩ =>
    show win0_5.index t 1 * 64 + 1 * b.val = b.val
    rw [hi.2.1]; omega
  | ⟨2, _⟩ =>
    show win0_5.index t 2 * 256 + 1 * d.val = d.val
    rw [hi.2.2]; omega

/-- Window 6's index map, decided over the points. -/
theorem index_6 : ∀ t : Fin cfg0.N, win0_6.index t 0 = 0 ∧ win0_6.index t 1 = 0 :=
  (by decide +kernel : ∀ t : Fin grid0.N, win0_6.index t 0 = 0 ∧ win0_6.index t 1 = 0)

/-- Window 6's block at a point, read at an index of the array. -/
theorem iblk_6 (t : Fin cfg0.N) (a : Fin 1) (b : Fin 2048) :
    (iblk m c 6 t : Vec Ideal S1x2048 .f32) (ix2 a b) =
      (m ((c : Thread nD τ).loc main_arg1) : Vec Ideal S1x2048 .f32) (ix2 a b) := by
  have hi := index_6 t
  unfold iblk
  rw [View.read_apply]
  rw [← V_main_arg1 m c]
  show (V m c main_arg1 : Vec Ideal S1x2048 .f32) _ = (V m c main_arg1 : Vec Ideal S1x2048 .f32) _
  refine congrArg _ ?_
  funext k
  apply Fin.ext
  match k with
  | ⟨0, _⟩ =>
    show win0_6.index t 0 * 1 + 1 * a.val = a.val
    rw [hi.1]; omega
  | ⟨1, _⟩ =>
    show win0_6.index t 1 * 2048 + 1 * b.val = b.val
    rw [hi.2]; omega

/-- Window 7's index map, decided over the points. -/
theorem index_7 : ∀ t : Fin cfg0.N, win0_7.index t 0 = 15 - t.val ∧ win0_7.index t 1 = 0 :=
  (by decide +kernel : ∀ t : Fin grid0.N, win0_7.index t 0 = 15 - t.val ∧ win0_7.index t 1 = 0)

/-- Window 7's block at a point, read at an index of the array. -/
theorem iblk_7 (t : Fin cfg0.N) (a : Fin 256) (b : Fin 2048) :
    (iblk m c 7 t : Vec Ideal S256x2048 .f32) (ix2 a b) =
      (m ((c : Thread nD τ).loc main_arg2) : Vec Ideal S4096x2048 .f32) (ix2 (brow (blockOf t) a) b) := by
  have hi := index_7 t
  unfold iblk
  rw [View.read_apply]
  rw [← V_main_arg2 m c]
  show (V m c main_arg2 : Vec Ideal S4096x2048 .f32) _ = (V m c main_arg2 : Vec Ideal S4096x2048 .f32) _
  refine congrArg _ ?_
  funext k
  apply Fin.ext
  match k with
  | ⟨0, _⟩ =>
    show win0_7.index t 0 * 256 + 1 * a.val = 256 * (15 - t.val) + a.val
    rw [hi.1]; omega
  | ⟨1, _⟩ =>
    show win0_7.index t 1 * 2048 + 1 * b.val = b.val
    rw [hi.2]; omega

/-- Window 8's index map, decided over the points. -/
theorem index_8 : ∀ t : Fin cfg0.N, win0_8.index t 0 = 15 - t.val ∧ win0_8.index t 1 = 0 ∧ win0_8.index t 2 = 0 ∧ win0_8.index t 3 = 0 :=
  (by decide +kernel : ∀ t : Fin grid0.N, win0_8.index t 0 = 15 - t.val ∧ win0_8.index t 1 = 0 ∧ win0_8.index t 2 = 0 ∧ win0_8.index t 3 = 0)

/-- Window 8's block at a point, read at an index of the array. -/
theorem iblk_8 (t : Fin cfg0.N) (a : Fin 4) (b : Fin 4) (d : Fin 256) (e : Fin 512) :
    (iblk m c 8 t : Vec Ideal S4x4x256x512 .bf16) (ix4 a b d e) =
      (m ((c : Thread nD τ).loc main_arg3) : Vec Ideal S64x4x256x512 .bf16) (ix4 (chunk (blockOf t) a) b d e) := by
  have hi := index_8 t
  unfold iblk
  rw [View.read_apply]
  rw [← V_main_arg3 m c]
  show (V m c main_arg3 : Vec Ideal S64x4x256x512 .bf16) _ = (V m c main_arg3 : Vec Ideal S64x4x256x512 .bf16) _
  refine congrArg _ ?_
  funext k
  apply Fin.ext
  match k with
  | ⟨0, _⟩ =>
    show win0_8.index t 0 * 4 + 1 * a.val = 4 * (15 - t.val) + a.val
    rw [hi.1]; omega
  | ⟨1, _⟩ =>
    show win0_8.index t 1 * 4 + 1 * b.val = b.val
    rw [hi.2.1]; omega
  | ⟨2, _⟩ =>
    show win0_8.index t 2 * 256 + 1 * d.val = d.val
    rw [hi.2.2.1]; omega
  | ⟨3, _⟩ =>
    show win0_8.index t 3 * 512 + 1 * e.val = e.val
    rw [hi.2.2.2]; omega

/-- Window 9's index map, decided over the points. -/
theorem index_9 : ∀ t : Fin cfg0.N, win0_9.index t 0 = 15 - t.val ∧ win0_9.index t 1 = 0 :=
  (by decide +kernel : ∀ t : Fin grid0.N, win0_9.index t 0 = 15 - t.val ∧ win0_9.index t 1 = 0)

/-- Window 9's block at a point, read at an index of the array. -/
theorem iblk_9 (t : Fin cfg0.N) (a : Fin 256) (b : Fin 2048) :
    (iblk m c 9 t : Vec Ideal S256x2048 .f32) (ix2 a b) =
      (m ((c : Thread nD τ).loc main_arg4) : Vec Ideal S4096x2048 .f32) (ix2 (brow (blockOf t) a) b) := by
  have hi := index_9 t
  unfold iblk
  rw [View.read_apply]
  rw [← V_main_arg4 m c]
  show (V m c main_arg4 : Vec Ideal S4096x2048 .f32) _ = (V m c main_arg4 : Vec Ideal S4096x2048 .f32) _
  refine congrArg _ ?_
  funext k
  apply Fin.ext
  match k with
  | ⟨0, _⟩ =>
    show win0_9.index t 0 * 256 + 1 * a.val = 256 * (15 - t.val) + a.val
    rw [hi.1]; omega
  | ⟨1, _⟩ =>
    show win0_9.index t 1 * 2048 + 1 * b.val = b.val
    rw [hi.2]; omega

set_option maxHeartbeats 2000000 in
/-- The blocks that a point reads hold its block of the arrays. -/
theorem fits (t : Fin cfg0.N) : Fits (iblk m c 0 t) (iblk m c 1 t) (iblk m c 2 t) (iblk m c 3 t)
    (iblk m c 4 t) (iblk m c 5 t) (iblk m c 6 t) (iblk m c 7 t) (iblk m c 8 t) (iblk m c 9 t)
    (kernelData m c) (argGn m c) (argO m c) (argDy m c) (blockOf t) where
  go := rfl
  p := iblk_0 m c t
  cs := iblk_1 m c t
  sn := iblk_2 m c t
  m := iblk_3 m c t
  qd := iblk_4 m c t
  kd := iblk_5 m c t
  gn := fun l => iblk_6 m c t 0 l
  o := iblk_7 m c t
  st := iblk_8 m c t
  dy := iblk_9 m c t
  dec := fun _ => rfl

end Cert.Ret
-- ==== Proof.KerTables.lean ====
module

public import proofs.«01_k».proof.Proof.Algebra
public import proofs.«01_k».proof.Proof.Staged
public import Idealize.ShloMosaic.Lib.StableHlo.ReadAt

@[expose] public section

set_option maxRecDepth 16384
set_option maxHeartbeats 4000000

noncomputable section

namespace Cert.Ret

open Cert.KernelIdeal Cert.KernelIdeal.Gen Idealize.ShloMosaic Idealize.SL.Sem

section
variable (m : (ℓ : Loc nD τ sig) → Buf (Elt Ideal) ℓ) (c : Dev nD)

/-- The kernel's table of the decay between two rows of a chunk. -/
theorem mask_table (h : Fin 4) (t s : Fin 64) :
    (V m c main_v20 : Vec Ideal S4x64x64 .f32) (ix3 h t s) = maskS h t s := by
  unfold V
  after_reads_at
  rfl

/-- The kernel's table of the decay since the chunk before. -/
theorem qd_table (h : Fin 4) (t : Fin 64) (d : Fin 256) :
    (V m c main_v38 : Vec Ideal S4x64x256 .f32) (ix3 h t d) = qdS h t d := by
  unfold V
  after_reads_at
  rfl

/-- The kernel's table of the decay to the chunk after. -/
theorem kd_table (h : Fin 4) (t : Fin 64) (d : Fin 256) :
    (V m c main_v40 : Vec Ideal S4x64x256 .f32) (ix3 h t d) = kdS h t d := by
  unfold V
  after_reads_at
  rfl

/-- The kernel's table of the cosines of the rotation. -/
theorem cs_table (r : Fin 4096) (d : Fin 128) :
    (V m c main_v53 : Vec Ideal S4096x128 .f32) (ix2 r d) = Ideal.cos (angleS r d) := by
  unfold V
  after_reads_at
  rfl

/-- The kernel's table of the sines of the rotation. -/
theorem sn_table (r : Fin 4096) (d : Fin 128) :
    (V m c main_v54 : Vec Ideal S4096x128 .f32) (ix2 r d) = Ideal.sin (angleS r d) := by
  unfold V
  after_reads_at
  rfl

end

/-- A named constant at the extended reals is its value. -/
theorem named_is {name : String} {b : BitVec 32} {v w : ℝ} (h : κ name = some (v : EReal)) (e : v = w) :
    Named.named (F := Ideal) (φ := .f32) κ name b = (w : EReal) := by
  rw [← e]
  exact IdealRules.named_const.ideal_named_scalar _ _ _ _ h

/-- The kernel's constants of the decay over a chunk are that decay. -/
theorem dec_table (h : Fin 4) : (decay (F := Ideal) h : EReal) = decS h := by
  rw [dec_real]
  match h with
  | ⟨0, _⟩ => exact named_is rfl (by unfold rate; norm_num)
  | ⟨1, _⟩ => exact named_is rfl (by unfold rate; norm_num)
  | ⟨2, _⟩ => exact named_is rfl (by unfold rate; norm_num)
  | ⟨3, _⟩ => exact named_is rfl (by unfold rate; norm_num)

end Cert.Ret
-- ==== Proof.RefStep.lean ====
module

public import proofs.«01_k».proof.Proof.Algebra
public import proofs.«01_k».proof.Proof.Gen.ReferenceIdeal.Run
public import Idealize.ShloMosaic.Lib.DynamicIndex
public import Idealize.ShloMosaic.Lib.Pipeline.Value
public import Idealize.ShloMosaic.Lib.Pointwise

@[expose] public section

noncomputable section

namespace Cert.Ret.Ref

open Cert.ReferenceIdeal Cert.ReferenceIdeal.Gen Cert.ReferenceIdeal.Value Idealize.ShloMosaic

/-! ## Blocks of a stack of arrays -/

section
variable {A B C D : Nat} {α : Type}

/-- One array of a stack, read at a number in range. -/
theorem slice_at (x : (⟨4, ![A, B, C, D]⟩ : Shape).Idx → α)
    (st : Fin 4 → Int) (h : (⟨4, ![A, B, C, D]⟩ : Shape).Slices (fun _ => 0) ⟨4, ![1, B, C, D]⟩)
    (n : Fin A) (h0 : st 0 = n.val) (h1 : st 1 = 0) (h2 : st 2 = 0) (h3 : st 3 = 0)
    (b : Fin B) (c : Fin C) (d : Fin D) :
    Host.dynamicSlice ⟨4, ![1, B, C, D]⟩ x st h (ix4 0 b c d) = x (ix4 n b c d) := by
  have hn := n.isLt
  rw [Host.dynamicSlice_eq_extractStridedSlice ⟨4, ![1, B, C, D]⟩ x st ![n.val, 0, 0, 0] h
    ⟨rfl, fun a => by
      match a with
      | ⟨0, _⟩ => show n.val + 1 ≤ A; omega
      | ⟨1, _⟩ => show 0 + B ≤ B; omega
      | ⟨2, _⟩ => show 0 + C ≤ C; omega
      | ⟨3, _⟩ => show 0 + D ≤ D; omega⟩
    (fun a => by
      match a with
      | ⟨0, _⟩ => exact h0
      | ⟨1, _⟩ => exact h1
      | ⟨2, _⟩ => exact h2
      | ⟨3, _⟩ => exact h3)]
  refine congrArg x (funext fun a => ?_)
  match a with
  | ⟨0, _⟩ => exact Fin.ext (show n.val + 0 = n.val from Nat.add_zero _)
  | ⟨1, _⟩ => exact Fin.ext (show 0 + b.val = b.val from Nat.zero_add _)
  | ⟨2, _⟩ => exact Fin.ext (show 0 + c.val = c.val from Nat.zero_add _)
  | ⟨3, _⟩ => exact Fin.ext (show 0 + d.val = d.val from Nat.zero_add _)

/-- A stack of arrays with one of them replaced, at a number in range. -/
theorem put_at (x : (⟨4, ![A, B, C, D]⟩ : Shape).Idx → α) (u : (⟨4, ![1, B, C, D]⟩ : Shape).Idx → α)
    (st : Fin 4 → Int) (h : (⟨4, ![A, B, C, D]⟩ : Shape).Slices (fun _ => 0) ⟨4, ![1, B, C, D]⟩)
    (n : Fin A) (h0 : st 0 = n.val) (h1 : st 1 = 0) (h2 : st 2 = 0) (h3 : st 3 = 0)
    (a : Fin A) (b : Fin B) (c : Fin C) (d : Fin D) :
    Host.dynamicUpdateSlice x u st h (ix4 a b c d) =
      if a = n then u (ix4 0 b c d) else x (ix4 a b c d) := by
  have hn := n.isLt
  rw [Host.dynamicUpdateSlice_eq_updateSlice x u st h ![n.val, 0, 0, 0]
    (fun a => by
      match a with
      | ⟨0, _⟩ =>
        show (min (max (st 0) 0) ((A - 1 : Nat) : Int)).toNat = n.val
        rw [h0]; omega
      | ⟨1, _⟩ =>
        show (min (max (st 1) 0) ((B - B : Nat) : Int)).toNat = 0
        rw [h1]; omega
      | ⟨2, _⟩ =>
        show (min (max (st 2) 0) ((C - C : Nat) : Int)).toNat = 0
        rw [h2]; omega
      | ⟨3, _⟩ =>
        show (min (max (st 3) 0) ((D - D : Nat) : Int)).toNat = 0
        rw [h3]; omega)
    ⟨rfl, fun a => by
      match a with
      | ⟨0, _⟩ => show n.val + 1 ≤ A; omega
      | ⟨1, _⟩ => show 0 + B ≤ B; omega
      | ⟨2, _⟩ => show 0 + C ≤ C; omega
      | ⟨3, _⟩ => show 0 + D ≤ D; omega⟩]
  unfold updateSlice
  by_cases e : a = n
  · subst e
    rw [if_pos rfl, dif_pos (fun k => by
      match k with
      | ⟨0, _⟩ => exact ⟨Nat.le_refl _, Nat.lt_succ_self _⟩
      | ⟨1, _⟩ => exact ⟨Nat.zero_le _, show b.val < 0 + B by omega⟩
      | ⟨2, _⟩ => exact ⟨Nat.zero_le _, show c.val < 0 + C by omega⟩
      | ⟨3, _⟩ => exact ⟨Nat.zero_le _, show d.val < 0 + D by omega⟩)]
    refine congrArg u (funext fun k => ?_)
    match k with
    | ⟨0, _⟩ => exact Fin.ext (show a.val - a.val = 0 from Nat.sub_self _)
    | ⟨1, _⟩ => rfl
    | ⟨2, _⟩ => rfl
    | ⟨3, _⟩ => rfl
  · rw [if_neg e, dif_neg (fun k => e (Fin.ext (by
      have := k 0
      have h' : n.val ≤ a.val ∧ a.val < n.val + 1 := this
      omega)))]

end

/-- A stack of one array, as that array. -/
theorem one256 (x : Vec Ideal S1x4x64x256 .f32) (h : Fin 4) (t : Fin 64) (d : Fin 256) :
    shapeCast S4x64x256 x shapeCasts_S1x4x64x256_S4x64x256 (ix3 h t d) = x (ix4 0 h t d) := by
  pointwise []
/-- A stack of one array, as that array. -/
theorem one512 (x : Vec Ideal S1x4x64x512 .f32) (h : Fin 4) (t : Fin 64) (d : Fin 512) :
    shapeCast S4x64x512 x shapeCasts_S1x4x64x512_S4x64x512 (ix3 h t d) = x (ix4 0 h t d) := by
  pointwise []
/-- A stack of one array, as that array. -/
theorem oneS (x : Vec Ideal S1x4x256x512 .bf16) (h : Fin 4) (t : Fin 256) (d : Fin 512) :
    (extf (F := Ideal) .f32 (shapeCast S4x256x512 x shapeCasts_S1x4x256x512_S4x256x512) bitsLt_bf16_f32 :
      Vec Ideal S4x256x512 .f32) (ix3 h t d) = (x (ix4 0 h t d) : EReal) := by
  pointwise []

/-! ## One step of the sweep -/

/-- The chunk the sweep treats after `j` steps. -/
def at_ (j : ℕ) : Fin 64 := ⟨63 - j, by omega⟩

section
variable (V0 : Valuation τ sig (Elt Ideal)) (j : ℕ)

/-- The number of the chunk, counted down. -/
theorem number (hj : j < 64) (hc : V0 (Proc.devRef .tc main_v121_5) = fun _ => BitVec.ofNat 32 j)
    (i : S_.Idx) : (res_main_while0b_v269 V0 i).toInt = (at_ j).val := by
  unfold res_main_while0b_v269
  rw [hc]
  show ((64#32 - BitVec.ofNat 32 j) - 1#32).toInt = ((63 - j : ℕ) : Int)
  interval_cases j <;> rfl

variable (hj : j < 64) (hc : V0 (Proc.devRef .tc main_v121_5) = fun _ => BitVec.ofNat 32 j)
include hj hc

/-- The queries of the chunk. -/
theorem q_at (h : Fin 4) (t : Fin 64) (d : Fin 256) :
    (res_main_while0b_v271 V0 : Vec Ideal S4x64x256 .f32) (ix3 h t d) =
      (V0 (Proc.devRef .tc main_v121_1) : Vec Ideal S64x4x64x256 .f32) (ix4 (at_ j) h t d) := by
  unfold res_main_while0b_v271
  refine (one256 _ h t d).trans ?_
  refine slice_at _ _ _ (at_ j) ?_ ?_ ?_ ?_ h t d
  · exact number V0 j hj hc _
  all_goals rfl
/-- The keys of the chunk. -/
theorem k_at (h : Fin 4) (t : Fin 64) (d : Fin 256) :
    (res_main_while0b_v272 V0 : Vec Ideal S4x64x256 .f32) (ix3 h t d) =
      (V0 (Proc.devRef .tc main_v121_2) : Vec Ideal S64x4x64x256 .f32) (ix4 (at_ j) h t d) := by
  unfold res_main_while0b_v272
  refine (one256 _ h t d).trans ?_
  refine slice_at _ _ _ (at_ j) ?_ ?_ ?_ ?_ h t d
  · exact number V0 j hj hc _
  all_goals rfl
/-- The values of the chunk. -/
theorem v_at (h : Fin 4) (t : Fin 64) (d : Fin 512) :
    (res_main_while0b_v273 V0 : Vec Ideal S4x64x512 .f32) (ix3 h t d) =
      (V0 (Proc.devRef .tc main_v121_3) : Vec Ideal S64x4x64x512 .f32) (ix4 (at_ j) h t d) := by
  unfold res_main_while0b_v273
  refine (one512 _ h t d).trans ?_
  refine slice_at _ _ _ (at_ j) ?_ ?_ ?_ ?_ h t d
  · exact number V0 j hj hc _
  all_goals rfl
/-- The gradient of the retention's output, of the chunk. -/
theorem o_at (h : Fin 4) (t : Fin 64) (d : Fin 512) :
    (res_main_while0b_v274 V0 : Vec Ideal S4x64x512 .f32) (ix3 h t d) =
      (V0 (Proc.devRef .tc main_v121_4) : Vec Ideal S64x4x64x512 .f32) (ix4 (at_ j) h t d) := by
  unfold res_main_while0b_v274
  refine (one512 _ h t d).trans ?_
  refine slice_at _ _ _ (at_ j) ?_ ?_ ?_ ?_ h t d
  · exact number V0 j hj hc _
  all_goals rfl
/-- The state before the chunk. -/
theorem s_at (h : Fin 4) (t : Fin 256) (d : Fin 512) :
    (res_main_while0b_v275 V0 : Vec Ideal S4x256x512 .f32) (ix3 h t d) =
      (V0 (Proc.devRef .tc main_v121_0) : Vec Ideal S64x4x256x512 .bf16) (ix4 (at_ j) h t d) := by
  unfold res_main_while0b_v275
  refine (oneS _ h t d).trans ?_
  refine slice_at _ _ _ (at_ j) ?_ ?_ ?_ ?_ h t d
  · exact number V0 j hj hc _
  all_goals rfl

end

/-! ## The tables -/

section
variable (V0 : Valuation τ sig (Elt Ideal))

/-- The decay between two rows of a chunk, read off the reference. -/
theorem m_at (h : Fin 4) (t s : Fin 64) :
    (res_main_while0b_v297 V0 : Vec Ideal S4x64x64 .f32) (ix3 h t s) = maskS h t s := by
  unfold res_main_while0b_v297 res_main_while0b_v284 res_main_while0b_v285
  pointwise [maskS, lgS, numS]
/-- The decay since the chunk before, read off the reference. -/
theorem qd_at (h : Fin 4) (t : Fin 64) (d : Fin 256) :
    (res_main_while0b_v305 V0 : Vec Ideal S4x64x1 .f32) (ix3 h t 0) = qdS h t d := by
  unfold res_main_while0b_v305 res_main_while0b_v284 res_main_while0b_v285
  pointwise [qdS, lgS, numS]
/-- The decay to the chunk after, read off the reference. -/
theorem kd_at (h : Fin 4) (t : Fin 64) (d : Fin 256) :
    (res_main_while0b_v313 V0 : Vec Ideal S4x64x1 .f32) (ix3 h t 0) = kdS h t d := by
  unfold res_main_while0b_v313 res_main_while0b_v284 res_main_while0b_v285
  pointwise [kdS, lgS, numS]
/-- The decay over a chunk, read off the reference. -/
theorem dec_at (h : Fin 4) :
    (res_main_while0b_v317 V0 : Vec Ideal S4x1x1 .f32) (ix3 h 0 0) = decS h := by
  unfold res_main_while0b_v317 res_main_while0b_v284
  pointwise [decS, lgS]

end

/-! ## What one step writes -/

/-- Two sums are equal whose parts are, in the other order. -/
theorem add_of {a b c d : EReal} (h : a = d) (h' : b = c) : a + b = c + d := by
  rw [h, h', add_comm]
/-- Two sums are equal whose parts are. -/
theorem add_eq {a b c d : EReal} (h : a = c) (h' : b = d) : a + b = c + d := by rw [h, h']
/-- Two differences are equal whose parts are. -/
theorem sub_eq {a b c d : EReal} (h : a = c) (h' : b = d) : a - b = c - d := by rw [h, h']
/-- Two products are equal whose factors are. -/
theorem mul_eq {a b c d : EReal} (h : a = c) (h' : b = d) : a * b = c * d := by rw [h, h']
/-- Two sums of products are equal whose factors are, in the other order. -/
theorem sum_of {n : ℕ} {f g f' g' : Fin n → EReal} (h : ∀ t, f t = g' t) (h' : ∀ t, g t = f' t) :
    ∑ t, f t * g t = ∑ t, f' t * g' t :=
  Finset.sum_congr rfl fun t _ => by rw [h, h', mul_comm]

section
variable (V0 : Valuation τ sig (Elt Ideal)) (j : ℕ)

/-- The queries of a chunk, as the sweep holds them. -/
def qE (n : Fin 64) (h : Fin 4) : Mat 64 256 := fun t d =>
  (V0 (Proc.devRef .tc main_v121_1) : Vec Ideal S64x4x64x256 .f32) (ix4 n h t d)
/-- The keys of a chunk, as the sweep holds them. -/
def kE (n : Fin 64) (h : Fin 4) : Mat 64 256 := fun t d =>
  (V0 (Proc.devRef .tc main_v121_2) : Vec Ideal S64x4x64x256 .f32) (ix4 n h t d)
/-- The values of a chunk, as the sweep holds them. -/
def vE (n : Fin 64) (h : Fin 4) : Mat 64 512 := fun t d =>
  (V0 (Proc.devRef .tc main_v121_3) : Vec Ideal S64x4x64x512 .f32) (ix4 n h t d)
/-- The gradient of the retention's output, of a chunk. -/
def oE (n : Fin 64) (h : Fin 4) : Mat 64 512 := fun t d =>
  (V0 (Proc.devRef .tc main_v121_4) : Vec Ideal S64x4x64x512 .f32) (ix4 n h t d)
/-- The state before a chunk. -/
def sE (n : Fin 64) (h : Fin 4) : Mat 256 512 := fun t d =>
  (V0 (Proc.devRef .tc main_v121_0) : Vec Ideal S64x4x256x512 .bf16) (ix4 n h t d)
/-- The gradient of the state, carried by the sweep. -/
def cE (h : Fin 4) : Mat 256 512 := fun d e =>
  (V0 (Proc.devRef .tc main_v121_6) : Vec Ideal S4x256x512 .f32) (ix3 h d e)
/-- The gradient of the queries, filled by the sweep. -/
def dqE (n : Fin 64) (h : Fin 4) : Mat 64 256 := fun t d =>
  (V0 (Proc.devRef .tc main_v121_7) : Vec Ideal S64x4x64x256 .f32) (ix4 n h t d)
/-- The gradient of the keys, filled by the sweep. -/
def dkE (n : Fin 64) (h : Fin 4) : Mat 64 256 := fun t d =>
  (V0 (Proc.devRef .tc main_v121_8) : Vec Ideal S64x4x64x256 .f32) (ix4 n h t d)
/-- The gradient of the values, filled by the sweep. -/
def dvE (n : Fin 64) (h : Fin 4) : Mat 64 512 := fun t d =>
  (V0 (Proc.devRef .tc main_v121_9) : Vec Ideal S64x4x64x512 .f32) (ix4 n h t d)

/-- The products of a chunk's rows, summed and transposed. -/
theorem outer_at (o : Vec Ideal S4x64x512 .f32) (q : Vec Ideal S4x64x256 .f32)
    (w : Vec Ideal S4x64x1 .f32) (h : Fin 4) (d : Fin 256) (e : Fin 512) :
    transpose S4x256x512 [0, 2, 1]
      (Host.dotGeneral (F := Ideal) (φ₁ := .f32) (φ₂ := .f32) dot_S4x64x512_S4x64x256_S4x512x256_1_1_2_2_0_0 none o
        (mulf (F := Ideal) (φ := .f32) q (broadcastInDim S4x64x256 ![0, 1, 2] bcast_S4x64x1_S4x64x256_0_1_2 w)))
      transposes_S4x512x256_S4x256x512_0_2_1 (ix3 h d e) =
    ∑ t : Fin 64, o (ix3 h t e) * (q (ix3 h t d) * w (ix3 h t 0)) := by
  pointwise []

variable (hj : j < 64) (hc : V0 (Proc.devRef .tc main_v121_5) = fun _ => BitVec.ofNat 32 j)
include hj hc

/-- The carried gradient after one step. -/
theorem carry_step (h : Fin 4) (d : Fin 256) (e : Fin 512) :
    (step_main_v121_6 V0 : Vec Ideal S4x256x512 .f32) (ix3 h d e) =
      gradS (decS h) (qdS h) (qE V0 (at_ j) h) (oE V0 (at_ j) h) (cE V0 h) d e := by
  unfold step_main_v121_6 res_main_while0b_v322
  refine add_eq (mul_eq rfl ?_) ((outer_at _ _ _ h d e).trans
    (sum_of (fun t => ?_) fun t => mul_eq ?_ ?_))
  · refine Eq.trans ?_ (dec_at V0 h)
    pointwise []
  · exact o_at V0 j hj hc h t e
  · exact q_at V0 j hj hc h t d
  · exact qd_at V0 h t d

/-- The queries' gradients after one step. -/
theorem dq_step (n : Fin 64) (h : Fin 4) (t : Fin 64) (d : Fin 256) :
    (step_main_v121_7 V0 : Vec Ideal S64x4x64x256 .f32) (ix4 n h t d) =
      if n = at_ j then
        gradQ (maskS h) (qdS h) (kE V0 n h) (vE V0 n h) (oE V0 n h) (sE V0 n h) t d
      else dqE V0 n h t d := by
  unfold step_main_v121_7
  refine (put_at _ _ _ _ (at_ j) (number V0 j hj hc _) ?_ ?_ ?_ n h t d).trans ?_
  · rfl
  · rfl
  · rfl
  split_ifs with e
  · subst e
    unfold res_main_while0b_v349
    pointwise []
    simp only [k_at V0 j hj hc, v_at V0 j hj hc, o_at V0 j hj hc, s_at V0 j hj hc, m_at V0,
      qd_at V0 h _ d]
    exact add_of rfl rfl
  · rfl

/-- The keys' gradients after one step. -/
theorem dk_step (n : Fin 64) (h : Fin 4) (t : Fin 64) (d : Fin 256) :
    (step_main_v121_8 V0 : Vec Ideal S64x4x64x256 .f32) (ix4 n h t d) =
      if n = at_ j then
        gradK (maskS h) (kdS h) (qE V0 n h) (vE V0 n h) (oE V0 n h) (cE V0 h) t d
      else dkE V0 n h t d := by
  unfold step_main_v121_8
  refine (put_at _ _ _ _ (at_ j) (number V0 j hj hc _) ?_ ?_ ?_ n h t d).trans ?_
  · rfl
  · rfl
  · rfl
  split_ifs with e
  · subst e
    unfold res_main_while0b_v349
    pointwise []
    simp only [q_at V0 j hj hc, v_at V0 j hj hc, o_at V0 j hj hc, m_at V0, kd_at V0 h _ d]
    exact add_of (mul_eq (sum_of (fun t => rfl) fun t => rfl) rfl) rfl
  · rfl

/-- The values' gradients after one step. -/
theorem dv_step (n : Fin 64) (h : Fin 4) (t : Fin 64) (e : Fin 512) :
    (step_main_v121_9 V0 : Vec Ideal S64x4x64x512 .f32) (ix4 n h t e) =
      if n = at_ j then
        gradV (maskS h) (kdS h) (qE V0 n h) (kE V0 n h) (oE V0 n h) (cE V0 h) t e
      else dvE V0 n h t e := by
  unfold step_main_v121_9
  refine (put_at _ _ _ _ (at_ j) (number V0 j hj hc _) ?_ ?_ ?_ n h t e).trans ?_
  · rfl
  · rfl
  · rfl
  split_ifs with h'
  · subst h'
    unfold res_main_while0b_v319 res_main_while0b_v328
    pointwise []
    simp only [q_at V0 j hj hc, k_at V0 j hj hc, o_at V0 j hj hc, m_at V0, kd_at V0 h _ (0 : Fin 256)]
    exact add_of (sum_of (fun t => rfl) fun t => rfl) (sum_of (fun t => rfl) fun t => rfl)
  · rfl

end

end Cert.Ret.Ref
-- ==== Proof.RefSweep.lean ====
module

public import proofs.«01_k».proof.Proof.RefStep

@[expose] public section

noncomputable section

namespace Cert.Ret.Ref

open Cert.ReferenceIdeal Cert.ReferenceIdeal.Gen Cert.ReferenceIdeal.Value Idealize.ShloMosaic

/-! ## The whole sweep of the reference -/

section
variable (V : Valuation τ sig (Elt Ideal)) (X : Data)

/-- The contents of the reference's buffers after `j` chunks: what does not change holds the data,
    the carried gradient is that of the state before those chunks, and the chunks treated are filled. -/
structure Swept (j : ℕ) : Prop where
  counter : V (Proc.devRef .tc main_v121_5) = fun _ => BitVec.ofNat 32 j
  q : qE V = X.q
  k : kE V = X.k
  v : vE V = X.v
  o : oE V = X.go
  s : sE V = X.st
  carry : cE V = X.carried j
  dq : ∀ n : Fin 64, 64 ≤ n.val + j → dqE V n = X.dq n
  dk : ∀ n : Fin 64, 64 ≤ n.val + j → dkE V n = X.dk n
  dv : ∀ n : Fin 64, 64 ≤ n.val + j → dvE V n = X.dv n

variable {V X}

/-- One step of the sweep. -/
theorem Swept.step (hm : X.m = maskS) (hq : X.qd = qdS) (hk : X.kd = kdS) (hd : X.dec = decS)
    {j : ℕ} (hj : j < 64) (w : Swept V X j) : Swept (STEP V) X (j + 1) := by
  have hc := w.counter
  have hn : ∀ n : Fin 64, 64 ≤ n.val + (j + 1) → n ≠ at_ j → 64 ≤ n.val + j := fun n h h' => by
    have : n.val ≠ 63 - j := fun e => h' (Fin.ext e)
    omega
  have hat : 63 - (at_ j).val = j := by show 63 - (63 - j) = j; omega
  constructor
  · rw [STEP_main_v121_5]
    unfold step_main_v121_5
    rw [hc]
    funext i
    show BitVec.ofNat 32 j + 1#32 = BitVec.ofNat 32 (j + 1)
    rw [BitVec.ofNat_add]
  · exact (funext₃ fun n h t => funext fun d => by unfold qE; rw [STEP_main_v121_1]).trans w.q
  · exact (funext₃ fun n h t => funext fun d => by unfold kE; rw [STEP_main_v121_2]).trans w.k
  · exact (funext₃ fun n h t => funext fun d => by unfold vE; rw [STEP_main_v121_3]).trans w.v
  · exact (funext₃ fun n h t => funext fun d => by unfold oE; rw [STEP_main_v121_4]).trans w.o
  · exact (funext₃ fun n h t => funext fun d => by unfold sE; rw [STEP_main_v121_0]).trans w.s
  · funext h d e
    unfold cE
    rw [STEP_main_v121_6]
    refine (carry_step V j hj hc h d e).trans ?_
    rw [w.q, w.o, w.carry, ← hd, ← hq]
    rfl
  · intro n hb
    funext h t d
    unfold dqE
    rw [STEP_main_v121_7]
    refine (dq_step V j hj hc n h t d).trans ?_
    split_ifs with e
    · rw [w.k, w.v, w.o, w.s, ← hm, ← hq]
      rfl
    · exact congrFun (congrFun (congrFun (w.dq n (hn n hb e)) h) t) d
  · intro n hb
    funext h t d
    unfold dkE
    rw [STEP_main_v121_8]
    refine (dk_step V j hj hc n h t d).trans ?_
    split_ifs with e
    · rw [w.q, w.v, w.o, w.carry, ← hm, ← hk]
      subst e
      unfold Data.dk
      rw [hat]
    · exact congrFun (congrFun (congrFun (w.dk n (hn n hb e)) h) t) d
  · intro n hb
    funext h t d
    unfold dvE
    rw [STEP_main_v121_9]
    refine (dv_step V j hj hc n h t d).trans ?_
    split_ifs with e
    · rw [w.q, w.k, w.o, w.carry, ← hm, ← hk]
      subst e
      unfold Data.dv
      rw [hat]
    · exact congrFun (congrFun (congrFun (w.dv n (hn n hb e)) h) t) d

/-- All steps of the sweep. -/
theorem Swept.all (hm : X.m = maskS) (hq : X.qd = qdS) (hk : X.kd = kdS) (hd : X.dec = decS)
    (w : Swept V X 0) : ∀ j, j ≤ 64 → Swept (STEP^[j] V) X j
  | 0, _ => w
  | j + 1, h => by
    rw [Function.iterate_succ_apply']
    exact Swept.step hm hq hk hd (by omega) (Swept.all hm hq hk hd w j (by omega))

end

end Cert.Ret.Ref
-- ==== Proof.RefEntry.lean ====
module

public import proofs.«01_k».proof.Proof.RefSweep
public import Idealize.ShloMosaic.Lib.StableHlo.ReadAt

@[expose] public section

set_option maxRecDepth 16384
set_option maxHeartbeats 4000000

noncomputable section

namespace Cert.Ret.Ref

open Cert.ReferenceIdeal Cert.ReferenceIdeal.Gen Cert.ReferenceIdeal.Value Idealize.ShloMosaic
open Idealize.ShloMosaic.StableHlo

section
variable (m : (ℓ : Loc nD τ sig) → Buf (Elt Ideal) ℓ) (c : Dev nD)

/-- The projections, as the reference is given them. -/
def pR : Mat 4096 6144 := fun r l =>
  (launchContents m c (Proc.devRef .tc main_arg0) : Vec Ideal S4096x6144 .f32) (ix2 r l)
/-- The scales of the norm, as the reference is given them. -/
def gnR (l : Fin 2048) : EReal :=
  (launchContents m c (Proc.devRef .tc main_arg1) : Vec Ideal S1x2048 .f32) (ix2 0 l)
/-- The retention's output, as the reference is given it. -/
def oR : Mat 4096 2048 := fun r l =>
  (launchContents m c (Proc.devRef .tc main_arg2) : Vec Ideal S4096x2048 .f32) (ix2 r l)
/-- The gradient of the gated output, as the reference is given it. -/
def dyR : Mat 4096 2048 := fun r l =>
  (launchContents m c (Proc.devRef .tc main_arg4) : Vec Ideal S4096x2048 .f32) (ix2 r l)

/-- A head's row of the gate. -/
def gRow (r : Fin 4096) (h : Fin 4) : Fin 512 → EReal := fun j => pR m c r (gcol h j)
/-- A head's row of the retention's output. -/
def oRow (r : Fin 4096) (h : Fin 4) : Fin 512 → EReal := fun j => oR m c r (col h j)
/-- A head's row of the gradient of the gated output. -/
def dyRow (r : Fin 4096) (h : Fin 4) : Fin 512 → EReal := fun j => dyR m c r (col h j)
/-- A head's scales. -/
def gnRow (h : Fin 4) : Fin 512 → EReal := fun j => gnR m c (col h j)

/-- What the reference computes of: its arguments and the tables it makes. -/
def refData : Data where
  p := pR m c
  st n h d e :=
    (launchContents m c (Proc.devRef .tc main_arg3) : Vec Ideal S64x4x256x512 .bf16) (ix4 n h d e)
  go n h t e := doutR (gRow m c (row n t) h) (oRow m c (row n t) h) (dyRow m c (row n t) h)
    (gnRow m c h) e
  cs r d := Ideal.cos (angleS r d)
  sn r d := Ideal.sin (angleS r d)
  m := maskS
  qd := qdS
  kd := kdS
  dec := decS

/-- The projections at an equal place. -/
theorem p_at {r r' : Fin 4096} {l l' : Fin 6144} (hr : r.val = r'.val) (hl : l.val = l'.val) :
    (launchContents m c (Proc.devRef .tc main_arg0) : Vec Ideal S4096x6144 .f32) (ix2 r l) =
      pR m c r' l' := by
  obtain rfl := Fin.ext hr
  obtain rfl := Fin.ext hl
  rfl

/-- The carried gradient starts at zero. -/
theorem carry_entry (h : Fin 4) (d : Fin 256) (e : Fin 512) :
    (entryContents preI m c (Proc.devRef .tc main_v121_6) : Vec Ideal S4x256x512 .f32) (ix3 h d e) =
      (0 : EReal) := by
  simp only [entryContents, afterL_cons, afterL_nil]
  after_reads_simp
  simp only [id_eq]
  pointwise []

/-- The saved states are unchanged. -/
theorem s_entry : sE (entryContents preI m c) = (refData m c).st := by
  funext n h t e
  unfold sE
  simp only [entryContents, afterL_cons, afterL_nil]
  after_reads_simp
  rfl

/-- The values of a chunk, of the projections. -/
theorem v_entry (n : Fin 64) (h : Fin 4) (t : Fin 64) (e : Fin 512) :
    (entryContents preI m c (Proc.devRef .tc main_v121_3) : Vec Ideal S64x4x64x512 .f32)
      (ix4 n h t e) = (refData m c).v n h t e := by
  simp only [entryContents, afterL_cons, afterL_nil]
  after_reads_simp
  simp only [id_eq]
  clean_types
  pointwise []
  exact p_at m c (by show n.val * 64 + t.val = 64 * n.val + t.val; omega)
    (by show 2048 + (h.val * 512 + e.val) = 2048 + 512 * h.val + e.val; omega)

/-- The first half of the rotated queries. -/
theorem q_lo (r : Fin 4096) (h : Fin 4) (d : Fin 128) :
    (upto hostOps0 (launchContents m c) 36 (Proc.devRef .tc main_v28) : Vec Ideal S4096x4x128 .f32)
      (ix3 r h d) =
      pR m c r ⟨256 * h.val + d.val, by omega⟩ * Ideal.cos (angleS r d) -
        pR m c r ⟨256 * h.val + (128 + d.val), by omega⟩ * Ideal.sin (angleS r d) := by
  after_reads_simp
  clean_types
  pointwise []
  refine sub_eq (mul_eq (p_at m c rfl ?_) rfl) (mul_eq (p_at m c rfl ?_) rfl)
  · show h.val * 256 + d.val = 256 * h.val + d.val
    omega
  · show h.val * 256 + (128 + d.val) = 256 * h.val + (128 + d.val)
    omega
/-- The second half of the rotated queries. -/
theorem q_hi (r : Fin 4096) (h : Fin 4) (d : Fin 128) :
    (upto hostOps0 (launchContents m c) 36 (Proc.devRef .tc main_v33) : Vec Ideal S4096x4x128 .f32)
      (ix3 r h d) =
      pR m c r ⟨256 * h.val + d.val, by omega⟩ * Ideal.sin (angleS r d) +
        pR m c r ⟨256 * h.val + (128 + d.val), by omega⟩ * Ideal.cos (angleS r d) := by
  after_reads_simp
  clean_types
  pointwise []
  refine add_eq (mul_eq (p_at m c rfl ?_) rfl) (mul_eq (p_at m c rfl ?_) rfl)
  · show h.val * 256 + d.val = 256 * h.val + d.val
    omega
  · show h.val * 256 + (128 + d.val) = 256 * h.val + (128 + d.val)
    omega

/-- The rotated queries of a chunk, of the projections. -/
theorem q_entry (n : Fin 64) (h : Fin 4) (t : Fin 64) (e : Fin 256) :
    (entryContents preI m c (Proc.devRef .tc main_v121_1) : Vec Ideal S64x4x64x256 .f32)
      (ix4 n h t e) = (refData m c).q n h t e := by
  have hr : ∀ b : n.val * 64 + t.val < 4096, (⟨n.val * 64 + t.val, b⟩ : Fin 4096) = row n t :=
    fun b => Fin.ext (by show n.val * 64 + t.val = 64 * n.val + t.val; omega)
  simp only [entryContents, afterL_cons, afterL_nil]
  after_reads_simp
  simp only [id_eq]
  clean_types
  pointwise []
  unfold Data.q
  unfold rotS
  by_cases he : e.val < 128
  · rw [dif_pos he, dif_pos he]
    refine (congrArg (fun r => (upto hostOps0 (launchContents m c) 36 (Proc.devRef .tc main_v28) :
      Vec Ideal S4096x4x128 .f32) (ix3 r h ⟨e.val, he⟩)) (hr _)).trans ?_
    exact q_lo m c (row n t) h ⟨e.val, he⟩
  · rw [dif_neg he, dif_neg he]
    refine (congrArg (fun r => (upto hostOps0 (launchContents m c) 36 (Proc.devRef .tc main_v33) :
      Vec Ideal S4096x4x128 .f32) (ix3 r h ⟨e.val - 128, by omega⟩)) (hr _)).trans ?_
    refine (q_hi m c (row n t) h ⟨e.val - 128, by omega⟩).trans ?_
    refine add_eq rfl (mul_eq (congrArg _ (Fin.ext ?_)) rfl)
    show 256 * h.val + (128 + (e.val - 128)) = 256 * h.val + e.val
    omega

/-- The first half of the rotated keys. -/
theorem k_lo (r : Fin 4096) (h : Fin 4) (d : Fin 128) :
    (upto hostOps0 (launchContents m c) 68 (Proc.devRef .tc main_v58) : Vec Ideal S4096x4x128 .f32)
      (ix3 r h d) =
      pR m c r ⟨1024 + 256 * h.val + d.val, by omega⟩ * Ideal.cos (angleS r d) -
        pR m c r ⟨1024 + 256 * h.val + (128 + d.val), by omega⟩ * Ideal.sin (angleS r d) := by
  after_reads_simp
  clean_types
  pointwise []
  refine sub_eq (mul_eq (p_at m c rfl ?_) rfl) (mul_eq (p_at m c rfl ?_) rfl)
  · show 1024 + (h.val * 256 + d.val) = 1024 + 256 * h.val + d.val
    omega
  · show 1024 + (h.val * 256 + (128 + d.val)) = 1024 + 256 * h.val + (128 + d.val)
    omega
/-- The second half of the rotated keys. -/
theorem k_hi (r : Fin 4096) (h : Fin 4) (d : Fin 128) :
    (upto hostOps0 (launchContents m c) 68 (Proc.devRef .tc main_v63) : Vec Ideal S4096x4x128 .f32)
      (ix3 r h d) =
      pR m c r ⟨1024 + 256 * h.val + d.val, by omega⟩ * Ideal.sin (angleS r d) +
        pR m c r ⟨1024 + 256 * h.val + (128 + d.val), by omega⟩ * Ideal.cos (angleS r d) := by
  after_reads_simp
  clean_types
  pointwise []
  refine add_eq (mul_eq (p_at m c rfl ?_) rfl) (mul_eq (p_at m c rfl ?_) rfl)
  · show 1024 + (h.val * 256 + d.val) = 1024 + 256 * h.val + d.val
    omega
  · show 1024 + (h.val * 256 + (128 + d.val)) = 1024 + 256 * h.val + (128 + d.val)
    omega

/-- The rotated keys of a chunk, of the projections. -/
theorem k_entry (n : Fin 64) (h : Fin 4) (t : Fin 64) (e : Fin 256) :
    (entryContents preI m c (Proc.devRef .tc main_v121_2) : Vec Ideal S64x4x64x256 .f32)
      (ix4 n h t e) = (refData m c).k n h t e := by
  have hr : ∀ b : n.val * 64 + t.val < 4096, (⟨n.val * 64 + t.val, b⟩ : Fin 4096) = row n t :=
    fun b => Fin.ext (by show n.val * 64 + t.val = 64 * n.val + t.val; omega)
  simp only [entryContents, afterL_cons, afterL_nil]
  after_reads_simp
  simp only [id_eq]
  clean_types
  pointwise []
  refine mul_eq ?_ rfl
  unfold rotS
  by_cases he : e.val < 128
  · rw [dif_pos he, dif_pos he]
    refine (congrArg (fun r => (upto hostOps0 (launchContents m c) 68 (Proc.devRef .tc main_v58) :
      Vec Ideal S4096x4x128 .f32) (ix3 r h ⟨e.val, he⟩)) (hr _)).trans ?_
    exact k_lo m c (row n t) h ⟨e.val, he⟩
  · rw [dif_neg he, dif_neg he]
    refine (congrArg (fun r => (upto hostOps0 (launchContents m c) 68 (Proc.devRef .tc main_v63) :
      Vec Ideal S4096x4x128 .f32) (ix3 r h ⟨e.val - 128, by omega⟩)) (hr _)).trans ?_
    refine (k_hi m c (row n t) h ⟨e.val - 128, by omega⟩).trans ?_
    refine add_eq rfl (mul_eq (congrArg _ (Fin.ext ?_)) rfl)
    show 1024 + 256 * h.val + (128 + (e.val - 128)) = 1024 + 256 * h.val + e.val
    omega

/-- The gradient of the retention's output of a chunk, of the arguments. -/
theorem o_entry (n : Fin 64) (h : Fin 4) (t : Fin 64) (e : Fin 512) :
    (entryContents preI m c (Proc.devRef .tc main_v121_4) : Vec Ideal S64x4x64x512 .f32)
      (ix4 n h t e) = (refData m c).go n h t e := by
  have hc : (h.val * 512 + e.val) / 512 * 512 = 512 * h.val := by omega
  have hm : (h.val * 512 + e.val) % 512 = e.val := by omega
  have hr : n.val * 64 + t.val = 64 * n.val + t.val := by omega
  simp only [entryContents, afterL_cons, afterL_nil]
  after_reads_simp
  simp -implicitDefEqProofs only [id_eq, StableHlo.TRef.toBuf, StableHlo.TRef.ofBuf, cast_cast, cast_eq]
  clean_types
  pointwise []
  simp only [hc, hm, hr, sigS_neg, Finset.univ_unique, Finset.sum_singleton, ← Nat.add_assoc]
  rfl

/-- What the sweep starts from. -/
theorem swept_entry : Swept (entryContents preI m c) (refData m c) 0 where
  counter := ctr_entry m c
  q := funext₃ fun n h t => funext fun e => q_entry m c n h t e
  k := funext₃ fun n h t => funext fun e => k_entry m c n h t e
  v := funext₃ fun n h t => funext fun e => v_entry m c n h t e
  o := funext₃ fun n h t => funext fun e => o_entry m c n h t e
  s := s_entry m c
  carry := funext₃ fun h d e => carry_entry m c h d e
  dq n hn := absurd hn (by omega)
  dk n hn := absurd hn (by omega)
  dv n hn := absurd hn (by omega)

/-- What the sweep ends with. -/
theorem swept_exit : Swept (STEP^[64] (entryContents preI m c)) (refData m c) 64 :=
  Swept.all rfl rfl rfl rfl (swept_entry m c) 64 (Nat.le_refl _)

end

end Cert.Ret.Ref
-- ==== Proof.RefOut.lean ====
module

public import proofs.«01_k».proof.Proof.RefEntry
public import proofs.«01_k».proof.Proof.Block

@[expose] public section

set_option maxRecDepth 16384
set_option maxHeartbeats 4000000

noncomputable section

namespace Cert.Ret.Ref

open Cert.ReferenceIdeal Cert.ReferenceIdeal.Gen Cert.ReferenceIdeal.Value Idealize.ShloMosaic

/-! ## The results of the reference, of what the sweep leaves -/

variable (p : FVec Ideal S4096x6144 .f32) (gn : FVec Ideal S1x2048 .f32)
  (o dy : FVec Ideal S4096x2048 .f32)

/-- The gradients of the queries, by row of the sequence. -/
def rowsQ (x : FVec Ideal S64x4x64x256 .f32) : FVec Ideal S4096x4x256 .f32 :=
    shapeCast S4096x4x256 (transpose S64x64x4x256 [0, 2, 1, 3] x
    transposes_S64x4x64x256_S64x64x4x256_0_2_1_3) shapeCasts_S64x64x4x256_S4096x4x256
/-- The gradients of the keys before their scaling, by row of the sequence. -/
def rowsK (x : FVec Ideal S64x4x64x256 .f32) : FVec Ideal S4096x4x256 .f32 :=
    mulf (shapeCast S4096x4x256 (transpose S64x64x4x256 [0, 2, 1, 3] x
    transposes_S64x4x64x256_S64x64x4x256_0_2_1_3) shapeCasts_S64x64x4x256_S4096x4x256)
    (broadcastInDim S4096x4x256 ![] bcast_S_S4096x4x256 (constant S_ .f32 0x3D800000#32))
/-- The gradients of the values, by row of the sequence. -/
def rowsV (x : FVec Ideal S64x4x64x512 .f32) : FVec Ideal S4096x2048 .f32 :=
    shapeCast S4096x2048 (shapeCast S4096x4x512 (transpose S64x64x4x512 [0, 2, 1, 3] x
    transposes_S64x4x64x512_S64x64x4x512_0_2_1_3) shapeCasts_S64x64x4x512_S4096x4x512)
    shapeCasts_S4096x4x512_S4096x2048
/-- The transposed rotation of every row. -/
def back (d : FVec Ideal S4096x4x256 .f32) : FVec Ideal S4096x1024 .f32 :=
    shapeCast S4096x1024 (addf (pad S4096x4x256 ![0, 0, 128] ![0, 0, 0] ![0, 0, 0] (addf (mulf
    (extractStridedSlice S4096x4x128 ![0, 0, 128] d slices_S4096x4x256_S4096x4x128_0_0_128)
    (broadcastInDim S4096x4x128 ![0, 1, 2] bcast_S4096x1x128_S4096x4x128_0_1_2 (broadcastInDim
    S4096x1x128 ![0, 2] bcast_S4096x128_S4096x1x128_0_2 (Host.cos (mulf (broadcastInDim S4096x128
    ![0, 1] bcast_S4096x1_S4096x128_0_1 (broadcastInDim S4096x1 ![0] bcast_S4096_S4096x1_0
    (sitofp .f32 (iotaInDim S4096 32 0)))) (broadcastInDim S4096x128 ![0, 1]
    bcast_S1x128_S4096x128_0_1 (broadcastInDim S1x128 ![1] bcast_S128_S1x128_1 (Host.powf
    (broadcastInDim S128 ![] bcast_S_S128 (constant S_ .f32 0x461C4000#32)) (Host.divf (Host.negf
    (sitofp .f32 (iotaInDim S128 32 0))) (broadcastInDim S128 ![] bcast_S_S128 (constant S_ .f32
    0x43000000#32))))))))))) (mulf (Host.negf (extractStridedSlice S4096x4x128 ![0, 0, 0] d
    slices_S4096x4x256_S4096x4x128_0_0_0)) (broadcastInDim S4096x4x128 ![0, 1, 2]
    bcast_S4096x1x128_S4096x4x128_0_1_2 (broadcastInDim S4096x1x128 ![0, 2]
    bcast_S4096x128_S4096x1x128_0_2 (Host.sin (mulf (broadcastInDim S4096x128 ![0, 1]
    bcast_S4096x1_S4096x128_0_1 (broadcastInDim S4096x1 ![0] bcast_S4096_S4096x1_0 (sitofp .f32
    (iotaInDim S4096 32 0)))) (broadcastInDim S4096x128 ![0, 1] bcast_S1x128_S4096x128_0_1
    (broadcastInDim S1x128 ![1] bcast_S128_S1x128_1 (Host.powf (broadcastInDim S128 ![]
    bcast_S_S128 (constant S_ .f32 0x461C4000#32)) (Host.divf (Host.negf (sitofp .f32 (iotaInDim
    S128 32 0))) (broadcastInDim S128 ![] bcast_S_S128 (constant S_ .f32
    0x43000000#32)))))))))))) (constant S_ .f32 0x00000000#32)
    pads_S4096x4x128_S4096x4x256_000_000_12800 h_S_) (pad S4096x4x256 ![0, 0, 0] ![0, 0, 128]
    ![0, 0, 0] (addf (mulf (extractStridedSlice S4096x4x128 ![0, 0, 128] d
    slices_S4096x4x256_S4096x4x128_0_0_128) (broadcastInDim S4096x4x128 ![0, 1, 2]
    bcast_S4096x1x128_S4096x4x128_0_1_2 (broadcastInDim S4096x1x128 ![0, 2]
    bcast_S4096x128_S4096x1x128_0_2 (Host.sin (mulf (broadcastInDim S4096x128 ![0, 1]
    bcast_S4096x1_S4096x128_0_1 (broadcastInDim S4096x1 ![0] bcast_S4096_S4096x1_0 (sitofp .f32
    (iotaInDim S4096 32 0)))) (broadcastInDim S4096x128 ![0, 1] bcast_S1x128_S4096x128_0_1
    (broadcastInDim S1x128 ![1] bcast_S128_S1x128_1 (Host.powf (broadcastInDim S128 ![]
    bcast_S_S128 (constant S_ .f32 0x461C4000#32)) (Host.divf (Host.negf (sitofp .f32 (iotaInDim
    S128 32 0))) (broadcastInDim S128 ![] bcast_S_S128 (constant S_ .f32 0x43000000#32)))))))))))
    (mulf (extractStridedSlice S4096x4x128 ![0, 0, 0] d slices_S4096x4x256_S4096x4x128_0_0_0)
    (broadcastInDim S4096x4x128 ![0, 1, 2] bcast_S4096x1x128_S4096x4x128_0_1_2 (broadcastInDim
    S4096x1x128 ![0, 2] bcast_S4096x128_S4096x1x128_0_2 (Host.cos (mulf (broadcastInDim S4096x128
    ![0, 1] bcast_S4096x1_S4096x128_0_1 (broadcastInDim S4096x1 ![0] bcast_S4096_S4096x1_0
    (sitofp .f32 (iotaInDim S4096 32 0)))) (broadcastInDim S4096x128 ![0, 1]
    bcast_S1x128_S4096x128_0_1 (broadcastInDim S1x128 ![1] bcast_S128_S1x128_1 (Host.powf
    (broadcastInDim S128 ![] bcast_S_S128 (constant S_ .f32 0x461C4000#32)) (Host.divf (Host.negf
    (sitofp .f32 (iotaInDim S128 32 0))) (broadcastInDim S128 ![] bcast_S_S128 (constant S_ .f32
    0x43000000#32)))))))))))) (constant S_ .f32 0x00000000#32)
    pads_S4096x4x128_S4096x4x256_000_000_01280 h_S_)) shapeCasts_S4096x4x256_S4096x1024
/-- The gradient of the gate. -/
def gates : FVec Ideal S4096x2048 .f32 :=
    addf (mulf (mulf dy (shapeCast S4096x2048 (mulf (mulf (shapeCast S4096x4x512 o
    shapeCasts_S4096x2048_S4096x4x512) (broadcastInDim S4096x4x512 ![0, 1, 2]
    bcast_S4096x4x1_S4096x4x512_0_1_2 (Host.rsqrt (addf (Host.divf (broadcastInDim S4096x4x1 ![0,
    1] bcast_S4096x4_S4096x4x1_0_1 (Host.reduceAdd (mulf (shapeCast S4096x4x512 o
    shapeCasts_S4096x2048_S4096x4x512) (shapeCast S4096x4x512 o
    shapeCasts_S4096x2048_S4096x4x512)) (constant S_ .f32 0x00000000#32)
    reducesTo_S4096x4x512_S4096x4_d2 h_S_)) (broadcastInDim S4096x4x1 ![] bcast_S_S4096x4x1
    (constant S_ .f32 0x44000000#32))) (broadcastInDim S4096x4x1 ![] bcast_S_S4096x4x1 (constant
    S_ .f32 0x358637BD#32)))))) (broadcastInDim S4096x4x512 ![0, 1, 2]
    bcast_S1x4x512_S4096x4x512_0_1_2 (broadcastInDim S1x4x512 ![1, 2] bcast_S4x512_S1x4x512_1_2
    (shapeCast S4x512 gn shapeCasts_S1x2048_S4x512)))) shapeCasts_S4096x4x512_S4096x2048))
    (Host.divf (broadcastInDim S4096x2048 ![] bcast_S_S4096x2048 (constant S_ .f32
    0x3F800000#32)) (addf (broadcastInDim S4096x2048 ![] bcast_S_S4096x2048 (constant S_ .f32
    0x3F800000#32)) (Host.exp (Host.negf (extractStridedSlice S4096x2048 ![0, 4096] p
    slices_S4096x6144_S4096x2048_0_4096)))))) (mulf (mulf (extractStridedSlice S4096x2048 ![0,
    4096] p slices_S4096x6144_S4096x2048_0_4096) (mulf dy (shapeCast S4096x2048 (mulf (mulf
    (shapeCast S4096x4x512 o shapeCasts_S4096x2048_S4096x4x512) (broadcastInDim S4096x4x512 ![0,
    1, 2] bcast_S4096x4x1_S4096x4x512_0_1_2 (Host.rsqrt (addf (Host.divf (broadcastInDim
    S4096x4x1 ![0, 1] bcast_S4096x4_S4096x4x1_0_1 (Host.reduceAdd (mulf (shapeCast S4096x4x512 o
    shapeCasts_S4096x2048_S4096x4x512) (shapeCast S4096x4x512 o
    shapeCasts_S4096x2048_S4096x4x512)) (constant S_ .f32 0x00000000#32)
    reducesTo_S4096x4x512_S4096x4_d2 h_S_)) (broadcastInDim S4096x4x1 ![] bcast_S_S4096x4x1
    (constant S_ .f32 0x44000000#32))) (broadcastInDim S4096x4x1 ![] bcast_S_S4096x4x1 (constant
    S_ .f32 0x358637BD#32)))))) (broadcastInDim S4096x4x512 ![0, 1, 2]
    bcast_S1x4x512_S4096x4x512_0_1_2 (broadcastInDim S1x4x512 ![1, 2] bcast_S4x512_S1x4x512_1_2
    (shapeCast S4x512 gn shapeCasts_S1x2048_S4x512)))) shapeCasts_S4096x4x512_S4096x2048))) (mulf
    (Host.divf (broadcastInDim S4096x2048 ![] bcast_S_S4096x2048 (constant S_ .f32
    0x3F800000#32)) (addf (broadcastInDim S4096x2048 ![] bcast_S_S4096x2048 (constant S_ .f32
    0x3F800000#32)) (Host.exp (Host.negf (extractStridedSlice S4096x2048 ![0, 4096] p
    slices_S4096x6144_S4096x2048_0_4096))))) (subf (broadcastInDim S4096x2048 ![]
    bcast_S_S4096x2048 (constant S_ .f32 0x3F800000#32)) (Host.divf (broadcastInDim S4096x2048
    ![] bcast_S_S4096x2048 (constant S_ .f32 0x3F800000#32)) (addf (broadcastInDim S4096x2048 ![]
    bcast_S_S4096x2048 (constant S_ .f32 0x3F800000#32)) (Host.exp (Host.negf
    (extractStridedSlice S4096x2048 ![0, 4096] p slices_S4096x6144_S4096x2048_0_4096))))))))
/-- The gradient of the scales of the norm. -/
def scaleSum : FVec Ideal S1x2048 .f32 :=
    shapeCast S1x2048 (Host.reduceAdd (shapeCast S1x4x512 (Host.reduceAdd (mulf (mulf (shapeCast
    S4096x4x512 o shapeCasts_S4096x2048_S4096x4x512) (broadcastInDim S4096x4x512 ![0, 1, 2]
    bcast_S4096x4x1_S4096x4x512_0_1_2 (Host.rsqrt (addf (Host.divf (broadcastInDim S4096x4x1 ![0,
    1] bcast_S4096x4_S4096x4x1_0_1 (Host.reduceAdd (mulf (shapeCast S4096x4x512 o
    shapeCasts_S4096x2048_S4096x4x512) (shapeCast S4096x4x512 o
    shapeCasts_S4096x2048_S4096x4x512)) (constant S_ .f32 0x00000000#32)
    reducesTo_S4096x4x512_S4096x4_d2 h_S_)) (broadcastInDim S4096x4x1 ![] bcast_S_S4096x4x1
    (constant S_ .f32 0x44000000#32))) (broadcastInDim S4096x4x1 ![] bcast_S_S4096x4x1 (constant
    S_ .f32 0x358637BD#32)))))) (shapeCast S4096x4x512 (mulf (mulf (extractStridedSlice
    S4096x2048 ![0, 4096] p slices_S4096x6144_S4096x2048_0_4096) (Host.divf (broadcastInDim
    S4096x2048 ![] bcast_S_S4096x2048 (constant S_ .f32 0x3F800000#32)) (addf (broadcastInDim
    S4096x2048 ![] bcast_S_S4096x2048 (constant S_ .f32 0x3F800000#32)) (Host.exp (Host.negf
    (extractStridedSlice S4096x2048 ![0, 4096] p slices_S4096x6144_S4096x2048_0_4096)))))) dy)
    shapeCasts_S4096x2048_S4096x4x512)) (constant S_ .f32 0x00000000#32)
    reducesTo_S4096x4x512_S4x512_d0 h_S_) shapeCasts_S4x512_S1x4x512) (constant S_ .f32
    0x00000000#32) reducesTo_S1x4x512_S4x512_d0 h_S_) shapeCasts_S4x512_S1x2048

theorem rowsQ_at (x : FVec Ideal S64x4x64x256 .f32) (r : Fin 4096) (h : Fin 4) (d : Fin 256) :
    rowsQ x (ix3 r h d) = x (ix4 ⟨r.val / 64, by omega⟩ h ⟨r.val % 64, by omega⟩ d) := by
  pointwise [rowsQ]
theorem rowsK_at (x : FVec Ideal S64x4x64x256 .f32) (r : Fin 4096) (h : Fin 4) (d : Fin 256) :
    rowsK x (ix3 r h d) = x (ix4 ⟨r.val / 64, by omega⟩ h ⟨r.val % 64, by omega⟩ d) * sixteenthS := by
  pointwise [rowsK, sixteenthS]
theorem rowsV_at (x : FVec Ideal S64x4x64x512 .f32) (r : Fin 4096) (l : Fin 2048) :
    rowsV x (ix2 r l) = x (ix4 ⟨r.val / 64, by omega⟩ ⟨l.val / 512, by omega⟩ ⟨r.val % 64, by omega⟩
      ⟨l.val % 512, by omega⟩) := by
  pointwise [rowsV]
/-- The transposed rotation of every row, element by element. -/
theorem back_at (d : FVec Ideal S4096x4x256 .f32) (r : Fin 4096) (l : Fin 1024) :
    back d (ix2 r l) = unrotS (fun j => Ideal.cos (angleS r j)) (fun j => Ideal.sin (angleS r j))
      (fun j => d (ix3 r ⟨l.val / 256, by omega⟩ j)) ⟨l.val % 256, by omega⟩ := by
  pointwise [back]
  unfold unrotS
  by_cases h : l.val % 256 < 128
  · rw [dif_neg (fun e => by omega), dif_pos ⟨by omega, h⟩, dif_pos h, zero_add]
    exact add_comm (G := EReal) _ _
  · rw [dif_pos ⟨by omega, by omega, by omega⟩, dif_neg (fun e => h e.2), dif_neg h, add_zero,
      EReal.neg_mul, ← sub_eq_add_neg]
    refine sub_eq (mul_eq (congrArg d (congrArg (ix3 r _) (Fin.ext ?_))) rfl) rfl
    show 128 + (l.val % 256 - 128) = l.val % 256
    omega

/-- The gradient of the gate, element by element. -/
theorem gates_at (r : Fin 4096) (h : Fin 4) (e : Fin 512) :
    gates p gn o dy (ix2 r (col h e)) =
      dgateR (fun j => p (ix2 r (gcol h j))) (fun j => o (ix2 r (col h j)))
        (fun j => dy (ix2 r (col h j))) (fun j => gn (ix2 0 (col h j))) e := by
  have hc : (col h e).val / 512 * 512 = 512 * h.val := by
    show (512 * h.val + e.val) / 512 * 512 = _
    omega
  have hg : 4096 + (col h e).val = 4096 + 512 * h.val + e.val := by
    show 4096 + (512 * h.val + e.val) = _
    omega
  pointwise [gates]
  simp only [hc, hg, sigS_neg]
  rfl

/-- The gradient of the scales, element by element. -/
theorem scaleSum_at (h : Fin 4) (e : Fin 512) :
    scaleSum p o dy (ix2 0 (col h e)) =
      ∑ r : Fin 4096, dscaleS (fun j => p (ix2 r (gcol h j))) (fun j => o (ix2 r (col h j)))
        (fun j => dy (ix2 r (col h j))) e := by
  have hc : (col h e).val / 512 * 512 = 512 * h.val := by
    show (512 * h.val + e.val) / 512 * 512 = _
    omega
  have hg : 4096 + (col h e).val = 4096 + 512 * h.val + e.val := by
    show 4096 + (512 * h.val + e.val) = _
    omega
  pointwise [scaleSum]
  simp only [hc, hg, sigS_neg, Finset.univ_unique, Finset.sum_singleton]
  refine Finset.sum_congr rfl fun r _ => ?_
  unfold dscaleS dnormS
  refine (mul_comm (G := EReal) _ _).trans (mul_eq (mul_comm (G := EReal) _ _) rfl)

/-- The four parts side by side, element by element. -/
theorem parts_at (a b : FVec Ideal S4096x1024 .f32) (x y : FVec Ideal S4096x2048 .f32)
    (r : Fin 4096) (l : Fin 6144) :
    (concatenate S4096x6144 1 [⟨S4096x1024, a⟩, ⟨S4096x1024, b⟩, ⟨S4096x2048, x⟩, ⟨S4096x2048, y⟩]
      concatenates_S4096x1024_S4096x1024_S4096x2048_S4096x2048_S4096x6144_d1 : FVec Ideal S4096x6144 .f32)
        (ix2 r l) =
      if h1 : l.val < 1024 then a (ix2 r ⟨l.val, h1⟩)
      else if h2 : l.val < 2048 then b (ix2 r ⟨l.val - 1024, by omega⟩)
      else if h3 : l.val < 4096 then x (ix2 r ⟨l.val - 2048, by omega⟩)
      else y (ix2 r ⟨l.val - 4096, by omega⟩) := by
  pointwise []
  by_cases h1 : l.val < 1024
  · rw [dif_pos h1, dif_pos h1]
  · rw [dif_neg h1, dif_neg h1]
    by_cases h2 : l.val < 2048
    · rw [dif_pos (by omega), dif_pos h2]
    · rw [dif_neg (by omega), dif_neg h2]
      by_cases h3 : l.val < 4096
      · rw [dif_pos (by omega), dif_pos h3]
        exact congrArg (fun z => x (ix2 r z)) (Fin.ext (by show l.val - 1024 - 1024 = l.val - 2048; omega))
      · rw [dif_neg (by omega), dif_neg h3]
        exact congrArg (fun z => y (ix2 r z))
          (Fin.ext (by show l.val - 1024 - 1024 - 2048 = l.val - 4096; omega))

/-- The first result, of the sweep's arrays. -/
theorem first_parts (V0 : Valuation τ sig (Elt Ideal)) :
    (out_main_v267 V0 : Vec Ideal S4096x6144 .bf16) = truncf (F := Ideal) .bf16
      (concatenate S4096x6144 1 [⟨S4096x1024, back (rowsQ (V0 (Proc.devRef .tc main_v121_7)))⟩,
        ⟨S4096x1024, back (rowsK (V0 (Proc.devRef .tc main_v121_8)))⟩,
        ⟨S4096x2048, rowsV (V0 (Proc.devRef .tc main_v121_9))⟩,
        ⟨S4096x2048, gates (V0 (Proc.devRef .tc main_arg0)) (V0 (Proc.devRef .tc main_arg1))
          (V0 (Proc.devRef .tc main_arg2)) (V0 (Proc.devRef .tc main_arg4))⟩]
      concatenates_S4096x1024_S4096x1024_S4096x2048_S4096x2048_S4096x6144_d1 : FVec Ideal S4096x6144 .f32)
      bitsLt_bf16_f32 := rfl

/-- The second result, of the arguments. -/
theorem second_parts (V0 : Valuation τ sig (Elt Ideal)) :
    (out_main_v222 V0 : Vec Ideal S1x2048 .f32) = scaleSum (V0 (Proc.devRef .tc main_arg0))
      (V0 (Proc.devRef .tc main_arg2)) (V0 (Proc.devRef .tc main_arg4)) := rfl

end Cert.Ret.Ref
-- ==== Proof.RefFinal.lean ====
module

public import proofs.«01_k».proof.Proof.RefOut

@[expose] public section

set_option maxRecDepth 16384
set_option maxHeartbeats 400000

noncomputable section

namespace Cert.Ret.Ref

open Cert.ReferenceIdeal Cert.ReferenceIdeal.Gen Cert.ReferenceIdeal.Value Idealize.ShloMosaic
  Idealize.ShloMosaic.StableHlo

/-! ## The results of the reference, of its arguments -/

variable (m : (ℓ : Loc nD τ sig) → Buf (Elt Ideal) ℓ) (c : Dev nD)

/-- The gate, the scales, the output and its gradient are real numbers. -/
structure Tame : Prop where
  g : ∀ r h, Reals (gRow m c r h)
  o : ∀ r h, Reals (oRow m c r h)
  dy : ∀ r h, Reals (dyRow m c r h)
  gn : ∀ h, Reals (gnRow m c h)

variable {m c}

/-- The gradient of the retention's output, in the kernel's form. -/
theorem go_eq (hf : Tame m c) :
    (refData m c).go = goOf (pR m c) (gnR m c) (oR m c) (dyR m c) := by
  funext n h t e
  exact dout_eq (hf.g _ h) (hf.o _ h) (hf.dy _ h) (hf.gn h) e

theorem row_split (r : Fin 4096) :
    row ⟨r.val / 64, by omega⟩ ⟨r.val % 64, by omega⟩ = r :=
  Fin.ext (by show 64 * (r.val / 64) + r.val % 64 = r.val; omega)

/-- The first result: the gradient of the projections. -/
theorem first_of (hf : Tame m c) (V : Valuation τ sig (Elt Ideal))
    (w : Swept V (refData m c) 64)
    (h0 : V (Proc.devRef .tc main_arg0) = m ((c.tc : Thread nD τ).loc main_arg0))
    (h1 : V (Proc.devRef .tc main_arg1) = m ((c.tc : Thread nD τ).loc main_arg1))
    (h2 : V (Proc.devRef .tc main_arg2) = m ((c.tc : Thread nD τ).loc main_arg2))
    (h4 : V (Proc.devRef .tc main_arg4) = m ((c.tc : Thread nD τ).loc main_arg4))
    (r : Fin 4096) (l : Fin 6144) :
    (out_main_v267 V : Vec Ideal S4096x6144 .bf16) (ix2 r l) =
      (refData m c).proj (gnR m c) (oR m c) (dyR m c) ⟨r.val / 64, by omega⟩
        ⟨r.val % 64, by omega⟩ l := by
  rw [first_parts]
  refine Eq.trans (parts_at _ _ _ _ r l) ?_
  unfold Data.proj
  by_cases k1 : l.val < 1024
  · rw [dif_pos k1, dif_pos k1, back_at]
    unfold Data.outQ
    rw [row_split]
    refine congrArg (fun f => unrotS _ _ f _) (funext fun j => ?_)
    rw [rowsQ_at]
    exact congrFun (congrFun (congrFun (w.dq ⟨r.val / 64, by omega⟩ (by omega)) _) _) j
  rw [dif_neg k1, dif_neg k1]
  by_cases k2 : l.val < 2048
  · rw [dif_pos k2, dif_pos k2, back_at]
    unfold Data.outK
    rw [row_split]
    refine congrArg (fun f => unrotS _ _ f _) (funext fun j => ?_)
    rw [rowsK_at]
    exact mul_eq (congrFun (congrFun (congrFun (w.dk ⟨r.val / 64, by omega⟩ (by omega)) _) _) j) rfl
  rw [dif_neg k2, dif_neg k2]
  by_cases k3 : l.val < 4096
  · rw [dif_pos k3, dif_pos k3, rowsV_at]
    exact congrFun (congrFun (congrFun (w.dv ⟨r.val / 64, by omega⟩ (by omega)) _) _) _
  rw [dif_neg k3, dif_neg k3, row_split]
  have hl : (⟨l.val - 4096, by omega⟩ : Fin 2048) =
      col ⟨(l.val - 4096) / 512, by omega⟩ ⟨(l.val - 4096) % 512, by omega⟩ :=
    Fin.ext (by show l.val - 4096 = 512 * ((l.val - 4096) / 512) + (l.val - 4096) % 512; omega)
  rw [hl, gates_at, h0, h1, h2, h4]
  exact dgate_eq (hf.g r _) (hf.o r _) (hf.dy r _) (hf.gn _) _

variable (m c)

/-- The second result: the gradient of the scales. -/
theorem second_of (V : Valuation τ sig (Elt Ideal))
    (h0 : V (Proc.devRef .tc main_arg0) = m ((c.tc : Thread nD τ).loc main_arg0))
    (h2 : V (Proc.devRef .tc main_arg2) = m ((c.tc : Thread nD τ).loc main_arg2))
    (h4 : V (Proc.devRef .tc main_arg4) = m ((c.tc : Thread nD τ).loc main_arg4))
    (h : Fin 4) (e : Fin 512) :
    (out_main_v222 V : Vec Ideal S1x2048 .f32) (ix2 0 (col h e)) =
      ∑ r : Fin 4096, scaleOf (pR m c) (oR m c) (dyR m c) r h e := by
  rw [second_parts, scaleSum_at, h0, h2, h4]
  rfl

/-- The first result, at the end of the loop. -/
theorem first_ref (hf : Tame m c) (r : Fin 4096) (l : Fin 6144) :
    (out_main_v267 (STEP^[64] (entryContents preI m c)) : Vec Ideal S4096x6144 .bf16) (ix2 r l) =
      (refData m c).proj (gnR m c) (oR m c) (dyR m c) ⟨r.val / 64, by omega⟩
        ⟨r.val % 64, by omega⟩ l :=
  first_of hf _ (swept_exit m c) (iter_main_arg0 m c 64) (iter_main_arg1 m c 64)
    (iter_main_arg2 m c 64) (iter_main_arg4 m c 64) r l

/-- The second result, at the end of the loop. -/
theorem second_ref (h : Fin 4) (e : Fin 512) :
    (out_main_v222 (STEP^[64] (entryContents preI m c)) : Vec Ideal S1x2048 .f32)
      (ix2 0 (col h e)) = ∑ r : Fin 4096, scaleOf (pR m c) (oR m c) (dyR m c) r h e :=
  second_of m c _ (iter_main_arg0 m c 64) (iter_main_arg2 m c 64) (iter_main_arg4 m c 64) h e

end Cert.Ret.Ref

end
-- ==== Proof.Same.lean ====
module

public import proofs.«01_k».proof.Proof.Finite
public import proofs.«01_k».proof.Proof.KerTables
public import proofs.«01_k».proof.Proof.RefFinal

@[expose] public section

set_option maxHeartbeats 1000000

noncomputable section

namespace Cert.Ret

open Idealize.ShloMosaic

/-! ## The kernel and the reference compute of the same arrays -/

/-- Two programs' data agree when every array of them does. -/
theorem data_ext {X Y : Data} (h1 : X.p = Y.p) (h2 : X.st = Y.st) (h3 : X.go = Y.go)
    (h4 : X.cs = Y.cs) (h5 : X.sn = Y.sn) (h6 : X.m = Y.m) (h7 : X.qd = Y.qd) (h8 : X.kd = Y.kd)
    (h9 : X.dec = Y.dec) : X = Y := by
  cases X; cases Y
  cases h1; cases h2; cases h3; cases h4; cases h5; cases h6; cases h7; cases h8; cases h9
  rfl

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The programs start with equal arguments. -/
structure Agreed : Prop where
  a0 : m' ((c.tc : Thread Cert.ReferenceIdeal.nD Cert.ReferenceIdeal.τ).loc Cert.ReferenceIdeal.main_arg0) =
    m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) =
    m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) =
    m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) =
    m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) =
    m ((c.tc : Thread Cert.KernelIdeal.nD Cert.KernelIdeal.τ).loc Cert.KernelIdeal.main_arg4)

variable {m m' c}

/-- The projections agree. -/
theorem p_same (w : Agreed m m' c) : Ref.pR m' c = argP m c := by
  funext r l
  exact congrArg (fun f : Vec Ideal Cert.KernelIdeal.S4096x6144 .f32 => f (ix2 r l)) w.a0
/-- The scales agree. -/
theorem gn_same (w : Agreed m m' c) : Ref.gnR m' c = argGn m c := by
  funext l
  exact congrArg (fun f : Vec Ideal Cert.KernelIdeal.S1x2048 .f32 => f (ix2 0 l)) w.a1
/-- The outputs agree. -/
theorem o_same (w : Agreed m m' c) : Ref.oR m' c = argO m c := by
  funext r l
  exact congrArg (fun f : Vec Ideal Cert.KernelIdeal.S4096x2048 .f32 => f (ix2 r l)) w.a2
/-- The gradients that come in agree. -/
theorem dy_same (w : Agreed m m' c) : Ref.dyR m' c = argDy m c := by
  funext r l
  exact congrArg (fun f : Vec Ideal Cert.KernelIdeal.S4096x2048 .f32 => f (ix2 r l)) w.a4

/-- Under the precondition the reference's rows are real. -/
theorem tame_of (w : Agreed m m' c) (hp : Cert.Pre_KernelIdeal_finite m) : Ref.Tame m' c := by
  obtain ⟨h0, h1, h2, h4⟩ := finite_reals _ _ _ _ _ (hp c)
  constructor
  · intro r h
    choose f hf using fun e => h0 r h e
    refine ⟨f, funext fun e => ?_⟩
    unfold Ref.gRow
    rw [p_same w]
    exact hf e
  · intro r h
    choose f hf using fun e => h2 r (col h e)
    refine ⟨f, funext fun e => ?_⟩
    unfold Ref.oRow
    rw [o_same w]
    exact hf e
  · intro r h
    choose f hf using fun e => h4 r (col h e)
    refine ⟨f, funext fun e => ?_⟩
    unfold Ref.dyRow
    rw [dy_same w]
    exact hf e
  · intro h
    choose f hf using fun e => h1 (col h e)
    refine ⟨f, funext fun e => ?_⟩
    unfold Ref.gnRow
    rw [gn_same w]
    exact hf e

/-- Both programs compute of one set of arrays. -/
theorem data_same (w : Agreed m m' c) (hf : Ref.Tame m' c) : Ref.refData m' c = kernelData m c := by
  apply data_ext
  · exact p_same w
  · funext n h d e
    exact congrArg (fun f : Vec Ideal Cert.KernelIdeal.S64x4x256x512 .bf16 => f (ix4 n h d e)) w.a3
  · rw [Ref.go_eq hf, p_same w, gn_same w, o_same w, dy_same w]
    rfl
  · funext r d
    exact (cs_table m c r d).symm
  · funext r d
    exact (sn_table m c r d).symm
  · funext h t s
    exact (mask_table m c h t s).symm
  · funext h t d
    exact (qd_table m c h t d).symm
  · funext h t d
    exact (kd_table m c h t d).symm
  · funext h
    exact (dec_table h).symm

end Cert.Ret

end
-- ==== Proof.Sixteen.lean ====
module

public import Mathlib.Data.List.Basic

@[expose] public section

namespace Cert.Ret

/-- One more group of four. -/
theorem take_more {α : Type*} (l : List α) (n : ℕ) {u v : List α} (hu : List.take n l = u)
    (hv : List.take 4 (List.drop n l) = v) : List.take (n + 4) l = u ++ v := by
  rw [List.take_add, hu, hv]

/-- A list of sixty-four, put together from its sixteen groups of four. -/
theorem sixteen {α : Type*} (l : List α) (hl : l.length = 64)
    {a0 a1 a2 a3 a4 a5 a6 a7 a8 a9 a10 a11 a12 a13 a14 a15 : List α}
    (h0 : List.take 4 (List.drop 0 l) = a0) (h1 : List.take 4 (List.drop 4 l) = a1)
    (h2 : List.take 4 (List.drop 8 l) = a2) (h3 : List.take 4 (List.drop 12 l) = a3)
    (h4 : List.take 4 (List.drop 16 l) = a4) (h5 : List.take 4 (List.drop 20 l) = a5)
    (h6 : List.take 4 (List.drop 24 l) = a6) (h7 : List.take 4 (List.drop 28 l) = a7)
    (h8 : List.take 4 (List.drop 32 l) = a8) (h9 : List.take 4 (List.drop 36 l) = a9)
    (h10 : List.take 4 (List.drop 40 l) = a10) (h11 : List.take 4 (List.drop 44 l) = a11)
    (h12 : List.take 4 (List.drop 48 l) = a12) (h13 : List.take 4 (List.drop 52 l) = a13)
    (h14 : List.take 4 (List.drop 56 l) = a14) (h15 : List.take 4 (List.drop 60 l) = a15) :
    l = a0 ++ a1 ++ a2 ++ a3 ++ a4 ++ a5 ++ a6 ++ a7 ++ a8 ++ a9 ++ a10 ++ a11 ++ a12 ++ a13 ++ a14 ++
      a15 := by
  have e : List.take 64 l = l := List.take_of_length_le (Nat.le_of_eq hl)
  refine e.symm.trans ?_
  have g0 : List.take 4 l = a0 := h0
  exact take_more l 60 (take_more l 56 (take_more l 52 (take_more l 48 (take_more l 44 (take_more l 40
    (take_more l 36 (take_more l 32 (take_more l 28 (take_more l 24 (take_more l 20 (take_more l 16
    (take_more l 12 (take_more l 8 (take_more l 4 g0 h1) h2) h3) h4) h5) h6) h7) h8) h9) h10) h11)
    h12) h13) h14) h15

end Cert.Ret
-- ==== Proof.RunA.lean ====
module

public import proofs.«01_k».proof.Proof.Chunk
public import proofs.«01_k».proof.Proof.Gen.KernelIdeal.Frame.RunA

@[expose] public section

set_option maxRecDepth 16384
set_option maxHeartbeats 8000000

noncomputable section

namespace Cert.Ret

open Cert.KernelIdeal Cert.KernelIdeal.Gen Idealize.ShloMosaic Idealize.SL.Sem

variable {F : FTy → Type} [FloatOps F] [Named F]

/-! ## The scratch as the body writes it at the first point of the grid -/

section
variable (c : Dev nD) (i : grid0.Coords) (arg1 : Memref sig .tc .vmem S256x6144 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S4x64x64 .f32) (harg4 : arg4.IsWhole) (arg5 : Memref sig .tc .vmem S4x64x256 .f32) (harg5 : arg5.IsWhole) (arg6 : Memref sig .tc .vmem S4x64x256 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S4x4x256x512 .bf16) (harg9 : arg9.IsWhole) (arg10 : Memref sig .tc .vmem S256x2048 .f32) (harg10 : arg10.IsWhole) (arg11 : Memref sig .tc .vmem S256x6144 .bf16) (harg11 : arg11.IsWhole) (arg12 : Memref sig .tc .vmem S1x2048 .f32) (harg12 : arg12.IsWhole) (arg13 : Memref sig .tc .vmem S4x256x512 .f32) (harg13 : arg13.IsWhole) (hc0 : cond0_0 i) (hc1 : cond0_1 i) (hc2 : ¬cond0_2 i)
    (x0 : Vec F S256x6144 .f32) (x1 : Vec F S256x128 .f32) (x2 : Vec F S256x128 .f32) (x3 : Vec F S4x64x64 .f32) (x4 : Vec F S4x64x256 .f32) (x5 : Vec F S4x64x256 .f32) (x6 : Vec F S1x2048 .f32) (x7 : Vec F S256x2048 .f32) (x8 : Vec F S4x4x256x512 .bf16) (x9 : Vec F S256x2048 .f32)

/-- The scratch after chunk 3 of head 0. -/
theorem hsA_1 : kernelRun0_A.sl.HS0_2 c arg1 harg1 arg2 harg2 arg3 harg3 arg5 harg5 arg7 harg7 arg8 harg8 arg10 harg10 arg13 x0 x1 x2 x4 x6 x7 x9 =
    (push (staged arg1 harg1 arg2 harg2 arg3 harg3 arg4 harg4 arg5 harg5 arg6 harg6 arg7 harg7 arg8 harg8 arg9 harg9 arg10 harg10
      x0 x1 x2 x3 x4 x5 x6 x7 x8 x9) 3 0
      (arg13.view.readCov kernelRun0_A.sl.HS0_1 (headRect 0).toLoadRect)
      kernelRun0_A.sl.HS0_1) := rfl

/-- The scratch after chunk 3 of head 1. -/
theorem hsA_2 : kernelRun0_A.sl.HS0_3 c arg1 harg1 arg2 harg2 arg3 harg3 arg5 harg5 arg7 harg7 arg8 harg8 arg10 harg10 arg13 x0 x1 x2 x4 x6 x7 x9 =
    (push (staged arg1 harg1 arg2 harg2 arg3 harg3 arg4 harg4 arg5 harg5 arg6 harg6 arg7 harg7 arg8 harg8 arg9 harg9 arg10 harg10
      x0 x1 x2 x3 x4 x5 x6 x7 x8 x9) 3 1
      (arg13.view.readCov (kernelRun0_A.sl.HS0_2 c arg1 harg1 arg2 harg2 arg3 harg3 arg5 harg5 arg7 harg7 arg8 harg8 arg10 harg10 arg13 x0 x1 x2 x4 x6 x7 x9) (headRect 1).toLoadRect)
      (kernelRun0_A.sl.HS0_2 c arg1 harg1 arg2 harg2 arg3 harg3 arg5 harg5 arg7 harg7 arg8 harg8 arg10 harg10 arg13 x0 x1 x2 x4 x6 x7 x9)) := rfl

/-- The scratch after chunk 3 of head 2. -/
theorem hsA_3 : kernelRun0_A.sl.HS0_4 c arg1 harg1 arg2 harg2 arg3 harg3 arg5 harg5 arg7 harg7 arg8 harg8 arg10 harg10 arg13 x0 x1 x2 x4 x6 x7 x9 =
    (push (staged arg1 harg1 arg2 harg2 arg3 harg3 arg4 harg4 arg5 harg5 arg6 harg6 arg7 harg7 arg8 harg8 arg9 harg9 arg10 harg10
      x0 x1 x2 x3 x4 x5 x6 x7 x8 x9) 3 2
      (arg13.view.readCov (kernelRun0_A.sl.HS0_3 c arg1 harg1 arg2 harg2 arg3 harg3 arg5 harg5 arg7 harg7 arg8 harg8 arg10 harg10 arg13 x0 x1 x2 x4 x6 x7 x9) (headRect 2).toLoadRect)
      (kernelRun0_A.sl.HS0_3 c arg1 harg1 arg2 harg2 arg3 harg3 arg5 harg5 arg7 harg7 arg8 harg8 arg10 harg10 arg13 x0 x1 x2 x4 x6 x7 x9)) := rfl

/-- The scratch after chunk 3 of head 3. -/
theorem hsA_4 : kernelRun0_A.sl.HS0_5 c arg1 harg1 arg2 harg2 arg3 harg3 arg5 harg5 arg7 harg7 arg8 harg8 arg10 harg10 arg13 x0 x1 x2 x4 x6 x7 x9 =
    (push (staged arg1 harg1 arg2 harg2 arg3 harg3 arg4 harg4 arg5 harg5 arg6 harg6 arg7 harg7 arg8 harg8 arg9 harg9 arg10 harg10
      x0 x1 x2 x3 x4 x5 x6 x7 x8 x9) 3 3
      (arg13.view.readCov (kernelRun0_A.sl.HS0_4 c arg1 harg1 arg2 harg2 arg3 harg3 arg5 harg5 arg7 harg7 arg8 harg8 arg10 harg10 arg13 x0 x1 x2 x4 x6 x7 x9) (headRect 3).toLoadRect)
      (kernelRun0_A.sl.HS0_4 c arg1 harg1 arg2 harg2 arg3 harg3 arg5 harg5 arg7 harg7 arg8 harg8 arg10 harg10 arg13 x0 x1 x2 x4 x6 x7 x9)) := rfl

/-- The scratch after chunk 2 of head 0. -/
theorem hsA_5 : kernelRun0_A.sl.HS0_6 c arg1 harg1 arg2 harg2 arg3 harg3 arg5 harg5 arg7 harg7 arg8 harg8 arg10 harg10 arg13 x0 x1 x2 x4 x6 x7 x9 =
    (push (staged arg1 harg1 arg2 harg2 arg3 harg3 arg4 harg4 arg5 harg5 arg6 harg6 arg7 harg7 arg8 harg8 arg9 harg9 arg10 harg10
      x0 x1 x2 x3 x4 x5 x6 x7 x8 x9) 2 0
      (arg13.view.readCov (kernelRun0_A.sl.HS0_5 c arg1 harg1 arg2 harg2 arg3 harg3 arg5 harg5 arg7 harg7 arg8 harg8 arg10 harg10 arg13 x0 x1 x2 x4 x6 x7 x9) (headRect 0).toLoadRect)
      (kernelRun0_A.sl.HS0_5 c arg1 harg1 arg2 harg2 arg3 harg3 arg5 harg5 arg7 harg7 arg8 harg8 arg10 harg10 arg13 x0 x1 x2 x4 x6 x7 x9)) := rfl

/-- The scratch after chunk 2 of head 1. -/
theorem hsA_6 : kernelRun0_A.sl.HS0_7 c arg1 harg1 arg2 harg2 arg3 harg3 arg5 harg5 arg7 harg7 arg8 harg8 arg10 harg10 arg13 x0 x1 x2 x4 x6 x7 x9 =
    (push (staged arg1 harg1 arg2 harg2 arg3 harg3 arg4 harg4 arg5 harg5 arg6 harg6 arg7 harg7 arg8 harg8 arg9 harg9 arg10 harg10
      x0 x1 x2 x3 x4 x5 x6 x7 x8 x9) 2 1
      (arg13.view.readCov (kernelRun0_A.sl.HS0_6 c arg1 harg1 arg2 harg2 arg3 harg3 arg5 harg5 arg7 harg7 arg8 harg8 arg10 harg10 arg13 x0 x1 x2 x4 x6 x7 x9) (headRect 1).toLoadRect)
      (kernelRun0_A.sl.HS0_6 c arg1 harg1 arg2 harg2 arg3 harg3 arg5 harg5 arg7 harg7 arg8 harg8 arg10 harg10 arg13 x0 x1 x2 x4 x6 x7 x9)) := rfl

/-- The scratch after chunk 2 of head 2. -/
theorem hsA_7 : kernelRun0_A.sl.HS0_8 c arg1 harg1 arg2 harg2 arg3 harg3 arg5 harg5 arg7 harg7 arg8 harg8 arg10 harg10 arg13 x0 x1 x2 x4 x6 x7 x9 =
    (push (staged arg1 harg1 arg2 harg2 arg3 harg3 arg4 harg4 arg5 harg5 arg6 harg6 arg7 harg7 arg8 harg8 arg9 harg9 arg10 harg10
      x0 x1 x2 x3 x4 x5 x6 x7 x8 x9) 2 2
      (arg13.view.readCov (kernelRun0_A.sl.HS0_7 c arg1 harg1 arg2 harg2 arg3 harg3 arg5 harg5 arg7 harg7 arg8 harg8 arg10 harg10 arg13 x0 x1 x2 x4 x6 x7 x9) (headRect 2).toLoadRect)
      (kernelRun0_A.sl.HS0_7 c arg1 harg1 arg2 harg2 arg3 harg3 arg5 harg5 arg7 harg7 arg8 harg8 arg10 harg10 arg13 x0 x1 x2 x4 x6 x7 x9)) := rfl

/-- The scratch after chunk 2 of head 3. -/
theorem hsA_8 : kernelRun0_A.sl.HS0_9 c arg1 harg1 arg2 harg2 arg3 harg3 arg5 harg5 arg7 harg7 arg8 harg8 arg10 harg10 arg13 x0 x1 x2 x4 x6 x7 x9 =
    (push (staged arg1 harg1 arg2 harg2 arg3 harg3 arg4 harg4 arg5 harg5 arg6 harg6 arg7 harg7 arg8 harg8 arg9 harg9 arg10 harg10
      x0 x1 x2 x3 x4 x5 x6 x7 x8 x9) 2 3
      (arg13.view.readCov (kernelRun0_A.sl.HS0_8 c arg1 harg1 arg2 harg2 arg3 harg3 arg5 harg5 arg7 harg7 arg8 harg8 arg10 harg10 arg13 x0 x1 x2 x4 x6 x7 x9) (headRect 3).toLoadRect)
      (kernelRun0_A.sl.HS0_8 c arg1 harg1 arg2 harg2 arg3 harg3 arg5 harg5 arg7 harg7 arg8 harg8 arg10 harg10 arg13 x0 x1 x2 x4 x6 x7 x9)) := rfl

/-- The scratch after chunk 1 of head 0. -/
theorem hsA_9 : kernelRun0_A.sl.HS0_10 c arg1 harg1 arg2 harg2 arg3 harg3 arg5 harg5 arg7 harg7 arg8 harg8 arg10 harg10 arg13 x0 x1 x2 x4 x6 x7 x9 =
    (push (staged arg1 harg1 arg2 harg2 arg3 harg3 arg4 harg4 arg5 harg5 arg6 harg6 arg7 harg7 arg8 harg8 arg9 harg9 arg10 harg10
      x0 x1 x2 x3 x4 x5 x6 x7 x8 x9) 1 0
      (arg13.view.readCov (kernelRun0_A.sl.HS0_9 c arg1 harg1 arg2 harg2 arg3 harg3 arg5 harg5 arg7 harg7 arg8 harg8 arg10 harg10 arg13 x0 x1 x2 x4 x6 x7 x9) (headRect 0).toLoadRect)
      (kernelRun0_A.sl.HS0_9 c arg1 harg1 arg2 harg2 arg3 harg3 arg5 harg5 arg7 harg7 arg8 harg8 arg10 harg10 arg13 x0 x1 x2 x4 x6 x7 x9)) := rfl

/-- The scratch after chunk 1 of head 1. -/
theorem hsA_10 : kernelRun0_A.sl.HS0_11 c arg1 harg1 arg2 harg2 arg3 harg3 arg5 harg5 arg7 harg7 arg8 harg8 arg10 harg10 arg13 x0 x1 x2 x4 x6 x7 x9 =
    (push (staged arg1 harg1 arg2 harg2 arg3 harg3 arg4 harg4 arg5 harg5 arg6 harg6 arg7 harg7 arg8 harg8 arg9 harg9 arg10 harg10
      x0 x1 x2 x3 x4 x5 x6 x7 x8 x9) 1 1
      (arg13.view.readCov (kernelRun0_A.sl.HS0_10 c arg1 harg1 arg2 harg2 arg3 harg3 arg5 harg5 arg7 harg7 arg8 harg8 arg10 harg10 arg13 x0 x1 x2 x4 x6 x7 x9) (headRect 1).toLoadRect)
      (kernelRun0_A.sl.HS0_10 c arg1 harg1 arg2 harg2 arg3 harg3 arg5 harg5 arg7 harg7 arg8 harg8 arg10 harg10 arg13 x0 x1 x2 x4 x6 x7 x9)) := rfl

/-- The scratch after chunk 1 of head 2. -/
theorem hsA_11 : kernelRun0_A.sl.HS0_12 c arg1 harg1 arg2 harg2 arg3 harg3 arg5 harg5 arg7 harg7 arg8 harg8 arg10 harg10 arg13 x0 x1 x2 x4 x6 x7 x9 =
    (push (staged arg1 harg1 arg2 harg2 arg3 harg3 arg4 harg4 arg5 harg5 arg6 harg6 arg7 harg7 arg8 harg8 arg9 harg9 arg10 harg10
      x0 x1 x2 x3 x4 x5 x6 x7 x8 x9) 1 2
      (arg13.view.readCov (kernelRun0_A.sl.HS0_11 c arg1 harg1 arg2 harg2 arg3 harg3 arg5 harg5 arg7 harg7 arg8 harg8 arg10 harg10 arg13 x0 x1 x2 x4 x6 x7 x9) (headRect 2).toLoadRect)
      (kernelRun0_A.sl.HS0_11 c arg1 harg1 arg2 harg2 arg3 harg3 arg5 harg5 arg7 harg7 arg8 harg8 arg10 harg10 arg13 x0 x1 x2 x4 x6 x7 x9)) := rfl

/-- The scratch after chunk 1 of head 3. -/
theorem hsA_12 : kernelRun0_A.sl.HS0_13 c arg1 harg1 arg2 harg2 arg3 harg3 arg5 harg5 arg7 harg7 arg8 harg8 arg10 harg10 arg13 x0 x1 x2 x4 x6 x7 x9 =
    (push (staged arg1 harg1 arg2 harg2 arg3 harg3 arg4 harg4 arg5 harg5 arg6 harg6 arg7 harg7 arg8 harg8 arg9 harg9 arg10 harg10
      x0 x1 x2 x3 x4 x5 x6 x7 x8 x9) 1 3
      (arg13.view.readCov (kernelRun0_A.sl.HS0_12 c arg1 harg1 arg2 harg2 arg3 harg3 arg5 harg5 arg7 harg7 arg8 harg8 arg10 harg10 arg13 x0 x1 x2 x4 x6 x7 x9) (headRect 3).toLoadRect)
      (kernelRun0_A.sl.HS0_12 c arg1 harg1 arg2 harg2 arg3 harg3 arg5 harg5 arg7 harg7 arg8 harg8 arg10 harg10 arg13 x0 x1 x2 x4 x6 x7 x9)) := rfl

/-- The scratch after chunk 0 of head 0. -/
theorem hsA_13 : kernelRun0_A.sl.HS0_14 c arg1 harg1 arg2 harg2 arg3 harg3 arg5 harg5 arg7 harg7 arg8 harg8 arg10 harg10 arg13 x0 x1 x2 x4 x6 x7 x9 =
    (push (staged arg1 harg1 arg2 harg2 arg3 harg3 arg4 harg4 arg5 harg5 arg6 harg6 arg7 harg7 arg8 harg8 arg9 harg9 arg10 harg10
      x0 x1 x2 x3 x4 x5 x6 x7 x8 x9) 0 0
      (arg13.view.readCov (kernelRun0_A.sl.HS0_13 c arg1 harg1 arg2 harg2 arg3 harg3 arg5 harg5 arg7 harg7 arg8 harg8 arg10 harg10 arg13 x0 x1 x2 x4 x6 x7 x9) (headRect 0).toLoadRect)
      (kernelRun0_A.sl.HS0_13 c arg1 harg1 arg2 harg2 arg3 harg3 arg5 harg5 arg7 harg7 arg8 harg8 arg10 harg10 arg13 x0 x1 x2 x4 x6 x7 x9)) := rfl

/-- The scratch after chunk 0 of head 1. -/
theorem hsA_14 : kernelRun0_A.sl.HS0_15 c arg1 harg1 arg2 harg2 arg3 harg3 arg5 harg5 arg7 harg7 arg8 harg8 arg10 harg10 arg13 x0 x1 x2 x4 x6 x7 x9 =
    (push (staged arg1 harg1 arg2 harg2 arg3 harg3 arg4 harg4 arg5 harg5 arg6 harg6 arg7 harg7 arg8 harg8 arg9 harg9 arg10 harg10
      x0 x1 x2 x3 x4 x5 x6 x7 x8 x9) 0 1
      (arg13.view.readCov (kernelRun0_A.sl.HS0_14 c arg1 harg1 arg2 harg2 arg3 harg3 arg5 harg5 arg7 harg7 arg8 harg8 arg10 harg10 arg13 x0 x1 x2 x4 x6 x7 x9) (headRect 1).toLoadRect)
      (kernelRun0_A.sl.HS0_14 c arg1 harg1 arg2 harg2 arg3 harg3 arg5 harg5 arg7 harg7 arg8 harg8 arg10 harg10 arg13 x0 x1 x2 x4 x6 x7 x9)) := rfl

/-- The scratch after chunk 0 of head 2. -/
theorem hsA_15 : kernelRun0_A.sl.HS0_16 c arg1 harg1 arg2 harg2 arg3 harg3 arg5 harg5 arg7 harg7 arg8 harg8 arg10 harg10 arg13 x0 x1 x2 x4 x6 x7 x9 =
    (push (staged arg1 harg1 arg2 harg2 arg3 harg3 arg4 harg4 arg5 harg5 arg6 harg6 arg7 harg7 arg8 harg8 arg9 harg9 arg10 harg10
      x0 x1 x2 x3 x4 x5 x6 x7 x8 x9) 0 2
      (arg13.view.readCov (kernelRun0_A.sl.HS0_15 c arg1 harg1 arg2 harg2 arg3 harg3 arg5 harg5 arg7 harg7 arg8 harg8 arg10 harg10 arg13 x0 x1 x2 x4 x6 x7 x9) (headRect 2).toLoadRect)
      (kernelRun0_A.sl.HS0_15 c arg1 harg1 arg2 harg2 arg3 harg3 arg5 harg5 arg7 harg7 arg8 harg8 arg10 harg10 arg13 x0 x1 x2 x4 x6 x7 x9)) := rfl

/-- The scratch after the point. -/
theorem scratchA : (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).2.2.1 =
    (push (staged arg1 harg1 arg2 harg2 arg3 harg3 arg4 harg4 arg5 harg5 arg6 harg6 arg7 harg7 arg8 harg8 arg9 harg9 arg10 harg10
      x0 x1 x2 x3 x4 x5 x6 x7 x8 x9) 0 3
      (arg13.view.readCov (kernelRun0_A.sl.HS0_16 c arg1 harg1 arg2 harg2 arg3 harg3 arg5 harg5 arg7 harg7 arg8 harg8 arg10 harg10 arg13 x0 x1 x2 x4 x6 x7 x9) (headRect 3).toLoadRect)
      (kernelRun0_A.sl.HS0_16 c arg1 harg1 arg2 harg2 arg3 harg3 arg5 harg5 arg7 harg7 arg8 harg8 arg10 harg10 arg13 x0 x1 x2 x4 x6 x7 x9)) := rfl

end

end Cert.Ret
-- ==== Proof.Fill.lean ====
module

public import proofs.«01_k».proof.Proof.Carry
public import Idealize.ShloMosaic.Lib.Pipeline.ReadBack
public import proofs.«01_k».proof.Proof.RunA

@[expose] public section

set_option maxRecDepth 16384

noncomputable section

namespace Cert.Ret

open Cert.KernelIdeal Cert.KernelIdeal.Gen Idealize.ShloMosaic Idealize.SL.Sem

variable {F : FTy → Type} [FloatOps F] [Named F]

/-- A load of a head after a fill of the scratch reads the fill. -/
theorem load_fill (a : Memref sig .tc .vmem S4x256x512 .f32) (Z : Vec F S4x256x512 .f32) (h : Fin 4) :
    a.view.readCov [(⟨Rect.unit ![0, 0, 0] S4x256x512.size inb_S4x256x512_S4x256x512_0_0_0, Z⟩ :
      View.Piece (Elt F) S4x256x512 .f32)] (headRect h).toLoadRect = heads Z h := by
  rw [View.readCov_eq_canon', View.canon_cons_unit_lit _ Z [] (by decide)]
  rfl

/-- The scratch is filled first. -/
theorem filled : (kernelRun0_A.sl.HS0_1 : List (View.Piece (Elt F) S4x256x512 .f32)) =
    [⟨Rect.unit ![0, 0, 0] S4x256x512.size inb_S4x256x512_S4x256x512_0_0_0, k0_pay2⟩] := rfl

end Cert.Ret
-- ==== Proof.ScaleA.lean ====
module

public import proofs.«01_k».proof.Proof.Chunk
public import proofs.«01_k».proof.Proof.Gen.KernelIdeal.Frame.RunA

@[expose] public section

set_option maxRecDepth 16384

noncomputable section

namespace Cert.Ret

open Cert.KernelIdeal Cert.KernelIdeal.Gen Idealize.ShloMosaic Idealize.SL.Sem

variable {F : FTy → Type} [FloatOps F] [Named F]

/-! ## The second output at the first point of the grid -/

section
variable (c : Dev nD) (i : grid0.Coords) (arg1 : Memref sig .tc .vmem S256x6144 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S4x64x64 .f32) (harg4 : arg4.IsWhole) (arg5 : Memref sig .tc .vmem S4x64x256 .f32) (harg5 : arg5.IsWhole) (arg6 : Memref sig .tc .vmem S4x64x256 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S4x4x256x512 .bf16) (harg9 : arg9.IsWhole) (arg10 : Memref sig .tc .vmem S256x2048 .f32) (harg10 : arg10.IsWhole) (arg11 : Memref sig .tc .vmem S256x6144 .bf16) (harg11 : arg11.IsWhole) (arg12 : Memref sig .tc .vmem S1x2048 .f32) (harg12 : arg12.IsWhole) (arg13 : Memref sig .tc .vmem S4x256x512 .f32) (harg13 : arg13.IsWhole) (hc0 : cond0_0 i) (hc1 : cond0_1 i) (hc2 : ¬cond0_2 i)
    (x0 : Vec F S256x6144 .f32) (x1 : Vec F S256x128 .f32) (x2 : Vec F S256x128 .f32) (x3 : Vec F S4x64x64 .f32) (x4 : Vec F S4x64x256 .f32) (x5 : Vec F S4x64x256 .f32) (x6 : Vec F S1x2048 .f32) (x7 : Vec F S256x2048 .f32) (x8 : Vec F S4x4x256x512 .bf16) (x9 : Vec F S256x2048 .f32)

set_option maxHeartbeats 8000000 in
/-- The second output. -/
theorem scaleA : (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).2.1 =
    [⟨Rect.unit (s := S1x2048) ![0, 0] S1x2048.size inb_S1x2048_S1x2048_0_0,
      gsBlock (staged arg1 harg1 arg2 harg2 arg3 harg3 arg4 harg4 arg5 harg5 arg6 harg6 arg7 harg7 arg8 harg8 arg9 harg9 arg10 harg10
      x0 x1 x2 x3 x4 x5 x6 x7 x8 x9)⟩] := rfl

end

end Cert.Ret
-- ==== Proof.PointA.lean ====
module

public import proofs.«01_k».proof.Proof.Carry
public import proofs.«01_k».proof.Proof.Fill
public import proofs.«01_k».proof.Proof.RunA
public import proofs.«01_k».proof.Proof.ScaleA

@[expose] public section

set_option maxRecDepth 16384
set_option maxHeartbeats 8000000

noncomputable section

namespace Cert.Ret

open Cert.KernelIdeal Cert.KernelIdeal.Gen Idealize.ShloMosaic Idealize.SL.Sem

variable {F : FTy → Type} [FloatOps F] [Named F]

/-! ## What the first point of the grid leaves, in terms of its blocks -/

section
variable (c : Dev nD) (i : grid0.Coords) (arg1 : Memref sig .tc .vmem S256x6144 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S4x64x64 .f32) (harg4 : arg4.IsWhole) (arg5 : Memref sig .tc .vmem S4x64x256 .f32) (harg5 : arg5.IsWhole) (arg6 : Memref sig .tc .vmem S4x64x256 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S4x4x256x512 .bf16) (harg9 : arg9.IsWhole) (arg10 : Memref sig .tc .vmem S256x2048 .f32) (harg10 : arg10.IsWhole) (arg11 : Memref sig .tc .vmem S256x6144 .bf16) (harg11 : arg11.IsWhole) (arg12 : Memref sig .tc .vmem S1x2048 .f32) (harg12 : arg12.IsWhole) (arg13 : Memref sig .tc .vmem S4x256x512 .f32) (harg13 : arg13.IsWhole) (hc0 : cond0_0 i) (hc1 : cond0_1 i) (hc2 : ¬cond0_2 i)
    (x0 : Vec F S256x6144 .f32) (x1 : Vec F S256x128 .f32) (x2 : Vec F S256x128 .f32) (x3 : Vec F S4x64x64 .f32) (x4 : Vec F S4x64x256 .f32) (x5 : Vec F S4x64x256 .f32) (x6 : Vec F S1x2048 .f32) (x7 : Vec F S256x2048 .f32) (x8 : Vec F S4x4x256x512 .bf16) (x9 : Vec F S256x2048 .f32)

theorem ldA_3_0 : (arg13.view.readCov kernelRun0_A.sl.HS0_1 (headRect 0).toLoadRect) =
    heads (k0_pay2 (F := F)) 0 := by
  rw [filled]
  exact load_fill arg13 (k0_pay2 (F := F)) 0

theorem ldA_3_1 : (arg13.view.readCov (kernelRun0_A.sl.HS0_2 c arg1 harg1 arg2 harg2 arg3 harg3 arg5 harg5 arg7 harg7 arg8 harg8 arg10 harg10 arg13 x0 x1 x2 x4 x6 x7 x9) (headRect 1).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads (k0_pay2 (F := F))) 3 1 := by
  rw [hsA_1 (harg4 := harg4) (harg6 := harg6) (harg9 := harg9) (x3 := x3) (x5 := x5) (x8 := x8), load_skip (by decide)]
  rw [filled]
  exact load_fill arg13 (k0_pay2 (F := F)) 1

theorem ldA_3_2 : (arg13.view.readCov (kernelRun0_A.sl.HS0_3 c arg1 harg1 arg2 harg2 arg3 harg3 arg5 harg5 arg7 harg7 arg8 harg8 arg10 harg10 arg13 x0 x1 x2 x4 x6 x7 x9) (headRect 2).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads (k0_pay2 (F := F))) 3 2 := by
  rw [hsA_2 (harg4 := harg4) (harg6 := harg6) (harg9 := harg9) (x3 := x3) (x5 := x5) (x8 := x8), load_skip (by decide), hsA_1 (harg4 := harg4) (harg6 := harg6) (harg9 := harg9) (x3 := x3) (x5 := x5) (x8 := x8), load_skip (by decide)]
  rw [filled]
  exact load_fill arg13 (k0_pay2 (F := F)) 2

theorem ldA_3_3 : (arg13.view.readCov (kernelRun0_A.sl.HS0_4 c arg1 harg1 arg2 harg2 arg3 harg3 arg5 harg5 arg7 harg7 arg8 harg8 arg10 harg10 arg13 x0 x1 x2 x4 x6 x7 x9) (headRect 3).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads (k0_pay2 (F := F))) 3 3 := by
  rw [hsA_3 (harg4 := harg4) (harg6 := harg6) (harg9 := harg9) (x3 := x3) (x5 := x5) (x8 := x8), load_skip (by decide), hsA_2 (harg4 := harg4) (harg6 := harg6) (harg9 := harg9) (x3 := x3) (x5 := x5) (x8 := x8), load_skip (by decide), hsA_1 (harg4 := harg4) (harg6 := harg6) (harg9 := harg9) (x3 := x3) (x5 := x5) (x8 := x8), load_skip (by decide)]
  rw [filled]
  exact load_fill arg13 (k0_pay2 (F := F)) 3

theorem ldA_2_0 : (arg13.view.readCov (kernelRun0_A.sl.HS0_5 c arg1 harg1 arg2 harg2 arg3 harg3 arg5 harg5 arg7 harg7 arg8 harg8 arg10 harg10 arg13 x0 x1 x2 x4 x6 x7 x9) (headRect 0).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads (k0_pay2 (F := F))) 2 0 := by
  rw [hsA_4 (harg4 := harg4) (harg6 := harg6) (harg9 := harg9) (x3 := x3) (x5 := x5) (x8 := x8),
    load_skip (by decide),
    hsA_3 (harg4 := harg4) (harg6 := harg6) (harg9 := harg9) (x3 := x3) (x5 := x5) (x8 := x8),
    load_skip (by decide),
    hsA_2 (harg4 := harg4) (harg6 := harg6) (harg9 := harg9) (x3 := x3) (x5 := x5) (x8 := x8),
    load_skip (by decide),
    hsA_1 (harg4 := harg4) (harg6 := harg6) (harg9 := harg9) (x3 := x3) (x5 := x5) (x8 := x8),
    load_push,
    ldA_3_0]
  rfl

theorem ldA_2_1 : (arg13.view.readCov (kernelRun0_A.sl.HS0_6 c arg1 harg1 arg2 harg2 arg3 harg3 arg5 harg5 arg7 harg7 arg8 harg8 arg10 harg10 arg13 x0 x1 x2 x4 x6 x7 x9) (headRect 1).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads (k0_pay2 (F := F))) 2 1 := by
  rw [hsA_5 (harg4 := harg4) (harg6 := harg6) (harg9 := harg9) (x3 := x3) (x5 := x5) (x8 := x8),
    load_skip (by decide),
    hsA_4 (harg4 := harg4) (harg6 := harg6) (harg9 := harg9) (x3 := x3) (x5 := x5) (x8 := x8),
    load_skip (by decide),
    hsA_3 (harg4 := harg4) (harg6 := harg6) (harg9 := harg9) (x3 := x3) (x5 := x5) (x8 := x8),
    load_skip (by decide),
    hsA_2 (harg4 := harg4) (harg6 := harg6) (harg9 := harg9) (x3 := x3) (x5 := x5) (x8 := x8),
    load_push,
    ldA_3_1 (harg4 := harg4) (harg6 := harg6) (harg9 := harg9) (x3 := x3) (x5 := x5) (x8 := x8)]
  rfl

theorem ldA_2_2 : (arg13.view.readCov (kernelRun0_A.sl.HS0_7 c arg1 harg1 arg2 harg2 arg3 harg3 arg5 harg5 arg7 harg7 arg8 harg8 arg10 harg10 arg13 x0 x1 x2 x4 x6 x7 x9) (headRect 2).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads (k0_pay2 (F := F))) 2 2 := by
  rw [hsA_6 (harg4 := harg4) (harg6 := harg6) (harg9 := harg9) (x3 := x3) (x5 := x5) (x8 := x8),
    load_skip (by decide),
    hsA_5 (harg4 := harg4) (harg6 := harg6) (harg9 := harg9) (x3 := x3) (x5 := x5) (x8 := x8),
    load_skip (by decide),
    hsA_4 (harg4 := harg4) (harg6 := harg6) (harg9 := harg9) (x3 := x3) (x5 := x5) (x8 := x8),
    load_skip (by decide),
    hsA_3 (harg4 := harg4) (harg6 := harg6) (harg9 := harg9) (x3 := x3) (x5 := x5) (x8 := x8),
    load_push,
    ldA_3_2 (harg4 := harg4) (harg6 := harg6) (harg9 := harg9) (x3 := x3) (x5 := x5) (x8 := x8)]
  rfl

theorem ldA_2_3 : (arg13.view.readCov (kernelRun0_A.sl.HS0_8 c arg1 harg1 arg2 harg2 arg3 harg3 arg5 harg5 arg7 harg7 arg8 harg8 arg10 harg10 arg13 x0 x1 x2 x4 x6 x7 x9) (headRect 3).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads (k0_pay2 (F := F))) 2 3 := by
  rw [hsA_7 (harg4 := harg4) (harg6 := harg6) (harg9 := harg9) (x3 := x3) (x5 := x5) (x8 := x8),
    load_skip (by decide),
    hsA_6 (harg4 := harg4) (harg6 := harg6) (harg9 := harg9) (x3 := x3) (x5 := x5) (x8 := x8),
    load_skip (by decide),
    hsA_5 (harg4 := harg4) (harg6 := harg6) (harg9 := harg9) (x3 := x3) (x5 := x5) (x8 := x8),
    load_skip (by decide),
    hsA_4 (harg4 := harg4) (harg6 := harg6) (harg9 := harg9) (x3 := x3) (x5 := x5) (x8 := x8),
    load_push,
    ldA_3_3 (harg4 := harg4) (harg6 := harg6) (harg9 := harg9) (x3 := x3) (x5 := x5) (x8 := x8)]
  rfl

theorem ldA_1_0 : (arg13.view.readCov (kernelRun0_A.sl.HS0_9 c arg1 harg1 arg2 harg2 arg3 harg3 arg5 harg5 arg7 harg7 arg8 harg8 arg10 harg10 arg13 x0 x1 x2 x4 x6 x7 x9) (headRect 0).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads (k0_pay2 (F := F))) 1 0 := by
  rw [hsA_8 (harg4 := harg4) (harg6 := harg6) (harg9 := harg9) (x3 := x3) (x5 := x5) (x8 := x8),
    load_skip (by decide),
    hsA_7 (harg4 := harg4) (harg6 := harg6) (harg9 := harg9) (x3 := x3) (x5 := x5) (x8 := x8),
    load_skip (by decide),
    hsA_6 (harg4 := harg4) (harg6 := harg6) (harg9 := harg9) (x3 := x3) (x5 := x5) (x8 := x8),
    load_skip (by decide),
    hsA_5 (harg4 := harg4) (harg6 := harg6) (harg9 := harg9) (x3 := x3) (x5 := x5) (x8 := x8),
    load_push,
    ldA_2_0 (harg4 := harg4) (harg6 := harg6) (harg9 := harg9) (x3 := x3) (x5 := x5) (x8 := x8)]
  rfl

theorem ldA_1_1 : (arg13.view.readCov (kernelRun0_A.sl.HS0_10 c arg1 harg1 arg2 harg2 arg3 harg3 arg5 harg5 arg7 harg7 arg8 harg8 arg10 harg10 arg13 x0 x1 x2 x4 x6 x7 x9) (headRect 1).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads (k0_pay2 (F := F))) 1 1 := by
  rw [hsA_9 (harg4 := harg4) (harg6 := harg6) (harg9 := harg9) (x3 := x3) (x5 := x5) (x8 := x8),
    load_skip (by decide),
    hsA_8 (harg4 := harg4) (harg6 := harg6) (harg9 := harg9) (x3 := x3) (x5 := x5) (x8 := x8),
    load_skip (by decide),
    hsA_7 (harg4 := harg4) (harg6 := harg6) (harg9 := harg9) (x3 := x3) (x5 := x5) (x8 := x8),
    load_skip (by decide),
    hsA_6 (harg4 := harg4) (harg6 := harg6) (harg9 := harg9) (x3 := x3) (x5 := x5) (x8 := x8),
    load_push,
    ldA_2_1 (harg4 := harg4) (harg6 := harg6) (harg9 := harg9) (x3 := x3) (x5 := x5) (x8 := x8)]
  rfl

theorem ldA_1_2 : (arg13.view.readCov (kernelRun0_A.sl.HS0_11 c arg1 harg1 arg2 harg2 arg3 harg3 arg5 harg5 arg7 harg7 arg8 harg8 arg10 harg10 arg13 x0 x1 x2 x4 x6 x7 x9) (headRect 2).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads (k0_pay2 (F := F))) 1 2 := by
  rw [hsA_10 (harg4 := harg4) (harg6 := harg6) (harg9 := harg9) (x3 := x3) (x5 := x5) (x8 := x8),
    load_skip (by decide),
    hsA_9 (harg4 := harg4) (harg6 := harg6) (harg9 := harg9) (x3 := x3) (x5 := x5) (x8 := x8),
    load_skip (by decide),
    hsA_8 (harg4 := harg4) (harg6 := harg6) (harg9 := harg9) (x3 := x3) (x5 := x5) (x8 := x8),
    load_skip (by decide),
    hsA_7 (harg4 := harg4) (harg6 := harg6) (harg9 := harg9) (x3 := x3) (x5 := x5) (x8 := x8),
    load_push,
    ldA_2_2 (harg4 := harg4) (harg6 := harg6) (harg9 := harg9) (x3 := x3) (x5 := x5) (x8 := x8)]
  rfl

theorem ldA_1_3 : (arg13.view.readCov (kernelRun0_A.sl.HS0_12 c arg1 harg1 arg2 harg2 arg3 harg3 arg5 harg5 arg7 harg7 arg8 harg8 arg10 harg10 arg13 x0 x1 x2 x4 x6 x7 x9) (headRect 3).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads (k0_pay2 (F := F))) 1 3 := by
  rw [hsA_11 (harg4 := harg4) (harg6 := harg6) (harg9 := harg9) (x3 := x3) (x5 := x5) (x8 := x8),
    load_skip (by decide),
    hsA_10 (harg4 := harg4) (harg6 := harg6) (harg9 := harg9) (x3 := x3) (x5 := x5) (x8 := x8),
    load_skip (by decide),
    hsA_9 (harg4 := harg4) (harg6 := harg6) (harg9 := harg9) (x3 := x3) (x5 := x5) (x8 := x8),
    load_skip (by decide),
    hsA_8 (harg4 := harg4) (harg6 := harg6) (harg9 := harg9) (x3 := x3) (x5 := x5) (x8 := x8),
    load_push,
    ldA_2_3 (harg4 := harg4) (harg6 := harg6) (harg9 := harg9) (x3 := x3) (x5 := x5) (x8 := x8)]
  rfl

theorem ldA_0_0 : (arg13.view.readCov (kernelRun0_A.sl.HS0_13 c arg1 harg1 arg2 harg2 arg3 harg3 arg5 harg5 arg7 harg7 arg8 harg8 arg10 harg10 arg13 x0 x1 x2 x4 x6 x7 x9) (headRect 0).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads (k0_pay2 (F := F))) 0 0 := by
  rw [hsA_12 (harg4 := harg4) (harg6 := harg6) (harg9 := harg9) (x3 := x3) (x5 := x5) (x8 := x8),
    load_skip (by decide),
    hsA_11 (harg4 := harg4) (harg6 := harg6) (harg9 := harg9) (x3 := x3) (x5 := x5) (x8 := x8),
    load_skip (by decide),
    hsA_10 (harg4 := harg4) (harg6 := harg6) (harg9 := harg9) (x3 := x3) (x5 := x5) (x8 := x8),
    load_skip (by decide),
    hsA_9 (harg4 := harg4) (harg6 := harg6) (harg9 := harg9) (x3 := x3) (x5 := x5) (x8 := x8),
    load_push,
    ldA_1_0 (harg4 := harg4) (harg6 := harg6) (harg9 := harg9) (x3 := x3) (x5 := x5) (x8 := x8)]
  rfl

theorem ldA_0_1 : (arg13.view.readCov (kernelRun0_A.sl.HS0_14 c arg1 harg1 arg2 harg2 arg3 harg3 arg5 harg5 arg7 harg7 arg8 harg8 arg10 harg10 arg13 x0 x1 x2 x4 x6 x7 x9) (headRect 1).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads (k0_pay2 (F := F))) 0 1 := by
  rw [hsA_13 (harg4 := harg4) (harg6 := harg6) (harg9 := harg9) (x3 := x3) (x5 := x5) (x8 := x8),
    load_skip (by decide),
    hsA_12 (harg4 := harg4) (harg6 := harg6) (harg9 := harg9) (x3 := x3) (x5 := x5) (x8 := x8),
    load_skip (by decide),
    hsA_11 (harg4 := harg4) (harg6 := harg6) (harg9 := harg9) (x3 := x3) (x5 := x5) (x8 := x8),
    load_skip (by decide),
    hsA_10 (harg4 := harg4) (harg6 := harg6) (harg9 := harg9) (x3 := x3) (x5 := x5) (x8 := x8),
    load_push,
    ldA_1_1 (harg4 := harg4) (harg6 := harg6) (harg9 := harg9) (x3 := x3) (x5 := x5) (x8 := x8)]
  rfl

theorem ldA_0_2 : (arg13.view.readCov (kernelRun0_A.sl.HS0_15 c arg1 harg1 arg2 harg2 arg3 harg3 arg5 harg5 arg7 harg7 arg8 harg8 arg10 harg10 arg13 x0 x1 x2 x4 x6 x7 x9) (headRect 2).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads (k0_pay2 (F := F))) 0 2 := by
  rw [hsA_14 (harg4 := harg4) (harg6 := harg6) (harg9 := harg9) (x3 := x3) (x5 := x5) (x8 := x8),
    load_skip (by decide),
    hsA_13 (harg4 := harg4) (harg6 := harg6) (harg9 := harg9) (x3 := x3) (x5 := x5) (x8 := x8),
    load_skip (by decide),
    hsA_12 (harg4 := harg4) (harg6 := harg6) (harg9 := harg9) (x3 := x3) (x5 := x5) (x8 := x8),
    load_skip (by decide),
    hsA_11 (harg4 := harg4) (harg6 := harg6) (harg9 := harg9) (x3 := x3) (x5 := x5) (x8 := x8),
    load_push,
    ldA_1_2 (harg4 := harg4) (harg6 := harg6) (harg9 := harg9) (x3 := x3) (x5 := x5) (x8 := x8)]
  rfl

theorem ldA_0_3 : (arg13.view.readCov (kernelRun0_A.sl.HS0_16 c arg1 harg1 arg2 harg2 arg3 harg3 arg5 harg5 arg7 harg7 arg8 harg8 arg10 harg10 arg13 x0 x1 x2 x4 x6 x7 x9) (headRect 3).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads (k0_pay2 (F := F))) 0 3 := by
  rw [hsA_15 (harg4 := harg4) (harg6 := harg6) (harg9 := harg9) (x3 := x3) (x5 := x5) (x8 := x8),
    load_skip (by decide),
    hsA_14 (harg4 := harg4) (harg6 := harg6) (harg9 := harg9) (x3 := x3) (x5 := x5) (x8 := x8),
    load_skip (by decide),
    hsA_13 (harg4 := harg4) (harg6 := harg6) (harg9 := harg9) (x3 := x3) (x5 := x5) (x8 := x8),
    load_skip (by decide),
    hsA_12 (harg4 := harg4) (harg6 := harg6) (harg9 := harg9) (x3 := x3) (x5 := x5) (x8 := x8),
    load_push,
    ldA_1_3 (harg4 := harg4) (harg6 := harg6) (harg9 := harg9) (x3 := x3) (x5 := x5) (x8 := x8)]
  rfl

/-- The scratch: the gradient of every head's state before the block. -/
theorem carryA (h : Fin 4) : heads (View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).2.2.1) h =
    front (whole x0 x1 x2 x3 x4 x5 x6 x7 x8 x9) (heads (k0_pay2 (F := F))) h := by
  rw [← staged_eq arg1 harg1 arg2 harg2 arg3 harg3 arg4 harg4 arg5 harg5 arg6 harg6 arg7 harg7 arg8
    harg8 arg9 harg9 arg10 harg10]
  have e : heads (View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).2.2.1) h =
      arg13.view.readCov (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).2.2.1 (headRect h).toLoadRect :=
    (View.readCov_eq_canon' arg13.view (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).2.2.1 (headRect h).toLoadRect).symm
  rw [e, scratchA]
  clear e
  match h with
  | ⟨0, _⟩ =>
    refine Eq.trans (b := _) ?_ rfl
    show arg13.view.readCov _ (headRect 0).toLoadRect = _
    rw [load_skip (by decide), hsA_15 (harg4 := harg4) (harg6 := harg6) (harg9 := harg9) (x3 := x3) (x5 := x5) (x8 := x8), load_skip (by decide), hsA_14 (harg4 := harg4) (harg6 := harg6) (harg9 := harg9) (x3 := x3) (x5 := x5) (x8 := x8), load_skip (by decide), hsA_13 (harg4 := harg4) (harg6 := harg6) (harg9 := harg9) (x3 := x3) (x5 := x5) (x8 := x8), load_push, ldA_0_0 (harg4 := harg4) (harg6 := harg6) (harg9 := harg9) (x3 := x3) (x5 := x5) (x8 := x8)]
    rfl
  | ⟨1, _⟩ =>
    refine Eq.trans (b := _) ?_ rfl
    show arg13.view.readCov _ (headRect 1).toLoadRect = _
    rw [load_skip (by decide), hsA_15 (harg4 := harg4) (harg6 := harg6) (harg9 := harg9) (x3 := x3) (x5 := x5) (x8 := x8), load_skip (by decide), hsA_14 (harg4 := harg4) (harg6 := harg6) (harg9 := harg9) (x3 := x3) (x5 := x5) (x8 := x8), load_push, ldA_0_1 (harg4 := harg4) (harg6 := harg6) (harg9 := harg9) (x3 := x3) (x5 := x5) (x8 := x8)]
    rfl
  | ⟨2, _⟩ =>
    refine Eq.trans (b := _) ?_ rfl
    show arg13.view.readCov _ (headRect 2).toLoadRect = _
    rw [load_skip (by decide), hsA_15 (harg4 := harg4) (harg6 := harg6) (harg9 := harg9) (x3 := x3) (x5 := x5) (x8 := x8), load_push, ldA_0_2 (harg4 := harg4) (harg6 := harg6) (harg9 := harg9) (x3 := x3) (x5 := x5) (x8 := x8)]
    rfl
  | ⟨3, _⟩ =>
    refine Eq.trans (b := _) ?_ rfl
    show arg13.view.readCov _ (headRect 3).toLoadRect = _
    rw [load_push, ldA_0_3 (harg4 := harg4) (harg6 := harg6) (harg9 := harg9) (x3 := x3) (x5 := x5) (x8 := x8)]
    rfl

/-- The second output: the block's part. -/
theorem scalesA : View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).2.1 =
    gsBlock (whole x0 x1 x2 x3 x4 x5 x6 x7 x8 x9) := by
  rw [scaleA, staged_eq, View.canon_cons_unit_lit inb_S1x2048_S1x2048_0_0 _ [] (by decide)]

end

end Cert.Ret
-- ==== Proof.TilesA0.lean ====
module

public import proofs.«01_k».proof.Proof.Chunk
public import proofs.«01_k».proof.Proof.Gen.KernelIdeal.Frame.RunA

@[expose] public section

set_option maxRecDepth 16384
set_option maxHeartbeats 8000000

noncomputable section

namespace Cert.Ret

open Cert.KernelIdeal Cert.KernelIdeal.Gen Idealize.ShloMosaic Idealize.SL.Sem

variable {F : FTy → Type} [FloatOps F] [Named F]

/-! ## The tiles of chunk 0 of the first output at the first point of the grid -/

section
variable (c : Dev nD) (i : grid0.Coords) (arg1 : Memref sig .tc .vmem S256x6144 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S4x64x64 .f32) (harg4 : arg4.IsWhole) (arg5 : Memref sig .tc .vmem S4x64x256 .f32) (harg5 : arg5.IsWhole) (arg6 : Memref sig .tc .vmem S4x64x256 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S4x4x256x512 .bf16) (harg9 : arg9.IsWhole) (arg10 : Memref sig .tc .vmem S256x2048 .f32) (harg10 : arg10.IsWhole) (arg11 : Memref sig .tc .vmem S256x6144 .bf16) (harg11 : arg11.IsWhole) (arg12 : Memref sig .tc .vmem S1x2048 .f32) (harg12 : arg12.IsWhole) (arg13 : Memref sig .tc .vmem S4x256x512 .f32) (harg13 : arg13.IsWhole) (hc0 : cond0_0 i) (hc1 : cond0_1 i) (hc2 : ¬cond0_2 i)
    (x0 : Vec F S256x6144 .f32) (x1 : Vec F S256x128 .f32) (x2 : Vec F S256x128 .f32) (x3 : Vec F S4x64x64 .f32) (x4 : Vec F S4x64x256 .f32) (x5 : Vec F S4x64x256 .f32) (x6 : Vec F S1x2048 .f32) (x7 : Vec F S256x2048 .f32) (x8 : Vec F S4x4x256x512 .bf16) (x9 : Vec F S256x2048 .f32)

/-- The tiles of head 3. -/
theorem tilesA_0_3 : List.take 4 (List.drop 0 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (staged arg1 harg1 arg2 harg2 arg3 harg3 arg4 harg4 arg5 harg5 arg6 harg6 arg7 harg7 arg8 harg8 arg9 harg9 arg10 harg10
      x0 x1 x2 x3 x4 x5 x6 x7 x8 x9) 0 3
      (arg13.view.readCov (kernelRun0_A.sl.HS0_16 c arg1 harg1 arg2 harg2 arg3 harg3 arg5 harg5 arg7 harg7 arg8 harg8 arg10 harg10 arg13 x0 x1 x2 x4 x6 x7 x9) (headRect 3).toLoadRect) := rfl

/-- The tiles of head 2. -/
theorem tilesA_0_2 : List.take 4 (List.drop 4 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (staged arg1 harg1 arg2 harg2 arg3 harg3 arg4 harg4 arg5 harg5 arg6 harg6 arg7 harg7 arg8 harg8 arg9 harg9 arg10 harg10
      x0 x1 x2 x3 x4 x5 x6 x7 x8 x9) 0 2
      (arg13.view.readCov (kernelRun0_A.sl.HS0_15 c arg1 harg1 arg2 harg2 arg3 harg3 arg5 harg5 arg7 harg7 arg8 harg8 arg10 harg10 arg13 x0 x1 x2 x4 x6 x7 x9) (headRect 2).toLoadRect) := rfl

/-- The tiles of head 1. -/
theorem tilesA_0_1 : List.take 4 (List.drop 8 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (staged arg1 harg1 arg2 harg2 arg3 harg3 arg4 harg4 arg5 harg5 arg6 harg6 arg7 harg7 arg8 harg8 arg9 harg9 arg10 harg10
      x0 x1 x2 x3 x4 x5 x6 x7 x8 x9) 0 1
      (arg13.view.readCov (kernelRun0_A.sl.HS0_14 c arg1 harg1 arg2 harg2 arg3 harg3 arg5 harg5 arg7 harg7 arg8 harg8 arg10 harg10 arg13 x0 x1 x2 x4 x6 x7 x9) (headRect 1).toLoadRect) := rfl

/-- The tiles of head 0. -/
theorem tilesA_0_0 : List.take 4 (List.drop 12 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (staged arg1 harg1 arg2 harg2 arg3 harg3 arg4 harg4 arg5 harg5 arg6 harg6 arg7 harg7 arg8 harg8 arg9 harg9 arg10 harg10
      x0 x1 x2 x3 x4 x5 x6 x7 x8 x9) 0 0
      (arg13.view.readCov (kernelRun0_A.sl.HS0_13 c arg1 harg1 arg2 harg2 arg3 harg3 arg5 harg5 arg7 harg7 arg8 harg8 arg10 harg10 arg13 x0 x1 x2 x4 x6 x7 x9) (headRect 0).toLoadRect) := rfl

end

end Cert.Ret
-- ==== Proof.TilesA1.lean ====
module

public import proofs.«01_k».proof.Proof.Chunk
public import proofs.«01_k».proof.Proof.Gen.KernelIdeal.Frame.RunA

@[expose] public section

set_option maxRecDepth 16384
set_option maxHeartbeats 8000000

noncomputable section

namespace Cert.Ret

open Cert.KernelIdeal Cert.KernelIdeal.Gen Idealize.ShloMosaic Idealize.SL.Sem

variable {F : FTy → Type} [FloatOps F] [Named F]

/-! ## The tiles of chunk 1 of the first output at the first point of the grid -/

section
variable (c : Dev nD) (i : grid0.Coords) (arg1 : Memref sig .tc .vmem S256x6144 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S4x64x64 .f32) (harg4 : arg4.IsWhole) (arg5 : Memref sig .tc .vmem S4x64x256 .f32) (harg5 : arg5.IsWhole) (arg6 : Memref sig .tc .vmem S4x64x256 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S4x4x256x512 .bf16) (harg9 : arg9.IsWhole) (arg10 : Memref sig .tc .vmem S256x2048 .f32) (harg10 : arg10.IsWhole) (arg11 : Memref sig .tc .vmem S256x6144 .bf16) (harg11 : arg11.IsWhole) (arg12 : Memref sig .tc .vmem S1x2048 .f32) (harg12 : arg12.IsWhole) (arg13 : Memref sig .tc .vmem S4x256x512 .f32) (harg13 : arg13.IsWhole) (hc0 : cond0_0 i) (hc1 : cond0_1 i) (hc2 : ¬cond0_2 i)
    (x0 : Vec F S256x6144 .f32) (x1 : Vec F S256x128 .f32) (x2 : Vec F S256x128 .f32) (x3 : Vec F S4x64x64 .f32) (x4 : Vec F S4x64x256 .f32) (x5 : Vec F S4x64x256 .f32) (x6 : Vec F S1x2048 .f32) (x7 : Vec F S256x2048 .f32) (x8 : Vec F S4x4x256x512 .bf16) (x9 : Vec F S256x2048 .f32)

/-- The tiles of head 3. -/
theorem tilesA_1_3 : List.take 4 (List.drop 16 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (staged arg1 harg1 arg2 harg2 arg3 harg3 arg4 harg4 arg5 harg5 arg6 harg6 arg7 harg7 arg8 harg8 arg9 harg9 arg10 harg10
      x0 x1 x2 x3 x4 x5 x6 x7 x8 x9) 1 3
      (arg13.view.readCov (kernelRun0_A.sl.HS0_12 c arg1 harg1 arg2 harg2 arg3 harg3 arg5 harg5 arg7 harg7 arg8 harg8 arg10 harg10 arg13 x0 x1 x2 x4 x6 x7 x9) (headRect 3).toLoadRect) := rfl

/-- The tiles of head 2. -/
theorem tilesA_1_2 : List.take 4 (List.drop 20 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (staged arg1 harg1 arg2 harg2 arg3 harg3 arg4 harg4 arg5 harg5 arg6 harg6 arg7 harg7 arg8 harg8 arg9 harg9 arg10 harg10
      x0 x1 x2 x3 x4 x5 x6 x7 x8 x9) 1 2
      (arg13.view.readCov (kernelRun0_A.sl.HS0_11 c arg1 harg1 arg2 harg2 arg3 harg3 arg5 harg5 arg7 harg7 arg8 harg8 arg10 harg10 arg13 x0 x1 x2 x4 x6 x7 x9) (headRect 2).toLoadRect) := rfl

/-- The tiles of head 1. -/
theorem tilesA_1_1 : List.take 4 (List.drop 24 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (staged arg1 harg1 arg2 harg2 arg3 harg3 arg4 harg4 arg5 harg5 arg6 harg6 arg7 harg7 arg8 harg8 arg9 harg9 arg10 harg10
      x0 x1 x2 x3 x4 x5 x6 x7 x8 x9) 1 1
      (arg13.view.readCov (kernelRun0_A.sl.HS0_10 c arg1 harg1 arg2 harg2 arg3 harg3 arg5 harg5 arg7 harg7 arg8 harg8 arg10 harg10 arg13 x0 x1 x2 x4 x6 x7 x9) (headRect 1).toLoadRect) := rfl

/-- The tiles of head 0. -/
theorem tilesA_1_0 : List.take 4 (List.drop 28 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (staged arg1 harg1 arg2 harg2 arg3 harg3 arg4 harg4 arg5 harg5 arg6 harg6 arg7 harg7 arg8 harg8 arg9 harg9 arg10 harg10
      x0 x1 x2 x3 x4 x5 x6 x7 x8 x9) 1 0
      (arg13.view.readCov (kernelRun0_A.sl.HS0_9 c arg1 harg1 arg2 harg2 arg3 harg3 arg5 harg5 arg7 harg7 arg8 harg8 arg10 harg10 arg13 x0 x1 x2 x4 x6 x7 x9) (headRect 0).toLoadRect) := rfl

end

end Cert.Ret
-- ==== Proof.TilesA2.lean ====
module

public import proofs.«01_k».proof.Proof.Chunk
public import proofs.«01_k».proof.Proof.Gen.KernelIdeal.Frame.RunA

@[expose] public section

set_option maxRecDepth 16384
set_option maxHeartbeats 8000000

noncomputable section

namespace Cert.Ret

open Cert.KernelIdeal Cert.KernelIdeal.Gen Idealize.ShloMosaic Idealize.SL.Sem

variable {F : FTy → Type} [FloatOps F] [Named F]

/-! ## The tiles of chunk 2 of the first output at the first point of the grid -/

section
variable (c : Dev nD) (i : grid0.Coords) (arg1 : Memref sig .tc .vmem S256x6144 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S4x64x64 .f32) (harg4 : arg4.IsWhole) (arg5 : Memref sig .tc .vmem S4x64x256 .f32) (harg5 : arg5.IsWhole) (arg6 : Memref sig .tc .vmem S4x64x256 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S4x4x256x512 .bf16) (harg9 : arg9.IsWhole) (arg10 : Memref sig .tc .vmem S256x2048 .f32) (harg10 : arg10.IsWhole) (arg11 : Memref sig .tc .vmem S256x6144 .bf16) (harg11 : arg11.IsWhole) (arg12 : Memref sig .tc .vmem S1x2048 .f32) (harg12 : arg12.IsWhole) (arg13 : Memref sig .tc .vmem S4x256x512 .f32) (harg13 : arg13.IsWhole) (hc0 : cond0_0 i) (hc1 : cond0_1 i) (hc2 : ¬cond0_2 i)
    (x0 : Vec F S256x6144 .f32) (x1 : Vec F S256x128 .f32) (x2 : Vec F S256x128 .f32) (x3 : Vec F S4x64x64 .f32) (x4 : Vec F S4x64x256 .f32) (x5 : Vec F S4x64x256 .f32) (x6 : Vec F S1x2048 .f32) (x7 : Vec F S256x2048 .f32) (x8 : Vec F S4x4x256x512 .bf16) (x9 : Vec F S256x2048 .f32)

/-- The tiles of head 3. -/
theorem tilesA_2_3 : List.take 4 (List.drop 32 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (staged arg1 harg1 arg2 harg2 arg3 harg3 arg4 harg4 arg5 harg5 arg6 harg6 arg7 harg7 arg8 harg8 arg9 harg9 arg10 harg10
      x0 x1 x2 x3 x4 x5 x6 x7 x8 x9) 2 3
      (arg13.view.readCov (kernelRun0_A.sl.HS0_8 c arg1 harg1 arg2 harg2 arg3 harg3 arg5 harg5 arg7 harg7 arg8 harg8 arg10 harg10 arg13 x0 x1 x2 x4 x6 x7 x9) (headRect 3).toLoadRect) := rfl

/-- The tiles of head 2. -/
theorem tilesA_2_2 : List.take 4 (List.drop 36 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (staged arg1 harg1 arg2 harg2 arg3 harg3 arg4 harg4 arg5 harg5 arg6 harg6 arg7 harg7 arg8 harg8 arg9 harg9 arg10 harg10
      x0 x1 x2 x3 x4 x5 x6 x7 x8 x9) 2 2
      (arg13.view.readCov (kernelRun0_A.sl.HS0_7 c arg1 harg1 arg2 harg2 arg3 harg3 arg5 harg5 arg7 harg7 arg8 harg8 arg10 harg10 arg13 x0 x1 x2 x4 x6 x7 x9) (headRect 2).toLoadRect) := rfl

/-- The tiles of head 1. -/
theorem tilesA_2_1 : List.take 4 (List.drop 40 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (staged arg1 harg1 arg2 harg2 arg3 harg3 arg4 harg4 arg5 harg5 arg6 harg6 arg7 harg7 arg8 harg8 arg9 harg9 arg10 harg10
      x0 x1 x2 x3 x4 x5 x6 x7 x8 x9) 2 1
      (arg13.view.readCov (kernelRun0_A.sl.HS0_6 c arg1 harg1 arg2 harg2 arg3 harg3 arg5 harg5 arg7 harg7 arg8 harg8 arg10 harg10 arg13 x0 x1 x2 x4 x6 x7 x9) (headRect 1).toLoadRect) := rfl

/-- The tiles of head 0. -/
theorem tilesA_2_0 : List.take 4 (List.drop 44 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (staged arg1 harg1 arg2 harg2 arg3 harg3 arg4 harg4 arg5 harg5 arg6 harg6 arg7 harg7 arg8 harg8 arg9 harg9 arg10 harg10
      x0 x1 x2 x3 x4 x5 x6 x7 x8 x9) 2 0
      (arg13.view.readCov (kernelRun0_A.sl.HS0_5 c arg1 harg1 arg2 harg2 arg3 harg3 arg5 harg5 arg7 harg7 arg8 harg8 arg10 harg10 arg13 x0 x1 x2 x4 x6 x7 x9) (headRect 0).toLoadRect) := rfl

end

end Cert.Ret
-- ==== Proof.TilesA3.lean ====
module

public import proofs.«01_k».proof.Proof.Chunk
public import proofs.«01_k».proof.Proof.Gen.KernelIdeal.Frame.RunA

@[expose] public section

set_option maxRecDepth 16384
set_option maxHeartbeats 8000000

noncomputable section

namespace Cert.Ret

open Cert.KernelIdeal Cert.KernelIdeal.Gen Idealize.ShloMosaic Idealize.SL.Sem

variable {F : FTy → Type} [FloatOps F] [Named F]

/-! ## The tiles of chunk 3 of the first output at the first point of the grid -/

section
variable (c : Dev nD) (i : grid0.Coords) (arg1 : Memref sig .tc .vmem S256x6144 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S4x64x64 .f32) (harg4 : arg4.IsWhole) (arg5 : Memref sig .tc .vmem S4x64x256 .f32) (harg5 : arg5.IsWhole) (arg6 : Memref sig .tc .vmem S4x64x256 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S4x4x256x512 .bf16) (harg9 : arg9.IsWhole) (arg10 : Memref sig .tc .vmem S256x2048 .f32) (harg10 : arg10.IsWhole) (arg11 : Memref sig .tc .vmem S256x6144 .bf16) (harg11 : arg11.IsWhole) (arg12 : Memref sig .tc .vmem S1x2048 .f32) (harg12 : arg12.IsWhole) (arg13 : Memref sig .tc .vmem S4x256x512 .f32) (harg13 : arg13.IsWhole) (hc0 : cond0_0 i) (hc1 : cond0_1 i) (hc2 : ¬cond0_2 i)
    (x0 : Vec F S256x6144 .f32) (x1 : Vec F S256x128 .f32) (x2 : Vec F S256x128 .f32) (x3 : Vec F S4x64x64 .f32) (x4 : Vec F S4x64x256 .f32) (x5 : Vec F S4x64x256 .f32) (x6 : Vec F S1x2048 .f32) (x7 : Vec F S256x2048 .f32) (x8 : Vec F S4x4x256x512 .bf16) (x9 : Vec F S256x2048 .f32)

/-- The tiles of head 3. -/
theorem tilesA_3_3 : List.take 4 (List.drop 48 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (staged arg1 harg1 arg2 harg2 arg3 harg3 arg4 harg4 arg5 harg5 arg6 harg6 arg7 harg7 arg8 harg8 arg9 harg9 arg10 harg10
      x0 x1 x2 x3 x4 x5 x6 x7 x8 x9) 3 3
      (arg13.view.readCov (kernelRun0_A.sl.HS0_4 c arg1 harg1 arg2 harg2 arg3 harg3 arg5 harg5 arg7 harg7 arg8 harg8 arg10 harg10 arg13 x0 x1 x2 x4 x6 x7 x9) (headRect 3).toLoadRect) := rfl

/-- The tiles of head 2. -/
theorem tilesA_3_2 : List.take 4 (List.drop 52 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (staged arg1 harg1 arg2 harg2 arg3 harg3 arg4 harg4 arg5 harg5 arg6 harg6 arg7 harg7 arg8 harg8 arg9 harg9 arg10 harg10
      x0 x1 x2 x3 x4 x5 x6 x7 x8 x9) 3 2
      (arg13.view.readCov (kernelRun0_A.sl.HS0_3 c arg1 harg1 arg2 harg2 arg3 harg3 arg5 harg5 arg7 harg7 arg8 harg8 arg10 harg10 arg13 x0 x1 x2 x4 x6 x7 x9) (headRect 2).toLoadRect) := rfl

/-- The tiles of head 1. -/
theorem tilesA_3_1 : List.take 4 (List.drop 56 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (staged arg1 harg1 arg2 harg2 arg3 harg3 arg4 harg4 arg5 harg5 arg6 harg6 arg7 harg7 arg8 harg8 arg9 harg9 arg10 harg10
      x0 x1 x2 x3 x4 x5 x6 x7 x8 x9) 3 1
      (arg13.view.readCov (kernelRun0_A.sl.HS0_2 c arg1 harg1 arg2 harg2 arg3 harg3 arg5 harg5 arg7 harg7 arg8 harg8 arg10 harg10 arg13 x0 x1 x2 x4 x6 x7 x9) (headRect 1).toLoadRect) := rfl

/-- The tiles of head 0. -/
theorem tilesA_3_0 : List.take 4 (List.drop 60 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (staged arg1 harg1 arg2 harg2 arg3 harg3 arg4 harg4 arg5 harg5 arg6 harg6 arg7 harg7 arg8 harg8 arg9 harg9 arg10 harg10
      x0 x1 x2 x3 x4 x5 x6 x7 x8 x9) 3 0
      (arg13.view.readCov kernelRun0_A.sl.HS0_1 (headRect 0).toLoadRect) := rfl

end

end Cert.Ret
-- ==== Proof.OutA.lean ====
module

public import proofs.«01_k».proof.Proof.Sixteen
public import proofs.«01_k».proof.Proof.PointA
public import proofs.«01_k».proof.Proof.TilesA0
public import proofs.«01_k».proof.Proof.TilesA1
public import proofs.«01_k».proof.Proof.TilesA2
public import proofs.«01_k».proof.Proof.TilesA3

@[expose] public section

set_option maxRecDepth 16384
set_option maxHeartbeats 8000000

noncomputable section

namespace Cert.Ret

open Cert.KernelIdeal Cert.KernelIdeal.Gen Idealize.ShloMosaic Idealize.SL.Sem

variable {F : FTy → Type} [FloatOps F] [Named F]

/-! ## The first output that the first point of the grid leaves, in terms of its blocks -/

section
variable (c : Dev nD) (i : grid0.Coords) (arg1 : Memref sig .tc .vmem S256x6144 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S4x64x64 .f32) (harg4 : arg4.IsWhole) (arg5 : Memref sig .tc .vmem S4x64x256 .f32) (harg5 : arg5.IsWhole) (arg6 : Memref sig .tc .vmem S4x64x256 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S4x4x256x512 .bf16) (harg9 : arg9.IsWhole) (arg10 : Memref sig .tc .vmem S256x2048 .f32) (harg10 : arg10.IsWhole) (arg11 : Memref sig .tc .vmem S256x6144 .bf16) (harg11 : arg11.IsWhole) (arg12 : Memref sig .tc .vmem S1x2048 .f32) (harg12 : arg12.IsWhole) (arg13 : Memref sig .tc .vmem S4x256x512 .f32) (harg13 : arg13.IsWhole) (hc0 : cond0_0 i) (hc1 : cond0_1 i) (hc2 : ¬cond0_2 i)
    (x0 : Vec F S256x6144 .f32) (x1 : Vec F S256x128 .f32) (x2 : Vec F S256x128 .f32) (x3 : Vec F S4x64x64 .f32) (x4 : Vec F S4x64x256 .f32) (x5 : Vec F S4x64x256 .f32) (x6 : Vec F S1x2048 .f32) (x7 : Vec F S256x2048 .f32) (x8 : Vec F S4x4x256x512 .bf16) (x9 : Vec F S256x2048 .f32)

/-- The tiles of chunk 3, head 0. -/
theorem partA_3_0 : List.take 4 (List.drop 60 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (whole x0 x1 x2 x3 x4 x5 x6 x7 x8 x9) 3 0 (back (whole x0 x1 x2 x3 x4 x5 x6 x7 x8 x9) (heads (k0_pay2 (F := F))) 3 0) := by
  refine (tilesA_3_0 ..).trans ?_
  rw [ldA_3_0, staged_eq]
  rfl

/-- The tiles of chunk 3, head 1. -/
theorem partA_3_1 : List.take 4 (List.drop 56 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (whole x0 x1 x2 x3 x4 x5 x6 x7 x8 x9) 3 1 (back (whole x0 x1 x2 x3 x4 x5 x6 x7 x8 x9) (heads (k0_pay2 (F := F))) 3 1) := by
  refine (tilesA_3_1 ..).trans ?_
  rw [ldA_3_1 (harg4 := harg4) (harg6 := harg6) (harg9 := harg9) (x3 := x3) (x5 := x5) (x8 := x8), staged_eq]

/-- The tiles of chunk 3, head 2. -/
theorem partA_3_2 : List.take 4 (List.drop 52 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (whole x0 x1 x2 x3 x4 x5 x6 x7 x8 x9) 3 2 (back (whole x0 x1 x2 x3 x4 x5 x6 x7 x8 x9) (heads (k0_pay2 (F := F))) 3 2) := by
  refine (tilesA_3_2 ..).trans ?_
  rw [ldA_3_2 (harg4 := harg4) (harg6 := harg6) (harg9 := harg9) (x3 := x3) (x5 := x5) (x8 := x8), staged_eq]

/-- The tiles of chunk 3, head 3. -/
theorem partA_3_3 : List.take 4 (List.drop 48 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (whole x0 x1 x2 x3 x4 x5 x6 x7 x8 x9) 3 3 (back (whole x0 x1 x2 x3 x4 x5 x6 x7 x8 x9) (heads (k0_pay2 (F := F))) 3 3) := by
  refine (tilesA_3_3 ..).trans ?_
  rw [ldA_3_3 (harg4 := harg4) (harg6 := harg6) (harg9 := harg9) (x3 := x3) (x5 := x5) (x8 := x8), staged_eq]

/-- The tiles of chunk 2, head 0. -/
theorem partA_2_0 : List.take 4 (List.drop 44 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (whole x0 x1 x2 x3 x4 x5 x6 x7 x8 x9) 2 0 (back (whole x0 x1 x2 x3 x4 x5 x6 x7 x8 x9) (heads (k0_pay2 (F := F))) 2 0) := by
  refine (tilesA_2_0 ..).trans ?_
  rw [ldA_2_0 (harg4 := harg4) (harg6 := harg6) (harg9 := harg9) (x3 := x3) (x5 := x5) (x8 := x8), staged_eq]

/-- The tiles of chunk 2, head 1. -/
theorem partA_2_1 : List.take 4 (List.drop 40 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (whole x0 x1 x2 x3 x4 x5 x6 x7 x8 x9) 2 1 (back (whole x0 x1 x2 x3 x4 x5 x6 x7 x8 x9) (heads (k0_pay2 (F := F))) 2 1) := by
  refine (tilesA_2_1 ..).trans ?_
  rw [ldA_2_1 (harg4 := harg4) (harg6 := harg6) (harg9 := harg9) (x3 := x3) (x5 := x5) (x8 := x8), staged_eq]

/-- The tiles of chunk 2, head 2. -/
theorem partA_2_2 : List.take 4 (List.drop 36 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (whole x0 x1 x2 x3 x4 x5 x6 x7 x8 x9) 2 2 (back (whole x0 x1 x2 x3 x4 x5 x6 x7 x8 x9) (heads (k0_pay2 (F := F))) 2 2) := by
  refine (tilesA_2_2 ..).trans ?_
  rw [ldA_2_2 (harg4 := harg4) (harg6 := harg6) (harg9 := harg9) (x3 := x3) (x5 := x5) (x8 := x8), staged_eq]

/-- The tiles of chunk 2, head 3. -/
theorem partA_2_3 : List.take 4 (List.drop 32 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (whole x0 x1 x2 x3 x4 x5 x6 x7 x8 x9) 2 3 (back (whole x0 x1 x2 x3 x4 x5 x6 x7 x8 x9) (heads (k0_pay2 (F := F))) 2 3) := by
  refine (tilesA_2_3 ..).trans ?_
  rw [ldA_2_3 (harg4 := harg4) (harg6 := harg6) (harg9 := harg9) (x3 := x3) (x5 := x5) (x8 := x8), staged_eq]

/-- The tiles of chunk 1, head 0. -/
theorem partA_1_0 : List.take 4 (List.drop 28 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (whole x0 x1 x2 x3 x4 x5 x6 x7 x8 x9) 1 0 (back (whole x0 x1 x2 x3 x4 x5 x6 x7 x8 x9) (heads (k0_pay2 (F := F))) 1 0) := by
  refine (tilesA_1_0 ..).trans ?_
  rw [ldA_1_0 (harg4 := harg4) (harg6 := harg6) (harg9 := harg9) (x3 := x3) (x5 := x5) (x8 := x8), staged_eq]

/-- The tiles of chunk 1, head 1. -/
theorem partA_1_1 : List.take 4 (List.drop 24 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (whole x0 x1 x2 x3 x4 x5 x6 x7 x8 x9) 1 1 (back (whole x0 x1 x2 x3 x4 x5 x6 x7 x8 x9) (heads (k0_pay2 (F := F))) 1 1) := by
  refine (tilesA_1_1 ..).trans ?_
  rw [ldA_1_1 (harg4 := harg4) (harg6 := harg6) (harg9 := harg9) (x3 := x3) (x5 := x5) (x8 := x8), staged_eq]

/-- The tiles of chunk 1, head 2. -/
theorem partA_1_2 : List.take 4 (List.drop 20 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (whole x0 x1 x2 x3 x4 x5 x6 x7 x8 x9) 1 2 (back (whole x0 x1 x2 x3 x4 x5 x6 x7 x8 x9) (heads (k0_pay2 (F := F))) 1 2) := by
  refine (tilesA_1_2 ..).trans ?_
  rw [ldA_1_2 (harg4 := harg4) (harg6 := harg6) (harg9 := harg9) (x3 := x3) (x5 := x5) (x8 := x8), staged_eq]

/-- The tiles of chunk 1, head 3. -/
theorem partA_1_3 : List.take 4 (List.drop 16 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (whole x0 x1 x2 x3 x4 x5 x6 x7 x8 x9) 1 3 (back (whole x0 x1 x2 x3 x4 x5 x6 x7 x8 x9) (heads (k0_pay2 (F := F))) 1 3) := by
  refine (tilesA_1_3 ..).trans ?_
  rw [ldA_1_3 (harg4 := harg4) (harg6 := harg6) (harg9 := harg9) (x3 := x3) (x5 := x5) (x8 := x8), staged_eq]

/-- The tiles of chunk 0, head 0. -/
theorem partA_0_0 : List.take 4 (List.drop 12 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (whole x0 x1 x2 x3 x4 x5 x6 x7 x8 x9) 0 0 (back (whole x0 x1 x2 x3 x4 x5 x6 x7 x8 x9) (heads (k0_pay2 (F := F))) 0 0) := by
  refine (tilesA_0_0 ..).trans ?_
  rw [ldA_0_0 (harg4 := harg4) (harg6 := harg6) (harg9 := harg9) (x3 := x3) (x5 := x5) (x8 := x8), staged_eq]

/-- The tiles of chunk 0, head 1. -/
theorem partA_0_1 : List.take 4 (List.drop 8 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (whole x0 x1 x2 x3 x4 x5 x6 x7 x8 x9) 0 1 (back (whole x0 x1 x2 x3 x4 x5 x6 x7 x8 x9) (heads (k0_pay2 (F := F))) 0 1) := by
  refine (tilesA_0_1 ..).trans ?_
  rw [ldA_0_1 (harg4 := harg4) (harg6 := harg6) (harg9 := harg9) (x3 := x3) (x5 := x5) (x8 := x8), staged_eq]

/-- The tiles of chunk 0, head 2. -/
theorem partA_0_2 : List.take 4 (List.drop 4 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (whole x0 x1 x2 x3 x4 x5 x6 x7 x8 x9) 0 2 (back (whole x0 x1 x2 x3 x4 x5 x6 x7 x8 x9) (heads (k0_pay2 (F := F))) 0 2) := by
  refine (tilesA_0_2 ..).trans ?_
  rw [ldA_0_2 (harg4 := harg4) (harg6 := harg6) (harg9 := harg9) (x3 := x3) (x5 := x5) (x8 := x8), staged_eq]

/-- The tiles of chunk 0, head 3. -/
theorem partA_0_3 : List.take 4 (List.drop 0 (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1) =
    tiles (whole x0 x1 x2 x3 x4 x5 x6 x7 x8 x9) 0 3 (back (whole x0 x1 x2 x3 x4 x5 x6 x7 x8 x9) (heads (k0_pay2 (F := F))) 0 3) := by
  refine (tilesA_0_3 ..).trans ?_
  rw [ldA_0_3 (harg4 := harg4) (harg6 := harg6) (harg9 := harg9) (x3 := x3) (x5 := x5) (x8 := x8), staged_eq]

/-- The first output has sixty-four tiles. -/
theorem countA : (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1.length = 64 := rfl

/-- The first output: the tiles, each from the state's gradient carried to its chunk. -/
theorem outA : View.canon (kernelRun0_A c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9).1 =
    View.canon (allTiles (whole x0 x1 x2 x3 x4 x5 x6 x7 x8 x9) (heads (k0_pay2 (F := F)))) :=
  congrArg View.canon (sixteen _ (countA ..)
    (partA_0_3 ..)
    (partA_0_2 ..)
    (partA_0_1 ..)
    (partA_0_0 ..)
    (partA_1_3 ..)
    (partA_1_2 ..)
    (partA_1_1 ..)
    (partA_1_0 ..)
    (partA_2_3 ..)
    (partA_2_2 ..)
    (partA_2_1 ..)
    (partA_2_0 ..)
    (partA_3_3 ..)
    (partA_3_2 ..)
    (partA_3_1 ..)
    (partA_3_0 ..))

end

end Cert.Ret
-- ==== Proof.RunB.lean ====
module

public import proofs.«01_k».proof.Proof.Chunk
public import proofs.«01_k».proof.Proof.Gen.KernelIdeal.Frame.RunB

@[expose] public section

set_option maxRecDepth 16384
set_option maxHeartbeats 8000000

noncomputable section

namespace Cert.Ret

open Cert.KernelIdeal Cert.KernelIdeal.Gen Idealize.ShloMosaic Idealize.SL.Sem

variable {F : FTy → Type} [FloatOps F] [Named F]

/-! ## The scratch as the body writes it at a later point of the grid -/

section
variable (c : Dev nD) (i : grid0.Coords) (arg1 : Memref sig .tc .vmem S256x6144 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S4x64x64 .f32) (harg4 : arg4.IsWhole) (arg5 : Memref sig .tc .vmem S4x64x256 .f32) (harg5 : arg5.IsWhole) (arg6 : Memref sig .tc .vmem S4x64x256 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S4x4x256x512 .bf16) (harg9 : arg9.IsWhole) (arg10 : Memref sig .tc .vmem S256x2048 .f32) (harg10 : arg10.IsWhole) (arg11 : Memref sig .tc .vmem S256x6144 .bf16) (harg11 : arg11.IsWhole) (arg12 : Memref sig .tc .vmem S1x2048 .f32) (harg12 : arg12.IsWhole) (arg13 : Memref sig .tc .vmem S4x256x512 .f32) (harg13 : arg13.IsWhole) (hc0 : ¬cond0_0 i) (hc1 : ¬cond0_1 i) (hc2 : cond0_2 i)
    (x0 : Vec F S256x6144 .f32) (x1 : Vec F S256x128 .f32) (x2 : Vec F S256x128 .f32) (x3 : Vec F S4x64x64 .f32) (x4 : Vec F S4x64x256 .f32) (x5 : Vec F S4x64x256 .f32) (x6 : Vec F S1x2048 .f32) (x7 : Vec F S256x2048 .f32) (x8 : Vec F S4x4x256x512 .bf16) (x9 : Vec F S256x2048 .f32) (xo11 : Vec F S1x2048 .f32) (xs0 : Vec F S4x256x512 .f32)

/-- The scratch after chunk 3 of head 3. -/
theorem hsB_4 : kernelRun0_B.sl.HS0_4 c arg1 harg1 arg2 harg2 arg3 harg3 arg5 harg5 arg7 harg7 arg8 harg8 arg10 harg10 arg13 harg13 x0 x1 x2 x4 x6 x7 x9 xs0 =
    (push (staged arg1 harg1 arg2 harg2 arg3 harg3 arg4 harg4 arg5 harg5 arg6 harg6 arg7 harg7 arg8 harg8 arg9 harg9 arg10 harg10
      x0 x1 x2 x3 x4 x5 x6 x7 x8 x9) 3 3
      (View.readAt (Elt F) arg13.view (headRect 3).toLoadRect (harg13.unread xs0))
      (push (staged arg1 harg1 arg2 harg2 arg3 harg3 arg4 harg4 arg5 harg5 arg6 harg6 arg7 harg7 arg8 harg8 arg9 harg9 arg10 harg10
      x0 x1 x2 x3 x4 x5 x6 x7 x8 x9) 3 2
      (View.readAt (Elt F) arg13.view (headRect 2).toLoadRect (harg13.unread xs0))
      (push (staged arg1 harg1 arg2 harg2 arg3 harg3 arg4 harg4 arg5 harg5 arg6 harg6 arg7 harg7 arg8 harg8 arg9 harg9 arg10 harg10
      x0 x1 x2 x3 x4 x5 x6 x7 x8 x9) 3 1
      (View.readAt (Elt F) arg13.view (headRect 1).toLoadRect (harg13.unread xs0))
      (push (staged arg1 harg1 arg2 harg2 arg3 harg3 arg4 harg4 arg5 harg5 arg6 harg6 arg7 harg7 arg8 harg8 arg9 harg9 arg10 harg10
      x0 x1 x2 x3 x4 x5 x6 x7 x8 x9) 3 0
      (View.readAt (Elt F) arg13.view (headRect 0).toLoadRect (harg13.unread xs0))
      [])))) := rfl

/-- The scratch after chunk 2 of head 0. -/
theorem hsB_5 : kernelRun0_B.sl.HS0_5 c arg1 harg1 arg2 harg2 arg3 harg3 arg5 harg5 arg7 harg7 arg8 harg8 arg10 harg10 arg13 harg13 x0 x1 x2 x4 x6 x7 x9 xs0 =
    (push (staged arg1 harg1 arg2 harg2 arg3 harg3 arg4 harg4 arg5 harg5 arg6 harg6 arg7 harg7 arg8 harg8 arg9 harg9 arg10 harg10
      x0 x1 x2 x3 x4 x5 x6 x7 x8 x9) 2 0
      (arg13.view.readCov (kernelRun0_B.sl.HS0_4 c arg1 harg1 arg2 harg2 arg3 harg3 arg5 harg5 arg7 harg7 arg8 harg8 arg10 harg10 arg13 harg13 x0 x1 x2 x4 x6 x7 x9 xs0) (headRect 0).toLoadRect)
      (kernelRun0_B.sl.HS0_4 c arg1 harg1 arg2 harg2 arg3 harg3 arg5 harg5 arg7 harg7 arg8 harg8 arg10 harg10 arg13 harg13 x0 x1 x2 x4 x6 x7 x9 xs0)) := rfl

/-- The scratch after chunk 2 of head 1. -/
theorem hsB_6 : kernelRun0_B.sl.HS0_6 c arg1 harg1 arg2 harg2 arg3 harg3 arg5 harg5 arg7 harg7 arg8 harg8 arg10 harg10 arg13 harg13 x0 x1 x2 x4 x6 x7 x9 xs0 =
    (push (staged arg1 harg1 arg2 harg2 arg3 harg3 arg4 harg4 arg5 harg5 arg6 harg6 arg7 harg7 arg8 harg8 arg9 harg9 arg10 harg10
      x0 x1 x2 x3 x4 x5 x6 x7 x8 x9) 2 1
      (arg13.view.readCov (kernelRun0_B.sl.HS0_5 c arg1 harg1 arg2 harg2 arg3 harg3 arg5 harg5 arg7 harg7 arg8 harg8 arg10 harg10 arg13 harg13 x0 x1 x2 x4 x6 x7 x9 xs0) (headRect 1).toLoadRect)
      (kernelRun0_B.sl.HS0_5 c arg1 harg1 arg2 harg2 arg3 harg3 arg5 harg5 arg7 harg7 arg8 harg8 arg10 harg10 arg13 harg13 x0 x1 x2 x4 x6 x7 x9 xs0)) := rfl

/-- The scratch after chunk 2 of head 2. -/
theorem hsB_7 : kernelRun0_B.sl.HS0_7 c arg1 harg1 arg2 harg2 arg3 harg3 arg5 harg5 arg7 harg7 arg8 harg8 arg10 harg10 arg13 harg13 x0 x1 x2 x4 x6 x7 x9 xs0 =
    (push (staged arg1 harg1 arg2 harg2 arg3 harg3 arg4 harg4 arg5 harg5 arg6 harg6 arg7 harg7 arg8 harg8 arg9 harg9 arg10 harg10
      x0 x1 x2 x3 x4 x5 x6 x7 x8 x9) 2 2
      (arg13.view.readCov (kernelRun0_B.sl.HS0_6 c arg1 harg1 arg2 harg2 arg3 harg3 arg5 harg5 arg7 harg7 arg8 harg8 arg10 harg10 arg13 harg13 x0 x1 x2 x4 x6 x7 x9 xs0) (headRect 2).toLoadRect)
      (kernelRun0_B.sl.HS0_6 c arg1 harg1 arg2 harg2 arg3 harg3 arg5 harg5 arg7 harg7 arg8 harg8 arg10 harg10 arg13 harg13 x0 x1 x2 x4 x6 x7 x9 xs0)) := rfl

/-- The scratch after chunk 2 of head 3. -/
theorem hsB_8 : kernelRun0_B.sl.HS0_8 c arg1 harg1 arg2 harg2 arg3 harg3 arg5 harg5 arg7 harg7 arg8 harg8 arg10 harg10 arg13 harg13 x0 x1 x2 x4 x6 x7 x9 xs0 =
    (push (staged arg1 harg1 arg2 harg2 arg3 harg3 arg4 harg4 arg5 harg5 arg6 harg6 arg7 harg7 arg8 harg8 arg9 harg9 arg10 harg10
      x0 x1 x2 x3 x4 x5 x6 x7 x8 x9) 2 3
      (arg13.view.readCov (kernelRun0_B.sl.HS0_7 c arg1 harg1 arg2 harg2 arg3 harg3 arg5 harg5 arg7 harg7 arg8 harg8 arg10 harg10 arg13 harg13 x0 x1 x2 x4 x6 x7 x9 xs0) (headRect 3).toLoadRect)
      (kernelRun0_B.sl.HS0_7 c arg1 harg1 arg2 harg2 arg3 harg3 arg5 harg5 arg7 harg7 arg8 harg8 arg10 harg10 arg13 harg13 x0 x1 x2 x4 x6 x7 x9 xs0)) := rfl

/-- The scratch after chunk 1 of head 0. -/
theorem hsB_9 : kernelRun0_B.sl.HS0_9 c arg1 harg1 arg2 harg2 arg3 harg3 arg5 harg5 arg7 harg7 arg8 harg8 arg10 harg10 arg13 harg13 x0 x1 x2 x4 x6 x7 x9 xs0 =
    (push (staged arg1 harg1 arg2 harg2 arg3 harg3 arg4 harg4 arg5 harg5 arg6 harg6 arg7 harg7 arg8 harg8 arg9 harg9 arg10 harg10
      x0 x1 x2 x3 x4 x5 x6 x7 x8 x9) 1 0
      (arg13.view.readCov (kernelRun0_B.sl.HS0_8 c arg1 harg1 arg2 harg2 arg3 harg3 arg5 harg5 arg7 harg7 arg8 harg8 arg10 harg10 arg13 harg13 x0 x1 x2 x4 x6 x7 x9 xs0) (headRect 0).toLoadRect)
      (kernelRun0_B.sl.HS0_8 c arg1 harg1 arg2 harg2 arg3 harg3 arg5 harg5 arg7 harg7 arg8 harg8 arg10 harg10 arg13 harg13 x0 x1 x2 x4 x6 x7 x9 xs0)) := rfl

/-- The scratch after chunk 1 of head 1. -/
theorem hsB_10 : kernelRun0_B.sl.HS0_10 c arg1 harg1 arg2 harg2 arg3 harg3 arg5 harg5 arg7 harg7 arg8 harg8 arg10 harg10 arg13 harg13 x0 x1 x2 x4 x6 x7 x9 xs0 =
    (push (staged arg1 harg1 arg2 harg2 arg3 harg3 arg4 harg4 arg5 harg5 arg6 harg6 arg7 harg7 arg8 harg8 arg9 harg9 arg10 harg10
      x0 x1 x2 x3 x4 x5 x6 x7 x8 x9) 1 1
      (arg13.view.readCov (kernelRun0_B.sl.HS0_9 c arg1 harg1 arg2 harg2 arg3 harg3 arg5 harg5 arg7 harg7 arg8 harg8 arg10 harg10 arg13 harg13 x0 x1 x2 x4 x6 x7 x9 xs0) (headRect 1).toLoadRect)
      (kernelRun0_B.sl.HS0_9 c arg1 harg1 arg2 harg2 arg3 harg3 arg5 harg5 arg7 harg7 arg8 harg8 arg10 harg10 arg13 harg13 x0 x1 x2 x4 x6 x7 x9 xs0)) := rfl

/-- The scratch after chunk 1 of head 2. -/
theorem hsB_11 : kernelRun0_B.sl.HS0_11 c arg1 harg1 arg2 harg2 arg3 harg3 arg5 harg5 arg7 harg7 arg8 harg8 arg10 harg10 arg13 harg13 x0 x1 x2 x4 x6 x7 x9 xs0 =
    (push (staged arg1 harg1 arg2 harg2 arg3 harg3 arg4 harg4 arg5 harg5 arg6 harg6 arg7 harg7 arg8 harg8 arg9 harg9 arg10 harg10
      x0 x1 x2 x3 x4 x5 x6 x7 x8 x9) 1 2
      (arg13.view.readCov (kernelRun0_B.sl.HS0_10 c arg1 harg1 arg2 harg2 arg3 harg3 arg5 harg5 arg7 harg7 arg8 harg8 arg10 harg10 arg13 harg13 x0 x1 x2 x4 x6 x7 x9 xs0) (headRect 2).toLoadRect)
      (kernelRun0_B.sl.HS0_10 c arg1 harg1 arg2 harg2 arg3 harg3 arg5 harg5 arg7 harg7 arg8 harg8 arg10 harg10 arg13 harg13 x0 x1 x2 x4 x6 x7 x9 xs0)) := rfl

/-- The scratch after chunk 1 of head 3. -/
theorem hsB_12 : kernelRun0_B.sl.HS0_12 c arg1 harg1 arg2 harg2 arg3 harg3 arg5 harg5 arg7 harg7 arg8 harg8 arg10 harg10 arg13 harg13 x0 x1 x2 x4 x6 x7 x9 xs0 =
    (push (staged arg1 harg1 arg2 harg2 arg3 harg3 arg4 harg4 arg5 harg5 arg6 harg6 arg7 harg7 arg8 harg8 arg9 harg9 arg10 harg10
      x0 x1 x2 x3 x4 x5 x6 x7 x8 x9) 1 3
      (arg13.view.readCov (kernelRun0_B.sl.HS0_11 c arg1 harg1 arg2 harg2 arg3 harg3 arg5 harg5 arg7 harg7 arg8 harg8 arg10 harg10 arg13 harg13 x0 x1 x2 x4 x6 x7 x9 xs0) (headRect 3).toLoadRect)
      (kernelRun0_B.sl.HS0_11 c arg1 harg1 arg2 harg2 arg3 harg3 arg5 harg5 arg7 harg7 arg8 harg8 arg10 harg10 arg13 harg13 x0 x1 x2 x4 x6 x7 x9 xs0)) := rfl

/-- The scratch after chunk 0 of head 0. -/
theorem hsB_13 : kernelRun0_B.sl.HS0_13 c arg1 harg1 arg2 harg2 arg3 harg3 arg5 harg5 arg7 harg7 arg8 harg8 arg10 harg10 arg13 harg13 x0 x1 x2 x4 x6 x7 x9 xs0 =
    (push (staged arg1 harg1 arg2 harg2 arg3 harg3 arg4 harg4 arg5 harg5 arg6 harg6 arg7 harg7 arg8 harg8 arg9 harg9 arg10 harg10
      x0 x1 x2 x3 x4 x5 x6 x7 x8 x9) 0 0
      (arg13.view.readCov (kernelRun0_B.sl.HS0_12 c arg1 harg1 arg2 harg2 arg3 harg3 arg5 harg5 arg7 harg7 arg8 harg8 arg10 harg10 arg13 harg13 x0 x1 x2 x4 x6 x7 x9 xs0) (headRect 0).toLoadRect)
      (kernelRun0_B.sl.HS0_12 c arg1 harg1 arg2 harg2 arg3 harg3 arg5 harg5 arg7 harg7 arg8 harg8 arg10 harg10 arg13 harg13 x0 x1 x2 x4 x6 x7 x9 xs0)) := rfl

/-- The scratch after chunk 0 of head 1. -/
theorem hsB_14 : kernelRun0_B.sl.HS0_14 c arg1 harg1 arg2 harg2 arg3 harg3 arg5 harg5 arg7 harg7 arg8 harg8 arg10 harg10 arg13 harg13 x0 x1 x2 x4 x6 x7 x9 xs0 =
    (push (staged arg1 harg1 arg2 harg2 arg3 harg3 arg4 harg4 arg5 harg5 arg6 harg6 arg7 harg7 arg8 harg8 arg9 harg9 arg10 harg10
      x0 x1 x2 x3 x4 x5 x6 x7 x8 x9) 0 1
      (arg13.view.readCov (kernelRun0_B.sl.HS0_13 c arg1 harg1 arg2 harg2 arg3 harg3 arg5 harg5 arg7 harg7 arg8 harg8 arg10 harg10 arg13 harg13 x0 x1 x2 x4 x6 x7 x9 xs0) (headRect 1).toLoadRect)
      (kernelRun0_B.sl.HS0_13 c arg1 harg1 arg2 harg2 arg3 harg3 arg5 harg5 arg7 harg7 arg8 harg8 arg10 harg10 arg13 harg13 x0 x1 x2 x4 x6 x7 x9 xs0)) := rfl

/-- The scratch after chunk 0 of head 2. -/
theorem hsB_15 : kernelRun0_B.sl.HS0_15 c arg1 harg1 arg2 harg2 arg3 harg3 arg5 harg5 arg7 harg7 arg8 harg8 arg10 harg10 arg13 harg13 x0 x1 x2 x4 x6 x7 x9 xs0 =
    (push (staged arg1 harg1 arg2 harg2 arg3 harg3 arg4 harg4 arg5 harg5 arg6 harg6 arg7 harg7 arg8 harg8 arg9 harg9 arg10 harg10
      x0 x1 x2 x3 x4 x5 x6 x7 x8 x9) 0 2
      (arg13.view.readCov (kernelRun0_B.sl.HS0_14 c arg1 harg1 arg2 harg2 arg3 harg3 arg5 harg5 arg7 harg7 arg8 harg8 arg10 harg10 arg13 harg13 x0 x1 x2 x4 x6 x7 x9 xs0) (headRect 2).toLoadRect)
      (kernelRun0_B.sl.HS0_14 c arg1 harg1 arg2 harg2 arg3 harg3 arg5 harg5 arg7 harg7 arg8 harg8 arg10 harg10 arg13 harg13 x0 x1 x2 x4 x6 x7 x9 xs0)) := rfl

/-- The scratch after the point. -/
theorem scratchB : (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).2.2.1 =
    (push (staged arg1 harg1 arg2 harg2 arg3 harg3 arg4 harg4 arg5 harg5 arg6 harg6 arg7 harg7 arg8 harg8 arg9 harg9 arg10 harg10
      x0 x1 x2 x3 x4 x5 x6 x7 x8 x9) 0 3
      (arg13.view.readCov (kernelRun0_B.sl.HS0_15 c arg1 harg1 arg2 harg2 arg3 harg3 arg5 harg5 arg7 harg7 arg8 harg8 arg10 harg10 arg13 harg13 x0 x1 x2 x4 x6 x7 x9 xs0) (headRect 3).toLoadRect)
      (kernelRun0_B.sl.HS0_15 c arg1 harg1 arg2 harg2 arg3 harg3 arg5 harg5 arg7 harg7 arg8 harg8 arg10 harg10 arg13 harg13 x0 x1 x2 x4 x6 x7 x9 xs0)) := rfl

end

end Cert.Ret
-- ==== Proof.ScaleB.lean ====
module

public import proofs.«01_k».proof.Proof.Chunk
public import proofs.«01_k».proof.Proof.Gen.KernelIdeal.Frame.RunB

@[expose] public section

set_option maxRecDepth 16384

noncomputable section

namespace Cert.Ret

open Cert.KernelIdeal Cert.KernelIdeal.Gen Idealize.ShloMosaic Idealize.SL.Sem

variable {F : FTy → Type} [FloatOps F] [Named F]

/-! ## The second output at a later point of the grid -/

section
variable (c : Dev nD) (i : grid0.Coords) (arg1 : Memref sig .tc .vmem S256x6144 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S4x64x64 .f32) (harg4 : arg4.IsWhole) (arg5 : Memref sig .tc .vmem S4x64x256 .f32) (harg5 : arg5.IsWhole) (arg6 : Memref sig .tc .vmem S4x64x256 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S4x4x256x512 .bf16) (harg9 : arg9.IsWhole) (arg10 : Memref sig .tc .vmem S256x2048 .f32) (harg10 : arg10.IsWhole) (arg11 : Memref sig .tc .vmem S256x6144 .bf16) (harg11 : arg11.IsWhole) (arg12 : Memref sig .tc .vmem S1x2048 .f32) (harg12 : arg12.IsWhole) (arg13 : Memref sig .tc .vmem S4x256x512 .f32) (harg13 : arg13.IsWhole) (hc0 : ¬cond0_0 i) (hc1 : ¬cond0_1 i) (hc2 : cond0_2 i)
    (x0 : Vec F S256x6144 .f32) (x1 : Vec F S256x128 .f32) (x2 : Vec F S256x128 .f32) (x3 : Vec F S4x64x64 .f32) (x4 : Vec F S4x64x256 .f32) (x5 : Vec F S4x64x256 .f32) (x6 : Vec F S1x2048 .f32) (x7 : Vec F S256x2048 .f32) (x8 : Vec F S4x4x256x512 .bf16) (x9 : Vec F S256x2048 .f32) (xo11 : Vec F S1x2048 .f32) (xs0 : Vec F S4x256x512 .f32)

set_option maxHeartbeats 8000000 in
/-- The second output. -/
theorem scaleB : (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).2.1 =
    [⟨Rect.unit (s := S1x2048) ![0, 0] S1x2048.size inb_S1x2048_S1x2048_0_0,
      addf (shapeCast S1x2048 (View.readAt (Elt F) arg12.view
      (Rect.unit (s := S1x2048) ![0, 0] S1x2048.size inb_S1x2048_S1x2048_0_0).toLoadRect (harg12.unread xo11)) shapeCasts_S1x2048_S1x2048) (gsBlock (staged arg1 harg1 arg2 harg2 arg3 harg3 arg4 harg4 arg5 harg5 arg6 harg6 arg7 harg7 arg8 harg8 arg9 harg9 arg10 harg10
      x0 x1 x2 x3 x4 x5 x6 x7 x8 x9))⟩] := rfl

end

end Cert.Ret
-- ==== Proof.PointB.lean ====
module

public import proofs.«01_k».proof.Proof.Carry
public import proofs.«01_k».proof.Proof.RunB
public import proofs.«01_k».proof.Proof.ScaleB

@[expose] public section

set_option maxRecDepth 16384
set_option maxHeartbeats 8000000

noncomputable section

namespace Cert.Ret

open Cert.KernelIdeal Cert.KernelIdeal.Gen Idealize.ShloMosaic Idealize.SL.Sem

variable {F : FTy → Type} [FloatOps F] [Named F]

/-! ## What a later point of the grid leaves, in terms of its blocks -/

section
variable (c : Dev nD) (i : grid0.Coords) (arg1 : Memref sig .tc .vmem S256x6144 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S4x64x64 .f32) (harg4 : arg4.IsWhole) (arg5 : Memref sig .tc .vmem S4x64x256 .f32) (harg5 : arg5.IsWhole) (arg6 : Memref sig .tc .vmem S4x64x256 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S4x4x256x512 .bf16) (harg9 : arg9.IsWhole) (arg10 : Memref sig .tc .vmem S256x2048 .f32) (harg10 : arg10.IsWhole) (arg11 : Memref sig .tc .vmem S256x6144 .bf16) (harg11 : arg11.IsWhole) (arg12 : Memref sig .tc .vmem S1x2048 .f32) (harg12 : arg12.IsWhole) (arg13 : Memref sig .tc .vmem S4x256x512 .f32) (harg13 : arg13.IsWhole) (hc0 : ¬cond0_0 i) (hc1 : ¬cond0_1 i) (hc2 : cond0_2 i)
    (x0 : Vec F S256x6144 .f32) (x1 : Vec F S256x128 .f32) (x2 : Vec F S256x128 .f32) (x3 : Vec F S4x64x64 .f32) (x4 : Vec F S4x64x256 .f32) (x5 : Vec F S4x64x256 .f32) (x6 : Vec F S1x2048 .f32) (x7 : Vec F S256x2048 .f32) (x8 : Vec F S4x4x256x512 .bf16) (x9 : Vec F S256x2048 .f32) (xo11 : Vec F S1x2048 .f32) (xs0 : Vec F S4x256x512 .f32)

theorem ldB_3 (h : Fin 4) : View.readAt (Elt F) arg13.view (headRect h).toLoadRect (harg13.unread xs0) = heads xs0 h :=
  funext fun j => harg13.readAt_unread xs0 _ j

theorem ldB_2_0 : (arg13.view.readCov (kernelRun0_B.sl.HS0_4 c arg1 harg1 arg2 harg2 arg3 harg3 arg5 harg5 arg7 harg7 arg8 harg8 arg10 harg10 arg13 harg13 x0 x1 x2 x4 x6 x7 x9 xs0) (headRect 0).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads xs0) 2 0 := by
  rw [hsB_4 (harg4 := harg4) (harg6 := harg6) (harg9 := harg9) (x3 := x3) (x5 := x5) (x8 := x8),
    load_skip (by decide),
    load_skip (by decide),
    load_skip (by decide),
    load_push,
    ldB_3]
  rfl

theorem ldB_2_1 : (arg13.view.readCov (kernelRun0_B.sl.HS0_5 c arg1 harg1 arg2 harg2 arg3 harg3 arg5 harg5 arg7 harg7 arg8 harg8 arg10 harg10 arg13 harg13 x0 x1 x2 x4 x6 x7 x9 xs0) (headRect 1).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads xs0) 2 1 := by
  rw [hsB_5 (harg4 := harg4) (harg6 := harg6) (harg9 := harg9) (x3 := x3) (x5 := x5) (x8 := x8),
    load_skip (by decide),
    hsB_4 (harg4 := harg4) (harg6 := harg6) (harg9 := harg9) (x3 := x3) (x5 := x5) (x8 := x8),
    load_skip (by decide),
    load_skip (by decide),
    load_push,
    ldB_3]
  rfl

theorem ldB_2_2 : (arg13.view.readCov (kernelRun0_B.sl.HS0_6 c arg1 harg1 arg2 harg2 arg3 harg3 arg5 harg5 arg7 harg7 arg8 harg8 arg10 harg10 arg13 harg13 x0 x1 x2 x4 x6 x7 x9 xs0) (headRect 2).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads xs0) 2 2 := by
  rw [hsB_6 (harg4 := harg4) (harg6 := harg6) (harg9 := harg9) (x3 := x3) (x5 := x5) (x8 := x8),
    load_skip (by decide),
    hsB_5 (harg4 := harg4) (harg6 := harg6) (harg9 := harg9) (x3 := x3) (x5 := x5) (x8 := x8),
    load_skip (by decide),
    hsB_4 (harg4 := harg4) (harg6 := harg6) (harg9 := harg9) (x3 := x3) (x5 := x5) (x8 := x8),
    load_skip (by decide),
    load_push,
    ldB_3]
  rfl

theorem ldB_2_3 : (arg13.view.readCov (kernelRun0_B.sl.HS0_7 c arg1 harg1 arg2 harg2 arg3 harg3 arg5 harg5 arg7 harg7 arg8 harg8 arg10 harg10 arg13 harg13 x0 x1 x2 x4 x6 x7 x9 xs0) (headRect 3).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads xs0) 2 3 := by
  rw [hsB_7 (harg4 := harg4) (harg6 := harg6) (harg9 := harg9) (x3 := x3) (x5 := x5) (x8 := x8),
    load_skip (by decide),
    hsB_6 (harg4 := harg4) (harg6 := harg6) (harg9 := harg9) (x3 := x3) (x5 := x5) (x8 := x8),
    load_skip (by decide),
    hsB_5 (harg4 := harg4) (harg6 := harg6) (harg9 := harg9) (x3 := x3) (x5 := x5) (x8 := x8),
    load_skip (by decide),
    hsB_4 (harg4 := harg4) (harg6 := harg6) (harg9 := harg9) (x3 := x3) (x5 := x5) (x8 := x8),
    load_push,
    ldB_3]
  rfl

theorem ldB_1_0 : (arg13.view.readCov (kernelRun0_B.sl.HS0_8 c arg1 harg1 arg2 harg2 arg3 harg3 arg5 harg5 arg7 harg7 arg8 harg8 arg10 harg10 arg13 harg13 x0 x1 x2 x4 x6 x7 x9 xs0) (headRect 0).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads xs0) 1 0 := by
  rw [hsB_8 (harg4 := harg4) (harg6 := harg6) (harg9 := harg9) (x3 := x3) (x5 := x5) (x8 := x8),
    load_skip (by decide),
    hsB_7 (harg4 := harg4) (harg6 := harg6) (harg9 := harg9) (x3 := x3) (x5 := x5) (x8 := x8),
    load_skip (by decide),
    hsB_6 (harg4 := harg4) (harg6 := harg6) (harg9 := harg9) (x3 := x3) (x5 := x5) (x8 := x8),
    load_skip (by decide),
    hsB_5 (harg4 := harg4) (harg6 := harg6) (harg9 := harg9) (x3 := x3) (x5 := x5) (x8 := x8),
    load_push,
    ldB_2_0 (harg4 := harg4) (harg6 := harg6) (harg9 := harg9) (x3 := x3) (x5 := x5) (x8 := x8)]
  rfl

theorem ldB_1_1 : (arg13.view.readCov (kernelRun0_B.sl.HS0_9 c arg1 harg1 arg2 harg2 arg3 harg3 arg5 harg5 arg7 harg7 arg8 harg8 arg10 harg10 arg13 harg13 x0 x1 x2 x4 x6 x7 x9 xs0) (headRect 1).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads xs0) 1 1 := by
  rw [hsB_9 (harg4 := harg4) (harg6 := harg6) (harg9 := harg9) (x3 := x3) (x5 := x5) (x8 := x8),
    load_skip (by decide),
    hsB_8 (harg4 := harg4) (harg6 := harg6) (harg9 := harg9) (x3 := x3) (x5 := x5) (x8 := x8),
    load_skip (by decide),
    hsB_7 (harg4 := harg4) (harg6 := harg6) (harg9 := harg9) (x3 := x3) (x5 := x5) (x8 := x8),
    load_skip (by decide),
    hsB_6 (harg4 := harg4) (harg6 := harg6) (harg9 := harg9) (x3 := x3) (x5 := x5) (x8 := x8),
    load_push,
    ldB_2_1 (harg4 := harg4) (harg6 := harg6) (harg9 := harg9) (x3 := x3) (x5 := x5) (x8 := x8)]
  rfl

theorem ldB_1_2 : (arg13.view.readCov (kernelRun0_B.sl.HS0_10 c arg1 harg1 arg2 harg2 arg3 harg3 arg5 harg5 arg7 harg7 arg8 harg8 arg10 harg10 arg13 harg13 x0 x1 x2 x4 x6 x7 x9 xs0) (headRect 2).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads xs0) 1 2 := by
  rw [hsB_10 (harg4 := harg4) (harg6 := harg6) (harg9 := harg9) (x3 := x3) (x5 := x5) (x8 := x8),
    load_skip (by decide),
    hsB_9 (harg4 := harg4) (harg6 := harg6) (harg9 := harg9) (x3 := x3) (x5 := x5) (x8 := x8),
    load_skip (by decide),
    hsB_8 (harg4 := harg4) (harg6 := harg6) (harg9 := harg9) (x3 := x3) (x5 := x5) (x8 := x8),
    load_skip (by decide),
    hsB_7 (harg4 := harg4) (harg6 := harg6) (harg9 := harg9) (x3 := x3) (x5 := x5) (x8 := x8),
    load_push,
    ldB_2_2 (harg4 := harg4) (harg6 := harg6) (harg9 := harg9) (x3 := x3) (x5 := x5) (x8 := x8)]
  rfl

theorem ldB_1_3 : (arg13.view.readCov (kernelRun0_B.sl.HS0_11 c arg1 harg1 arg2 harg2 arg3 harg3 arg5 harg5 arg7 harg7 arg8 harg8 arg10 harg10 arg13 harg13 x0 x1 x2 x4 x6 x7 x9 xs0) (headRect 3).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads xs0) 1 3 := by
  rw [hsB_11 (harg4 := harg4) (harg6 := harg6) (harg9 := harg9) (x3 := x3) (x5 := x5) (x8 := x8),
    load_skip (by decide),
    hsB_10 (harg4 := harg4) (harg6 := harg6) (harg9 := harg9) (x3 := x3) (x5 := x5) (x8 := x8),
    load_skip (by decide),
    hsB_9 (harg4 := harg4) (harg6 := harg6) (harg9 := harg9) (x3 := x3) (x5 := x5) (x8 := x8),
    load_skip (by decide),
    hsB_8 (harg4 := harg4) (harg6 := harg6) (harg9 := harg9) (x3 := x3) (x5 := x5) (x8 := x8),
    load_push,
    ldB_2_3 (harg4 := harg4) (harg6 := harg6) (harg9 := harg9) (x3 := x3) (x5 := x5) (x8 := x8)]
  rfl

theorem ldB_0_0 : (arg13.view.readCov (kernelRun0_B.sl.HS0_12 c arg1 harg1 arg2 harg2 arg3 harg3 arg5 harg5 arg7 harg7 arg8 harg8 arg10 harg10 arg13 harg13 x0 x1 x2 x4 x6 x7 x9 xs0) (headRect 0).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads xs0) 0 0 := by
  rw [hsB_12 (harg4 := harg4) (harg6 := harg6) (harg9 := harg9) (x3 := x3) (x5 := x5) (x8 := x8),
    load_skip (by decide),
    hsB_11 (harg4 := harg4) (harg6 := harg6) (harg9 := harg9) (x3 := x3) (x5 := x5) (x8 := x8),
    load_skip (by decide),
    hsB_10 (harg4 := harg4) (harg6 := harg6) (harg9 := harg9) (x3 := x3) (x5 := x5) (x8 := x8),
    load_skip (by decide),
    hsB_9 (harg4 := harg4) (harg6 := harg6) (harg9 := harg9) (x3 := x3) (x5 := x5) (x8 := x8),
    load_push,
    ldB_1_0 (harg4 := harg4) (harg6 := harg6) (harg9 := harg9) (x3 := x3) (x5 := x5) (x8 := x8)]
  rfl

theorem ldB_0_1 : (arg13.view.readCov (kernelRun0_B.sl.HS0_13 c arg1 harg1 arg2 harg2 arg3 harg3 arg5 harg5 arg7 harg7 arg8 harg8 arg10 harg10 arg13 harg13 x0 x1 x2 x4 x6 x7 x9 xs0) (headRect 1).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads xs0) 0 1 := by
  rw [hsB_13 (harg4 := harg4) (harg6 := harg6) (harg9 := harg9) (x3 := x3) (x5 := x5) (x8 := x8),
    load_skip (by decide),
    hsB_12 (harg4 := harg4) (harg6 := harg6) (harg9 := harg9) (x3 := x3) (x5 := x5) (x8 := x8),
    load_skip (by decide),
    hsB_11 (harg4 := harg4) (harg6 := harg6) (harg9 := harg9) (x3 := x3) (x5 := x5) (x8 := x8),
    load_skip (by decide),
    hsB_10 (harg4 := harg4) (harg6 := harg6) (harg9 := harg9) (x3 := x3) (x5 := x5) (x8 := x8),
    load_push,
    ldB_1_1 (harg4 := harg4) (harg6 := harg6) (harg9 := harg9) (x3 := x3) (x5 := x5) (x8 := x8)]
  rfl

theorem ldB_0_2 : (arg13.view.readCov (kernelRun0_B.sl.HS0_14 c arg1 harg1 arg2 harg2 arg3 harg3 arg5 harg5 arg7 harg7 arg8 harg8 arg10 harg10 arg13 harg13 x0 x1 x2 x4 x6 x7 x9 xs0) (headRect 2).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads xs0) 0 2 := by
  rw [hsB_14 (harg4 := harg4) (harg6 := harg6) (harg9 := harg9) (x3 := x3) (x5 := x5) (x8 := x8),
    load_skip (by decide),
    hsB_13 (harg4 := harg4) (harg6 := harg6) (harg9 := harg9) (x3 := x3) (x5 := x5) (x8 := x8),
    load_skip (by decide),
    hsB_12 (harg4 := harg4) (harg6 := harg6) (harg9 := harg9) (x3 := x3) (x5 := x5) (x8 := x8),
    load_skip (by decide),
    hsB_11 (harg4 := harg4) (harg6 := harg6) (harg9 := harg9) (x3 := x3) (x5 := x5) (x8 := x8),
    load_push,
    ldB_1_2 (harg4 := harg4) (harg6 := harg6) (harg9 := harg9) (x3 := x3) (x5 := x5) (x8 := x8)]
  rfl

theorem ldB_0_3 : (arg13.view.readCov (kernelRun0_B.sl.HS0_15 c arg1 harg1 arg2 harg2 arg3 harg3 arg5 harg5 arg7 harg7 arg8 harg8 arg10 harg10 arg13 harg13 x0 x1 x2 x4 x6 x7 x9 xs0) (headRect 3).toLoadRect) =
    back (staged arg1 harg1 arg2 harg2 arg3 harg3 arg4 harg4 arg5 harg5 arg6 harg6 arg7 harg7 arg8 harg8 arg9 harg9 arg10 harg10
      x0 x1 x2 x3 x4 x5 x6 x7 x8 x9) (heads xs0) 0 3 := by
  rw [hsB_15 (harg4 := harg4) (harg6 := harg6) (harg9 := harg9) (x3 := x3) (x5 := x5) (x8 := x8),
    load_skip (by decide),
    hsB_14 (harg4 := harg4) (harg6 := harg6) (harg9 := harg9) (x3 := x3) (x5 := x5) (x8 := x8),
    load_skip (by decide),
    hsB_13 (harg4 := harg4) (harg6 := harg6) (harg9 := harg9) (x3 := x3) (x5 := x5) (x8 := x8),
    load_skip (by decide),
    hsB_12 (harg4 := harg4) (harg6 := harg6) (harg9 := harg9) (x3 := x3) (x5 := x5) (x8 := x8),
    load_push,
    ldB_1_3 (harg4 := harg4) (harg6 := harg6) (harg9 := harg9) (x3 := x3) (x5 := x5) (x8 := x8)]
  rfl

/-- The scratch: the gradient of every head's state before the block. -/
theorem carryB (h : Fin 4) : heads (View.canon (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).2.2.1) h =
    front (whole x0 x1 x2 x3 x4 x5 x6 x7 x8 x9) (heads xs0) h := by
  rw [← staged_eq arg1 harg1 arg2 harg2 arg3 harg3 arg4 harg4 arg5 harg5 arg6 harg6 arg7 harg7 arg8
    harg8 arg9 harg9 arg10 harg10]
  have e : heads (View.canon (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).2.2.1) h =
      arg13.view.readCov (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).2.2.1 (headRect h).toLoadRect :=
    (View.readCov_eq_canon' arg13.view (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).2.2.1 (headRect h).toLoadRect).symm
  rw [e, scratchB]
  clear e
  match h with
  | ⟨0, _⟩ =>
    refine Eq.trans (b := _) ?_ rfl
    show arg13.view.readCov _ (headRect 0).toLoadRect = _
    rw [load_skip (by decide), hsB_15 (harg4 := harg4) (harg6 := harg6) (harg9 := harg9) (x3 := x3) (x5 := x5) (x8 := x8), load_skip (by decide), hsB_14 (harg4 := harg4) (harg6 := harg6) (harg9 := harg9) (x3 := x3) (x5 := x5) (x8 := x8), load_skip (by decide), hsB_13 (harg4 := harg4) (harg6 := harg6) (harg9 := harg9) (x3 := x3) (x5 := x5) (x8 := x8), load_push, ldB_0_0 (harg4 := harg4) (harg6 := harg6) (harg9 := harg9) (x3 := x3) (x5 := x5) (x8 := x8)]
    rfl
  | ⟨1, _⟩ =>
    refine Eq.trans (b := _) ?_ rfl
    show arg13.view.readCov _ (headRect 1).toLoadRect = _
    rw [load_skip (by decide), hsB_15 (harg4 := harg4) (harg6 := harg6) (harg9 := harg9) (x3 := x3) (x5 := x5) (x8 := x8), load_skip (by decide), hsB_14 (harg4 := harg4) (harg6 := harg6) (harg9 := harg9) (x3 := x3) (x5 := x5) (x8 := x8), load_push, ldB_0_1 (harg4 := harg4) (harg6 := harg6) (harg9 := harg9) (x3 := x3) (x5 := x5) (x8 := x8)]
    rfl
  | ⟨2, _⟩ =>
    refine Eq.trans (b := _) ?_ rfl
    show arg13.view.readCov _ (headRect 2).toLoadRect = _
    rw [load_skip (by decide), hsB_15 (harg4 := harg4) (harg6 := harg6) (harg9 := harg9) (x3 := x3) (x5 := x5) (x8 := x8), load_push, ldB_0_2 (harg4 := harg4) (harg6 := harg6) (harg9 := harg9) (x3 := x3) (x5 := x5) (x8 := x8)]
    rfl
  | ⟨3, _⟩ =>
    refine Eq.trans (b := _) ?_ rfl
    show arg13.view.readCov _ (headRect 3).toLoadRect = _
    rw [load_push, ldB_0_3 (harg4 := harg4) (harg6 := harg6) (harg9 := harg9) (x3 := x3) (x5 := x5) (x8 := x8)]
    rfl

/-- The second output: the block's part added. -/
theorem scalesB : View.canon (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).2.1 =
    addf xo11 (gsBlock (whole x0 x1 x2 x3 x4 x5 x6 x7 x8 x9)) := by
  rw [scaleB, staged_eq, View.canon_cons_unit_lit inb_S1x2048_S1x2048_0_0 _ [] (by decide)]
  congr 1
  refine (shapeCast_self _ _).trans ?_
  exact funext fun j => (harg12.readAt_unread xo11 _ j).trans (congrArg xo11 (funext fun a => by

    match a with
    | ⟨0, _⟩ => exact Fin.ext ((Rect.idx_unit_val _ _ _ _ _).trans (Nat.zero_add _))
    | ⟨1, _⟩ => exact Fin.ext ((Rect.idx_unit_val _ _ _ _ _).trans (Nat.zero_add _))))

end

end Cert.Ret
-- ==== Proof.TilesB0.lean ====
module

public import proofs.«01_k».proof.Proof.Chunk
public import proofs.«01_k».proof.Proof.Gen.KernelIdeal.Frame.RunB

@[expose] public section

set_option maxRecDepth 16384
set_option maxHeartbeats 8000000

noncomputable section

namespace Cert.Ret

open Cert.KernelIdeal Cert.KernelIdeal.Gen Idealize.ShloMosaic Idealize.SL.Sem

variable {F : FTy → Type} [FloatOps F] [Named F]

/-! ## The tiles of chunk 0 of the first output at a later point of the grid -/

section
variable (c : Dev nD) (i : grid0.Coords) (arg1 : Memref sig .tc .vmem S256x6144 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S4x64x64 .f32) (harg4 : arg4.IsWhole) (arg5 : Memref sig .tc .vmem S4x64x256 .f32) (harg5 : arg5.IsWhole) (arg6 : Memref sig .tc .vmem S4x64x256 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S4x4x256x512 .bf16) (harg9 : arg9.IsWhole) (arg10 : Memref sig .tc .vmem S256x2048 .f32) (harg10 : arg10.IsWhole) (arg11 : Memref sig .tc .vmem S256x6144 .bf16) (harg11 : arg11.IsWhole) (arg12 : Memref sig .tc .vmem S1x2048 .f32) (harg12 : arg12.IsWhole) (arg13 : Memref sig .tc .vmem S4x256x512 .f32) (harg13 : arg13.IsWhole) (hc0 : ¬cond0_0 i) (hc1 : ¬cond0_1 i) (hc2 : cond0_2 i)
    (x0 : Vec F S256x6144 .f32) (x1 : Vec F S256x128 .f32) (x2 : Vec F S256x128 .f32) (x3 : Vec F S4x64x64 .f32) (x4 : Vec F S4x64x256 .f32) (x5 : Vec F S4x64x256 .f32) (x6 : Vec F S1x2048 .f32) (x7 : Vec F S256x2048 .f32) (x8 : Vec F S4x4x256x512 .bf16) (x9 : Vec F S256x2048 .f32) (xo11 : Vec F S1x2048 .f32) (xs0 : Vec F S4x256x512 .f32)

/-- The tiles of head 3. -/
theorem tilesB_0_3 : List.take 4 (List.drop 0 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (staged arg1 harg1 arg2 harg2 arg3 harg3 arg4 harg4 arg5 harg5 arg6 harg6 arg7 harg7 arg8 harg8 arg9 harg9 arg10 harg10
      x0 x1 x2 x3 x4 x5 x6 x7 x8 x9) 0 3
      (arg13.view.readCov (kernelRun0_B.sl.HS0_15 c arg1 harg1 arg2 harg2 arg3 harg3 arg5 harg5 arg7 harg7 arg8 harg8 arg10 harg10 arg13 harg13 x0 x1 x2 x4 x6 x7 x9 xs0) (headRect 3).toLoadRect) := rfl

/-- The tiles of head 2. -/
theorem tilesB_0_2 : List.take 4 (List.drop 4 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (staged arg1 harg1 arg2 harg2 arg3 harg3 arg4 harg4 arg5 harg5 arg6 harg6 arg7 harg7 arg8 harg8 arg9 harg9 arg10 harg10
      x0 x1 x2 x3 x4 x5 x6 x7 x8 x9) 0 2
      (arg13.view.readCov (kernelRun0_B.sl.HS0_14 c arg1 harg1 arg2 harg2 arg3 harg3 arg5 harg5 arg7 harg7 arg8 harg8 arg10 harg10 arg13 harg13 x0 x1 x2 x4 x6 x7 x9 xs0) (headRect 2).toLoadRect) := rfl

/-- The tiles of head 1. -/
theorem tilesB_0_1 : List.take 4 (List.drop 8 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (staged arg1 harg1 arg2 harg2 arg3 harg3 arg4 harg4 arg5 harg5 arg6 harg6 arg7 harg7 arg8 harg8 arg9 harg9 arg10 harg10
      x0 x1 x2 x3 x4 x5 x6 x7 x8 x9) 0 1
      (arg13.view.readCov (kernelRun0_B.sl.HS0_13 c arg1 harg1 arg2 harg2 arg3 harg3 arg5 harg5 arg7 harg7 arg8 harg8 arg10 harg10 arg13 harg13 x0 x1 x2 x4 x6 x7 x9 xs0) (headRect 1).toLoadRect) := rfl

/-- The tiles of head 0. -/
theorem tilesB_0_0 : List.take 4 (List.drop 12 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (staged arg1 harg1 arg2 harg2 arg3 harg3 arg4 harg4 arg5 harg5 arg6 harg6 arg7 harg7 arg8 harg8 arg9 harg9 arg10 harg10
      x0 x1 x2 x3 x4 x5 x6 x7 x8 x9) 0 0
      (arg13.view.readCov (kernelRun0_B.sl.HS0_12 c arg1 harg1 arg2 harg2 arg3 harg3 arg5 harg5 arg7 harg7 arg8 harg8 arg10 harg10 arg13 harg13 x0 x1 x2 x4 x6 x7 x9 xs0) (headRect 0).toLoadRect) := rfl

end

end Cert.Ret
-- ==== Proof.TilesB1.lean ====
module

public import proofs.«01_k».proof.Proof.Chunk
public import proofs.«01_k».proof.Proof.Gen.KernelIdeal.Frame.RunB

@[expose] public section

set_option maxRecDepth 16384
set_option maxHeartbeats 8000000

noncomputable section

namespace Cert.Ret

open Cert.KernelIdeal Cert.KernelIdeal.Gen Idealize.ShloMosaic Idealize.SL.Sem

variable {F : FTy → Type} [FloatOps F] [Named F]

/-! ## The tiles of chunk 1 of the first output at a later point of the grid -/

section
variable (c : Dev nD) (i : grid0.Coords) (arg1 : Memref sig .tc .vmem S256x6144 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S4x64x64 .f32) (harg4 : arg4.IsWhole) (arg5 : Memref sig .tc .vmem S4x64x256 .f32) (harg5 : arg5.IsWhole) (arg6 : Memref sig .tc .vmem S4x64x256 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S4x4x256x512 .bf16) (harg9 : arg9.IsWhole) (arg10 : Memref sig .tc .vmem S256x2048 .f32) (harg10 : arg10.IsWhole) (arg11 : Memref sig .tc .vmem S256x6144 .bf16) (harg11 : arg11.IsWhole) (arg12 : Memref sig .tc .vmem S1x2048 .f32) (harg12 : arg12.IsWhole) (arg13 : Memref sig .tc .vmem S4x256x512 .f32) (harg13 : arg13.IsWhole) (hc0 : ¬cond0_0 i) (hc1 : ¬cond0_1 i) (hc2 : cond0_2 i)
    (x0 : Vec F S256x6144 .f32) (x1 : Vec F S256x128 .f32) (x2 : Vec F S256x128 .f32) (x3 : Vec F S4x64x64 .f32) (x4 : Vec F S4x64x256 .f32) (x5 : Vec F S4x64x256 .f32) (x6 : Vec F S1x2048 .f32) (x7 : Vec F S256x2048 .f32) (x8 : Vec F S4x4x256x512 .bf16) (x9 : Vec F S256x2048 .f32) (xo11 : Vec F S1x2048 .f32) (xs0 : Vec F S4x256x512 .f32)

/-- The tiles of head 3. -/
theorem tilesB_1_3 : List.take 4 (List.drop 16 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (staged arg1 harg1 arg2 harg2 arg3 harg3 arg4 harg4 arg5 harg5 arg6 harg6 arg7 harg7 arg8 harg8 arg9 harg9 arg10 harg10
      x0 x1 x2 x3 x4 x5 x6 x7 x8 x9) 1 3
      (arg13.view.readCov (kernelRun0_B.sl.HS0_11 c arg1 harg1 arg2 harg2 arg3 harg3 arg5 harg5 arg7 harg7 arg8 harg8 arg10 harg10 arg13 harg13 x0 x1 x2 x4 x6 x7 x9 xs0) (headRect 3).toLoadRect) := rfl

/-- The tiles of head 2. -/
theorem tilesB_1_2 : List.take 4 (List.drop 20 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (staged arg1 harg1 arg2 harg2 arg3 harg3 arg4 harg4 arg5 harg5 arg6 harg6 arg7 harg7 arg8 harg8 arg9 harg9 arg10 harg10
      x0 x1 x2 x3 x4 x5 x6 x7 x8 x9) 1 2
      (arg13.view.readCov (kernelRun0_B.sl.HS0_10 c arg1 harg1 arg2 harg2 arg3 harg3 arg5 harg5 arg7 harg7 arg8 harg8 arg10 harg10 arg13 harg13 x0 x1 x2 x4 x6 x7 x9 xs0) (headRect 2).toLoadRect) := rfl

/-- The tiles of head 1. -/
theorem tilesB_1_1 : List.take 4 (List.drop 24 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (staged arg1 harg1 arg2 harg2 arg3 harg3 arg4 harg4 arg5 harg5 arg6 harg6 arg7 harg7 arg8 harg8 arg9 harg9 arg10 harg10
      x0 x1 x2 x3 x4 x5 x6 x7 x8 x9) 1 1
      (arg13.view.readCov (kernelRun0_B.sl.HS0_9 c arg1 harg1 arg2 harg2 arg3 harg3 arg5 harg5 arg7 harg7 arg8 harg8 arg10 harg10 arg13 harg13 x0 x1 x2 x4 x6 x7 x9 xs0) (headRect 1).toLoadRect) := rfl

/-- The tiles of head 0. -/
theorem tilesB_1_0 : List.take 4 (List.drop 28 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (staged arg1 harg1 arg2 harg2 arg3 harg3 arg4 harg4 arg5 harg5 arg6 harg6 arg7 harg7 arg8 harg8 arg9 harg9 arg10 harg10
      x0 x1 x2 x3 x4 x5 x6 x7 x8 x9) 1 0
      (arg13.view.readCov (kernelRun0_B.sl.HS0_8 c arg1 harg1 arg2 harg2 arg3 harg3 arg5 harg5 arg7 harg7 arg8 harg8 arg10 harg10 arg13 harg13 x0 x1 x2 x4 x6 x7 x9 xs0) (headRect 0).toLoadRect) := rfl

end

end Cert.Ret
-- ==== Proof.TilesB2.lean ====
module

public import proofs.«01_k».proof.Proof.Chunk
public import proofs.«01_k».proof.Proof.Gen.KernelIdeal.Frame.RunB

@[expose] public section

set_option maxRecDepth 16384
set_option maxHeartbeats 8000000

noncomputable section

namespace Cert.Ret

open Cert.KernelIdeal Cert.KernelIdeal.Gen Idealize.ShloMosaic Idealize.SL.Sem

variable {F : FTy → Type} [FloatOps F] [Named F]

/-! ## The tiles of chunk 2 of the first output at a later point of the grid -/

section
variable (c : Dev nD) (i : grid0.Coords) (arg1 : Memref sig .tc .vmem S256x6144 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S4x64x64 .f32) (harg4 : arg4.IsWhole) (arg5 : Memref sig .tc .vmem S4x64x256 .f32) (harg5 : arg5.IsWhole) (arg6 : Memref sig .tc .vmem S4x64x256 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S4x4x256x512 .bf16) (harg9 : arg9.IsWhole) (arg10 : Memref sig .tc .vmem S256x2048 .f32) (harg10 : arg10.IsWhole) (arg11 : Memref sig .tc .vmem S256x6144 .bf16) (harg11 : arg11.IsWhole) (arg12 : Memref sig .tc .vmem S1x2048 .f32) (harg12 : arg12.IsWhole) (arg13 : Memref sig .tc .vmem S4x256x512 .f32) (harg13 : arg13.IsWhole) (hc0 : ¬cond0_0 i) (hc1 : ¬cond0_1 i) (hc2 : cond0_2 i)
    (x0 : Vec F S256x6144 .f32) (x1 : Vec F S256x128 .f32) (x2 : Vec F S256x128 .f32) (x3 : Vec F S4x64x64 .f32) (x4 : Vec F S4x64x256 .f32) (x5 : Vec F S4x64x256 .f32) (x6 : Vec F S1x2048 .f32) (x7 : Vec F S256x2048 .f32) (x8 : Vec F S4x4x256x512 .bf16) (x9 : Vec F S256x2048 .f32) (xo11 : Vec F S1x2048 .f32) (xs0 : Vec F S4x256x512 .f32)

/-- The tiles of head 3. -/
theorem tilesB_2_3 : List.take 4 (List.drop 32 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (staged arg1 harg1 arg2 harg2 arg3 harg3 arg4 harg4 arg5 harg5 arg6 harg6 arg7 harg7 arg8 harg8 arg9 harg9 arg10 harg10
      x0 x1 x2 x3 x4 x5 x6 x7 x8 x9) 2 3
      (arg13.view.readCov (kernelRun0_B.sl.HS0_7 c arg1 harg1 arg2 harg2 arg3 harg3 arg5 harg5 arg7 harg7 arg8 harg8 arg10 harg10 arg13 harg13 x0 x1 x2 x4 x6 x7 x9 xs0) (headRect 3).toLoadRect) := rfl

/-- The tiles of head 2. -/
theorem tilesB_2_2 : List.take 4 (List.drop 36 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (staged arg1 harg1 arg2 harg2 arg3 harg3 arg4 harg4 arg5 harg5 arg6 harg6 arg7 harg7 arg8 harg8 arg9 harg9 arg10 harg10
      x0 x1 x2 x3 x4 x5 x6 x7 x8 x9) 2 2
      (arg13.view.readCov (kernelRun0_B.sl.HS0_6 c arg1 harg1 arg2 harg2 arg3 harg3 arg5 harg5 arg7 harg7 arg8 harg8 arg10 harg10 arg13 harg13 x0 x1 x2 x4 x6 x7 x9 xs0) (headRect 2).toLoadRect) := rfl

/-- The tiles of head 1. -/
theorem tilesB_2_1 : List.take 4 (List.drop 40 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (staged arg1 harg1 arg2 harg2 arg3 harg3 arg4 harg4 arg5 harg5 arg6 harg6 arg7 harg7 arg8 harg8 arg9 harg9 arg10 harg10
      x0 x1 x2 x3 x4 x5 x6 x7 x8 x9) 2 1
      (arg13.view.readCov (kernelRun0_B.sl.HS0_5 c arg1 harg1 arg2 harg2 arg3 harg3 arg5 harg5 arg7 harg7 arg8 harg8 arg10 harg10 arg13 harg13 x0 x1 x2 x4 x6 x7 x9 xs0) (headRect 1).toLoadRect) := rfl

/-- The tiles of head 0. -/
theorem tilesB_2_0 : List.take 4 (List.drop 44 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (staged arg1 harg1 arg2 harg2 arg3 harg3 arg4 harg4 arg5 harg5 arg6 harg6 arg7 harg7 arg8 harg8 arg9 harg9 arg10 harg10
      x0 x1 x2 x3 x4 x5 x6 x7 x8 x9) 2 0
      (arg13.view.readCov (kernelRun0_B.sl.HS0_4 c arg1 harg1 arg2 harg2 arg3 harg3 arg5 harg5 arg7 harg7 arg8 harg8 arg10 harg10 arg13 harg13 x0 x1 x2 x4 x6 x7 x9 xs0) (headRect 0).toLoadRect) := rfl

end

end Cert.Ret
-- ==== Proof.TilesB3.lean ====
module

public import proofs.«01_k».proof.Proof.Chunk
public import proofs.«01_k».proof.Proof.Gen.KernelIdeal.Frame.RunB

@[expose] public section

set_option maxRecDepth 16384
set_option maxHeartbeats 8000000

noncomputable section

namespace Cert.Ret

open Cert.KernelIdeal Cert.KernelIdeal.Gen Idealize.ShloMosaic Idealize.SL.Sem

variable {F : FTy → Type} [FloatOps F] [Named F]

/-! ## The tiles of chunk 3 of the first output at a later point of the grid -/

section
variable (c : Dev nD) (i : grid0.Coords) (arg1 : Memref sig .tc .vmem S256x6144 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S4x64x64 .f32) (harg4 : arg4.IsWhole) (arg5 : Memref sig .tc .vmem S4x64x256 .f32) (harg5 : arg5.IsWhole) (arg6 : Memref sig .tc .vmem S4x64x256 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S4x4x256x512 .bf16) (harg9 : arg9.IsWhole) (arg10 : Memref sig .tc .vmem S256x2048 .f32) (harg10 : arg10.IsWhole) (arg11 : Memref sig .tc .vmem S256x6144 .bf16) (harg11 : arg11.IsWhole) (arg12 : Memref sig .tc .vmem S1x2048 .f32) (harg12 : arg12.IsWhole) (arg13 : Memref sig .tc .vmem S4x256x512 .f32) (harg13 : arg13.IsWhole) (hc0 : ¬cond0_0 i) (hc1 : ¬cond0_1 i) (hc2 : cond0_2 i)
    (x0 : Vec F S256x6144 .f32) (x1 : Vec F S256x128 .f32) (x2 : Vec F S256x128 .f32) (x3 : Vec F S4x64x64 .f32) (x4 : Vec F S4x64x256 .f32) (x5 : Vec F S4x64x256 .f32) (x6 : Vec F S1x2048 .f32) (x7 : Vec F S256x2048 .f32) (x8 : Vec F S4x4x256x512 .bf16) (x9 : Vec F S256x2048 .f32) (xo11 : Vec F S1x2048 .f32) (xs0 : Vec F S4x256x512 .f32)

/-- The tiles of head 3. -/
theorem tilesB_3_3 : List.take 4 (List.drop 48 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (staged arg1 harg1 arg2 harg2 arg3 harg3 arg4 harg4 arg5 harg5 arg6 harg6 arg7 harg7 arg8 harg8 arg9 harg9 arg10 harg10
      x0 x1 x2 x3 x4 x5 x6 x7 x8 x9) 3 3
      (View.readAt (Elt F) arg13.view (headRect 3).toLoadRect (harg13.unread xs0)) := rfl

/-- The tiles of head 2. -/
theorem tilesB_3_2 : List.take 4 (List.drop 52 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (staged arg1 harg1 arg2 harg2 arg3 harg3 arg4 harg4 arg5 harg5 arg6 harg6 arg7 harg7 arg8 harg8 arg9 harg9 arg10 harg10
      x0 x1 x2 x3 x4 x5 x6 x7 x8 x9) 3 2
      (View.readAt (Elt F) arg13.view (headRect 2).toLoadRect (harg13.unread xs0)) := rfl

/-- The tiles of head 1. -/
theorem tilesB_3_1 : List.take 4 (List.drop 56 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (staged arg1 harg1 arg2 harg2 arg3 harg3 arg4 harg4 arg5 harg5 arg6 harg6 arg7 harg7 arg8 harg8 arg9 harg9 arg10 harg10
      x0 x1 x2 x3 x4 x5 x6 x7 x8 x9) 3 1
      (View.readAt (Elt F) arg13.view (headRect 1).toLoadRect (harg13.unread xs0)) := rfl

/-- The tiles of head 0. -/
theorem tilesB_3_0 : List.take 4 (List.drop 60 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (staged arg1 harg1 arg2 harg2 arg3 harg3 arg4 harg4 arg5 harg5 arg6 harg6 arg7 harg7 arg8 harg8 arg9 harg9 arg10 harg10
      x0 x1 x2 x3 x4 x5 x6 x7 x8 x9) 3 0
      (View.readAt (Elt F) arg13.view (headRect 0).toLoadRect (harg13.unread xs0)) := rfl

end

end Cert.Ret
-- ==== Proof.OutB.lean ====
module

public import proofs.«01_k».proof.Proof.Sixteen
public import proofs.«01_k».proof.Proof.PointB
public import proofs.«01_k».proof.Proof.TilesB0
public import proofs.«01_k».proof.Proof.TilesB1
public import proofs.«01_k».proof.Proof.TilesB2
public import proofs.«01_k».proof.Proof.TilesB3

@[expose] public section

set_option maxRecDepth 16384
set_option maxHeartbeats 8000000

noncomputable section

namespace Cert.Ret

open Cert.KernelIdeal Cert.KernelIdeal.Gen Idealize.ShloMosaic Idealize.SL.Sem

variable {F : FTy → Type} [FloatOps F] [Named F]

/-! ## The first output that a later point of the grid leaves, in terms of its blocks -/

section
variable (c : Dev nD) (i : grid0.Coords) (arg1 : Memref sig .tc .vmem S256x6144 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S4x64x64 .f32) (harg4 : arg4.IsWhole) (arg5 : Memref sig .tc .vmem S4x64x256 .f32) (harg5 : arg5.IsWhole) (arg6 : Memref sig .tc .vmem S4x64x256 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S4x4x256x512 .bf16) (harg9 : arg9.IsWhole) (arg10 : Memref sig .tc .vmem S256x2048 .f32) (harg10 : arg10.IsWhole) (arg11 : Memref sig .tc .vmem S256x6144 .bf16) (harg11 : arg11.IsWhole) (arg12 : Memref sig .tc .vmem S1x2048 .f32) (harg12 : arg12.IsWhole) (arg13 : Memref sig .tc .vmem S4x256x512 .f32) (harg13 : arg13.IsWhole) (hc0 : ¬cond0_0 i) (hc1 : ¬cond0_1 i) (hc2 : cond0_2 i)
    (x0 : Vec F S256x6144 .f32) (x1 : Vec F S256x128 .f32) (x2 : Vec F S256x128 .f32) (x3 : Vec F S4x64x64 .f32) (x4 : Vec F S4x64x256 .f32) (x5 : Vec F S4x64x256 .f32) (x6 : Vec F S1x2048 .f32) (x7 : Vec F S256x2048 .f32) (x8 : Vec F S4x4x256x512 .bf16) (x9 : Vec F S256x2048 .f32) (xo11 : Vec F S1x2048 .f32) (xs0 : Vec F S4x256x512 .f32)

/-- The tiles of chunk 3, head 0. -/
theorem partB_3_0 : List.take 4 (List.drop 60 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (whole x0 x1 x2 x3 x4 x5 x6 x7 x8 x9) 3 0 (back (whole x0 x1 x2 x3 x4 x5 x6 x7 x8 x9) (heads xs0) 3 0) := by
  refine (tilesB_3_0 ..).trans ?_
  rw [ldB_3, staged_eq]
  rfl

/-- The tiles of chunk 3, head 1. -/
theorem partB_3_1 : List.take 4 (List.drop 56 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (whole x0 x1 x2 x3 x4 x5 x6 x7 x8 x9) 3 1 (back (whole x0 x1 x2 x3 x4 x5 x6 x7 x8 x9) (heads xs0) 3 1) := by
  refine (tilesB_3_1 ..).trans ?_
  rw [ldB_3, staged_eq]
  rfl

/-- The tiles of chunk 3, head 2. -/
theorem partB_3_2 : List.take 4 (List.drop 52 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (whole x0 x1 x2 x3 x4 x5 x6 x7 x8 x9) 3 2 (back (whole x0 x1 x2 x3 x4 x5 x6 x7 x8 x9) (heads xs0) 3 2) := by
  refine (tilesB_3_2 ..).trans ?_
  rw [ldB_3, staged_eq]
  rfl

/-- The tiles of chunk 3, head 3. -/
theorem partB_3_3 : List.take 4 (List.drop 48 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (whole x0 x1 x2 x3 x4 x5 x6 x7 x8 x9) 3 3 (back (whole x0 x1 x2 x3 x4 x5 x6 x7 x8 x9) (heads xs0) 3 3) := by
  refine (tilesB_3_3 ..).trans ?_
  rw [ldB_3, staged_eq]
  rfl

/-- The tiles of chunk 2, head 0. -/
theorem partB_2_0 : List.take 4 (List.drop 44 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (whole x0 x1 x2 x3 x4 x5 x6 x7 x8 x9) 2 0 (back (whole x0 x1 x2 x3 x4 x5 x6 x7 x8 x9) (heads xs0) 2 0) := by
  refine (tilesB_2_0 ..).trans ?_
  rw [ldB_2_0 (harg4 := harg4) (harg6 := harg6) (harg9 := harg9) (x3 := x3) (x5 := x5) (x8 := x8), staged_eq]

/-- The tiles of chunk 2, head 1. -/
theorem partB_2_1 : List.take 4 (List.drop 40 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (whole x0 x1 x2 x3 x4 x5 x6 x7 x8 x9) 2 1 (back (whole x0 x1 x2 x3 x4 x5 x6 x7 x8 x9) (heads xs0) 2 1) := by
  refine (tilesB_2_1 ..).trans ?_
  rw [ldB_2_1 (harg4 := harg4) (harg6 := harg6) (harg9 := harg9) (x3 := x3) (x5 := x5) (x8 := x8), staged_eq]

/-- The tiles of chunk 2, head 2. -/
theorem partB_2_2 : List.take 4 (List.drop 36 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (whole x0 x1 x2 x3 x4 x5 x6 x7 x8 x9) 2 2 (back (whole x0 x1 x2 x3 x4 x5 x6 x7 x8 x9) (heads xs0) 2 2) := by
  refine (tilesB_2_2 ..).trans ?_
  rw [ldB_2_2 (harg4 := harg4) (harg6 := harg6) (harg9 := harg9) (x3 := x3) (x5 := x5) (x8 := x8), staged_eq]

/-- The tiles of chunk 2, head 3. -/
theorem partB_2_3 : List.take 4 (List.drop 32 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (whole x0 x1 x2 x3 x4 x5 x6 x7 x8 x9) 2 3 (back (whole x0 x1 x2 x3 x4 x5 x6 x7 x8 x9) (heads xs0) 2 3) := by
  refine (tilesB_2_3 ..).trans ?_
  rw [ldB_2_3 (harg4 := harg4) (harg6 := harg6) (harg9 := harg9) (x3 := x3) (x5 := x5) (x8 := x8), staged_eq]

/-- The tiles of chunk 1, head 0. -/
theorem partB_1_0 : List.take 4 (List.drop 28 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (whole x0 x1 x2 x3 x4 x5 x6 x7 x8 x9) 1 0 (back (whole x0 x1 x2 x3 x4 x5 x6 x7 x8 x9) (heads xs0) 1 0) := by
  refine (tilesB_1_0 ..).trans ?_
  rw [ldB_1_0 (harg4 := harg4) (harg6 := harg6) (harg9 := harg9) (x3 := x3) (x5 := x5) (x8 := x8), staged_eq]

/-- The tiles of chunk 1, head 1. -/
theorem partB_1_1 : List.take 4 (List.drop 24 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (whole x0 x1 x2 x3 x4 x5 x6 x7 x8 x9) 1 1 (back (whole x0 x1 x2 x3 x4 x5 x6 x7 x8 x9) (heads xs0) 1 1) := by
  refine (tilesB_1_1 ..).trans ?_
  rw [ldB_1_1 (harg4 := harg4) (harg6 := harg6) (harg9 := harg9) (x3 := x3) (x5 := x5) (x8 := x8), staged_eq]

/-- The tiles of chunk 1, head 2. -/
theorem partB_1_2 : List.take 4 (List.drop 20 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (whole x0 x1 x2 x3 x4 x5 x6 x7 x8 x9) 1 2 (back (whole x0 x1 x2 x3 x4 x5 x6 x7 x8 x9) (heads xs0) 1 2) := by
  refine (tilesB_1_2 ..).trans ?_
  rw [ldB_1_2 (harg4 := harg4) (harg6 := harg6) (harg9 := harg9) (x3 := x3) (x5 := x5) (x8 := x8), staged_eq]

/-- The tiles of chunk 1, head 3. -/
theorem partB_1_3 : List.take 4 (List.drop 16 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (whole x0 x1 x2 x3 x4 x5 x6 x7 x8 x9) 1 3 (back (whole x0 x1 x2 x3 x4 x5 x6 x7 x8 x9) (heads xs0) 1 3) := by
  refine (tilesB_1_3 ..).trans ?_
  rw [ldB_1_3 (harg4 := harg4) (harg6 := harg6) (harg9 := harg9) (x3 := x3) (x5 := x5) (x8 := x8), staged_eq]

/-- The tiles of chunk 0, head 0. -/
theorem partB_0_0 : List.take 4 (List.drop 12 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (whole x0 x1 x2 x3 x4 x5 x6 x7 x8 x9) 0 0 (back (whole x0 x1 x2 x3 x4 x5 x6 x7 x8 x9) (heads xs0) 0 0) := by
  refine (tilesB_0_0 ..).trans ?_
  rw [ldB_0_0 (harg4 := harg4) (harg6 := harg6) (harg9 := harg9) (x3 := x3) (x5 := x5) (x8 := x8), staged_eq]

/-- The tiles of chunk 0, head 1. -/
theorem partB_0_1 : List.take 4 (List.drop 8 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (whole x0 x1 x2 x3 x4 x5 x6 x7 x8 x9) 0 1 (back (whole x0 x1 x2 x3 x4 x5 x6 x7 x8 x9) (heads xs0) 0 1) := by
  refine (tilesB_0_1 ..).trans ?_
  rw [ldB_0_1 (harg4 := harg4) (harg6 := harg6) (harg9 := harg9) (x3 := x3) (x5 := x5) (x8 := x8), staged_eq]

/-- The tiles of chunk 0, head 2. -/
theorem partB_0_2 : List.take 4 (List.drop 4 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (whole x0 x1 x2 x3 x4 x5 x6 x7 x8 x9) 0 2 (back (whole x0 x1 x2 x3 x4 x5 x6 x7 x8 x9) (heads xs0) 0 2) := by
  refine (tilesB_0_2 ..).trans ?_
  rw [ldB_0_2 (harg4 := harg4) (harg6 := harg6) (harg9 := harg9) (x3 := x3) (x5 := x5) (x8 := x8), staged_eq]

/-- The tiles of chunk 0, head 3. -/
theorem partB_0_3 : List.take 4 (List.drop 0 (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1) =
    tiles (whole x0 x1 x2 x3 x4 x5 x6 x7 x8 x9) 0 3 (back (whole x0 x1 x2 x3 x4 x5 x6 x7 x8 x9) (heads xs0) 0 3) := by
  refine (tilesB_0_3 ..).trans ?_
  rw [ldB_0_3 (harg4 := harg4) (harg6 := harg6) (harg9 := harg9) (x3 := x3) (x5 := x5) (x8 := x8), staged_eq]

/-- The first output has sixty-four tiles. -/
theorem countB : (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1.length = 64 := rfl

/-- The first output: the tiles, each from the state's gradient carried to its chunk. -/
theorem outB : View.canon (kernelRun0_B c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0).1 =
    View.canon (allTiles (whole x0 x1 x2 x3 x4 x5 x6 x7 x8 x9) (heads xs0)) :=
  congrArg View.canon (sixteen _ (countB ..)
    (partB_0_3 ..)
    (partB_0_2 ..)
    (partB_0_1 ..)
    (partB_0_0 ..)
    (partB_1_3 ..)
    (partB_1_2 ..)
    (partB_1_1 ..)
    (partB_1_0 ..)
    (partB_2_3 ..)
    (partB_2_2 ..)
    (partB_2_1 ..)
    (partB_2_0 ..)
    (partB_3_3 ..)
    (partB_3_2 ..)
    (partB_3_1 ..)
    (partB_3_0 ..))

end

end Cert.Ret
-- ==== Proof.Left.lean ====
module

public import proofs.«01_k».proof.Proof.OutA
public import proofs.«01_k».proof.Proof.OutB
public import proofs.«01_k».proof.Proof.Gen.KernelIdeal.Frame

@[expose] public section

set_option maxRecDepth 16384
set_option maxHeartbeats 1000000

noncomputable section

namespace Cert.Ret

open Cert.KernelIdeal Cert.KernelIdeal.Gen Idealize.ShloMosaic Idealize.SL.Sem

variable {F : FTy → Type} [FloatOps F] [Named F]

/-! ## What the first point of the grid leaves in the three buffers -/

section
variable (c : Dev nD) (i : grid0.Coords) (arg1 : Memref sig .tc .vmem S256x6144 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S4x64x64 .f32) (harg4 : arg4.IsWhole) (arg5 : Memref sig .tc .vmem S4x64x256 .f32) (harg5 : arg5.IsWhole) (arg6 : Memref sig .tc .vmem S4x64x256 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S4x4x256x512 .bf16) (harg9 : arg9.IsWhole) (arg10 : Memref sig .tc .vmem S256x2048 .f32) (harg10 : arg10.IsWhole) (arg11 : Memref sig .tc .vmem S256x6144 .bf16) (harg11 : arg11.IsWhole) (arg12 : Memref sig .tc .vmem S1x2048 .f32) (harg12 : arg12.IsWhole) (arg13 : Memref sig .tc .vmem S4x256x512 .f32) (harg13 : arg13.IsWhole) (hc0 : cond0_0 i) (hc1 : cond0_1 i) (hc2 : ¬cond0_2 i)
    (x0 : Vec F S256x6144 .f32) (x1 : Vec F S256x128 .f32) (x2 : Vec F S256x128 .f32) (x3 : Vec F S4x64x64 .f32) (x4 : Vec F S4x64x256 .f32) (x5 : Vec F S4x64x256 .f32) (x6 : Vec F S1x2048 .f32) (x7 : Vec F S256x2048 .f32) (x8 : Vec F S4x4x256x512 .bf16) (x9 : Vec F S256x2048 .f32)

/-- The first output. -/
theorem leftA_10 : out0_A_10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 = View.canon (allTiles (whole x0 x1 x2 x3 x4 x5 x6 x7 x8 x9) (heads (k0_pay2 (F := F)))) := by
  delta out0_A_10
  exact (View.read_writes_junk_eq_canon VO0_10 _).trans (outA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9)

/-- The second output. -/
theorem leftA_11 : out0_A_11 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 = gsBlock (whole x0 x1 x2 x3 x4 x5 x6 x7 x8 x9) := by
  delta out0_A_11
  exact (View.read_writes_junk_eq_canon VO0_11 _).trans (scalesA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9)

/-- The scratch. -/
theorem leftA_s (h : Fin 4) : heads (sout0_A_0 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9) h = front (whole x0 x1 x2 x3 x4 x5 x6 x7 x8 x9) (heads (k0_pay2 (F := F))) h := by
  delta sout0_A_0
  exact (congrArg (fun z => heads z h) (View.read_writes_junk_eq_canon VS0_0 _)).trans (carryA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 h)

end

/-! ## What a later point of the grid leaves in the three buffers -/

section
variable (c : Dev nD) (i : grid0.Coords) (arg1 : Memref sig .tc .vmem S256x6144 .f32) (harg1 : arg1.IsWhole) (arg2 : Memref sig .tc .vmem S256x128 .f32) (harg2 : arg2.IsWhole) (arg3 : Memref sig .tc .vmem S256x128 .f32) (harg3 : arg3.IsWhole) (arg4 : Memref sig .tc .vmem S4x64x64 .f32) (harg4 : arg4.IsWhole) (arg5 : Memref sig .tc .vmem S4x64x256 .f32) (harg5 : arg5.IsWhole) (arg6 : Memref sig .tc .vmem S4x64x256 .f32) (harg6 : arg6.IsWhole) (arg7 : Memref sig .tc .vmem S1x2048 .f32) (harg7 : arg7.IsWhole) (arg8 : Memref sig .tc .vmem S256x2048 .f32) (harg8 : arg8.IsWhole) (arg9 : Memref sig .tc .vmem S4x4x256x512 .bf16) (harg9 : arg9.IsWhole) (arg10 : Memref sig .tc .vmem S256x2048 .f32) (harg10 : arg10.IsWhole) (arg11 : Memref sig .tc .vmem S256x6144 .bf16) (harg11 : arg11.IsWhole) (arg12 : Memref sig .tc .vmem S1x2048 .f32) (harg12 : arg12.IsWhole) (arg13 : Memref sig .tc .vmem S4x256x512 .f32) (harg13 : arg13.IsWhole) (hc0 : ¬cond0_0 i) (hc1 : ¬cond0_1 i) (hc2 : cond0_2 i)
    (x0 : Vec F S256x6144 .f32) (x1 : Vec F S256x128 .f32) (x2 : Vec F S256x128 .f32) (x3 : Vec F S4x64x64 .f32) (x4 : Vec F S4x64x256 .f32) (x5 : Vec F S4x64x256 .f32) (x6 : Vec F S1x2048 .f32) (x7 : Vec F S256x2048 .f32) (x8 : Vec F S4x4x256x512 .bf16) (x9 : Vec F S256x2048 .f32) (xo11 : Vec F S1x2048 .f32) (xs0 : Vec F S4x256x512 .f32)

/-- The first output. -/
theorem leftB_10 : out0_B_10 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0 = View.canon (allTiles (whole x0 x1 x2 x3 x4 x5 x6 x7 x8 x9) (heads xs0)) := by
  delta out0_B_10
  exact (View.read_writes_junk_eq_canon VO0_10 _).trans (outB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0)

/-- The second output. -/
theorem leftB_11 : out0_B_11 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0 = addf xo11 (gsBlock (whole x0 x1 x2 x3 x4 x5 x6 x7 x8 x9)) := by
  delta out0_B_11
  exact (View.read_writes_junk_eq_canon VO0_11 _).trans (scalesB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0)

/-- The scratch. -/
theorem leftB_s (h : Fin 4) : heads (sout0_B_0 c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0) h = front (whole x0 x1 x2 x3 x4 x5 x6 x7 x8 x9) (heads xs0) h := by
  delta sout0_B_0
  exact (congrArg (fun z => heads z h) (View.read_writes_junk_eq_canon VS0_0 _)).trans (carryB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 x7 x8 x9 xo11 xs0 h)

end

end Cert.Ret
-- ==== Proof.Leaves.lean ====
module

public import proofs.«01_k».proof.Proof.Staged
public import proofs.«01_k».proof.Proof.Left

@[expose] public section

set_option maxHeartbeats 1000000

noncomputable section

namespace Cert.Ret

open Cert.KernelIdeal Cert.KernelIdeal.Gen Idealize.ShloMosaic Idealize.ShloMosaic.TcCoe
  Idealize.SL.Sem

/-! ## What a point of the grid leaves, of its blocks and of what the point before it left -/

/-- The first part of what is known to be a triple. -/
theorem part_one {α β γ : Type} {p : α × β × γ} {x : α} {y : β} {z : γ} (h : p = (x, y, z)) {r : α}
    (e : x = r) : p.1 = r := by
  rw [h]
  exact e

/-- The second part of what is known to be a triple. -/
theorem part_two {α β γ : Type} {p : α × β × γ} {x : α} {y : β} {z : γ} (h : p = (x, y, z)) {r : β}
    (e : y = r) : p.2.1 = r := by
  rw [h]
  exact e

/-- The third part of what is known to be a triple, at one head. -/
theorem part_three {α β : Type} {p : α × β × Vec Ideal S4x256x512 .f32} {x : α} {y : β}
    {z : Vec Ideal S4x256x512 .f32} (h : p = (x, y, z)) (k : Fin 4) {r : Vec Ideal S1x256x512 .f32}
    (e : heads z k = r) : heads p.2.2 k = r := by
  rw [h]
  exact e

variable (m : (ℓ : Loc nD τ sig) → Buf (Elt Ideal) ℓ) (c : Dev nD) (t : Fin cfg0.N)

/-- The blocks a point reads. -/
abbrev blocksAt : Blocks Ideal := whole (iblk m c 0 t) (iblk m c 1 t) (iblk m c 2 t) (iblk m c 3 t)
  (iblk m c 4 t) (iblk m c 5 t) (iblk m c 6 t) (iblk m c 7 t) (iblk m c 8 t) (iblk m c 9 t)

/-- What the point before left. -/
abbrev before := outsAt0 m c (t.val - 1) (Nat.lt_of_le_of_lt (Nat.sub_le _ _) t.isLt)

/-- The first point leaves the tiles in the first output. -/
theorem first_tiles (ht : t.val = 0) : (outsAt0 m c t.val t.isLt).1 =
    View.canon (allTiles (blocksAt m c t) (heads (k0_pay2 (F := Ideal)))) := by
  have h0 : t.val % 16 = 0 := by omega
  have h1 : t.val % 16 = 0 := h0
  have h2 : ¬1 ≤ t.val := by omega
  exact part_one (outsAt0_A m c t h0 h1 h2)
    (leftA_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t))

/-- The first point leaves its part of the sum in the second output. -/
theorem first_scales (ht : t.val = 0) : (outsAt0 m c t.val t.isLt).2.1 =
    gsBlock (blocksAt m c t) := by
  have h0 : t.val % 16 = 0 := by omega
  have h1 : t.val % 16 = 0 := h0
  have h2 : ¬1 ≤ t.val := by omega
  exact part_two (outsAt0_A m c t h0 h1 h2)
    (leftA_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t))

/-- The first point leaves in the scratch the gradient of the states before its block. -/
theorem first_carry (ht : t.val = 0) (h : Fin 4) : heads (outsAt0 m c t.val t.isLt).2.2 h =
    front (blocksAt m c t) (heads (k0_pay2 (F := Ideal))) h := by
  have h0 : t.val % 16 = 0 := by omega
  have h1 : t.val % 16 = 0 := h0
  have h2 : ¬1 ≤ t.val := by omega
  exact part_three (outsAt0_A m c t h0 h1 h2) h
    (leftA_s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) h)

/-- A later point leaves the tiles in the first output. -/
theorem later_tiles (ht : 1 ≤ t.val) : (outsAt0 m c t.val t.isLt).1 =
    View.canon (allTiles (blocksAt m c t) (heads (before m c t).2.2)) := by
  have h0 : ¬t.val % 16 = 0 := by
    have := lt_of_lt_of_eq t.isLt (show cfg0.N = 16 from N_0)
    omega
  have h1 : ¬t.val % 16 = 0 := h0
  have h2 : 1 ≤ t.val := ht
  exact part_one (outsAt0_B m c t h0 h1 h2)
    (leftB_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2)

/-- A later point adds its part to the sum in the second output. -/
theorem later_scales (ht : 1 ≤ t.val) : (outsAt0 m c t.val t.isLt).2.1 =
    addf (before m c t).2.1 (gsBlock (blocksAt m c t)) := by
  have h0 : ¬t.val % 16 = 0 := by
    have := lt_of_lt_of_eq t.isLt (show cfg0.N = 16 from N_0)
    omega
  have h1 : ¬t.val % 16 = 0 := h0
  have h2 : 1 ≤ t.val := ht
  exact part_two (outsAt0_B m c t h0 h1 h2)
    (leftB_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2)

/-- A later point leaves in the scratch the gradient of the states before its block. -/
theorem later_carry (ht : 1 ≤ t.val) (h : Fin 4) : heads (outsAt0 m c t.val t.isLt).2.2 h =
    front (blocksAt m c t) (heads (before m c t).2.2) h := by
  have h0 : ¬t.val % 16 = 0 := by
    have := lt_of_lt_of_eq t.isLt (show cfg0.N = 16 from N_0)
    omega
  have h1 : ¬t.val % 16 = 0 := h0
  have h2 : 1 ≤ t.val := ht
  exact part_three (outsAt0_B m c t h0 h1 h2) h
    (leftB_s c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2.1 (outsAt0 m c (t.val - 1) (Nat.lt_of_le_of_lt (Nat.sub_le _ _) t.isLt)).2.2 h)

end Cert.Ret
-- ==== Proof.Sweep.lean ====
module

public import proofs.«01_k».proof.Proof.Leaves

@[expose] public section

set_option maxHeartbeats 1000000
set_option maxRecDepth 16384

noncomputable section

namespace Cert.Ret

open Cert.KernelIdeal Cert.KernelIdeal.Gen Idealize.ShloMosaic Idealize.ShloMosaic.TcCoe
  Idealize.SL.Sem Cert.KernelIdeal.Value

/-! ## The sweep over the grid, and the two results -/

variable (m : (ℓ : Loc nD τ sig) → Buf (Elt Ideal) ℓ) (c : Dev nD)

/-- A head's part of an array that is zero. -/
theorem heads_zero (h : Fin 4) (a : Fin 256) (e : Fin 512) :
    heads (F := Ideal) (k0_pay2 (F := Ideal)) h (ix3 0 a e) = 0 := by
  unfold heads
  pointwise [k0_pay2]

theorem lt16 (t : Fin cfg0.N) : t.val < 16 := lt_of_lt_of_eq t.isLt (show cfg0.N = 16 from N_0)

/-- After each point the scratch holds the gradient of the states before its block. -/
theorem scratch_at : ∀ (n : ℕ) (hn : n < cfg0.N) (h : Fin 4) (a : Fin 256) (e : Fin 512),
    heads (outsAt0 m c n hn).2.2 h (ix3 0 a e) = (kernelData m c).carried (4 * n + 4) h a e
  | 0, hn, h, a, e => by
    rw [first_carry m c ⟨0, hn⟩ rfl h]
    exact front_at (fits m c ⟨0, hn⟩) _ (fun h a e => heads_zero h a e) h a e
  | n + 1, hn, h, a, e => by
    have h16 := lt16 ⟨n + 1, hn⟩
    rw [later_carry m c ⟨n + 1, hn⟩ (Nat.le_add_left _ _) h]
    refine (front_at (fits m c ⟨n + 1, hn⟩) _ (fun h a e => ?_) h a e).trans ?_
    · refine (scratch_at n (Nat.lt_of_succ_lt hn) h a e).trans ?_
      exact congrArg (fun j => (kernelData m c).carried j h a e)
        (by show 4 * n + 4 = 60 - 4 * (15 - (n + 1)); simp only at h16; omega)
    · exact congrArg (fun j => (kernelData m c).carried j h a e)
        (by show 64 - 4 * (15 - (n + 1)) = 4 * (n + 1) + 4; simp only at h16; omega)

/-- Each point leaves its block of the first result. -/
theorem tiles_of (t : Fin cfg0.N) (y : S256x6144.Idx) : (outsAt0 m c t.val t.isLt).1 y =
    (kernelData m c).proj (argGn m c) (argO m c) (argDy m c) (chunk (blockOf t) (brow' (y 0)))
      (crow (y 0)) (y 1) := by
  have h16 := lt16 t
  by_cases ht : t.val = 0
  · rw [first_tiles m c t ht]
    refine allTiles_at (fits m c t) _ (fun h a e => ?_) y
    refine (heads_zero h a e).trans ?_
    exact congrArg (fun j => (kernelData m c).carried j h a e)
      (show 0 = 60 - 4 * (15 - t.val) by omega)
  · rw [later_tiles m c t (by omega)]
    refine allTiles_at (fits m c t) _ (fun h a e => ?_) y
    refine (scratch_at m c _ _ h a e).trans ?_
    exact congrArg (fun j => (kernelData m c).carried j h a e)
      (show 4 * (t.val - 1) + 4 = 60 - 4 * (15 - t.val) by omega)

/-- The part of the second result that a block gives. -/
def blockSum (b : Fin 16) (h : Fin 4) (e : Fin 512) : EReal :=
  ∑ k : Fin 4, ∑ t, scaleOf (argP m c) (argO m c) (argDy m c) (row (chunk b k) t) h e

/-- After each point the second output holds the sum over the blocks so far. -/
theorem sum_at : ∀ (n : ℕ) (hn : n < 16) (h : Fin 4) (e : Fin 512),
    (outsAt0 m c n (lt_of_lt_of_eq hn N_0.symm)).2.1 (ix2 0 (col h e)) =
      ∑ j : Fin (n + 1), blockSum m c ⟨15 - j.val, by omega⟩ h e
  | 0, hn, h, e => by
    rw [first_scales m c ⟨0, lt_of_lt_of_eq hn N_0.symm⟩ rfl]
    rw [Fin.sum_univ_one]
    exact gsBlock_at (fits m c ⟨0, lt_of_lt_of_eq hn N_0.symm⟩) h e
  | n + 1, hn, h, e => by
    rw [later_scales m c ⟨n + 1, lt_of_lt_of_eq hn N_0.symm⟩ (Nat.le_add_left _ _)]
    rw [Fin.sum_univ_castSucc]
    exact congrArg₂ (· + ·) (sum_at n (Nat.lt_of_succ_lt hn) h e)
      (gsBlock_at (fits m c ⟨n + 1, lt_of_lt_of_eq hn N_0.symm⟩) h e)

/-- Window 10's index map, decided over the points. -/
theorem index_10 : ∀ t : Fin cfg0.N, win0_10.index t 0 = 15 - t.val ∧ win0_10.index t 1 = 0 :=
  (by decide +kernel : ∀ t : Fin grid0.N, win0_10.index t 0 = 15 - t.val ∧ win0_10.index t 1 = 0)

/-- Window 11's index map, decided over the points. -/
theorem index_11 : ∀ t : Fin cfg0.N, win0_11.index t 0 = 0 ∧ win0_11.index t 1 = 0 :=
  (by decide +kernel : ∀ t : Fin grid0.N, win0_11.index t 0 = 0 ∧ win0_11.index t 1 = 0)

/-- The chunk that a row lies in. -/
def chunkOf (r : Fin 4096) : Fin 64 := ⟨r.val / 64, by omega⟩
/-- The row in its chunk. -/
def inChunk (r : Fin 4096) : Fin 64 := ⟨r.val % 64, by omega⟩

/-- The first result at an index: the gradient of the projections. -/
theorem first_at (r : Fin 4096) (l : Fin 6144) :
    ((dats m 0 c).arrAt 10 cfg0.N : Vec Ideal S4096x6144 .bf16) (ix2 r l) =
      (kernelData m c).proj (argGn m c) (argO m c) (argDy m c) (chunkOf r) (inChunk r) l := by
  let t : Fin cfg0.N := ⟨15 - r.val / 256, lt_of_lt_of_eq (by omega) N_0.symm⟩
  have hi := index_10 t
  have hb := congrFun (blocks10 m c t (flush0_10 t)) (ix2 (⟨r.val % 256, by omega⟩ : Fin 256) l)
  rw [flushed10, View.read_apply] at hb
  have e : (ix2 r l : S4096x6144.Idx) = ((cfg0.win 10).blk t).view.emb (ix2 (⟨r.val % 256, by omega⟩ : Fin 256) l) := by
    funext k
    apply Fin.ext
    match k with
    | ⟨0, _⟩ =>
      show r.val = win0_10.index t 0 * 256 + 1 * (r.val % 256)
      rw [hi.1]; show r.val = (15 - (15 - r.val / 256)) * 256 + 1 * (r.val % 256); omega
    | ⟨1, _⟩ =>
      show l.val = win0_10.index t 1 * 6144 + 1 * l.val
      rw [hi.2]; omega
  have hb' : ((dats m 0 c).arrAt 10 cfg0.N : Vec Ideal S4096x6144 .bf16) (((cfg0.win 10).blk t).view.emb
      (ix2 (⟨r.val % 256, by omega⟩ : Fin 256) l)) =
      (outsAt0 m c t.val t.isLt).1 (ix2 (⟨r.val % 256, by omega⟩ : Fin 256) l) := hb
  rw [e, hb', tiles_of m c t]
  have e1 : chunk (blockOf t) (brow' ⟨r.val % 256, by omega⟩) = chunkOf r := Fin.ext (by
    show 4 * (15 - (15 - r.val / 256)) + r.val % 256 / 64 = r.val / 64; omega)
  have e2 : crow ⟨r.val % 256, by omega⟩ = inChunk r := Fin.ext (by
    show r.val % 256 % 64 = r.val % 64; omega)
  rw [← e1, ← e2]
  rfl

/-- The second result at an index: the sum over the blocks. -/
theorem second_at (h : Fin 4) (e : Fin 512) :
    ((dats m 0 c).arrAt 11 cfg0.N : Vec Ideal S1x2048 .f32) (ix2 0 (col h e)) =
      ∑ j : Fin 16, blockSum m c ⟨15 - j.val, by omega⟩ h e := by
  let t : Fin cfg0.N := ⟨15, lt_of_lt_of_eq (by omega) N_0.symm⟩
  have ht : ∀ t' : Fin cfg0.N, (cfg0.win 11).flush t' = true → t' = t := fun t' hf =>
    Fin.ext (by have := (flush0_11 t').1 hf; have := lt16 t'; show t'.val = 15; omega)
  have hb := congrFun ((dats m 0 c).read_blk_arrAt_eq_flushed 11
    (fun t₁ t₂ h₁ h₂ hne => absurd ((ht t₁ h₁).trans (ht t₂ h₂).symm) hne) cfg0.N t t.isLt
    ((flush0_11 t).2 rfl)) (ix2 (0 : Fin 1) (col h e))
  have hi := index_11 t
  rw [flushed11, View.read_apply] at hb
  have e' : (ix2 0 (col h e) : S1x2048.Idx) =
      ((cfg0.win 11).blk t).view.emb (ix2 (0 : Fin 1) (col h e)) := by
    funext k
    apply Fin.ext
    match k with
    | ⟨0, _⟩ =>
      show 0 = win0_11.index t 0 * 1 + 1 * 0
      rw [hi.1]
    | ⟨1, _⟩ =>
      show (col h e).val = win0_11.index t 1 * 2048 + 1 * (col h e).val
      rw [hi.2]; omega
  rw [e']
  exact (show _ = _ from hb).trans (sum_at m c 15 (by omega) h e)

/-- A sum over the rows of the sequence, by blocks, chunks and rows. -/
theorem sum_rows (f : Fin 4096 → EReal) :
    ∑ j : Fin 16, ∑ k : Fin 4, ∑ t, f (row (chunk ⟨15 - j.val, by omega⟩ k) t) = ∑ r, f r := by
  have h1 : ∑ j : Fin 16, ∑ k : Fin 4, ∑ t, f (row (chunk ⟨15 - j.val, by omega⟩ k) t) =
      ∑ j : Fin 16, ∑ k : Fin 4, ∑ t, f (row (chunk j k) t) :=
    Fintype.sum_equiv Fin.revPerm _ _ fun j => by
      have : (⟨15 - j.val, by omega⟩ : Fin 16) = Fin.rev j := Fin.ext (by simp [Fin.rev])
      simp only [this, Fin.revPerm_apply]
  rw [h1]
  have h2 : ∀ g : Fin 64 → EReal, ∑ j : Fin 16, ∑ k : Fin 4, g (chunk j k) = ∑ n, g n := fun g => by
    rw [← Fintype.sum_prod_type' (f := fun j k => g (chunk j k))]
    refine Fintype.sum_equiv (finProdFinEquiv (m := 16) (n := 4)) _ _ fun x => ?_
    refine congrArg g (Fin.ext ?_)
    simp [chunk, finProdFinEquiv]; omega
  rw [h2 fun n => ∑ t, f (row n t)]
  rw [← Fintype.sum_prod_type' (f := fun n t => f (row n t))]
  refine Fintype.sum_equiv (finProdFinEquiv (m := 64) (n := 64)) _ _ fun x => ?_
  refine congrArg f (Fin.ext ?_)
  simp [row, finProdFinEquiv]; omega

/-- The second result at an index: the sum over the rows. -/
theorem second_sum (h : Fin 4) (e : Fin 512) :
    ((dats m 0 c).arrAt 11 cfg0.N : Vec Ideal S1x2048 .f32) (ix2 0 (col h e)) =
      ∑ r, scaleOf (argP m c) (argO m c) (argDy m c) r h e :=
  (second_at m c h e).trans (sum_rows fun r => scaleOf (argP m c) (argO m c) (argDy m c) r h e)

end Cert.Ret
-- ==== Proof.Ends.lean ====
module

public import proofs.«01_k».proof.Proof.Same
public import proofs.«01_k».proof.Proof.Sweep
public import proofs.«01_k».proof.Proof.Gen.Kernel.Frame
public import Idealize.ShloMosaic.Lib.Quiescent

@[expose] public section

set_option maxHeartbeats 1000000
set_option maxRecDepth 16384

noncomputable section

namespace Cert.Ret

open Idealize.ShloMosaic Idealize.SL.Sem

/-! ## The claims -/

/-- An index of the projections is a row and a column. -/
theorem idx_first (i : Cert.KernelIdeal.S4096x6144.Idx) : i = ix2 (i 0) (i 1) := by
  funext k
  match k with
  | ⟨0, _⟩ => rfl
  | ⟨1, _⟩ => rfl

/-- An index of the scales is a head and a place in it. -/
theorem idx_second (i : Cert.KernelIdeal.S1x2048.Idx) :
    ∃ (h : Fin 4) (e : Fin 512), i = ix2 0 (col h e) := by
  have hb : (i 1).val < 2048 := (i 1).isLt
  refine ⟨⟨(i 1).val / 512, by omega⟩, ⟨(i 1).val % 512, by omega⟩, ?_⟩
  funext k
  match k with
  | ⟨0, _⟩ =>
    have h0 : (i 0).val < 1 := (i 0).isLt
    exact Fin.ext (by show (i 0).val = 0; omega)
  | ⟨1, _⟩ => exact Fin.ext (by show (i 1).val = 512 * ((i 1).val / 512) + (i 1).val % 512; omega)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

open Cert.ReferenceIdeal.Value Idealize.ShloMosaic.StableHlo in
/-- The gradients of the projections are equal. -/
theorem first_same (w : Agreed m m' c) (hf : Ref.Tame m' c) :
    (out_main_v267 (STEP^[64] (entryContents preI m' c)) : Vec Ideal Cert.ReferenceIdeal.S4096x6144 .bf16) =
      ((Cert.KernelIdeal.Gen.dats m 0 c).arrAt 10 Cert.KernelIdeal.cfg0.N :
        Vec Ideal Cert.KernelIdeal.S4096x6144 .bf16) := by
  funext i
  rw [idx_first i]
  refine (Ref.first_ref m' c hf (i 0) (i 1)).trans ?_
  rw [data_same w hf, gn_same w, o_same w, dy_same w]
  exact (first_at m c (i 0) (i 1)).symm

open Cert.ReferenceIdeal.Value Idealize.ShloMosaic.StableHlo in
/-- The gradients of the scales are equal. -/
theorem second_same (w : Agreed m m' c) :
    (out_main_v222 (STEP^[64] (entryContents preI m' c)) : Vec Ideal Cert.ReferenceIdeal.S1x2048 .f32) =
      ((Cert.KernelIdeal.Gen.dats m 0 c).arrAt 11 Cert.KernelIdeal.cfg0.N :
        Vec Ideal Cert.KernelIdeal.S1x2048 .f32) := by
  funext i
  obtain ⟨h, e, rfl⟩ := idx_second i
  refine (Ref.second_ref m' c h e).trans ?_
  rw [p_same w, o_same w, dy_same w]
  exact (second_sum m c h e).symm

/-- The kernel and the reference end with equal results. -/
theorem equal_ends : Cert.algebraic_KernelIdeal_ReferenceIdeal_pre_finite
    (hKernelIdeal := Cert.KernelIdeal.Gen.facts) (hReferenceIdeal := Cert.ReferenceIdeal.Gen.facts)
    (hPre_finite := finiteFacts) := by
  intro m g m' g' hp hagree
  have w : ∀ c, Agreed m m' c := fun c =>
    ⟨(hagree c).1, (hagree c).2.1, (hagree c).2.2.1, (hagree c).2.2.2.1, (hagree c).2.2.2.2⟩
  refine ⟨_, _, Cert.KernelIdeal.Value.run_blocks m g, ?_⟩
  refine (θ_run Cert.ReferenceIdeal.defs _ _).mono (fun r h c => ?_)
    (Cert.ReferenceIdeal.Value.run (F := Ideal) m' g')
  exact ⟨(h c).1.trans (first_same m m' c (w c) (tame_of (w c) hp)),
    (h c).2.1.trans (second_same m m' c (w c)), (h c).2.2⟩

/-- The reference ends with its arguments unchanged. -/
theorem reference_ends : Cert.quiescent_ReferenceIdeal
    (hReferenceIdeal := Cert.ReferenceIdeal.Gen.facts) := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The constants that the kernel rounds are their values at the extended reals. -/
theorem constants : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

end Cert.Ret

end
-- ==== Proof.lean ====
module

public import proofs.«01_k».proof.Proof.Gen.KernelDown.Frame
public import proofs.«01_k».proof.Proof.Gen.KernelDownIdeal.Value
public import proofs.«01_k».proof.Proof.Gen.KernelDownIdeal.Frame
public import proofs.«01_k».proof.Proof.Gen.ReferenceDownIdeal.Run
public import proofs.«01_k».proof.Proof.DownEnds
public import proofs.«01_k».proof.Proof.Gen.KernelGu.Frame
public import proofs.«01_k».proof.Proof.Gen.KernelGuIdeal.Value
public import proofs.«01_k».proof.Proof.Gen.KernelGuIdeal.Frame
public import proofs.«01_k».proof.Proof.Gen.ReferenceGuIdeal.Run
public import proofs.«01_k».proof.Proof.GuEnds
public import proofs.«01_k».proof.Proof.Gen.KernelIn.Frame
public import proofs.«01_k».proof.Proof.Gen.KernelInIdeal.Value
public import proofs.«01_k».proof.Proof.Gen.KernelInIdeal.Frame
public import proofs.«01_k».proof.Proof.Gen.ReferenceInIdeal.Run
public import proofs.«01_k».proof.Proof.InEnds
public import proofs.«01_k».proof.Proof.Gen.KernelDh.Frame
public import proofs.«01_k».proof.Proof.Gen.KernelDhIdeal.Value
public import proofs.«01_k».proof.Proof.Gen.KernelDhIdeal.Frame
public import proofs.«01_k».proof.Proof.Gen.ReferenceDhIdeal.Run
public import proofs.«01_k».proof.Proof.DhEnds
public import proofs.«01_k».proof.Proof.Gen.KernelDx.Frame
public import proofs.«01_k».proof.Proof.Gen.KernelDxIdeal.Value
public import proofs.«01_k».proof.Proof.Gen.KernelDxIdeal.Frame
public import proofs.«01_k».proof.Proof.Gen.ReferenceDxIdeal.Run
public import proofs.«01_k».proof.Proof.DxEnds
public import proofs.«01_k».proof.Proof.Gen.KernelDout.Frame
public import proofs.«01_k».proof.Proof.Gen.KernelDoutIdeal.Value
public import proofs.«01_k».proof.Proof.Gen.KernelDoutIdeal.Frame
public import proofs.«01_k».proof.Proof.Gen.ReferenceDoutIdeal.Run
public import proofs.«01_k».proof.Proof.DoutEnds
public import proofs.«01_k».proof.Proof.Gen.KernelDatt.Frame
public import proofs.«01_k».proof.Proof.Gen.KernelDattIdeal.Value
public import proofs.«01_k».proof.Proof.Gen.KernelDattIdeal.Frame
public import proofs.«01_k».proof.Proof.Gen.ReferenceDattIdeal.Run
public import proofs.«01_k».proof.Proof.DattEnds
public import proofs.«01_k».proof.Proof.Gen.KernelOut.Frame
public import proofs.«01_k».proof.Proof.Gen.KernelOutIdeal.Value
public import proofs.«01_k».proof.Proof.Gen.KernelOutIdeal.Frame
public import proofs.«01_k».proof.Proof.Gen.ReferenceOutIdeal.Run
public import proofs.«01_k».proof.Proof.OutEnds
public import proofs.«01_k».proof.Proof.Gen.KernelAtt.Frame
public import proofs.«01_k».proof.Proof.Gen.KernelAttIdeal.Value
public import proofs.«01_k».proof.Proof.Gen.KernelAttIdeal.Frame
public import proofs.«01_k».proof.Proof.Gen.ReferenceAttIdeal.Run
public import proofs.«01_k».proof.Proof.AttEnds
public import proofs.«01_k».proof.Proof.Gen.KernelMix.Frame
public import proofs.«01_k».proof.Proof.Gen.KernelMixIdeal.Value
public import proofs.«01_k».proof.Proof.Gen.KernelMixIdeal.Frame
public import proofs.«01_k».proof.Proof.Gen.ReferenceMixIdeal.Run
public import proofs.«01_k».proof.Proof.MixEnds
public import proofs.«01_k».proof.Proof.Gen.KernelSeen.Frame
public import proofs.«01_k».proof.Proof.Gen.KernelSeenIdeal.Value
public import proofs.«01_k».proof.Proof.Gen.KernelSeenIdeal.Frame
public import proofs.«01_k».proof.Proof.Gen.ReferenceSeenIdeal.Run
public import proofs.«01_k».proof.Proof.SeenEnds
public import proofs.«01_k».proof.Proof.Gen.KernelFed.Frame
public import proofs.«01_k».proof.Proof.Gen.KernelFedIdeal.Value
public import proofs.«01_k».proof.Proof.Gen.KernelFedIdeal.Frame
public import proofs.«01_k».proof.Proof.Gen.ReferenceFedIdeal.Run
public import proofs.«01_k».proof.Proof.FedEnds
public import proofs.«01_k».proof.Proof.Gen.KernelKv.Frame
public import proofs.«01_k».proof.Proof.Gen.KernelKvIdeal.Value
public import proofs.«01_k».proof.Proof.Gen.KernelKvIdeal.Frame
public import proofs.«01_k».proof.Proof.Gen.ReferenceKvIdeal.Run
public import proofs.«01_k».proof.Proof.KvEnds
public import proofs.«01_k».proof.Proof.Gen.KernelQ.Frame
public import proofs.«01_k».proof.Proof.Gen.KernelQIdeal.Value
public import proofs.«01_k».proof.Proof.Gen.KernelQIdeal.Frame
public import proofs.«01_k».proof.Proof.Gen.ReferenceQIdeal.Run
public import proofs.«01_k».proof.Proof.QEnds
public import proofs.«01_k».proof.Proof.Gen.KernelGate.Frame
public import proofs.«01_k».proof.Proof.Gen.KernelGateIdeal.Value
public import proofs.«01_k».proof.Proof.Gen.KernelGateIdeal.Frame
public import proofs.«01_k».proof.Proof.Gen.ReferenceGateIdeal.Run
public import proofs.«01_k».proof.Proof.GateEnds
public import proofs.«01_k».proof.Proof.Gen.KernelLoss.Frame
public import proofs.«01_k».proof.Proof.Gen.KernelLossIdeal.Value
public import proofs.«01_k».proof.Proof.Gen.KernelLossIdeal.Frame
public import proofs.«01_k».proof.Proof.Gen.ReferenceLossIdeal.Run
public import proofs.«01_k».proof.Proof.LossEnds
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Ends
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts,
    Cert.KernelIdeal.Gen.facts,
    Cert.ReferenceIdeal.Gen.facts,
    Cert.KernelDown.Gen.facts,
    Cert.KernelDownIdeal.Gen.facts,
    Cert.ReferenceDownIdeal.Gen.facts,
    Cert.KernelGu.Gen.facts,
    Cert.KernelGuIdeal.Gen.facts,
    Cert.ReferenceGuIdeal.Gen.facts,
    Cert.KernelIn.Gen.facts,
    Cert.KernelInIdeal.Gen.facts,
    Cert.ReferenceInIdeal.Gen.facts,
    Cert.KernelDh.Gen.facts,
    Cert.KernelDhIdeal.Gen.facts,
    Cert.ReferenceDhIdeal.Gen.facts,
    Cert.KernelDx.Gen.facts,
    Cert.KernelDxIdeal.Gen.facts,
    Cert.ReferenceDxIdeal.Gen.facts,
    Cert.KernelDout.Gen.facts,
    Cert.KernelDoutIdeal.Gen.facts,
    Cert.ReferenceDoutIdeal.Gen.facts,
    Cert.KernelDatt.Gen.facts,
    Cert.KernelDattIdeal.Gen.facts,
    Cert.ReferenceDattIdeal.Gen.facts,
    Cert.KernelOut.Gen.facts,
    Cert.KernelOutIdeal.Gen.facts,
    Cert.ReferenceOutIdeal.Gen.facts,
    Cert.KernelAtt.Gen.facts,
    Cert.KernelAttIdeal.Gen.facts,
    Cert.ReferenceAttIdeal.Gen.facts,
    Cert.KernelMix.Gen.facts,
    Cert.KernelMixIdeal.Gen.facts,
    Cert.ReferenceMixIdeal.Gen.facts,
    Cert.KernelSeen.Gen.facts,
    Cert.KernelSeenIdeal.Gen.facts,
    Cert.ReferenceSeenIdeal.Gen.facts,
    Cert.KernelFed.Gen.facts,
    Cert.KernelFedIdeal.Gen.facts,
    Cert.ReferenceFedIdeal.Gen.facts,
    Cert.KernelKv.Gen.facts,
    Cert.KernelKvIdeal.Gen.facts,
    Cert.ReferenceKvIdeal.Gen.facts,
    Cert.KernelQ.Gen.facts,
    Cert.KernelQIdeal.Gen.facts,
    Cert.ReferenceQIdeal.Gen.facts,
    Cert.KernelGate.Gen.facts,
    Cert.KernelGateIdeal.Gen.facts,
    Cert.ReferenceGateIdeal.Gen.facts,
    Cert.KernelLoss.Gen.facts,
    Cert.KernelLossIdeal.Gen.facts,
    Cert.ReferenceLossIdeal.Gen.facts,
    Cert.Ret.finiteFacts,
    fun m ρ _ => Cert.Kernel.Gen.frame m ρ,
    fun m ρ _ => Cert.KernelIdeal.Gen.frame m ρ,
    fun m ρ _ => Cert.KernelIdeal.Gen.frame m ρ,
    Cert.Ret.reference_ends,
    fun m ρ _ => Cert.Ret.reference_ends m ρ trivial,
    fun m ρ _ => Cert.KernelDown.Gen.frame m ρ,
    fun m ρ _ => Cert.KernelDownIdeal.Gen.frame m ρ,
    Cert.Down.reference_ends,
    fun m ρ _ => Cert.KernelGu.Gen.frame m ρ,
    fun m ρ _ => Cert.KernelGuIdeal.Gen.frame m ρ,
    Cert.Gu.reference_ends,
    fun m ρ _ => Cert.KernelIn.Gen.frame m ρ,
    fun m ρ _ => Cert.KernelInIdeal.Gen.frame m ρ,
    Cert.In.reference_ends,
    fun m ρ _ => Cert.KernelDh.Gen.frame m ρ,
    fun m ρ _ => Cert.KernelDhIdeal.Gen.frame m ρ,
    Cert.Dh.reference_ends,
    fun m ρ _ => Cert.KernelDx.Gen.frame m ρ,
    fun m ρ _ => Cert.KernelDxIdeal.Gen.frame m ρ,
    Cert.Dx.reference_ends,
    fun m ρ _ => Cert.KernelDout.Gen.frame m ρ,
    fun m ρ _ => Cert.KernelDoutIdeal.Gen.frame m ρ,
    Cert.Dout.reference_ends,
    fun m ρ _ => Cert.KernelDatt.Gen.frame m ρ,
    fun m ρ _ => Cert.KernelDattIdeal.Gen.frame m ρ,
    Cert.Datt.reference_ends,
    fun m ρ _ => Cert.KernelOut.Gen.frame m ρ,
    fun m ρ _ => Cert.KernelOutIdeal.Gen.frame m ρ,
    Cert.Out.reference_ends,
    fun m ρ _ => Cert.KernelAtt.Gen.frame m ρ,
    fun m ρ _ => Cert.KernelAttIdeal.Gen.frame m ρ,
    Cert.Att.reference_ends,
    fun m ρ _ => Cert.KernelMix.Gen.frame m ρ,
    fun m ρ _ => Cert.KernelMixIdeal.Gen.frame m ρ,
    Cert.Mix.reference_ends,
    fun m ρ _ => Cert.KernelSeen.Gen.frame m ρ,
    fun m ρ _ => Cert.KernelSeenIdeal.Gen.frame m ρ,
    Cert.Seen.reference_ends,
    fun m ρ _ => Cert.KernelFed.Gen.frame m ρ,
    fun m ρ _ => Cert.KernelFedIdeal.Gen.frame m ρ,
    Cert.Fed.reference_ends,
    fun m ρ _ => Cert.KernelKv.Gen.frame m ρ,
    fun m ρ _ => Cert.KernelKvIdeal.Gen.frame m ρ,
    Cert.Kv.reference_ends,
    fun m ρ _ => Cert.KernelQ.Gen.frame m ρ,
    fun m ρ _ => Cert.KernelQIdeal.Gen.frame m ρ,
    Cert.Q.reference_ends,
    fun m ρ _ => Cert.KernelGate.Gen.frame m ρ,
    fun m ρ _ => Cert.KernelGateIdeal.Gen.frame m ρ,
    Cert.Gate.reference_ends,
    fun m ρ _ => Cert.KernelLoss.Gen.frame m ρ,
    fun m ρ _ => Cert.KernelLossIdeal.Gen.frame m ρ,
    Cert.Loss.reference_ends,
    Cert.Ret.constants,
    Cert.Ret.equal_ends,
    trivial,
    Cert.Down.equal_ends,
    trivial,
    Cert.Gu.equal_ends,
    trivial,
    Cert.In.equal_ends,
    trivial,
    Cert.Dh.equal_ends,
    trivial,
    Cert.Dx.equal_ends,
    trivial,
    Cert.Dout.equal_ends,
    trivial,
    Cert.Datt.equal_ends,
    trivial,
    Cert.Out.equal_ends,
    trivial,
    Cert.Att.equal_ends,
    trivial,
    Cert.Mix.equal_ends,
    trivial,
    Cert.Seen.equal_ends,
    trivial,
    Cert.Fed.equal_ends,
    trivial,
    Cert.Kv.equal_ends,
    trivial,
    Cert.Q.equal_ends,
    trivial,
    Cert.Gate.equal_ends,
    trivial,
    Cert.Loss.equal_ends⟩

end Cert.Proof

end
